-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_WeightsRef (m : (ℓ : Loc Cert.WeightsRef.nD Cert.WeightsRef.τ Cert.WeightsRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_SmallGrads (m : (ℓ : Loc Cert.SmallGrads.nD Cert.SmallGrads.τ Cert.SmallGrads.sig) → Buf (Elt Bits) ℓ) : Prop :=
  True

def Pre_SmallGradsIdeal (m : (ℓ : Loc Cert.SmallGradsIdeal.nD Cert.SmallGradsIdeal.τ Cert.SmallGradsIdeal.sig) → Buf (Elt Ideal) ℓ) : Prop :=
  True

def Pre_SmallGradsRefIdeal (m : (ℓ : Loc Cert.SmallGradsRefIdeal.nD Cert.SmallGradsRefIdeal.τ Cert.SmallGradsRefIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateBranch (m : (ℓ : Loc Cert.UpdateBranch.nD Cert.UpdateBranch.τ Cert.UpdateBranch.sig) → Buf (Elt Bits) ℓ) : Prop :=
  True

def Pre_UpdateBranchIdeal (m : (ℓ : Loc Cert.UpdateBranchIdeal.nD Cert.UpdateBranchIdeal.τ Cert.UpdateBranchIdeal.sig) → Buf (Elt Ideal) ℓ) : Prop :=
  True

def Pre_UpdateBranchRefIdeal (m : (ℓ : Loc Cert.UpdateBranchRefIdeal.nD Cert.UpdateBranchRefIdeal.τ Cert.UpdateBranchRefIdeal.sig) → Buf (Elt Ideal) ℓ) : Prop :=
  True

def Pre_UpdateMergeGate (m : (ℓ : Loc Cert.UpdateMergeGate.nD Cert.UpdateMergeGate.τ Cert.UpdateMergeGate.sig) → Buf (Elt Bits) ℓ) : Prop :=
  True

def Pre_UpdateMergeGateIdeal (m : (ℓ : Loc Cert.UpdateMergeGateIdeal.nD Cert.UpdateMergeGateIdeal.τ Cert.UpdateMergeGateIdeal.sig) → Buf (Elt Ideal) ℓ) : Prop :=
  True

def Pre_UpdateMergeGateRefIdeal (m : (ℓ : Loc Cert.UpdateMergeGateRefIdeal.nD Cert.UpdateMergeGateRefIdeal.τ Cert.UpdateMergeGateRefIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutRefIdeal (m : (ℓ : Loc Cert.UpdateOutRefIdeal.nD Cert.UpdateOutRefIdeal.τ Cert.UpdateOutRefIdeal.sig) → Buf (Elt Ideal) ℓ) : Prop :=
  True

def Pre_UpdateFfnIn (m : (ℓ : Loc Cert.UpdateFfnIn.nD Cert.UpdateFfnIn.τ Cert.UpdateFfnIn.sig) → Buf (Elt Bits) ℓ) : Prop :=
  True

def Pre_UpdateFfnInIdeal (m : (ℓ : Loc Cert.UpdateFfnInIdeal.nD Cert.UpdateFfnInIdeal.τ Cert.UpdateFfnInIdeal.sig) → Buf (Elt Ideal) ℓ) : Prop :=
  True

def Pre_UpdateFfnInRefIdeal (m : (ℓ : Loc Cert.UpdateFfnInRefIdeal.nD Cert.UpdateFfnInRefIdeal.τ Cert.UpdateFfnInRefIdeal.sig) → Buf (Elt Ideal) ℓ) : Prop :=
  True

def Pre_UpdateFfnOut (m : (ℓ : Loc Cert.UpdateFfnOut.nD Cert.UpdateFfnOut.τ Cert.UpdateFfnOut.sig) → Buf (Elt Bits) ℓ) : Prop :=
  True

def Pre_UpdateFfnOutIdeal (m : (ℓ : Loc Cert.UpdateFfnOutIdeal.nD Cert.UpdateFfnOutIdeal.τ Cert.UpdateFfnOutIdeal.sig) → Buf (Elt Ideal) ℓ) : Prop :=
  True

def Pre_UpdateFfnOutRefIdeal (m : (ℓ : Loc Cert.UpdateFfnOutRefIdeal.nD Cert.UpdateFfnOutRefIdeal.τ Cert.UpdateFfnOutRefIdeal.sig) → Buf (Elt Ideal) ℓ) : Prop :=
  True

def Pre_UpdateProj (m : (ℓ : Loc Cert.UpdateProj.nD Cert.UpdateProj.τ Cert.UpdateProj.sig) → Buf (Elt Bits) ℓ) : Prop :=
  True

def Pre_UpdateProjIdeal (m : (ℓ : Loc Cert.UpdateProjIdeal.nD Cert.UpdateProjIdeal.τ Cert.UpdateProjIdeal.sig) → Buf (Elt Ideal) ℓ) : Prop :=
  True

def Pre_UpdateProjRefIdeal (m : (ℓ : Loc Cert.UpdateProjRefIdeal.nD Cert.UpdateProjRefIdeal.τ Cert.UpdateProjRefIdeal.sig) → Buf (Elt Ideal) ℓ) : Prop :=
  True

def Pre_UpdateSpatial (m : (ℓ : Loc Cert.UpdateSpatial.nD Cert.UpdateSpatial.τ Cert.UpdateSpatial.sig) → Buf (Elt Bits) ℓ) : Prop :=
  True

def Pre_UpdateSpatialIdeal (m : (ℓ : Loc Cert.UpdateSpatialIdeal.nD Cert.UpdateSpatialIdeal.τ Cert.UpdateSpatialIdeal.sig) → Buf (Elt Ideal) ℓ) : Prop :=
  True

def Pre_UpdateSpatialRefIdeal (m : (ℓ : Loc Cert.UpdateSpatialRefIdeal.nD Cert.UpdateSpatialRefIdeal.τ Cert.UpdateSpatialRefIdeal.sig) → Buf (Elt Ideal) ℓ) : Prop :=
  True

def Pre_UpdateSpatialBias (m : (ℓ : Loc Cert.UpdateSpatialBias.nD Cert.UpdateSpatialBias.τ Cert.UpdateSpatialBias.sig) → Buf (Elt Bits) ℓ) : Prop :=
  True

def Pre_UpdateSpatialBiasIdeal (m : (ℓ : Loc Cert.UpdateSpatialBiasIdeal.nD Cert.UpdateSpatialBiasIdeal.τ Cert.UpdateSpatialBiasIdeal.sig) → Buf (Elt Ideal) ℓ) : Prop :=
  True

def Pre_UpdateSpatialBiasRefIdeal (m : (ℓ : Loc Cert.UpdateSpatialBiasRefIdeal.nD Cert.UpdateSpatialBiasRefIdeal.τ Cert.UpdateSpatialBiasRefIdeal.sig) → Buf (Elt Ideal) ℓ) : Prop :=
  True

def Pre_UpdateConvA (m : (ℓ : Loc Cert.UpdateConvA.nD Cert.UpdateConvA.τ Cert.UpdateConvA.sig) → Buf (Elt Bits) ℓ) : Prop :=
  True

def Pre_UpdateConvAIdeal (m : (ℓ : Loc Cert.UpdateConvAIdeal.nD Cert.UpdateConvAIdeal.τ Cert.UpdateConvAIdeal.sig) → Buf (Elt Ideal) ℓ) : Prop :=
  True

def Pre_UpdateConvARefIdeal (m : (ℓ : Loc Cert.UpdateConvARefIdeal.nD Cert.UpdateConvARefIdeal.τ Cert.UpdateConvARefIdeal.sig) → Buf (Elt Ideal) ℓ) : Prop :=
  True

def Pre_UpdateConvD (m : (ℓ : Loc Cert.UpdateConvD.nD Cert.UpdateConvD.τ Cert.UpdateConvD.sig) → Buf (Elt Bits) ℓ) : Prop :=
  True

def Pre_UpdateConvDIdeal (m : (ℓ : Loc Cert.UpdateConvDIdeal.nD Cert.UpdateConvDIdeal.τ Cert.UpdateConvDIdeal.sig) → Buf (Elt Ideal) ℓ) : Prop :=
  True

def Pre_UpdateConvDRefIdeal (m : (ℓ : Loc Cert.UpdateConvDRefIdeal.nD Cert.UpdateConvDRefIdeal.τ Cert.UpdateConvDRefIdeal.sig) → Buf (Elt Ideal) ℓ) : Prop :=
  True

def Pre_UpdateNorm (m : (ℓ : Loc Cert.UpdateNorm.nD Cert.UpdateNorm.τ Cert.UpdateNorm.sig) → Buf (Elt Bits) ℓ) : Prop :=
  True

def Pre_UpdateNormIdeal (m : (ℓ : Loc Cert.UpdateNormIdeal.nD Cert.UpdateNormIdeal.τ Cert.UpdateNormIdeal.sig) → Buf (Elt Ideal) ℓ) : Prop :=
  True

def Pre_UpdateNormRefIdeal (m : (ℓ : Loc Cert.UpdateNormRefIdeal.nD Cert.UpdateNormRefIdeal.τ Cert.UpdateNormRefIdeal.sig) → Buf (Elt Ideal) ℓ) : Prop :=
  True

def Pre_UpdateBranchNorm (m : (ℓ : Loc Cert.UpdateBranchNorm.nD Cert.UpdateBranchNorm.τ Cert.UpdateBranchNorm.sig) → Buf (Elt Bits) ℓ) : Prop :=
  True

def Pre_UpdateBranchNormIdeal (m : (ℓ : Loc Cert.UpdateBranchNormIdeal.nD Cert.UpdateBranchNormIdeal.τ Cert.UpdateBranchNormIdeal.sig) → Buf (Elt Ideal) ℓ) : Prop :=
  True

def Pre_UpdateBranchNormRefIdeal (m : (ℓ : Loc Cert.UpdateBranchNormRefIdeal.nD Cert.UpdateBranchNormRefIdeal.τ Cert.UpdateBranchNormRefIdeal.sig) → Buf (Elt Ideal) ℓ) : Prop :=
  True

def Pre_UpdateFinalNorm (m : (ℓ : Loc Cert.UpdateFinalNorm.nD Cert.UpdateFinalNorm.τ Cert.UpdateFinalNorm.sig) → Buf (Elt Bits) ℓ) : Prop :=
  True

def Pre_UpdateFinalNormIdeal (m : (ℓ : Loc Cert.UpdateFinalNormIdeal.nD Cert.UpdateFinalNormIdeal.τ Cert.UpdateFinalNormIdeal.sig) → Buf (Elt Ideal) ℓ) : Prop :=
  True

def Pre_UpdateFinalNormRefIdeal (m : (ℓ : Loc Cert.UpdateFinalNormRefIdeal.nD Cert.UpdateFinalNormRefIdeal.τ Cert.UpdateFinalNormRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_MixBackward (m : (ℓ : Loc Cert.MixBackward.nD Cert.MixBackward.τ Cert.MixBackward.sig) → Buf (Elt Bits) ℓ) : Prop :=
  True

def Pre_MixBackwardIdeal (m : (ℓ : Loc Cert.MixBackwardIdeal.nD Cert.MixBackwardIdeal.τ Cert.MixBackwardIdeal.sig) → Buf (Elt Ideal) ℓ) : Prop :=
  True

def Pre_MixBackwardRefIdeal (m : (ℓ : Loc Cert.MixBackwardRefIdeal.nD Cert.MixBackwardRefIdeal.τ Cert.MixBackwardRefIdeal.sig) → Buf (Elt Ideal) ℓ) : Prop :=
  True

def Pre_PleNormBackward (m : (ℓ : Loc Cert.PleNormBackward.nD Cert.PleNormBackward.τ Cert.PleNormBackward.sig) → Buf (Elt Bits) ℓ) : Prop :=
  True

def Pre_PleNormBackwardIdeal (m : (ℓ : Loc Cert.PleNormBackwardIdeal.nD Cert.PleNormBackwardIdeal.τ Cert.PleNormBackwardIdeal.sig) → Buf (Elt Ideal) ℓ) : Prop :=
  True

def Pre_PleNormBackwardRefIdeal (m : (ℓ : Loc Cert.PleNormBackwardRefIdeal.nD Cert.PleNormBackwardRefIdeal.τ Cert.PleNormBackwardRefIdeal.sig) → Buf (Elt Ideal) ℓ) : Prop :=
  True

def Pre_FfnNormBackward (m : (ℓ : Loc Cert.FfnNormBackward.nD Cert.FfnNormBackward.τ Cert.FfnNormBackward.sig) → Buf (Elt Bits) ℓ) : Prop :=
  True

def Pre_FfnNormBackwardIdeal (m : (ℓ : Loc Cert.FfnNormBackwardIdeal.nD Cert.FfnNormBackwardIdeal.τ Cert.FfnNormBackwardIdeal.sig) → Buf (Elt Ideal) ℓ) : Prop :=
  True

def Pre_FfnNormBackwardRefIdeal (m : (ℓ : Loc Cert.FfnNormBackwardRefIdeal.nD Cert.FfnNormBackwardRefIdeal.τ Cert.FfnNormBackwardRefIdeal.sig) → Buf (Elt Ideal) ℓ) : Prop :=
  True

def Pre_GradPleProj (m : (ℓ : Loc Cert.GradPleProj.nD Cert.GradPleProj.τ Cert.GradPleProj.sig) → Buf (Elt Bits) ℓ) : Prop :=
  True

def Pre_GradPleProjIdeal (m : (ℓ : Loc Cert.GradPleProjIdeal.nD Cert.GradPleProjIdeal.τ Cert.GradPleProjIdeal.sig) → Buf (Elt Ideal) ℓ) : Prop :=
  True

def Pre_GradPleProjRefIdeal (m : (ℓ : Loc Cert.GradPleProjRefIdeal.nD Cert.GradPleProjRefIdeal.τ Cert.GradPleProjRefIdeal.sig) → Buf (Elt Ideal) ℓ) : Prop :=
  True

def Pre_GradPleGate (m : (ℓ : Loc Cert.GradPleGate.nD Cert.GradPleGate.τ Cert.GradPleGate.sig) → Buf (Elt Bits) ℓ) : Prop :=
  True

def Pre_GradPleGateIdeal (m : (ℓ : Loc Cert.GradPleGateIdeal.nD Cert.GradPleGateIdeal.τ Cert.GradPleGateIdeal.sig) → Buf (Elt Ideal) ℓ) : Prop :=
  True

def Pre_GradPleGateRefIdeal (m : (ℓ : Loc Cert.GradPleGateRefIdeal.nD Cert.GradPleGateRefIdeal.τ Cert.GradPleGateRefIdeal.sig) → Buf (Elt Ideal) ℓ) : Prop :=
  True

def Pre_GradFfnOut (m : (ℓ : Loc Cert.GradFfnOut.nD Cert.GradFfnOut.τ Cert.GradFfnOut.sig) → Buf (Elt Bits) ℓ) : Prop :=
  True

def Pre_GradFfnOutIdeal (m : (ℓ : Loc Cert.GradFfnOutIdeal.nD Cert.GradFfnOutIdeal.τ Cert.GradFfnOutIdeal.sig) → Buf (Elt Ideal) ℓ) : Prop :=
  True

def Pre_GradFfnOutRefIdeal (m : (ℓ : Loc Cert.GradFfnOutRefIdeal.nD Cert.GradFfnOutRefIdeal.τ Cert.GradFfnOutRefIdeal.sig) → Buf (Elt Ideal) ℓ) : Prop :=
  True

def Pre_GradFfnIn (m : (ℓ : Loc Cert.GradFfnIn.nD Cert.GradFfnIn.τ Cert.GradFfnIn.sig) → Buf (Elt Bits) ℓ) : Prop :=
  True

def Pre_GradFfnInIdeal (m : (ℓ : Loc Cert.GradFfnInIdeal.nD Cert.GradFfnInIdeal.τ Cert.GradFfnInIdeal.sig) → Buf (Elt Ideal) ℓ) : Prop :=
  True

def Pre_GradFfnInRefIdeal (m : (ℓ : Loc Cert.GradFfnInRefIdeal.nD Cert.GradFfnInRefIdeal.τ Cert.GradFfnInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradGates (m : (ℓ : Loc Cert.GradGates.nD Cert.GradGates.τ Cert.GradGates.sig) → Buf (Elt Bits) ℓ) : Prop :=
  True

def Pre_GradGatesIdeal (m : (ℓ : Loc Cert.GradGatesIdeal.nD Cert.GradGatesIdeal.τ Cert.GradGatesIdeal.sig) → Buf (Elt Ideal) ℓ) : Prop :=
  True

def Pre_GradGatesRefIdeal (m : (ℓ : Loc Cert.GradGatesRefIdeal.nD Cert.GradGatesRefIdeal.τ Cert.GradGatesRefIdeal.sig) → Buf (Elt Ideal) ℓ) : Prop :=
  True

def Pre_GradProjA (m : (ℓ : Loc Cert.GradProjA.nD Cert.GradProjA.τ Cert.GradProjA.sig) → Buf (Elt Bits) ℓ) : Prop :=
  True

def Pre_GradProjAIdeal (m : (ℓ : Loc Cert.GradProjAIdeal.nD Cert.GradProjAIdeal.τ Cert.GradProjAIdeal.sig) → Buf (Elt Ideal) ℓ) : Prop :=
  True

def Pre_GradProjARefIdeal (m : (ℓ : Loc Cert.GradProjARefIdeal.nD Cert.GradProjARefIdeal.τ Cert.GradProjARefIdeal.sig) → Buf (Elt Ideal) ℓ) : Prop :=
  True

def Pre_GradProjQkv (m : (ℓ : Loc Cert.GradProjQkv.nD Cert.GradProjQkv.τ Cert.GradProjQkv.sig) → Buf (Elt Bits) ℓ) : Prop :=
  True

def Pre_GradProjQkvIdeal (m : (ℓ : Loc Cert.GradProjQkvIdeal.nD Cert.GradProjQkvIdeal.τ Cert.GradProjQkvIdeal.sig) → Buf (Elt Ideal) ℓ) : Prop :=
  True

def Pre_GradProjQkvRefIdeal (m : (ℓ : Loc Cert.GradProjQkvRefIdeal.nD Cert.GradProjQkvRefIdeal.τ Cert.GradProjQkvRefIdeal.sig) → Buf (Elt Ideal) ℓ) : Prop :=
  True

def Pre_GradBranch0 (m : (ℓ : Loc Cert.GradBranch0.nD Cert.GradBranch0.τ Cert.GradBranch0.sig) → Buf (Elt Bits) ℓ) : Prop :=
  True

def Pre_GradBranch0Ideal (m : (ℓ : Loc Cert.GradBranch0Ideal.nD Cert.GradBranch0Ideal.τ Cert.GradBranch0Ideal.sig) → Buf (Elt Ideal) ℓ) : Prop :=
  True

def Pre_GradBranch0RefIdeal (m : (ℓ : Loc Cert.GradBranch0RefIdeal.nD Cert.GradBranch0RefIdeal.τ Cert.GradBranch0RefIdeal.sig) → Buf (Elt Ideal) ℓ) : Prop :=
  True

def Pre_GradBranch1 (m : (ℓ : Loc Cert.GradBranch1.nD Cert.GradBranch1.τ Cert.GradBranch1.sig) → Buf (Elt Bits) ℓ) : Prop :=
  True

def Pre_GradBranch1Ideal (m : (ℓ : Loc Cert.GradBranch1Ideal.nD Cert.GradBranch1Ideal.τ Cert.GradBranch1Ideal.sig) → Buf (Elt Ideal) ℓ) : Prop :=
  True

def Pre_GradBranch1RefIdeal (m : (ℓ : Loc Cert.GradBranch1RefIdeal.nD Cert.GradBranch1RefIdeal.τ Cert.GradBranch1RefIdeal.sig) → Buf (Elt Ideal) ℓ) : Prop :=
  True

def Pre_GradBranch2 (m : (ℓ : Loc Cert.GradBranch2.nD Cert.GradBranch2.τ Cert.GradBranch2.sig) → Buf (Elt Bits) ℓ) : Prop :=
  True

def Pre_GradBranch2Ideal (m : (ℓ : Loc Cert.GradBranch2Ideal.nD Cert.GradBranch2Ideal.τ Cert.GradBranch2Ideal.sig) → Buf (Elt Ideal) ℓ) : Prop :=
  True

def Pre_GradBranch2RefIdeal (m : (ℓ : Loc Cert.GradBranch2RefIdeal.nD Cert.GradBranch2RefIdeal.τ Cert.GradBranch2RefIdeal.sig) → Buf (Elt Ideal) ℓ) : Prop :=
  True

def Pre_GradBranch3 (m : (ℓ : Loc Cert.GradBranch3.nD Cert.GradBranch3.τ Cert.GradBranch3.sig) → Buf (Elt Bits) ℓ) : Prop :=
  True

def Pre_GradBranch3Ideal (m : (ℓ : Loc Cert.GradBranch3Ideal.nD Cert.GradBranch3Ideal.τ Cert.GradBranch3Ideal.sig) → Buf (Elt Ideal) ℓ) : Prop :=
  True

def Pre_GradBranch3RefIdeal (m : (ℓ : Loc Cert.GradBranch3RefIdeal.nD Cert.GradBranch3RefIdeal.τ Cert.GradBranch3RefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBackward (m : (ℓ : Loc Cert.MergeBackward.nD Cert.MergeBackward.τ Cert.MergeBackward.sig) → Buf (Elt Bits) ℓ) : Prop :=
  True

def Pre_MergeBackwardIdeal (m : (ℓ : Loc Cert.MergeBackwardIdeal.nD Cert.MergeBackwardIdeal.τ Cert.MergeBackwardIdeal.sig) → Buf (Elt Ideal) ℓ) : Prop :=
  True

def Pre_MergeBackwardRefIdeal (m : (ℓ : Loc Cert.MergeBackwardRefIdeal.nD Cert.MergeBackwardRefIdeal.τ Cert.MergeBackwardRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnBackward (m : (ℓ : Loc Cert.FfnBackward.nD Cert.FfnBackward.τ Cert.FfnBackward.sig) → Buf (Elt Bits) ℓ) : Prop :=
  True

def Pre_FfnBackwardIdeal (m : (ℓ : Loc Cert.FfnBackwardIdeal.nD Cert.FfnBackwardIdeal.τ Cert.FfnBackwardIdeal.sig) → Buf (Elt Ideal) ℓ) : Prop :=
  True

def Pre_FfnBackwardRefIdeal (m : (ℓ : Loc Cert.FfnBackwardRefIdeal.nD Cert.FfnBackwardRefIdeal.τ Cert.FfnBackwardRefIdeal.sig) → Buf (Elt Ideal) ℓ) : Prop :=
  True

def Pre_PleOut (m : (ℓ : Loc Cert.PleOut.nD Cert.PleOut.τ Cert.PleOut.sig) → Buf (Elt Bits) ℓ) : Prop :=
  True

def Pre_PleOutIdeal (m : (ℓ : Loc Cert.PleOutIdeal.nD Cert.PleOutIdeal.τ Cert.PleOutIdeal.sig) → Buf (Elt Ideal) ℓ) : Prop :=
  True

def Pre_PleOutRefIdeal (m : (ℓ : Loc Cert.PleOutRefIdeal.nD Cert.PleOutRefIdeal.τ Cert.PleOutRefIdeal.sig) → Buf (Elt Ideal) ℓ) : Prop :=
  True

def Pre_PleBackward (m : (ℓ : Loc Cert.PleBackward.nD Cert.PleBackward.τ Cert.PleBackward.sig) → Buf (Elt Bits) ℓ) : Prop :=
  True

def Pre_PleBackwardIdeal (m : (ℓ : Loc Cert.PleBackwardIdeal.nD Cert.PleBackwardIdeal.τ Cert.PleBackwardIdeal.sig) → Buf (Elt Ideal) ℓ) : Prop :=
  True

def Pre_PleBackwardRefIdeal (m : (ℓ : Loc Cert.PleBackwardRefIdeal.nD Cert.PleBackwardRefIdeal.τ Cert.PleBackwardRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingRefIdeal (m : (ℓ : Loc Cert.GatingRefIdeal.nD Cert.GatingRefIdeal.τ Cert.GatingRefIdeal.sig) → Buf (Elt Ideal) ℓ) : Prop :=
  True

def Pre_ConfNormBackward (m : (ℓ : Loc Cert.ConfNormBackward.nD Cert.ConfNormBackward.τ Cert.ConfNormBackward.sig) → Buf (Elt Bits) ℓ) : Prop :=
  True

def Pre_ConfNormBackwardIdeal (m : (ℓ : Loc Cert.ConfNormBackwardIdeal.nD Cert.ConfNormBackwardIdeal.τ Cert.ConfNormBackwardIdeal.sig) → Buf (Elt Ideal) ℓ) : Prop :=
  True

def Pre_ConfNormBackwardRefIdeal (m : (ℓ : Loc Cert.ConfNormBackwardRefIdeal.nD Cert.ConfNormBackwardRefIdeal.τ Cert.ConfNormBackwardRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0))
      ∧ r.2.sem = fun _ => 0)

def quiescent_WeightsRef [hWeightsRef : Cert.WeightsRef.Facts] : Prop :=
  ∀ (m : (ℓ : Loc Cert.WeightsRef.nD Cert.WeightsRef.τ Cert.WeightsRef.sig) → Buf (Elt Bits) ℓ) (g : Dev Cert.WeightsRef.nD → PrngReg), Pre_WeightsRef m →
    θ_run (Cert.WeightsRef.defs (F := Bits)) (onTc (τ := Cert.WeightsRef.τ) (Cert.WeightsRef.main (F := Bits))) ⟨m, fun _ => 0, g⟩ (fun r => (∀ c : Dev Cert.WeightsRef.nD,
      r.2.mem ((c.tc : Thread Cert.WeightsRef.nD Cert.WeightsRef.τ).loc Cert.WeightsRef.main_arg0) = m ((c.tc : Thread Cert.WeightsRef.nD Cert.WeightsRef.τ).loc Cert.WeightsRef.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_SmallGrads [hSmallGrads : Cert.SmallGrads.Facts] : Prop :=
  ∀ (m : (ℓ : Loc Cert.SmallGrads.nD Cert.SmallGrads.τ Cert.SmallGrads.sig) → Buf (Elt Bits) ℓ) (g : Dev Cert.SmallGrads.nD → PrngReg), Pre_SmallGrads m →
    θ_run (Cert.SmallGrads.defs (F := Bits)) (onTc (τ := Cert.SmallGrads.τ) (Cert.SmallGrads.main (F := Bits))) ⟨m, fun _ => 0, g⟩ (fun r => (∀ c : Dev Cert.SmallGrads.nD,
      r.2.mem ((c.tc : Thread Cert.SmallGrads.nD Cert.SmallGrads.τ).loc Cert.SmallGrads.main_arg0) = m ((c.tc : Thread Cert.SmallGrads.nD Cert.SmallGrads.τ).loc Cert.SmallGrads.main_arg0))
      ∧ r.2.sem = fun _ => 0)

def quiescent_SmallGradsIdeal [hSmallGradsIdeal : Cert.SmallGradsIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg), Pre_SmallGradsIdeal m →
    θ_run (Cert.SmallGradsIdeal.defs (F := Ideal)) (onTc (τ := Cert.SmallGradsIdeal.τ) (Cert.SmallGradsIdeal.main (F := Ideal))) ⟨m, fun _ => 0, g⟩ (fun r => (∀ c : Dev Cert.SmallGradsIdeal.nD,
      r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0))
      ∧ r.2.sem = fun _ => 0)

def quiescent_SmallGradsRefIdeal [hSmallGradsRefIdeal : Cert.SmallGradsRefIdeal.Facts] : Prop :=
  ∀ (m : (ℓ : Loc Cert.SmallGradsRefIdeal.nD Cert.SmallGradsRefIdeal.τ Cert.SmallGradsRefIdeal.sig) → Buf (Elt Ideal) ℓ) (g : Dev Cert.SmallGradsRefIdeal.nD → PrngReg), Pre_SmallGradsRefIdeal m →
    θ_run (Cert.SmallGradsRefIdeal.defs (F := Ideal)) (onTc (τ := Cert.SmallGradsRefIdeal.τ) (Cert.SmallGradsRefIdeal.main (F := Ideal))) ⟨m, fun _ => 0, g⟩ (fun r => (∀ c : Dev Cert.SmallGradsRefIdeal.nD,
      r.2.mem ((c.tc : Thread Cert.SmallGradsRefIdeal.nD Cert.SmallGradsRefIdeal.τ).loc Cert.SmallGradsRefIdeal.main_arg0) = m ((c.tc : Thread Cert.SmallGradsRefIdeal.nD Cert.SmallGradsRefIdeal.τ).loc Cert.SmallGradsRefIdeal.main_arg0))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3))
      ∧ r.2.sem = fun _ => 0)

def quiescent_UpdateBranch [hUpdateBranch : Cert.UpdateBranch.Facts] : Prop :=
  ∀ (m : (ℓ : Loc Cert.UpdateBranch.nD Cert.UpdateBranch.τ Cert.UpdateBranch.sig) → Buf (Elt Bits) ℓ) (g : Dev Cert.UpdateBranch.nD → PrngReg), Pre_UpdateBranch m →
    θ_run (Cert.UpdateBranch.defs (F := Bits)) (onTc (τ := Cert.UpdateBranch.τ) (Cert.UpdateBranch.main (F := Bits))) ⟨m, fun _ => 0, g⟩ (fun r => (∀ c : Dev Cert.UpdateBranch.nD,
      r.2.mem ((c.tc : Thread Cert.UpdateBranch.nD Cert.UpdateBranch.τ).loc Cert.UpdateBranch.main_arg0) = m ((c.tc : Thread Cert.UpdateBranch.nD Cert.UpdateBranch.τ).loc Cert.UpdateBranch.main_arg0)
      ∧ r.2.mem ((c.tc : Thread Cert.UpdateBranch.nD Cert.UpdateBranch.τ).loc Cert.UpdateBranch.main_arg1) = m ((c.tc : Thread Cert.UpdateBranch.nD Cert.UpdateBranch.τ).loc Cert.UpdateBranch.main_arg1)
      ∧ r.2.mem ((c.tc : Thread Cert.UpdateBranch.nD Cert.UpdateBranch.τ).loc Cert.UpdateBranch.main_arg2) = m ((c.tc : Thread Cert.UpdateBranch.nD Cert.UpdateBranch.τ).loc Cert.UpdateBranch.main_arg2)
      ∧ r.2.mem ((c.tc : Thread Cert.UpdateBranch.nD Cert.UpdateBranch.τ).loc Cert.UpdateBranch.main_arg3) = m ((c.tc : Thread Cert.UpdateBranch.nD Cert.UpdateBranch.τ).loc Cert.UpdateBranch.main_arg3))
      ∧ r.2.sem = fun _ => 0)

def quiescent_UpdateBranchIdeal [hUpdateBranchIdeal : Cert.UpdateBranchIdeal.Facts] : Prop :=
  ∀ (m : (ℓ : Loc Cert.UpdateBranchIdeal.nD Cert.UpdateBranchIdeal.τ Cert.UpdateBranchIdeal.sig) → Buf (Elt Ideal) ℓ) (g : Dev Cert.UpdateBranchIdeal.nD → PrngReg), Pre_UpdateBranchIdeal m →
    θ_run (Cert.UpdateBranchIdeal.defs (F := Ideal)) (onTc (τ := Cert.UpdateBranchIdeal.τ) (Cert.UpdateBranchIdeal.main (F := Ideal))) ⟨m, fun _ => 0, g⟩ (fun r => (∀ c : Dev Cert.UpdateBranchIdeal.nD,
      r.2.mem ((c.tc : Thread Cert.UpdateBranchIdeal.nD Cert.UpdateBranchIdeal.τ).loc Cert.UpdateBranchIdeal.main_arg0) = m ((c.tc : Thread Cert.UpdateBranchIdeal.nD Cert.UpdateBranchIdeal.τ).loc Cert.UpdateBranchIdeal.main_arg0)
      ∧ r.2.mem ((c.tc : Thread Cert.UpdateBranchIdeal.nD Cert.UpdateBranchIdeal.τ).loc Cert.UpdateBranchIdeal.main_arg1) = m ((c.tc : Thread Cert.UpdateBranchIdeal.nD Cert.UpdateBranchIdeal.τ).loc Cert.UpdateBranchIdeal.main_arg1)
      ∧ r.2.mem ((c.tc : Thread Cert.UpdateBranchIdeal.nD Cert.UpdateBranchIdeal.τ).loc Cert.UpdateBranchIdeal.main_arg2) = m ((c.tc : Thread Cert.UpdateBranchIdeal.nD Cert.UpdateBranchIdeal.τ).loc Cert.UpdateBranchIdeal.main_arg2)
      ∧ r.2.mem ((c.tc : Thread Cert.UpdateBranchIdeal.nD Cert.UpdateBranchIdeal.τ).loc Cert.UpdateBranchIdeal.main_arg3) = m ((c.tc : Thread Cert.UpdateBranchIdeal.nD Cert.UpdateBranchIdeal.τ).loc Cert.UpdateBranchIdeal.main_arg3))
      ∧ r.2.sem = fun _ => 0)

def quiescent_UpdateBranchRefIdeal [hUpdateBranchRefIdeal : Cert.UpdateBranchRefIdeal.Facts] : Prop :=
  ∀ (m : (ℓ : Loc Cert.UpdateBranchRefIdeal.nD Cert.UpdateBranchRefIdeal.τ Cert.UpdateBranchRefIdeal.sig) → Buf (Elt Ideal) ℓ) (g : Dev Cert.UpdateBranchRefIdeal.nD → PrngReg), Pre_UpdateBranchRefIdeal m →
    θ_run (Cert.UpdateBranchRefIdeal.defs (F := Ideal)) (onTc (τ := Cert.UpdateBranchRefIdeal.τ) (Cert.UpdateBranchRefIdeal.main (F := Ideal))) ⟨m, fun _ => 0, g⟩ (fun r => (∀ c : Dev Cert.UpdateBranchRefIdeal.nD,
      r.2.mem ((c.tc : Thread Cert.UpdateBranchRefIdeal.nD Cert.UpdateBranchRefIdeal.τ).loc Cert.UpdateBranchRefIdeal.main_arg0) = m ((c.tc : Thread Cert.UpdateBranchRefIdeal.nD Cert.UpdateBranchRefIdeal.τ).loc Cert.UpdateBranchRefIdeal.main_arg0)
      ∧ r.2.mem ((c.tc : Thread Cert.UpdateBranchRefIdeal.nD Cert.UpdateBranchRefIdeal.τ).loc Cert.UpdateBranchRefIdeal.main_arg1) = m ((c.tc : Thread Cert.UpdateBranchRefIdeal.nD Cert.UpdateBranchRefIdeal.τ).loc Cert.UpdateBranchRefIdeal.main_arg1)
      ∧ r.2.mem ((c.tc : Thread Cert.UpdateBranchRefIdeal.nD Cert.UpdateBranchRefIdeal.τ).loc Cert.UpdateBranchRefIdeal.main_arg2) = m ((c.tc : Thread Cert.UpdateBranchRefIdeal.nD Cert.UpdateBranchRefIdeal.τ).loc Cert.UpdateBranchRefIdeal.main_arg2)
      ∧ r.2.mem ((c.tc : Thread Cert.UpdateBranchRefIdeal.nD Cert.UpdateBranchRefIdeal.τ).loc Cert.UpdateBranchRefIdeal.main_arg3) = m ((c.tc : Thread Cert.UpdateBranchRefIdeal.nD Cert.UpdateBranchRefIdeal.τ).loc Cert.UpdateBranchRefIdeal.main_arg3))
      ∧ r.2.sem = fun _ => 0)

def quiescent_UpdateMergeGate [hUpdateMergeGate : Cert.UpdateMergeGate.Facts] : Prop :=
  ∀ (m : (ℓ : Loc Cert.UpdateMergeGate.nD Cert.UpdateMergeGate.τ Cert.UpdateMergeGate.sig) → Buf (Elt Bits) ℓ) (g : Dev Cert.UpdateMergeGate.nD → PrngReg), Pre_UpdateMergeGate m →
    θ_run (Cert.UpdateMergeGate.defs (F := Bits)) (onTc (τ := Cert.UpdateMergeGate.τ) (Cert.UpdateMergeGate.main (F := Bits))) ⟨m, fun _ => 0, g⟩ (fun r => (∀ c : Dev Cert.UpdateMergeGate.nD,
      r.2.mem ((c.tc : Thread Cert.UpdateMergeGate.nD Cert.UpdateMergeGate.τ).loc Cert.UpdateMergeGate.main_arg0) = m ((c.tc : Thread Cert.UpdateMergeGate.nD Cert.UpdateMergeGate.τ).loc Cert.UpdateMergeGate.main_arg0)
      ∧ r.2.mem ((c.tc : Thread Cert.UpdateMergeGate.nD Cert.UpdateMergeGate.τ).loc Cert.UpdateMergeGate.main_arg1) = m ((c.tc : Thread Cert.UpdateMergeGate.nD Cert.UpdateMergeGate.τ).loc Cert.UpdateMergeGate.main_arg1)
      ∧ r.2.mem ((c.tc : Thread Cert.UpdateMergeGate.nD Cert.UpdateMergeGate.τ).loc Cert.UpdateMergeGate.main_arg2) = m ((c.tc : Thread Cert.UpdateMergeGate.nD Cert.UpdateMergeGate.τ).loc Cert.UpdateMergeGate.main_arg2)
      ∧ r.2.mem ((c.tc : Thread Cert.UpdateMergeGate.nD Cert.UpdateMergeGate.τ).loc Cert.UpdateMergeGate.main_arg3) = m ((c.tc : Thread Cert.UpdateMergeGate.nD Cert.UpdateMergeGate.τ).loc Cert.UpdateMergeGate.main_arg3))
      ∧ r.2.sem = fun _ => 0)

def quiescent_UpdateMergeGateIdeal [hUpdateMergeGateIdeal : Cert.UpdateMergeGateIdeal.Facts] : Prop :=
  ∀ (m : (ℓ : Loc Cert.UpdateMergeGateIdeal.nD Cert.UpdateMergeGateIdeal.τ Cert.UpdateMergeGateIdeal.sig) → Buf (Elt Ideal) ℓ) (g : Dev Cert.UpdateMergeGateIdeal.nD → PrngReg), Pre_UpdateMergeGateIdeal m →
    θ_run (Cert.UpdateMergeGateIdeal.defs (F := Ideal)) (onTc (τ := Cert.UpdateMergeGateIdeal.τ) (Cert.UpdateMergeGateIdeal.main (F := Ideal))) ⟨m, fun _ => 0, g⟩ (fun r => (∀ c : Dev Cert.UpdateMergeGateIdeal.nD,
      r.2.mem ((c.tc : Thread Cert.UpdateMergeGateIdeal.nD Cert.UpdateMergeGateIdeal.τ).loc Cert.UpdateMergeGateIdeal.main_arg0) = m ((c.tc : Thread Cert.UpdateMergeGateIdeal.nD Cert.UpdateMergeGateIdeal.τ).loc Cert.UpdateMergeGateIdeal.main_arg0)
      ∧ r.2.mem ((c.tc : Thread Cert.UpdateMergeGateIdeal.nD Cert.UpdateMergeGateIdeal.τ).loc Cert.UpdateMergeGateIdeal.main_arg1) = m ((c.tc : Thread Cert.UpdateMergeGateIdeal.nD Cert.UpdateMergeGateIdeal.τ).loc Cert.UpdateMergeGateIdeal.main_arg1)
      ∧ r.2.mem ((c.tc : Thread Cert.UpdateMergeGateIdeal.nD Cert.UpdateMergeGateIdeal.τ).loc Cert.UpdateMergeGateIdeal.main_arg2) = m ((c.tc : Thread Cert.UpdateMergeGateIdeal.nD Cert.UpdateMergeGateIdeal.τ).loc Cert.UpdateMergeGateIdeal.main_arg2)
      ∧ r.2.mem ((c.tc : Thread Cert.UpdateMergeGateIdeal.nD Cert.UpdateMergeGateIdeal.τ).loc Cert.UpdateMergeGateIdeal.main_arg3) = m ((c.tc : Thread Cert.UpdateMergeGateIdeal.nD Cert.UpdateMergeGateIdeal.τ).loc Cert.UpdateMergeGateIdeal.main_arg3))
      ∧ r.2.sem = fun _ => 0)

def quiescent_UpdateMergeGateRefIdeal [hUpdateMergeGateRefIdeal : Cert.UpdateMergeGateRefIdeal.Facts] : Prop :=
  ∀ (m : (ℓ : Loc Cert.UpdateMergeGateRefIdeal.nD Cert.UpdateMergeGateRefIdeal.τ Cert.UpdateMergeGateRefIdeal.sig) → Buf (Elt Ideal) ℓ) (g : Dev Cert.UpdateMergeGateRefIdeal.nD → PrngReg), Pre_UpdateMergeGateRefIdeal m →
    θ_run (Cert.UpdateMergeGateRefIdeal.defs (F := Ideal)) (onTc (τ := Cert.UpdateMergeGateRefIdeal.τ) (Cert.UpdateMergeGateRefIdeal.main (F := Ideal))) ⟨m, fun _ => 0, g⟩ (fun r => (∀ c : Dev Cert.UpdateMergeGateRefIdeal.nD,
      r.2.mem ((c.tc : Thread Cert.UpdateMergeGateRefIdeal.nD Cert.UpdateMergeGateRefIdeal.τ).loc Cert.UpdateMergeGateRefIdeal.main_arg0) = m ((c.tc : Thread Cert.UpdateMergeGateRefIdeal.nD Cert.UpdateMergeGateRefIdeal.τ).loc Cert.UpdateMergeGateRefIdeal.main_arg0)
      ∧ r.2.mem ((c.tc : Thread Cert.UpdateMergeGateRefIdeal.nD Cert.UpdateMergeGateRefIdeal.τ).loc Cert.UpdateMergeGateRefIdeal.main_arg1) = m ((c.tc : Thread Cert.UpdateMergeGateRefIdeal.nD Cert.UpdateMergeGateRefIdeal.τ).loc Cert.UpdateMergeGateRefIdeal.main_arg1)
      ∧ r.2.mem ((c.tc : Thread Cert.UpdateMergeGateRefIdeal.nD Cert.UpdateMergeGateRefIdeal.τ).loc Cert.UpdateMergeGateRefIdeal.main_arg2) = m ((c.tc : Thread Cert.UpdateMergeGateRefIdeal.nD Cert.UpdateMergeGateRefIdeal.τ).loc Cert.UpdateMergeGateRefIdeal.main_arg2)
      ∧ r.2.mem ((c.tc : Thread Cert.UpdateMergeGateRefIdeal.nD Cert.UpdateMergeGateRefIdeal.τ).loc Cert.UpdateMergeGateRefIdeal.main_arg3) = m ((c.tc : Thread Cert.UpdateMergeGateRefIdeal.nD Cert.UpdateMergeGateRefIdeal.τ).loc Cert.UpdateMergeGateRefIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutRefIdeal [hUpdateOutRefIdeal : Cert.UpdateOutRefIdeal.Facts] : Prop :=
  ∀ (m : (ℓ : Loc Cert.UpdateOutRefIdeal.nD Cert.UpdateOutRefIdeal.τ Cert.UpdateOutRefIdeal.sig) → Buf (Elt Ideal) ℓ) (g : Dev Cert.UpdateOutRefIdeal.nD → PrngReg), Pre_UpdateOutRefIdeal m →
    θ_run (Cert.UpdateOutRefIdeal.defs (F := Ideal)) (onTc (τ := Cert.UpdateOutRefIdeal.τ) (Cert.UpdateOutRefIdeal.main (F := Ideal))) ⟨m, fun _ => 0, g⟩ (fun r => (∀ c : Dev Cert.UpdateOutRefIdeal.nD,
      r.2.mem ((c.tc : Thread Cert.UpdateOutRefIdeal.nD Cert.UpdateOutRefIdeal.τ).loc Cert.UpdateOutRefIdeal.main_arg0) = m ((c.tc : Thread Cert.UpdateOutRefIdeal.nD Cert.UpdateOutRefIdeal.τ).loc Cert.UpdateOutRefIdeal.main_arg0)
      ∧ r.2.mem ((c.tc : Thread Cert.UpdateOutRefIdeal.nD Cert.UpdateOutRefIdeal.τ).loc Cert.UpdateOutRefIdeal.main_arg1) = m ((c.tc : Thread Cert.UpdateOutRefIdeal.nD Cert.UpdateOutRefIdeal.τ).loc Cert.UpdateOutRefIdeal.main_arg1)
      ∧ r.2.mem ((c.tc : Thread Cert.UpdateOutRefIdeal.nD Cert.UpdateOutRefIdeal.τ).loc Cert.UpdateOutRefIdeal.main_arg2) = m ((c.tc : Thread Cert.UpdateOutRefIdeal.nD Cert.UpdateOutRefIdeal.τ).loc Cert.UpdateOutRefIdeal.main_arg2)
      ∧ r.2.mem ((c.tc : Thread Cert.UpdateOutRefIdeal.nD Cert.UpdateOutRefIdeal.τ).loc Cert.UpdateOutRefIdeal.main_arg3) = m ((c.tc : Thread Cert.UpdateOutRefIdeal.nD Cert.UpdateOutRefIdeal.τ).loc Cert.UpdateOutRefIdeal.main_arg3))
      ∧ r.2.sem = fun _ => 0)

def quiescent_UpdateFfnIn [hUpdateFfnIn : Cert.UpdateFfnIn.Facts] : Prop :=
  ∀ (m : (ℓ : Loc Cert.UpdateFfnIn.nD Cert.UpdateFfnIn.τ Cert.UpdateFfnIn.sig) → Buf (Elt Bits) ℓ) (g : Dev Cert.UpdateFfnIn.nD → PrngReg), Pre_UpdateFfnIn m →
    θ_run (Cert.UpdateFfnIn.defs (F := Bits)) (onTc (τ := Cert.UpdateFfnIn.τ) (Cert.UpdateFfnIn.main (F := Bits))) ⟨m, fun _ => 0, g⟩ (fun r => (∀ c : Dev Cert.UpdateFfnIn.nD,
      r.2.mem ((c.tc : Thread Cert.UpdateFfnIn.nD Cert.UpdateFfnIn.τ).loc Cert.UpdateFfnIn.main_arg0) = m ((c.tc : Thread Cert.UpdateFfnIn.nD Cert.UpdateFfnIn.τ).loc Cert.UpdateFfnIn.main_arg0)
      ∧ r.2.mem ((c.tc : Thread Cert.UpdateFfnIn.nD Cert.UpdateFfnIn.τ).loc Cert.UpdateFfnIn.main_arg1) = m ((c.tc : Thread Cert.UpdateFfnIn.nD Cert.UpdateFfnIn.τ).loc Cert.UpdateFfnIn.main_arg1)
      ∧ r.2.mem ((c.tc : Thread Cert.UpdateFfnIn.nD Cert.UpdateFfnIn.τ).loc Cert.UpdateFfnIn.main_arg2) = m ((c.tc : Thread Cert.UpdateFfnIn.nD Cert.UpdateFfnIn.τ).loc Cert.UpdateFfnIn.main_arg2)
      ∧ r.2.mem ((c.tc : Thread Cert.UpdateFfnIn.nD Cert.UpdateFfnIn.τ).loc Cert.UpdateFfnIn.main_arg3) = m ((c.tc : Thread Cert.UpdateFfnIn.nD Cert.UpdateFfnIn.τ).loc Cert.UpdateFfnIn.main_arg3))
      ∧ r.2.sem = fun _ => 0)

def quiescent_UpdateFfnInIdeal [hUpdateFfnInIdeal : Cert.UpdateFfnInIdeal.Facts] : Prop :=
  ∀ (m : (ℓ : Loc Cert.UpdateFfnInIdeal.nD Cert.UpdateFfnInIdeal.τ Cert.UpdateFfnInIdeal.sig) → Buf (Elt Ideal) ℓ) (g : Dev Cert.UpdateFfnInIdeal.nD → PrngReg), Pre_UpdateFfnInIdeal m →
    θ_run (Cert.UpdateFfnInIdeal.defs (F := Ideal)) (onTc (τ := Cert.UpdateFfnInIdeal.τ) (Cert.UpdateFfnInIdeal.main (F := Ideal))) ⟨m, fun _ => 0, g⟩ (fun r => (∀ c : Dev Cert.UpdateFfnInIdeal.nD,
      r.2.mem ((c.tc : Thread Cert.UpdateFfnInIdeal.nD Cert.UpdateFfnInIdeal.τ).loc Cert.UpdateFfnInIdeal.main_arg0) = m ((c.tc : Thread Cert.UpdateFfnInIdeal.nD Cert.UpdateFfnInIdeal.τ).loc Cert.UpdateFfnInIdeal.main_arg0)
      ∧ r.2.mem ((c.tc : Thread Cert.UpdateFfnInIdeal.nD Cert.UpdateFfnInIdeal.τ).loc Cert.UpdateFfnInIdeal.main_arg1) = m ((c.tc : Thread Cert.UpdateFfnInIdeal.nD Cert.UpdateFfnInIdeal.τ).loc Cert.UpdateFfnInIdeal.main_arg1)
      ∧ r.2.mem ((c.tc : Thread Cert.UpdateFfnInIdeal.nD Cert.UpdateFfnInIdeal.τ).loc Cert.UpdateFfnInIdeal.main_arg2) = m ((c.tc : Thread Cert.UpdateFfnInIdeal.nD Cert.UpdateFfnInIdeal.τ).loc Cert.UpdateFfnInIdeal.main_arg2)
      ∧ r.2.mem ((c.tc : Thread Cert.UpdateFfnInIdeal.nD Cert.UpdateFfnInIdeal.τ).loc Cert.UpdateFfnInIdeal.main_arg3) = m ((c.tc : Thread Cert.UpdateFfnInIdeal.nD Cert.UpdateFfnInIdeal.τ).loc Cert.UpdateFfnInIdeal.main_arg3))
      ∧ r.2.sem = fun _ => 0)

def quiescent_UpdateFfnInRefIdeal [hUpdateFfnInRefIdeal : Cert.UpdateFfnInRefIdeal.Facts] : Prop :=
  ∀ (m : (ℓ : Loc Cert.UpdateFfnInRefIdeal.nD Cert.UpdateFfnInRefIdeal.τ Cert.UpdateFfnInRefIdeal.sig) → Buf (Elt Ideal) ℓ) (g : Dev Cert.UpdateFfnInRefIdeal.nD → PrngReg), Pre_UpdateFfnInRefIdeal m →
    θ_run (Cert.UpdateFfnInRefIdeal.defs (F := Ideal)) (onTc (τ := Cert.UpdateFfnInRefIdeal.τ) (Cert.UpdateFfnInRefIdeal.main (F := Ideal))) ⟨m, fun _ => 0, g⟩ (fun r => (∀ c : Dev Cert.UpdateFfnInRefIdeal.nD,
      r.2.mem ((c.tc : Thread Cert.UpdateFfnInRefIdeal.nD Cert.UpdateFfnInRefIdeal.τ).loc Cert.UpdateFfnInRefIdeal.main_arg0) = m ((c.tc : Thread Cert.UpdateFfnInRefIdeal.nD Cert.UpdateFfnInRefIdeal.τ).loc Cert.UpdateFfnInRefIdeal.main_arg0)
      ∧ r.2.mem ((c.tc : Thread Cert.UpdateFfnInRefIdeal.nD Cert.UpdateFfnInRefIdeal.τ).loc Cert.UpdateFfnInRefIdeal.main_arg1) = m ((c.tc : Thread Cert.UpdateFfnInRefIdeal.nD Cert.UpdateFfnInRefIdeal.τ).loc Cert.UpdateFfnInRefIdeal.main_arg1)
      ∧ r.2.mem ((c.tc : Thread Cert.UpdateFfnInRefIdeal.nD Cert.UpdateFfnInRefIdeal.τ).loc Cert.UpdateFfnInRefIdeal.main_arg2) = m ((c.tc : Thread Cert.UpdateFfnInRefIdeal.nD Cert.UpdateFfnInRefIdeal.τ).loc Cert.UpdateFfnInRefIdeal.main_arg2)
      ∧ r.2.mem ((c.tc : Thread Cert.UpdateFfnInRefIdeal.nD Cert.UpdateFfnInRefIdeal.τ).loc Cert.UpdateFfnInRefIdeal.main_arg3) = m ((c.tc : Thread Cert.UpdateFfnInRefIdeal.nD Cert.UpdateFfnInRefIdeal.τ).loc Cert.UpdateFfnInRefIdeal.main_arg3))
      ∧ r.2.sem = fun _ => 0)

def quiescent_UpdateFfnOut [hUpdateFfnOut : Cert.UpdateFfnOut.Facts] : Prop :=
  ∀ (m : (ℓ : Loc Cert.UpdateFfnOut.nD Cert.UpdateFfnOut.τ Cert.UpdateFfnOut.sig) → Buf (Elt Bits) ℓ) (g : Dev Cert.UpdateFfnOut.nD → PrngReg), Pre_UpdateFfnOut m →
    θ_run (Cert.UpdateFfnOut.defs (F := Bits)) (onTc (τ := Cert.UpdateFfnOut.τ) (Cert.UpdateFfnOut.main (F := Bits))) ⟨m, fun _ => 0, g⟩ (fun r => (∀ c : Dev Cert.UpdateFfnOut.nD,
      r.2.mem ((c.tc : Thread Cert.UpdateFfnOut.nD Cert.UpdateFfnOut.τ).loc Cert.UpdateFfnOut.main_arg0) = m ((c.tc : Thread Cert.UpdateFfnOut.nD Cert.UpdateFfnOut.τ).loc Cert.UpdateFfnOut.main_arg0)
      ∧ r.2.mem ((c.tc : Thread Cert.UpdateFfnOut.nD Cert.UpdateFfnOut.τ).loc Cert.UpdateFfnOut.main_arg1) = m ((c.tc : Thread Cert.UpdateFfnOut.nD Cert.UpdateFfnOut.τ).loc Cert.UpdateFfnOut.main_arg1)
      ∧ r.2.mem ((c.tc : Thread Cert.UpdateFfnOut.nD Cert.UpdateFfnOut.τ).loc Cert.UpdateFfnOut.main_arg2) = m ((c.tc : Thread Cert.UpdateFfnOut.nD Cert.UpdateFfnOut.τ).loc Cert.UpdateFfnOut.main_arg2)
      ∧ r.2.mem ((c.tc : Thread Cert.UpdateFfnOut.nD Cert.UpdateFfnOut.τ).loc Cert.UpdateFfnOut.main_arg3) = m ((c.tc : Thread Cert.UpdateFfnOut.nD Cert.UpdateFfnOut.τ).loc Cert.UpdateFfnOut.main_arg3))
      ∧ r.2.sem = fun _ => 0)

def quiescent_UpdateFfnOutIdeal [hUpdateFfnOutIdeal : Cert.UpdateFfnOutIdeal.Facts] : Prop :=
  ∀ (m : (ℓ : Loc Cert.UpdateFfnOutIdeal.nD Cert.UpdateFfnOutIdeal.τ Cert.UpdateFfnOutIdeal.sig) → Buf (Elt Ideal) ℓ) (g : Dev Cert.UpdateFfnOutIdeal.nD → PrngReg), Pre_UpdateFfnOutIdeal m →
    θ_run (Cert.UpdateFfnOutIdeal.defs (F := Ideal)) (onTc (τ := Cert.UpdateFfnOutIdeal.τ) (Cert.UpdateFfnOutIdeal.main (F := Ideal))) ⟨m, fun _ => 0, g⟩ (fun r => (∀ c : Dev Cert.UpdateFfnOutIdeal.nD,
      r.2.mem ((c.tc : Thread Cert.UpdateFfnOutIdeal.nD Cert.UpdateFfnOutIdeal.τ).loc Cert.UpdateFfnOutIdeal.main_arg0) = m ((c.tc : Thread Cert.UpdateFfnOutIdeal.nD Cert.UpdateFfnOutIdeal.τ).loc Cert.UpdateFfnOutIdeal.main_arg0)
      ∧ r.2.mem ((c.tc : Thread Cert.UpdateFfnOutIdeal.nD Cert.UpdateFfnOutIdeal.τ).loc Cert.UpdateFfnOutIdeal.main_arg1) = m ((c.tc : Thread Cert.UpdateFfnOutIdeal.nD Cert.UpdateFfnOutIdeal.τ).loc Cert.UpdateFfnOutIdeal.main_arg1)
      ∧ r.2.mem ((c.tc : Thread Cert.UpdateFfnOutIdeal.nD Cert.UpdateFfnOutIdeal.τ).loc Cert.UpdateFfnOutIdeal.main_arg2) = m ((c.tc : Thread Cert.UpdateFfnOutIdeal.nD Cert.UpdateFfnOutIdeal.τ).loc Cert.UpdateFfnOutIdeal.main_arg2)
      ∧ r.2.mem ((c.tc : Thread Cert.UpdateFfnOutIdeal.nD Cert.UpdateFfnOutIdeal.τ).loc Cert.UpdateFfnOutIdeal.main_arg3) = m ((c.tc : Thread Cert.UpdateFfnOutIdeal.nD Cert.UpdateFfnOutIdeal.τ).loc Cert.UpdateFfnOutIdeal.main_arg3))
      ∧ r.2.sem = fun _ => 0)

def quiescent_UpdateFfnOutRefIdeal [hUpdateFfnOutRefIdeal : Cert.UpdateFfnOutRefIdeal.Facts] : Prop :=
  ∀ (m : (ℓ : Loc Cert.UpdateFfnOutRefIdeal.nD Cert.UpdateFfnOutRefIdeal.τ Cert.UpdateFfnOutRefIdeal.sig) → Buf (Elt Ideal) ℓ) (g : Dev Cert.UpdateFfnOutRefIdeal.nD → PrngReg), Pre_UpdateFfnOutRefIdeal m →
    θ_run (Cert.UpdateFfnOutRefIdeal.defs (F := Ideal)) (onTc (τ := Cert.UpdateFfnOutRefIdeal.τ) (Cert.UpdateFfnOutRefIdeal.main (F := Ideal))) ⟨m, fun _ => 0, g⟩ (fun r => (∀ c : Dev Cert.UpdateFfnOutRefIdeal.nD,
      r.2.mem ((c.tc : Thread Cert.UpdateFfnOutRefIdeal.nD Cert.UpdateFfnOutRefIdeal.τ).loc Cert.UpdateFfnOutRefIdeal.main_arg0) = m ((c.tc : Thread Cert.UpdateFfnOutRefIdeal.nD Cert.UpdateFfnOutRefIdeal.τ).loc Cert.UpdateFfnOutRefIdeal.main_arg0)
      ∧ r.2.mem ((c.tc : Thread Cert.UpdateFfnOutRefIdeal.nD Cert.UpdateFfnOutRefIdeal.τ).loc Cert.UpdateFfnOutRefIdeal.main_arg1) = m ((c.tc : Thread Cert.UpdateFfnOutRefIdeal.nD Cert.UpdateFfnOutRefIdeal.τ).loc Cert.UpdateFfnOutRefIdeal.main_arg1)
      ∧ r.2.mem ((c.tc : Thread Cert.UpdateFfnOutRefIdeal.nD Cert.UpdateFfnOutRefIdeal.τ).loc Cert.UpdateFfnOutRefIdeal.main_arg2) = m ((c.tc : Thread Cert.UpdateFfnOutRefIdeal.nD Cert.UpdateFfnOutRefIdeal.τ).loc Cert.UpdateFfnOutRefIdeal.main_arg2)
      ∧ r.2.mem ((c.tc : Thread Cert.UpdateFfnOutRefIdeal.nD Cert.UpdateFfnOutRefIdeal.τ).loc Cert.UpdateFfnOutRefIdeal.main_arg3) = m ((c.tc : Thread Cert.UpdateFfnOutRefIdeal.nD Cert.UpdateFfnOutRefIdeal.τ).loc Cert.UpdateFfnOutRefIdeal.main_arg3))
      ∧ r.2.sem = fun _ => 0)

def quiescent_UpdateProj [hUpdateProj : Cert.UpdateProj.Facts] : Prop :=
  ∀ (m : (ℓ : Loc Cert.UpdateProj.nD Cert.UpdateProj.τ Cert.UpdateProj.sig) → Buf (Elt Bits) ℓ) (g : Dev Cert.UpdateProj.nD → PrngReg), Pre_UpdateProj m →
    θ_run (Cert.UpdateProj.defs (F := Bits)) (onTc (τ := Cert.UpdateProj.τ) (Cert.UpdateProj.main (F := Bits))) ⟨m, fun _ => 0, g⟩ (fun r => (∀ c : Dev Cert.UpdateProj.nD,
      r.2.mem ((c.tc : Thread Cert.UpdateProj.nD Cert.UpdateProj.τ).loc Cert.UpdateProj.main_arg0) = m ((c.tc : Thread Cert.UpdateProj.nD Cert.UpdateProj.τ).loc Cert.UpdateProj.main_arg0)
      ∧ r.2.mem ((c.tc : Thread Cert.UpdateProj.nD Cert.UpdateProj.τ).loc Cert.UpdateProj.main_arg1) = m ((c.tc : Thread Cert.UpdateProj.nD Cert.UpdateProj.τ).loc Cert.UpdateProj.main_arg1)
      ∧ r.2.mem ((c.tc : Thread Cert.UpdateProj.nD Cert.UpdateProj.τ).loc Cert.UpdateProj.main_arg2) = m ((c.tc : Thread Cert.UpdateProj.nD Cert.UpdateProj.τ).loc Cert.UpdateProj.main_arg2)
      ∧ r.2.mem ((c.tc : Thread Cert.UpdateProj.nD Cert.UpdateProj.τ).loc Cert.UpdateProj.main_arg3) = m ((c.tc : Thread Cert.UpdateProj.nD Cert.UpdateProj.τ).loc Cert.UpdateProj.main_arg3))
      ∧ r.2.sem = fun _ => 0)

def quiescent_UpdateProjIdeal [hUpdateProjIdeal : Cert.UpdateProjIdeal.Facts] : Prop :=
  ∀ (m : (ℓ : Loc Cert.UpdateProjIdeal.nD Cert.UpdateProjIdeal.τ Cert.UpdateProjIdeal.sig) → Buf (Elt Ideal) ℓ) (g : Dev Cert.UpdateProjIdeal.nD → PrngReg), Pre_UpdateProjIdeal m →
    θ_run (Cert.UpdateProjIdeal.defs (F := Ideal)) (onTc (τ := Cert.UpdateProjIdeal.τ) (Cert.UpdateProjIdeal.main (F := Ideal))) ⟨m, fun _ => 0, g⟩ (fun r => (∀ c : Dev Cert.UpdateProjIdeal.nD,
      r.2.mem ((c.tc : Thread Cert.UpdateProjIdeal.nD Cert.UpdateProjIdeal.τ).loc Cert.UpdateProjIdeal.main_arg0) = m ((c.tc : Thread Cert.UpdateProjIdeal.nD Cert.UpdateProjIdeal.τ).loc Cert.UpdateProjIdeal.main_arg0)
      ∧ r.2.mem ((c.tc : Thread Cert.UpdateProjIdeal.nD Cert.UpdateProjIdeal.τ).loc Cert.UpdateProjIdeal.main_arg1) = m ((c.tc : Thread Cert.UpdateProjIdeal.nD Cert.UpdateProjIdeal.τ).loc Cert.UpdateProjIdeal.main_arg1)
      ∧ r.2.mem ((c.tc : Thread Cert.UpdateProjIdeal.nD Cert.UpdateProjIdeal.τ).loc Cert.UpdateProjIdeal.main_arg2) = m ((c.tc : Thread Cert.UpdateProjIdeal.nD Cert.UpdateProjIdeal.τ).loc Cert.UpdateProjIdeal.main_arg2)
      ∧ r.2.mem ((c.tc : Thread Cert.UpdateProjIdeal.nD Cert.UpdateProjIdeal.τ).loc Cert.UpdateProjIdeal.main_arg3) = m ((c.tc : Thread Cert.UpdateProjIdeal.nD Cert.UpdateProjIdeal.τ).loc Cert.UpdateProjIdeal.main_arg3))
      ∧ r.2.sem = fun _ => 0)

def quiescent_UpdateProjRefIdeal [hUpdateProjRefIdeal : Cert.UpdateProjRefIdeal.Facts] : Prop :=
  ∀ (m : (ℓ : Loc Cert.UpdateProjRefIdeal.nD Cert.UpdateProjRefIdeal.τ Cert.UpdateProjRefIdeal.sig) → Buf (Elt Ideal) ℓ) (g : Dev Cert.UpdateProjRefIdeal.nD → PrngReg), Pre_UpdateProjRefIdeal m →
    θ_run (Cert.UpdateProjRefIdeal.defs (F := Ideal)) (onTc (τ := Cert.UpdateProjRefIdeal.τ) (Cert.UpdateProjRefIdeal.main (F := Ideal))) ⟨m, fun _ => 0, g⟩ (fun r => (∀ c : Dev Cert.UpdateProjRefIdeal.nD,
      r.2.mem ((c.tc : Thread Cert.UpdateProjRefIdeal.nD Cert.UpdateProjRefIdeal.τ).loc Cert.UpdateProjRefIdeal.main_arg0) = m ((c.tc : Thread Cert.UpdateProjRefIdeal.nD Cert.UpdateProjRefIdeal.τ).loc Cert.UpdateProjRefIdeal.main_arg0)
      ∧ r.2.mem ((c.tc : Thread Cert.UpdateProjRefIdeal.nD Cert.UpdateProjRefIdeal.τ).loc Cert.UpdateProjRefIdeal.main_arg1) = m ((c.tc : Thread Cert.UpdateProjRefIdeal.nD Cert.UpdateProjRefIdeal.τ).loc Cert.UpdateProjRefIdeal.main_arg1)
      ∧ r.2.mem ((c.tc : Thread Cert.UpdateProjRefIdeal.nD Cert.UpdateProjRefIdeal.τ).loc Cert.UpdateProjRefIdeal.main_arg2) = m ((c.tc : Thread Cert.UpdateProjRefIdeal.nD Cert.UpdateProjRefIdeal.τ).loc Cert.UpdateProjRefIdeal.main_arg2)
      ∧ r.2.mem ((c.tc : Thread Cert.UpdateProjRefIdeal.nD Cert.UpdateProjRefIdeal.τ).loc Cert.UpdateProjRefIdeal.main_arg3) = m ((c.tc : Thread Cert.UpdateProjRefIdeal.nD Cert.UpdateProjRefIdeal.τ).loc Cert.UpdateProjRefIdeal.main_arg3))
      ∧ r.2.sem = fun _ => 0)

def quiescent_UpdateSpatial [hUpdateSpatial : Cert.UpdateSpatial.Facts] : Prop :=
  ∀ (m : (ℓ : Loc Cert.UpdateSpatial.nD Cert.UpdateSpatial.τ Cert.UpdateSpatial.sig) → Buf (Elt Bits) ℓ) (g : Dev Cert.UpdateSpatial.nD → PrngReg), Pre_UpdateSpatial m →
    θ_run (Cert.UpdateSpatial.defs (F := Bits)) (onTc (τ := Cert.UpdateSpatial.τ) (Cert.UpdateSpatial.main (F := Bits))) ⟨m, fun _ => 0, g⟩ (fun r => (∀ c : Dev Cert.UpdateSpatial.nD,
      r.2.mem ((c.tc : Thread Cert.UpdateSpatial.nD Cert.UpdateSpatial.τ).loc Cert.UpdateSpatial.main_arg0) = m ((c.tc : Thread Cert.UpdateSpatial.nD Cert.UpdateSpatial.τ).loc Cert.UpdateSpatial.main_arg0)
      ∧ r.2.mem ((c.tc : Thread Cert.UpdateSpatial.nD Cert.UpdateSpatial.τ).loc Cert.UpdateSpatial.main_arg1) = m ((c.tc : Thread Cert.UpdateSpatial.nD Cert.UpdateSpatial.τ).loc Cert.UpdateSpatial.main_arg1)
      ∧ r.2.mem ((c.tc : Thread Cert.UpdateSpatial.nD Cert.UpdateSpatial.τ).loc Cert.UpdateSpatial.main_arg2) = m ((c.tc : Thread Cert.UpdateSpatial.nD Cert.UpdateSpatial.τ).loc Cert.UpdateSpatial.main_arg2)
      ∧ r.2.mem ((c.tc : Thread Cert.UpdateSpatial.nD Cert.UpdateSpatial.τ).loc Cert.UpdateSpatial.main_arg3) = m ((c.tc : Thread Cert.UpdateSpatial.nD Cert.UpdateSpatial.τ).loc Cert.UpdateSpatial.main_arg3))
      ∧ r.2.sem = fun _ => 0)

def quiescent_UpdateSpatialIdeal [hUpdateSpatialIdeal : Cert.UpdateSpatialIdeal.Facts] : Prop :=
  ∀ (m : (ℓ : Loc Cert.UpdateSpatialIdeal.nD Cert.UpdateSpatialIdeal.τ Cert.UpdateSpatialIdeal.sig) → Buf (Elt Ideal) ℓ) (g : Dev Cert.UpdateSpatialIdeal.nD → PrngReg), Pre_UpdateSpatialIdeal m →
    θ_run (Cert.UpdateSpatialIdeal.defs (F := Ideal)) (onTc (τ := Cert.UpdateSpatialIdeal.τ) (Cert.UpdateSpatialIdeal.main (F := Ideal))) ⟨m, fun _ => 0, g⟩ (fun r => (∀ c : Dev Cert.UpdateSpatialIdeal.nD,
      r.2.mem ((c.tc : Thread Cert.UpdateSpatialIdeal.nD Cert.UpdateSpatialIdeal.τ).loc Cert.UpdateSpatialIdeal.main_arg0) = m ((c.tc : Thread Cert.UpdateSpatialIdeal.nD Cert.UpdateSpatialIdeal.τ).loc Cert.UpdateSpatialIdeal.main_arg0)
      ∧ r.2.mem ((c.tc : Thread Cert.UpdateSpatialIdeal.nD Cert.UpdateSpatialIdeal.τ).loc Cert.UpdateSpatialIdeal.main_arg1) = m ((c.tc : Thread Cert.UpdateSpatialIdeal.nD Cert.UpdateSpatialIdeal.τ).loc Cert.UpdateSpatialIdeal.main_arg1)
      ∧ r.2.mem ((c.tc : Thread Cert.UpdateSpatialIdeal.nD Cert.UpdateSpatialIdeal.τ).loc Cert.UpdateSpatialIdeal.main_arg2) = m ((c.tc : Thread Cert.UpdateSpatialIdeal.nD Cert.UpdateSpatialIdeal.τ).loc Cert.UpdateSpatialIdeal.main_arg2)
      ∧ r.2.mem ((c.tc : Thread Cert.UpdateSpatialIdeal.nD Cert.UpdateSpatialIdeal.τ).loc Cert.UpdateSpatialIdeal.main_arg3) = m ((c.tc : Thread Cert.UpdateSpatialIdeal.nD Cert.UpdateSpatialIdeal.τ).loc Cert.UpdateSpatialIdeal.main_arg3))
      ∧ r.2.sem = fun _ => 0)

def quiescent_UpdateSpatialRefIdeal [hUpdateSpatialRefIdeal : Cert.UpdateSpatialRefIdeal.Facts] : Prop :=
  ∀ (m : (ℓ : Loc Cert.UpdateSpatialRefIdeal.nD Cert.UpdateSpatialRefIdeal.τ Cert.UpdateSpatialRefIdeal.sig) → Buf (Elt Ideal) ℓ) (g : Dev Cert.UpdateSpatialRefIdeal.nD → PrngReg), Pre_UpdateSpatialRefIdeal m →
    θ_run (Cert.UpdateSpatialRefIdeal.defs (F := Ideal)) (onTc (τ := Cert.UpdateSpatialRefIdeal.τ) (Cert.UpdateSpatialRefIdeal.main (F := Ideal))) ⟨m, fun _ => 0, g⟩ (fun r => (∀ c : Dev Cert.UpdateSpatialRefIdeal.nD,
      r.2.mem ((c.tc : Thread Cert.UpdateSpatialRefIdeal.nD Cert.UpdateSpatialRefIdeal.τ).loc Cert.UpdateSpatialRefIdeal.main_arg0) = m ((c.tc : Thread Cert.UpdateSpatialRefIdeal.nD Cert.UpdateSpatialRefIdeal.τ).loc Cert.UpdateSpatialRefIdeal.main_arg0)
      ∧ r.2.mem ((c.tc : Thread Cert.UpdateSpatialRefIdeal.nD Cert.UpdateSpatialRefIdeal.τ).loc Cert.UpdateSpatialRefIdeal.main_arg1) = m ((c.tc : Thread Cert.UpdateSpatialRefIdeal.nD Cert.UpdateSpatialRefIdeal.τ).loc Cert.UpdateSpatialRefIdeal.main_arg1)
      ∧ r.2.mem ((c.tc : Thread Cert.UpdateSpatialRefIdeal.nD Cert.UpdateSpatialRefIdeal.τ).loc Cert.UpdateSpatialRefIdeal.main_arg2) = m ((c.tc : Thread Cert.UpdateSpatialRefIdeal.nD Cert.UpdateSpatialRefIdeal.τ).loc Cert.UpdateSpatialRefIdeal.main_arg2)
      ∧ r.2.mem ((c.tc : Thread Cert.UpdateSpatialRefIdeal.nD Cert.UpdateSpatialRefIdeal.τ).loc Cert.UpdateSpatialRefIdeal.main_arg3) = m ((c.tc : Thread Cert.UpdateSpatialRefIdeal.nD Cert.UpdateSpatialRefIdeal.τ).loc Cert.UpdateSpatialRefIdeal.main_arg3))
      ∧ r.2.sem = fun _ => 0)

def quiescent_UpdateSpatialBias [hUpdateSpatialBias : Cert.UpdateSpatialBias.Facts] : Prop :=
  ∀ (m : (ℓ : Loc Cert.UpdateSpatialBias.nD Cert.UpdateSpatialBias.τ Cert.UpdateSpatialBias.sig) → Buf (Elt Bits) ℓ) (g : Dev Cert.UpdateSpatialBias.nD → PrngReg), Pre_UpdateSpatialBias m →
    θ_run (Cert.UpdateSpatialBias.defs (F := Bits)) (onTc (τ := Cert.UpdateSpatialBias.τ) (Cert.UpdateSpatialBias.main (F := Bits))) ⟨m, fun _ => 0, g⟩ (fun r => (∀ c : Dev Cert.UpdateSpatialBias.nD,
      r.2.mem ((c.tc : Thread Cert.UpdateSpatialBias.nD Cert.UpdateSpatialBias.τ).loc Cert.UpdateSpatialBias.main_arg0) = m ((c.tc : Thread Cert.UpdateSpatialBias.nD Cert.UpdateSpatialBias.τ).loc Cert.UpdateSpatialBias.main_arg0)
      ∧ r.2.mem ((c.tc : Thread Cert.UpdateSpatialBias.nD Cert.UpdateSpatialBias.τ).loc Cert.UpdateSpatialBias.main_arg1) = m ((c.tc : Thread Cert.UpdateSpatialBias.nD Cert.UpdateSpatialBias.τ).loc Cert.UpdateSpatialBias.main_arg1)
      ∧ r.2.mem ((c.tc : Thread Cert.UpdateSpatialBias.nD Cert.UpdateSpatialBias.τ).loc Cert.UpdateSpatialBias.main_arg2) = m ((c.tc : Thread Cert.UpdateSpatialBias.nD Cert.UpdateSpatialBias.τ).loc Cert.UpdateSpatialBias.main_arg2)
      ∧ r.2.mem ((c.tc : Thread Cert.UpdateSpatialBias.nD Cert.UpdateSpatialBias.τ).loc Cert.UpdateSpatialBias.main_arg3) = m ((c.tc : Thread Cert.UpdateSpatialBias.nD Cert.UpdateSpatialBias.τ).loc Cert.UpdateSpatialBias.main_arg3))
      ∧ r.2.sem = fun _ => 0)

def quiescent_UpdateSpatialBiasIdeal [hUpdateSpatialBiasIdeal : Cert.UpdateSpatialBiasIdeal.Facts] : Prop :=
  ∀ (m : (ℓ : Loc Cert.UpdateSpatialBiasIdeal.nD Cert.UpdateSpatialBiasIdeal.τ Cert.UpdateSpatialBiasIdeal.sig) → Buf (Elt Ideal) ℓ) (g : Dev Cert.UpdateSpatialBiasIdeal.nD → PrngReg), Pre_UpdateSpatialBiasIdeal m →
    θ_run (Cert.UpdateSpatialBiasIdeal.defs (F := Ideal)) (onTc (τ := Cert.UpdateSpatialBiasIdeal.τ) (Cert.UpdateSpatialBiasIdeal.main (F := Ideal))) ⟨m, fun _ => 0, g⟩ (fun r => (∀ c : Dev Cert.UpdateSpatialBiasIdeal.nD,
      r.2.mem ((c.tc : Thread Cert.UpdateSpatialBiasIdeal.nD Cert.UpdateSpatialBiasIdeal.τ).loc Cert.UpdateSpatialBiasIdeal.main_arg0) = m ((c.tc : Thread Cert.UpdateSpatialBiasIdeal.nD Cert.UpdateSpatialBiasIdeal.τ).loc Cert.UpdateSpatialBiasIdeal.main_arg0)
      ∧ r.2.mem ((c.tc : Thread Cert.UpdateSpatialBiasIdeal.nD Cert.UpdateSpatialBiasIdeal.τ).loc Cert.UpdateSpatialBiasIdeal.main_arg1) = m ((c.tc : Thread Cert.UpdateSpatialBiasIdeal.nD Cert.UpdateSpatialBiasIdeal.τ).loc Cert.UpdateSpatialBiasIdeal.main_arg1)
      ∧ r.2.mem ((c.tc : Thread Cert.UpdateSpatialBiasIdeal.nD Cert.UpdateSpatialBiasIdeal.τ).loc Cert.UpdateSpatialBiasIdeal.main_arg2) = m ((c.tc : Thread Cert.UpdateSpatialBiasIdeal.nD Cert.UpdateSpatialBiasIdeal.τ).loc Cert.UpdateSpatialBiasIdeal.main_arg2)
      ∧ r.2.mem ((c.tc : Thread Cert.UpdateSpatialBiasIdeal.nD Cert.UpdateSpatialBiasIdeal.τ).loc Cert.UpdateSpatialBiasIdeal.main_arg3) = m ((c.tc : Thread Cert.UpdateSpatialBiasIdeal.nD Cert.UpdateSpatialBiasIdeal.τ).loc Cert.UpdateSpatialBiasIdeal.main_arg3))
      ∧ r.2.sem = fun _ => 0)

def quiescent_UpdateSpatialBiasRefIdeal [hUpdateSpatialBiasRefIdeal : Cert.UpdateSpatialBiasRefIdeal.Facts] : Prop :=
  ∀ (m : (ℓ : Loc Cert.UpdateSpatialBiasRefIdeal.nD Cert.UpdateSpatialBiasRefIdeal.τ Cert.UpdateSpatialBiasRefIdeal.sig) → Buf (Elt Ideal) ℓ) (g : Dev Cert.UpdateSpatialBiasRefIdeal.nD → PrngReg), Pre_UpdateSpatialBiasRefIdeal m →
    θ_run (Cert.UpdateSpatialBiasRefIdeal.defs (F := Ideal)) (onTc (τ := Cert.UpdateSpatialBiasRefIdeal.τ) (Cert.UpdateSpatialBiasRefIdeal.main (F := Ideal))) ⟨m, fun _ => 0, g⟩ (fun r => (∀ c : Dev Cert.UpdateSpatialBiasRefIdeal.nD,
      r.2.mem ((c.tc : Thread Cert.UpdateSpatialBiasRefIdeal.nD Cert.UpdateSpatialBiasRefIdeal.τ).loc Cert.UpdateSpatialBiasRefIdeal.main_arg0) = m ((c.tc : Thread Cert.UpdateSpatialBiasRefIdeal.nD Cert.UpdateSpatialBiasRefIdeal.τ).loc Cert.UpdateSpatialBiasRefIdeal.main_arg0)
      ∧ r.2.mem ((c.tc : Thread Cert.UpdateSpatialBiasRefIdeal.nD Cert.UpdateSpatialBiasRefIdeal.τ).loc Cert.UpdateSpatialBiasRefIdeal.main_arg1) = m ((c.tc : Thread Cert.UpdateSpatialBiasRefIdeal.nD Cert.UpdateSpatialBiasRefIdeal.τ).loc Cert.UpdateSpatialBiasRefIdeal.main_arg1)
      ∧ r.2.mem ((c.tc : Thread Cert.UpdateSpatialBiasRefIdeal.nD Cert.UpdateSpatialBiasRefIdeal.τ).loc Cert.UpdateSpatialBiasRefIdeal.main_arg2) = m ((c.tc : Thread Cert.UpdateSpatialBiasRefIdeal.nD Cert.UpdateSpatialBiasRefIdeal.τ).loc Cert.UpdateSpatialBiasRefIdeal.main_arg2)
      ∧ r.2.mem ((c.tc : Thread Cert.UpdateSpatialBiasRefIdeal.nD Cert.UpdateSpatialBiasRefIdeal.τ).loc Cert.UpdateSpatialBiasRefIdeal.main_arg3) = m ((c.tc : Thread Cert.UpdateSpatialBiasRefIdeal.nD Cert.UpdateSpatialBiasRefIdeal.τ).loc Cert.UpdateSpatialBiasRefIdeal.main_arg3))
      ∧ r.2.sem = fun _ => 0)

def quiescent_UpdateConvA [hUpdateConvA : Cert.UpdateConvA.Facts] : Prop :=
  ∀ (m : (ℓ : Loc Cert.UpdateConvA.nD Cert.UpdateConvA.τ Cert.UpdateConvA.sig) → Buf (Elt Bits) ℓ) (g : Dev Cert.UpdateConvA.nD → PrngReg), Pre_UpdateConvA m →
    θ_run (Cert.UpdateConvA.defs (F := Bits)) (onTc (τ := Cert.UpdateConvA.τ) (Cert.UpdateConvA.main (F := Bits))) ⟨m, fun _ => 0, g⟩ (fun r => (∀ c : Dev Cert.UpdateConvA.nD,
      r.2.mem ((c.tc : Thread Cert.UpdateConvA.nD Cert.UpdateConvA.τ).loc Cert.UpdateConvA.main_arg0) = m ((c.tc : Thread Cert.UpdateConvA.nD Cert.UpdateConvA.τ).loc Cert.UpdateConvA.main_arg0)
      ∧ r.2.mem ((c.tc : Thread Cert.UpdateConvA.nD Cert.UpdateConvA.τ).loc Cert.UpdateConvA.main_arg1) = m ((c.tc : Thread Cert.UpdateConvA.nD Cert.UpdateConvA.τ).loc Cert.UpdateConvA.main_arg1)
      ∧ r.2.mem ((c.tc : Thread Cert.UpdateConvA.nD Cert.UpdateConvA.τ).loc Cert.UpdateConvA.main_arg2) = m ((c.tc : Thread Cert.UpdateConvA.nD Cert.UpdateConvA.τ).loc Cert.UpdateConvA.main_arg2)
      ∧ r.2.mem ((c.tc : Thread Cert.UpdateConvA.nD Cert.UpdateConvA.τ).loc Cert.UpdateConvA.main_arg3) = m ((c.tc : Thread Cert.UpdateConvA.nD Cert.UpdateConvA.τ).loc Cert.UpdateConvA.main_arg3))
      ∧ r.2.sem = fun _ => 0)

def quiescent_UpdateConvAIdeal [hUpdateConvAIdeal : Cert.UpdateConvAIdeal.Facts] : Prop :=
  ∀ (m : (ℓ : Loc Cert.UpdateConvAIdeal.nD Cert.UpdateConvAIdeal.τ Cert.UpdateConvAIdeal.sig) → Buf (Elt Ideal) ℓ) (g : Dev Cert.UpdateConvAIdeal.nD → PrngReg), Pre_UpdateConvAIdeal m →
    θ_run (Cert.UpdateConvAIdeal.defs (F := Ideal)) (onTc (τ := Cert.UpdateConvAIdeal.τ) (Cert.UpdateConvAIdeal.main (F := Ideal))) ⟨m, fun _ => 0, g⟩ (fun r => (∀ c : Dev Cert.UpdateConvAIdeal.nD,
      r.2.mem ((c.tc : Thread Cert.UpdateConvAIdeal.nD Cert.UpdateConvAIdeal.τ).loc Cert.UpdateConvAIdeal.main_arg0) = m ((c.tc : Thread Cert.UpdateConvAIdeal.nD Cert.UpdateConvAIdeal.τ).loc Cert.UpdateConvAIdeal.main_arg0)
      ∧ r.2.mem ((c.tc : Thread Cert.UpdateConvAIdeal.nD Cert.UpdateConvAIdeal.τ).loc Cert.UpdateConvAIdeal.main_arg1) = m ((c.tc : Thread Cert.UpdateConvAIdeal.nD Cert.UpdateConvAIdeal.τ).loc Cert.UpdateConvAIdeal.main_arg1)
      ∧ r.2.mem ((c.tc : Thread Cert.UpdateConvAIdeal.nD Cert.UpdateConvAIdeal.τ).loc Cert.UpdateConvAIdeal.main_arg2) = m ((c.tc : Thread Cert.UpdateConvAIdeal.nD Cert.UpdateConvAIdeal.τ).loc Cert.UpdateConvAIdeal.main_arg2)
      ∧ r.2.mem ((c.tc : Thread Cert.UpdateConvAIdeal.nD Cert.UpdateConvAIdeal.τ).loc Cert.UpdateConvAIdeal.main_arg3) = m ((c.tc : Thread Cert.UpdateConvAIdeal.nD Cert.UpdateConvAIdeal.τ).loc Cert.UpdateConvAIdeal.main_arg3))
      ∧ r.2.sem = fun _ => 0)

def quiescent_UpdateConvARefIdeal [hUpdateConvARefIdeal : Cert.UpdateConvARefIdeal.Facts] : Prop :=
  ∀ (m : (ℓ : Loc Cert.UpdateConvARefIdeal.nD Cert.UpdateConvARefIdeal.τ Cert.UpdateConvARefIdeal.sig) → Buf (Elt Ideal) ℓ) (g : Dev Cert.UpdateConvARefIdeal.nD → PrngReg), Pre_UpdateConvARefIdeal m →
    θ_run (Cert.UpdateConvARefIdeal.defs (F := Ideal)) (onTc (τ := Cert.UpdateConvARefIdeal.τ) (Cert.UpdateConvARefIdeal.main (F := Ideal))) ⟨m, fun _ => 0, g⟩ (fun r => (∀ c : Dev Cert.UpdateConvARefIdeal.nD,
      r.2.mem ((c.tc : Thread Cert.UpdateConvARefIdeal.nD Cert.UpdateConvARefIdeal.τ).loc Cert.UpdateConvARefIdeal.main_arg0) = m ((c.tc : Thread Cert.UpdateConvARefIdeal.nD Cert.UpdateConvARefIdeal.τ).loc Cert.UpdateConvARefIdeal.main_arg0)
      ∧ r.2.mem ((c.tc : Thread Cert.UpdateConvARefIdeal.nD Cert.UpdateConvARefIdeal.τ).loc Cert.UpdateConvARefIdeal.main_arg1) = m ((c.tc : Thread Cert.UpdateConvARefIdeal.nD Cert.UpdateConvARefIdeal.τ).loc Cert.UpdateConvARefIdeal.main_arg1)
      ∧ r.2.mem ((c.tc : Thread Cert.UpdateConvARefIdeal.nD Cert.UpdateConvARefIdeal.τ).loc Cert.UpdateConvARefIdeal.main_arg2) = m ((c.tc : Thread Cert.UpdateConvARefIdeal.nD Cert.UpdateConvARefIdeal.τ).loc Cert.UpdateConvARefIdeal.main_arg2)
      ∧ r.2.mem ((c.tc : Thread Cert.UpdateConvARefIdeal.nD Cert.UpdateConvARefIdeal.τ).loc Cert.UpdateConvARefIdeal.main_arg3) = m ((c.tc : Thread Cert.UpdateConvARefIdeal.nD Cert.UpdateConvARefIdeal.τ).loc Cert.UpdateConvARefIdeal.main_arg3))
      ∧ r.2.sem = fun _ => 0)

def quiescent_UpdateConvD [hUpdateConvD : Cert.UpdateConvD.Facts] : Prop :=
  ∀ (m : (ℓ : Loc Cert.UpdateConvD.nD Cert.UpdateConvD.τ Cert.UpdateConvD.sig) → Buf (Elt Bits) ℓ) (g : Dev Cert.UpdateConvD.nD → PrngReg), Pre_UpdateConvD m →
    θ_run (Cert.UpdateConvD.defs (F := Bits)) (onTc (τ := Cert.UpdateConvD.τ) (Cert.UpdateConvD.main (F := Bits))) ⟨m, fun _ => 0, g⟩ (fun r => (∀ c : Dev Cert.UpdateConvD.nD,
      r.2.mem ((c.tc : Thread Cert.UpdateConvD.nD Cert.UpdateConvD.τ).loc Cert.UpdateConvD.main_arg0) = m ((c.tc : Thread Cert.UpdateConvD.nD Cert.UpdateConvD.τ).loc Cert.UpdateConvD.main_arg0)
      ∧ r.2.mem ((c.tc : Thread Cert.UpdateConvD.nD Cert.UpdateConvD.τ).loc Cert.UpdateConvD.main_arg1) = m ((c.tc : Thread Cert.UpdateConvD.nD Cert.UpdateConvD.τ).loc Cert.UpdateConvD.main_arg1)
      ∧ r.2.mem ((c.tc : Thread Cert.UpdateConvD.nD Cert.UpdateConvD.τ).loc Cert.UpdateConvD.main_arg2) = m ((c.tc : Thread Cert.UpdateConvD.nD Cert.UpdateConvD.τ).loc Cert.UpdateConvD.main_arg2)
      ∧ r.2.mem ((c.tc : Thread Cert.UpdateConvD.nD Cert.UpdateConvD.τ).loc Cert.UpdateConvD.main_arg3) = m ((c.tc : Thread Cert.UpdateConvD.nD Cert.UpdateConvD.τ).loc Cert.UpdateConvD.main_arg3))
      ∧ r.2.sem = fun _ => 0)

def quiescent_UpdateConvDIdeal [hUpdateConvDIdeal : Cert.UpdateConvDIdeal.Facts] : Prop :=
  ∀ (m : (ℓ : Loc Cert.UpdateConvDIdeal.nD Cert.UpdateConvDIdeal.τ Cert.UpdateConvDIdeal.sig) → Buf (Elt Ideal) ℓ) (g : Dev Cert.UpdateConvDIdeal.nD → PrngReg), Pre_UpdateConvDIdeal m →
    θ_run (Cert.UpdateConvDIdeal.defs (F := Ideal)) (onTc (τ := Cert.UpdateConvDIdeal.τ) (Cert.UpdateConvDIdeal.main (F := Ideal))) ⟨m, fun _ => 0, g⟩ (fun r => (∀ c : Dev Cert.UpdateConvDIdeal.nD,
      r.2.mem ((c.tc : Thread Cert.UpdateConvDIdeal.nD Cert.UpdateConvDIdeal.τ).loc Cert.UpdateConvDIdeal.main_arg0) = m ((c.tc : Thread Cert.UpdateConvDIdeal.nD Cert.UpdateConvDIdeal.τ).loc Cert.UpdateConvDIdeal.main_arg0)
      ∧ r.2.mem ((c.tc : Thread Cert.UpdateConvDIdeal.nD Cert.UpdateConvDIdeal.τ).loc Cert.UpdateConvDIdeal.main_arg1) = m ((c.tc : Thread Cert.UpdateConvDIdeal.nD Cert.UpdateConvDIdeal.τ).loc Cert.UpdateConvDIdeal.main_arg1)
      ∧ r.2.mem ((c.tc : Thread Cert.UpdateConvDIdeal.nD Cert.UpdateConvDIdeal.τ).loc Cert.UpdateConvDIdeal.main_arg2) = m ((c.tc : Thread Cert.UpdateConvDIdeal.nD Cert.UpdateConvDIdeal.τ).loc Cert.UpdateConvDIdeal.main_arg2)
      ∧ r.2.mem ((c.tc : Thread Cert.UpdateConvDIdeal.nD Cert.UpdateConvDIdeal.τ).loc Cert.UpdateConvDIdeal.main_arg3) = m ((c.tc : Thread Cert.UpdateConvDIdeal.nD Cert.UpdateConvDIdeal.τ).loc Cert.UpdateConvDIdeal.main_arg3))
      ∧ r.2.sem = fun _ => 0)

def quiescent_UpdateConvDRefIdeal [hUpdateConvDRefIdeal : Cert.UpdateConvDRefIdeal.Facts] : Prop :=
  ∀ (m : (ℓ : Loc Cert.UpdateConvDRefIdeal.nD Cert.UpdateConvDRefIdeal.τ Cert.UpdateConvDRefIdeal.sig) → Buf (Elt Ideal) ℓ) (g : Dev Cert.UpdateConvDRefIdeal.nD → PrngReg), Pre_UpdateConvDRefIdeal m →
    θ_run (Cert.UpdateConvDRefIdeal.defs (F := Ideal)) (onTc (τ := Cert.UpdateConvDRefIdeal.τ) (Cert.UpdateConvDRefIdeal.main (F := Ideal))) ⟨m, fun _ => 0, g⟩ (fun r => (∀ c : Dev Cert.UpdateConvDRefIdeal.nD,
      r.2.mem ((c.tc : Thread Cert.UpdateConvDRefIdeal.nD Cert.UpdateConvDRefIdeal.τ).loc Cert.UpdateConvDRefIdeal.main_arg0) = m ((c.tc : Thread Cert.UpdateConvDRefIdeal.nD Cert.UpdateConvDRefIdeal.τ).loc Cert.UpdateConvDRefIdeal.main_arg0)
      ∧ r.2.mem ((c.tc : Thread Cert.UpdateConvDRefIdeal.nD Cert.UpdateConvDRefIdeal.τ).loc Cert.UpdateConvDRefIdeal.main_arg1) = m ((c.tc : Thread Cert.UpdateConvDRefIdeal.nD Cert.UpdateConvDRefIdeal.τ).loc Cert.UpdateConvDRefIdeal.main_arg1)
      ∧ r.2.mem ((c.tc : Thread Cert.UpdateConvDRefIdeal.nD Cert.UpdateConvDRefIdeal.τ).loc Cert.UpdateConvDRefIdeal.main_arg2) = m ((c.tc : Thread Cert.UpdateConvDRefIdeal.nD Cert.UpdateConvDRefIdeal.τ).loc Cert.UpdateConvDRefIdeal.main_arg2)
      ∧ r.2.mem ((c.tc : Thread Cert.UpdateConvDRefIdeal.nD Cert.UpdateConvDRefIdeal.τ).loc Cert.UpdateConvDRefIdeal.main_arg3) = m ((c.tc : Thread Cert.UpdateConvDRefIdeal.nD Cert.UpdateConvDRefIdeal.τ).loc Cert.UpdateConvDRefIdeal.main_arg3))
      ∧ r.2.sem = fun _ => 0)

def quiescent_UpdateNorm [hUpdateNorm : Cert.UpdateNorm.Facts] : Prop :=
  ∀ (m : (ℓ : Loc Cert.UpdateNorm.nD Cert.UpdateNorm.τ Cert.UpdateNorm.sig) → Buf (Elt Bits) ℓ) (g : Dev Cert.UpdateNorm.nD → PrngReg), Pre_UpdateNorm m →
    θ_run (Cert.UpdateNorm.defs (F := Bits)) (onTc (τ := Cert.UpdateNorm.τ) (Cert.UpdateNorm.main (F := Bits))) ⟨m, fun _ => 0, g⟩ (fun r => (∀ c : Dev Cert.UpdateNorm.nD,
      r.2.mem ((c.tc : Thread Cert.UpdateNorm.nD Cert.UpdateNorm.τ).loc Cert.UpdateNorm.main_arg0) = m ((c.tc : Thread Cert.UpdateNorm.nD Cert.UpdateNorm.τ).loc Cert.UpdateNorm.main_arg0)
      ∧ r.2.mem ((c.tc : Thread Cert.UpdateNorm.nD Cert.UpdateNorm.τ).loc Cert.UpdateNorm.main_arg1) = m ((c.tc : Thread Cert.UpdateNorm.nD Cert.UpdateNorm.τ).loc Cert.UpdateNorm.main_arg1)
      ∧ r.2.mem ((c.tc : Thread Cert.UpdateNorm.nD Cert.UpdateNorm.τ).loc Cert.UpdateNorm.main_arg2) = m ((c.tc : Thread Cert.UpdateNorm.nD Cert.UpdateNorm.τ).loc Cert.UpdateNorm.main_arg2)
      ∧ r.2.mem ((c.tc : Thread Cert.UpdateNorm.nD Cert.UpdateNorm.τ).loc Cert.UpdateNorm.main_arg3) = m ((c.tc : Thread Cert.UpdateNorm.nD Cert.UpdateNorm.τ).loc Cert.UpdateNorm.main_arg3))
      ∧ r.2.sem = fun _ => 0)

def quiescent_UpdateNormIdeal [hUpdateNormIdeal : Cert.UpdateNormIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg), Pre_UpdateNormIdeal m →
    θ_run (Cert.UpdateNormIdeal.defs (F := Ideal)) (onTc (τ := Cert.UpdateNormIdeal.τ) (Cert.UpdateNormIdeal.main (F := Ideal))) ⟨m, fun _ => 0, g⟩ (fun r => (∀ c : Dev Cert.UpdateNormIdeal.nD,
      r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
      ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
      ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
      ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ r.2.sem = fun _ => 0)

def quiescent_UpdateNormRefIdeal [hUpdateNormRefIdeal : Cert.UpdateNormRefIdeal.Facts] : Prop :=
  ∀ (m : (ℓ : Loc Cert.UpdateNormRefIdeal.nD Cert.UpdateNormRefIdeal.τ Cert.UpdateNormRefIdeal.sig) → Buf (Elt Ideal) ℓ) (g : Dev Cert.UpdateNormRefIdeal.nD → PrngReg), Pre_UpdateNormRefIdeal m →
    θ_run (Cert.UpdateNormRefIdeal.defs (F := Ideal)) (onTc (τ := Cert.UpdateNormRefIdeal.τ) (Cert.UpdateNormRefIdeal.main (F := Ideal))) ⟨m, fun _ => 0, g⟩ (fun r => (∀ c : Dev Cert.UpdateNormRefIdeal.nD,
      r.2.mem ((c.tc : Thread Cert.UpdateNormRefIdeal.nD Cert.UpdateNormRefIdeal.τ).loc Cert.UpdateNormRefIdeal.main_arg0) = m ((c.tc : Thread Cert.UpdateNormRefIdeal.nD Cert.UpdateNormRefIdeal.τ).loc Cert.UpdateNormRefIdeal.main_arg0)
      ∧ r.2.mem ((c.tc : Thread Cert.UpdateNormRefIdeal.nD Cert.UpdateNormRefIdeal.τ).loc Cert.UpdateNormRefIdeal.main_arg1) = m ((c.tc : Thread Cert.UpdateNormRefIdeal.nD Cert.UpdateNormRefIdeal.τ).loc Cert.UpdateNormRefIdeal.main_arg1)
      ∧ r.2.mem ((c.tc : Thread Cert.UpdateNormRefIdeal.nD Cert.UpdateNormRefIdeal.τ).loc Cert.UpdateNormRefIdeal.main_arg2) = m ((c.tc : Thread Cert.UpdateNormRefIdeal.nD Cert.UpdateNormRefIdeal.τ).loc Cert.UpdateNormRefIdeal.main_arg2)
      ∧ r.2.mem ((c.tc : Thread Cert.UpdateNormRefIdeal.nD Cert.UpdateNormRefIdeal.τ).loc Cert.UpdateNormRefIdeal.main_arg3) = m ((c.tc : Thread Cert.UpdateNormRefIdeal.nD Cert.UpdateNormRefIdeal.τ).loc Cert.UpdateNormRefIdeal.main_arg3))
      ∧ r.2.sem = fun _ => 0)

def quiescent_UpdateBranchNorm [hUpdateBranchNorm : Cert.UpdateBranchNorm.Facts] : Prop :=
  ∀ (m : (ℓ : Loc Cert.UpdateBranchNorm.nD Cert.UpdateBranchNorm.τ Cert.UpdateBranchNorm.sig) → Buf (Elt Bits) ℓ) (g : Dev Cert.UpdateBranchNorm.nD → PrngReg), Pre_UpdateBranchNorm m →
    θ_run (Cert.UpdateBranchNorm.defs (F := Bits)) (onTc (τ := Cert.UpdateBranchNorm.τ) (Cert.UpdateBranchNorm.main (F := Bits))) ⟨m, fun _ => 0, g⟩ (fun r => (∀ c : Dev Cert.UpdateBranchNorm.nD,
      r.2.mem ((c.tc : Thread Cert.UpdateBranchNorm.nD Cert.UpdateBranchNorm.τ).loc Cert.UpdateBranchNorm.main_arg0) = m ((c.tc : Thread Cert.UpdateBranchNorm.nD Cert.UpdateBranchNorm.τ).loc Cert.UpdateBranchNorm.main_arg0)
      ∧ r.2.mem ((c.tc : Thread Cert.UpdateBranchNorm.nD Cert.UpdateBranchNorm.τ).loc Cert.UpdateBranchNorm.main_arg1) = m ((c.tc : Thread Cert.UpdateBranchNorm.nD Cert.UpdateBranchNorm.τ).loc Cert.UpdateBranchNorm.main_arg1)
      ∧ r.2.mem ((c.tc : Thread Cert.UpdateBranchNorm.nD Cert.UpdateBranchNorm.τ).loc Cert.UpdateBranchNorm.main_arg2) = m ((c.tc : Thread Cert.UpdateBranchNorm.nD Cert.UpdateBranchNorm.τ).loc Cert.UpdateBranchNorm.main_arg2)
      ∧ r.2.mem ((c.tc : Thread Cert.UpdateBranchNorm.nD Cert.UpdateBranchNorm.τ).loc Cert.UpdateBranchNorm.main_arg3) = m ((c.tc : Thread Cert.UpdateBranchNorm.nD Cert.UpdateBranchNorm.τ).loc Cert.UpdateBranchNorm.main_arg3))
      ∧ r.2.sem = fun _ => 0)

def quiescent_UpdateBranchNormIdeal [hUpdateBranchNormIdeal : Cert.UpdateBranchNormIdeal.Facts] : Prop :=
  ∀ (m : (ℓ : Loc Cert.UpdateBranchNormIdeal.nD Cert.UpdateBranchNormIdeal.τ Cert.UpdateBranchNormIdeal.sig) → Buf (Elt Ideal) ℓ) (g : Dev Cert.UpdateBranchNormIdeal.nD → PrngReg), Pre_UpdateBranchNormIdeal m →
    θ_run (Cert.UpdateBranchNormIdeal.defs (F := Ideal)) (onTc (τ := Cert.UpdateBranchNormIdeal.τ) (Cert.UpdateBranchNormIdeal.main (F := Ideal))) ⟨m, fun _ => 0, g⟩ (fun r => (∀ c : Dev Cert.UpdateBranchNormIdeal.nD,
      r.2.mem ((c.tc : Thread Cert.UpdateBranchNormIdeal.nD Cert.UpdateBranchNormIdeal.τ).loc Cert.UpdateBranchNormIdeal.main_arg0) = m ((c.tc : Thread Cert.UpdateBranchNormIdeal.nD Cert.UpdateBranchNormIdeal.τ).loc Cert.UpdateBranchNormIdeal.main_arg0)
      ∧ r.2.mem ((c.tc : Thread Cert.UpdateBranchNormIdeal.nD Cert.UpdateBranchNormIdeal.τ).loc Cert.UpdateBranchNormIdeal.main_arg1) = m ((c.tc : Thread Cert.UpdateBranchNormIdeal.nD Cert.UpdateBranchNormIdeal.τ).loc Cert.UpdateBranchNormIdeal.main_arg1)
      ∧ r.2.mem ((c.tc : Thread Cert.UpdateBranchNormIdeal.nD Cert.UpdateBranchNormIdeal.τ).loc Cert.UpdateBranchNormIdeal.main_arg2) = m ((c.tc : Thread Cert.UpdateBranchNormIdeal.nD Cert.UpdateBranchNormIdeal.τ).loc Cert.UpdateBranchNormIdeal.main_arg2)
      ∧ r.2.mem ((c.tc : Thread Cert.UpdateBranchNormIdeal.nD Cert.UpdateBranchNormIdeal.τ).loc Cert.UpdateBranchNormIdeal.main_arg3) = m ((c.tc : Thread Cert.UpdateBranchNormIdeal.nD Cert.UpdateBranchNormIdeal.τ).loc Cert.UpdateBranchNormIdeal.main_arg3))
      ∧ r.2.sem = fun _ => 0)

def quiescent_UpdateBranchNormRefIdeal [hUpdateBranchNormRefIdeal : Cert.UpdateBranchNormRefIdeal.Facts] : Prop :=
  ∀ (m : (ℓ : Loc Cert.UpdateBranchNormRefIdeal.nD Cert.UpdateBranchNormRefIdeal.τ Cert.UpdateBranchNormRefIdeal.sig) → Buf (Elt Ideal) ℓ) (g : Dev Cert.UpdateBranchNormRefIdeal.nD → PrngReg), Pre_UpdateBranchNormRefIdeal m →
    θ_run (Cert.UpdateBranchNormRefIdeal.defs (F := Ideal)) (onTc (τ := Cert.UpdateBranchNormRefIdeal.τ) (Cert.UpdateBranchNormRefIdeal.main (F := Ideal))) ⟨m, fun _ => 0, g⟩ (fun r => (∀ c : Dev Cert.UpdateBranchNormRefIdeal.nD,
      r.2.mem ((c.tc : Thread Cert.UpdateBranchNormRefIdeal.nD Cert.UpdateBranchNormRefIdeal.τ).loc Cert.UpdateBranchNormRefIdeal.main_arg0) = m ((c.tc : Thread Cert.UpdateBranchNormRefIdeal.nD Cert.UpdateBranchNormRefIdeal.τ).loc Cert.UpdateBranchNormRefIdeal.main_arg0)
      ∧ r.2.mem ((c.tc : Thread Cert.UpdateBranchNormRefIdeal.nD Cert.UpdateBranchNormRefIdeal.τ).loc Cert.UpdateBranchNormRefIdeal.main_arg1) = m ((c.tc : Thread Cert.UpdateBranchNormRefIdeal.nD Cert.UpdateBranchNormRefIdeal.τ).loc Cert.UpdateBranchNormRefIdeal.main_arg1)
      ∧ r.2.mem ((c.tc : Thread Cert.UpdateBranchNormRefIdeal.nD Cert.UpdateBranchNormRefIdeal.τ).loc Cert.UpdateBranchNormRefIdeal.main_arg2) = m ((c.tc : Thread Cert.UpdateBranchNormRefIdeal.nD Cert.UpdateBranchNormRefIdeal.τ).loc Cert.UpdateBranchNormRefIdeal.main_arg2)
      ∧ r.2.mem ((c.tc : Thread Cert.UpdateBranchNormRefIdeal.nD Cert.UpdateBranchNormRefIdeal.τ).loc Cert.UpdateBranchNormRefIdeal.main_arg3) = m ((c.tc : Thread Cert.UpdateBranchNormRefIdeal.nD Cert.UpdateBranchNormRefIdeal.τ).loc Cert.UpdateBranchNormRefIdeal.main_arg3))
      ∧ r.2.sem = fun _ => 0)

def quiescent_UpdateFinalNorm [hUpdateFinalNorm : Cert.UpdateFinalNorm.Facts] : Prop :=
  ∀ (m : (ℓ : Loc Cert.UpdateFinalNorm.nD Cert.UpdateFinalNorm.τ Cert.UpdateFinalNorm.sig) → Buf (Elt Bits) ℓ) (g : Dev Cert.UpdateFinalNorm.nD → PrngReg), Pre_UpdateFinalNorm m →
    θ_run (Cert.UpdateFinalNorm.defs (F := Bits)) (onTc (τ := Cert.UpdateFinalNorm.τ) (Cert.UpdateFinalNorm.main (F := Bits))) ⟨m, fun _ => 0, g⟩ (fun r => (∀ c : Dev Cert.UpdateFinalNorm.nD,
      r.2.mem ((c.tc : Thread Cert.UpdateFinalNorm.nD Cert.UpdateFinalNorm.τ).loc Cert.UpdateFinalNorm.main_arg0) = m ((c.tc : Thread Cert.UpdateFinalNorm.nD Cert.UpdateFinalNorm.τ).loc Cert.UpdateFinalNorm.main_arg0)
      ∧ r.2.mem ((c.tc : Thread Cert.UpdateFinalNorm.nD Cert.UpdateFinalNorm.τ).loc Cert.UpdateFinalNorm.main_arg1) = m ((c.tc : Thread Cert.UpdateFinalNorm.nD Cert.UpdateFinalNorm.τ).loc Cert.UpdateFinalNorm.main_arg1)
      ∧ r.2.mem ((c.tc : Thread Cert.UpdateFinalNorm.nD Cert.UpdateFinalNorm.τ).loc Cert.UpdateFinalNorm.main_arg2) = m ((c.tc : Thread Cert.UpdateFinalNorm.nD Cert.UpdateFinalNorm.τ).loc Cert.UpdateFinalNorm.main_arg2)
      ∧ r.2.mem ((c.tc : Thread Cert.UpdateFinalNorm.nD Cert.UpdateFinalNorm.τ).loc Cert.UpdateFinalNorm.main_arg3) = m ((c.tc : Thread Cert.UpdateFinalNorm.nD Cert.UpdateFinalNorm.τ).loc Cert.UpdateFinalNorm.main_arg3))
      ∧ r.2.sem = fun _ => 0)

def quiescent_UpdateFinalNormIdeal [hUpdateFinalNormIdeal : Cert.UpdateFinalNormIdeal.Facts] : Prop :=
  ∀ (m : (ℓ : Loc Cert.UpdateFinalNormIdeal.nD Cert.UpdateFinalNormIdeal.τ Cert.UpdateFinalNormIdeal.sig) → Buf (Elt Ideal) ℓ) (g : Dev Cert.UpdateFinalNormIdeal.nD → PrngReg), Pre_UpdateFinalNormIdeal m →
    θ_run (Cert.UpdateFinalNormIdeal.defs (F := Ideal)) (onTc (τ := Cert.UpdateFinalNormIdeal.τ) (Cert.UpdateFinalNormIdeal.main (F := Ideal))) ⟨m, fun _ => 0, g⟩ (fun r => (∀ c : Dev Cert.UpdateFinalNormIdeal.nD,
      r.2.mem ((c.tc : Thread Cert.UpdateFinalNormIdeal.nD Cert.UpdateFinalNormIdeal.τ).loc Cert.UpdateFinalNormIdeal.main_arg0) = m ((c.tc : Thread Cert.UpdateFinalNormIdeal.nD Cert.UpdateFinalNormIdeal.τ).loc Cert.UpdateFinalNormIdeal.main_arg0)
      ∧ r.2.mem ((c.tc : Thread Cert.UpdateFinalNormIdeal.nD Cert.UpdateFinalNormIdeal.τ).loc Cert.UpdateFinalNormIdeal.main_arg1) = m ((c.tc : Thread Cert.UpdateFinalNormIdeal.nD Cert.UpdateFinalNormIdeal.τ).loc Cert.UpdateFinalNormIdeal.main_arg1)
      ∧ r.2.mem ((c.tc : Thread Cert.UpdateFinalNormIdeal.nD Cert.UpdateFinalNormIdeal.τ).loc Cert.UpdateFinalNormIdeal.main_arg2) = m ((c.tc : Thread Cert.UpdateFinalNormIdeal.nD Cert.UpdateFinalNormIdeal.τ).loc Cert.UpdateFinalNormIdeal.main_arg2)
      ∧ r.2.mem ((c.tc : Thread Cert.UpdateFinalNormIdeal.nD Cert.UpdateFinalNormIdeal.τ).loc Cert.UpdateFinalNormIdeal.main_arg3) = m ((c.tc : Thread Cert.UpdateFinalNormIdeal.nD Cert.UpdateFinalNormIdeal.τ).loc Cert.UpdateFinalNormIdeal.main_arg3))
      ∧ r.2.sem = fun _ => 0)

def quiescent_UpdateFinalNormRefIdeal [hUpdateFinalNormRefIdeal : Cert.UpdateFinalNormRefIdeal.Facts] : Prop :=
  ∀ (m : (ℓ : Loc Cert.UpdateFinalNormRefIdeal.nD Cert.UpdateFinalNormRefIdeal.τ Cert.UpdateFinalNormRefIdeal.sig) → Buf (Elt Ideal) ℓ) (g : Dev Cert.UpdateFinalNormRefIdeal.nD → PrngReg), Pre_UpdateFinalNormRefIdeal m →
    θ_run (Cert.UpdateFinalNormRefIdeal.defs (F := Ideal)) (onTc (τ := Cert.UpdateFinalNormRefIdeal.τ) (Cert.UpdateFinalNormRefIdeal.main (F := Ideal))) ⟨m, fun _ => 0, g⟩ (fun r => (∀ c : Dev Cert.UpdateFinalNormRefIdeal.nD,
      r.2.mem ((c.tc : Thread Cert.UpdateFinalNormRefIdeal.nD Cert.UpdateFinalNormRefIdeal.τ).loc Cert.UpdateFinalNormRefIdeal.main_arg0) = m ((c.tc : Thread Cert.UpdateFinalNormRefIdeal.nD Cert.UpdateFinalNormRefIdeal.τ).loc Cert.UpdateFinalNormRefIdeal.main_arg0)
      ∧ r.2.mem ((c.tc : Thread Cert.UpdateFinalNormRefIdeal.nD Cert.UpdateFinalNormRefIdeal.τ).loc Cert.UpdateFinalNormRefIdeal.main_arg1) = m ((c.tc : Thread Cert.UpdateFinalNormRefIdeal.nD Cert.UpdateFinalNormRefIdeal.τ).loc Cert.UpdateFinalNormRefIdeal.main_arg1)
      ∧ r.2.mem ((c.tc : Thread Cert.UpdateFinalNormRefIdeal.nD Cert.UpdateFinalNormRefIdeal.τ).loc Cert.UpdateFinalNormRefIdeal.main_arg2) = m ((c.tc : Thread Cert.UpdateFinalNormRefIdeal.nD Cert.UpdateFinalNormRefIdeal.τ).loc Cert.UpdateFinalNormRefIdeal.main_arg2)
      ∧ r.2.mem ((c.tc : Thread Cert.UpdateFinalNormRefIdeal.nD Cert.UpdateFinalNormRefIdeal.τ).loc Cert.UpdateFinalNormRefIdeal.main_arg3) = m ((c.tc : Thread Cert.UpdateFinalNormRefIdeal.nD Cert.UpdateFinalNormRefIdeal.τ).loc Cert.UpdateFinalNormRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_MixBackward [hMixBackward : Cert.MixBackward.Facts] : Prop :=
  ∀ (m : (ℓ : Loc Cert.MixBackward.nD Cert.MixBackward.τ Cert.MixBackward.sig) → Buf (Elt Bits) ℓ) (g : Dev Cert.MixBackward.nD → PrngReg), Pre_MixBackward m →
    θ_run (Cert.MixBackward.defs (F := Bits)) (onTc (τ := Cert.MixBackward.τ) (Cert.MixBackward.main (F := Bits))) ⟨m, fun _ => 0, g⟩ (fun r => (∀ c : Dev Cert.MixBackward.nD,
      r.2.mem ((c.tc : Thread Cert.MixBackward.nD Cert.MixBackward.τ).loc Cert.MixBackward.main_arg0) = m ((c.tc : Thread Cert.MixBackward.nD Cert.MixBackward.τ).loc Cert.MixBackward.main_arg0)
      ∧ r.2.mem ((c.tc : Thread Cert.MixBackward.nD Cert.MixBackward.τ).loc Cert.MixBackward.main_arg1) = m ((c.tc : Thread Cert.MixBackward.nD Cert.MixBackward.τ).loc Cert.MixBackward.main_arg1)
      ∧ r.2.mem ((c.tc : Thread Cert.MixBackward.nD Cert.MixBackward.τ).loc Cert.MixBackward.main_arg2) = m ((c.tc : Thread Cert.MixBackward.nD Cert.MixBackward.τ).loc Cert.MixBackward.main_arg2)
      ∧ r.2.mem ((c.tc : Thread Cert.MixBackward.nD Cert.MixBackward.τ).loc Cert.MixBackward.main_arg3) = m ((c.tc : Thread Cert.MixBackward.nD Cert.MixBackward.τ).loc Cert.MixBackward.main_arg3)
      ∧ r.2.mem ((c.tc : Thread Cert.MixBackward.nD Cert.MixBackward.τ).loc Cert.MixBackward.main_arg4) = m ((c.tc : Thread Cert.MixBackward.nD Cert.MixBackward.τ).loc Cert.MixBackward.main_arg4)
      ∧ r.2.mem ((c.tc : Thread Cert.MixBackward.nD Cert.MixBackward.τ).loc Cert.MixBackward.main_arg5) = m ((c.tc : Thread Cert.MixBackward.nD Cert.MixBackward.τ).loc Cert.MixBackward.main_arg5)
      ∧ r.2.mem ((c.tc : Thread Cert.MixBackward.nD Cert.MixBackward.τ).loc Cert.MixBackward.main_arg6) = m ((c.tc : Thread Cert.MixBackward.nD Cert.MixBackward.τ).loc Cert.MixBackward.main_arg6)
      ∧ r.2.mem ((c.tc : Thread Cert.MixBackward.nD Cert.MixBackward.τ).loc Cert.MixBackward.main_arg7) = m ((c.tc : Thread Cert.MixBackward.nD Cert.MixBackward.τ).loc Cert.MixBackward.main_arg7)
      ∧ r.2.mem ((c.tc : Thread Cert.MixBackward.nD Cert.MixBackward.τ).loc Cert.MixBackward.main_arg8) = m ((c.tc : Thread Cert.MixBackward.nD Cert.MixBackward.τ).loc Cert.MixBackward.main_arg8))
      ∧ r.2.sem = fun _ => 0)

def quiescent_MixBackwardIdeal [hMixBackwardIdeal : Cert.MixBackwardIdeal.Facts] : Prop :=
  ∀ (m : (ℓ : Loc Cert.MixBackwardIdeal.nD Cert.MixBackwardIdeal.τ Cert.MixBackwardIdeal.sig) → Buf (Elt Ideal) ℓ) (g : Dev Cert.MixBackwardIdeal.nD → PrngReg), Pre_MixBackwardIdeal m →
    θ_run (Cert.MixBackwardIdeal.defs (F := Ideal)) (onTc (τ := Cert.MixBackwardIdeal.τ) (Cert.MixBackwardIdeal.main (F := Ideal))) ⟨m, fun _ => 0, g⟩ (fun r => (∀ c : Dev Cert.MixBackwardIdeal.nD,
      r.2.mem ((c.tc : Thread Cert.MixBackwardIdeal.nD Cert.MixBackwardIdeal.τ).loc Cert.MixBackwardIdeal.main_arg0) = m ((c.tc : Thread Cert.MixBackwardIdeal.nD Cert.MixBackwardIdeal.τ).loc Cert.MixBackwardIdeal.main_arg0)
      ∧ r.2.mem ((c.tc : Thread Cert.MixBackwardIdeal.nD Cert.MixBackwardIdeal.τ).loc Cert.MixBackwardIdeal.main_arg1) = m ((c.tc : Thread Cert.MixBackwardIdeal.nD Cert.MixBackwardIdeal.τ).loc Cert.MixBackwardIdeal.main_arg1)
      ∧ r.2.mem ((c.tc : Thread Cert.MixBackwardIdeal.nD Cert.MixBackwardIdeal.τ).loc Cert.MixBackwardIdeal.main_arg2) = m ((c.tc : Thread Cert.MixBackwardIdeal.nD Cert.MixBackwardIdeal.τ).loc Cert.MixBackwardIdeal.main_arg2)
      ∧ r.2.mem ((c.tc : Thread Cert.MixBackwardIdeal.nD Cert.MixBackwardIdeal.τ).loc Cert.MixBackwardIdeal.main_arg3) = m ((c.tc : Thread Cert.MixBackwardIdeal.nD Cert.MixBackwardIdeal.τ).loc Cert.MixBackwardIdeal.main_arg3)
      ∧ r.2.mem ((c.tc : Thread Cert.MixBackwardIdeal.nD Cert.MixBackwardIdeal.τ).loc Cert.MixBackwardIdeal.main_arg4) = m ((c.tc : Thread Cert.MixBackwardIdeal.nD Cert.MixBackwardIdeal.τ).loc Cert.MixBackwardIdeal.main_arg4)
      ∧ r.2.mem ((c.tc : Thread Cert.MixBackwardIdeal.nD Cert.MixBackwardIdeal.τ).loc Cert.MixBackwardIdeal.main_arg5) = m ((c.tc : Thread Cert.MixBackwardIdeal.nD Cert.MixBackwardIdeal.τ).loc Cert.MixBackwardIdeal.main_arg5)
      ∧ r.2.mem ((c.tc : Thread Cert.MixBackwardIdeal.nD Cert.MixBackwardIdeal.τ).loc Cert.MixBackwardIdeal.main_arg6) = m ((c.tc : Thread Cert.MixBackwardIdeal.nD Cert.MixBackwardIdeal.τ).loc Cert.MixBackwardIdeal.main_arg6)
      ∧ r.2.mem ((c.tc : Thread Cert.MixBackwardIdeal.nD Cert.MixBackwardIdeal.τ).loc Cert.MixBackwardIdeal.main_arg7) = m ((c.tc : Thread Cert.MixBackwardIdeal.nD Cert.MixBackwardIdeal.τ).loc Cert.MixBackwardIdeal.main_arg7)
      ∧ r.2.mem ((c.tc : Thread Cert.MixBackwardIdeal.nD Cert.MixBackwardIdeal.τ).loc Cert.MixBackwardIdeal.main_arg8) = m ((c.tc : Thread Cert.MixBackwardIdeal.nD Cert.MixBackwardIdeal.τ).loc Cert.MixBackwardIdeal.main_arg8))
      ∧ r.2.sem = fun _ => 0)

def quiescent_MixBackwardRefIdeal [hMixBackwardRefIdeal : Cert.MixBackwardRefIdeal.Facts] : Prop :=
  ∀ (m : (ℓ : Loc Cert.MixBackwardRefIdeal.nD Cert.MixBackwardRefIdeal.τ Cert.MixBackwardRefIdeal.sig) → Buf (Elt Ideal) ℓ) (g : Dev Cert.MixBackwardRefIdeal.nD → PrngReg), Pre_MixBackwardRefIdeal m →
    θ_run (Cert.MixBackwardRefIdeal.defs (F := Ideal)) (onTc (τ := Cert.MixBackwardRefIdeal.τ) (Cert.MixBackwardRefIdeal.main (F := Ideal))) ⟨m, fun _ => 0, g⟩ (fun r => (∀ c : Dev Cert.MixBackwardRefIdeal.nD,
      r.2.mem ((c.tc : Thread Cert.MixBackwardRefIdeal.nD Cert.MixBackwardRefIdeal.τ).loc Cert.MixBackwardRefIdeal.main_arg0) = m ((c.tc : Thread Cert.MixBackwardRefIdeal.nD Cert.MixBackwardRefIdeal.τ).loc Cert.MixBackwardRefIdeal.main_arg0)
      ∧ r.2.mem ((c.tc : Thread Cert.MixBackwardRefIdeal.nD Cert.MixBackwardRefIdeal.τ).loc Cert.MixBackwardRefIdeal.main_arg1) = m ((c.tc : Thread Cert.MixBackwardRefIdeal.nD Cert.MixBackwardRefIdeal.τ).loc Cert.MixBackwardRefIdeal.main_arg1)
      ∧ r.2.mem ((c.tc : Thread Cert.MixBackwardRefIdeal.nD Cert.MixBackwardRefIdeal.τ).loc Cert.MixBackwardRefIdeal.main_arg2) = m ((c.tc : Thread Cert.MixBackwardRefIdeal.nD Cert.MixBackwardRefIdeal.τ).loc Cert.MixBackwardRefIdeal.main_arg2)
      ∧ r.2.mem ((c.tc : Thread Cert.MixBackwardRefIdeal.nD Cert.MixBackwardRefIdeal.τ).loc Cert.MixBackwardRefIdeal.main_arg3) = m ((c.tc : Thread Cert.MixBackwardRefIdeal.nD Cert.MixBackwardRefIdeal.τ).loc Cert.MixBackwardRefIdeal.main_arg3)
      ∧ r.2.mem ((c.tc : Thread Cert.MixBackwardRefIdeal.nD Cert.MixBackwardRefIdeal.τ).loc Cert.MixBackwardRefIdeal.main_arg4) = m ((c.tc : Thread Cert.MixBackwardRefIdeal.nD Cert.MixBackwardRefIdeal.τ).loc Cert.MixBackwardRefIdeal.main_arg4)
      ∧ r.2.mem ((c.tc : Thread Cert.MixBackwardRefIdeal.nD Cert.MixBackwardRefIdeal.τ).loc Cert.MixBackwardRefIdeal.main_arg5) = m ((c.tc : Thread Cert.MixBackwardRefIdeal.nD Cert.MixBackwardRefIdeal.τ).loc Cert.MixBackwardRefIdeal.main_arg5)
      ∧ r.2.mem ((c.tc : Thread Cert.MixBackwardRefIdeal.nD Cert.MixBackwardRefIdeal.τ).loc Cert.MixBackwardRefIdeal.main_arg6) = m ((c.tc : Thread Cert.MixBackwardRefIdeal.nD Cert.MixBackwardRefIdeal.τ).loc Cert.MixBackwardRefIdeal.main_arg6)
      ∧ r.2.mem ((c.tc : Thread Cert.MixBackwardRefIdeal.nD Cert.MixBackwardRefIdeal.τ).loc Cert.MixBackwardRefIdeal.main_arg7) = m ((c.tc : Thread Cert.MixBackwardRefIdeal.nD Cert.MixBackwardRefIdeal.τ).loc Cert.MixBackwardRefIdeal.main_arg7)
      ∧ r.2.mem ((c.tc : Thread Cert.MixBackwardRefIdeal.nD Cert.MixBackwardRefIdeal.τ).loc Cert.MixBackwardRefIdeal.main_arg8) = m ((c.tc : Thread Cert.MixBackwardRefIdeal.nD Cert.MixBackwardRefIdeal.τ).loc Cert.MixBackwardRefIdeal.main_arg8))
      ∧ r.2.sem = fun _ => 0)

def quiescent_PleNormBackward [hPleNormBackward : Cert.PleNormBackward.Facts] : Prop :=
  ∀ (m : (ℓ : Loc Cert.PleNormBackward.nD Cert.PleNormBackward.τ Cert.PleNormBackward.sig) → Buf (Elt Bits) ℓ) (g : Dev Cert.PleNormBackward.nD → PrngReg), Pre_PleNormBackward m →
    θ_run (Cert.PleNormBackward.defs (F := Bits)) (onTc (τ := Cert.PleNormBackward.τ) (Cert.PleNormBackward.main (F := Bits))) ⟨m, fun _ => 0, g⟩ (fun r => (∀ c : Dev Cert.PleNormBackward.nD,
      r.2.mem ((c.tc : Thread Cert.PleNormBackward.nD Cert.PleNormBackward.τ).loc Cert.PleNormBackward.main_arg0) = m ((c.tc : Thread Cert.PleNormBackward.nD Cert.PleNormBackward.τ).loc Cert.PleNormBackward.main_arg0)
      ∧ r.2.mem ((c.tc : Thread Cert.PleNormBackward.nD Cert.PleNormBackward.τ).loc Cert.PleNormBackward.main_arg1) = m ((c.tc : Thread Cert.PleNormBackward.nD Cert.PleNormBackward.τ).loc Cert.PleNormBackward.main_arg1)
      ∧ r.2.mem ((c.tc : Thread Cert.PleNormBackward.nD Cert.PleNormBackward.τ).loc Cert.PleNormBackward.main_arg2) = m ((c.tc : Thread Cert.PleNormBackward.nD Cert.PleNormBackward.τ).loc Cert.PleNormBackward.main_arg2)
      ∧ r.2.mem ((c.tc : Thread Cert.PleNormBackward.nD Cert.PleNormBackward.τ).loc Cert.PleNormBackward.main_arg3) = m ((c.tc : Thread Cert.PleNormBackward.nD Cert.PleNormBackward.τ).loc Cert.PleNormBackward.main_arg3)
      ∧ r.2.mem ((c.tc : Thread Cert.PleNormBackward.nD Cert.PleNormBackward.τ).loc Cert.PleNormBackward.main_arg4) = m ((c.tc : Thread Cert.PleNormBackward.nD Cert.PleNormBackward.τ).loc Cert.PleNormBackward.main_arg4))
      ∧ r.2.sem = fun _ => 0)

def quiescent_PleNormBackwardIdeal [hPleNormBackwardIdeal : Cert.PleNormBackwardIdeal.Facts] : Prop :=
  ∀ (m : (ℓ : Loc Cert.PleNormBackwardIdeal.nD Cert.PleNormBackwardIdeal.τ Cert.PleNormBackwardIdeal.sig) → Buf (Elt Ideal) ℓ) (g : Dev Cert.PleNormBackwardIdeal.nD → PrngReg), Pre_PleNormBackwardIdeal m →
    θ_run (Cert.PleNormBackwardIdeal.defs (F := Ideal)) (onTc (τ := Cert.PleNormBackwardIdeal.τ) (Cert.PleNormBackwardIdeal.main (F := Ideal))) ⟨m, fun _ => 0, g⟩ (fun r => (∀ c : Dev Cert.PleNormBackwardIdeal.nD,
      r.2.mem ((c.tc : Thread Cert.PleNormBackwardIdeal.nD Cert.PleNormBackwardIdeal.τ).loc Cert.PleNormBackwardIdeal.main_arg0) = m ((c.tc : Thread Cert.PleNormBackwardIdeal.nD Cert.PleNormBackwardIdeal.τ).loc Cert.PleNormBackwardIdeal.main_arg0)
      ∧ r.2.mem ((c.tc : Thread Cert.PleNormBackwardIdeal.nD Cert.PleNormBackwardIdeal.τ).loc Cert.PleNormBackwardIdeal.main_arg1) = m ((c.tc : Thread Cert.PleNormBackwardIdeal.nD Cert.PleNormBackwardIdeal.τ).loc Cert.PleNormBackwardIdeal.main_arg1)
      ∧ r.2.mem ((c.tc : Thread Cert.PleNormBackwardIdeal.nD Cert.PleNormBackwardIdeal.τ).loc Cert.PleNormBackwardIdeal.main_arg2) = m ((c.tc : Thread Cert.PleNormBackwardIdeal.nD Cert.PleNormBackwardIdeal.τ).loc Cert.PleNormBackwardIdeal.main_arg2)
      ∧ r.2.mem ((c.tc : Thread Cert.PleNormBackwardIdeal.nD Cert.PleNormBackwardIdeal.τ).loc Cert.PleNormBackwardIdeal.main_arg3) = m ((c.tc : Thread Cert.PleNormBackwardIdeal.nD Cert.PleNormBackwardIdeal.τ).loc Cert.PleNormBackwardIdeal.main_arg3)
      ∧ r.2.mem ((c.tc : Thread Cert.PleNormBackwardIdeal.nD Cert.PleNormBackwardIdeal.τ).loc Cert.PleNormBackwardIdeal.main_arg4) = m ((c.tc : Thread Cert.PleNormBackwardIdeal.nD Cert.PleNormBackwardIdeal.τ).loc Cert.PleNormBackwardIdeal.main_arg4))
      ∧ r.2.sem = fun _ => 0)

def quiescent_PleNormBackwardRefIdeal [hPleNormBackwardRefIdeal : Cert.PleNormBackwardRefIdeal.Facts] : Prop :=
  ∀ (m : (ℓ : Loc Cert.PleNormBackwardRefIdeal.nD Cert.PleNormBackwardRefIdeal.τ Cert.PleNormBackwardRefIdeal.sig) → Buf (Elt Ideal) ℓ) (g : Dev Cert.PleNormBackwardRefIdeal.nD → PrngReg), Pre_PleNormBackwardRefIdeal m →
    θ_run (Cert.PleNormBackwardRefIdeal.defs (F := Ideal)) (onTc (τ := Cert.PleNormBackwardRefIdeal.τ) (Cert.PleNormBackwardRefIdeal.main (F := Ideal))) ⟨m, fun _ => 0, g⟩ (fun r => (∀ c : Dev Cert.PleNormBackwardRefIdeal.nD,
      r.2.mem ((c.tc : Thread Cert.PleNormBackwardRefIdeal.nD Cert.PleNormBackwardRefIdeal.τ).loc Cert.PleNormBackwardRefIdeal.main_arg0) = m ((c.tc : Thread Cert.PleNormBackwardRefIdeal.nD Cert.PleNormBackwardRefIdeal.τ).loc Cert.PleNormBackwardRefIdeal.main_arg0)
      ∧ r.2.mem ((c.tc : Thread Cert.PleNormBackwardRefIdeal.nD Cert.PleNormBackwardRefIdeal.τ).loc Cert.PleNormBackwardRefIdeal.main_arg1) = m ((c.tc : Thread Cert.PleNormBackwardRefIdeal.nD Cert.PleNormBackwardRefIdeal.τ).loc Cert.PleNormBackwardRefIdeal.main_arg1)
      ∧ r.2.mem ((c.tc : Thread Cert.PleNormBackwardRefIdeal.nD Cert.PleNormBackwardRefIdeal.τ).loc Cert.PleNormBackwardRefIdeal.main_arg2) = m ((c.tc : Thread Cert.PleNormBackwardRefIdeal.nD Cert.PleNormBackwardRefIdeal.τ).loc Cert.PleNormBackwardRefIdeal.main_arg2)
      ∧ r.2.mem ((c.tc : Thread Cert.PleNormBackwardRefIdeal.nD Cert.PleNormBackwardRefIdeal.τ).loc Cert.PleNormBackwardRefIdeal.main_arg3) = m ((c.tc : Thread Cert.PleNormBackwardRefIdeal.nD Cert.PleNormBackwardRefIdeal.τ).loc Cert.PleNormBackwardRefIdeal.main_arg3)
      ∧ r.2.mem ((c.tc : Thread Cert.PleNormBackwardRefIdeal.nD Cert.PleNormBackwardRefIdeal.τ).loc Cert.PleNormBackwardRefIdeal.main_arg4) = m ((c.tc : Thread Cert.PleNormBackwardRefIdeal.nD Cert.PleNormBackwardRefIdeal.τ).loc Cert.PleNormBackwardRefIdeal.main_arg4))
      ∧ r.2.sem = fun _ => 0)

def quiescent_FfnNormBackward [hFfnNormBackward : Cert.FfnNormBackward.Facts] : Prop :=
  ∀ (m : (ℓ : Loc Cert.FfnNormBackward.nD Cert.FfnNormBackward.τ Cert.FfnNormBackward.sig) → Buf (Elt Bits) ℓ) (g : Dev Cert.FfnNormBackward.nD → PrngReg), Pre_FfnNormBackward m →
    θ_run (Cert.FfnNormBackward.defs (F := Bits)) (onTc (τ := Cert.FfnNormBackward.τ) (Cert.FfnNormBackward.main (F := Bits))) ⟨m, fun _ => 0, g⟩ (fun r => (∀ c : Dev Cert.FfnNormBackward.nD,
      r.2.mem ((c.tc : Thread Cert.FfnNormBackward.nD Cert.FfnNormBackward.τ).loc Cert.FfnNormBackward.main_arg0) = m ((c.tc : Thread Cert.FfnNormBackward.nD Cert.FfnNormBackward.τ).loc Cert.FfnNormBackward.main_arg0)
      ∧ r.2.mem ((c.tc : Thread Cert.FfnNormBackward.nD Cert.FfnNormBackward.τ).loc Cert.FfnNormBackward.main_arg1) = m ((c.tc : Thread Cert.FfnNormBackward.nD Cert.FfnNormBackward.τ).loc Cert.FfnNormBackward.main_arg1)
      ∧ r.2.mem ((c.tc : Thread Cert.FfnNormBackward.nD Cert.FfnNormBackward.τ).loc Cert.FfnNormBackward.main_arg2) = m ((c.tc : Thread Cert.FfnNormBackward.nD Cert.FfnNormBackward.τ).loc Cert.FfnNormBackward.main_arg2)
      ∧ r.2.mem ((c.tc : Thread Cert.FfnNormBackward.nD Cert.FfnNormBackward.τ).loc Cert.FfnNormBackward.main_arg3) = m ((c.tc : Thread Cert.FfnNormBackward.nD Cert.FfnNormBackward.τ).loc Cert.FfnNormBackward.main_arg3)
      ∧ r.2.mem ((c.tc : Thread Cert.FfnNormBackward.nD Cert.FfnNormBackward.τ).loc Cert.FfnNormBackward.main_arg4) = m ((c.tc : Thread Cert.FfnNormBackward.nD Cert.FfnNormBackward.τ).loc Cert.FfnNormBackward.main_arg4))
      ∧ r.2.sem = fun _ => 0)

def quiescent_FfnNormBackwardIdeal [hFfnNormBackwardIdeal : Cert.FfnNormBackwardIdeal.Facts] : Prop :=
  ∀ (m : (ℓ : Loc Cert.FfnNormBackwardIdeal.nD Cert.FfnNormBackwardIdeal.τ Cert.FfnNormBackwardIdeal.sig) → Buf (Elt Ideal) ℓ) (g : Dev Cert.FfnNormBackwardIdeal.nD → PrngReg), Pre_FfnNormBackwardIdeal m →
    θ_run (Cert.FfnNormBackwardIdeal.defs (F := Ideal)) (onTc (τ := Cert.FfnNormBackwardIdeal.τ) (Cert.FfnNormBackwardIdeal.main (F := Ideal))) ⟨m, fun _ => 0, g⟩ (fun r => (∀ c : Dev Cert.FfnNormBackwardIdeal.nD,
      r.2.mem ((c.tc : Thread Cert.FfnNormBackwardIdeal.nD Cert.FfnNormBackwardIdeal.τ).loc Cert.FfnNormBackwardIdeal.main_arg0) = m ((c.tc : Thread Cert.FfnNormBackwardIdeal.nD Cert.FfnNormBackwardIdeal.τ).loc Cert.FfnNormBackwardIdeal.main_arg0)
      ∧ r.2.mem ((c.tc : Thread Cert.FfnNormBackwardIdeal.nD Cert.FfnNormBackwardIdeal.τ).loc Cert.FfnNormBackwardIdeal.main_arg1) = m ((c.tc : Thread Cert.FfnNormBackwardIdeal.nD Cert.FfnNormBackwardIdeal.τ).loc Cert.FfnNormBackwardIdeal.main_arg1)
      ∧ r.2.mem ((c.tc : Thread Cert.FfnNormBackwardIdeal.nD Cert.FfnNormBackwardIdeal.τ).loc Cert.FfnNormBackwardIdeal.main_arg2) = m ((c.tc : Thread Cert.FfnNormBackwardIdeal.nD Cert.FfnNormBackwardIdeal.τ).loc Cert.FfnNormBackwardIdeal.main_arg2)
      ∧ r.2.mem ((c.tc : Thread Cert.FfnNormBackwardIdeal.nD Cert.FfnNormBackwardIdeal.τ).loc Cert.FfnNormBackwardIdeal.main_arg3) = m ((c.tc : Thread Cert.FfnNormBackwardIdeal.nD Cert.FfnNormBackwardIdeal.τ).loc Cert.FfnNormBackwardIdeal.main_arg3)
      ∧ r.2.mem ((c.tc : Thread Cert.FfnNormBackwardIdeal.nD Cert.FfnNormBackwardIdeal.τ).loc Cert.FfnNormBackwardIdeal.main_arg4) = m ((c.tc : Thread Cert.FfnNormBackwardIdeal.nD Cert.FfnNormBackwardIdeal.τ).loc Cert.FfnNormBackwardIdeal.main_arg4))
      ∧ r.2.sem = fun _ => 0)

def quiescent_FfnNormBackwardRefIdeal [hFfnNormBackwardRefIdeal : Cert.FfnNormBackwardRefIdeal.Facts] : Prop :=
  ∀ (m : (ℓ : Loc Cert.FfnNormBackwardRefIdeal.nD Cert.FfnNormBackwardRefIdeal.τ Cert.FfnNormBackwardRefIdeal.sig) → Buf (Elt Ideal) ℓ) (g : Dev Cert.FfnNormBackwardRefIdeal.nD → PrngReg), Pre_FfnNormBackwardRefIdeal m →
    θ_run (Cert.FfnNormBackwardRefIdeal.defs (F := Ideal)) (onTc (τ := Cert.FfnNormBackwardRefIdeal.τ) (Cert.FfnNormBackwardRefIdeal.main (F := Ideal))) ⟨m, fun _ => 0, g⟩ (fun r => (∀ c : Dev Cert.FfnNormBackwardRefIdeal.nD,
      r.2.mem ((c.tc : Thread Cert.FfnNormBackwardRefIdeal.nD Cert.FfnNormBackwardRefIdeal.τ).loc Cert.FfnNormBackwardRefIdeal.main_arg0) = m ((c.tc : Thread Cert.FfnNormBackwardRefIdeal.nD Cert.FfnNormBackwardRefIdeal.τ).loc Cert.FfnNormBackwardRefIdeal.main_arg0)
      ∧ r.2.mem ((c.tc : Thread Cert.FfnNormBackwardRefIdeal.nD Cert.FfnNormBackwardRefIdeal.τ).loc Cert.FfnNormBackwardRefIdeal.main_arg1) = m ((c.tc : Thread Cert.FfnNormBackwardRefIdeal.nD Cert.FfnNormBackwardRefIdeal.τ).loc Cert.FfnNormBackwardRefIdeal.main_arg1)
      ∧ r.2.mem ((c.tc : Thread Cert.FfnNormBackwardRefIdeal.nD Cert.FfnNormBackwardRefIdeal.τ).loc Cert.FfnNormBackwardRefIdeal.main_arg2) = m ((c.tc : Thread Cert.FfnNormBackwardRefIdeal.nD Cert.FfnNormBackwardRefIdeal.τ).loc Cert.FfnNormBackwardRefIdeal.main_arg2)
      ∧ r.2.mem ((c.tc : Thread Cert.FfnNormBackwardRefIdeal.nD Cert.FfnNormBackwardRefIdeal.τ).loc Cert.FfnNormBackwardRefIdeal.main_arg3) = m ((c.tc : Thread Cert.FfnNormBackwardRefIdeal.nD Cert.FfnNormBackwardRefIdeal.τ).loc Cert.FfnNormBackwardRefIdeal.main_arg3)
      ∧ r.2.mem ((c.tc : Thread Cert.FfnNormBackwardRefIdeal.nD Cert.FfnNormBackwardRefIdeal.τ).loc Cert.FfnNormBackwardRefIdeal.main_arg4) = m ((c.tc : Thread Cert.FfnNormBackwardRefIdeal.nD Cert.FfnNormBackwardRefIdeal.τ).loc Cert.FfnNormBackwardRefIdeal.main_arg4))
      ∧ r.2.sem = fun _ => 0)

def quiescent_GradPleProj [hGradPleProj : Cert.GradPleProj.Facts] : Prop :=
  ∀ (m : (ℓ : Loc Cert.GradPleProj.nD Cert.GradPleProj.τ Cert.GradPleProj.sig) → Buf (Elt Bits) ℓ) (g : Dev Cert.GradPleProj.nD → PrngReg), Pre_GradPleProj m →
    θ_run (Cert.GradPleProj.defs (F := Bits)) (onTc (τ := Cert.GradPleProj.τ) (Cert.GradPleProj.main (F := Bits))) ⟨m, fun _ => 0, g⟩ (fun r => (∀ c : Dev Cert.GradPleProj.nD,
      r.2.mem ((c.tc : Thread Cert.GradPleProj.nD Cert.GradPleProj.τ).loc Cert.GradPleProj.main_arg0) = m ((c.tc : Thread Cert.GradPleProj.nD Cert.GradPleProj.τ).loc Cert.GradPleProj.main_arg0)
      ∧ r.2.mem ((c.tc : Thread Cert.GradPleProj.nD Cert.GradPleProj.τ).loc Cert.GradPleProj.main_arg1) = m ((c.tc : Thread Cert.GradPleProj.nD Cert.GradPleProj.τ).loc Cert.GradPleProj.main_arg1))
      ∧ r.2.sem = fun _ => 0)

def quiescent_GradPleProjIdeal [hGradPleProjIdeal : Cert.GradPleProjIdeal.Facts] : Prop :=
  ∀ (m : (ℓ : Loc Cert.GradPleProjIdeal.nD Cert.GradPleProjIdeal.τ Cert.GradPleProjIdeal.sig) → Buf (Elt Ideal) ℓ) (g : Dev Cert.GradPleProjIdeal.nD → PrngReg), Pre_GradPleProjIdeal m →
    θ_run (Cert.GradPleProjIdeal.defs (F := Ideal)) (onTc (τ := Cert.GradPleProjIdeal.τ) (Cert.GradPleProjIdeal.main (F := Ideal))) ⟨m, fun _ => 0, g⟩ (fun r => (∀ c : Dev Cert.GradPleProjIdeal.nD,
      r.2.mem ((c.tc : Thread Cert.GradPleProjIdeal.nD Cert.GradPleProjIdeal.τ).loc Cert.GradPleProjIdeal.main_arg0) = m ((c.tc : Thread Cert.GradPleProjIdeal.nD Cert.GradPleProjIdeal.τ).loc Cert.GradPleProjIdeal.main_arg0)
      ∧ r.2.mem ((c.tc : Thread Cert.GradPleProjIdeal.nD Cert.GradPleProjIdeal.τ).loc Cert.GradPleProjIdeal.main_arg1) = m ((c.tc : Thread Cert.GradPleProjIdeal.nD Cert.GradPleProjIdeal.τ).loc Cert.GradPleProjIdeal.main_arg1))
      ∧ r.2.sem = fun _ => 0)

def quiescent_GradPleProjRefIdeal [hGradPleProjRefIdeal : Cert.GradPleProjRefIdeal.Facts] : Prop :=
  ∀ (m : (ℓ : Loc Cert.GradPleProjRefIdeal.nD Cert.GradPleProjRefIdeal.τ Cert.GradPleProjRefIdeal.sig) → Buf (Elt Ideal) ℓ) (g : Dev Cert.GradPleProjRefIdeal.nD → PrngReg), Pre_GradPleProjRefIdeal m →
    θ_run (Cert.GradPleProjRefIdeal.defs (F := Ideal)) (onTc (τ := Cert.GradPleProjRefIdeal.τ) (Cert.GradPleProjRefIdeal.main (F := Ideal))) ⟨m, fun _ => 0, g⟩ (fun r => (∀ c : Dev Cert.GradPleProjRefIdeal.nD,
      r.2.mem ((c.tc : Thread Cert.GradPleProjRefIdeal.nD Cert.GradPleProjRefIdeal.τ).loc Cert.GradPleProjRefIdeal.main_arg0) = m ((c.tc : Thread Cert.GradPleProjRefIdeal.nD Cert.GradPleProjRefIdeal.τ).loc Cert.GradPleProjRefIdeal.main_arg0)
      ∧ r.2.mem ((c.tc : Thread Cert.GradPleProjRefIdeal.nD Cert.GradPleProjRefIdeal.τ).loc Cert.GradPleProjRefIdeal.main_arg1) = m ((c.tc : Thread Cert.GradPleProjRefIdeal.nD Cert.GradPleProjRefIdeal.τ).loc Cert.GradPleProjRefIdeal.main_arg1))
      ∧ r.2.sem = fun _ => 0)

def quiescent_GradPleGate [hGradPleGate : Cert.GradPleGate.Facts] : Prop :=
  ∀ (m : (ℓ : Loc Cert.GradPleGate.nD Cert.GradPleGate.τ Cert.GradPleGate.sig) → Buf (Elt Bits) ℓ) (g : Dev Cert.GradPleGate.nD → PrngReg), Pre_GradPleGate m →
    θ_run (Cert.GradPleGate.defs (F := Bits)) (onTc (τ := Cert.GradPleGate.τ) (Cert.GradPleGate.main (F := Bits))) ⟨m, fun _ => 0, g⟩ (fun r => (∀ c : Dev Cert.GradPleGate.nD,
      r.2.mem ((c.tc : Thread Cert.GradPleGate.nD Cert.GradPleGate.τ).loc Cert.GradPleGate.main_arg0) = m ((c.tc : Thread Cert.GradPleGate.nD Cert.GradPleGate.τ).loc Cert.GradPleGate.main_arg0)
      ∧ r.2.mem ((c.tc : Thread Cert.GradPleGate.nD Cert.GradPleGate.τ).loc Cert.GradPleGate.main_arg1) = m ((c.tc : Thread Cert.GradPleGate.nD Cert.GradPleGate.τ).loc Cert.GradPleGate.main_arg1))
      ∧ r.2.sem = fun _ => 0)

def quiescent_GradPleGateIdeal [hGradPleGateIdeal : Cert.GradPleGateIdeal.Facts] : Prop :=
  ∀ (m : (ℓ : Loc Cert.GradPleGateIdeal.nD Cert.GradPleGateIdeal.τ Cert.GradPleGateIdeal.sig) → Buf (Elt Ideal) ℓ) (g : Dev Cert.GradPleGateIdeal.nD → PrngReg), Pre_GradPleGateIdeal m →
    θ_run (Cert.GradPleGateIdeal.defs (F := Ideal)) (onTc (τ := Cert.GradPleGateIdeal.τ) (Cert.GradPleGateIdeal.main (F := Ideal))) ⟨m, fun _ => 0, g⟩ (fun r => (∀ c : Dev Cert.GradPleGateIdeal.nD,
      r.2.mem ((c.tc : Thread Cert.GradPleGateIdeal.nD Cert.GradPleGateIdeal.τ).loc Cert.GradPleGateIdeal.main_arg0) = m ((c.tc : Thread Cert.GradPleGateIdeal.nD Cert.GradPleGateIdeal.τ).loc Cert.GradPleGateIdeal.main_arg0)
      ∧ r.2.mem ((c.tc : Thread Cert.GradPleGateIdeal.nD Cert.GradPleGateIdeal.τ).loc Cert.GradPleGateIdeal.main_arg1) = m ((c.tc : Thread Cert.GradPleGateIdeal.nD Cert.GradPleGateIdeal.τ).loc Cert.GradPleGateIdeal.main_arg1))
      ∧ r.2.sem = fun _ => 0)

def quiescent_GradPleGateRefIdeal [hGradPleGateRefIdeal : Cert.GradPleGateRefIdeal.Facts] : Prop :=
  ∀ (m : (ℓ : Loc Cert.GradPleGateRefIdeal.nD Cert.GradPleGateRefIdeal.τ Cert.GradPleGateRefIdeal.sig) → Buf (Elt Ideal) ℓ) (g : Dev Cert.GradPleGateRefIdeal.nD → PrngReg), Pre_GradPleGateRefIdeal m →
    θ_run (Cert.GradPleGateRefIdeal.defs (F := Ideal)) (onTc (τ := Cert.GradPleGateRefIdeal.τ) (Cert.GradPleGateRefIdeal.main (F := Ideal))) ⟨m, fun _ => 0, g⟩ (fun r => (∀ c : Dev Cert.GradPleGateRefIdeal.nD,
      r.2.mem ((c.tc : Thread Cert.GradPleGateRefIdeal.nD Cert.GradPleGateRefIdeal.τ).loc Cert.GradPleGateRefIdeal.main_arg0) = m ((c.tc : Thread Cert.GradPleGateRefIdeal.nD Cert.GradPleGateRefIdeal.τ).loc Cert.GradPleGateRefIdeal.main_arg0)
      ∧ r.2.mem ((c.tc : Thread Cert.GradPleGateRefIdeal.nD Cert.GradPleGateRefIdeal.τ).loc Cert.GradPleGateRefIdeal.main_arg1) = m ((c.tc : Thread Cert.GradPleGateRefIdeal.nD Cert.GradPleGateRefIdeal.τ).loc Cert.GradPleGateRefIdeal.main_arg1))
      ∧ r.2.sem = fun _ => 0)

def quiescent_GradFfnOut [hGradFfnOut : Cert.GradFfnOut.Facts] : Prop :=
  ∀ (m : (ℓ : Loc Cert.GradFfnOut.nD Cert.GradFfnOut.τ Cert.GradFfnOut.sig) → Buf (Elt Bits) ℓ) (g : Dev Cert.GradFfnOut.nD → PrngReg), Pre_GradFfnOut m →
    θ_run (Cert.GradFfnOut.defs (F := Bits)) (onTc (τ := Cert.GradFfnOut.τ) (Cert.GradFfnOut.main (F := Bits))) ⟨m, fun _ => 0, g⟩ (fun r => (∀ c : Dev Cert.GradFfnOut.nD,
      r.2.mem ((c.tc : Thread Cert.GradFfnOut.nD Cert.GradFfnOut.τ).loc Cert.GradFfnOut.main_arg0) = m ((c.tc : Thread Cert.GradFfnOut.nD Cert.GradFfnOut.τ).loc Cert.GradFfnOut.main_arg0)
      ∧ r.2.mem ((c.tc : Thread Cert.GradFfnOut.nD Cert.GradFfnOut.τ).loc Cert.GradFfnOut.main_arg1) = m ((c.tc : Thread Cert.GradFfnOut.nD Cert.GradFfnOut.τ).loc Cert.GradFfnOut.main_arg1))
      ∧ r.2.sem = fun _ => 0)

def quiescent_GradFfnOutIdeal [hGradFfnOutIdeal : Cert.GradFfnOutIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg), Pre_GradFfnOutIdeal m →
    θ_run (Cert.GradFfnOutIdeal.defs (F := Ideal)) (onTc (τ := Cert.GradFfnOutIdeal.τ) (Cert.GradFfnOutIdeal.main (F := Ideal))) ⟨m, fun _ => 0, g⟩ (fun r => (∀ c : Dev Cert.GradFfnOutIdeal.nD,
      r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
      ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ r.2.sem = fun _ => 0)

def quiescent_GradFfnOutRefIdeal [hGradFfnOutRefIdeal : Cert.GradFfnOutRefIdeal.Facts] : Prop :=
  ∀ (m : (ℓ : Loc Cert.GradFfnOutRefIdeal.nD Cert.GradFfnOutRefIdeal.τ Cert.GradFfnOutRefIdeal.sig) → Buf (Elt Ideal) ℓ) (g : Dev Cert.GradFfnOutRefIdeal.nD → PrngReg), Pre_GradFfnOutRefIdeal m →
    θ_run (Cert.GradFfnOutRefIdeal.defs (F := Ideal)) (onTc (τ := Cert.GradFfnOutRefIdeal.τ) (Cert.GradFfnOutRefIdeal.main (F := Ideal))) ⟨m, fun _ => 0, g⟩ (fun r => (∀ c : Dev Cert.GradFfnOutRefIdeal.nD,
      r.2.mem ((c.tc : Thread Cert.GradFfnOutRefIdeal.nD Cert.GradFfnOutRefIdeal.τ).loc Cert.GradFfnOutRefIdeal.main_arg0) = m ((c.tc : Thread Cert.GradFfnOutRefIdeal.nD Cert.GradFfnOutRefIdeal.τ).loc Cert.GradFfnOutRefIdeal.main_arg0)
      ∧ r.2.mem ((c.tc : Thread Cert.GradFfnOutRefIdeal.nD Cert.GradFfnOutRefIdeal.τ).loc Cert.GradFfnOutRefIdeal.main_arg1) = m ((c.tc : Thread Cert.GradFfnOutRefIdeal.nD Cert.GradFfnOutRefIdeal.τ).loc Cert.GradFfnOutRefIdeal.main_arg1))
      ∧ r.2.sem = fun _ => 0)

def quiescent_GradFfnIn [hGradFfnIn : Cert.GradFfnIn.Facts] : Prop :=
  ∀ (m : (ℓ : Loc Cert.GradFfnIn.nD Cert.GradFfnIn.τ Cert.GradFfnIn.sig) → Buf (Elt Bits) ℓ) (g : Dev Cert.GradFfnIn.nD → PrngReg), Pre_GradFfnIn m →
    θ_run (Cert.GradFfnIn.defs (F := Bits)) (onTc (τ := Cert.GradFfnIn.τ) (Cert.GradFfnIn.main (F := Bits))) ⟨m, fun _ => 0, g⟩ (fun r => (∀ c : Dev Cert.GradFfnIn.nD,
      r.2.mem ((c.tc : Thread Cert.GradFfnIn.nD Cert.GradFfnIn.τ).loc Cert.GradFfnIn.main_arg0) = m ((c.tc : Thread Cert.GradFfnIn.nD Cert.GradFfnIn.τ).loc Cert.GradFfnIn.main_arg0)
      ∧ r.2.mem ((c.tc : Thread Cert.GradFfnIn.nD Cert.GradFfnIn.τ).loc Cert.GradFfnIn.main_arg1) = m ((c.tc : Thread Cert.GradFfnIn.nD Cert.GradFfnIn.τ).loc Cert.GradFfnIn.main_arg1))
      ∧ r.2.sem = fun _ => 0)

def quiescent_GradFfnInIdeal [hGradFfnInIdeal : Cert.GradFfnInIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg), Pre_GradFfnInIdeal m →
    θ_run (Cert.GradFfnInIdeal.defs (F := Ideal)) (onTc (τ := Cert.GradFfnInIdeal.τ) (Cert.GradFfnInIdeal.main (F := Ideal))) ⟨m, fun _ => 0, g⟩ (fun r => (∀ c : Dev Cert.GradFfnInIdeal.nD,
      r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
      ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ r.2.sem = fun _ => 0)

def quiescent_GradFfnInRefIdeal [hGradFfnInRefIdeal : Cert.GradFfnInRefIdeal.Facts] : Prop :=
  ∀ (m : (ℓ : Loc Cert.GradFfnInRefIdeal.nD Cert.GradFfnInRefIdeal.τ Cert.GradFfnInRefIdeal.sig) → Buf (Elt Ideal) ℓ) (g : Dev Cert.GradFfnInRefIdeal.nD → PrngReg), Pre_GradFfnInRefIdeal m →
    θ_run (Cert.GradFfnInRefIdeal.defs (F := Ideal)) (onTc (τ := Cert.GradFfnInRefIdeal.τ) (Cert.GradFfnInRefIdeal.main (F := Ideal))) ⟨m, fun _ => 0, g⟩ (fun r => (∀ c : Dev Cert.GradFfnInRefIdeal.nD,
      r.2.mem ((c.tc : Thread Cert.GradFfnInRefIdeal.nD Cert.GradFfnInRefIdeal.τ).loc Cert.GradFfnInRefIdeal.main_arg0) = m ((c.tc : Thread Cert.GradFfnInRefIdeal.nD Cert.GradFfnInRefIdeal.τ).loc Cert.GradFfnInRefIdeal.main_arg0)
      ∧ r.2.mem ((c.tc : Thread Cert.GradFfnInRefIdeal.nD Cert.GradFfnInRefIdeal.τ).loc Cert.GradFfnInRefIdeal.main_arg1) = m ((c.tc : Thread Cert.GradFfnInRefIdeal.nD Cert.GradFfnInRefIdeal.τ).loc Cert.GradFfnInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradGates [hGradGates : Cert.GradGates.Facts] : Prop :=
  ∀ (m : (ℓ : Loc Cert.GradGates.nD Cert.GradGates.τ Cert.GradGates.sig) → Buf (Elt Bits) ℓ) (g : Dev Cert.GradGates.nD → PrngReg), Pre_GradGates m →
    θ_run (Cert.GradGates.defs (F := Bits)) (onTc (τ := Cert.GradGates.τ) (Cert.GradGates.main (F := Bits))) ⟨m, fun _ => 0, g⟩ (fun r => (∀ c : Dev Cert.GradGates.nD,
      r.2.mem ((c.tc : Thread Cert.GradGates.nD Cert.GradGates.τ).loc Cert.GradGates.main_arg0) = m ((c.tc : Thread Cert.GradGates.nD Cert.GradGates.τ).loc Cert.GradGates.main_arg0)
      ∧ r.2.mem ((c.tc : Thread Cert.GradGates.nD Cert.GradGates.τ).loc Cert.GradGates.main_arg1) = m ((c.tc : Thread Cert.GradGates.nD Cert.GradGates.τ).loc Cert.GradGates.main_arg1))
      ∧ r.2.sem = fun _ => 0)

def quiescent_GradGatesIdeal [hGradGatesIdeal : Cert.GradGatesIdeal.Facts] : Prop :=
  ∀ (m : (ℓ : Loc Cert.GradGatesIdeal.nD Cert.GradGatesIdeal.τ Cert.GradGatesIdeal.sig) → Buf (Elt Ideal) ℓ) (g : Dev Cert.GradGatesIdeal.nD → PrngReg), Pre_GradGatesIdeal m →
    θ_run (Cert.GradGatesIdeal.defs (F := Ideal)) (onTc (τ := Cert.GradGatesIdeal.τ) (Cert.GradGatesIdeal.main (F := Ideal))) ⟨m, fun _ => 0, g⟩ (fun r => (∀ c : Dev Cert.GradGatesIdeal.nD,
      r.2.mem ((c.tc : Thread Cert.GradGatesIdeal.nD Cert.GradGatesIdeal.τ).loc Cert.GradGatesIdeal.main_arg0) = m ((c.tc : Thread Cert.GradGatesIdeal.nD Cert.GradGatesIdeal.τ).loc Cert.GradGatesIdeal.main_arg0)
      ∧ r.2.mem ((c.tc : Thread Cert.GradGatesIdeal.nD Cert.GradGatesIdeal.τ).loc Cert.GradGatesIdeal.main_arg1) = m ((c.tc : Thread Cert.GradGatesIdeal.nD Cert.GradGatesIdeal.τ).loc Cert.GradGatesIdeal.main_arg1))
      ∧ r.2.sem = fun _ => 0)

def quiescent_GradGatesRefIdeal [hGradGatesRefIdeal : Cert.GradGatesRefIdeal.Facts] : Prop :=
  ∀ (m : (ℓ : Loc Cert.GradGatesRefIdeal.nD Cert.GradGatesRefIdeal.τ Cert.GradGatesRefIdeal.sig) → Buf (Elt Ideal) ℓ) (g : Dev Cert.GradGatesRefIdeal.nD → PrngReg), Pre_GradGatesRefIdeal m →
    θ_run (Cert.GradGatesRefIdeal.defs (F := Ideal)) (onTc (τ := Cert.GradGatesRefIdeal.τ) (Cert.GradGatesRefIdeal.main (F := Ideal))) ⟨m, fun _ => 0, g⟩ (fun r => (∀ c : Dev Cert.GradGatesRefIdeal.nD,
      r.2.mem ((c.tc : Thread Cert.GradGatesRefIdeal.nD Cert.GradGatesRefIdeal.τ).loc Cert.GradGatesRefIdeal.main_arg0) = m ((c.tc : Thread Cert.GradGatesRefIdeal.nD Cert.GradGatesRefIdeal.τ).loc Cert.GradGatesRefIdeal.main_arg0)
      ∧ r.2.mem ((c.tc : Thread Cert.GradGatesRefIdeal.nD Cert.GradGatesRefIdeal.τ).loc Cert.GradGatesRefIdeal.main_arg1) = m ((c.tc : Thread Cert.GradGatesRefIdeal.nD Cert.GradGatesRefIdeal.τ).loc Cert.GradGatesRefIdeal.main_arg1))
      ∧ r.2.sem = fun _ => 0)

def quiescent_GradProjA [hGradProjA : Cert.GradProjA.Facts] : Prop :=
  ∀ (m : (ℓ : Loc Cert.GradProjA.nD Cert.GradProjA.τ Cert.GradProjA.sig) → Buf (Elt Bits) ℓ) (g : Dev Cert.GradProjA.nD → PrngReg), Pre_GradProjA m →
    θ_run (Cert.GradProjA.defs (F := Bits)) (onTc (τ := Cert.GradProjA.τ) (Cert.GradProjA.main (F := Bits))) ⟨m, fun _ => 0, g⟩ (fun r => (∀ c : Dev Cert.GradProjA.nD,
      r.2.mem ((c.tc : Thread Cert.GradProjA.nD Cert.GradProjA.τ).loc Cert.GradProjA.main_arg0) = m ((c.tc : Thread Cert.GradProjA.nD Cert.GradProjA.τ).loc Cert.GradProjA.main_arg0)
      ∧ r.2.mem ((c.tc : Thread Cert.GradProjA.nD Cert.GradProjA.τ).loc Cert.GradProjA.main_arg1) = m ((c.tc : Thread Cert.GradProjA.nD Cert.GradProjA.τ).loc Cert.GradProjA.main_arg1))
      ∧ r.2.sem = fun _ => 0)

def quiescent_GradProjAIdeal [hGradProjAIdeal : Cert.GradProjAIdeal.Facts] : Prop :=
  ∀ (m : (ℓ : Loc Cert.GradProjAIdeal.nD Cert.GradProjAIdeal.τ Cert.GradProjAIdeal.sig) → Buf (Elt Ideal) ℓ) (g : Dev Cert.GradProjAIdeal.nD → PrngReg), Pre_GradProjAIdeal m →
    θ_run (Cert.GradProjAIdeal.defs (F := Ideal)) (onTc (τ := Cert.GradProjAIdeal.τ) (Cert.GradProjAIdeal.main (F := Ideal))) ⟨m, fun _ => 0, g⟩ (fun r => (∀ c : Dev Cert.GradProjAIdeal.nD,
      r.2.mem ((c.tc : Thread Cert.GradProjAIdeal.nD Cert.GradProjAIdeal.τ).loc Cert.GradProjAIdeal.main_arg0) = m ((c.tc : Thread Cert.GradProjAIdeal.nD Cert.GradProjAIdeal.τ).loc Cert.GradProjAIdeal.main_arg0)
      ∧ r.2.mem ((c.tc : Thread Cert.GradProjAIdeal.nD Cert.GradProjAIdeal.τ).loc Cert.GradProjAIdeal.main_arg1) = m ((c.tc : Thread Cert.GradProjAIdeal.nD Cert.GradProjAIdeal.τ).loc Cert.GradProjAIdeal.main_arg1))
      ∧ r.2.sem = fun _ => 0)

def quiescent_GradProjARefIdeal [hGradProjARefIdeal : Cert.GradProjARefIdeal.Facts] : Prop :=
  ∀ (m : (ℓ : Loc Cert.GradProjARefIdeal.nD Cert.GradProjARefIdeal.τ Cert.GradProjARefIdeal.sig) → Buf (Elt Ideal) ℓ) (g : Dev Cert.GradProjARefIdeal.nD → PrngReg), Pre_GradProjARefIdeal m →
    θ_run (Cert.GradProjARefIdeal.defs (F := Ideal)) (onTc (τ := Cert.GradProjARefIdeal.τ) (Cert.GradProjARefIdeal.main (F := Ideal))) ⟨m, fun _ => 0, g⟩ (fun r => (∀ c : Dev Cert.GradProjARefIdeal.nD,
      r.2.mem ((c.tc : Thread Cert.GradProjARefIdeal.nD Cert.GradProjARefIdeal.τ).loc Cert.GradProjARefIdeal.main_arg0) = m ((c.tc : Thread Cert.GradProjARefIdeal.nD Cert.GradProjARefIdeal.τ).loc Cert.GradProjARefIdeal.main_arg0)
      ∧ r.2.mem ((c.tc : Thread Cert.GradProjARefIdeal.nD Cert.GradProjARefIdeal.τ).loc Cert.GradProjARefIdeal.main_arg1) = m ((c.tc : Thread Cert.GradProjARefIdeal.nD Cert.GradProjARefIdeal.τ).loc Cert.GradProjARefIdeal.main_arg1))
      ∧ r.2.sem = fun _ => 0)

def quiescent_GradProjQkv [hGradProjQkv : Cert.GradProjQkv.Facts] : Prop :=
  ∀ (m : (ℓ : Loc Cert.GradProjQkv.nD Cert.GradProjQkv.τ Cert.GradProjQkv.sig) → Buf (Elt Bits) ℓ) (g : Dev Cert.GradProjQkv.nD → PrngReg), Pre_GradProjQkv m →
    θ_run (Cert.GradProjQkv.defs (F := Bits)) (onTc (τ := Cert.GradProjQkv.τ) (Cert.GradProjQkv.main (F := Bits))) ⟨m, fun _ => 0, g⟩ (fun r => (∀ c : Dev Cert.GradProjQkv.nD,
      r.2.mem ((c.tc : Thread Cert.GradProjQkv.nD Cert.GradProjQkv.τ).loc Cert.GradProjQkv.main_arg0) = m ((c.tc : Thread Cert.GradProjQkv.nD Cert.GradProjQkv.τ).loc Cert.GradProjQkv.main_arg0)
      ∧ r.2.mem ((c.tc : Thread Cert.GradProjQkv.nD Cert.GradProjQkv.τ).loc Cert.GradProjQkv.main_arg1) = m ((c.tc : Thread Cert.GradProjQkv.nD Cert.GradProjQkv.τ).loc Cert.GradProjQkv.main_arg1))
      ∧ r.2.sem = fun _ => 0)

def quiescent_GradProjQkvIdeal [hGradProjQkvIdeal : Cert.GradProjQkvIdeal.Facts] : Prop :=
  ∀ (m : (ℓ : Loc Cert.GradProjQkvIdeal.nD Cert.GradProjQkvIdeal.τ Cert.GradProjQkvIdeal.sig) → Buf (Elt Ideal) ℓ) (g : Dev Cert.GradProjQkvIdeal.nD → PrngReg), Pre_GradProjQkvIdeal m →
    θ_run (Cert.GradProjQkvIdeal.defs (F := Ideal)) (onTc (τ := Cert.GradProjQkvIdeal.τ) (Cert.GradProjQkvIdeal.main (F := Ideal))) ⟨m, fun _ => 0, g⟩ (fun r => (∀ c : Dev Cert.GradProjQkvIdeal.nD,
      r.2.mem ((c.tc : Thread Cert.GradProjQkvIdeal.nD Cert.GradProjQkvIdeal.τ).loc Cert.GradProjQkvIdeal.main_arg0) = m ((c.tc : Thread Cert.GradProjQkvIdeal.nD Cert.GradProjQkvIdeal.τ).loc Cert.GradProjQkvIdeal.main_arg0)
      ∧ r.2.mem ((c.tc : Thread Cert.GradProjQkvIdeal.nD Cert.GradProjQkvIdeal.τ).loc Cert.GradProjQkvIdeal.main_arg1) = m ((c.tc : Thread Cert.GradProjQkvIdeal.nD Cert.GradProjQkvIdeal.τ).loc Cert.GradProjQkvIdeal.main_arg1))
      ∧ r.2.sem = fun _ => 0)

def quiescent_GradProjQkvRefIdeal [hGradProjQkvRefIdeal : Cert.GradProjQkvRefIdeal.Facts] : Prop :=
  ∀ (m : (ℓ : Loc Cert.GradProjQkvRefIdeal.nD Cert.GradProjQkvRefIdeal.τ Cert.GradProjQkvRefIdeal.sig) → Buf (Elt Ideal) ℓ) (g : Dev Cert.GradProjQkvRefIdeal.nD → PrngReg), Pre_GradProjQkvRefIdeal m →
    θ_run (Cert.GradProjQkvRefIdeal.defs (F := Ideal)) (onTc (τ := Cert.GradProjQkvRefIdeal.τ) (Cert.GradProjQkvRefIdeal.main (F := Ideal))) ⟨m, fun _ => 0, g⟩ (fun r => (∀ c : Dev Cert.GradProjQkvRefIdeal.nD,
      r.2.mem ((c.tc : Thread Cert.GradProjQkvRefIdeal.nD Cert.GradProjQkvRefIdeal.τ).loc Cert.GradProjQkvRefIdeal.main_arg0) = m ((c.tc : Thread Cert.GradProjQkvRefIdeal.nD Cert.GradProjQkvRefIdeal.τ).loc Cert.GradProjQkvRefIdeal.main_arg0)
      ∧ r.2.mem ((c.tc : Thread Cert.GradProjQkvRefIdeal.nD Cert.GradProjQkvRefIdeal.τ).loc Cert.GradProjQkvRefIdeal.main_arg1) = m ((c.tc : Thread Cert.GradProjQkvRefIdeal.nD Cert.GradProjQkvRefIdeal.τ).loc Cert.GradProjQkvRefIdeal.main_arg1))
      ∧ r.2.sem = fun _ => 0)

def quiescent_GradBranch0 [hGradBranch0 : Cert.GradBranch0.Facts] : Prop :=
  ∀ (m : (ℓ : Loc Cert.GradBranch0.nD Cert.GradBranch0.τ Cert.GradBranch0.sig) → Buf (Elt Bits) ℓ) (g : Dev Cert.GradBranch0.nD → PrngReg), Pre_GradBranch0 m →
    θ_run (Cert.GradBranch0.defs (F := Bits)) (onTc (τ := Cert.GradBranch0.τ) (Cert.GradBranch0.main (F := Bits))) ⟨m, fun _ => 0, g⟩ (fun r => (∀ c : Dev Cert.GradBranch0.nD,
      r.2.mem ((c.tc : Thread Cert.GradBranch0.nD Cert.GradBranch0.τ).loc Cert.GradBranch0.main_arg0) = m ((c.tc : Thread Cert.GradBranch0.nD Cert.GradBranch0.τ).loc Cert.GradBranch0.main_arg0)
      ∧ r.2.mem ((c.tc : Thread Cert.GradBranch0.nD Cert.GradBranch0.τ).loc Cert.GradBranch0.main_arg1) = m ((c.tc : Thread Cert.GradBranch0.nD Cert.GradBranch0.τ).loc Cert.GradBranch0.main_arg1))
      ∧ r.2.sem = fun _ => 0)

def quiescent_GradBranch0Ideal [hGradBranch0Ideal : Cert.GradBranch0Ideal.Facts] : Prop :=
  ∀ (m : (ℓ : Loc Cert.GradBranch0Ideal.nD Cert.GradBranch0Ideal.τ Cert.GradBranch0Ideal.sig) → Buf (Elt Ideal) ℓ) (g : Dev Cert.GradBranch0Ideal.nD → PrngReg), Pre_GradBranch0Ideal m →
    θ_run (Cert.GradBranch0Ideal.defs (F := Ideal)) (onTc (τ := Cert.GradBranch0Ideal.τ) (Cert.GradBranch0Ideal.main (F := Ideal))) ⟨m, fun _ => 0, g⟩ (fun r => (∀ c : Dev Cert.GradBranch0Ideal.nD,
      r.2.mem ((c.tc : Thread Cert.GradBranch0Ideal.nD Cert.GradBranch0Ideal.τ).loc Cert.GradBranch0Ideal.main_arg0) = m ((c.tc : Thread Cert.GradBranch0Ideal.nD Cert.GradBranch0Ideal.τ).loc Cert.GradBranch0Ideal.main_arg0)
      ∧ r.2.mem ((c.tc : Thread Cert.GradBranch0Ideal.nD Cert.GradBranch0Ideal.τ).loc Cert.GradBranch0Ideal.main_arg1) = m ((c.tc : Thread Cert.GradBranch0Ideal.nD Cert.GradBranch0Ideal.τ).loc Cert.GradBranch0Ideal.main_arg1))
      ∧ r.2.sem = fun _ => 0)

def quiescent_GradBranch0RefIdeal [hGradBranch0RefIdeal : Cert.GradBranch0RefIdeal.Facts] : Prop :=
  ∀ (m : (ℓ : Loc Cert.GradBranch0RefIdeal.nD Cert.GradBranch0RefIdeal.τ Cert.GradBranch0RefIdeal.sig) → Buf (Elt Ideal) ℓ) (g : Dev Cert.GradBranch0RefIdeal.nD → PrngReg), Pre_GradBranch0RefIdeal m →
    θ_run (Cert.GradBranch0RefIdeal.defs (F := Ideal)) (onTc (τ := Cert.GradBranch0RefIdeal.τ) (Cert.GradBranch0RefIdeal.main (F := Ideal))) ⟨m, fun _ => 0, g⟩ (fun r => (∀ c : Dev Cert.GradBranch0RefIdeal.nD,
      r.2.mem ((c.tc : Thread Cert.GradBranch0RefIdeal.nD Cert.GradBranch0RefIdeal.τ).loc Cert.GradBranch0RefIdeal.main_arg0) = m ((c.tc : Thread Cert.GradBranch0RefIdeal.nD Cert.GradBranch0RefIdeal.τ).loc Cert.GradBranch0RefIdeal.main_arg0)
      ∧ r.2.mem ((c.tc : Thread Cert.GradBranch0RefIdeal.nD Cert.GradBranch0RefIdeal.τ).loc Cert.GradBranch0RefIdeal.main_arg1) = m ((c.tc : Thread Cert.GradBranch0RefIdeal.nD Cert.GradBranch0RefIdeal.τ).loc Cert.GradBranch0RefIdeal.main_arg1))
      ∧ r.2.sem = fun _ => 0)

def quiescent_GradBranch1 [hGradBranch1 : Cert.GradBranch1.Facts] : Prop :=
  ∀ (m : (ℓ : Loc Cert.GradBranch1.nD Cert.GradBranch1.τ Cert.GradBranch1.sig) → Buf (Elt Bits) ℓ) (g : Dev Cert.GradBranch1.nD → PrngReg), Pre_GradBranch1 m →
    θ_run (Cert.GradBranch1.defs (F := Bits)) (onTc (τ := Cert.GradBranch1.τ) (Cert.GradBranch1.main (F := Bits))) ⟨m, fun _ => 0, g⟩ (fun r => (∀ c : Dev Cert.GradBranch1.nD,
      r.2.mem ((c.tc : Thread Cert.GradBranch1.nD Cert.GradBranch1.τ).loc Cert.GradBranch1.main_arg0) = m ((c.tc : Thread Cert.GradBranch1.nD Cert.GradBranch1.τ).loc Cert.GradBranch1.main_arg0)
      ∧ r.2.mem ((c.tc : Thread Cert.GradBranch1.nD Cert.GradBranch1.τ).loc Cert.GradBranch1.main_arg1) = m ((c.tc : Thread Cert.GradBranch1.nD Cert.GradBranch1.τ).loc Cert.GradBranch1.main_arg1))
      ∧ r.2.sem = fun _ => 0)

def quiescent_GradBranch1Ideal [hGradBranch1Ideal : Cert.GradBranch1Ideal.Facts] : Prop :=
  ∀ (m : (ℓ : Loc Cert.GradBranch1Ideal.nD Cert.GradBranch1Ideal.τ Cert.GradBranch1Ideal.sig) → Buf (Elt Ideal) ℓ) (g : Dev Cert.GradBranch1Ideal.nD → PrngReg), Pre_GradBranch1Ideal m →
    θ_run (Cert.GradBranch1Ideal.defs (F := Ideal)) (onTc (τ := Cert.GradBranch1Ideal.τ) (Cert.GradBranch1Ideal.main (F := Ideal))) ⟨m, fun _ => 0, g⟩ (fun r => (∀ c : Dev Cert.GradBranch1Ideal.nD,
      r.2.mem ((c.tc : Thread Cert.GradBranch1Ideal.nD Cert.GradBranch1Ideal.τ).loc Cert.GradBranch1Ideal.main_arg0) = m ((c.tc : Thread Cert.GradBranch1Ideal.nD Cert.GradBranch1Ideal.τ).loc Cert.GradBranch1Ideal.main_arg0)
      ∧ r.2.mem ((c.tc : Thread Cert.GradBranch1Ideal.nD Cert.GradBranch1Ideal.τ).loc Cert.GradBranch1Ideal.main_arg1) = m ((c.tc : Thread Cert.GradBranch1Ideal.nD Cert.GradBranch1Ideal.τ).loc Cert.GradBranch1Ideal.main_arg1))
      ∧ r.2.sem = fun _ => 0)

def quiescent_GradBranch1RefIdeal [hGradBranch1RefIdeal : Cert.GradBranch1RefIdeal.Facts] : Prop :=
  ∀ (m : (ℓ : Loc Cert.GradBranch1RefIdeal.nD Cert.GradBranch1RefIdeal.τ Cert.GradBranch1RefIdeal.sig) → Buf (Elt Ideal) ℓ) (g : Dev Cert.GradBranch1RefIdeal.nD → PrngReg), Pre_GradBranch1RefIdeal m →
    θ_run (Cert.GradBranch1RefIdeal.defs (F := Ideal)) (onTc (τ := Cert.GradBranch1RefIdeal.τ) (Cert.GradBranch1RefIdeal.main (F := Ideal))) ⟨m, fun _ => 0, g⟩ (fun r => (∀ c : Dev Cert.GradBranch1RefIdeal.nD,
      r.2.mem ((c.tc : Thread Cert.GradBranch1RefIdeal.nD Cert.GradBranch1RefIdeal.τ).loc Cert.GradBranch1RefIdeal.main_arg0) = m ((c.tc : Thread Cert.GradBranch1RefIdeal.nD Cert.GradBranch1RefIdeal.τ).loc Cert.GradBranch1RefIdeal.main_arg0)
      ∧ r.2.mem ((c.tc : Thread Cert.GradBranch1RefIdeal.nD Cert.GradBranch1RefIdeal.τ).loc Cert.GradBranch1RefIdeal.main_arg1) = m ((c.tc : Thread Cert.GradBranch1RefIdeal.nD Cert.GradBranch1RefIdeal.τ).loc Cert.GradBranch1RefIdeal.main_arg1))
      ∧ r.2.sem = fun _ => 0)

def quiescent_GradBranch2 [hGradBranch2 : Cert.GradBranch2.Facts] : Prop :=
  ∀ (m : (ℓ : Loc Cert.GradBranch2.nD Cert.GradBranch2.τ Cert.GradBranch2.sig) → Buf (Elt Bits) ℓ) (g : Dev Cert.GradBranch2.nD → PrngReg), Pre_GradBranch2 m →
    θ_run (Cert.GradBranch2.defs (F := Bits)) (onTc (τ := Cert.GradBranch2.τ) (Cert.GradBranch2.main (F := Bits))) ⟨m, fun _ => 0, g⟩ (fun r => (∀ c : Dev Cert.GradBranch2.nD,
      r.2.mem ((c.tc : Thread Cert.GradBranch2.nD Cert.GradBranch2.τ).loc Cert.GradBranch2.main_arg0) = m ((c.tc : Thread Cert.GradBranch2.nD Cert.GradBranch2.τ).loc Cert.GradBranch2.main_arg0)
      ∧ r.2.mem ((c.tc : Thread Cert.GradBranch2.nD Cert.GradBranch2.τ).loc Cert.GradBranch2.main_arg1) = m ((c.tc : Thread Cert.GradBranch2.nD Cert.GradBranch2.τ).loc Cert.GradBranch2.main_arg1))
      ∧ r.2.sem = fun _ => 0)

def quiescent_GradBranch2Ideal [hGradBranch2Ideal : Cert.GradBranch2Ideal.Facts] : Prop :=
  ∀ (m : (ℓ : Loc Cert.GradBranch2Ideal.nD Cert.GradBranch2Ideal.τ Cert.GradBranch2Ideal.sig) → Buf (Elt Ideal) ℓ) (g : Dev Cert.GradBranch2Ideal.nD → PrngReg), Pre_GradBranch2Ideal m →
    θ_run (Cert.GradBranch2Ideal.defs (F := Ideal)) (onTc (τ := Cert.GradBranch2Ideal.τ) (Cert.GradBranch2Ideal.main (F := Ideal))) ⟨m, fun _ => 0, g⟩ (fun r => (∀ c : Dev Cert.GradBranch2Ideal.nD,
      r.2.mem ((c.tc : Thread Cert.GradBranch2Ideal.nD Cert.GradBranch2Ideal.τ).loc Cert.GradBranch2Ideal.main_arg0) = m ((c.tc : Thread Cert.GradBranch2Ideal.nD Cert.GradBranch2Ideal.τ).loc Cert.GradBranch2Ideal.main_arg0)
      ∧ r.2.mem ((c.tc : Thread Cert.GradBranch2Ideal.nD Cert.GradBranch2Ideal.τ).loc Cert.GradBranch2Ideal.main_arg1) = m ((c.tc : Thread Cert.GradBranch2Ideal.nD Cert.GradBranch2Ideal.τ).loc Cert.GradBranch2Ideal.main_arg1))
      ∧ r.2.sem = fun _ => 0)

def quiescent_GradBranch2RefIdeal [hGradBranch2RefIdeal : Cert.GradBranch2RefIdeal.Facts] : Prop :=
  ∀ (m : (ℓ : Loc Cert.GradBranch2RefIdeal.nD Cert.GradBranch2RefIdeal.τ Cert.GradBranch2RefIdeal.sig) → Buf (Elt Ideal) ℓ) (g : Dev Cert.GradBranch2RefIdeal.nD → PrngReg), Pre_GradBranch2RefIdeal m →
    θ_run (Cert.GradBranch2RefIdeal.defs (F := Ideal)) (onTc (τ := Cert.GradBranch2RefIdeal.τ) (Cert.GradBranch2RefIdeal.main (F := Ideal))) ⟨m, fun _ => 0, g⟩ (fun r => (∀ c : Dev Cert.GradBranch2RefIdeal.nD,
      r.2.mem ((c.tc : Thread Cert.GradBranch2RefIdeal.nD Cert.GradBranch2RefIdeal.τ).loc Cert.GradBranch2RefIdeal.main_arg0) = m ((c.tc : Thread Cert.GradBranch2RefIdeal.nD Cert.GradBranch2RefIdeal.τ).loc Cert.GradBranch2RefIdeal.main_arg0)
      ∧ r.2.mem ((c.tc : Thread Cert.GradBranch2RefIdeal.nD Cert.GradBranch2RefIdeal.τ).loc Cert.GradBranch2RefIdeal.main_arg1) = m ((c.tc : Thread Cert.GradBranch2RefIdeal.nD Cert.GradBranch2RefIdeal.τ).loc Cert.GradBranch2RefIdeal.main_arg1))
      ∧ r.2.sem = fun _ => 0)

def quiescent_GradBranch3 [hGradBranch3 : Cert.GradBranch3.Facts] : Prop :=
  ∀ (m : (ℓ : Loc Cert.GradBranch3.nD Cert.GradBranch3.τ Cert.GradBranch3.sig) → Buf (Elt Bits) ℓ) (g : Dev Cert.GradBranch3.nD → PrngReg), Pre_GradBranch3 m →
    θ_run (Cert.GradBranch3.defs (F := Bits)) (onTc (τ := Cert.GradBranch3.τ) (Cert.GradBranch3.main (F := Bits))) ⟨m, fun _ => 0, g⟩ (fun r => (∀ c : Dev Cert.GradBranch3.nD,
      r.2.mem ((c.tc : Thread Cert.GradBranch3.nD Cert.GradBranch3.τ).loc Cert.GradBranch3.main_arg0) = m ((c.tc : Thread Cert.GradBranch3.nD Cert.GradBranch3.τ).loc Cert.GradBranch3.main_arg0)
      ∧ r.2.mem ((c.tc : Thread Cert.GradBranch3.nD Cert.GradBranch3.τ).loc Cert.GradBranch3.main_arg1) = m ((c.tc : Thread Cert.GradBranch3.nD Cert.GradBranch3.τ).loc Cert.GradBranch3.main_arg1))
      ∧ r.2.sem = fun _ => 0)

def quiescent_GradBranch3Ideal [hGradBranch3Ideal : Cert.GradBranch3Ideal.Facts] : Prop :=
  ∀ (m : (ℓ : Loc Cert.GradBranch3Ideal.nD Cert.GradBranch3Ideal.τ Cert.GradBranch3Ideal.sig) → Buf (Elt Ideal) ℓ) (g : Dev Cert.GradBranch3Ideal.nD → PrngReg), Pre_GradBranch3Ideal m →
    θ_run (Cert.GradBranch3Ideal.defs (F := Ideal)) (onTc (τ := Cert.GradBranch3Ideal.τ) (Cert.GradBranch3Ideal.main (F := Ideal))) ⟨m, fun _ => 0, g⟩ (fun r => (∀ c : Dev Cert.GradBranch3Ideal.nD,
      r.2.mem ((c.tc : Thread Cert.GradBranch3Ideal.nD Cert.GradBranch3Ideal.τ).loc Cert.GradBranch3Ideal.main_arg0) = m ((c.tc : Thread Cert.GradBranch3Ideal.nD Cert.GradBranch3Ideal.τ).loc Cert.GradBranch3Ideal.main_arg0)
      ∧ r.2.mem ((c.tc : Thread Cert.GradBranch3Ideal.nD Cert.GradBranch3Ideal.τ).loc Cert.GradBranch3Ideal.main_arg1) = m ((c.tc : Thread Cert.GradBranch3Ideal.nD Cert.GradBranch3Ideal.τ).loc Cert.GradBranch3Ideal.main_arg1))
      ∧ r.2.sem = fun _ => 0)

def quiescent_GradBranch3RefIdeal [hGradBranch3RefIdeal : Cert.GradBranch3RefIdeal.Facts] : Prop :=
  ∀ (m : (ℓ : Loc Cert.GradBranch3RefIdeal.nD Cert.GradBranch3RefIdeal.τ Cert.GradBranch3RefIdeal.sig) → Buf (Elt Ideal) ℓ) (g : Dev Cert.GradBranch3RefIdeal.nD → PrngReg), Pre_GradBranch3RefIdeal m →
    θ_run (Cert.GradBranch3RefIdeal.defs (F := Ideal)) (onTc (τ := Cert.GradBranch3RefIdeal.τ) (Cert.GradBranch3RefIdeal.main (F := Ideal))) ⟨m, fun _ => 0, g⟩ (fun r => (∀ c : Dev Cert.GradBranch3RefIdeal.nD,
      r.2.mem ((c.tc : Thread Cert.GradBranch3RefIdeal.nD Cert.GradBranch3RefIdeal.τ).loc Cert.GradBranch3RefIdeal.main_arg0) = m ((c.tc : Thread Cert.GradBranch3RefIdeal.nD Cert.GradBranch3RefIdeal.τ).loc Cert.GradBranch3RefIdeal.main_arg0)
      ∧ r.2.mem ((c.tc : Thread Cert.GradBranch3RefIdeal.nD Cert.GradBranch3RefIdeal.τ).loc Cert.GradBranch3RefIdeal.main_arg1) = m ((c.tc : Thread Cert.GradBranch3RefIdeal.nD Cert.GradBranch3RefIdeal.τ).loc Cert.GradBranch3RefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1)
      ∧ r.2.mem ((c.tc : Thread Cert.ProjQkv.nD Cert.ProjQkv.τ).loc Cert.ProjQkv.main_arg2) = m ((c.tc : Thread Cert.ProjQkv.nD Cert.ProjQkv.τ).loc Cert.ProjQkv.main_arg2))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
      ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1)
      ∧ r.2.mem ((c.tc : Thread Cert.ProjQkvRefIdeal.nD Cert.ProjQkvRefIdeal.τ).loc Cert.ProjQkvRefIdeal.main_arg2) = m ((c.tc : Thread Cert.ProjQkvRefIdeal.nD Cert.ProjQkvRefIdeal.τ).loc Cert.ProjQkvRefIdeal.main_arg2))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1)
      ∧ r.2.mem ((c.tc : Thread Cert.ProjGates.nD Cert.ProjGates.τ).loc Cert.ProjGates.main_arg2) = m ((c.tc : Thread Cert.ProjGates.nD Cert.ProjGates.τ).loc Cert.ProjGates.main_arg2))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1)
      ∧ r.2.mem ((c.tc : Thread Cert.ProjGatesIdeal.nD Cert.ProjGatesIdeal.τ).loc Cert.ProjGatesIdeal.main_arg2) = m ((c.tc : Thread Cert.ProjGatesIdeal.nD Cert.ProjGatesIdeal.τ).loc Cert.ProjGatesIdeal.main_arg2))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1)
      ∧ r.2.mem ((c.tc : Thread Cert.ProjGatesRefIdeal.nD Cert.ProjGatesRefIdeal.τ).loc Cert.ProjGatesRefIdeal.main_arg2) = m ((c.tc : Thread Cert.ProjGatesRefIdeal.nD Cert.ProjGatesRefIdeal.τ).loc Cert.ProjGatesRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1)
      ∧ r.2.mem ((c.tc : Thread Cert.PleGateRefIdeal.nD Cert.PleGateRefIdeal.τ).loc Cert.PleGateRefIdeal.main_arg2) = m ((c.tc : Thread Cert.PleGateRefIdeal.nD Cert.PleGateRefIdeal.τ).loc Cert.PleGateRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeBackward [hMergeBackward : Cert.MergeBackward.Facts] : Prop :=
  ∀ (m : (ℓ : Loc Cert.MergeBackward.nD Cert.MergeBackward.τ Cert.MergeBackward.sig) → Buf (Elt Bits) ℓ) (g : Dev Cert.MergeBackward.nD → PrngReg), Pre_MergeBackward m →
    θ_run (Cert.MergeBackward.defs (F := Bits)) (onTc (τ := Cert.MergeBackward.τ) (Cert.MergeBackward.main (F := Bits))) ⟨m, fun _ => 0, g⟩ (fun r => (∀ c : Dev Cert.MergeBackward.nD,
      r.2.mem ((c.tc : Thread Cert.MergeBackward.nD Cert.MergeBackward.τ).loc Cert.MergeBackward.main_arg0) = m ((c.tc : Thread Cert.MergeBackward.nD Cert.MergeBackward.τ).loc Cert.MergeBackward.main_arg0)
      ∧ r.2.mem ((c.tc : Thread Cert.MergeBackward.nD Cert.MergeBackward.τ).loc Cert.MergeBackward.main_arg1) = m ((c.tc : Thread Cert.MergeBackward.nD Cert.MergeBackward.τ).loc Cert.MergeBackward.main_arg1)
      ∧ r.2.mem ((c.tc : Thread Cert.MergeBackward.nD Cert.MergeBackward.τ).loc Cert.MergeBackward.main_arg2) = m ((c.tc : Thread Cert.MergeBackward.nD Cert.MergeBackward.τ).loc Cert.MergeBackward.main_arg2)
      ∧ r.2.mem ((c.tc : Thread Cert.MergeBackward.nD Cert.MergeBackward.τ).loc Cert.MergeBackward.main_arg3) = m ((c.tc : Thread Cert.MergeBackward.nD Cert.MergeBackward.τ).loc Cert.MergeBackward.main_arg3)
      ∧ r.2.mem ((c.tc : Thread Cert.MergeBackward.nD Cert.MergeBackward.τ).loc Cert.MergeBackward.main_arg4) = m ((c.tc : Thread Cert.MergeBackward.nD Cert.MergeBackward.τ).loc Cert.MergeBackward.main_arg4)
      ∧ r.2.mem ((c.tc : Thread Cert.MergeBackward.nD Cert.MergeBackward.τ).loc Cert.MergeBackward.main_arg5) = m ((c.tc : Thread Cert.MergeBackward.nD Cert.MergeBackward.τ).loc Cert.MergeBackward.main_arg5)
      ∧ r.2.mem ((c.tc : Thread Cert.MergeBackward.nD Cert.MergeBackward.τ).loc Cert.MergeBackward.main_arg6) = m ((c.tc : Thread Cert.MergeBackward.nD Cert.MergeBackward.τ).loc Cert.MergeBackward.main_arg6)
      ∧ r.2.mem ((c.tc : Thread Cert.MergeBackward.nD Cert.MergeBackward.τ).loc Cert.MergeBackward.main_arg7) = m ((c.tc : Thread Cert.MergeBackward.nD Cert.MergeBackward.τ).loc Cert.MergeBackward.main_arg7))
      ∧ r.2.sem = fun _ => 0)

def quiescent_MergeBackwardIdeal [hMergeBackwardIdeal : Cert.MergeBackwardIdeal.Facts] : Prop :=
  ∀ (m : (ℓ : Loc Cert.MergeBackwardIdeal.nD Cert.MergeBackwardIdeal.τ Cert.MergeBackwardIdeal.sig) → Buf (Elt Ideal) ℓ) (g : Dev Cert.MergeBackwardIdeal.nD → PrngReg), Pre_MergeBackwardIdeal m →
    θ_run (Cert.MergeBackwardIdeal.defs (F := Ideal)) (onTc (τ := Cert.MergeBackwardIdeal.τ) (Cert.MergeBackwardIdeal.main (F := Ideal))) ⟨m, fun _ => 0, g⟩ (fun r => (∀ c : Dev Cert.MergeBackwardIdeal.nD,
      r.2.mem ((c.tc : Thread Cert.MergeBackwardIdeal.nD Cert.MergeBackwardIdeal.τ).loc Cert.MergeBackwardIdeal.main_arg0) = m ((c.tc : Thread Cert.MergeBackwardIdeal.nD Cert.MergeBackwardIdeal.τ).loc Cert.MergeBackwardIdeal.main_arg0)
      ∧ r.2.mem ((c.tc : Thread Cert.MergeBackwardIdeal.nD Cert.MergeBackwardIdeal.τ).loc Cert.MergeBackwardIdeal.main_arg1) = m ((c.tc : Thread Cert.MergeBackwardIdeal.nD Cert.MergeBackwardIdeal.τ).loc Cert.MergeBackwardIdeal.main_arg1)
      ∧ r.2.mem ((c.tc : Thread Cert.MergeBackwardIdeal.nD Cert.MergeBackwardIdeal.τ).loc Cert.MergeBackwardIdeal.main_arg2) = m ((c.tc : Thread Cert.MergeBackwardIdeal.nD Cert.MergeBackwardIdeal.τ).loc Cert.MergeBackwardIdeal.main_arg2)
      ∧ r.2.mem ((c.tc : Thread Cert.MergeBackwardIdeal.nD Cert.MergeBackwardIdeal.τ).loc Cert.MergeBackwardIdeal.main_arg3) = m ((c.tc : Thread Cert.MergeBackwardIdeal.nD Cert.MergeBackwardIdeal.τ).loc Cert.MergeBackwardIdeal.main_arg3)
      ∧ r.2.mem ((c.tc : Thread Cert.MergeBackwardIdeal.nD Cert.MergeBackwardIdeal.τ).loc Cert.MergeBackwardIdeal.main_arg4) = m ((c.tc : Thread Cert.MergeBackwardIdeal.nD Cert.MergeBackwardIdeal.τ).loc Cert.MergeBackwardIdeal.main_arg4)
      ∧ r.2.mem ((c.tc : Thread Cert.MergeBackwardIdeal.nD Cert.MergeBackwardIdeal.τ).loc Cert.MergeBackwardIdeal.main_arg5) = m ((c.tc : Thread Cert.MergeBackwardIdeal.nD Cert.MergeBackwardIdeal.τ).loc Cert.MergeBackwardIdeal.main_arg5)
      ∧ r.2.mem ((c.tc : Thread Cert.MergeBackwardIdeal.nD Cert.MergeBackwardIdeal.τ).loc Cert.MergeBackwardIdeal.main_arg6) = m ((c.tc : Thread Cert.MergeBackwardIdeal.nD Cert.MergeBackwardIdeal.τ).loc Cert.MergeBackwardIdeal.main_arg6)
      ∧ r.2.mem ((c.tc : Thread Cert.MergeBackwardIdeal.nD Cert.MergeBackwardIdeal.τ).loc Cert.MergeBackwardIdeal.main_arg7) = m ((c.tc : Thread Cert.MergeBackwardIdeal.nD Cert.MergeBackwardIdeal.τ).loc Cert.MergeBackwardIdeal.main_arg7))
      ∧ r.2.sem = fun _ => 0)

def quiescent_MergeBackwardRefIdeal [hMergeBackwardRefIdeal : Cert.MergeBackwardRefIdeal.Facts] : Prop :=
  ∀ (m : (ℓ : Loc Cert.MergeBackwardRefIdeal.nD Cert.MergeBackwardRefIdeal.τ Cert.MergeBackwardRefIdeal.sig) → Buf (Elt Ideal) ℓ) (g : Dev Cert.MergeBackwardRefIdeal.nD → PrngReg), Pre_MergeBackwardRefIdeal m →
    θ_run (Cert.MergeBackwardRefIdeal.defs (F := Ideal)) (onTc (τ := Cert.MergeBackwardRefIdeal.τ) (Cert.MergeBackwardRefIdeal.main (F := Ideal))) ⟨m, fun _ => 0, g⟩ (fun r => (∀ c : Dev Cert.MergeBackwardRefIdeal.nD,
      r.2.mem ((c.tc : Thread Cert.MergeBackwardRefIdeal.nD Cert.MergeBackwardRefIdeal.τ).loc Cert.MergeBackwardRefIdeal.main_arg0) = m ((c.tc : Thread Cert.MergeBackwardRefIdeal.nD Cert.MergeBackwardRefIdeal.τ).loc Cert.MergeBackwardRefIdeal.main_arg0)
      ∧ r.2.mem ((c.tc : Thread Cert.MergeBackwardRefIdeal.nD Cert.MergeBackwardRefIdeal.τ).loc Cert.MergeBackwardRefIdeal.main_arg1) = m ((c.tc : Thread Cert.MergeBackwardRefIdeal.nD Cert.MergeBackwardRefIdeal.τ).loc Cert.MergeBackwardRefIdeal.main_arg1)
      ∧ r.2.mem ((c.tc : Thread Cert.MergeBackwardRefIdeal.nD Cert.MergeBackwardRefIdeal.τ).loc Cert.MergeBackwardRefIdeal.main_arg2) = m ((c.tc : Thread Cert.MergeBackwardRefIdeal.nD Cert.MergeBackwardRefIdeal.τ).loc Cert.MergeBackwardRefIdeal.main_arg2)
      ∧ r.2.mem ((c.tc : Thread Cert.MergeBackwardRefIdeal.nD Cert.MergeBackwardRefIdeal.τ).loc Cert.MergeBackwardRefIdeal.main_arg3) = m ((c.tc : Thread Cert.MergeBackwardRefIdeal.nD Cert.MergeBackwardRefIdeal.τ).loc Cert.MergeBackwardRefIdeal.main_arg3)
      ∧ r.2.mem ((c.tc : Thread Cert.MergeBackwardRefIdeal.nD Cert.MergeBackwardRefIdeal.τ).loc Cert.MergeBackwardRefIdeal.main_arg4) = m ((c.tc : Thread Cert.MergeBackwardRefIdeal.nD Cert.MergeBackwardRefIdeal.τ).loc Cert.MergeBackwardRefIdeal.main_arg4)
      ∧ r.2.mem ((c.tc : Thread Cert.MergeBackwardRefIdeal.nD Cert.MergeBackwardRefIdeal.τ).loc Cert.MergeBackwardRefIdeal.main_arg5) = m ((c.tc : Thread Cert.MergeBackwardRefIdeal.nD Cert.MergeBackwardRefIdeal.τ).loc Cert.MergeBackwardRefIdeal.main_arg5)
      ∧ r.2.mem ((c.tc : Thread Cert.MergeBackwardRefIdeal.nD Cert.MergeBackwardRefIdeal.τ).loc Cert.MergeBackwardRefIdeal.main_arg6) = m ((c.tc : Thread Cert.MergeBackwardRefIdeal.nD Cert.MergeBackwardRefIdeal.τ).loc Cert.MergeBackwardRefIdeal.main_arg6)
      ∧ r.2.mem ((c.tc : Thread Cert.MergeBackwardRefIdeal.nD Cert.MergeBackwardRefIdeal.τ).loc Cert.MergeBackwardRefIdeal.main_arg7) = m ((c.tc : Thread Cert.MergeBackwardRefIdeal.nD Cert.MergeBackwardRefIdeal.τ).loc Cert.MergeBackwardRefIdeal.main_arg7))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_FfnBackward [hFfnBackward : Cert.FfnBackward.Facts] : Prop :=
  ∀ (m : (ℓ : Loc Cert.FfnBackward.nD Cert.FfnBackward.τ Cert.FfnBackward.sig) → Buf (Elt Bits) ℓ) (g : Dev Cert.FfnBackward.nD → PrngReg), Pre_FfnBackward m →
    θ_run (Cert.FfnBackward.defs (F := Bits)) (onTc (τ := Cert.FfnBackward.τ) (Cert.FfnBackward.main (F := Bits))) ⟨m, fun _ => 0, g⟩ (fun r => (∀ c : Dev Cert.FfnBackward.nD,
      r.2.mem ((c.tc : Thread Cert.FfnBackward.nD Cert.FfnBackward.τ).loc Cert.FfnBackward.main_arg0) = m ((c.tc : Thread Cert.FfnBackward.nD Cert.FfnBackward.τ).loc Cert.FfnBackward.main_arg0)
      ∧ r.2.mem ((c.tc : Thread Cert.FfnBackward.nD Cert.FfnBackward.τ).loc Cert.FfnBackward.main_arg1) = m ((c.tc : Thread Cert.FfnBackward.nD Cert.FfnBackward.τ).loc Cert.FfnBackward.main_arg1)
      ∧ r.2.mem ((c.tc : Thread Cert.FfnBackward.nD Cert.FfnBackward.τ).loc Cert.FfnBackward.main_arg2) = m ((c.tc : Thread Cert.FfnBackward.nD Cert.FfnBackward.τ).loc Cert.FfnBackward.main_arg2))
      ∧ r.2.sem = fun _ => 0)

def quiescent_FfnBackwardIdeal [hFfnBackwardIdeal : Cert.FfnBackwardIdeal.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg), Pre_FfnBackwardIdeal m →
    θ_run (Cert.FfnBackwardIdeal.defs (F := Ideal)) (onTc (τ := Cert.FfnBackwardIdeal.τ) (Cert.FfnBackwardIdeal.main (F := Ideal))) ⟨m, fun _ => 0, g⟩ (fun r => (∀ c : Dev Cert.FfnBackwardIdeal.nD,
      r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
      ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
      ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2))
      ∧ r.2.sem = fun _ => 0)

def quiescent_FfnBackwardRefIdeal [hFfnBackwardRefIdeal : Cert.FfnBackwardRefIdeal.Facts] : Prop :=
  ∀ (m : (ℓ : Loc Cert.FfnBackwardRefIdeal.nD Cert.FfnBackwardRefIdeal.τ Cert.FfnBackwardRefIdeal.sig) → Buf (Elt Ideal) ℓ) (g : Dev Cert.FfnBackwardRefIdeal.nD → PrngReg), Pre_FfnBackwardRefIdeal m →
    θ_run (Cert.FfnBackwardRefIdeal.defs (F := Ideal)) (onTc (τ := Cert.FfnBackwardRefIdeal.τ) (Cert.FfnBackwardRefIdeal.main (F := Ideal))) ⟨m, fun _ => 0, g⟩ (fun r => (∀ c : Dev Cert.FfnBackwardRefIdeal.nD,
      r.2.mem ((c.tc : Thread Cert.FfnBackwardRefIdeal.nD Cert.FfnBackwardRefIdeal.τ).loc Cert.FfnBackwardRefIdeal.main_arg0) = m ((c.tc : Thread Cert.FfnBackwardRefIdeal.nD Cert.FfnBackwardRefIdeal.τ).loc Cert.FfnBackwardRefIdeal.main_arg0)
      ∧ r.2.mem ((c.tc : Thread Cert.FfnBackwardRefIdeal.nD Cert.FfnBackwardRefIdeal.τ).loc Cert.FfnBackwardRefIdeal.main_arg1) = m ((c.tc : Thread Cert.FfnBackwardRefIdeal.nD Cert.FfnBackwardRefIdeal.τ).loc Cert.FfnBackwardRefIdeal.main_arg1)
      ∧ r.2.mem ((c.tc : Thread Cert.FfnBackwardRefIdeal.nD Cert.FfnBackwardRefIdeal.τ).loc Cert.FfnBackwardRefIdeal.main_arg2) = m ((c.tc : Thread Cert.FfnBackwardRefIdeal.nD Cert.FfnBackwardRefIdeal.τ).loc Cert.FfnBackwardRefIdeal.main_arg2))
      ∧ r.2.sem = fun _ => 0)

def quiescent_PleOut [hPleOut : Cert.PleOut.Facts] : Prop :=
  ∀ (m : (ℓ : Loc Cert.PleOut.nD Cert.PleOut.τ Cert.PleOut.sig) → Buf (Elt Bits) ℓ) (g : Dev Cert.PleOut.nD → PrngReg), Pre_PleOut m →
    θ_run (Cert.PleOut.defs (F := Bits)) (onTc (τ := Cert.PleOut.τ) (Cert.PleOut.main (F := Bits))) ⟨m, fun _ => 0, g⟩ (fun r => (∀ c : Dev Cert.PleOut.nD,
      r.2.mem ((c.tc : Thread Cert.PleOut.nD Cert.PleOut.τ).loc Cert.PleOut.main_arg0) = m ((c.tc : Thread Cert.PleOut.nD Cert.PleOut.τ).loc Cert.PleOut.main_arg0)
      ∧ r.2.mem ((c.tc : Thread Cert.PleOut.nD Cert.PleOut.τ).loc Cert.PleOut.main_arg1) = m ((c.tc : Thread Cert.PleOut.nD Cert.PleOut.τ).loc Cert.PleOut.main_arg1)
      ∧ r.2.mem ((c.tc : Thread Cert.PleOut.nD Cert.PleOut.τ).loc Cert.PleOut.main_arg2) = m ((c.tc : Thread Cert.PleOut.nD Cert.PleOut.τ).loc Cert.PleOut.main_arg2)
      ∧ r.2.mem ((c.tc : Thread Cert.PleOut.nD Cert.PleOut.τ).loc Cert.PleOut.main_arg3) = m ((c.tc : Thread Cert.PleOut.nD Cert.PleOut.τ).loc Cert.PleOut.main_arg3))
      ∧ r.2.sem = fun _ => 0)

def quiescent_PleOutIdeal [hPleOutIdeal : Cert.PleOutIdeal.Facts] : Prop :=
  ∀ (m : (ℓ : Loc Cert.PleOutIdeal.nD Cert.PleOutIdeal.τ Cert.PleOutIdeal.sig) → Buf (Elt Ideal) ℓ) (g : Dev Cert.PleOutIdeal.nD → PrngReg), Pre_PleOutIdeal m →
    θ_run (Cert.PleOutIdeal.defs (F := Ideal)) (onTc (τ := Cert.PleOutIdeal.τ) (Cert.PleOutIdeal.main (F := Ideal))) ⟨m, fun _ => 0, g⟩ (fun r => (∀ c : Dev Cert.PleOutIdeal.nD,
      r.2.mem ((c.tc : Thread Cert.PleOutIdeal.nD Cert.PleOutIdeal.τ).loc Cert.PleOutIdeal.main_arg0) = m ((c.tc : Thread Cert.PleOutIdeal.nD Cert.PleOutIdeal.τ).loc Cert.PleOutIdeal.main_arg0)
      ∧ r.2.mem ((c.tc : Thread Cert.PleOutIdeal.nD Cert.PleOutIdeal.τ).loc Cert.PleOutIdeal.main_arg1) = m ((c.tc : Thread Cert.PleOutIdeal.nD Cert.PleOutIdeal.τ).loc Cert.PleOutIdeal.main_arg1)
      ∧ r.2.mem ((c.tc : Thread Cert.PleOutIdeal.nD Cert.PleOutIdeal.τ).loc Cert.PleOutIdeal.main_arg2) = m ((c.tc : Thread Cert.PleOutIdeal.nD Cert.PleOutIdeal.τ).loc Cert.PleOutIdeal.main_arg2)
      ∧ r.2.mem ((c.tc : Thread Cert.PleOutIdeal.nD Cert.PleOutIdeal.τ).loc Cert.PleOutIdeal.main_arg3) = m ((c.tc : Thread Cert.PleOutIdeal.nD Cert.PleOutIdeal.τ).loc Cert.PleOutIdeal.main_arg3))
      ∧ r.2.sem = fun _ => 0)

def quiescent_PleOutRefIdeal [hPleOutRefIdeal : Cert.PleOutRefIdeal.Facts] : Prop :=
  ∀ (m : (ℓ : Loc Cert.PleOutRefIdeal.nD Cert.PleOutRefIdeal.τ Cert.PleOutRefIdeal.sig) → Buf (Elt Ideal) ℓ) (g : Dev Cert.PleOutRefIdeal.nD → PrngReg), Pre_PleOutRefIdeal m →
    θ_run (Cert.PleOutRefIdeal.defs (F := Ideal)) (onTc (τ := Cert.PleOutRefIdeal.τ) (Cert.PleOutRefIdeal.main (F := Ideal))) ⟨m, fun _ => 0, g⟩ (fun r => (∀ c : Dev Cert.PleOutRefIdeal.nD,
      r.2.mem ((c.tc : Thread Cert.PleOutRefIdeal.nD Cert.PleOutRefIdeal.τ).loc Cert.PleOutRefIdeal.main_arg0) = m ((c.tc : Thread Cert.PleOutRefIdeal.nD Cert.PleOutRefIdeal.τ).loc Cert.PleOutRefIdeal.main_arg0)
      ∧ r.2.mem ((c.tc : Thread Cert.PleOutRefIdeal.nD Cert.PleOutRefIdeal.τ).loc Cert.PleOutRefIdeal.main_arg1) = m ((c.tc : Thread Cert.PleOutRefIdeal.nD Cert.PleOutRefIdeal.τ).loc Cert.PleOutRefIdeal.main_arg1)
      ∧ r.2.mem ((c.tc : Thread Cert.PleOutRefIdeal.nD Cert.PleOutRefIdeal.τ).loc Cert.PleOutRefIdeal.main_arg2) = m ((c.tc : Thread Cert.PleOutRefIdeal.nD Cert.PleOutRefIdeal.τ).loc Cert.PleOutRefIdeal.main_arg2)
      ∧ r.2.mem ((c.tc : Thread Cert.PleOutRefIdeal.nD Cert.PleOutRefIdeal.τ).loc Cert.PleOutRefIdeal.main_arg3) = m ((c.tc : Thread Cert.PleOutRefIdeal.nD Cert.PleOutRefIdeal.τ).loc Cert.PleOutRefIdeal.main_arg3))
      ∧ r.2.sem = fun _ => 0)

def quiescent_PleBackward [hPleBackward : Cert.PleBackward.Facts] : Prop :=
  ∀ (m : (ℓ : Loc Cert.PleBackward.nD Cert.PleBackward.τ Cert.PleBackward.sig) → Buf (Elt Bits) ℓ) (g : Dev Cert.PleBackward.nD → PrngReg), Pre_PleBackward m →
    θ_run (Cert.PleBackward.defs (F := Bits)) (onTc (τ := Cert.PleBackward.τ) (Cert.PleBackward.main (F := Bits))) ⟨m, fun _ => 0, g⟩ (fun r => (∀ c : Dev Cert.PleBackward.nD,
      r.2.mem ((c.tc : Thread Cert.PleBackward.nD Cert.PleBackward.τ).loc Cert.PleBackward.main_arg0) = m ((c.tc : Thread Cert.PleBackward.nD Cert.PleBackward.τ).loc Cert.PleBackward.main_arg0)
      ∧ r.2.mem ((c.tc : Thread Cert.PleBackward.nD Cert.PleBackward.τ).loc Cert.PleBackward.main_arg1) = m ((c.tc : Thread Cert.PleBackward.nD Cert.PleBackward.τ).loc Cert.PleBackward.main_arg1)
      ∧ r.2.mem ((c.tc : Thread Cert.PleBackward.nD Cert.PleBackward.τ).loc Cert.PleBackward.main_arg2) = m ((c.tc : Thread Cert.PleBackward.nD Cert.PleBackward.τ).loc Cert.PleBackward.main_arg2)
      ∧ r.2.mem ((c.tc : Thread Cert.PleBackward.nD Cert.PleBackward.τ).loc Cert.PleBackward.main_arg3) = m ((c.tc : Thread Cert.PleBackward.nD Cert.PleBackward.τ).loc Cert.PleBackward.main_arg3))
      ∧ r.2.sem = fun _ => 0)

def quiescent_PleBackwardIdeal [hPleBackwardIdeal : Cert.PleBackwardIdeal.Facts] : Prop :=
  ∀ (m : (ℓ : Loc Cert.PleBackwardIdeal.nD Cert.PleBackwardIdeal.τ Cert.PleBackwardIdeal.sig) → Buf (Elt Ideal) ℓ) (g : Dev Cert.PleBackwardIdeal.nD → PrngReg), Pre_PleBackwardIdeal m →
    θ_run (Cert.PleBackwardIdeal.defs (F := Ideal)) (onTc (τ := Cert.PleBackwardIdeal.τ) (Cert.PleBackwardIdeal.main (F := Ideal))) ⟨m, fun _ => 0, g⟩ (fun r => (∀ c : Dev Cert.PleBackwardIdeal.nD,
      r.2.mem ((c.tc : Thread Cert.PleBackwardIdeal.nD Cert.PleBackwardIdeal.τ).loc Cert.PleBackwardIdeal.main_arg0) = m ((c.tc : Thread Cert.PleBackwardIdeal.nD Cert.PleBackwardIdeal.τ).loc Cert.PleBackwardIdeal.main_arg0)
      ∧ r.2.mem ((c.tc : Thread Cert.PleBackwardIdeal.nD Cert.PleBackwardIdeal.τ).loc Cert.PleBackwardIdeal.main_arg1) = m ((c.tc : Thread Cert.PleBackwardIdeal.nD Cert.PleBackwardIdeal.τ).loc Cert.PleBackwardIdeal.main_arg1)
      ∧ r.2.mem ((c.tc : Thread Cert.PleBackwardIdeal.nD Cert.PleBackwardIdeal.τ).loc Cert.PleBackwardIdeal.main_arg2) = m ((c.tc : Thread Cert.PleBackwardIdeal.nD Cert.PleBackwardIdeal.τ).loc Cert.PleBackwardIdeal.main_arg2)
      ∧ r.2.mem ((c.tc : Thread Cert.PleBackwardIdeal.nD Cert.PleBackwardIdeal.τ).loc Cert.PleBackwardIdeal.main_arg3) = m ((c.tc : Thread Cert.PleBackwardIdeal.nD Cert.PleBackwardIdeal.τ).loc Cert.PleBackwardIdeal.main_arg3))
      ∧ r.2.sem = fun _ => 0)

def quiescent_PleBackwardRefIdeal [hPleBackwardRefIdeal : Cert.PleBackwardRefIdeal.Facts] : Prop :=
  ∀ (m : (ℓ : Loc Cert.PleBackwardRefIdeal.nD Cert.PleBackwardRefIdeal.τ Cert.PleBackwardRefIdeal.sig) → Buf (Elt Ideal) ℓ) (g : Dev Cert.PleBackwardRefIdeal.nD → PrngReg), Pre_PleBackwardRefIdeal m →
    θ_run (Cert.PleBackwardRefIdeal.defs (F := Ideal)) (onTc (τ := Cert.PleBackwardRefIdeal.τ) (Cert.PleBackwardRefIdeal.main (F := Ideal))) ⟨m, fun _ => 0, g⟩ (fun r => (∀ c : Dev Cert.PleBackwardRefIdeal.nD,
      r.2.mem ((c.tc : Thread Cert.PleBackwardRefIdeal.nD Cert.PleBackwardRefIdeal.τ).loc Cert.PleBackwardRefIdeal.main_arg0) = m ((c.tc : Thread Cert.PleBackwardRefIdeal.nD Cert.PleBackwardRefIdeal.τ).loc Cert.PleBackwardRefIdeal.main_arg0)
      ∧ r.2.mem ((c.tc : Thread Cert.PleBackwardRefIdeal.nD Cert.PleBackwardRefIdeal.τ).loc Cert.PleBackwardRefIdeal.main_arg1) = m ((c.tc : Thread Cert.PleBackwardRefIdeal.nD Cert.PleBackwardRefIdeal.τ).loc Cert.PleBackwardRefIdeal.main_arg1)
      ∧ r.2.mem ((c.tc : Thread Cert.PleBackwardRefIdeal.nD Cert.PleBackwardRefIdeal.τ).loc Cert.PleBackwardRefIdeal.main_arg2) = m ((c.tc : Thread Cert.PleBackwardRefIdeal.nD Cert.PleBackwardRefIdeal.τ).loc Cert.PleBackwardRefIdeal.main_arg2)
      ∧ r.2.mem ((c.tc : Thread Cert.PleBackwardRefIdeal.nD Cert.PleBackwardRefIdeal.τ).loc Cert.PleBackwardRefIdeal.main_arg3) = m ((c.tc : Thread Cert.PleBackwardRefIdeal.nD Cert.PleBackwardRefIdeal.τ).loc Cert.PleBackwardRefIdeal.main_arg3))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4))
      ∧ r.2.sem = fun _ => 0)

def quiescent_ConfNormBackward [hConfNormBackward : Cert.ConfNormBackward.Facts] : Prop :=
  ∀ (m : (ℓ : Loc Cert.ConfNormBackward.nD Cert.ConfNormBackward.τ Cert.ConfNormBackward.sig) → Buf (Elt Bits) ℓ) (g : Dev Cert.ConfNormBackward.nD → PrngReg), Pre_ConfNormBackward m →
    θ_run (Cert.ConfNormBackward.defs (F := Bits)) (onTc (τ := Cert.ConfNormBackward.τ) (Cert.ConfNormBackward.main (F := Bits))) ⟨m, fun _ => 0, g⟩ (fun r => (∀ c : Dev Cert.ConfNormBackward.nD,
      r.2.mem ((c.tc : Thread Cert.ConfNormBackward.nD Cert.ConfNormBackward.τ).loc Cert.ConfNormBackward.main_arg0) = m ((c.tc : Thread Cert.ConfNormBackward.nD Cert.ConfNormBackward.τ).loc Cert.ConfNormBackward.main_arg0)
      ∧ r.2.mem ((c.tc : Thread Cert.ConfNormBackward.nD Cert.ConfNormBackward.τ).loc Cert.ConfNormBackward.main_arg1) = m ((c.tc : Thread Cert.ConfNormBackward.nD Cert.ConfNormBackward.τ).loc Cert.ConfNormBackward.main_arg1)
      ∧ r.2.mem ((c.tc : Thread Cert.ConfNormBackward.nD Cert.ConfNormBackward.τ).loc Cert.ConfNormBackward.main_arg2) = m ((c.tc : Thread Cert.ConfNormBackward.nD Cert.ConfNormBackward.τ).loc Cert.ConfNormBackward.main_arg2)
      ∧ r.2.mem ((c.tc : Thread Cert.ConfNormBackward.nD Cert.ConfNormBackward.τ).loc Cert.ConfNormBackward.main_arg3) = m ((c.tc : Thread Cert.ConfNormBackward.nD Cert.ConfNormBackward.τ).loc Cert.ConfNormBackward.main_arg3))
      ∧ r.2.sem = fun _ => 0)

def quiescent_ConfNormBackwardIdeal [hConfNormBackwardIdeal : Cert.ConfNormBackwardIdeal.Facts] : Prop :=
  ∀ (m : (ℓ : Loc Cert.ConfNormBackwardIdeal.nD Cert.ConfNormBackwardIdeal.τ Cert.ConfNormBackwardIdeal.sig) → Buf (Elt Ideal) ℓ) (g : Dev Cert.ConfNormBackwardIdeal.nD → PrngReg), Pre_ConfNormBackwardIdeal m →
    θ_run (Cert.ConfNormBackwardIdeal.defs (F := Ideal)) (onTc (τ := Cert.ConfNormBackwardIdeal.τ) (Cert.ConfNormBackwardIdeal.main (F := Ideal))) ⟨m, fun _ => 0, g⟩ (fun r => (∀ c : Dev Cert.ConfNormBackwardIdeal.nD,
      r.2.mem ((c.tc : Thread Cert.ConfNormBackwardIdeal.nD Cert.ConfNormBackwardIdeal.τ).loc Cert.ConfNormBackwardIdeal.main_arg0) = m ((c.tc : Thread Cert.ConfNormBackwardIdeal.nD Cert.ConfNormBackwardIdeal.τ).loc Cert.ConfNormBackwardIdeal.main_arg0)
      ∧ r.2.mem ((c.tc : Thread Cert.ConfNormBackwardIdeal.nD Cert.ConfNormBackwardIdeal.τ).loc Cert.ConfNormBackwardIdeal.main_arg1) = m ((c.tc : Thread Cert.ConfNormBackwardIdeal.nD Cert.ConfNormBackwardIdeal.τ).loc Cert.ConfNormBackwardIdeal.main_arg1)
      ∧ r.2.mem ((c.tc : Thread Cert.ConfNormBackwardIdeal.nD Cert.ConfNormBackwardIdeal.τ).loc Cert.ConfNormBackwardIdeal.main_arg2) = m ((c.tc : Thread Cert.ConfNormBackwardIdeal.nD Cert.ConfNormBackwardIdeal.τ).loc Cert.ConfNormBackwardIdeal.main_arg2)
      ∧ r.2.mem ((c.tc : Thread Cert.ConfNormBackwardIdeal.nD Cert.ConfNormBackwardIdeal.τ).loc Cert.ConfNormBackwardIdeal.main_arg3) = m ((c.tc : Thread Cert.ConfNormBackwardIdeal.nD Cert.ConfNormBackwardIdeal.τ).loc Cert.ConfNormBackwardIdeal.main_arg3))
      ∧ r.2.sem = fun _ => 0)

def quiescent_ConfNormBackwardRefIdeal [hConfNormBackwardRefIdeal : Cert.ConfNormBackwardRefIdeal.Facts] : Prop :=
  ∀ (m : (ℓ : Loc Cert.ConfNormBackwardRefIdeal.nD Cert.ConfNormBackwardRefIdeal.τ Cert.ConfNormBackwardRefIdeal.sig) → Buf (Elt Ideal) ℓ) (g : Dev Cert.ConfNormBackwardRefIdeal.nD → PrngReg), Pre_ConfNormBackwardRefIdeal m →
    θ_run (Cert.ConfNormBackwardRefIdeal.defs (F := Ideal)) (onTc (τ := Cert.ConfNormBackwardRefIdeal.τ) (Cert.ConfNormBackwardRefIdeal.main (F := Ideal))) ⟨m, fun _ => 0, g⟩ (fun r => (∀ c : Dev Cert.ConfNormBackwardRefIdeal.nD,
      r.2.mem ((c.tc : Thread Cert.ConfNormBackwardRefIdeal.nD Cert.ConfNormBackwardRefIdeal.τ).loc Cert.ConfNormBackwardRefIdeal.main_arg0) = m ((c.tc : Thread Cert.ConfNormBackwardRefIdeal.nD Cert.ConfNormBackwardRefIdeal.τ).loc Cert.ConfNormBackwardRefIdeal.main_arg0)
      ∧ r.2.mem ((c.tc : Thread Cert.ConfNormBackwardRefIdeal.nD Cert.ConfNormBackwardRefIdeal.τ).loc Cert.ConfNormBackwardRefIdeal.main_arg1) = m ((c.tc : Thread Cert.ConfNormBackwardRefIdeal.nD Cert.ConfNormBackwardRefIdeal.τ).loc Cert.ConfNormBackwardRefIdeal.main_arg1)
      ∧ r.2.mem ((c.tc : Thread Cert.ConfNormBackwardRefIdeal.nD Cert.ConfNormBackwardRefIdeal.τ).loc Cert.ConfNormBackwardRefIdeal.main_arg2) = m ((c.tc : Thread Cert.ConfNormBackwardRefIdeal.nD Cert.ConfNormBackwardRefIdeal.τ).loc Cert.ConfNormBackwardRefIdeal.main_arg2)
      ∧ r.2.mem ((c.tc : Thread Cert.ConfNormBackwardRefIdeal.nD Cert.ConfNormBackwardRefIdeal.τ).loc Cert.ConfNormBackwardRefIdeal.main_arg3) = m ((c.tc : Thread Cert.ConfNormBackwardRefIdeal.nD Cert.ConfNormBackwardRefIdeal.τ).loc Cert.ConfNormBackwardRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 9216, 1024]⟩ ⟨3, ![64, 9216, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![8, 9216, 1024]⟩ ⟨3, ![64, 9216, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 9216, 1024]⟩ ⟨3, ![64, 9216, 1024]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨3, ![8, 9216, 1024]⟩ ⟨3, ![64, 9216, 1024]⟩ 0 8 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![9216, 1024]⟩ ⟨2, ![73728, 1024]⟩ 0 8 c (m' (((0 : Dev Cert.WeightsRefIdeal.nD).tc : Thread Cert.WeightsRefIdeal.nD Cert.WeightsRefIdeal.τ).loc Cert.WeightsRefIdeal.main_arg0))) →
    ∃ (v0 : Buf (Elt Ideal) (((0 : Dev Cert.WeightsRefIdeal.nD).tc : Thread Cert.WeightsRefIdeal.nD Cert.WeightsRefIdeal.τ).loc Cert.WeightsRefIdeal.main_v0)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_v0) = v0
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0))

def bitexact_Weights_WeightsRef [hWeights : Cert.Weights.Facts] [hWeightsRef : Cert.WeightsRef.Facts] : Prop :=
  ∀ (m : (ℓ : Loc Cert.Weights.nD Cert.Weights.τ Cert.Weights.sig) → Buf (Elt Bits) ℓ) (g : Dev Cert.Weights.nD → PrngReg)
    (m' : (ℓ : Loc Cert.WeightsRef.nD Cert.WeightsRef.τ Cert.WeightsRef.sig) → Buf (Elt Bits) ℓ) (g' : Dev Cert.WeightsRef.nD → PrngReg), Pre_Weights m →
    (∀ c : Dev Cert.Weights.nD,
      m ((c.tc : Thread Cert.Weights.nD Cert.Weights.τ).loc Cert.Weights.main_arg0) = Layout.block ⟨2, ![9216, 1024]⟩ ⟨2, ![73728, 1024]⟩ 0 8 c (m' (((0 : Dev Cert.WeightsRef.nD).tc : Thread Cert.WeightsRef.nD Cert.WeightsRef.τ).loc Cert.WeightsRef.main_arg0))) →
    ∃ (v0 : Buf (Elt Bits) (((0 : Dev Cert.WeightsRef.nD).tc : Thread Cert.WeightsRef.nD Cert.WeightsRef.τ).loc Cert.WeightsRef.main_v0)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1) = v0
          ∧ r.2.mem ((c.tc : Thread Cert.Weights.nD Cert.Weights.τ).loc Cert.Weights.main_arg0) = m ((c.tc : Thread Cert.Weights.nD Cert.Weights.τ).loc Cert.Weights.main_arg0))
      ∧ θ_run (Cert.WeightsRef.defs (F := Bits)) (onTc (τ := Cert.WeightsRef.τ) (Cert.WeightsRef.main (F := Bits))) ⟨m', fun _ => 0, g'⟩ (fun r =>
          r.2.mem (((0 : Dev Cert.WeightsRef.nD).tc : Thread Cert.WeightsRef.nD Cert.WeightsRef.τ).loc Cert.WeightsRef.main_v0) = v0
          ∧ r.2.mem (((0 : Dev Cert.WeightsRef.nD).tc : Thread Cert.WeightsRef.nD Cert.WeightsRef.τ).loc Cert.WeightsRef.main_arg0) = m' (((0 : Dev Cert.WeightsRef.nD).tc : Thread Cert.WeightsRef.nD Cert.WeightsRef.τ).loc Cert.WeightsRef.main_arg0))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![40, 128]⟩ ⟨2, ![320, 128]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![40, 128]⟩ ⟨2, ![320, 128]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![8, 9216, 1024]⟩ ⟨3, ![64, 9216, 1024]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v3)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v2) = Layout.block ⟨2, ![9216, 1024]⟩ ⟨2, ![73728, 1024]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v3) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def preserves_SmallGrads_SmallGradsIdeal : Prop :=
  True

def algebraic_SmallGradsIdeal_SmallGradsRefIdeal [hSmallGradsIdeal : Cert.SmallGradsIdeal.Facts] [hSmallGradsRefIdeal : Cert.SmallGradsRefIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg)
    (m' : (ℓ : Loc Cert.SmallGradsRefIdeal.nD Cert.SmallGradsRefIdeal.τ Cert.SmallGradsRefIdeal.sig) → Buf (Elt Ideal) ℓ) (g' : Dev Cert.SmallGradsRefIdeal.nD → PrngReg), Pre_SmallGradsIdeal m →
    (∀ c : Dev Cert.SmallGradsIdeal.nD,
      m ((c.tc : Thread Cert.SmallGradsIdeal.nD Cert.SmallGradsIdeal.τ).loc Cert.SmallGradsIdeal.main_arg0) = Layout.block ⟨2, ![2472, 128]⟩ ⟨2, ![19776, 128]⟩ 0 8 c (m' (((0 : Dev Cert.SmallGradsRefIdeal.nD).tc : Thread Cert.SmallGradsRefIdeal.nD Cert.SmallGradsRefIdeal.τ).loc Cert.SmallGradsRefIdeal.main_arg0))) →
    ∃ (v0 : Buf (Elt Ideal) (((0 : Dev Cert.SmallGradsRefIdeal.nD).tc : Thread Cert.SmallGradsRefIdeal.nD Cert.SmallGradsRefIdeal.τ).loc Cert.SmallGradsRefIdeal.main_v1)),
      θ_run (Cert.SmallGradsIdeal.defs (F := Ideal)) (onTc (τ := Cert.SmallGradsIdeal.τ) (Cert.SmallGradsIdeal.main (F := Ideal))) ⟨m, fun _ => 0, g⟩ (fun r => ∀ c : Dev Cert.SmallGradsIdeal.nD,
          r.2.mem ((c.tc : Thread Cert.SmallGradsIdeal.nD Cert.SmallGradsIdeal.τ).loc Cert.SmallGradsIdeal.main_v2) = v0
          ∧ r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0))
      ∧ θ_run (Cert.SmallGradsRefIdeal.defs (F := Ideal)) (onTc (τ := Cert.SmallGradsRefIdeal.τ) (Cert.SmallGradsRefIdeal.main (F := Ideal))) ⟨m', fun _ => 0, g'⟩ (fun r =>
          r.2.mem (((0 : Dev Cert.SmallGradsRefIdeal.nD).tc : Thread Cert.SmallGradsRefIdeal.nD Cert.SmallGradsRefIdeal.τ).loc Cert.SmallGradsRefIdeal.main_v1) = v0
          ∧ r.2.mem (((0 : Dev Cert.SmallGradsRefIdeal.nD).tc : Thread Cert.SmallGradsRefIdeal.nD Cert.SmallGradsRefIdeal.τ).loc Cert.SmallGradsRefIdeal.main_arg0) = m' (((0 : Dev Cert.SmallGradsRefIdeal.nD).tc : Thread Cert.SmallGradsRefIdeal.nD Cert.SmallGradsRefIdeal.τ).loc Cert.SmallGradsRefIdeal.main_arg0))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v23) = v0 c
          ∧ r.2.mem ((c.tc : Thread Cert.UpdateInRefIdeal.nD Cert.UpdateInRefIdeal.τ).loc Cert.UpdateInRefIdeal.main_v4) = v1 c
          ∧ r.2.mem ((c.tc : Thread Cert.UpdateInRefIdeal.nD Cert.UpdateInRefIdeal.τ).loc Cert.UpdateInRefIdeal.main_v10) = v2 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3))

def preserves_UpdateBranch_UpdateBranchIdeal : Prop :=
  True

def algebraic_UpdateBranchIdeal_UpdateBranchRefIdeal [hUpdateBranchIdeal : Cert.UpdateBranchIdeal.Facts] [hUpdateBranchRefIdeal : Cert.UpdateBranchRefIdeal.Facts] : Prop :=
  ∀ (m : (ℓ : Loc Cert.UpdateBranchIdeal.nD Cert.UpdateBranchIdeal.τ Cert.UpdateBranchIdeal.sig) → Buf (Elt Ideal) ℓ) (g : Dev Cert.UpdateBranchIdeal.nD → PrngReg)
    (m' : (ℓ : Loc Cert.UpdateBranchRefIdeal.nD Cert.UpdateBranchRefIdeal.τ Cert.UpdateBranchRefIdeal.sig) → Buf (Elt Ideal) ℓ) (g' : Dev Cert.UpdateBranchRefIdeal.nD → PrngReg), Pre_UpdateBranchIdeal m →
    (∀ c : Dev Cert.UpdateBranchIdeal.nD,
      m' ((c.tc : Thread Cert.UpdateBranchRefIdeal.nD Cert.UpdateBranchRefIdeal.τ).loc Cert.UpdateBranchRefIdeal.main_arg0) = m ((c.tc : Thread Cert.UpdateBranchIdeal.nD Cert.UpdateBranchIdeal.τ).loc Cert.UpdateBranchIdeal.main_arg0)
      ∧ m' ((c.tc : Thread Cert.UpdateBranchRefIdeal.nD Cert.UpdateBranchRefIdeal.τ).loc Cert.UpdateBranchRefIdeal.main_arg1) = m ((c.tc : Thread Cert.UpdateBranchIdeal.nD Cert.UpdateBranchIdeal.τ).loc Cert.UpdateBranchIdeal.main_arg1)
      ∧ m' ((c.tc : Thread Cert.UpdateBranchRefIdeal.nD Cert.UpdateBranchRefIdeal.τ).loc Cert.UpdateBranchRefIdeal.main_arg2) = m ((c.tc : Thread Cert.UpdateBranchIdeal.nD Cert.UpdateBranchIdeal.τ).loc Cert.UpdateBranchIdeal.main_arg2)
      ∧ m' ((c.tc : Thread Cert.UpdateBranchRefIdeal.nD Cert.UpdateBranchRefIdeal.τ).loc Cert.UpdateBranchRefIdeal.main_arg3) = m ((c.tc : Thread Cert.UpdateBranchIdeal.nD Cert.UpdateBranchIdeal.τ).loc Cert.UpdateBranchIdeal.main_arg3)) →
    ∃ (v0 : (c : Dev Cert.UpdateBranchIdeal.nD) → Buf (Elt Ideal) ((c.tc : Thread Cert.UpdateBranchIdeal.nD Cert.UpdateBranchIdeal.τ).loc Cert.UpdateBranchIdeal.main_v0_0)) (v1 : (c : Dev Cert.UpdateBranchIdeal.nD) → Buf (Elt Ideal) ((c.tc : Thread Cert.UpdateBranchIdeal.nD Cert.UpdateBranchIdeal.τ).loc Cert.UpdateBranchIdeal.main_v0_1)) (v2 : (c : Dev Cert.UpdateBranchIdeal.nD) → Buf (Elt Ideal) ((c.tc : Thread Cert.UpdateBranchIdeal.nD Cert.UpdateBranchIdeal.τ).loc Cert.UpdateBranchIdeal.main_v0_2)),
      θ_run (Cert.UpdateBranchIdeal.defs (F := Ideal)) (onTc (τ := Cert.UpdateBranchIdeal.τ) (Cert.UpdateBranchIdeal.main (F := Ideal))) ⟨m, fun _ => 0, g⟩ (fun r => ∀ c : Dev Cert.UpdateBranchIdeal.nD,
          r.2.mem ((c.tc : Thread Cert.UpdateBranchIdeal.nD Cert.UpdateBranchIdeal.τ).loc Cert.UpdateBranchIdeal.main_v0_0) = v0 c
          ∧ r.2.mem ((c.tc : Thread Cert.UpdateBranchIdeal.nD Cert.UpdateBranchIdeal.τ).loc Cert.UpdateBranchIdeal.main_v0_1) = v1 c
          ∧ r.2.mem ((c.tc : Thread Cert.UpdateBranchIdeal.nD Cert.UpdateBranchIdeal.τ).loc Cert.UpdateBranchIdeal.main_v0_2) = v2 c
          ∧ r.2.mem ((c.tc : Thread Cert.UpdateBranchIdeal.nD Cert.UpdateBranchIdeal.τ).loc Cert.UpdateBranchIdeal.main_arg0) = m ((c.tc : Thread Cert.UpdateBranchIdeal.nD Cert.UpdateBranchIdeal.τ).loc Cert.UpdateBranchIdeal.main_arg0)
          ∧ r.2.mem ((c.tc : Thread Cert.UpdateBranchIdeal.nD Cert.UpdateBranchIdeal.τ).loc Cert.UpdateBranchIdeal.main_arg1) = m ((c.tc : Thread Cert.UpdateBranchIdeal.nD Cert.UpdateBranchIdeal.τ).loc Cert.UpdateBranchIdeal.main_arg1)
          ∧ r.2.mem ((c.tc : Thread Cert.UpdateBranchIdeal.nD Cert.UpdateBranchIdeal.τ).loc Cert.UpdateBranchIdeal.main_arg2) = m ((c.tc : Thread Cert.UpdateBranchIdeal.nD Cert.UpdateBranchIdeal.τ).loc Cert.UpdateBranchIdeal.main_arg2)
          ∧ r.2.mem ((c.tc : Thread Cert.UpdateBranchIdeal.nD Cert.UpdateBranchIdeal.τ).loc Cert.UpdateBranchIdeal.main_arg3) = m ((c.tc : Thread Cert.UpdateBranchIdeal.nD Cert.UpdateBranchIdeal.τ).loc Cert.UpdateBranchIdeal.main_arg3))
      ∧ θ_run (Cert.UpdateBranchRefIdeal.defs (F := Ideal)) (onTc (τ := Cert.UpdateBranchRefIdeal.τ) (Cert.UpdateBranchRefIdeal.main (F := Ideal))) ⟨m', fun _ => 0, g'⟩ (fun r => ∀ c : Dev Cert.UpdateBranchRefIdeal.nD,
          r.2.mem ((c.tc : Thread Cert.UpdateBranchRefIdeal.nD Cert.UpdateBranchRefIdeal.τ).loc Cert.UpdateBranchRefIdeal.main_v23) = v0 c
          ∧ r.2.mem ((c.tc : Thread Cert.UpdateBranchRefIdeal.nD Cert.UpdateBranchRefIdeal.τ).loc Cert.UpdateBranchRefIdeal.main_v4) = v1 c
          ∧ r.2.mem ((c.tc : Thread Cert.UpdateBranchRefIdeal.nD Cert.UpdateBranchRefIdeal.τ).loc Cert.UpdateBranchRefIdeal.main_v10) = v2 c
          ∧ r.2.mem ((c.tc : Thread Cert.UpdateBranchRefIdeal.nD Cert.UpdateBranchRefIdeal.τ).loc Cert.UpdateBranchRefIdeal.main_arg0) = m' ((c.tc : Thread Cert.UpdateBranchRefIdeal.nD Cert.UpdateBranchRefIdeal.τ).loc Cert.UpdateBranchRefIdeal.main_arg0)
          ∧ r.2.mem ((c.tc : Thread Cert.UpdateBranchRefIdeal.nD Cert.UpdateBranchRefIdeal.τ).loc Cert.UpdateBranchRefIdeal.main_arg1) = m' ((c.tc : Thread Cert.UpdateBranchRefIdeal.nD Cert.UpdateBranchRefIdeal.τ).loc Cert.UpdateBranchRefIdeal.main_arg1)
          ∧ r.2.mem ((c.tc : Thread Cert.UpdateBranchRefIdeal.nD Cert.UpdateBranchRefIdeal.τ).loc Cert.UpdateBranchRefIdeal.main_arg2) = m' ((c.tc : Thread Cert.UpdateBranchRefIdeal.nD Cert.UpdateBranchRefIdeal.τ).loc Cert.UpdateBranchRefIdeal.main_arg2)
          ∧ r.2.mem ((c.tc : Thread Cert.UpdateBranchRefIdeal.nD Cert.UpdateBranchRefIdeal.τ).loc Cert.UpdateBranchRefIdeal.main_arg3) = m' ((c.tc : Thread Cert.UpdateBranchRefIdeal.nD Cert.UpdateBranchRefIdeal.τ).loc Cert.UpdateBranchRefIdeal.main_arg3))

def preserves_UpdateMergeGate_UpdateMergeGateIdeal : Prop :=
  True

def algebraic_UpdateMergeGateIdeal_UpdateMergeGateRefIdeal [hUpdateMergeGateIdeal : Cert.UpdateMergeGateIdeal.Facts] [hUpdateMergeGateRefIdeal : Cert.UpdateMergeGateRefIdeal.Facts] : Prop :=
  ∀ (m : (ℓ : Loc Cert.UpdateMergeGateIdeal.nD Cert.UpdateMergeGateIdeal.τ Cert.UpdateMergeGateIdeal.sig) → Buf (Elt Ideal) ℓ) (g : Dev Cert.UpdateMergeGateIdeal.nD → PrngReg)
    (m' : (ℓ : Loc Cert.UpdateMergeGateRefIdeal.nD Cert.UpdateMergeGateRefIdeal.τ Cert.UpdateMergeGateRefIdeal.sig) → Buf (Elt Ideal) ℓ) (g' : Dev Cert.UpdateMergeGateRefIdeal.nD → PrngReg), Pre_UpdateMergeGateIdeal m →
    (∀ c : Dev Cert.UpdateMergeGateIdeal.nD,
      m' ((c.tc : Thread Cert.UpdateMergeGateRefIdeal.nD Cert.UpdateMergeGateRefIdeal.τ).loc Cert.UpdateMergeGateRefIdeal.main_arg0) = m ((c.tc : Thread Cert.UpdateMergeGateIdeal.nD Cert.UpdateMergeGateIdeal.τ).loc Cert.UpdateMergeGateIdeal.main_arg0)
      ∧ m' ((c.tc : Thread Cert.UpdateMergeGateRefIdeal.nD Cert.UpdateMergeGateRefIdeal.τ).loc Cert.UpdateMergeGateRefIdeal.main_arg1) = m ((c.tc : Thread Cert.UpdateMergeGateIdeal.nD Cert.UpdateMergeGateIdeal.τ).loc Cert.UpdateMergeGateIdeal.main_arg1)
      ∧ m' ((c.tc : Thread Cert.UpdateMergeGateRefIdeal.nD Cert.UpdateMergeGateRefIdeal.τ).loc Cert.UpdateMergeGateRefIdeal.main_arg2) = m ((c.tc : Thread Cert.UpdateMergeGateIdeal.nD Cert.UpdateMergeGateIdeal.τ).loc Cert.UpdateMergeGateIdeal.main_arg2)
      ∧ m' ((c.tc : Thread Cert.UpdateMergeGateRefIdeal.nD Cert.UpdateMergeGateRefIdeal.τ).loc Cert.UpdateMergeGateRefIdeal.main_arg3) = m ((c.tc : Thread Cert.UpdateMergeGateIdeal.nD Cert.UpdateMergeGateIdeal.τ).loc Cert.UpdateMergeGateIdeal.main_arg3)) →
    ∃ (v0 : (c : Dev Cert.UpdateMergeGateIdeal.nD) → Buf (Elt Ideal) ((c.tc : Thread Cert.UpdateMergeGateIdeal.nD Cert.UpdateMergeGateIdeal.τ).loc Cert.UpdateMergeGateIdeal.main_v0_0)) (v1 : (c : Dev Cert.UpdateMergeGateIdeal.nD) → Buf (Elt Ideal) ((c.tc : Thread Cert.UpdateMergeGateIdeal.nD Cert.UpdateMergeGateIdeal.τ).loc Cert.UpdateMergeGateIdeal.main_v0_1)) (v2 : (c : Dev Cert.UpdateMergeGateIdeal.nD) → Buf (Elt Ideal) ((c.tc : Thread Cert.UpdateMergeGateIdeal.nD Cert.UpdateMergeGateIdeal.τ).loc Cert.UpdateMergeGateIdeal.main_v0_2)),
      θ_run (Cert.UpdateMergeGateIdeal.defs (F := Ideal)) (onTc (τ := Cert.UpdateMergeGateIdeal.τ) (Cert.UpdateMergeGateIdeal.main (F := Ideal))) ⟨m, fun _ => 0, g⟩ (fun r => ∀ c : Dev Cert.UpdateMergeGateIdeal.nD,
          r.2.mem ((c.tc : Thread Cert.UpdateMergeGateIdeal.nD Cert.UpdateMergeGateIdeal.τ).loc Cert.UpdateMergeGateIdeal.main_v0_0) = v0 c
          ∧ r.2.mem ((c.tc : Thread Cert.UpdateMergeGateIdeal.nD Cert.UpdateMergeGateIdeal.τ).loc Cert.UpdateMergeGateIdeal.main_v0_1) = v1 c
          ∧ r.2.mem ((c.tc : Thread Cert.UpdateMergeGateIdeal.nD Cert.UpdateMergeGateIdeal.τ).loc Cert.UpdateMergeGateIdeal.main_v0_2) = v2 c
          ∧ r.2.mem ((c.tc : Thread Cert.UpdateMergeGateIdeal.nD Cert.UpdateMergeGateIdeal.τ).loc Cert.UpdateMergeGateIdeal.main_arg0) = m ((c.tc : Thread Cert.UpdateMergeGateIdeal.nD Cert.UpdateMergeGateIdeal.τ).loc Cert.UpdateMergeGateIdeal.main_arg0)
          ∧ r.2.mem ((c.tc : Thread Cert.UpdateMergeGateIdeal.nD Cert.UpdateMergeGateIdeal.τ).loc Cert.UpdateMergeGateIdeal.main_arg1) = m ((c.tc : Thread Cert.UpdateMergeGateIdeal.nD Cert.UpdateMergeGateIdeal.τ).loc Cert.UpdateMergeGateIdeal.main_arg1)
          ∧ r.2.mem ((c.tc : Thread Cert.UpdateMergeGateIdeal.nD Cert.UpdateMergeGateIdeal.τ).loc Cert.UpdateMergeGateIdeal.main_arg2) = m ((c.tc : Thread Cert.UpdateMergeGateIdeal.nD Cert.UpdateMergeGateIdeal.τ).loc Cert.UpdateMergeGateIdeal.main_arg2)
          ∧ r.2.mem ((c.tc : Thread Cert.UpdateMergeGateIdeal.nD Cert.UpdateMergeGateIdeal.τ).loc Cert.UpdateMergeGateIdeal.main_arg3) = m ((c.tc : Thread Cert.UpdateMergeGateIdeal.nD Cert.UpdateMergeGateIdeal.τ).loc Cert.UpdateMergeGateIdeal.main_arg3))
      ∧ θ_run (Cert.UpdateMergeGateRefIdeal.defs (F := Ideal)) (onTc (τ := Cert.UpdateMergeGateRefIdeal.τ) (Cert.UpdateMergeGateRefIdeal.main (F := Ideal))) ⟨m', fun _ => 0, g'⟩ (fun r => ∀ c : Dev Cert.UpdateMergeGateRefIdeal.nD,
          r.2.mem ((c.tc : Thread Cert.UpdateMergeGateRefIdeal.nD Cert.UpdateMergeGateRefIdeal.τ).loc Cert.UpdateMergeGateRefIdeal.main_v23) = v0 c
          ∧ r.2.mem ((c.tc : Thread Cert.UpdateMergeGateRefIdeal.nD Cert.UpdateMergeGateRefIdeal.τ).loc Cert.UpdateMergeGateRefIdeal.main_v4) = v1 c
          ∧ r.2.mem ((c.tc : Thread Cert.UpdateMergeGateRefIdeal.nD Cert.UpdateMergeGateRefIdeal.τ).loc Cert.UpdateMergeGateRefIdeal.main_v10) = v2 c
          ∧ r.2.mem ((c.tc : Thread Cert.UpdateMergeGateRefIdeal.nD Cert.UpdateMergeGateRefIdeal.τ).loc Cert.UpdateMergeGateRefIdeal.main_arg0) = m' ((c.tc : Thread Cert.UpdateMergeGateRefIdeal.nD Cert.UpdateMergeGateRefIdeal.τ).loc Cert.UpdateMergeGateRefIdeal.main_arg0)
          ∧ r.2.mem ((c.tc : Thread Cert.UpdateMergeGateRefIdeal.nD Cert.UpdateMergeGateRefIdeal.τ).loc Cert.UpdateMergeGateRefIdeal.main_arg1) = m' ((c.tc : Thread Cert.UpdateMergeGateRefIdeal.nD Cert.UpdateMergeGateRefIdeal.τ).loc Cert.UpdateMergeGateRefIdeal.main_arg1)
          ∧ r.2.mem ((c.tc : Thread Cert.UpdateMergeGateRefIdeal.nD Cert.UpdateMergeGateRefIdeal.τ).loc Cert.UpdateMergeGateRefIdeal.main_arg2) = m' ((c.tc : Thread Cert.UpdateMergeGateRefIdeal.nD Cert.UpdateMergeGateRefIdeal.τ).loc Cert.UpdateMergeGateRefIdeal.main_arg2)
          ∧ r.2.mem ((c.tc : Thread Cert.UpdateMergeGateRefIdeal.nD Cert.UpdateMergeGateRefIdeal.τ).loc Cert.UpdateMergeGateRefIdeal.main_arg3) = m' ((c.tc : Thread Cert.UpdateMergeGateRefIdeal.nD Cert.UpdateMergeGateRefIdeal.τ).loc Cert.UpdateMergeGateRefIdeal.main_arg3))

def preserves_UpdateOut_UpdateOutIdeal : Prop :=
  True

def algebraic_UpdateOutIdeal_UpdateOutRefIdeal [hUpdateOutIdeal : Cert.UpdateOutIdeal.Facts] [hUpdateOutRefIdeal : Cert.UpdateOutRefIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutRefIdeal.nD Cert.UpdateOutRefIdeal.τ Cert.UpdateOutRefIdeal.sig) → Buf (Elt Ideal) ℓ) (g' : Dev Cert.UpdateOutRefIdeal.nD → PrngReg), Pre_UpdateOutIdeal m →
    (∀ c : Dev Cert.UpdateOutIdeal.nD,
      m' ((c.tc : Thread Cert.UpdateOutRefIdeal.nD Cert.UpdateOutRefIdeal.τ).loc Cert.UpdateOutRefIdeal.main_arg0) = m ((c.tc : Thread Cert.UpdateOutIdeal.nD Cert.UpdateOutIdeal.τ).loc Cert.UpdateOutIdeal.main_arg0)
      ∧ m' ((c.tc : Thread Cert.UpdateOutRefIdeal.nD Cert.UpdateOutRefIdeal.τ).loc Cert.UpdateOutRefIdeal.main_arg1) = m ((c.tc : Thread Cert.UpdateOutIdeal.nD Cert.UpdateOutIdeal.τ).loc Cert.UpdateOutIdeal.main_arg1)
      ∧ m' ((c.tc : Thread Cert.UpdateOutRefIdeal.nD Cert.UpdateOutRefIdeal.τ).loc Cert.UpdateOutRefIdeal.main_arg2) = m ((c.tc : Thread Cert.UpdateOutIdeal.nD Cert.UpdateOutIdeal.τ).loc Cert.UpdateOutIdeal.main_arg2)
      ∧ m' ((c.tc : Thread Cert.UpdateOutRefIdeal.nD Cert.UpdateOutRefIdeal.τ).loc Cert.UpdateOutRefIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutRefIdeal.defs (F := Ideal)) (onTc (τ := Cert.UpdateOutRefIdeal.τ) (Cert.UpdateOutRefIdeal.main (F := Ideal))) ⟨m', fun _ => 0, g'⟩ (fun r => ∀ c : Dev Cert.UpdateOutRefIdeal.nD,
          r.2.mem ((c.tc : Thread Cert.UpdateOutRefIdeal.nD Cert.UpdateOutRefIdeal.τ).loc Cert.UpdateOutRefIdeal.main_v23) = v0 c
          ∧ r.2.mem ((c.tc : Thread Cert.UpdateOutRefIdeal.nD Cert.UpdateOutRefIdeal.τ).loc Cert.UpdateOutRefIdeal.main_v4) = v1 c
          ∧ r.2.mem ((c.tc : Thread Cert.UpdateOutRefIdeal.nD Cert.UpdateOutRefIdeal.τ).loc Cert.UpdateOutRefIdeal.main_v10) = v2 c
          ∧ r.2.mem ((c.tc : Thread Cert.UpdateOutRefIdeal.nD Cert.UpdateOutRefIdeal.τ).loc Cert.UpdateOutRefIdeal.main_arg0) = m' ((c.tc : Thread Cert.UpdateOutRefIdeal.nD Cert.UpdateOutRefIdeal.τ).loc Cert.UpdateOutRefIdeal.main_arg0)
          ∧ r.2.mem ((c.tc : Thread Cert.UpdateOutRefIdeal.nD Cert.UpdateOutRefIdeal.τ).loc Cert.UpdateOutRefIdeal.main_arg1) = m' ((c.tc : Thread Cert.UpdateOutRefIdeal.nD Cert.UpdateOutRefIdeal.τ).loc Cert.UpdateOutRefIdeal.main_arg1)
          ∧ r.2.mem ((c.tc : Thread Cert.UpdateOutRefIdeal.nD Cert.UpdateOutRefIdeal.τ).loc Cert.UpdateOutRefIdeal.main_arg2) = m' ((c.tc : Thread Cert.UpdateOutRefIdeal.nD Cert.UpdateOutRefIdeal.τ).loc Cert.UpdateOutRefIdeal.main_arg2)
          ∧ r.2.mem ((c.tc : Thread Cert.UpdateOutRefIdeal.nD Cert.UpdateOutRefIdeal.τ).loc Cert.UpdateOutRefIdeal.main_arg3) = m' ((c.tc : Thread Cert.UpdateOutRefIdeal.nD Cert.UpdateOutRefIdeal.τ).loc Cert.UpdateOutRefIdeal.main_arg3))

def preserves_UpdateFfnIn_UpdateFfnInIdeal : Prop :=
  True

def algebraic_UpdateFfnInIdeal_UpdateFfnInRefIdeal [hUpdateFfnInIdeal : Cert.UpdateFfnInIdeal.Facts] [hUpdateFfnInRefIdeal : Cert.UpdateFfnInRefIdeal.Facts] : Prop :=
  ∀ (m : (ℓ : Loc Cert.UpdateFfnInIdeal.nD Cert.UpdateFfnInIdeal.τ Cert.UpdateFfnInIdeal.sig) → Buf (Elt Ideal) ℓ) (g : Dev Cert.UpdateFfnInIdeal.nD → PrngReg)
    (m' : (ℓ : Loc Cert.UpdateFfnInRefIdeal.nD Cert.UpdateFfnInRefIdeal.τ Cert.UpdateFfnInRefIdeal.sig) → Buf (Elt Ideal) ℓ) (g' : Dev Cert.UpdateFfnInRefIdeal.nD → PrngReg), Pre_UpdateFfnInIdeal m →
    (∀ c : Dev Cert.UpdateFfnInIdeal.nD,
      m' ((c.tc : Thread Cert.UpdateFfnInRefIdeal.nD Cert.UpdateFfnInRefIdeal.τ).loc Cert.UpdateFfnInRefIdeal.main_arg0) = m ((c.tc : Thread Cert.UpdateFfnInIdeal.nD Cert.UpdateFfnInIdeal.τ).loc Cert.UpdateFfnInIdeal.main_arg0)
      ∧ m' ((c.tc : Thread Cert.UpdateFfnInRefIdeal.nD Cert.UpdateFfnInRefIdeal.τ).loc Cert.UpdateFfnInRefIdeal.main_arg1) = m ((c.tc : Thread Cert.UpdateFfnInIdeal.nD Cert.UpdateFfnInIdeal.τ).loc Cert.UpdateFfnInIdeal.main_arg1)
      ∧ m' ((c.tc : Thread Cert.UpdateFfnInRefIdeal.nD Cert.UpdateFfnInRefIdeal.τ).loc Cert.UpdateFfnInRefIdeal.main_arg2) = m ((c.tc : Thread Cert.UpdateFfnInIdeal.nD Cert.UpdateFfnInIdeal.τ).loc Cert.UpdateFfnInIdeal.main_arg2)
      ∧ m' ((c.tc : Thread Cert.UpdateFfnInRefIdeal.nD Cert.UpdateFfnInRefIdeal.τ).loc Cert.UpdateFfnInRefIdeal.main_arg3) = m ((c.tc : Thread Cert.UpdateFfnInIdeal.nD Cert.UpdateFfnInIdeal.τ).loc Cert.UpdateFfnInIdeal.main_arg3)) →
    ∃ (v0 : (c : Dev Cert.UpdateFfnInIdeal.nD) → Buf (Elt Ideal) ((c.tc : Thread Cert.UpdateFfnInIdeal.nD Cert.UpdateFfnInIdeal.τ).loc Cert.UpdateFfnInIdeal.main_v0_0)) (v1 : (c : Dev Cert.UpdateFfnInIdeal.nD) → Buf (Elt Ideal) ((c.tc : Thread Cert.UpdateFfnInIdeal.nD Cert.UpdateFfnInIdeal.τ).loc Cert.UpdateFfnInIdeal.main_v0_1)) (v2 : (c : Dev Cert.UpdateFfnInIdeal.nD) → Buf (Elt Ideal) ((c.tc : Thread Cert.UpdateFfnInIdeal.nD Cert.UpdateFfnInIdeal.τ).loc Cert.UpdateFfnInIdeal.main_v0_2)),
      θ_run (Cert.UpdateFfnInIdeal.defs (F := Ideal)) (onTc (τ := Cert.UpdateFfnInIdeal.τ) (Cert.UpdateFfnInIdeal.main (F := Ideal))) ⟨m, fun _ => 0, g⟩ (fun r => ∀ c : Dev Cert.UpdateFfnInIdeal.nD,
          r.2.mem ((c.tc : Thread Cert.UpdateFfnInIdeal.nD Cert.UpdateFfnInIdeal.τ).loc Cert.UpdateFfnInIdeal.main_v0_0) = v0 c
          ∧ r.2.mem ((c.tc : Thread Cert.UpdateFfnInIdeal.nD Cert.UpdateFfnInIdeal.τ).loc Cert.UpdateFfnInIdeal.main_v0_1) = v1 c
          ∧ r.2.mem ((c.tc : Thread Cert.UpdateFfnInIdeal.nD Cert.UpdateFfnInIdeal.τ).loc Cert.UpdateFfnInIdeal.main_v0_2) = v2 c
          ∧ r.2.mem ((c.tc : Thread Cert.UpdateFfnInIdeal.nD Cert.UpdateFfnInIdeal.τ).loc Cert.UpdateFfnInIdeal.main_arg0) = m ((c.tc : Thread Cert.UpdateFfnInIdeal.nD Cert.UpdateFfnInIdeal.τ).loc Cert.UpdateFfnInIdeal.main_arg0)
          ∧ r.2.mem ((c.tc : Thread Cert.UpdateFfnInIdeal.nD Cert.UpdateFfnInIdeal.τ).loc Cert.UpdateFfnInIdeal.main_arg1) = m ((c.tc : Thread Cert.UpdateFfnInIdeal.nD Cert.UpdateFfnInIdeal.τ).loc Cert.UpdateFfnInIdeal.main_arg1)
          ∧ r.2.mem ((c.tc : Thread Cert.UpdateFfnInIdeal.nD Cert.UpdateFfnInIdeal.τ).loc Cert.UpdateFfnInIdeal.main_arg2) = m ((c.tc : Thread Cert.UpdateFfnInIdeal.nD Cert.UpdateFfnInIdeal.τ).loc Cert.UpdateFfnInIdeal.main_arg2)
          ∧ r.2.mem ((c.tc : Thread Cert.UpdateFfnInIdeal.nD Cert.UpdateFfnInIdeal.τ).loc Cert.UpdateFfnInIdeal.main_arg3) = m ((c.tc : Thread Cert.UpdateFfnInIdeal.nD Cert.UpdateFfnInIdeal.τ).loc Cert.UpdateFfnInIdeal.main_arg3))
      ∧ θ_run (Cert.UpdateFfnInRefIdeal.defs (F := Ideal)) (onTc (τ := Cert.UpdateFfnInRefIdeal.τ) (Cert.UpdateFfnInRefIdeal.main (F := Ideal))) ⟨m', fun _ => 0, g'⟩ (fun r => ∀ c : Dev Cert.UpdateFfnInRefIdeal.nD,
          r.2.mem ((c.tc : Thread Cert.UpdateFfnInRefIdeal.nD Cert.UpdateFfnInRefIdeal.τ).loc Cert.UpdateFfnInRefIdeal.main_v23) = v0 c
          ∧ r.2.mem ((c.tc : Thread Cert.UpdateFfnInRefIdeal.nD Cert.UpdateFfnInRefIdeal.τ).loc Cert.UpdateFfnInRefIdeal.main_v4) = v1 c
          ∧ r.2.mem ((c.tc : Thread Cert.UpdateFfnInRefIdeal.nD Cert.UpdateFfnInRefIdeal.τ).loc Cert.UpdateFfnInRefIdeal.main_v10) = v2 c
          ∧ r.2.mem ((c.tc : Thread Cert.UpdateFfnInRefIdeal.nD Cert.UpdateFfnInRefIdeal.τ).loc Cert.UpdateFfnInRefIdeal.main_arg0) = m' ((c.tc : Thread Cert.UpdateFfnInRefIdeal.nD Cert.UpdateFfnInRefIdeal.τ).loc Cert.UpdateFfnInRefIdeal.main_arg0)
          ∧ r.2.mem ((c.tc : Thread Cert.UpdateFfnInRefIdeal.nD Cert.UpdateFfnInRefIdeal.τ).loc Cert.UpdateFfnInRefIdeal.main_arg1) = m' ((c.tc : Thread Cert.UpdateFfnInRefIdeal.nD Cert.UpdateFfnInRefIdeal.τ).loc Cert.UpdateFfnInRefIdeal.main_arg1)
          ∧ r.2.mem ((c.tc : Thread Cert.UpdateFfnInRefIdeal.nD Cert.UpdateFfnInRefIdeal.τ).loc Cert.UpdateFfnInRefIdeal.main_arg2) = m' ((c.tc : Thread Cert.UpdateFfnInRefIdeal.nD Cert.UpdateFfnInRefIdeal.τ).loc Cert.UpdateFfnInRefIdeal.main_arg2)
          ∧ r.2.mem ((c.tc : Thread Cert.UpdateFfnInRefIdeal.nD Cert.UpdateFfnInRefIdeal.τ).loc Cert.UpdateFfnInRefIdeal.main_arg3) = m' ((c.tc : Thread Cert.UpdateFfnInRefIdeal.nD Cert.UpdateFfnInRefIdeal.τ).loc Cert.UpdateFfnInRefIdeal.main_arg3))

def preserves_UpdateFfnOut_UpdateFfnOutIdeal : Prop :=
  True

def algebraic_UpdateFfnOutIdeal_UpdateFfnOutRefIdeal [hUpdateFfnOutIdeal : Cert.UpdateFfnOutIdeal.Facts] [hUpdateFfnOutRefIdeal : Cert.UpdateFfnOutRefIdeal.Facts] : Prop :=
  ∀ (m : (ℓ : Loc Cert.UpdateFfnOutIdeal.nD Cert.UpdateFfnOutIdeal.τ Cert.UpdateFfnOutIdeal.sig) → Buf (Elt Ideal) ℓ) (g : Dev Cert.UpdateFfnOutIdeal.nD → PrngReg)
    (m' : (ℓ : Loc Cert.UpdateFfnOutRefIdeal.nD Cert.UpdateFfnOutRefIdeal.τ Cert.UpdateFfnOutRefIdeal.sig) → Buf (Elt Ideal) ℓ) (g' : Dev Cert.UpdateFfnOutRefIdeal.nD → PrngReg), Pre_UpdateFfnOutIdeal m →
    (∀ c : Dev Cert.UpdateFfnOutIdeal.nD,
      m' ((c.tc : Thread Cert.UpdateFfnOutRefIdeal.nD Cert.UpdateFfnOutRefIdeal.τ).loc Cert.UpdateFfnOutRefIdeal.main_arg0) = m ((c.tc : Thread Cert.UpdateFfnOutIdeal.nD Cert.UpdateFfnOutIdeal.τ).loc Cert.UpdateFfnOutIdeal.main_arg0)
      ∧ m' ((c.tc : Thread Cert.UpdateFfnOutRefIdeal.nD Cert.UpdateFfnOutRefIdeal.τ).loc Cert.UpdateFfnOutRefIdeal.main_arg1) = m ((c.tc : Thread Cert.UpdateFfnOutIdeal.nD Cert.UpdateFfnOutIdeal.τ).loc Cert.UpdateFfnOutIdeal.main_arg1)
      ∧ m' ((c.tc : Thread Cert.UpdateFfnOutRefIdeal.nD Cert.UpdateFfnOutRefIdeal.τ).loc Cert.UpdateFfnOutRefIdeal.main_arg2) = m ((c.tc : Thread Cert.UpdateFfnOutIdeal.nD Cert.UpdateFfnOutIdeal.τ).loc Cert.UpdateFfnOutIdeal.main_arg2)
      ∧ m' ((c.tc : Thread Cert.UpdateFfnOutRefIdeal.nD Cert.UpdateFfnOutRefIdeal.τ).loc Cert.UpdateFfnOutRefIdeal.main_arg3) = m ((c.tc : Thread Cert.UpdateFfnOutIdeal.nD Cert.UpdateFfnOutIdeal.τ).loc Cert.UpdateFfnOutIdeal.main_arg3)) →
    ∃ (v0 : (c : Dev Cert.UpdateFfnOutIdeal.nD) → Buf (Elt Ideal) ((c.tc : Thread Cert.UpdateFfnOutIdeal.nD Cert.UpdateFfnOutIdeal.τ).loc Cert.UpdateFfnOutIdeal.main_v0_0)) (v1 : (c : Dev Cert.UpdateFfnOutIdeal.nD) → Buf (Elt Ideal) ((c.tc : Thread Cert.UpdateFfnOutIdeal.nD Cert.UpdateFfnOutIdeal.τ).loc Cert.UpdateFfnOutIdeal.main_v0_1)) (v2 : (c : Dev Cert.UpdateFfnOutIdeal.nD) → Buf (Elt Ideal) ((c.tc : Thread Cert.UpdateFfnOutIdeal.nD Cert.UpdateFfnOutIdeal.τ).loc Cert.UpdateFfnOutIdeal.main_v0_2)),
      θ_run (Cert.UpdateFfnOutIdeal.defs (F := Ideal)) (onTc (τ := Cert.UpdateFfnOutIdeal.τ) (Cert.UpdateFfnOutIdeal.main (F := Ideal))) ⟨m, fun _ => 0, g⟩ (fun r => ∀ c : Dev Cert.UpdateFfnOutIdeal.nD,
          r.2.mem ((c.tc : Thread Cert.UpdateFfnOutIdeal.nD Cert.UpdateFfnOutIdeal.τ).loc Cert.UpdateFfnOutIdeal.main_v0_0) = v0 c
          ∧ r.2.mem ((c.tc : Thread Cert.UpdateFfnOutIdeal.nD Cert.UpdateFfnOutIdeal.τ).loc Cert.UpdateFfnOutIdeal.main_v0_1) = v1 c
          ∧ r.2.mem ((c.tc : Thread Cert.UpdateFfnOutIdeal.nD Cert.UpdateFfnOutIdeal.τ).loc Cert.UpdateFfnOutIdeal.main_v0_2) = v2 c
          ∧ r.2.mem ((c.tc : Thread Cert.UpdateFfnOutIdeal.nD Cert.UpdateFfnOutIdeal.τ).loc Cert.UpdateFfnOutIdeal.main_arg0) = m ((c.tc : Thread Cert.UpdateFfnOutIdeal.nD Cert.UpdateFfnOutIdeal.τ).loc Cert.UpdateFfnOutIdeal.main_arg0)
          ∧ r.2.mem ((c.tc : Thread Cert.UpdateFfnOutIdeal.nD Cert.UpdateFfnOutIdeal.τ).loc Cert.UpdateFfnOutIdeal.main_arg1) = m ((c.tc : Thread Cert.UpdateFfnOutIdeal.nD Cert.UpdateFfnOutIdeal.τ).loc Cert.UpdateFfnOutIdeal.main_arg1)
          ∧ r.2.mem ((c.tc : Thread Cert.UpdateFfnOutIdeal.nD Cert.UpdateFfnOutIdeal.τ).loc Cert.UpdateFfnOutIdeal.main_arg2) = m ((c.tc : Thread Cert.UpdateFfnOutIdeal.nD Cert.UpdateFfnOutIdeal.τ).loc Cert.UpdateFfnOutIdeal.main_arg2)
          ∧ r.2.mem ((c.tc : Thread Cert.UpdateFfnOutIdeal.nD Cert.UpdateFfnOutIdeal.τ).loc Cert.UpdateFfnOutIdeal.main_arg3) = m ((c.tc : Thread Cert.UpdateFfnOutIdeal.nD Cert.UpdateFfnOutIdeal.τ).loc Cert.UpdateFfnOutIdeal.main_arg3))
      ∧ θ_run (Cert.UpdateFfnOutRefIdeal.defs (F := Ideal)) (onTc (τ := Cert.UpdateFfnOutRefIdeal.τ) (Cert.UpdateFfnOutRefIdeal.main (F := Ideal))) ⟨m', fun _ => 0, g'⟩ (fun r => ∀ c : Dev Cert.UpdateFfnOutRefIdeal.nD,
          r.2.mem ((c.tc : Thread Cert.UpdateFfnOutRefIdeal.nD Cert.UpdateFfnOutRefIdeal.τ).loc Cert.UpdateFfnOutRefIdeal.main_v23) = v0 c
          ∧ r.2.mem ((c.tc : Thread Cert.UpdateFfnOutRefIdeal.nD Cert.UpdateFfnOutRefIdeal.τ).loc Cert.UpdateFfnOutRefIdeal.main_v4) = v1 c
          ∧ r.2.mem ((c.tc : Thread Cert.UpdateFfnOutRefIdeal.nD Cert.UpdateFfnOutRefIdeal.τ).loc Cert.UpdateFfnOutRefIdeal.main_v10) = v2 c
          ∧ r.2.mem ((c.tc : Thread Cert.UpdateFfnOutRefIdeal.nD Cert.UpdateFfnOutRefIdeal.τ).loc Cert.UpdateFfnOutRefIdeal.main_arg0) = m' ((c.tc : Thread Cert.UpdateFfnOutRefIdeal.nD Cert.UpdateFfnOutRefIdeal.τ).loc Cert.UpdateFfnOutRefIdeal.main_arg0)
          ∧ r.2.mem ((c.tc : Thread Cert.UpdateFfnOutRefIdeal.nD Cert.UpdateFfnOutRefIdeal.τ).loc Cert.UpdateFfnOutRefIdeal.main_arg1) = m' ((c.tc : Thread Cert.UpdateFfnOutRefIdeal.nD Cert.UpdateFfnOutRefIdeal.τ).loc Cert.UpdateFfnOutRefIdeal.main_arg1)
          ∧ r.2.mem ((c.tc : Thread Cert.UpdateFfnOutRefIdeal.nD Cert.UpdateFfnOutRefIdeal.τ).loc Cert.UpdateFfnOutRefIdeal.main_arg2) = m' ((c.tc : Thread Cert.UpdateFfnOutRefIdeal.nD Cert.UpdateFfnOutRefIdeal.τ).loc Cert.UpdateFfnOutRefIdeal.main_arg2)
          ∧ r.2.mem ((c.tc : Thread Cert.UpdateFfnOutRefIdeal.nD Cert.UpdateFfnOutRefIdeal.τ).loc Cert.UpdateFfnOutRefIdeal.main_arg3) = m' ((c.tc : Thread Cert.UpdateFfnOutRefIdeal.nD Cert.UpdateFfnOutRefIdeal.τ).loc Cert.UpdateFfnOutRefIdeal.main_arg3))

def preserves_UpdateProj_UpdateProjIdeal : Prop :=
  True

def algebraic_UpdateProjIdeal_UpdateProjRefIdeal [hUpdateProjIdeal : Cert.UpdateProjIdeal.Facts] [hUpdateProjRefIdeal : Cert.UpdateProjRefIdeal.Facts] : Prop :=
  ∀ (m : (ℓ : Loc Cert.UpdateProjIdeal.nD Cert.UpdateProjIdeal.τ Cert.UpdateProjIdeal.sig) → Buf (Elt Ideal) ℓ) (g : Dev Cert.UpdateProjIdeal.nD → PrngReg)
    (m' : (ℓ : Loc Cert.UpdateProjRefIdeal.nD Cert.UpdateProjRefIdeal.τ Cert.UpdateProjRefIdeal.sig) → Buf (Elt Ideal) ℓ) (g' : Dev Cert.UpdateProjRefIdeal.nD → PrngReg), Pre_UpdateProjIdeal m →
    (∀ c : Dev Cert.UpdateProjIdeal.nD,
      m' ((c.tc : Thread Cert.UpdateProjRefIdeal.nD Cert.UpdateProjRefIdeal.τ).loc Cert.UpdateProjRefIdeal.main_arg0) = m ((c.tc : Thread Cert.UpdateProjIdeal.nD Cert.UpdateProjIdeal.τ).loc Cert.UpdateProjIdeal.main_arg0)
      ∧ m' ((c.tc : Thread Cert.UpdateProjRefIdeal.nD Cert.UpdateProjRefIdeal.τ).loc Cert.UpdateProjRefIdeal.main_arg1) = m ((c.tc : Thread Cert.UpdateProjIdeal.nD Cert.UpdateProjIdeal.τ).loc Cert.UpdateProjIdeal.main_arg1)
      ∧ m' ((c.tc : Thread Cert.UpdateProjRefIdeal.nD Cert.UpdateProjRefIdeal.τ).loc Cert.UpdateProjRefIdeal.main_arg2) = m ((c.tc : Thread Cert.UpdateProjIdeal.nD Cert.UpdateProjIdeal.τ).loc Cert.UpdateProjIdeal.main_arg2)
      ∧ m' ((c.tc : Thread Cert.UpdateProjRefIdeal.nD Cert.UpdateProjRefIdeal.τ).loc Cert.UpdateProjRefIdeal.main_arg3) = m ((c.tc : Thread Cert.UpdateProjIdeal.nD Cert.UpdateProjIdeal.τ).loc Cert.UpdateProjIdeal.main_arg3)) →
    ∃ (v0 : (c : Dev Cert.UpdateProjIdeal.nD) → Buf (Elt Ideal) ((c.tc : Thread Cert.UpdateProjIdeal.nD Cert.UpdateProjIdeal.τ).loc Cert.UpdateProjIdeal.main_v0_0)) (v1 : (c : Dev Cert.UpdateProjIdeal.nD) → Buf (Elt Ideal) ((c.tc : Thread Cert.UpdateProjIdeal.nD Cert.UpdateProjIdeal.τ).loc Cert.UpdateProjIdeal.main_v0_1)) (v2 : (c : Dev Cert.UpdateProjIdeal.nD) → Buf (Elt Ideal) ((c.tc : Thread Cert.UpdateProjIdeal.nD Cert.UpdateProjIdeal.τ).loc Cert.UpdateProjIdeal.main_v0_2)),
      θ_run (Cert.UpdateProjIdeal.defs (F := Ideal)) (onTc (τ := Cert.UpdateProjIdeal.τ) (Cert.UpdateProjIdeal.main (F := Ideal))) ⟨m, fun _ => 0, g⟩ (fun r => ∀ c : Dev Cert.UpdateProjIdeal.nD,
          r.2.mem ((c.tc : Thread Cert.UpdateProjIdeal.nD Cert.UpdateProjIdeal.τ).loc Cert.UpdateProjIdeal.main_v0_0) = v0 c
          ∧ r.2.mem ((c.tc : Thread Cert.UpdateProjIdeal.nD Cert.UpdateProjIdeal.τ).loc Cert.UpdateProjIdeal.main_v0_1) = v1 c
          ∧ r.2.mem ((c.tc : Thread Cert.UpdateProjIdeal.nD Cert.UpdateProjIdeal.τ).loc Cert.UpdateProjIdeal.main_v0_2) = v2 c
          ∧ r.2.mem ((c.tc : Thread Cert.UpdateProjIdeal.nD Cert.UpdateProjIdeal.τ).loc Cert.UpdateProjIdeal.main_arg0) = m ((c.tc : Thread Cert.UpdateProjIdeal.nD Cert.UpdateProjIdeal.τ).loc Cert.UpdateProjIdeal.main_arg0)
          ∧ r.2.mem ((c.tc : Thread Cert.UpdateProjIdeal.nD Cert.UpdateProjIdeal.τ).loc Cert.UpdateProjIdeal.main_arg1) = m ((c.tc : Thread Cert.UpdateProjIdeal.nD Cert.UpdateProjIdeal.τ).loc Cert.UpdateProjIdeal.main_arg1)
          ∧ r.2.mem ((c.tc : Thread Cert.UpdateProjIdeal.nD Cert.UpdateProjIdeal.τ).loc Cert.UpdateProjIdeal.main_arg2) = m ((c.tc : Thread Cert.UpdateProjIdeal.nD Cert.UpdateProjIdeal.τ).loc Cert.UpdateProjIdeal.main_arg2)
          ∧ r.2.mem ((c.tc : Thread Cert.UpdateProjIdeal.nD Cert.UpdateProjIdeal.τ).loc Cert.UpdateProjIdeal.main_arg3) = m ((c.tc : Thread Cert.UpdateProjIdeal.nD Cert.UpdateProjIdeal.τ).loc Cert.UpdateProjIdeal.main_arg3))
      ∧ θ_run (Cert.UpdateProjRefIdeal.defs (F := Ideal)) (onTc (τ := Cert.UpdateProjRefIdeal.τ) (Cert.UpdateProjRefIdeal.main (F := Ideal))) ⟨m', fun _ => 0, g'⟩ (fun r => ∀ c : Dev Cert.UpdateProjRefIdeal.nD,
          r.2.mem ((c.tc : Thread Cert.UpdateProjRefIdeal.nD Cert.UpdateProjRefIdeal.τ).loc Cert.UpdateProjRefIdeal.main_v23) = v0 c
          ∧ r.2.mem ((c.tc : Thread Cert.UpdateProjRefIdeal.nD Cert.UpdateProjRefIdeal.τ).loc Cert.UpdateProjRefIdeal.main_v4) = v1 c
          ∧ r.2.mem ((c.tc : Thread Cert.UpdateProjRefIdeal.nD Cert.UpdateProjRefIdeal.τ).loc Cert.UpdateProjRefIdeal.main_v10) = v2 c
          ∧ r.2.mem ((c.tc : Thread Cert.UpdateProjRefIdeal.nD Cert.UpdateProjRefIdeal.τ).loc Cert.UpdateProjRefIdeal.main_arg0) = m' ((c.tc : Thread Cert.UpdateProjRefIdeal.nD Cert.UpdateProjRefIdeal.τ).loc Cert.UpdateProjRefIdeal.main_arg0)
          ∧ r.2.mem ((c.tc : Thread Cert.UpdateProjRefIdeal.nD Cert.UpdateProjRefIdeal.τ).loc Cert.UpdateProjRefIdeal.main_arg1) = m' ((c.tc : Thread Cert.UpdateProjRefIdeal.nD Cert.UpdateProjRefIdeal.τ).loc Cert.UpdateProjRefIdeal.main_arg1)
          ∧ r.2.mem ((c.tc : Thread Cert.UpdateProjRefIdeal.nD Cert.UpdateProjRefIdeal.τ).loc Cert.UpdateProjRefIdeal.main_arg2) = m' ((c.tc : Thread Cert.UpdateProjRefIdeal.nD Cert.UpdateProjRefIdeal.τ).loc Cert.UpdateProjRefIdeal.main_arg2)
          ∧ r.2.mem ((c.tc : Thread Cert.UpdateProjRefIdeal.nD Cert.UpdateProjRefIdeal.τ).loc Cert.UpdateProjRefIdeal.main_arg3) = m' ((c.tc : Thread Cert.UpdateProjRefIdeal.nD Cert.UpdateProjRefIdeal.τ).loc Cert.UpdateProjRefIdeal.main_arg3))

def preserves_UpdateSpatial_UpdateSpatialIdeal : Prop :=
  True

def algebraic_UpdateSpatialIdeal_UpdateSpatialRefIdeal [hUpdateSpatialIdeal : Cert.UpdateSpatialIdeal.Facts] [hUpdateSpatialRefIdeal : Cert.UpdateSpatialRefIdeal.Facts] : Prop :=
  ∀ (m : (ℓ : Loc Cert.UpdateSpatialIdeal.nD Cert.UpdateSpatialIdeal.τ Cert.UpdateSpatialIdeal.sig) → Buf (Elt Ideal) ℓ) (g : Dev Cert.UpdateSpatialIdeal.nD → PrngReg)
    (m' : (ℓ : Loc Cert.UpdateSpatialRefIdeal.nD Cert.UpdateSpatialRefIdeal.τ Cert.UpdateSpatialRefIdeal.sig) → Buf (Elt Ideal) ℓ) (g' : Dev Cert.UpdateSpatialRefIdeal.nD → PrngReg), Pre_UpdateSpatialIdeal m →
    (∀ c : Dev Cert.UpdateSpatialIdeal.nD,
      m' ((c.tc : Thread Cert.UpdateSpatialRefIdeal.nD Cert.UpdateSpatialRefIdeal.τ).loc Cert.UpdateSpatialRefIdeal.main_arg0) = m ((c.tc : Thread Cert.UpdateSpatialIdeal.nD Cert.UpdateSpatialIdeal.τ).loc Cert.UpdateSpatialIdeal.main_arg0)
      ∧ m' ((c.tc : Thread Cert.UpdateSpatialRefIdeal.nD Cert.UpdateSpatialRefIdeal.τ).loc Cert.UpdateSpatialRefIdeal.main_arg1) = m ((c.tc : Thread Cert.UpdateSpatialIdeal.nD Cert.UpdateSpatialIdeal.τ).loc Cert.UpdateSpatialIdeal.main_arg1)
      ∧ m' ((c.tc : Thread Cert.UpdateSpatialRefIdeal.nD Cert.UpdateSpatialRefIdeal.τ).loc Cert.UpdateSpatialRefIdeal.main_arg2) = m ((c.tc : Thread Cert.UpdateSpatialIdeal.nD Cert.UpdateSpatialIdeal.τ).loc Cert.UpdateSpatialIdeal.main_arg2)
      ∧ m' ((c.tc : Thread Cert.UpdateSpatialRefIdeal.nD Cert.UpdateSpatialRefIdeal.τ).loc Cert.UpdateSpatialRefIdeal.main_arg3) = m ((c.tc : Thread Cert.UpdateSpatialIdeal.nD Cert.UpdateSpatialIdeal.τ).loc Cert.UpdateSpatialIdeal.main_arg3)) →
    ∃ (v0 : (c : Dev Cert.UpdateSpatialIdeal.nD) → Buf (Elt Ideal) ((c.tc : Thread Cert.UpdateSpatialIdeal.nD Cert.UpdateSpatialIdeal.τ).loc Cert.UpdateSpatialIdeal.main_v0_0)) (v1 : (c : Dev Cert.UpdateSpatialIdeal.nD) → Buf (Elt Ideal) ((c.tc : Thread Cert.UpdateSpatialIdeal.nD Cert.UpdateSpatialIdeal.τ).loc Cert.UpdateSpatialIdeal.main_v0_1)) (v2 : (c : Dev Cert.UpdateSpatialIdeal.nD) → Buf (Elt Ideal) ((c.tc : Thread Cert.UpdateSpatialIdeal.nD Cert.UpdateSpatialIdeal.τ).loc Cert.UpdateSpatialIdeal.main_v0_2)),
      θ_run (Cert.UpdateSpatialIdeal.defs (F := Ideal)) (onTc (τ := Cert.UpdateSpatialIdeal.τ) (Cert.UpdateSpatialIdeal.main (F := Ideal))) ⟨m, fun _ => 0, g⟩ (fun r => ∀ c : Dev Cert.UpdateSpatialIdeal.nD,
          r.2.mem ((c.tc : Thread Cert.UpdateSpatialIdeal.nD Cert.UpdateSpatialIdeal.τ).loc Cert.UpdateSpatialIdeal.main_v0_0) = v0 c
          ∧ r.2.mem ((c.tc : Thread Cert.UpdateSpatialIdeal.nD Cert.UpdateSpatialIdeal.τ).loc Cert.UpdateSpatialIdeal.main_v0_1) = v1 c
          ∧ r.2.mem ((c.tc : Thread Cert.UpdateSpatialIdeal.nD Cert.UpdateSpatialIdeal.τ).loc Cert.UpdateSpatialIdeal.main_v0_2) = v2 c
          ∧ r.2.mem ((c.tc : Thread Cert.UpdateSpatialIdeal.nD Cert.UpdateSpatialIdeal.τ).loc Cert.UpdateSpatialIdeal.main_arg0) = m ((c.tc : Thread Cert.UpdateSpatialIdeal.nD Cert.UpdateSpatialIdeal.τ).loc Cert.UpdateSpatialIdeal.main_arg0)
          ∧ r.2.mem ((c.tc : Thread Cert.UpdateSpatialIdeal.nD Cert.UpdateSpatialIdeal.τ).loc Cert.UpdateSpatialIdeal.main_arg1) = m ((c.tc : Thread Cert.UpdateSpatialIdeal.nD Cert.UpdateSpatialIdeal.τ).loc Cert.UpdateSpatialIdeal.main_arg1)
          ∧ r.2.mem ((c.tc : Thread Cert.UpdateSpatialIdeal.nD Cert.UpdateSpatialIdeal.τ).loc Cert.UpdateSpatialIdeal.main_arg2) = m ((c.tc : Thread Cert.UpdateSpatialIdeal.nD Cert.UpdateSpatialIdeal.τ).loc Cert.UpdateSpatialIdeal.main_arg2)
          ∧ r.2.mem ((c.tc : Thread Cert.UpdateSpatialIdeal.nD Cert.UpdateSpatialIdeal.τ).loc Cert.UpdateSpatialIdeal.main_arg3) = m ((c.tc : Thread Cert.UpdateSpatialIdeal.nD Cert.UpdateSpatialIdeal.τ).loc Cert.UpdateSpatialIdeal.main_arg3))
      ∧ θ_run (Cert.UpdateSpatialRefIdeal.defs (F := Ideal)) (onTc (τ := Cert.UpdateSpatialRefIdeal.τ) (Cert.UpdateSpatialRefIdeal.main (F := Ideal))) ⟨m', fun _ => 0, g'⟩ (fun r => ∀ c : Dev Cert.UpdateSpatialRefIdeal.nD,
          r.2.mem ((c.tc : Thread Cert.UpdateSpatialRefIdeal.nD Cert.UpdateSpatialRefIdeal.τ).loc Cert.UpdateSpatialRefIdeal.main_v23) = v0 c
          ∧ r.2.mem ((c.tc : Thread Cert.UpdateSpatialRefIdeal.nD Cert.UpdateSpatialRefIdeal.τ).loc Cert.UpdateSpatialRefIdeal.main_v4) = v1 c
          ∧ r.2.mem ((c.tc : Thread Cert.UpdateSpatialRefIdeal.nD Cert.UpdateSpatialRefIdeal.τ).loc Cert.UpdateSpatialRefIdeal.main_v10) = v2 c
          ∧ r.2.mem ((c.tc : Thread Cert.UpdateSpatialRefIdeal.nD Cert.UpdateSpatialRefIdeal.τ).loc Cert.UpdateSpatialRefIdeal.main_arg0) = m' ((c.tc : Thread Cert.UpdateSpatialRefIdeal.nD Cert.UpdateSpatialRefIdeal.τ).loc Cert.UpdateSpatialRefIdeal.main_arg0)
          ∧ r.2.mem ((c.tc : Thread Cert.UpdateSpatialRefIdeal.nD Cert.UpdateSpatialRefIdeal.τ).loc Cert.UpdateSpatialRefIdeal.main_arg1) = m' ((c.tc : Thread Cert.UpdateSpatialRefIdeal.nD Cert.UpdateSpatialRefIdeal.τ).loc Cert.UpdateSpatialRefIdeal.main_arg1)
          ∧ r.2.mem ((c.tc : Thread Cert.UpdateSpatialRefIdeal.nD Cert.UpdateSpatialRefIdeal.τ).loc Cert.UpdateSpatialRefIdeal.main_arg2) = m' ((c.tc : Thread Cert.UpdateSpatialRefIdeal.nD Cert.UpdateSpatialRefIdeal.τ).loc Cert.UpdateSpatialRefIdeal.main_arg2)
          ∧ r.2.mem ((c.tc : Thread Cert.UpdateSpatialRefIdeal.nD Cert.UpdateSpatialRefIdeal.τ).loc Cert.UpdateSpatialRefIdeal.main_arg3) = m' ((c.tc : Thread Cert.UpdateSpatialRefIdeal.nD Cert.UpdateSpatialRefIdeal.τ).loc Cert.UpdateSpatialRefIdeal.main_arg3))

def preserves_UpdateSpatialBias_UpdateSpatialBiasIdeal : Prop :=
  True

def algebraic_UpdateSpatialBiasIdeal_UpdateSpatialBiasRefIdeal [hUpdateSpatialBiasIdeal : Cert.UpdateSpatialBiasIdeal.Facts] [hUpdateSpatialBiasRefIdeal : Cert.UpdateSpatialBiasRefIdeal.Facts] : Prop :=
  ∀ (m : (ℓ : Loc Cert.UpdateSpatialBiasIdeal.nD Cert.UpdateSpatialBiasIdeal.τ Cert.UpdateSpatialBiasIdeal.sig) → Buf (Elt Ideal) ℓ) (g : Dev Cert.UpdateSpatialBiasIdeal.nD → PrngReg)
    (m' : (ℓ : Loc Cert.UpdateSpatialBiasRefIdeal.nD Cert.UpdateSpatialBiasRefIdeal.τ Cert.UpdateSpatialBiasRefIdeal.sig) → Buf (Elt Ideal) ℓ) (g' : Dev Cert.UpdateSpatialBiasRefIdeal.nD → PrngReg), Pre_UpdateSpatialBiasIdeal m →
    (∀ c : Dev Cert.UpdateSpatialBiasIdeal.nD,
      m' ((c.tc : Thread Cert.UpdateSpatialBiasRefIdeal.nD Cert.UpdateSpatialBiasRefIdeal.τ).loc Cert.UpdateSpatialBiasRefIdeal.main_arg0) = m ((c.tc : Thread Cert.UpdateSpatialBiasIdeal.nD Cert.UpdateSpatialBiasIdeal.τ).loc Cert.UpdateSpatialBiasIdeal.main_arg0)
      ∧ m' ((c.tc : Thread Cert.UpdateSpatialBiasRefIdeal.nD Cert.UpdateSpatialBiasRefIdeal.τ).loc Cert.UpdateSpatialBiasRefIdeal.main_arg1) = m ((c.tc : Thread Cert.UpdateSpatialBiasIdeal.nD Cert.UpdateSpatialBiasIdeal.τ).loc Cert.UpdateSpatialBiasIdeal.main_arg1)
      ∧ m' ((c.tc : Thread Cert.UpdateSpatialBiasRefIdeal.nD Cert.UpdateSpatialBiasRefIdeal.τ).loc Cert.UpdateSpatialBiasRefIdeal.main_arg2) = m ((c.tc : Thread Cert.UpdateSpatialBiasIdeal.nD Cert.UpdateSpatialBiasIdeal.τ).loc Cert.UpdateSpatialBiasIdeal.main_arg2)
      ∧ m' ((c.tc : Thread Cert.UpdateSpatialBiasRefIdeal.nD Cert.UpdateSpatialBiasRefIdeal.τ).loc Cert.UpdateSpatialBiasRefIdeal.main_arg3) = m ((c.tc : Thread Cert.UpdateSpatialBiasIdeal.nD Cert.UpdateSpatialBiasIdeal.τ).loc Cert.UpdateSpatialBiasIdeal.main_arg3)) →
    ∃ (v0 : (c : Dev Cert.UpdateSpatialBiasIdeal.nD) → Buf (Elt Ideal) ((c.tc : Thread Cert.UpdateSpatialBiasIdeal.nD Cert.UpdateSpatialBiasIdeal.τ).loc Cert.UpdateSpatialBiasIdeal.main_v0_0)) (v1 : (c : Dev Cert.UpdateSpatialBiasIdeal.nD) → Buf (Elt Ideal) ((c.tc : Thread Cert.UpdateSpatialBiasIdeal.nD Cert.UpdateSpatialBiasIdeal.τ).loc Cert.UpdateSpatialBiasIdeal.main_v0_1)) (v2 : (c : Dev Cert.UpdateSpatialBiasIdeal.nD) → Buf (Elt Ideal) ((c.tc : Thread Cert.UpdateSpatialBiasIdeal.nD Cert.UpdateSpatialBiasIdeal.τ).loc Cert.UpdateSpatialBiasIdeal.main_v0_2)),
      θ_run (Cert.UpdateSpatialBiasIdeal.defs (F := Ideal)) (onTc (τ := Cert.UpdateSpatialBiasIdeal.τ) (Cert.UpdateSpatialBiasIdeal.main (F := Ideal))) ⟨m, fun _ => 0, g⟩ (fun r => ∀ c : Dev Cert.UpdateSpatialBiasIdeal.nD,
          r.2.mem ((c.tc : Thread Cert.UpdateSpatialBiasIdeal.nD Cert.UpdateSpatialBiasIdeal.τ).loc Cert.UpdateSpatialBiasIdeal.main_v0_0) = v0 c
          ∧ r.2.mem ((c.tc : Thread Cert.UpdateSpatialBiasIdeal.nD Cert.UpdateSpatialBiasIdeal.τ).loc Cert.UpdateSpatialBiasIdeal.main_v0_1) = v1 c
          ∧ r.2.mem ((c.tc : Thread Cert.UpdateSpatialBiasIdeal.nD Cert.UpdateSpatialBiasIdeal.τ).loc Cert.UpdateSpatialBiasIdeal.main_v0_2) = v2 c
          ∧ r.2.mem ((c.tc : Thread Cert.UpdateSpatialBiasIdeal.nD Cert.UpdateSpatialBiasIdeal.τ).loc Cert.UpdateSpatialBiasIdeal.main_arg0) = m ((c.tc : Thread Cert.UpdateSpatialBiasIdeal.nD Cert.UpdateSpatialBiasIdeal.τ).loc Cert.UpdateSpatialBiasIdeal.main_arg0)
          ∧ r.2.mem ((c.tc : Thread Cert.UpdateSpatialBiasIdeal.nD Cert.UpdateSpatialBiasIdeal.τ).loc Cert.UpdateSpatialBiasIdeal.main_arg1) = m ((c.tc : Thread Cert.UpdateSpatialBiasIdeal.nD Cert.UpdateSpatialBiasIdeal.τ).loc Cert.UpdateSpatialBiasIdeal.main_arg1)
          ∧ r.2.mem ((c.tc : Thread Cert.UpdateSpatialBiasIdeal.nD Cert.UpdateSpatialBiasIdeal.τ).loc Cert.UpdateSpatialBiasIdeal.main_arg2) = m ((c.tc : Thread Cert.UpdateSpatialBiasIdeal.nD Cert.UpdateSpatialBiasIdeal.τ).loc Cert.UpdateSpatialBiasIdeal.main_arg2)
          ∧ r.2.mem ((c.tc : Thread Cert.UpdateSpatialBiasIdeal.nD Cert.UpdateSpatialBiasIdeal.τ).loc Cert.UpdateSpatialBiasIdeal.main_arg3) = m ((c.tc : Thread Cert.UpdateSpatialBiasIdeal.nD Cert.UpdateSpatialBiasIdeal.τ).loc Cert.UpdateSpatialBiasIdeal.main_arg3))
      ∧ θ_run (Cert.UpdateSpatialBiasRefIdeal.defs (F := Ideal)) (onTc (τ := Cert.UpdateSpatialBiasRefIdeal.τ) (Cert.UpdateSpatialBiasRefIdeal.main (F := Ideal))) ⟨m', fun _ => 0, g'⟩ (fun r => ∀ c : Dev Cert.UpdateSpatialBiasRefIdeal.nD,
          r.2.mem ((c.tc : Thread Cert.UpdateSpatialBiasRefIdeal.nD Cert.UpdateSpatialBiasRefIdeal.τ).loc Cert.UpdateSpatialBiasRefIdeal.main_v23) = v0 c
          ∧ r.2.mem ((c.tc : Thread Cert.UpdateSpatialBiasRefIdeal.nD Cert.UpdateSpatialBiasRefIdeal.τ).loc Cert.UpdateSpatialBiasRefIdeal.main_v4) = v1 c
          ∧ r.2.mem ((c.tc : Thread Cert.UpdateSpatialBiasRefIdeal.nD Cert.UpdateSpatialBiasRefIdeal.τ).loc Cert.UpdateSpatialBiasRefIdeal.main_v10) = v2 c
          ∧ r.2.mem ((c.tc : Thread Cert.UpdateSpatialBiasRefIdeal.nD Cert.UpdateSpatialBiasRefIdeal.τ).loc Cert.UpdateSpatialBiasRefIdeal.main_arg0) = m' ((c.tc : Thread Cert.UpdateSpatialBiasRefIdeal.nD Cert.UpdateSpatialBiasRefIdeal.τ).loc Cert.UpdateSpatialBiasRefIdeal.main_arg0)
          ∧ r.2.mem ((c.tc : Thread Cert.UpdateSpatialBiasRefIdeal.nD Cert.UpdateSpatialBiasRefIdeal.τ).loc Cert.UpdateSpatialBiasRefIdeal.main_arg1) = m' ((c.tc : Thread Cert.UpdateSpatialBiasRefIdeal.nD Cert.UpdateSpatialBiasRefIdeal.τ).loc Cert.UpdateSpatialBiasRefIdeal.main_arg1)
          ∧ r.2.mem ((c.tc : Thread Cert.UpdateSpatialBiasRefIdeal.nD Cert.UpdateSpatialBiasRefIdeal.τ).loc Cert.UpdateSpatialBiasRefIdeal.main_arg2) = m' ((c.tc : Thread Cert.UpdateSpatialBiasRefIdeal.nD Cert.UpdateSpatialBiasRefIdeal.τ).loc Cert.UpdateSpatialBiasRefIdeal.main_arg2)
          ∧ r.2.mem ((c.tc : Thread Cert.UpdateSpatialBiasRefIdeal.nD Cert.UpdateSpatialBiasRefIdeal.τ).loc Cert.UpdateSpatialBiasRefIdeal.main_arg3) = m' ((c.tc : Thread Cert.UpdateSpatialBiasRefIdeal.nD Cert.UpdateSpatialBiasRefIdeal.τ).loc Cert.UpdateSpatialBiasRefIdeal.main_arg3))

def preserves_UpdateConvA_UpdateConvAIdeal : Prop :=
  True

def algebraic_UpdateConvAIdeal_UpdateConvARefIdeal [hUpdateConvAIdeal : Cert.UpdateConvAIdeal.Facts] [hUpdateConvARefIdeal : Cert.UpdateConvARefIdeal.Facts] : Prop :=
  ∀ (m : (ℓ : Loc Cert.UpdateConvAIdeal.nD Cert.UpdateConvAIdeal.τ Cert.UpdateConvAIdeal.sig) → Buf (Elt Ideal) ℓ) (g : Dev Cert.UpdateConvAIdeal.nD → PrngReg)
    (m' : (ℓ : Loc Cert.UpdateConvARefIdeal.nD Cert.UpdateConvARefIdeal.τ Cert.UpdateConvARefIdeal.sig) → Buf (Elt Ideal) ℓ) (g' : Dev Cert.UpdateConvARefIdeal.nD → PrngReg), Pre_UpdateConvAIdeal m →
    (∀ c : Dev Cert.UpdateConvAIdeal.nD,
      m' ((c.tc : Thread Cert.UpdateConvARefIdeal.nD Cert.UpdateConvARefIdeal.τ).loc Cert.UpdateConvARefIdeal.main_arg0) = m ((c.tc : Thread Cert.UpdateConvAIdeal.nD Cert.UpdateConvAIdeal.τ).loc Cert.UpdateConvAIdeal.main_arg0)
      ∧ m' ((c.tc : Thread Cert.UpdateConvARefIdeal.nD Cert.UpdateConvARefIdeal.τ).loc Cert.UpdateConvARefIdeal.main_arg1) = m ((c.tc : Thread Cert.UpdateConvAIdeal.nD Cert.UpdateConvAIdeal.τ).loc Cert.UpdateConvAIdeal.main_arg1)
      ∧ m' ((c.tc : Thread Cert.UpdateConvARefIdeal.nD Cert.UpdateConvARefIdeal.τ).loc Cert.UpdateConvARefIdeal.main_arg2) = m ((c.tc : Thread Cert.UpdateConvAIdeal.nD Cert.UpdateConvAIdeal.τ).loc Cert.UpdateConvAIdeal.main_arg2)
      ∧ m' ((c.tc : Thread Cert.UpdateConvARefIdeal.nD Cert.UpdateConvARefIdeal.τ).loc Cert.UpdateConvARefIdeal.main_arg3) = m ((c.tc : Thread Cert.UpdateConvAIdeal.nD Cert.UpdateConvAIdeal.τ).loc Cert.UpdateConvAIdeal.main_arg3)) →
    ∃ (v0 : (c : Dev Cert.UpdateConvAIdeal.nD) → Buf (Elt Ideal) ((c.tc : Thread Cert.UpdateConvAIdeal.nD Cert.UpdateConvAIdeal.τ).loc Cert.UpdateConvAIdeal.main_v0_0)) (v1 : (c : Dev Cert.UpdateConvAIdeal.nD) → Buf (Elt Ideal) ((c.tc : Thread Cert.UpdateConvAIdeal.nD Cert.UpdateConvAIdeal.τ).loc Cert.UpdateConvAIdeal.main_v0_1)) (v2 : (c : Dev Cert.UpdateConvAIdeal.nD) → Buf (Elt Ideal) ((c.tc : Thread Cert.UpdateConvAIdeal.nD Cert.UpdateConvAIdeal.τ).loc Cert.UpdateConvAIdeal.main_v0_2)),
      θ_run (Cert.UpdateConvAIdeal.defs (F := Ideal)) (onTc (τ := Cert.UpdateConvAIdeal.τ) (Cert.UpdateConvAIdeal.main (F := Ideal))) ⟨m, fun _ => 0, g⟩ (fun r => ∀ c : Dev Cert.UpdateConvAIdeal.nD,
          r.2.mem ((c.tc : Thread Cert.UpdateConvAIdeal.nD Cert.UpdateConvAIdeal.τ).loc Cert.UpdateConvAIdeal.main_v0_0) = v0 c
          ∧ r.2.mem ((c.tc : Thread Cert.UpdateConvAIdeal.nD Cert.UpdateConvAIdeal.τ).loc Cert.UpdateConvAIdeal.main_v0_1) = v1 c
          ∧ r.2.mem ((c.tc : Thread Cert.UpdateConvAIdeal.nD Cert.UpdateConvAIdeal.τ).loc Cert.UpdateConvAIdeal.main_v0_2) = v2 c
          ∧ r.2.mem ((c.tc : Thread Cert.UpdateConvAIdeal.nD Cert.UpdateConvAIdeal.τ).loc Cert.UpdateConvAIdeal.main_arg0) = m ((c.tc : Thread Cert.UpdateConvAIdeal.nD Cert.UpdateConvAIdeal.τ).loc Cert.UpdateConvAIdeal.main_arg0)
          ∧ r.2.mem ((c.tc : Thread Cert.UpdateConvAIdeal.nD Cert.UpdateConvAIdeal.τ).loc Cert.UpdateConvAIdeal.main_arg1) = m ((c.tc : Thread Cert.UpdateConvAIdeal.nD Cert.UpdateConvAIdeal.τ).loc Cert.UpdateConvAIdeal.main_arg1)
          ∧ r.2.mem ((c.tc : Thread Cert.UpdateConvAIdeal.nD Cert.UpdateConvAIdeal.τ).loc Cert.UpdateConvAIdeal.main_arg2) = m ((c.tc : Thread Cert.UpdateConvAIdeal.nD Cert.UpdateConvAIdeal.τ).loc Cert.UpdateConvAIdeal.main_arg2)
          ∧ r.2.mem ((c.tc : Thread Cert.UpdateConvAIdeal.nD Cert.UpdateConvAIdeal.τ).loc Cert.UpdateConvAIdeal.main_arg3) = m ((c.tc : Thread Cert.UpdateConvAIdeal.nD Cert.UpdateConvAIdeal.τ).loc Cert.UpdateConvAIdeal.main_arg3))
      ∧ θ_run (Cert.UpdateConvARefIdeal.defs (F := Ideal)) (onTc (τ := Cert.UpdateConvARefIdeal.τ) (Cert.UpdateConvARefIdeal.main (F := Ideal))) ⟨m', fun _ => 0, g'⟩ (fun r => ∀ c : Dev Cert.UpdateConvARefIdeal.nD,
          r.2.mem ((c.tc : Thread Cert.UpdateConvARefIdeal.nD Cert.UpdateConvARefIdeal.τ).loc Cert.UpdateConvARefIdeal.main_v23) = v0 c
          ∧ r.2.mem ((c.tc : Thread Cert.UpdateConvARefIdeal.nD Cert.UpdateConvARefIdeal.τ).loc Cert.UpdateConvARefIdeal.main_v4) = v1 c
          ∧ r.2.mem ((c.tc : Thread Cert.UpdateConvARefIdeal.nD Cert.UpdateConvARefIdeal.τ).loc Cert.UpdateConvARefIdeal.main_v10) = v2 c
          ∧ r.2.mem ((c.tc : Thread Cert.UpdateConvARefIdeal.nD Cert.UpdateConvARefIdeal.τ).loc Cert.UpdateConvARefIdeal.main_arg0) = m' ((c.tc : Thread Cert.UpdateConvARefIdeal.nD Cert.UpdateConvARefIdeal.τ).loc Cert.UpdateConvARefIdeal.main_arg0)
          ∧ r.2.mem ((c.tc : Thread Cert.UpdateConvARefIdeal.nD Cert.UpdateConvARefIdeal.τ).loc Cert.UpdateConvARefIdeal.main_arg1) = m' ((c.tc : Thread Cert.UpdateConvARefIdeal.nD Cert.UpdateConvARefIdeal.τ).loc Cert.UpdateConvARefIdeal.main_arg1)
          ∧ r.2.mem ((c.tc : Thread Cert.UpdateConvARefIdeal.nD Cert.UpdateConvARefIdeal.τ).loc Cert.UpdateConvARefIdeal.main_arg2) = m' ((c.tc : Thread Cert.UpdateConvARefIdeal.nD Cert.UpdateConvARefIdeal.τ).loc Cert.UpdateConvARefIdeal.main_arg2)
          ∧ r.2.mem ((c.tc : Thread Cert.UpdateConvARefIdeal.nD Cert.UpdateConvARefIdeal.τ).loc Cert.UpdateConvARefIdeal.main_arg3) = m' ((c.tc : Thread Cert.UpdateConvARefIdeal.nD Cert.UpdateConvARefIdeal.τ).loc Cert.UpdateConvARefIdeal.main_arg3))

def preserves_UpdateConvD_UpdateConvDIdeal : Prop :=
  True

def algebraic_UpdateConvDIdeal_UpdateConvDRefIdeal [hUpdateConvDIdeal : Cert.UpdateConvDIdeal.Facts] [hUpdateConvDRefIdeal : Cert.UpdateConvDRefIdeal.Facts] : Prop :=
  ∀ (m : (ℓ : Loc Cert.UpdateConvDIdeal.nD Cert.UpdateConvDIdeal.τ Cert.UpdateConvDIdeal.sig) → Buf (Elt Ideal) ℓ) (g : Dev Cert.UpdateConvDIdeal.nD → PrngReg)
    (m' : (ℓ : Loc Cert.UpdateConvDRefIdeal.nD Cert.UpdateConvDRefIdeal.τ Cert.UpdateConvDRefIdeal.sig) → Buf (Elt Ideal) ℓ) (g' : Dev Cert.UpdateConvDRefIdeal.nD → PrngReg), Pre_UpdateConvDIdeal m →
    (∀ c : Dev Cert.UpdateConvDIdeal.nD,
      m' ((c.tc : Thread Cert.UpdateConvDRefIdeal.nD Cert.UpdateConvDRefIdeal.τ).loc Cert.UpdateConvDRefIdeal.main_arg0) = m ((c.tc : Thread Cert.UpdateConvDIdeal.nD Cert.UpdateConvDIdeal.τ).loc Cert.UpdateConvDIdeal.main_arg0)
      ∧ m' ((c.tc : Thread Cert.UpdateConvDRefIdeal.nD Cert.UpdateConvDRefIdeal.τ).loc Cert.UpdateConvDRefIdeal.main_arg1) = m ((c.tc : Thread Cert.UpdateConvDIdeal.nD Cert.UpdateConvDIdeal.τ).loc Cert.UpdateConvDIdeal.main_arg1)
      ∧ m' ((c.tc : Thread Cert.UpdateConvDRefIdeal.nD Cert.UpdateConvDRefIdeal.τ).loc Cert.UpdateConvDRefIdeal.main_arg2) = m ((c.tc : Thread Cert.UpdateConvDIdeal.nD Cert.UpdateConvDIdeal.τ).loc Cert.UpdateConvDIdeal.main_arg2)
      ∧ m' ((c.tc : Thread Cert.UpdateConvDRefIdeal.nD Cert.UpdateConvDRefIdeal.τ).loc Cert.UpdateConvDRefIdeal.main_arg3) = m ((c.tc : Thread Cert.UpdateConvDIdeal.nD Cert.UpdateConvDIdeal.τ).loc Cert.UpdateConvDIdeal.main_arg3)) →
    ∃ (v0 : (c : Dev Cert.UpdateConvDIdeal.nD) → Buf (Elt Ideal) ((c.tc : Thread Cert.UpdateConvDIdeal.nD Cert.UpdateConvDIdeal.τ).loc Cert.UpdateConvDIdeal.main_v0_0)) (v1 : (c : Dev Cert.UpdateConvDIdeal.nD) → Buf (Elt Ideal) ((c.tc : Thread Cert.UpdateConvDIdeal.nD Cert.UpdateConvDIdeal.τ).loc Cert.UpdateConvDIdeal.main_v0_1)) (v2 : (c : Dev Cert.UpdateConvDIdeal.nD) → Buf (Elt Ideal) ((c.tc : Thread Cert.UpdateConvDIdeal.nD Cert.UpdateConvDIdeal.τ).loc Cert.UpdateConvDIdeal.main_v0_2)),
      θ_run (Cert.UpdateConvDIdeal.defs (F := Ideal)) (onTc (τ := Cert.UpdateConvDIdeal.τ) (Cert.UpdateConvDIdeal.main (F := Ideal))) ⟨m, fun _ => 0, g⟩ (fun r => ∀ c : Dev Cert.UpdateConvDIdeal.nD,
          r.2.mem ((c.tc : Thread Cert.UpdateConvDIdeal.nD Cert.UpdateConvDIdeal.τ).loc Cert.UpdateConvDIdeal.main_v0_0) = v0 c
          ∧ r.2.mem ((c.tc : Thread Cert.UpdateConvDIdeal.nD Cert.UpdateConvDIdeal.τ).loc Cert.UpdateConvDIdeal.main_v0_1) = v1 c
          ∧ r.2.mem ((c.tc : Thread Cert.UpdateConvDIdeal.nD Cert.UpdateConvDIdeal.τ).loc Cert.UpdateConvDIdeal.main_v0_2) = v2 c
          ∧ r.2.mem ((c.tc : Thread Cert.UpdateConvDIdeal.nD Cert.UpdateConvDIdeal.τ).loc Cert.UpdateConvDIdeal.main_arg0) = m ((c.tc : Thread Cert.UpdateConvDIdeal.nD Cert.UpdateConvDIdeal.τ).loc Cert.UpdateConvDIdeal.main_arg0)
          ∧ r.2.mem ((c.tc : Thread Cert.UpdateConvDIdeal.nD Cert.UpdateConvDIdeal.τ).loc Cert.UpdateConvDIdeal.main_arg1) = m ((c.tc : Thread Cert.UpdateConvDIdeal.nD Cert.UpdateConvDIdeal.τ).loc Cert.UpdateConvDIdeal.main_arg1)
          ∧ r.2.mem ((c.tc : Thread Cert.UpdateConvDIdeal.nD Cert.UpdateConvDIdeal.τ).loc Cert.UpdateConvDIdeal.main_arg2) = m ((c.tc : Thread Cert.UpdateConvDIdeal.nD Cert.UpdateConvDIdeal.τ).loc Cert.UpdateConvDIdeal.main_arg2)
          ∧ r.2.mem ((c.tc : Thread Cert.UpdateConvDIdeal.nD Cert.UpdateConvDIdeal.τ).loc Cert.UpdateConvDIdeal.main_arg3) = m ((c.tc : Thread Cert.UpdateConvDIdeal.nD Cert.UpdateConvDIdeal.τ).loc Cert.UpdateConvDIdeal.main_arg3))
      ∧ θ_run (Cert.UpdateConvDRefIdeal.defs (F := Ideal)) (onTc (τ := Cert.UpdateConvDRefIdeal.τ) (Cert.UpdateConvDRefIdeal.main (F := Ideal))) ⟨m', fun _ => 0, g'⟩ (fun r => ∀ c : Dev Cert.UpdateConvDRefIdeal.nD,
          r.2.mem ((c.tc : Thread Cert.UpdateConvDRefIdeal.nD Cert.UpdateConvDRefIdeal.τ).loc Cert.UpdateConvDRefIdeal.main_v23) = v0 c
          ∧ r.2.mem ((c.tc : Thread Cert.UpdateConvDRefIdeal.nD Cert.UpdateConvDRefIdeal.τ).loc Cert.UpdateConvDRefIdeal.main_v4) = v1 c
          ∧ r.2.mem ((c.tc : Thread Cert.UpdateConvDRefIdeal.nD Cert.UpdateConvDRefIdeal.τ).loc Cert.UpdateConvDRefIdeal.main_v10) = v2 c
          ∧ r.2.mem ((c.tc : Thread Cert.UpdateConvDRefIdeal.nD Cert.UpdateConvDRefIdeal.τ).loc Cert.UpdateConvDRefIdeal.main_arg0) = m' ((c.tc : Thread Cert.UpdateConvDRefIdeal.nD Cert.UpdateConvDRefIdeal.τ).loc Cert.UpdateConvDRefIdeal.main_arg0)
          ∧ r.2.mem ((c.tc : Thread Cert.UpdateConvDRefIdeal.nD Cert.UpdateConvDRefIdeal.τ).loc Cert.UpdateConvDRefIdeal.main_arg1) = m' ((c.tc : Thread Cert.UpdateConvDRefIdeal.nD Cert.UpdateConvDRefIdeal.τ).loc Cert.UpdateConvDRefIdeal.main_arg1)
          ∧ r.2.mem ((c.tc : Thread Cert.UpdateConvDRefIdeal.nD Cert.UpdateConvDRefIdeal.τ).loc Cert.UpdateConvDRefIdeal.main_arg2) = m' ((c.tc : Thread Cert.UpdateConvDRefIdeal.nD Cert.UpdateConvDRefIdeal.τ).loc Cert.UpdateConvDRefIdeal.main_arg2)
          ∧ r.2.mem ((c.tc : Thread Cert.UpdateConvDRefIdeal.nD Cert.UpdateConvDRefIdeal.τ).loc Cert.UpdateConvDRefIdeal.main_arg3) = m' ((c.tc : Thread Cert.UpdateConvDRefIdeal.nD Cert.UpdateConvDRefIdeal.τ).loc Cert.UpdateConvDRefIdeal.main_arg3))

def preserves_UpdateNorm_UpdateNormIdeal : Prop :=
  True

def algebraic_UpdateNormIdeal_UpdateNormRefIdeal [hUpdateNormIdeal : Cert.UpdateNormIdeal.Facts] [hUpdateNormRefIdeal : Cert.UpdateNormRefIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg)
    (m' : (ℓ : Loc Cert.UpdateNormRefIdeal.nD Cert.UpdateNormRefIdeal.τ Cert.UpdateNormRefIdeal.sig) → Buf (Elt Ideal) ℓ) (g' : Dev Cert.UpdateNormRefIdeal.nD → PrngReg), Pre_UpdateNormIdeal m →
    (∀ c : Dev Cert.UpdateNormIdeal.nD,
      m' ((c.tc : Thread Cert.UpdateNormRefIdeal.nD Cert.UpdateNormRefIdeal.τ).loc Cert.UpdateNormRefIdeal.main_arg0) = m ((c.tc : Thread Cert.UpdateNormIdeal.nD Cert.UpdateNormIdeal.τ).loc Cert.UpdateNormIdeal.main_arg0)
      ∧ m' ((c.tc : Thread Cert.UpdateNormRefIdeal.nD Cert.UpdateNormRefIdeal.τ).loc Cert.UpdateNormRefIdeal.main_arg1) = m ((c.tc : Thread Cert.UpdateNormIdeal.nD Cert.UpdateNormIdeal.τ).loc Cert.UpdateNormIdeal.main_arg1)
      ∧ m' ((c.tc : Thread Cert.UpdateNormRefIdeal.nD Cert.UpdateNormRefIdeal.τ).loc Cert.UpdateNormRefIdeal.main_arg2) = m ((c.tc : Thread Cert.UpdateNormIdeal.nD Cert.UpdateNormIdeal.τ).loc Cert.UpdateNormIdeal.main_arg2)
      ∧ m' ((c.tc : Thread Cert.UpdateNormRefIdeal.nD Cert.UpdateNormRefIdeal.τ).loc Cert.UpdateNormRefIdeal.main_arg3) = m ((c.tc : Thread Cert.UpdateNormIdeal.nD Cert.UpdateNormIdeal.τ).loc Cert.UpdateNormIdeal.main_arg3)) →
    ∃ (v0 : (c : Dev Cert.UpdateNormIdeal.nD) → Buf (Elt Ideal) ((c.tc : Thread Cert.UpdateNormIdeal.nD Cert.UpdateNormIdeal.τ).loc Cert.UpdateNormIdeal.main_v0_0)) (v1 : (c : Dev Cert.UpdateNormIdeal.nD) → Buf (Elt Ideal) ((c.tc : Thread Cert.UpdateNormIdeal.nD Cert.UpdateNormIdeal.τ).loc Cert.UpdateNormIdeal.main_v0_1)) (v2 : (c : Dev Cert.UpdateNormIdeal.nD) → Buf (Elt Ideal) ((c.tc : Thread Cert.UpdateNormIdeal.nD Cert.UpdateNormIdeal.τ).loc Cert.UpdateNormIdeal.main_v0_2)),
      θ_run (Cert.UpdateNormIdeal.defs (F := Ideal)) (onTc (τ := Cert.UpdateNormIdeal.τ) (Cert.UpdateNormIdeal.main (F := Ideal))) ⟨m, fun _ => 0, g⟩ (fun r => ∀ c : Dev Cert.UpdateNormIdeal.nD,
          r.2.mem ((c.tc : Thread Cert.UpdateNormIdeal.nD Cert.UpdateNormIdeal.τ).loc Cert.UpdateNormIdeal.main_v0_0) = v0 c
          ∧ r.2.mem ((c.tc : Thread Cert.UpdateNormIdeal.nD Cert.UpdateNormIdeal.τ).loc Cert.UpdateNormIdeal.main_v0_1) = v1 c
          ∧ r.2.mem ((c.tc : Thread Cert.UpdateNormIdeal.nD Cert.UpdateNormIdeal.τ).loc Cert.UpdateNormIdeal.main_v0_2) = v2 c
          ∧ r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
          ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
          ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
          ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ θ_run (Cert.UpdateNormRefIdeal.defs (F := Ideal)) (onTc (τ := Cert.UpdateNormRefIdeal.τ) (Cert.UpdateNormRefIdeal.main (F := Ideal))) ⟨m', fun _ => 0, g'⟩ (fun r => ∀ c : Dev Cert.UpdateNormRefIdeal.nD,
          r.2.mem ((c.tc : Thread Cert.UpdateNormRefIdeal.nD Cert.UpdateNormRefIdeal.τ).loc Cert.UpdateNormRefIdeal.main_v23) = v0 c
          ∧ r.2.mem ((c.tc : Thread Cert.UpdateNormRefIdeal.nD Cert.UpdateNormRefIdeal.τ).loc Cert.UpdateNormRefIdeal.main_v4) = v1 c
          ∧ r.2.mem ((c.tc : Thread Cert.UpdateNormRefIdeal.nD Cert.UpdateNormRefIdeal.τ).loc Cert.UpdateNormRefIdeal.main_v10) = v2 c
          ∧ r.2.mem ((c.tc : Thread Cert.UpdateNormRefIdeal.nD Cert.UpdateNormRefIdeal.τ).loc Cert.UpdateNormRefIdeal.main_arg0) = m' ((c.tc : Thread Cert.UpdateNormRefIdeal.nD Cert.UpdateNormRefIdeal.τ).loc Cert.UpdateNormRefIdeal.main_arg0)
          ∧ r.2.mem ((c.tc : Thread Cert.UpdateNormRefIdeal.nD Cert.UpdateNormRefIdeal.τ).loc Cert.UpdateNormRefIdeal.main_arg1) = m' ((c.tc : Thread Cert.UpdateNormRefIdeal.nD Cert.UpdateNormRefIdeal.τ).loc Cert.UpdateNormRefIdeal.main_arg1)
          ∧ r.2.mem ((c.tc : Thread Cert.UpdateNormRefIdeal.nD Cert.UpdateNormRefIdeal.τ).loc Cert.UpdateNormRefIdeal.main_arg2) = m' ((c.tc : Thread Cert.UpdateNormRefIdeal.nD Cert.UpdateNormRefIdeal.τ).loc Cert.UpdateNormRefIdeal.main_arg2)
          ∧ r.2.mem ((c.tc : Thread Cert.UpdateNormRefIdeal.nD Cert.UpdateNormRefIdeal.τ).loc Cert.UpdateNormRefIdeal.main_arg3) = m' ((c.tc : Thread Cert.UpdateNormRefIdeal.nD Cert.UpdateNormRefIdeal.τ).loc Cert.UpdateNormRefIdeal.main_arg3))

def preserves_UpdateBranchNorm_UpdateBranchNormIdeal : Prop :=
  True

def algebraic_UpdateBranchNormIdeal_UpdateBranchNormRefIdeal [hUpdateBranchNormIdeal : Cert.UpdateBranchNormIdeal.Facts] [hUpdateBranchNormRefIdeal : Cert.UpdateBranchNormRefIdeal.Facts] : Prop :=
  ∀ (m : (ℓ : Loc Cert.UpdateBranchNormIdeal.nD Cert.UpdateBranchNormIdeal.τ Cert.UpdateBranchNormIdeal.sig) → Buf (Elt Ideal) ℓ) (g : Dev Cert.UpdateBranchNormIdeal.nD → PrngReg)
    (m' : (ℓ : Loc Cert.UpdateBranchNormRefIdeal.nD Cert.UpdateBranchNormRefIdeal.τ Cert.UpdateBranchNormRefIdeal.sig) → Buf (Elt Ideal) ℓ) (g' : Dev Cert.UpdateBranchNormRefIdeal.nD → PrngReg), Pre_UpdateBranchNormIdeal m →
    (∀ c : Dev Cert.UpdateBranchNormIdeal.nD,
      m' ((c.tc : Thread Cert.UpdateBranchNormRefIdeal.nD Cert.UpdateBranchNormRefIdeal.τ).loc Cert.UpdateBranchNormRefIdeal.main_arg0) = m ((c.tc : Thread Cert.UpdateBranchNormIdeal.nD Cert.UpdateBranchNormIdeal.τ).loc Cert.UpdateBranchNormIdeal.main_arg0)
      ∧ m' ((c.tc : Thread Cert.UpdateBranchNormRefIdeal.nD Cert.UpdateBranchNormRefIdeal.τ).loc Cert.UpdateBranchNormRefIdeal.main_arg1) = m ((c.tc : Thread Cert.UpdateBranchNormIdeal.nD Cert.UpdateBranchNormIdeal.τ).loc Cert.UpdateBranchNormIdeal.main_arg1)
      ∧ m' ((c.tc : Thread Cert.UpdateBranchNormRefIdeal.nD Cert.UpdateBranchNormRefIdeal.τ).loc Cert.UpdateBranchNormRefIdeal.main_arg2) = m ((c.tc : Thread Cert.UpdateBranchNormIdeal.nD Cert.UpdateBranchNormIdeal.τ).loc Cert.UpdateBranchNormIdeal.main_arg2)
      ∧ m' ((c.tc : Thread Cert.UpdateBranchNormRefIdeal.nD Cert.UpdateBranchNormRefIdeal.τ).loc Cert.UpdateBranchNormRefIdeal.main_arg3) = m ((c.tc : Thread Cert.UpdateBranchNormIdeal.nD Cert.UpdateBranchNormIdeal.τ).loc Cert.UpdateBranchNormIdeal.main_arg3)) →
    ∃ (v0 : (c : Dev Cert.UpdateBranchNormIdeal.nD) → Buf (Elt Ideal) ((c.tc : Thread Cert.UpdateBranchNormIdeal.nD Cert.UpdateBranchNormIdeal.τ).loc Cert.UpdateBranchNormIdeal.main_v0_0)) (v1 : (c : Dev Cert.UpdateBranchNormIdeal.nD) → Buf (Elt Ideal) ((c.tc : Thread Cert.UpdateBranchNormIdeal.nD Cert.UpdateBranchNormIdeal.τ).loc Cert.UpdateBranchNormIdeal.main_v0_1)) (v2 : (c : Dev Cert.UpdateBranchNormIdeal.nD) → Buf (Elt Ideal) ((c.tc : Thread Cert.UpdateBranchNormIdeal.nD Cert.UpdateBranchNormIdeal.τ).loc Cert.UpdateBranchNormIdeal.main_v0_2)),
      θ_run (Cert.UpdateBranchNormIdeal.defs (F := Ideal)) (onTc (τ := Cert.UpdateBranchNormIdeal.τ) (Cert.UpdateBranchNormIdeal.main (F := Ideal))) ⟨m, fun _ => 0, g⟩ (fun r => ∀ c : Dev Cert.UpdateBranchNormIdeal.nD,
          r.2.mem ((c.tc : Thread Cert.UpdateBranchNormIdeal.nD Cert.UpdateBranchNormIdeal.τ).loc Cert.UpdateBranchNormIdeal.main_v0_0) = v0 c
          ∧ r.2.mem ((c.tc : Thread Cert.UpdateBranchNormIdeal.nD Cert.UpdateBranchNormIdeal.τ).loc Cert.UpdateBranchNormIdeal.main_v0_1) = v1 c
          ∧ r.2.mem ((c.tc : Thread Cert.UpdateBranchNormIdeal.nD Cert.UpdateBranchNormIdeal.τ).loc Cert.UpdateBranchNormIdeal.main_v0_2) = v2 c
          ∧ r.2.mem ((c.tc : Thread Cert.UpdateBranchNormIdeal.nD Cert.UpdateBranchNormIdeal.τ).loc Cert.UpdateBranchNormIdeal.main_arg0) = m ((c.tc : Thread Cert.UpdateBranchNormIdeal.nD Cert.UpdateBranchNormIdeal.τ).loc Cert.UpdateBranchNormIdeal.main_arg0)
          ∧ r.2.mem ((c.tc : Thread Cert.UpdateBranchNormIdeal.nD Cert.UpdateBranchNormIdeal.τ).loc Cert.UpdateBranchNormIdeal.main_arg1) = m ((c.tc : Thread Cert.UpdateBranchNormIdeal.nD Cert.UpdateBranchNormIdeal.τ).loc Cert.UpdateBranchNormIdeal.main_arg1)
          ∧ r.2.mem ((c.tc : Thread Cert.UpdateBranchNormIdeal.nD Cert.UpdateBranchNormIdeal.τ).loc Cert.UpdateBranchNormIdeal.main_arg2) = m ((c.tc : Thread Cert.UpdateBranchNormIdeal.nD Cert.UpdateBranchNormIdeal.τ).loc Cert.UpdateBranchNormIdeal.main_arg2)
          ∧ r.2.mem ((c.tc : Thread Cert.UpdateBranchNormIdeal.nD Cert.UpdateBranchNormIdeal.τ).loc Cert.UpdateBranchNormIdeal.main_arg3) = m ((c.tc : Thread Cert.UpdateBranchNormIdeal.nD Cert.UpdateBranchNormIdeal.τ).loc Cert.UpdateBranchNormIdeal.main_arg3))
      ∧ θ_run (Cert.UpdateBranchNormRefIdeal.defs (F := Ideal)) (onTc (τ := Cert.UpdateBranchNormRefIdeal.τ) (Cert.UpdateBranchNormRefIdeal.main (F := Ideal))) ⟨m', fun _ => 0, g'⟩ (fun r => ∀ c : Dev Cert.UpdateBranchNormRefIdeal.nD,
          r.2.mem ((c.tc : Thread Cert.UpdateBranchNormRefIdeal.nD Cert.UpdateBranchNormRefIdeal.τ).loc Cert.UpdateBranchNormRefIdeal.main_v23) = v0 c
          ∧ r.2.mem ((c.tc : Thread Cert.UpdateBranchNormRefIdeal.nD Cert.UpdateBranchNormRefIdeal.τ).loc Cert.UpdateBranchNormRefIdeal.main_v4) = v1 c
          ∧ r.2.mem ((c.tc : Thread Cert.UpdateBranchNormRefIdeal.nD Cert.UpdateBranchNormRefIdeal.τ).loc Cert.UpdateBranchNormRefIdeal.main_v10) = v2 c
          ∧ r.2.mem ((c.tc : Thread Cert.UpdateBranchNormRefIdeal.nD Cert.UpdateBranchNormRefIdeal.τ).loc Cert.UpdateBranchNormRefIdeal.main_arg0) = m' ((c.tc : Thread Cert.UpdateBranchNormRefIdeal.nD Cert.UpdateBranchNormRefIdeal.τ).loc Cert.UpdateBranchNormRefIdeal.main_arg0)
          ∧ r.2.mem ((c.tc : Thread Cert.UpdateBranchNormRefIdeal.nD Cert.UpdateBranchNormRefIdeal.τ).loc Cert.UpdateBranchNormRefIdeal.main_arg1) = m' ((c.tc : Thread Cert.UpdateBranchNormRefIdeal.nD Cert.UpdateBranchNormRefIdeal.τ).loc Cert.UpdateBranchNormRefIdeal.main_arg1)
          ∧ r.2.mem ((c.tc : Thread Cert.UpdateBranchNormRefIdeal.nD Cert.UpdateBranchNormRefIdeal.τ).loc Cert.UpdateBranchNormRefIdeal.main_arg2) = m' ((c.tc : Thread Cert.UpdateBranchNormRefIdeal.nD Cert.UpdateBranchNormRefIdeal.τ).loc Cert.UpdateBranchNormRefIdeal.main_arg2)
          ∧ r.2.mem ((c.tc : Thread Cert.UpdateBranchNormRefIdeal.nD Cert.UpdateBranchNormRefIdeal.τ).loc Cert.UpdateBranchNormRefIdeal.main_arg3) = m' ((c.tc : Thread Cert.UpdateBranchNormRefIdeal.nD Cert.UpdateBranchNormRefIdeal.τ).loc Cert.UpdateBranchNormRefIdeal.main_arg3))

def preserves_UpdateFinalNorm_UpdateFinalNormIdeal : Prop :=
  True

def algebraic_UpdateFinalNormIdeal_UpdateFinalNormRefIdeal [hUpdateFinalNormIdeal : Cert.UpdateFinalNormIdeal.Facts] [hUpdateFinalNormRefIdeal : Cert.UpdateFinalNormRefIdeal.Facts] : Prop :=
  ∀ (m : (ℓ : Loc Cert.UpdateFinalNormIdeal.nD Cert.UpdateFinalNormIdeal.τ Cert.UpdateFinalNormIdeal.sig) → Buf (Elt Ideal) ℓ) (g : Dev Cert.UpdateFinalNormIdeal.nD → PrngReg)
    (m' : (ℓ : Loc Cert.UpdateFinalNormRefIdeal.nD Cert.UpdateFinalNormRefIdeal.τ Cert.UpdateFinalNormRefIdeal.sig) → Buf (Elt Ideal) ℓ) (g' : Dev Cert.UpdateFinalNormRefIdeal.nD → PrngReg), Pre_UpdateFinalNormIdeal m →
    (∀ c : Dev Cert.UpdateFinalNormIdeal.nD,
      m' ((c.tc : Thread Cert.UpdateFinalNormRefIdeal.nD Cert.UpdateFinalNormRefIdeal.τ).loc Cert.UpdateFinalNormRefIdeal.main_arg0) = m ((c.tc : Thread Cert.UpdateFinalNormIdeal.nD Cert.UpdateFinalNormIdeal.τ).loc Cert.UpdateFinalNormIdeal.main_arg0)
      ∧ m' ((c.tc : Thread Cert.UpdateFinalNormRefIdeal.nD Cert.UpdateFinalNormRefIdeal.τ).loc Cert.UpdateFinalNormRefIdeal.main_arg1) = m ((c.tc : Thread Cert.UpdateFinalNormIdeal.nD Cert.UpdateFinalNormIdeal.τ).loc Cert.UpdateFinalNormIdeal.main_arg1)
      ∧ m' ((c.tc : Thread Cert.UpdateFinalNormRefIdeal.nD Cert.UpdateFinalNormRefIdeal.τ).loc Cert.UpdateFinalNormRefIdeal.main_arg2) = m ((c.tc : Thread Cert.UpdateFinalNormIdeal.nD Cert.UpdateFinalNormIdeal.τ).loc Cert.UpdateFinalNormIdeal.main_arg2)
      ∧ m' ((c.tc : Thread Cert.UpdateFinalNormRefIdeal.nD Cert.UpdateFinalNormRefIdeal.τ).loc Cert.UpdateFinalNormRefIdeal.main_arg3) = m ((c.tc : Thread Cert.UpdateFinalNormIdeal.nD Cert.UpdateFinalNormIdeal.τ).loc Cert.UpdateFinalNormIdeal.main_arg3)) →
    ∃ (v0 : (c : Dev Cert.UpdateFinalNormIdeal.nD) → Buf (Elt Ideal) ((c.tc : Thread Cert.UpdateFinalNormIdeal.nD Cert.UpdateFinalNormIdeal.τ).loc Cert.UpdateFinalNormIdeal.main_v0_0)) (v1 : (c : Dev Cert.UpdateFinalNormIdeal.nD) → Buf (Elt Ideal) ((c.tc : Thread Cert.UpdateFinalNormIdeal.nD Cert.UpdateFinalNormIdeal.τ).loc Cert.UpdateFinalNormIdeal.main_v0_1)) (v2 : (c : Dev Cert.UpdateFinalNormIdeal.nD) → Buf (Elt Ideal) ((c.tc : Thread Cert.UpdateFinalNormIdeal.nD Cert.UpdateFinalNormIdeal.τ).loc Cert.UpdateFinalNormIdeal.main_v0_2)),
      θ_run (Cert.UpdateFinalNormIdeal.defs (F := Ideal)) (onTc (τ := Cert.UpdateFinalNormIdeal.τ) (Cert.UpdateFinalNormIdeal.main (F := Ideal))) ⟨m, fun _ => 0, g⟩ (fun r => ∀ c : Dev Cert.UpdateFinalNormIdeal.nD,
          r.2.mem ((c.tc : Thread Cert.UpdateFinalNormIdeal.nD Cert.UpdateFinalNormIdeal.τ).loc Cert.UpdateFinalNormIdeal.main_v0_0) = v0 c
          ∧ r.2.mem ((c.tc : Thread Cert.UpdateFinalNormIdeal.nD Cert.UpdateFinalNormIdeal.τ).loc Cert.UpdateFinalNormIdeal.main_v0_1) = v1 c
          ∧ r.2.mem ((c.tc : Thread Cert.UpdateFinalNormIdeal.nD Cert.UpdateFinalNormIdeal.τ).loc Cert.UpdateFinalNormIdeal.main_v0_2) = v2 c
          ∧ r.2.mem ((c.tc : Thread Cert.UpdateFinalNormIdeal.nD Cert.UpdateFinalNormIdeal.τ).loc Cert.UpdateFinalNormIdeal.main_arg0) = m ((c.tc : Thread Cert.UpdateFinalNormIdeal.nD Cert.UpdateFinalNormIdeal.τ).loc Cert.UpdateFinalNormIdeal.main_arg0)
          ∧ r.2.mem ((c.tc : Thread Cert.UpdateFinalNormIdeal.nD Cert.UpdateFinalNormIdeal.τ).loc Cert.UpdateFinalNormIdeal.main_arg1) = m ((c.tc : Thread Cert.UpdateFinalNormIdeal.nD Cert.UpdateFinalNormIdeal.τ).loc Cert.UpdateFinalNormIdeal.main_arg1)
          ∧ r.2.mem ((c.tc : Thread Cert.UpdateFinalNormIdeal.nD Cert.UpdateFinalNormIdeal.τ).loc Cert.UpdateFinalNormIdeal.main_arg2) = m ((c.tc : Thread Cert.UpdateFinalNormIdeal.nD Cert.UpdateFinalNormIdeal.τ).loc Cert.UpdateFinalNormIdeal.main_arg2)
          ∧ r.2.mem ((c.tc : Thread Cert.UpdateFinalNormIdeal.nD Cert.UpdateFinalNormIdeal.τ).loc Cert.UpdateFinalNormIdeal.main_arg3) = m ((c.tc : Thread Cert.UpdateFinalNormIdeal.nD Cert.UpdateFinalNormIdeal.τ).loc Cert.UpdateFinalNormIdeal.main_arg3))
      ∧ θ_run (Cert.UpdateFinalNormRefIdeal.defs (F := Ideal)) (onTc (τ := Cert.UpdateFinalNormRefIdeal.τ) (Cert.UpdateFinalNormRefIdeal.main (F := Ideal))) ⟨m', fun _ => 0, g'⟩ (fun r => ∀ c : Dev Cert.UpdateFinalNormRefIdeal.nD,
          r.2.mem ((c.tc : Thread Cert.UpdateFinalNormRefIdeal.nD Cert.UpdateFinalNormRefIdeal.τ).loc Cert.UpdateFinalNormRefIdeal.main_v23) = v0 c
          ∧ r.2.mem ((c.tc : Thread Cert.UpdateFinalNormRefIdeal.nD Cert.UpdateFinalNormRefIdeal.τ).loc Cert.UpdateFinalNormRefIdeal.main_v4) = v1 c
          ∧ r.2.mem ((c.tc : Thread Cert.UpdateFinalNormRefIdeal.nD Cert.UpdateFinalNormRefIdeal.τ).loc Cert.UpdateFinalNormRefIdeal.main_v10) = v2 c
          ∧ r.2.mem ((c.tc : Thread Cert.UpdateFinalNormRefIdeal.nD Cert.UpdateFinalNormRefIdeal.τ).loc Cert.UpdateFinalNormRefIdeal.main_arg0) = m' ((c.tc : Thread Cert.UpdateFinalNormRefIdeal.nD Cert.UpdateFinalNormRefIdeal.τ).loc Cert.UpdateFinalNormRefIdeal.main_arg0)
          ∧ r.2.mem ((c.tc : Thread Cert.UpdateFinalNormRefIdeal.nD Cert.UpdateFinalNormRefIdeal.τ).loc Cert.UpdateFinalNormRefIdeal.main_arg1) = m' ((c.tc : Thread Cert.UpdateFinalNormRefIdeal.nD Cert.UpdateFinalNormRefIdeal.τ).loc Cert.UpdateFinalNormRefIdeal.main_arg1)
          ∧ r.2.mem ((c.tc : Thread Cert.UpdateFinalNormRefIdeal.nD Cert.UpdateFinalNormRefIdeal.τ).loc Cert.UpdateFinalNormRefIdeal.main_arg2) = m' ((c.tc : Thread Cert.UpdateFinalNormRefIdeal.nD Cert.UpdateFinalNormRefIdeal.τ).loc Cert.UpdateFinalNormRefIdeal.main_arg2)
          ∧ r.2.mem ((c.tc : Thread Cert.UpdateFinalNormRefIdeal.nD Cert.UpdateFinalNormRefIdeal.τ).loc Cert.UpdateFinalNormRefIdeal.main_arg3) = m' ((c.tc : Thread Cert.UpdateFinalNormRefIdeal.nD Cert.UpdateFinalNormRefIdeal.τ).loc Cert.UpdateFinalNormRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v32) = v0 c
          ∧ r.2.mem ((c.tc : Thread Cert.LossHeadRefIdeal.nD Cert.LossHeadRefIdeal.τ).loc Cert.LossHeadRefIdeal.main_v33) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_MixBackward_MixBackwardIdeal : Prop :=
  True

def algebraic_MixBackwardIdeal_MixBackwardRefIdeal [hMixBackwardIdeal : Cert.MixBackwardIdeal.Facts] [hMixBackwardRefIdeal : Cert.MixBackwardRefIdeal.Facts] : Prop :=
  ∀ (m : (ℓ : Loc Cert.MixBackwardIdeal.nD Cert.MixBackwardIdeal.τ Cert.MixBackwardIdeal.sig) → Buf (Elt Ideal) ℓ) (g : Dev Cert.MixBackwardIdeal.nD → PrngReg)
    (m' : (ℓ : Loc Cert.MixBackwardRefIdeal.nD Cert.MixBackwardRefIdeal.τ Cert.MixBackwardRefIdeal.sig) → Buf (Elt Ideal) ℓ) (g' : Dev Cert.MixBackwardRefIdeal.nD → PrngReg), Pre_MixBackwardIdeal m →
    (∀ c : Dev Cert.MixBackwardIdeal.nD,
      m' ((c.tc : Thread Cert.MixBackwardRefIdeal.nD Cert.MixBackwardRefIdeal.τ).loc Cert.MixBackwardRefIdeal.main_arg0) = m ((c.tc : Thread Cert.MixBackwardIdeal.nD Cert.MixBackwardIdeal.τ).loc Cert.MixBackwardIdeal.main_arg0)
      ∧ m' ((c.tc : Thread Cert.MixBackwardRefIdeal.nD Cert.MixBackwardRefIdeal.τ).loc Cert.MixBackwardRefIdeal.main_arg1) = m ((c.tc : Thread Cert.MixBackwardIdeal.nD Cert.MixBackwardIdeal.τ).loc Cert.MixBackwardIdeal.main_arg1)
      ∧ m' ((c.tc : Thread Cert.MixBackwardRefIdeal.nD Cert.MixBackwardRefIdeal.τ).loc Cert.MixBackwardRefIdeal.main_arg2) = m ((c.tc : Thread Cert.MixBackwardIdeal.nD Cert.MixBackwardIdeal.τ).loc Cert.MixBackwardIdeal.main_arg2)
      ∧ m' ((c.tc : Thread Cert.MixBackwardRefIdeal.nD Cert.MixBackwardRefIdeal.τ).loc Cert.MixBackwardRefIdeal.main_arg3) = m ((c.tc : Thread Cert.MixBackwardIdeal.nD Cert.MixBackwardIdeal.τ).loc Cert.MixBackwardIdeal.main_arg3)
      ∧ m' ((c.tc : Thread Cert.MixBackwardRefIdeal.nD Cert.MixBackwardRefIdeal.τ).loc Cert.MixBackwardRefIdeal.main_arg4) = m ((c.tc : Thread Cert.MixBackwardIdeal.nD Cert.MixBackwardIdeal.τ).loc Cert.MixBackwardIdeal.main_arg4)
      ∧ m' ((c.tc : Thread Cert.MixBackwardRefIdeal.nD Cert.MixBackwardRefIdeal.τ).loc Cert.MixBackwardRefIdeal.main_arg5) = m ((c.tc : Thread Cert.MixBackwardIdeal.nD Cert.MixBackwardIdeal.τ).loc Cert.MixBackwardIdeal.main_arg5)
      ∧ m' ((c.tc : Thread Cert.MixBackwardRefIdeal.nD Cert.MixBackwardRefIdeal.τ).loc Cert.MixBackwardRefIdeal.main_arg6) = m ((c.tc : Thread Cert.MixBackwardIdeal.nD Cert.MixBackwardIdeal.τ).loc Cert.MixBackwardIdeal.main_arg6)
      ∧ m' ((c.tc : Thread Cert.MixBackwardRefIdeal.nD Cert.MixBackwardRefIdeal.τ).loc Cert.MixBackwardRefIdeal.main_arg7) = m ((c.tc : Thread Cert.MixBackwardIdeal.nD Cert.MixBackwardIdeal.τ).loc Cert.MixBackwardIdeal.main_arg7)
      ∧ m' ((c.tc : Thread Cert.MixBackwardRefIdeal.nD Cert.MixBackwardRefIdeal.τ).loc Cert.MixBackwardRefIdeal.main_arg8) = m ((c.tc : Thread Cert.MixBackwardIdeal.nD Cert.MixBackwardIdeal.τ).loc Cert.MixBackwardIdeal.main_arg8)) →
    ∃ (v0 : (c : Dev Cert.MixBackwardIdeal.nD) → Buf (Elt Ideal) ((c.tc : Thread Cert.MixBackwardIdeal.nD Cert.MixBackwardIdeal.τ).loc Cert.MixBackwardIdeal.main_v0_0)) (v1 : (c : Dev Cert.MixBackwardIdeal.nD) → Buf (Elt Ideal) ((c.tc : Thread Cert.MixBackwardIdeal.nD Cert.MixBackwardIdeal.τ).loc Cert.MixBackwardIdeal.main_v0_1)),
      θ_run (Cert.MixBackwardIdeal.defs (F := Ideal)) (onTc (τ := Cert.MixBackwardIdeal.τ) (Cert.MixBackwardIdeal.main (F := Ideal))) ⟨m, fun _ => 0, g⟩ (fun r => ∀ c : Dev Cert.MixBackwardIdeal.nD,
          r.2.mem ((c.tc : Thread Cert.MixBackwardIdeal.nD Cert.MixBackwardIdeal.τ).loc Cert.MixBackwardIdeal.main_v0_0) = v0 c
          ∧ r.2.mem ((c.tc : Thread Cert.MixBackwardIdeal.nD Cert.MixBackwardIdeal.τ).loc Cert.MixBackwardIdeal.main_v0_1) = v1 c
          ∧ r.2.mem ((c.tc : Thread Cert.MixBackwardIdeal.nD Cert.MixBackwardIdeal.τ).loc Cert.MixBackwardIdeal.main_arg0) = m ((c.tc : Thread Cert.MixBackwardIdeal.nD Cert.MixBackwardIdeal.τ).loc Cert.MixBackwardIdeal.main_arg0)
          ∧ r.2.mem ((c.tc : Thread Cert.MixBackwardIdeal.nD Cert.MixBackwardIdeal.τ).loc Cert.MixBackwardIdeal.main_arg1) = m ((c.tc : Thread Cert.MixBackwardIdeal.nD Cert.MixBackwardIdeal.τ).loc Cert.MixBackwardIdeal.main_arg1)
          ∧ r.2.mem ((c.tc : Thread Cert.MixBackwardIdeal.nD Cert.MixBackwardIdeal.τ).loc Cert.MixBackwardIdeal.main_arg2) = m ((c.tc : Thread Cert.MixBackwardIdeal.nD Cert.MixBackwardIdeal.τ).loc Cert.MixBackwardIdeal.main_arg2)
          ∧ r.2.mem ((c.tc : Thread Cert.MixBackwardIdeal.nD Cert.MixBackwardIdeal.τ).loc Cert.MixBackwardIdeal.main_arg3) = m ((c.tc : Thread Cert.MixBackwardIdeal.nD Cert.MixBackwardIdeal.τ).loc Cert.MixBackwardIdeal.main_arg3)
          ∧ r.2.mem ((c.tc : Thread Cert.MixBackwardIdeal.nD Cert.MixBackwardIdeal.τ).loc Cert.MixBackwardIdeal.main_arg4) = m ((c.tc : Thread Cert.MixBackwardIdeal.nD Cert.MixBackwardIdeal.τ).loc Cert.MixBackwardIdeal.main_arg4)
          ∧ r.2.mem ((c.tc : Thread Cert.MixBackwardIdeal.nD Cert.MixBackwardIdeal.τ).loc Cert.MixBackwardIdeal.main_arg5) = m ((c.tc : Thread Cert.MixBackwardIdeal.nD Cert.MixBackwardIdeal.τ).loc Cert.MixBackwardIdeal.main_arg5)
          ∧ r.2.mem ((c.tc : Thread Cert.MixBackwardIdeal.nD Cert.MixBackwardIdeal.τ).loc Cert.MixBackwardIdeal.main_arg6) = m ((c.tc : Thread Cert.MixBackwardIdeal.nD Cert.MixBackwardIdeal.τ).loc Cert.MixBackwardIdeal.main_arg6)
          ∧ r.2.mem ((c.tc : Thread Cert.MixBackwardIdeal.nD Cert.MixBackwardIdeal.τ).loc Cert.MixBackwardIdeal.main_arg7) = m ((c.tc : Thread Cert.MixBackwardIdeal.nD Cert.MixBackwardIdeal.τ).loc Cert.MixBackwardIdeal.main_arg7)
          ∧ r.2.mem ((c.tc : Thread Cert.MixBackwardIdeal.nD Cert.MixBackwardIdeal.τ).loc Cert.MixBackwardIdeal.main_arg8) = m ((c.tc : Thread Cert.MixBackwardIdeal.nD Cert.MixBackwardIdeal.τ).loc Cert.MixBackwardIdeal.main_arg8))
      ∧ θ_run (Cert.MixBackwardRefIdeal.defs (F := Ideal)) (onTc (τ := Cert.MixBackwardRefIdeal.τ) (Cert.MixBackwardRefIdeal.main (F := Ideal))) ⟨m', fun _ => 0, g'⟩ (fun r => ∀ c : Dev Cert.MixBackwardRefIdeal.nD,
          r.2.mem ((c.tc : Thread Cert.MixBackwardRefIdeal.nD Cert.MixBackwardRefIdeal.τ).loc Cert.MixBackwardRefIdeal.main_v36) = v0 c
          ∧ r.2.mem ((c.tc : Thread Cert.MixBackwardRefIdeal.nD Cert.MixBackwardRefIdeal.τ).loc Cert.MixBackwardRefIdeal.main_v39) = v1 c
          ∧ r.2.mem ((c.tc : Thread Cert.MixBackwardRefIdeal.nD Cert.MixBackwardRefIdeal.τ).loc Cert.MixBackwardRefIdeal.main_arg0) = m' ((c.tc : Thread Cert.MixBackwardRefIdeal.nD Cert.MixBackwardRefIdeal.τ).loc Cert.MixBackwardRefIdeal.main_arg0)
          ∧ r.2.mem ((c.tc : Thread Cert.MixBackwardRefIdeal.nD Cert.MixBackwardRefIdeal.τ).loc Cert.MixBackwardRefIdeal.main_arg1) = m' ((c.tc : Thread Cert.MixBackwardRefIdeal.nD Cert.MixBackwardRefIdeal.τ).loc Cert.MixBackwardRefIdeal.main_arg1)
          ∧ r.2.mem ((c.tc : Thread Cert.MixBackwardRefIdeal.nD Cert.MixBackwardRefIdeal.τ).loc Cert.MixBackwardRefIdeal.main_arg2) = m' ((c.tc : Thread Cert.MixBackwardRefIdeal.nD Cert.MixBackwardRefIdeal.τ).loc Cert.MixBackwardRefIdeal.main_arg2)
          ∧ r.2.mem ((c.tc : Thread Cert.MixBackwardRefIdeal.nD Cert.MixBackwardRefIdeal.τ).loc Cert.MixBackwardRefIdeal.main_arg3) = m' ((c.tc : Thread Cert.MixBackwardRefIdeal.nD Cert.MixBackwardRefIdeal.τ).loc Cert.MixBackwardRefIdeal.main_arg3)
          ∧ r.2.mem ((c.tc : Thread Cert.MixBackwardRefIdeal.nD Cert.MixBackwardRefIdeal.τ).loc Cert.MixBackwardRefIdeal.main_arg4) = m' ((c.tc : Thread Cert.MixBackwardRefIdeal.nD Cert.MixBackwardRefIdeal.τ).loc Cert.MixBackwardRefIdeal.main_arg4)
          ∧ r.2.mem ((c.tc : Thread Cert.MixBackwardRefIdeal.nD Cert.MixBackwardRefIdeal.τ).loc Cert.MixBackwardRefIdeal.main_arg5) = m' ((c.tc : Thread Cert.MixBackwardRefIdeal.nD Cert.MixBackwardRefIdeal.τ).loc Cert.MixBackwardRefIdeal.main_arg5)
          ∧ r.2.mem ((c.tc : Thread Cert.MixBackwardRefIdeal.nD Cert.MixBackwardRefIdeal.τ).loc Cert.MixBackwardRefIdeal.main_arg6) = m' ((c.tc : Thread Cert.MixBackwardRefIdeal.nD Cert.MixBackwardRefIdeal.τ).loc Cert.MixBackwardRefIdeal.main_arg6)
          ∧ r.2.mem ((c.tc : Thread Cert.MixBackwardRefIdeal.nD Cert.MixBackwardRefIdeal.τ).loc Cert.MixBackwardRefIdeal.main_arg7) = m' ((c.tc : Thread Cert.MixBackwardRefIdeal.nD Cert.MixBackwardRefIdeal.τ).loc Cert.MixBackwardRefIdeal.main_arg7)
          ∧ r.2.mem ((c.tc : Thread Cert.MixBackwardRefIdeal.nD Cert.MixBackwardRefIdeal.τ).loc Cert.MixBackwardRefIdeal.main_arg8) = m' ((c.tc : Thread Cert.MixBackwardRefIdeal.nD Cert.MixBackwardRefIdeal.τ).loc Cert.MixBackwardRefIdeal.main_arg8))

def preserves_PleNormBackward_PleNormBackwardIdeal : Prop :=
  True

def algebraic_PleNormBackwardIdeal_PleNormBackwardRefIdeal [hPleNormBackwardIdeal : Cert.PleNormBackwardIdeal.Facts] [hPleNormBackwardRefIdeal : Cert.PleNormBackwardRefIdeal.Facts] : Prop :=
  ∀ (m : (ℓ : Loc Cert.PleNormBackwardIdeal.nD Cert.PleNormBackwardIdeal.τ Cert.PleNormBackwardIdeal.sig) → Buf (Elt Ideal) ℓ) (g : Dev Cert.PleNormBackwardIdeal.nD → PrngReg)
    (m' : (ℓ : Loc Cert.PleNormBackwardRefIdeal.nD Cert.PleNormBackwardRefIdeal.τ Cert.PleNormBackwardRefIdeal.sig) → Buf (Elt Ideal) ℓ) (g' : Dev Cert.PleNormBackwardRefIdeal.nD → PrngReg), Pre_PleNormBackwardIdeal m →
    (∀ c : Dev Cert.PleNormBackwardIdeal.nD,
      m' ((c.tc : Thread Cert.PleNormBackwardRefIdeal.nD Cert.PleNormBackwardRefIdeal.τ).loc Cert.PleNormBackwardRefIdeal.main_arg0) = m ((c.tc : Thread Cert.PleNormBackwardIdeal.nD Cert.PleNormBackwardIdeal.τ).loc Cert.PleNormBackwardIdeal.main_arg0)
      ∧ m' ((c.tc : Thread Cert.PleNormBackwardRefIdeal.nD Cert.PleNormBackwardRefIdeal.τ).loc Cert.PleNormBackwardRefIdeal.main_arg1) = m ((c.tc : Thread Cert.PleNormBackwardIdeal.nD Cert.PleNormBackwardIdeal.τ).loc Cert.PleNormBackwardIdeal.main_arg1)
      ∧ m' ((c.tc : Thread Cert.PleNormBackwardRefIdeal.nD Cert.PleNormBackwardRefIdeal.τ).loc Cert.PleNormBackwardRefIdeal.main_arg2) = m ((c.tc : Thread Cert.PleNormBackwardIdeal.nD Cert.PleNormBackwardIdeal.τ).loc Cert.PleNormBackwardIdeal.main_arg2)
      ∧ m' ((c.tc : Thread Cert.PleNormBackwardRefIdeal.nD Cert.PleNormBackwardRefIdeal.τ).loc Cert.PleNormBackwardRefIdeal.main_arg3) = m ((c.tc : Thread Cert.PleNormBackwardIdeal.nD Cert.PleNormBackwardIdeal.τ).loc Cert.PleNormBackwardIdeal.main_arg3)
      ∧ m' ((c.tc : Thread Cert.PleNormBackwardRefIdeal.nD Cert.PleNormBackwardRefIdeal.τ).loc Cert.PleNormBackwardRefIdeal.main_arg4) = m ((c.tc : Thread Cert.PleNormBackwardIdeal.nD Cert.PleNormBackwardIdeal.τ).loc Cert.PleNormBackwardIdeal.main_arg4)) →
    ∃ (v0 : (c : Dev Cert.PleNormBackwardIdeal.nD) → Buf (Elt Ideal) ((c.tc : Thread Cert.PleNormBackwardIdeal.nD Cert.PleNormBackwardIdeal.τ).loc Cert.PleNormBackwardIdeal.main_v0_0)) (v1 : (c : Dev Cert.PleNormBackwardIdeal.nD) → Buf (Elt Ideal) ((c.tc : Thread Cert.PleNormBackwardIdeal.nD Cert.PleNormBackwardIdeal.τ).loc Cert.PleNormBackwardIdeal.main_v0_1)),
      θ_run (Cert.PleNormBackwardIdeal.defs (F := Ideal)) (onTc (τ := Cert.PleNormBackwardIdeal.τ) (Cert.PleNormBackwardIdeal.main (F := Ideal))) ⟨m, fun _ => 0, g⟩ (fun r => ∀ c : Dev Cert.PleNormBackwardIdeal.nD,
          r.2.mem ((c.tc : Thread Cert.PleNormBackwardIdeal.nD Cert.PleNormBackwardIdeal.τ).loc Cert.PleNormBackwardIdeal.main_v0_0) = v0 c
          ∧ r.2.mem ((c.tc : Thread Cert.PleNormBackwardIdeal.nD Cert.PleNormBackwardIdeal.τ).loc Cert.PleNormBackwardIdeal.main_v0_1) = v1 c
          ∧ r.2.mem ((c.tc : Thread Cert.PleNormBackwardIdeal.nD Cert.PleNormBackwardIdeal.τ).loc Cert.PleNormBackwardIdeal.main_arg0) = m ((c.tc : Thread Cert.PleNormBackwardIdeal.nD Cert.PleNormBackwardIdeal.τ).loc Cert.PleNormBackwardIdeal.main_arg0)
          ∧ r.2.mem ((c.tc : Thread Cert.PleNormBackwardIdeal.nD Cert.PleNormBackwardIdeal.τ).loc Cert.PleNormBackwardIdeal.main_arg1) = m ((c.tc : Thread Cert.PleNormBackwardIdeal.nD Cert.PleNormBackwardIdeal.τ).loc Cert.PleNormBackwardIdeal.main_arg1)
          ∧ r.2.mem ((c.tc : Thread Cert.PleNormBackwardIdeal.nD Cert.PleNormBackwardIdeal.τ).loc Cert.PleNormBackwardIdeal.main_arg2) = m ((c.tc : Thread Cert.PleNormBackwardIdeal.nD Cert.PleNormBackwardIdeal.τ).loc Cert.PleNormBackwardIdeal.main_arg2)
          ∧ r.2.mem ((c.tc : Thread Cert.PleNormBackwardIdeal.nD Cert.PleNormBackwardIdeal.τ).loc Cert.PleNormBackwardIdeal.main_arg3) = m ((c.tc : Thread Cert.PleNormBackwardIdeal.nD Cert.PleNormBackwardIdeal.τ).loc Cert.PleNormBackwardIdeal.main_arg3)
          ∧ r.2.mem ((c.tc : Thread Cert.PleNormBackwardIdeal.nD Cert.PleNormBackwardIdeal.τ).loc Cert.PleNormBackwardIdeal.main_arg4) = m ((c.tc : Thread Cert.PleNormBackwardIdeal.nD Cert.PleNormBackwardIdeal.τ).loc Cert.PleNormBackwardIdeal.main_arg4))
      ∧ θ_run (Cert.PleNormBackwardRefIdeal.defs (F := Ideal)) (onTc (τ := Cert.PleNormBackwardRefIdeal.τ) (Cert.PleNormBackwardRefIdeal.main (F := Ideal))) ⟨m', fun _ => 0, g'⟩ (fun r => ∀ c : Dev Cert.PleNormBackwardRefIdeal.nD,
          r.2.mem ((c.tc : Thread Cert.PleNormBackwardRefIdeal.nD Cert.PleNormBackwardRefIdeal.τ).loc Cert.PleNormBackwardRefIdeal.main_v26) = v0 c
          ∧ r.2.mem ((c.tc : Thread Cert.PleNormBackwardRefIdeal.nD Cert.PleNormBackwardRefIdeal.τ).loc Cert.PleNormBackwardRefIdeal.main_v29) = v1 c
          ∧ r.2.mem ((c.tc : Thread Cert.PleNormBackwardRefIdeal.nD Cert.PleNormBackwardRefIdeal.τ).loc Cert.PleNormBackwardRefIdeal.main_arg0) = m' ((c.tc : Thread Cert.PleNormBackwardRefIdeal.nD Cert.PleNormBackwardRefIdeal.τ).loc Cert.PleNormBackwardRefIdeal.main_arg0)
          ∧ r.2.mem ((c.tc : Thread Cert.PleNormBackwardRefIdeal.nD Cert.PleNormBackwardRefIdeal.τ).loc Cert.PleNormBackwardRefIdeal.main_arg1) = m' ((c.tc : Thread Cert.PleNormBackwardRefIdeal.nD Cert.PleNormBackwardRefIdeal.τ).loc Cert.PleNormBackwardRefIdeal.main_arg1)
          ∧ r.2.mem ((c.tc : Thread Cert.PleNormBackwardRefIdeal.nD Cert.PleNormBackwardRefIdeal.τ).loc Cert.PleNormBackwardRefIdeal.main_arg2) = m' ((c.tc : Thread Cert.PleNormBackwardRefIdeal.nD Cert.PleNormBackwardRefIdeal.τ).loc Cert.PleNormBackwardRefIdeal.main_arg2)
          ∧ r.2.mem ((c.tc : Thread Cert.PleNormBackwardRefIdeal.nD Cert.PleNormBackwardRefIdeal.τ).loc Cert.PleNormBackwardRefIdeal.main_arg3) = m' ((c.tc : Thread Cert.PleNormBackwardRefIdeal.nD Cert.PleNormBackwardRefIdeal.τ).loc Cert.PleNormBackwardRefIdeal.main_arg3)
          ∧ r.2.mem ((c.tc : Thread Cert.PleNormBackwardRefIdeal.nD Cert.PleNormBackwardRefIdeal.τ).loc Cert.PleNormBackwardRefIdeal.main_arg4) = m' ((c.tc : Thread Cert.PleNormBackwardRefIdeal.nD Cert.PleNormBackwardRefIdeal.τ).loc Cert.PleNormBackwardRefIdeal.main_arg4))

def preserves_FfnNormBackward_FfnNormBackwardIdeal : Prop :=
  True

def algebraic_FfnNormBackwardIdeal_FfnNormBackwardRefIdeal [hFfnNormBackwardIdeal : Cert.FfnNormBackwardIdeal.Facts] [hFfnNormBackwardRefIdeal : Cert.FfnNormBackwardRefIdeal.Facts] : Prop :=
  ∀ (m : (ℓ : Loc Cert.FfnNormBackwardIdeal.nD Cert.FfnNormBackwardIdeal.τ Cert.FfnNormBackwardIdeal.sig) → Buf (Elt Ideal) ℓ) (g : Dev Cert.FfnNormBackwardIdeal.nD → PrngReg)
    (m' : (ℓ : Loc Cert.FfnNormBackwardRefIdeal.nD Cert.FfnNormBackwardRefIdeal.τ Cert.FfnNormBackwardRefIdeal.sig) → Buf (Elt Ideal) ℓ) (g' : Dev Cert.FfnNormBackwardRefIdeal.nD → PrngReg), Pre_FfnNormBackwardIdeal m →
    (∀ c : Dev Cert.FfnNormBackwardIdeal.nD,
      m' ((c.tc : Thread Cert.FfnNormBackwardRefIdeal.nD Cert.FfnNormBackwardRefIdeal.τ).loc Cert.FfnNormBackwardRefIdeal.main_arg0) = m ((c.tc : Thread Cert.FfnNormBackwardIdeal.nD Cert.FfnNormBackwardIdeal.τ).loc Cert.FfnNormBackwardIdeal.main_arg0)
      ∧ m' ((c.tc : Thread Cert.FfnNormBackwardRefIdeal.nD Cert.FfnNormBackwardRefIdeal.τ).loc Cert.FfnNormBackwardRefIdeal.main_arg1) = m ((c.tc : Thread Cert.FfnNormBackwardIdeal.nD Cert.FfnNormBackwardIdeal.τ).loc Cert.FfnNormBackwardIdeal.main_arg1)
      ∧ m' ((c.tc : Thread Cert.FfnNormBackwardRefIdeal.nD Cert.FfnNormBackwardRefIdeal.τ).loc Cert.FfnNormBackwardRefIdeal.main_arg2) = m ((c.tc : Thread Cert.FfnNormBackwardIdeal.nD Cert.FfnNormBackwardIdeal.τ).loc Cert.FfnNormBackwardIdeal.main_arg2)
      ∧ m' ((c.tc : Thread Cert.FfnNormBackwardRefIdeal.nD Cert.FfnNormBackwardRefIdeal.τ).loc Cert.FfnNormBackwardRefIdeal.main_arg3) = m ((c.tc : Thread Cert.FfnNormBackwardIdeal.nD Cert.FfnNormBackwardIdeal.τ).loc Cert.FfnNormBackwardIdeal.main_arg3)
      ∧ m' ((c.tc : Thread Cert.FfnNormBackwardRefIdeal.nD Cert.FfnNormBackwardRefIdeal.τ).loc Cert.FfnNormBackwardRefIdeal.main_arg4) = m ((c.tc : Thread Cert.FfnNormBackwardIdeal.nD Cert.FfnNormBackwardIdeal.τ).loc Cert.FfnNormBackwardIdeal.main_arg4)) →
    ∃ (v0 : (c : Dev Cert.FfnNormBackwardIdeal.nD) → Buf (Elt Ideal) ((c.tc : Thread Cert.FfnNormBackwardIdeal.nD Cert.FfnNormBackwardIdeal.τ).loc Cert.FfnNormBackwardIdeal.main_v0_0)) (v1 : (c : Dev Cert.FfnNormBackwardIdeal.nD) → Buf (Elt Ideal) ((c.tc : Thread Cert.FfnNormBackwardIdeal.nD Cert.FfnNormBackwardIdeal.τ).loc Cert.FfnNormBackwardIdeal.main_v0_1)),
      θ_run (Cert.FfnNormBackwardIdeal.defs (F := Ideal)) (onTc (τ := Cert.FfnNormBackwardIdeal.τ) (Cert.FfnNormBackwardIdeal.main (F := Ideal))) ⟨m, fun _ => 0, g⟩ (fun r => ∀ c : Dev Cert.FfnNormBackwardIdeal.nD,
          r.2.mem ((c.tc : Thread Cert.FfnNormBackwardIdeal.nD Cert.FfnNormBackwardIdeal.τ).loc Cert.FfnNormBackwardIdeal.main_v0_0) = v0 c
          ∧ r.2.mem ((c.tc : Thread Cert.FfnNormBackwardIdeal.nD Cert.FfnNormBackwardIdeal.τ).loc Cert.FfnNormBackwardIdeal.main_v0_1) = v1 c
          ∧ r.2.mem ((c.tc : Thread Cert.FfnNormBackwardIdeal.nD Cert.FfnNormBackwardIdeal.τ).loc Cert.FfnNormBackwardIdeal.main_arg0) = m ((c.tc : Thread Cert.FfnNormBackwardIdeal.nD Cert.FfnNormBackwardIdeal.τ).loc Cert.FfnNormBackwardIdeal.main_arg0)
          ∧ r.2.mem ((c.tc : Thread Cert.FfnNormBackwardIdeal.nD Cert.FfnNormBackwardIdeal.τ).loc Cert.FfnNormBackwardIdeal.main_arg1) = m ((c.tc : Thread Cert.FfnNormBackwardIdeal.nD Cert.FfnNormBackwardIdeal.τ).loc Cert.FfnNormBackwardIdeal.main_arg1)
          ∧ r.2.mem ((c.tc : Thread Cert.FfnNormBackwardIdeal.nD Cert.FfnNormBackwardIdeal.τ).loc Cert.FfnNormBackwardIdeal.main_arg2) = m ((c.tc : Thread Cert.FfnNormBackwardIdeal.nD Cert.FfnNormBackwardIdeal.τ).loc Cert.FfnNormBackwardIdeal.main_arg2)
          ∧ r.2.mem ((c.tc : Thread Cert.FfnNormBackwardIdeal.nD Cert.FfnNormBackwardIdeal.τ).loc Cert.FfnNormBackwardIdeal.main_arg3) = m ((c.tc : Thread Cert.FfnNormBackwardIdeal.nD Cert.FfnNormBackwardIdeal.τ).loc Cert.FfnNormBackwardIdeal.main_arg3)
          ∧ r.2.mem ((c.tc : Thread Cert.FfnNormBackwardIdeal.nD Cert.FfnNormBackwardIdeal.τ).loc Cert.FfnNormBackwardIdeal.main_arg4) = m ((c.tc : Thread Cert.FfnNormBackwardIdeal.nD Cert.FfnNormBackwardIdeal.τ).loc Cert.FfnNormBackwardIdeal.main_arg4))
      ∧ θ_run (Cert.FfnNormBackwardRefIdeal.defs (F := Ideal)) (onTc (τ := Cert.FfnNormBackwardRefIdeal.τ) (Cert.FfnNormBackwardRefIdeal.main (F := Ideal))) ⟨m', fun _ => 0, g'⟩ (fun r => ∀ c : Dev Cert.FfnNormBackwardRefIdeal.nD,
          r.2.mem ((c.tc : Thread Cert.FfnNormBackwardRefIdeal.nD Cert.FfnNormBackwardRefIdeal.τ).loc Cert.FfnNormBackwardRefIdeal.main_v26) = v0 c
          ∧ r.2.mem ((c.tc : Thread Cert.FfnNormBackwardRefIdeal.nD Cert.FfnNormBackwardRefIdeal.τ).loc Cert.FfnNormBackwardRefIdeal.main_v29) = v1 c
          ∧ r.2.mem ((c.tc : Thread Cert.FfnNormBackwardRefIdeal.nD Cert.FfnNormBackwardRefIdeal.τ).loc Cert.FfnNormBackwardRefIdeal.main_arg0) = m' ((c.tc : Thread Cert.FfnNormBackwardRefIdeal.nD Cert.FfnNormBackwardRefIdeal.τ).loc Cert.FfnNormBackwardRefIdeal.main_arg0)
          ∧ r.2.mem ((c.tc : Thread Cert.FfnNormBackwardRefIdeal.nD Cert.FfnNormBackwardRefIdeal.τ).loc Cert.FfnNormBackwardRefIdeal.main_arg1) = m' ((c.tc : Thread Cert.FfnNormBackwardRefIdeal.nD Cert.FfnNormBackwardRefIdeal.τ).loc Cert.FfnNormBackwardRefIdeal.main_arg1)
          ∧ r.2.mem ((c.tc : Thread Cert.FfnNormBackwardRefIdeal.nD Cert.FfnNormBackwardRefIdeal.τ).loc Cert.FfnNormBackwardRefIdeal.main_arg2) = m' ((c.tc : Thread Cert.FfnNormBackwardRefIdeal.nD Cert.FfnNormBackwardRefIdeal.τ).loc Cert.FfnNormBackwardRefIdeal.main_arg2)
          ∧ r.2.mem ((c.tc : Thread Cert.FfnNormBackwardRefIdeal.nD Cert.FfnNormBackwardRefIdeal.τ).loc Cert.FfnNormBackwardRefIdeal.main_arg3) = m' ((c.tc : Thread Cert.FfnNormBackwardRefIdeal.nD Cert.FfnNormBackwardRefIdeal.τ).loc Cert.FfnNormBackwardRefIdeal.main_arg3)
          ∧ r.2.mem ((c.tc : Thread Cert.FfnNormBackwardRefIdeal.nD Cert.FfnNormBackwardRefIdeal.τ).loc Cert.FfnNormBackwardRefIdeal.main_arg4) = m' ((c.tc : Thread Cert.FfnNormBackwardRefIdeal.nD Cert.FfnNormBackwardRefIdeal.τ).loc Cert.FfnNormBackwardRefIdeal.main_arg4))

def preserves_GradPleProj_GradPleProjIdeal : Prop :=
  True

def algebraic_GradPleProjIdeal_GradPleProjRefIdeal [hGradPleProjIdeal : Cert.GradPleProjIdeal.Facts] [hGradPleProjRefIdeal : Cert.GradPleProjRefIdeal.Facts] : Prop :=
  ∀ (m : (ℓ : Loc Cert.GradPleProjIdeal.nD Cert.GradPleProjIdeal.τ Cert.GradPleProjIdeal.sig) → Buf (Elt Ideal) ℓ) (g : Dev Cert.GradPleProjIdeal.nD → PrngReg)
    (m' : (ℓ : Loc Cert.GradPleProjRefIdeal.nD Cert.GradPleProjRefIdeal.τ Cert.GradPleProjRefIdeal.sig) → Buf (Elt Ideal) ℓ) (g' : Dev Cert.GradPleProjRefIdeal.nD → PrngReg), Pre_GradPleProjIdeal m →
    (∀ c : Dev Cert.GradPleProjIdeal.nD,
      m' ((c.tc : Thread Cert.GradPleProjRefIdeal.nD Cert.GradPleProjRefIdeal.τ).loc Cert.GradPleProjRefIdeal.main_arg0) = m ((c.tc : Thread Cert.GradPleProjIdeal.nD Cert.GradPleProjIdeal.τ).loc Cert.GradPleProjIdeal.main_arg0)
      ∧ m' ((c.tc : Thread Cert.GradPleProjRefIdeal.nD Cert.GradPleProjRefIdeal.τ).loc Cert.GradPleProjRefIdeal.main_arg1) = m ((c.tc : Thread Cert.GradPleProjIdeal.nD Cert.GradPleProjIdeal.τ).loc Cert.GradPleProjIdeal.main_arg1)) →
    ∃ (v0 : (c : Dev Cert.GradPleProjIdeal.nD) → Buf (Elt Ideal) ((c.tc : Thread Cert.GradPleProjIdeal.nD Cert.GradPleProjIdeal.τ).loc Cert.GradPleProjIdeal.main_v0)),
      θ_run (Cert.GradPleProjIdeal.defs (F := Ideal)) (onTc (τ := Cert.GradPleProjIdeal.τ) (Cert.GradPleProjIdeal.main (F := Ideal))) ⟨m, fun _ => 0, g⟩ (fun r => ∀ c : Dev Cert.GradPleProjIdeal.nD,
          r.2.mem ((c.tc : Thread Cert.GradPleProjIdeal.nD Cert.GradPleProjIdeal.τ).loc Cert.GradPleProjIdeal.main_v0) = v0 c
          ∧ r.2.mem ((c.tc : Thread Cert.GradPleProjIdeal.nD Cert.GradPleProjIdeal.τ).loc Cert.GradPleProjIdeal.main_arg0) = m ((c.tc : Thread Cert.GradPleProjIdeal.nD Cert.GradPleProjIdeal.τ).loc Cert.GradPleProjIdeal.main_arg0)
          ∧ r.2.mem ((c.tc : Thread Cert.GradPleProjIdeal.nD Cert.GradPleProjIdeal.τ).loc Cert.GradPleProjIdeal.main_arg1) = m ((c.tc : Thread Cert.GradPleProjIdeal.nD Cert.GradPleProjIdeal.τ).loc Cert.GradPleProjIdeal.main_arg1))
      ∧ θ_run (Cert.GradPleProjRefIdeal.defs (F := Ideal)) (onTc (τ := Cert.GradPleProjRefIdeal.τ) (Cert.GradPleProjRefIdeal.main (F := Ideal))) ⟨m', fun _ => 0, g'⟩ (fun r => ∀ c : Dev Cert.GradPleProjRefIdeal.nD,
          r.2.mem ((c.tc : Thread Cert.GradPleProjRefIdeal.nD Cert.GradPleProjRefIdeal.τ).loc Cert.GradPleProjRefIdeal.main_v3) = v0 c
          ∧ r.2.mem ((c.tc : Thread Cert.GradPleProjRefIdeal.nD Cert.GradPleProjRefIdeal.τ).loc Cert.GradPleProjRefIdeal.main_arg0) = m' ((c.tc : Thread Cert.GradPleProjRefIdeal.nD Cert.GradPleProjRefIdeal.τ).loc Cert.GradPleProjRefIdeal.main_arg0)
          ∧ r.2.mem ((c.tc : Thread Cert.GradPleProjRefIdeal.nD Cert.GradPleProjRefIdeal.τ).loc Cert.GradPleProjRefIdeal.main_arg1) = m' ((c.tc : Thread Cert.GradPleProjRefIdeal.nD Cert.GradPleProjRefIdeal.τ).loc Cert.GradPleProjRefIdeal.main_arg1))

def preserves_GradPleGate_GradPleGateIdeal : Prop :=
  True

def algebraic_GradPleGateIdeal_GradPleGateRefIdeal [hGradPleGateIdeal : Cert.GradPleGateIdeal.Facts] [hGradPleGateRefIdeal : Cert.GradPleGateRefIdeal.Facts] : Prop :=
  ∀ (m : (ℓ : Loc Cert.GradPleGateIdeal.nD Cert.GradPleGateIdeal.τ Cert.GradPleGateIdeal.sig) → Buf (Elt Ideal) ℓ) (g : Dev Cert.GradPleGateIdeal.nD → PrngReg)
    (m' : (ℓ : Loc Cert.GradPleGateRefIdeal.nD Cert.GradPleGateRefIdeal.τ Cert.GradPleGateRefIdeal.sig) → Buf (Elt Ideal) ℓ) (g' : Dev Cert.GradPleGateRefIdeal.nD → PrngReg), Pre_GradPleGateIdeal m →
    (∀ c : Dev Cert.GradPleGateIdeal.nD,
      m' ((c.tc : Thread Cert.GradPleGateRefIdeal.nD Cert.GradPleGateRefIdeal.τ).loc Cert.GradPleGateRefIdeal.main_arg0) = m ((c.tc : Thread Cert.GradPleGateIdeal.nD Cert.GradPleGateIdeal.τ).loc Cert.GradPleGateIdeal.main_arg0)
      ∧ m' ((c.tc : Thread Cert.GradPleGateRefIdeal.nD Cert.GradPleGateRefIdeal.τ).loc Cert.GradPleGateRefIdeal.main_arg1) = m ((c.tc : Thread Cert.GradPleGateIdeal.nD Cert.GradPleGateIdeal.τ).loc Cert.GradPleGateIdeal.main_arg1)) →
    ∃ (v0 : (c : Dev Cert.GradPleGateIdeal.nD) → Buf (Elt Ideal) ((c.tc : Thread Cert.GradPleGateIdeal.nD Cert.GradPleGateIdeal.τ).loc Cert.GradPleGateIdeal.main_v0)),
      θ_run (Cert.GradPleGateIdeal.defs (F := Ideal)) (onTc (τ := Cert.GradPleGateIdeal.τ) (Cert.GradPleGateIdeal.main (F := Ideal))) ⟨m, fun _ => 0, g⟩ (fun r => ∀ c : Dev Cert.GradPleGateIdeal.nD,
          r.2.mem ((c.tc : Thread Cert.GradPleGateIdeal.nD Cert.GradPleGateIdeal.τ).loc Cert.GradPleGateIdeal.main_v0) = v0 c
          ∧ r.2.mem ((c.tc : Thread Cert.GradPleGateIdeal.nD Cert.GradPleGateIdeal.τ).loc Cert.GradPleGateIdeal.main_arg0) = m ((c.tc : Thread Cert.GradPleGateIdeal.nD Cert.GradPleGateIdeal.τ).loc Cert.GradPleGateIdeal.main_arg0)
          ∧ r.2.mem ((c.tc : Thread Cert.GradPleGateIdeal.nD Cert.GradPleGateIdeal.τ).loc Cert.GradPleGateIdeal.main_arg1) = m ((c.tc : Thread Cert.GradPleGateIdeal.nD Cert.GradPleGateIdeal.τ).loc Cert.GradPleGateIdeal.main_arg1))
      ∧ θ_run (Cert.GradPleGateRefIdeal.defs (F := Ideal)) (onTc (τ := Cert.GradPleGateRefIdeal.τ) (Cert.GradPleGateRefIdeal.main (F := Ideal))) ⟨m', fun _ => 0, g'⟩ (fun r => ∀ c : Dev Cert.GradPleGateRefIdeal.nD,
          r.2.mem ((c.tc : Thread Cert.GradPleGateRefIdeal.nD Cert.GradPleGateRefIdeal.τ).loc Cert.GradPleGateRefIdeal.main_v4) = v0 c
          ∧ r.2.mem ((c.tc : Thread Cert.GradPleGateRefIdeal.nD Cert.GradPleGateRefIdeal.τ).loc Cert.GradPleGateRefIdeal.main_arg0) = m' ((c.tc : Thread Cert.GradPleGateRefIdeal.nD Cert.GradPleGateRefIdeal.τ).loc Cert.GradPleGateRefIdeal.main_arg0)
          ∧ r.2.mem ((c.tc : Thread Cert.GradPleGateRefIdeal.nD Cert.GradPleGateRefIdeal.τ).loc Cert.GradPleGateRefIdeal.main_arg1) = m' ((c.tc : Thread Cert.GradPleGateRefIdeal.nD Cert.GradPleGateRefIdeal.τ).loc Cert.GradPleGateRefIdeal.main_arg1))

def preserves_GradFfnOut_GradFfnOutIdeal : Prop :=
  True

def algebraic_GradFfnOutIdeal_GradFfnOutRefIdeal [hGradFfnOutIdeal : Cert.GradFfnOutIdeal.Facts] [hGradFfnOutRefIdeal : Cert.GradFfnOutRefIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg)
    (m' : (ℓ : Loc Cert.GradFfnOutRefIdeal.nD Cert.GradFfnOutRefIdeal.τ Cert.GradFfnOutRefIdeal.sig) → Buf (Elt Ideal) ℓ) (g' : Dev Cert.GradFfnOutRefIdeal.nD → PrngReg), Pre_GradFfnOutIdeal m →
    (∀ c : Dev Cert.GradFfnOutIdeal.nD,
      m' ((c.tc : Thread Cert.GradFfnOutRefIdeal.nD Cert.GradFfnOutRefIdeal.τ).loc Cert.GradFfnOutRefIdeal.main_arg0) = m ((c.tc : Thread Cert.GradFfnOutIdeal.nD Cert.GradFfnOutIdeal.τ).loc Cert.GradFfnOutIdeal.main_arg0)
      ∧ m' ((c.tc : Thread Cert.GradFfnOutRefIdeal.nD Cert.GradFfnOutRefIdeal.τ).loc Cert.GradFfnOutRefIdeal.main_arg1) = m ((c.tc : Thread Cert.GradFfnOutIdeal.nD Cert.GradFfnOutIdeal.τ).loc Cert.GradFfnOutIdeal.main_arg1)) →
    ∃ (v0 : (c : Dev Cert.GradFfnOutIdeal.nD) → Buf (Elt Ideal) ((c.tc : Thread Cert.GradFfnOutIdeal.nD Cert.GradFfnOutIdeal.τ).loc Cert.GradFfnOutIdeal.main_v0)),
      θ_run (Cert.GradFfnOutIdeal.defs (F := Ideal)) (onTc (τ := Cert.GradFfnOutIdeal.τ) (Cert.GradFfnOutIdeal.main (F := Ideal))) ⟨m, fun _ => 0, g⟩ (fun r => ∀ c : Dev Cert.GradFfnOutIdeal.nD,
          r.2.mem ((c.tc : Thread Cert.GradFfnOutIdeal.nD Cert.GradFfnOutIdeal.τ).loc Cert.GradFfnOutIdeal.main_v0) = v0 c
          ∧ r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
          ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ θ_run (Cert.GradFfnOutRefIdeal.defs (F := Ideal)) (onTc (τ := Cert.GradFfnOutRefIdeal.τ) (Cert.GradFfnOutRefIdeal.main (F := Ideal))) ⟨m', fun _ => 0, g'⟩ (fun r => ∀ c : Dev Cert.GradFfnOutRefIdeal.nD,
          r.2.mem ((c.tc : Thread Cert.GradFfnOutRefIdeal.nD Cert.GradFfnOutRefIdeal.τ).loc Cert.GradFfnOutRefIdeal.main_v3) = v0 c
          ∧ r.2.mem ((c.tc : Thread Cert.GradFfnOutRefIdeal.nD Cert.GradFfnOutRefIdeal.τ).loc Cert.GradFfnOutRefIdeal.main_arg0) = m' ((c.tc : Thread Cert.GradFfnOutRefIdeal.nD Cert.GradFfnOutRefIdeal.τ).loc Cert.GradFfnOutRefIdeal.main_arg0)
          ∧ r.2.mem ((c.tc : Thread Cert.GradFfnOutRefIdeal.nD Cert.GradFfnOutRefIdeal.τ).loc Cert.GradFfnOutRefIdeal.main_arg1) = m' ((c.tc : Thread Cert.GradFfnOutRefIdeal.nD Cert.GradFfnOutRefIdeal.τ).loc Cert.GradFfnOutRefIdeal.main_arg1))

def preserves_GradFfnIn_GradFfnInIdeal : Prop :=
  True

def algebraic_GradFfnInIdeal_GradFfnInRefIdeal [hGradFfnInIdeal : Cert.GradFfnInIdeal.Facts] [hGradFfnInRefIdeal : Cert.GradFfnInRefIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg)
    (m' : (ℓ : Loc Cert.GradFfnInRefIdeal.nD Cert.GradFfnInRefIdeal.τ Cert.GradFfnInRefIdeal.sig) → Buf (Elt Ideal) ℓ) (g' : Dev Cert.GradFfnInRefIdeal.nD → PrngReg), Pre_GradFfnInIdeal m →
    (∀ c : Dev Cert.GradFfnInIdeal.nD,
      m' ((c.tc : Thread Cert.GradFfnInRefIdeal.nD Cert.GradFfnInRefIdeal.τ).loc Cert.GradFfnInRefIdeal.main_arg0) = m ((c.tc : Thread Cert.GradFfnInIdeal.nD Cert.GradFfnInIdeal.τ).loc Cert.GradFfnInIdeal.main_arg0)
      ∧ m' ((c.tc : Thread Cert.GradFfnInRefIdeal.nD Cert.GradFfnInRefIdeal.τ).loc Cert.GradFfnInRefIdeal.main_arg1) = m ((c.tc : Thread Cert.GradFfnInIdeal.nD Cert.GradFfnInIdeal.τ).loc Cert.GradFfnInIdeal.main_arg1)) →
    ∃ (v0 : (c : Dev Cert.GradFfnInIdeal.nD) → Buf (Elt Ideal) ((c.tc : Thread Cert.GradFfnInIdeal.nD Cert.GradFfnInIdeal.τ).loc Cert.GradFfnInIdeal.main_v0)),
      θ_run (Cert.GradFfnInIdeal.defs (F := Ideal)) (onTc (τ := Cert.GradFfnInIdeal.τ) (Cert.GradFfnInIdeal.main (F := Ideal))) ⟨m, fun _ => 0, g⟩ (fun r => ∀ c : Dev Cert.GradFfnInIdeal.nD,
          r.2.mem ((c.tc : Thread Cert.GradFfnInIdeal.nD Cert.GradFfnInIdeal.τ).loc Cert.GradFfnInIdeal.main_v0) = v0 c
          ∧ r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
          ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ θ_run (Cert.GradFfnInRefIdeal.defs (F := Ideal)) (onTc (τ := Cert.GradFfnInRefIdeal.τ) (Cert.GradFfnInRefIdeal.main (F := Ideal))) ⟨m', fun _ => 0, g'⟩ (fun r => ∀ c : Dev Cert.GradFfnInRefIdeal.nD,
          r.2.mem ((c.tc : Thread Cert.GradFfnInRefIdeal.nD Cert.GradFfnInRefIdeal.τ).loc Cert.GradFfnInRefIdeal.main_v4) = v0 c
          ∧ r.2.mem ((c.tc : Thread Cert.GradFfnInRefIdeal.nD Cert.GradFfnInRefIdeal.τ).loc Cert.GradFfnInRefIdeal.main_arg0) = m' ((c.tc : Thread Cert.GradFfnInRefIdeal.nD Cert.GradFfnInRefIdeal.τ).loc Cert.GradFfnInRefIdeal.main_arg0)
          ∧ r.2.mem ((c.tc : Thread Cert.GradFfnInRefIdeal.nD Cert.GradFfnInRefIdeal.τ).loc Cert.GradFfnInRefIdeal.main_arg1) = m' ((c.tc : Thread Cert.GradFfnInRefIdeal.nD Cert.GradFfnInRefIdeal.τ).loc Cert.GradFfnInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v3) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradGates_GradGatesIdeal : Prop :=
  True

def algebraic_GradGatesIdeal_GradGatesRefIdeal [hGradGatesIdeal : Cert.GradGatesIdeal.Facts] [hGradGatesRefIdeal : Cert.GradGatesRefIdeal.Facts] : Prop :=
  ∀ (m : (ℓ : Loc Cert.GradGatesIdeal.nD Cert.GradGatesIdeal.τ Cert.GradGatesIdeal.sig) → Buf (Elt Ideal) ℓ) (g : Dev Cert.GradGatesIdeal.nD → PrngReg)
    (m' : (ℓ : Loc Cert.GradGatesRefIdeal.nD Cert.GradGatesRefIdeal.τ Cert.GradGatesRefIdeal.sig) → Buf (Elt Ideal) ℓ) (g' : Dev Cert.GradGatesRefIdeal.nD → PrngReg), Pre_GradGatesIdeal m →
    (∀ c : Dev Cert.GradGatesIdeal.nD,
      m' ((c.tc : Thread Cert.GradGatesRefIdeal.nD Cert.GradGatesRefIdeal.τ).loc Cert.GradGatesRefIdeal.main_arg0) = m ((c.tc : Thread Cert.GradGatesIdeal.nD Cert.GradGatesIdeal.τ).loc Cert.GradGatesIdeal.main_arg0)
      ∧ m' ((c.tc : Thread Cert.GradGatesRefIdeal.nD Cert.GradGatesRefIdeal.τ).loc Cert.GradGatesRefIdeal.main_arg1) = m ((c.tc : Thread Cert.GradGatesIdeal.nD Cert.GradGatesIdeal.τ).loc Cert.GradGatesIdeal.main_arg1)) →
    ∃ (v0 : (c : Dev Cert.GradGatesIdeal.nD) → Buf (Elt Ideal) ((c.tc : Thread Cert.GradGatesIdeal.nD Cert.GradGatesIdeal.τ).loc Cert.GradGatesIdeal.main_v0)),
      θ_run (Cert.GradGatesIdeal.defs (F := Ideal)) (onTc (τ := Cert.GradGatesIdeal.τ) (Cert.GradGatesIdeal.main (F := Ideal))) ⟨m, fun _ => 0, g⟩ (fun r => ∀ c : Dev Cert.GradGatesIdeal.nD,
          r.2.mem ((c.tc : Thread Cert.GradGatesIdeal.nD Cert.GradGatesIdeal.τ).loc Cert.GradGatesIdeal.main_v0) = v0 c
          ∧ r.2.mem ((c.tc : Thread Cert.GradGatesIdeal.nD Cert.GradGatesIdeal.τ).loc Cert.GradGatesIdeal.main_arg0) = m ((c.tc : Thread Cert.GradGatesIdeal.nD Cert.GradGatesIdeal.τ).loc Cert.GradGatesIdeal.main_arg0)
          ∧ r.2.mem ((c.tc : Thread Cert.GradGatesIdeal.nD Cert.GradGatesIdeal.τ).loc Cert.GradGatesIdeal.main_arg1) = m ((c.tc : Thread Cert.GradGatesIdeal.nD Cert.GradGatesIdeal.τ).loc Cert.GradGatesIdeal.main_arg1))
      ∧ θ_run (Cert.GradGatesRefIdeal.defs (F := Ideal)) (onTc (τ := Cert.GradGatesRefIdeal.τ) (Cert.GradGatesRefIdeal.main (F := Ideal))) ⟨m', fun _ => 0, g'⟩ (fun r => ∀ c : Dev Cert.GradGatesRefIdeal.nD,
          r.2.mem ((c.tc : Thread Cert.GradGatesRefIdeal.nD Cert.GradGatesRefIdeal.τ).loc Cert.GradGatesRefIdeal.main_v4) = v0 c
          ∧ r.2.mem ((c.tc : Thread Cert.GradGatesRefIdeal.nD Cert.GradGatesRefIdeal.τ).loc Cert.GradGatesRefIdeal.main_arg0) = m' ((c.tc : Thread Cert.GradGatesRefIdeal.nD Cert.GradGatesRefIdeal.τ).loc Cert.GradGatesRefIdeal.main_arg0)
          ∧ r.2.mem ((c.tc : Thread Cert.GradGatesRefIdeal.nD Cert.GradGatesRefIdeal.τ).loc Cert.GradGatesRefIdeal.main_arg1) = m' ((c.tc : Thread Cert.GradGatesRefIdeal.nD Cert.GradGatesRefIdeal.τ).loc Cert.GradGatesRefIdeal.main_arg1))

def preserves_GradProjA_GradProjAIdeal : Prop :=
  True

def algebraic_GradProjAIdeal_GradProjARefIdeal [hGradProjAIdeal : Cert.GradProjAIdeal.Facts] [hGradProjARefIdeal : Cert.GradProjARefIdeal.Facts] : Prop :=
  ∀ (m : (ℓ : Loc Cert.GradProjAIdeal.nD Cert.GradProjAIdeal.τ Cert.GradProjAIdeal.sig) → Buf (Elt Ideal) ℓ) (g : Dev Cert.GradProjAIdeal.nD → PrngReg)
    (m' : (ℓ : Loc Cert.GradProjARefIdeal.nD Cert.GradProjARefIdeal.τ Cert.GradProjARefIdeal.sig) → Buf (Elt Ideal) ℓ) (g' : Dev Cert.GradProjARefIdeal.nD → PrngReg), Pre_GradProjAIdeal m →
    (∀ c : Dev Cert.GradProjAIdeal.nD,
      m' ((c.tc : Thread Cert.GradProjARefIdeal.nD Cert.GradProjARefIdeal.τ).loc Cert.GradProjARefIdeal.main_arg0) = m ((c.tc : Thread Cert.GradProjAIdeal.nD Cert.GradProjAIdeal.τ).loc Cert.GradProjAIdeal.main_arg0)
      ∧ m' ((c.tc : Thread Cert.GradProjARefIdeal.nD Cert.GradProjARefIdeal.τ).loc Cert.GradProjARefIdeal.main_arg1) = m ((c.tc : Thread Cert.GradProjAIdeal.nD Cert.GradProjAIdeal.τ).loc Cert.GradProjAIdeal.main_arg1)) →
    ∃ (v0 : (c : Dev Cert.GradProjAIdeal.nD) → Buf (Elt Ideal) ((c.tc : Thread Cert.GradProjAIdeal.nD Cert.GradProjAIdeal.τ).loc Cert.GradProjAIdeal.main_v0)),
      θ_run (Cert.GradProjAIdeal.defs (F := Ideal)) (onTc (τ := Cert.GradProjAIdeal.τ) (Cert.GradProjAIdeal.main (F := Ideal))) ⟨m, fun _ => 0, g⟩ (fun r => ∀ c : Dev Cert.GradProjAIdeal.nD,
          r.2.mem ((c.tc : Thread Cert.GradProjAIdeal.nD Cert.GradProjAIdeal.τ).loc Cert.GradProjAIdeal.main_v0) = v0 c
          ∧ r.2.mem ((c.tc : Thread Cert.GradProjAIdeal.nD Cert.GradProjAIdeal.τ).loc Cert.GradProjAIdeal.main_arg0) = m ((c.tc : Thread Cert.GradProjAIdeal.nD Cert.GradProjAIdeal.τ).loc Cert.GradProjAIdeal.main_arg0)
          ∧ r.2.mem ((c.tc : Thread Cert.GradProjAIdeal.nD Cert.GradProjAIdeal.τ).loc Cert.GradProjAIdeal.main_arg1) = m ((c.tc : Thread Cert.GradProjAIdeal.nD Cert.GradProjAIdeal.τ).loc Cert.GradProjAIdeal.main_arg1))
      ∧ θ_run (Cert.GradProjARefIdeal.defs (F := Ideal)) (onTc (τ := Cert.GradProjARefIdeal.τ) (Cert.GradProjARefIdeal.main (F := Ideal))) ⟨m', fun _ => 0, g'⟩ (fun r => ∀ c : Dev Cert.GradProjARefIdeal.nD,
          r.2.mem ((c.tc : Thread Cert.GradProjARefIdeal.nD Cert.GradProjARefIdeal.τ).loc Cert.GradProjARefIdeal.main_v4) = v0 c
          ∧ r.2.mem ((c.tc : Thread Cert.GradProjARefIdeal.nD Cert.GradProjARefIdeal.τ).loc Cert.GradProjARefIdeal.main_arg0) = m' ((c.tc : Thread Cert.GradProjARefIdeal.nD Cert.GradProjARefIdeal.τ).loc Cert.GradProjARefIdeal.main_arg0)
          ∧ r.2.mem ((c.tc : Thread Cert.GradProjARefIdeal.nD Cert.GradProjARefIdeal.τ).loc Cert.GradProjARefIdeal.main_arg1) = m' ((c.tc : Thread Cert.GradProjARefIdeal.nD Cert.GradProjARefIdeal.τ).loc Cert.GradProjARefIdeal.main_arg1))

def preserves_GradProjQkv_GradProjQkvIdeal : Prop :=
  True

def algebraic_GradProjQkvIdeal_GradProjQkvRefIdeal [hGradProjQkvIdeal : Cert.GradProjQkvIdeal.Facts] [hGradProjQkvRefIdeal : Cert.GradProjQkvRefIdeal.Facts] : Prop :=
  ∀ (m : (ℓ : Loc Cert.GradProjQkvIdeal.nD Cert.GradProjQkvIdeal.τ Cert.GradProjQkvIdeal.sig) → Buf (Elt Ideal) ℓ) (g : Dev Cert.GradProjQkvIdeal.nD → PrngReg)
    (m' : (ℓ : Loc Cert.GradProjQkvRefIdeal.nD Cert.GradProjQkvRefIdeal.τ Cert.GradProjQkvRefIdeal.sig) → Buf (Elt Ideal) ℓ) (g' : Dev Cert.GradProjQkvRefIdeal.nD → PrngReg), Pre_GradProjQkvIdeal m →
    (∀ c : Dev Cert.GradProjQkvIdeal.nD,
      m' ((c.tc : Thread Cert.GradProjQkvRefIdeal.nD Cert.GradProjQkvRefIdeal.τ).loc Cert.GradProjQkvRefIdeal.main_arg0) = m ((c.tc : Thread Cert.GradProjQkvIdeal.nD Cert.GradProjQkvIdeal.τ).loc Cert.GradProjQkvIdeal.main_arg0)
      ∧ m' ((c.tc : Thread Cert.GradProjQkvRefIdeal.nD Cert.GradProjQkvRefIdeal.τ).loc Cert.GradProjQkvRefIdeal.main_arg1) = m ((c.tc : Thread Cert.GradProjQkvIdeal.nD Cert.GradProjQkvIdeal.τ).loc Cert.GradProjQkvIdeal.main_arg1)) →
    ∃ (v0 : (c : Dev Cert.GradProjQkvIdeal.nD) → Buf (Elt Ideal) ((c.tc : Thread Cert.GradProjQkvIdeal.nD Cert.GradProjQkvIdeal.τ).loc Cert.GradProjQkvIdeal.main_v0)),
      θ_run (Cert.GradProjQkvIdeal.defs (F := Ideal)) (onTc (τ := Cert.GradProjQkvIdeal.τ) (Cert.GradProjQkvIdeal.main (F := Ideal))) ⟨m, fun _ => 0, g⟩ (fun r => ∀ c : Dev Cert.GradProjQkvIdeal.nD,
          r.2.mem ((c.tc : Thread Cert.GradProjQkvIdeal.nD Cert.GradProjQkvIdeal.τ).loc Cert.GradProjQkvIdeal.main_v0) = v0 c
          ∧ r.2.mem ((c.tc : Thread Cert.GradProjQkvIdeal.nD Cert.GradProjQkvIdeal.τ).loc Cert.GradProjQkvIdeal.main_arg0) = m ((c.tc : Thread Cert.GradProjQkvIdeal.nD Cert.GradProjQkvIdeal.τ).loc Cert.GradProjQkvIdeal.main_arg0)
          ∧ r.2.mem ((c.tc : Thread Cert.GradProjQkvIdeal.nD Cert.GradProjQkvIdeal.τ).loc Cert.GradProjQkvIdeal.main_arg1) = m ((c.tc : Thread Cert.GradProjQkvIdeal.nD Cert.GradProjQkvIdeal.τ).loc Cert.GradProjQkvIdeal.main_arg1))
      ∧ θ_run (Cert.GradProjQkvRefIdeal.defs (F := Ideal)) (onTc (τ := Cert.GradProjQkvRefIdeal.τ) (Cert.GradProjQkvRefIdeal.main (F := Ideal))) ⟨m', fun _ => 0, g'⟩ (fun r => ∀ c : Dev Cert.GradProjQkvRefIdeal.nD,
          r.2.mem ((c.tc : Thread Cert.GradProjQkvRefIdeal.nD Cert.GradProjQkvRefIdeal.τ).loc Cert.GradProjQkvRefIdeal.main_v4) = v0 c
          ∧ r.2.mem ((c.tc : Thread Cert.GradProjQkvRefIdeal.nD Cert.GradProjQkvRefIdeal.τ).loc Cert.GradProjQkvRefIdeal.main_arg0) = m' ((c.tc : Thread Cert.GradProjQkvRefIdeal.nD Cert.GradProjQkvRefIdeal.τ).loc Cert.GradProjQkvRefIdeal.main_arg0)
          ∧ r.2.mem ((c.tc : Thread Cert.GradProjQkvRefIdeal.nD Cert.GradProjQkvRefIdeal.τ).loc Cert.GradProjQkvRefIdeal.main_arg1) = m' ((c.tc : Thread Cert.GradProjQkvRefIdeal.nD Cert.GradProjQkvRefIdeal.τ).loc Cert.GradProjQkvRefIdeal.main_arg1))

def preserves_GradBranch0_GradBranch0Ideal : Prop :=
  True

def algebraic_GradBranch0Ideal_GradBranch0RefIdeal [hGradBranch0Ideal : Cert.GradBranch0Ideal.Facts] [hGradBranch0RefIdeal : Cert.GradBranch0RefIdeal.Facts] : Prop :=
  ∀ (m : (ℓ : Loc Cert.GradBranch0Ideal.nD Cert.GradBranch0Ideal.τ Cert.GradBranch0Ideal.sig) → Buf (Elt Ideal) ℓ) (g : Dev Cert.GradBranch0Ideal.nD → PrngReg)
    (m' : (ℓ : Loc Cert.GradBranch0RefIdeal.nD Cert.GradBranch0RefIdeal.τ Cert.GradBranch0RefIdeal.sig) → Buf (Elt Ideal) ℓ) (g' : Dev Cert.GradBranch0RefIdeal.nD → PrngReg), Pre_GradBranch0Ideal m →
    (∀ c : Dev Cert.GradBranch0Ideal.nD,
      m' ((c.tc : Thread Cert.GradBranch0RefIdeal.nD Cert.GradBranch0RefIdeal.τ).loc Cert.GradBranch0RefIdeal.main_arg0) = m ((c.tc : Thread Cert.GradBranch0Ideal.nD Cert.GradBranch0Ideal.τ).loc Cert.GradBranch0Ideal.main_arg0)
      ∧ m' ((c.tc : Thread Cert.GradBranch0RefIdeal.nD Cert.GradBranch0RefIdeal.τ).loc Cert.GradBranch0RefIdeal.main_arg1) = m ((c.tc : Thread Cert.GradBranch0Ideal.nD Cert.GradBranch0Ideal.τ).loc Cert.GradBranch0Ideal.main_arg1)) →
    ∃ (v0 : (c : Dev Cert.GradBranch0Ideal.nD) → Buf (Elt Ideal) ((c.tc : Thread Cert.GradBranch0Ideal.nD Cert.GradBranch0Ideal.τ).loc Cert.GradBranch0Ideal.main_v0)),
      θ_run (Cert.GradBranch0Ideal.defs (F := Ideal)) (onTc (τ := Cert.GradBranch0Ideal.τ) (Cert.GradBranch0Ideal.main (F := Ideal))) ⟨m, fun _ => 0, g⟩ (fun r => ∀ c : Dev Cert.GradBranch0Ideal.nD,
          r.2.mem ((c.tc : Thread Cert.GradBranch0Ideal.nD Cert.GradBranch0Ideal.τ).loc Cert.GradBranch0Ideal.main_v0) = v0 c
          ∧ r.2.mem ((c.tc : Thread Cert.GradBranch0Ideal.nD Cert.GradBranch0Ideal.τ).loc Cert.GradBranch0Ideal.main_arg0) = m ((c.tc : Thread Cert.GradBranch0Ideal.nD Cert.GradBranch0Ideal.τ).loc Cert.GradBranch0Ideal.main_arg0)
          ∧ r.2.mem ((c.tc : Thread Cert.GradBranch0Ideal.nD Cert.GradBranch0Ideal.τ).loc Cert.GradBranch0Ideal.main_arg1) = m ((c.tc : Thread Cert.GradBranch0Ideal.nD Cert.GradBranch0Ideal.τ).loc Cert.GradBranch0Ideal.main_arg1))
      ∧ θ_run (Cert.GradBranch0RefIdeal.defs (F := Ideal)) (onTc (τ := Cert.GradBranch0RefIdeal.τ) (Cert.GradBranch0RefIdeal.main (F := Ideal))) ⟨m', fun _ => 0, g'⟩ (fun r => ∀ c : Dev Cert.GradBranch0RefIdeal.nD,
          r.2.mem ((c.tc : Thread Cert.GradBranch0RefIdeal.nD Cert.GradBranch0RefIdeal.τ).loc Cert.GradBranch0RefIdeal.main_v5) = v0 c
          ∧ r.2.mem ((c.tc : Thread Cert.GradBranch0RefIdeal.nD Cert.GradBranch0RefIdeal.τ).loc Cert.GradBranch0RefIdeal.main_arg0) = m' ((c.tc : Thread Cert.GradBranch0RefIdeal.nD Cert.GradBranch0RefIdeal.τ).loc Cert.GradBranch0RefIdeal.main_arg0)
          ∧ r.2.mem ((c.tc : Thread Cert.GradBranch0RefIdeal.nD Cert.GradBranch0RefIdeal.τ).loc Cert.GradBranch0RefIdeal.main_arg1) = m' ((c.tc : Thread Cert.GradBranch0RefIdeal.nD Cert.GradBranch0RefIdeal.τ).loc Cert.GradBranch0RefIdeal.main_arg1))

def preserves_GradBranch1_GradBranch1Ideal : Prop :=
  True

def algebraic_GradBranch1Ideal_GradBranch1RefIdeal [hGradBranch1Ideal : Cert.GradBranch1Ideal.Facts] [hGradBranch1RefIdeal : Cert.GradBranch1RefIdeal.Facts] : Prop :=
  ∀ (m : (ℓ : Loc Cert.GradBranch1Ideal.nD Cert.GradBranch1Ideal.τ Cert.GradBranch1Ideal.sig) → Buf (Elt Ideal) ℓ) (g : Dev Cert.GradBranch1Ideal.nD → PrngReg)
    (m' : (ℓ : Loc Cert.GradBranch1RefIdeal.nD Cert.GradBranch1RefIdeal.τ Cert.GradBranch1RefIdeal.sig) → Buf (Elt Ideal) ℓ) (g' : Dev Cert.GradBranch1RefIdeal.nD → PrngReg), Pre_GradBranch1Ideal m →
    (∀ c : Dev Cert.GradBranch1Ideal.nD,
      m' ((c.tc : Thread Cert.GradBranch1RefIdeal.nD Cert.GradBranch1RefIdeal.τ).loc Cert.GradBranch1RefIdeal.main_arg0) = m ((c.tc : Thread Cert.GradBranch1Ideal.nD Cert.GradBranch1Ideal.τ).loc Cert.GradBranch1Ideal.main_arg0)
      ∧ m' ((c.tc : Thread Cert.GradBranch1RefIdeal.nD Cert.GradBranch1RefIdeal.τ).loc Cert.GradBranch1RefIdeal.main_arg1) = m ((c.tc : Thread Cert.GradBranch1Ideal.nD Cert.GradBranch1Ideal.τ).loc Cert.GradBranch1Ideal.main_arg1)) →
    ∃ (v0 : (c : Dev Cert.GradBranch1Ideal.nD) → Buf (Elt Ideal) ((c.tc : Thread Cert.GradBranch1Ideal.nD Cert.GradBranch1Ideal.τ).loc Cert.GradBranch1Ideal.main_v0)),
      θ_run (Cert.GradBranch1Ideal.defs (F := Ideal)) (onTc (τ := Cert.GradBranch1Ideal.τ) (Cert.GradBranch1Ideal.main (F := Ideal))) ⟨m, fun _ => 0, g⟩ (fun r => ∀ c : Dev Cert.GradBranch1Ideal.nD,
          r.2.mem ((c.tc : Thread Cert.GradBranch1Ideal.nD Cert.GradBranch1Ideal.τ).loc Cert.GradBranch1Ideal.main_v0) = v0 c
          ∧ r.2.mem ((c.tc : Thread Cert.GradBranch1Ideal.nD Cert.GradBranch1Ideal.τ).loc Cert.GradBranch1Ideal.main_arg0) = m ((c.tc : Thread Cert.GradBranch1Ideal.nD Cert.GradBranch1Ideal.τ).loc Cert.GradBranch1Ideal.main_arg0)
          ∧ r.2.mem ((c.tc : Thread Cert.GradBranch1Ideal.nD Cert.GradBranch1Ideal.τ).loc Cert.GradBranch1Ideal.main_arg1) = m ((c.tc : Thread Cert.GradBranch1Ideal.nD Cert.GradBranch1Ideal.τ).loc Cert.GradBranch1Ideal.main_arg1))
      ∧ θ_run (Cert.GradBranch1RefIdeal.defs (F := Ideal)) (onTc (τ := Cert.GradBranch1RefIdeal.τ) (Cert.GradBranch1RefIdeal.main (F := Ideal))) ⟨m', fun _ => 0, g'⟩ (fun r => ∀ c : Dev Cert.GradBranch1RefIdeal.nD,
          r.2.mem ((c.tc : Thread Cert.GradBranch1RefIdeal.nD Cert.GradBranch1RefIdeal.τ).loc Cert.GradBranch1RefIdeal.main_v4) = v0 c
          ∧ r.2.mem ((c.tc : Thread Cert.GradBranch1RefIdeal.nD Cert.GradBranch1RefIdeal.τ).loc Cert.GradBranch1RefIdeal.main_arg0) = m' ((c.tc : Thread Cert.GradBranch1RefIdeal.nD Cert.GradBranch1RefIdeal.τ).loc Cert.GradBranch1RefIdeal.main_arg0)
          ∧ r.2.mem ((c.tc : Thread Cert.GradBranch1RefIdeal.nD Cert.GradBranch1RefIdeal.τ).loc Cert.GradBranch1RefIdeal.main_arg1) = m' ((c.tc : Thread Cert.GradBranch1RefIdeal.nD Cert.GradBranch1RefIdeal.τ).loc Cert.GradBranch1RefIdeal.main_arg1))

def preserves_GradBranch2_GradBranch2Ideal : Prop :=
  True

def algebraic_GradBranch2Ideal_GradBranch2RefIdeal [hGradBranch2Ideal : Cert.GradBranch2Ideal.Facts] [hGradBranch2RefIdeal : Cert.GradBranch2RefIdeal.Facts] : Prop :=
  ∀ (m : (ℓ : Loc Cert.GradBranch2Ideal.nD Cert.GradBranch2Ideal.τ Cert.GradBranch2Ideal.sig) → Buf (Elt Ideal) ℓ) (g : Dev Cert.GradBranch2Ideal.nD → PrngReg)
    (m' : (ℓ : Loc Cert.GradBranch2RefIdeal.nD Cert.GradBranch2RefIdeal.τ Cert.GradBranch2RefIdeal.sig) → Buf (Elt Ideal) ℓ) (g' : Dev Cert.GradBranch2RefIdeal.nD → PrngReg), Pre_GradBranch2Ideal m →
    (∀ c : Dev Cert.GradBranch2Ideal.nD,
      m' ((c.tc : Thread Cert.GradBranch2RefIdeal.nD Cert.GradBranch2RefIdeal.τ).loc Cert.GradBranch2RefIdeal.main_arg0) = m ((c.tc : Thread Cert.GradBranch2Ideal.nD Cert.GradBranch2Ideal.τ).loc Cert.GradBranch2Ideal.main_arg0)
      ∧ m' ((c.tc : Thread Cert.GradBranch2RefIdeal.nD Cert.GradBranch2RefIdeal.τ).loc Cert.GradBranch2RefIdeal.main_arg1) = m ((c.tc : Thread Cert.GradBranch2Ideal.nD Cert.GradBranch2Ideal.τ).loc Cert.GradBranch2Ideal.main_arg1)) →
    ∃ (v0 : (c : Dev Cert.GradBranch2Ideal.nD) → Buf (Elt Ideal) ((c.tc : Thread Cert.GradBranch2Ideal.nD Cert.GradBranch2Ideal.τ).loc Cert.GradBranch2Ideal.main_v0)),
      θ_run (Cert.GradBranch2Ideal.defs (F := Ideal)) (onTc (τ := Cert.GradBranch2Ideal.τ) (Cert.GradBranch2Ideal.main (F := Ideal))) ⟨m, fun _ => 0, g⟩ (fun r => ∀ c : Dev Cert.GradBranch2Ideal.nD,
          r.2.mem ((c.tc : Thread Cert.GradBranch2Ideal.nD Cert.GradBranch2Ideal.τ).loc Cert.GradBranch2Ideal.main_v0) = v0 c
          ∧ r.2.mem ((c.tc : Thread Cert.GradBranch2Ideal.nD Cert.GradBranch2Ideal.τ).loc Cert.GradBranch2Ideal.main_arg0) = m ((c.tc : Thread Cert.GradBranch2Ideal.nD Cert.GradBranch2Ideal.τ).loc Cert.GradBranch2Ideal.main_arg0)
          ∧ r.2.mem ((c.tc : Thread Cert.GradBranch2Ideal.nD Cert.GradBranch2Ideal.τ).loc Cert.GradBranch2Ideal.main_arg1) = m ((c.tc : Thread Cert.GradBranch2Ideal.nD Cert.GradBranch2Ideal.τ).loc Cert.GradBranch2Ideal.main_arg1))
      ∧ θ_run (Cert.GradBranch2RefIdeal.defs (F := Ideal)) (onTc (τ := Cert.GradBranch2RefIdeal.τ) (Cert.GradBranch2RefIdeal.main (F := Ideal))) ⟨m', fun _ => 0, g'⟩ (fun r => ∀ c : Dev Cert.GradBranch2RefIdeal.nD,
          r.2.mem ((c.tc : Thread Cert.GradBranch2RefIdeal.nD Cert.GradBranch2RefIdeal.τ).loc Cert.GradBranch2RefIdeal.main_v5) = v0 c
          ∧ r.2.mem ((c.tc : Thread Cert.GradBranch2RefIdeal.nD Cert.GradBranch2RefIdeal.τ).loc Cert.GradBranch2RefIdeal.main_arg0) = m' ((c.tc : Thread Cert.GradBranch2RefIdeal.nD Cert.GradBranch2RefIdeal.τ).loc Cert.GradBranch2RefIdeal.main_arg0)
          ∧ r.2.mem ((c.tc : Thread Cert.GradBranch2RefIdeal.nD Cert.GradBranch2RefIdeal.τ).loc Cert.GradBranch2RefIdeal.main_arg1) = m' ((c.tc : Thread Cert.GradBranch2RefIdeal.nD Cert.GradBranch2RefIdeal.τ).loc Cert.GradBranch2RefIdeal.main_arg1))

def preserves_GradBranch3_GradBranch3Ideal : Prop :=
  True

def algebraic_GradBranch3Ideal_GradBranch3RefIdeal [hGradBranch3Ideal : Cert.GradBranch3Ideal.Facts] [hGradBranch3RefIdeal : Cert.GradBranch3RefIdeal.Facts] : Prop :=
  ∀ (m : (ℓ : Loc Cert.GradBranch3Ideal.nD Cert.GradBranch3Ideal.τ Cert.GradBranch3Ideal.sig) → Buf (Elt Ideal) ℓ) (g : Dev Cert.GradBranch3Ideal.nD → PrngReg)
    (m' : (ℓ : Loc Cert.GradBranch3RefIdeal.nD Cert.GradBranch3RefIdeal.τ Cert.GradBranch3RefIdeal.sig) → Buf (Elt Ideal) ℓ) (g' : Dev Cert.GradBranch3RefIdeal.nD → PrngReg), Pre_GradBranch3Ideal m →
    (∀ c : Dev Cert.GradBranch3Ideal.nD,
      m' ((c.tc : Thread Cert.GradBranch3RefIdeal.nD Cert.GradBranch3RefIdeal.τ).loc Cert.GradBranch3RefIdeal.main_arg0) = m ((c.tc : Thread Cert.GradBranch3Ideal.nD Cert.GradBranch3Ideal.τ).loc Cert.GradBranch3Ideal.main_arg0)
      ∧ m' ((c.tc : Thread Cert.GradBranch3RefIdeal.nD Cert.GradBranch3RefIdeal.τ).loc Cert.GradBranch3RefIdeal.main_arg1) = m ((c.tc : Thread Cert.GradBranch3Ideal.nD Cert.GradBranch3Ideal.τ).loc Cert.GradBranch3Ideal.main_arg1)) →
    ∃ (v0 : (c : Dev Cert.GradBranch3Ideal.nD) → Buf (Elt Ideal) ((c.tc : Thread Cert.GradBranch3Ideal.nD Cert.GradBranch3Ideal.τ).loc Cert.GradBranch3Ideal.main_v0)),
      θ_run (Cert.GradBranch3Ideal.defs (F := Ideal)) (onTc (τ := Cert.GradBranch3Ideal.τ) (Cert.GradBranch3Ideal.main (F := Ideal))) ⟨m, fun _ => 0, g⟩ (fun r => ∀ c : Dev Cert.GradBranch3Ideal.nD,
          r.2.mem ((c.tc : Thread Cert.GradBranch3Ideal.nD Cert.GradBranch3Ideal.τ).loc Cert.GradBranch3Ideal.main_v0) = v0 c
          ∧ r.2.mem ((c.tc : Thread Cert.GradBranch3Ideal.nD Cert.GradBranch3Ideal.τ).loc Cert.GradBranch3Ideal.main_arg0) = m ((c.tc : Thread Cert.GradBranch3Ideal.nD Cert.GradBranch3Ideal.τ).loc Cert.GradBranch3Ideal.main_arg0)
          ∧ r.2.mem ((c.tc : Thread Cert.GradBranch3Ideal.nD Cert.GradBranch3Ideal.τ).loc Cert.GradBranch3Ideal.main_arg1) = m ((c.tc : Thread Cert.GradBranch3Ideal.nD Cert.GradBranch3Ideal.τ).loc Cert.GradBranch3Ideal.main_arg1))
      ∧ θ_run (Cert.GradBranch3RefIdeal.defs (F := Ideal)) (onTc (τ := Cert.GradBranch3RefIdeal.τ) (Cert.GradBranch3RefIdeal.main (F := Ideal))) ⟨m', fun _ => 0, g'⟩ (fun r => ∀ c : Dev Cert.GradBranch3RefIdeal.nD,
          r.2.mem ((c.tc : Thread Cert.GradBranch3RefIdeal.nD Cert.GradBranch3RefIdeal.τ).loc Cert.GradBranch3RefIdeal.main_v5) = v0 c
          ∧ r.2.mem ((c.tc : Thread Cert.GradBranch3RefIdeal.nD Cert.GradBranch3RefIdeal.τ).loc Cert.GradBranch3RefIdeal.main_arg0) = m' ((c.tc : Thread Cert.GradBranch3RefIdeal.nD Cert.GradBranch3RefIdeal.τ).loc Cert.GradBranch3RefIdeal.main_arg0)
          ∧ r.2.mem ((c.tc : Thread Cert.GradBranch3RefIdeal.nD Cert.GradBranch3RefIdeal.τ).loc Cert.GradBranch3RefIdeal.main_arg1) = m' ((c.tc : Thread Cert.GradBranch3RefIdeal.nD Cert.GradBranch3RefIdeal.τ).loc Cert.GradBranch3RefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v0_0)) (v1 : (c : Dev Cert.ProjAIdeal.nD) → Buf (Elt Ideal) ((c.tc : Thread Cert.ProjAIdeal.nD Cert.ProjAIdeal.τ).loc Cert.ProjAIdeal.main_v0_1)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0_0) = v0 c
          ∧ r.2.mem ((c.tc : Thread Cert.ProjAIdeal.nD Cert.ProjAIdeal.τ).loc Cert.ProjAIdeal.main_v0_1) = v1 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v13) = v0 c
          ∧ r.2.mem ((c.tc : Thread Cert.ProjARefIdeal.nD Cert.ProjARefIdeal.τ).loc Cert.ProjARefIdeal.main_v14) = v1 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)
      ∧ m' ((c.tc : Thread Cert.ProjQkvRefIdeal.nD Cert.ProjQkvRefIdeal.τ).loc Cert.ProjQkvRefIdeal.main_arg2) = m ((c.tc : Thread Cert.ProjQkvIdeal.nD Cert.ProjQkvIdeal.τ).loc Cert.ProjQkvIdeal.main_arg2)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
          ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v14) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1)
          ∧ r.2.mem ((c.tc : Thread Cert.ProjQkvRefIdeal.nD Cert.ProjQkvRefIdeal.τ).loc Cert.ProjQkvRefIdeal.main_arg2) = m' ((c.tc : Thread Cert.ProjQkvRefIdeal.nD Cert.ProjQkvRefIdeal.τ).loc Cert.ProjQkvRefIdeal.main_arg2))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)
      ∧ m' ((c.tc : Thread Cert.ProjGatesRefIdeal.nD Cert.ProjGatesRefIdeal.τ).loc Cert.ProjGatesRefIdeal.main_arg2) = m ((c.tc : Thread Cert.ProjGatesIdeal.nD Cert.ProjGatesIdeal.τ).loc Cert.ProjGatesIdeal.main_arg2)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1)
          ∧ r.2.mem ((c.tc : Thread Cert.ProjGatesIdeal.nD Cert.ProjGatesIdeal.τ).loc Cert.ProjGatesIdeal.main_arg2) = m ((c.tc : Thread Cert.ProjGatesIdeal.nD Cert.ProjGatesIdeal.τ).loc Cert.ProjGatesIdeal.main_arg2))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v20) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1)
          ∧ r.2.mem ((c.tc : Thread Cert.ProjGatesRefIdeal.nD Cert.ProjGatesRefIdeal.τ).loc Cert.ProjGatesRefIdeal.main_arg2) = m' ((c.tc : Thread Cert.ProjGatesRefIdeal.nD Cert.ProjGatesRefIdeal.τ).loc Cert.ProjGatesRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v14) = v0 c
          ∧ r.2.mem ((c.tc : Thread Cert.FfnInRefIdeal.nD Cert.FfnInRefIdeal.τ).loc Cert.FfnInRefIdeal.main_v15) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)
      ∧ m' ((c.tc : Thread Cert.PleGateRefIdeal.nD Cert.PleGateRefIdeal.τ).loc Cert.PleGateRefIdeal.main_arg2) = m ((c.tc : Thread Cert.PleGateIdeal.nD Cert.PleGateIdeal.τ).loc Cert.PleGateIdeal.main_arg2)) →
    ∃ (v0 : (c : Dev Cert.PleGateIdeal.nD) → Buf (Elt Ideal) ((c.tc : Thread Cert.PleGateIdeal.nD Cert.PleGateIdeal.τ).loc Cert.PleGateIdeal.main_v0_0)) (v1 : (c : Dev Cert.PleGateIdeal.nD) → Buf (Elt Ideal) ((c.tc : Thread Cert.PleGateIdeal.nD Cert.PleGateIdeal.τ).loc Cert.PleGateIdeal.main_v0_1)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0_0) = v0 c
          ∧ r.2.mem ((c.tc : Thread Cert.PleGateIdeal.nD Cert.PleGateIdeal.τ).loc Cert.PleGateIdeal.main_v0_1) = v1 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v19) = v0 c
          ∧ r.2.mem ((c.tc : Thread Cert.PleGateRefIdeal.nD Cert.PleGateRefIdeal.τ).loc Cert.PleGateRefIdeal.main_v20) = v1 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1)
          ∧ r.2.mem ((c.tc : Thread Cert.PleGateRefIdeal.nD Cert.PleGateRefIdeal.τ).loc Cert.PleGateRefIdeal.main_arg2) = m' ((c.tc : Thread Cert.PleGateRefIdeal.nD Cert.PleGateRefIdeal.τ).loc Cert.PleGateRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MergeBackward_MergeBackwardIdeal : Prop :=
  True

def algebraic_MergeBackwardIdeal_MergeBackwardRefIdeal [hMergeBackwardIdeal : Cert.MergeBackwardIdeal.Facts] [hMergeBackwardRefIdeal : Cert.MergeBackwardRefIdeal.Facts] : Prop :=
  ∀ (m : (ℓ : Loc Cert.MergeBackwardIdeal.nD Cert.MergeBackwardIdeal.τ Cert.MergeBackwardIdeal.sig) → Buf (Elt Ideal) ℓ) (g : Dev Cert.MergeBackwardIdeal.nD → PrngReg)
    (m' : (ℓ : Loc Cert.MergeBackwardRefIdeal.nD Cert.MergeBackwardRefIdeal.τ Cert.MergeBackwardRefIdeal.sig) → Buf (Elt Ideal) ℓ) (g' : Dev Cert.MergeBackwardRefIdeal.nD → PrngReg), Pre_MergeBackwardIdeal m →
    (∀ c : Dev Cert.MergeBackwardIdeal.nD,
      m' ((c.tc : Thread Cert.MergeBackwardRefIdeal.nD Cert.MergeBackwardRefIdeal.τ).loc Cert.MergeBackwardRefIdeal.main_arg0) = m ((c.tc : Thread Cert.MergeBackwardIdeal.nD Cert.MergeBackwardIdeal.τ).loc Cert.MergeBackwardIdeal.main_arg0)
      ∧ m' ((c.tc : Thread Cert.MergeBackwardRefIdeal.nD Cert.MergeBackwardRefIdeal.τ).loc Cert.MergeBackwardRefIdeal.main_arg1) = m ((c.tc : Thread Cert.MergeBackwardIdeal.nD Cert.MergeBackwardIdeal.τ).loc Cert.MergeBackwardIdeal.main_arg1)
      ∧ m' ((c.tc : Thread Cert.MergeBackwardRefIdeal.nD Cert.MergeBackwardRefIdeal.τ).loc Cert.MergeBackwardRefIdeal.main_arg2) = m ((c.tc : Thread Cert.MergeBackwardIdeal.nD Cert.MergeBackwardIdeal.τ).loc Cert.MergeBackwardIdeal.main_arg2)
      ∧ m' ((c.tc : Thread Cert.MergeBackwardRefIdeal.nD Cert.MergeBackwardRefIdeal.τ).loc Cert.MergeBackwardRefIdeal.main_arg3) = m ((c.tc : Thread Cert.MergeBackwardIdeal.nD Cert.MergeBackwardIdeal.τ).loc Cert.MergeBackwardIdeal.main_arg3)
      ∧ m' ((c.tc : Thread Cert.MergeBackwardRefIdeal.nD Cert.MergeBackwardRefIdeal.τ).loc Cert.MergeBackwardRefIdeal.main_arg4) = m ((c.tc : Thread Cert.MergeBackwardIdeal.nD Cert.MergeBackwardIdeal.τ).loc Cert.MergeBackwardIdeal.main_arg4)
      ∧ m' ((c.tc : Thread Cert.MergeBackwardRefIdeal.nD Cert.MergeBackwardRefIdeal.τ).loc Cert.MergeBackwardRefIdeal.main_arg5) = m ((c.tc : Thread Cert.MergeBackwardIdeal.nD Cert.MergeBackwardIdeal.τ).loc Cert.MergeBackwardIdeal.main_arg5)
      ∧ m' ((c.tc : Thread Cert.MergeBackwardRefIdeal.nD Cert.MergeBackwardRefIdeal.τ).loc Cert.MergeBackwardRefIdeal.main_arg6) = m ((c.tc : Thread Cert.MergeBackwardIdeal.nD Cert.MergeBackwardIdeal.τ).loc Cert.MergeBackwardIdeal.main_arg6)
      ∧ m' ((c.tc : Thread Cert.MergeBackwardRefIdeal.nD Cert.MergeBackwardRefIdeal.τ).loc Cert.MergeBackwardRefIdeal.main_arg7) = m ((c.tc : Thread Cert.MergeBackwardIdeal.nD Cert.MergeBackwardIdeal.τ).loc Cert.MergeBackwardIdeal.main_arg7)) →
    ∃ (v0 : (c : Dev Cert.MergeBackwardIdeal.nD) → Buf (Elt Ideal) ((c.tc : Thread Cert.MergeBackwardIdeal.nD Cert.MergeBackwardIdeal.τ).loc Cert.MergeBackwardIdeal.main_v0_0)) (v1 : (c : Dev Cert.MergeBackwardIdeal.nD) → Buf (Elt Ideal) ((c.tc : Thread Cert.MergeBackwardIdeal.nD Cert.MergeBackwardIdeal.τ).loc Cert.MergeBackwardIdeal.main_v0_1)) (v2 : (c : Dev Cert.MergeBackwardIdeal.nD) → Buf (Elt Ideal) ((c.tc : Thread Cert.MergeBackwardIdeal.nD Cert.MergeBackwardIdeal.τ).loc Cert.MergeBackwardIdeal.main_v0_2)) (v3 : (c : Dev Cert.MergeBackwardIdeal.nD) → Buf (Elt Ideal) ((c.tc : Thread Cert.MergeBackwardIdeal.nD Cert.MergeBackwardIdeal.τ).loc Cert.MergeBackwardIdeal.main_v0_3)) (v4 : (c : Dev Cert.MergeBackwardIdeal.nD) → Buf (Elt Ideal) ((c.tc : Thread Cert.MergeBackwardIdeal.nD Cert.MergeBackwardIdeal.τ).loc Cert.MergeBackwardIdeal.main_v0_4)) (v5 : (c : Dev Cert.MergeBackwardIdeal.nD) → Buf (Elt Ideal) ((c.tc : Thread Cert.MergeBackwardIdeal.nD Cert.MergeBackwardIdeal.τ).loc Cert.MergeBackwardIdeal.main_v0_5)),
      θ_run (Cert.MergeBackwardIdeal.defs (F := Ideal)) (onTc (τ := Cert.MergeBackwardIdeal.τ) (Cert.MergeBackwardIdeal.main (F := Ideal))) ⟨m, fun _ => 0, g⟩ (fun r => ∀ c : Dev Cert.MergeBackwardIdeal.nD,
          r.2.mem ((c.tc : Thread Cert.MergeBackwardIdeal.nD Cert.MergeBackwardIdeal.τ).loc Cert.MergeBackwardIdeal.main_v0_0) = v0 c
          ∧ r.2.mem ((c.tc : Thread Cert.MergeBackwardIdeal.nD Cert.MergeBackwardIdeal.τ).loc Cert.MergeBackwardIdeal.main_v0_1) = v1 c
          ∧ r.2.mem ((c.tc : Thread Cert.MergeBackwardIdeal.nD Cert.MergeBackwardIdeal.τ).loc Cert.MergeBackwardIdeal.main_v0_2) = v2 c
          ∧ r.2.mem ((c.tc : Thread Cert.MergeBackwardIdeal.nD Cert.MergeBackwardIdeal.τ).loc Cert.MergeBackwardIdeal.main_v0_3) = v3 c
          ∧ r.2.mem ((c.tc : Thread Cert.MergeBackwardIdeal.nD Cert.MergeBackwardIdeal.τ).loc Cert.MergeBackwardIdeal.main_v0_4) = v4 c
          ∧ r.2.mem ((c.tc : Thread Cert.MergeBackwardIdeal.nD Cert.MergeBackwardIdeal.τ).loc Cert.MergeBackwardIdeal.main_v0_5) = v5 c
          ∧ r.2.mem ((c.tc : Thread Cert.MergeBackwardIdeal.nD Cert.MergeBackwardIdeal.τ).loc Cert.MergeBackwardIdeal.main_arg0) = m ((c.tc : Thread Cert.MergeBackwardIdeal.nD Cert.MergeBackwardIdeal.τ).loc Cert.MergeBackwardIdeal.main_arg0)
          ∧ r.2.mem ((c.tc : Thread Cert.MergeBackwardIdeal.nD Cert.MergeBackwardIdeal.τ).loc Cert.MergeBackwardIdeal.main_arg1) = m ((c.tc : Thread Cert.MergeBackwardIdeal.nD Cert.MergeBackwardIdeal.τ).loc Cert.MergeBackwardIdeal.main_arg1)
          ∧ r.2.mem ((c.tc : Thread Cert.MergeBackwardIdeal.nD Cert.MergeBackwardIdeal.τ).loc Cert.MergeBackwardIdeal.main_arg2) = m ((c.tc : Thread Cert.MergeBackwardIdeal.nD Cert.MergeBackwardIdeal.τ).loc Cert.MergeBackwardIdeal.main_arg2)
          ∧ r.2.mem ((c.tc : Thread Cert.MergeBackwardIdeal.nD Cert.MergeBackwardIdeal.τ).loc Cert.MergeBackwardIdeal.main_arg3) = m ((c.tc : Thread Cert.MergeBackwardIdeal.nD Cert.MergeBackwardIdeal.τ).loc Cert.MergeBackwardIdeal.main_arg3)
          ∧ r.2.mem ((c.tc : Thread Cert.MergeBackwardIdeal.nD Cert.MergeBackwardIdeal.τ).loc Cert.MergeBackwardIdeal.main_arg4) = m ((c.tc : Thread Cert.MergeBackwardIdeal.nD Cert.MergeBackwardIdeal.τ).loc Cert.MergeBackwardIdeal.main_arg4)
          ∧ r.2.mem ((c.tc : Thread Cert.MergeBackwardIdeal.nD Cert.MergeBackwardIdeal.τ).loc Cert.MergeBackwardIdeal.main_arg5) = m ((c.tc : Thread Cert.MergeBackwardIdeal.nD Cert.MergeBackwardIdeal.τ).loc Cert.MergeBackwardIdeal.main_arg5)
          ∧ r.2.mem ((c.tc : Thread Cert.MergeBackwardIdeal.nD Cert.MergeBackwardIdeal.τ).loc Cert.MergeBackwardIdeal.main_arg6) = m ((c.tc : Thread Cert.MergeBackwardIdeal.nD Cert.MergeBackwardIdeal.τ).loc Cert.MergeBackwardIdeal.main_arg6)
          ∧ r.2.mem ((c.tc : Thread Cert.MergeBackwardIdeal.nD Cert.MergeBackwardIdeal.τ).loc Cert.MergeBackwardIdeal.main_arg7) = m ((c.tc : Thread Cert.MergeBackwardIdeal.nD Cert.MergeBackwardIdeal.τ).loc Cert.MergeBackwardIdeal.main_arg7))
      ∧ θ_run (Cert.MergeBackwardRefIdeal.defs (F := Ideal)) (onTc (τ := Cert.MergeBackwardRefIdeal.τ) (Cert.MergeBackwardRefIdeal.main (F := Ideal))) ⟨m', fun _ => 0, g'⟩ (fun r => ∀ c : Dev Cert.MergeBackwardRefIdeal.nD,
          r.2.mem ((c.tc : Thread Cert.MergeBackwardRefIdeal.nD Cert.MergeBackwardRefIdeal.τ).loc Cert.MergeBackwardRefIdeal.main_v55) = v0 c
          ∧ r.2.mem ((c.tc : Thread Cert.MergeBackwardRefIdeal.nD Cert.MergeBackwardRefIdeal.τ).loc Cert.MergeBackwardRefIdeal.main_v57) = v1 c
          ∧ r.2.mem ((c.tc : Thread Cert.MergeBackwardRefIdeal.nD Cert.MergeBackwardRefIdeal.τ).loc Cert.MergeBackwardRefIdeal.main_v62) = v2 c
          ∧ r.2.mem ((c.tc : Thread Cert.MergeBackwardRefIdeal.nD Cert.MergeBackwardRefIdeal.τ).loc Cert.MergeBackwardRefIdeal.main_v67) = v3 c
          ∧ r.2.mem ((c.tc : Thread Cert.MergeBackwardRefIdeal.nD Cert.MergeBackwardRefIdeal.τ).loc Cert.MergeBackwardRefIdeal.main_v72) = v4 c
          ∧ r.2.mem ((c.tc : Thread Cert.MergeBackwardRefIdeal.nD Cert.MergeBackwardRefIdeal.τ).loc Cert.MergeBackwardRefIdeal.main_v77) = v5 c
          ∧ r.2.mem ((c.tc : Thread Cert.MergeBackwardRefIdeal.nD Cert.MergeBackwardRefIdeal.τ).loc Cert.MergeBackwardRefIdeal.main_arg0) = m' ((c.tc : Thread Cert.MergeBackwardRefIdeal.nD Cert.MergeBackwardRefIdeal.τ).loc Cert.MergeBackwardRefIdeal.main_arg0)
          ∧ r.2.mem ((c.tc : Thread Cert.MergeBackwardRefIdeal.nD Cert.MergeBackwardRefIdeal.τ).loc Cert.MergeBackwardRefIdeal.main_arg1) = m' ((c.tc : Thread Cert.MergeBackwardRefIdeal.nD Cert.MergeBackwardRefIdeal.τ).loc Cert.MergeBackwardRefIdeal.main_arg1)
          ∧ r.2.mem ((c.tc : Thread Cert.MergeBackwardRefIdeal.nD Cert.MergeBackwardRefIdeal.τ).loc Cert.MergeBackwardRefIdeal.main_arg2) = m' ((c.tc : Thread Cert.MergeBackwardRefIdeal.nD Cert.MergeBackwardRefIdeal.τ).loc Cert.MergeBackwardRefIdeal.main_arg2)
          ∧ r.2.mem ((c.tc : Thread Cert.MergeBackwardRefIdeal.nD Cert.MergeBackwardRefIdeal.τ).loc Cert.MergeBackwardRefIdeal.main_arg3) = m' ((c.tc : Thread Cert.MergeBackwardRefIdeal.nD Cert.MergeBackwardRefIdeal.τ).loc Cert.MergeBackwardRefIdeal.main_arg3)
          ∧ r.2.mem ((c.tc : Thread Cert.MergeBackwardRefIdeal.nD Cert.MergeBackwardRefIdeal.τ).loc Cert.MergeBackwardRefIdeal.main_arg4) = m' ((c.tc : Thread Cert.MergeBackwardRefIdeal.nD Cert.MergeBackwardRefIdeal.τ).loc Cert.MergeBackwardRefIdeal.main_arg4)
          ∧ r.2.mem ((c.tc : Thread Cert.MergeBackwardRefIdeal.nD Cert.MergeBackwardRefIdeal.τ).loc Cert.MergeBackwardRefIdeal.main_arg5) = m' ((c.tc : Thread Cert.MergeBackwardRefIdeal.nD Cert.MergeBackwardRefIdeal.τ).loc Cert.MergeBackwardRefIdeal.main_arg5)
          ∧ r.2.mem ((c.tc : Thread Cert.MergeBackwardRefIdeal.nD Cert.MergeBackwardRefIdeal.τ).loc Cert.MergeBackwardRefIdeal.main_arg6) = m' ((c.tc : Thread Cert.MergeBackwardRefIdeal.nD Cert.MergeBackwardRefIdeal.τ).loc Cert.MergeBackwardRefIdeal.main_arg6)
          ∧ r.2.mem ((c.tc : Thread Cert.MergeBackwardRefIdeal.nD Cert.MergeBackwardRefIdeal.τ).loc Cert.MergeBackwardRefIdeal.main_arg7) = m' ((c.tc : Thread Cert.MergeBackwardRefIdeal.nD Cert.MergeBackwardRefIdeal.τ).loc Cert.MergeBackwardRefIdeal.main_arg7))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v11) = v0 c
          ∧ r.2.mem ((c.tc : Thread Cert.FfnOutRefIdeal.nD Cert.FfnOutRefIdeal.τ).loc Cert.FfnOutRefIdeal.main_v12) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_FfnBackward_FfnBackwardIdeal : Prop :=
  True

def algebraic_FfnBackwardIdeal_FfnBackwardRefIdeal [hFfnBackwardIdeal : Cert.FfnBackwardIdeal.Facts] [hFfnBackwardRefIdeal : Cert.FfnBackwardRefIdeal.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg)
    (m' : (ℓ : Loc Cert.FfnBackwardRefIdeal.nD Cert.FfnBackwardRefIdeal.τ Cert.FfnBackwardRefIdeal.sig) → Buf (Elt Ideal) ℓ) (g' : Dev Cert.FfnBackwardRefIdeal.nD → PrngReg), Pre_FfnBackwardIdeal m →
    (∀ c : Dev Cert.FfnBackwardIdeal.nD,
      m' ((c.tc : Thread Cert.FfnBackwardRefIdeal.nD Cert.FfnBackwardRefIdeal.τ).loc Cert.FfnBackwardRefIdeal.main_arg0) = m ((c.tc : Thread Cert.FfnBackwardIdeal.nD Cert.FfnBackwardIdeal.τ).loc Cert.FfnBackwardIdeal.main_arg0)
      ∧ m' ((c.tc : Thread Cert.FfnBackwardRefIdeal.nD Cert.FfnBackwardRefIdeal.τ).loc Cert.FfnBackwardRefIdeal.main_arg1) = m ((c.tc : Thread Cert.FfnBackwardIdeal.nD Cert.FfnBackwardIdeal.τ).loc Cert.FfnBackwardIdeal.main_arg1)
      ∧ m' ((c.tc : Thread Cert.FfnBackwardRefIdeal.nD Cert.FfnBackwardRefIdeal.τ).loc Cert.FfnBackwardRefIdeal.main_arg2) = m ((c.tc : Thread Cert.FfnBackwardIdeal.nD Cert.FfnBackwardIdeal.τ).loc Cert.FfnBackwardIdeal.main_arg2)) →
    ∃ (v0 : (c : Dev Cert.FfnBackwardIdeal.nD) → Buf (Elt Ideal) ((c.tc : Thread Cert.FfnBackwardIdeal.nD Cert.FfnBackwardIdeal.τ).loc Cert.FfnBackwardIdeal.main_v0)),
      θ_run (Cert.FfnBackwardIdeal.defs (F := Ideal)) (onTc (τ := Cert.FfnBackwardIdeal.τ) (Cert.FfnBackwardIdeal.main (F := Ideal))) ⟨m, fun _ => 0, g⟩ (fun r => ∀ c : Dev Cert.FfnBackwardIdeal.nD,
          r.2.mem ((c.tc : Thread Cert.FfnBackwardIdeal.nD Cert.FfnBackwardIdeal.τ).loc Cert.FfnBackwardIdeal.main_v0) = v0 c
          ∧ r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
          ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
          ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2))
      ∧ θ_run (Cert.FfnBackwardRefIdeal.defs (F := Ideal)) (onTc (τ := Cert.FfnBackwardRefIdeal.τ) (Cert.FfnBackwardRefIdeal.main (F := Ideal))) ⟨m', fun _ => 0, g'⟩ (fun r => ∀ c : Dev Cert.FfnBackwardRefIdeal.nD,
          r.2.mem ((c.tc : Thread Cert.FfnBackwardRefIdeal.nD Cert.FfnBackwardRefIdeal.τ).loc Cert.FfnBackwardRefIdeal.main_v31) = v0 c
          ∧ r.2.mem ((c.tc : Thread Cert.FfnBackwardRefIdeal.nD Cert.FfnBackwardRefIdeal.τ).loc Cert.FfnBackwardRefIdeal.main_arg0) = m' ((c.tc : Thread Cert.FfnBackwardRefIdeal.nD Cert.FfnBackwardRefIdeal.τ).loc Cert.FfnBackwardRefIdeal.main_arg0)
          ∧ r.2.mem ((c.tc : Thread Cert.FfnBackwardRefIdeal.nD Cert.FfnBackwardRefIdeal.τ).loc Cert.FfnBackwardRefIdeal.main_arg1) = m' ((c.tc : Thread Cert.FfnBackwardRefIdeal.nD Cert.FfnBackwardRefIdeal.τ).loc Cert.FfnBackwardRefIdeal.main_arg1)
          ∧ r.2.mem ((c.tc : Thread Cert.FfnBackwardRefIdeal.nD Cert.FfnBackwardRefIdeal.τ).loc Cert.FfnBackwardRefIdeal.main_arg2) = m' ((c.tc : Thread Cert.FfnBackwardRefIdeal.nD Cert.FfnBackwardRefIdeal.τ).loc Cert.FfnBackwardRefIdeal.main_arg2))

def preserves_PleOut_PleOutIdeal : Prop :=
  True

def algebraic_PleOutIdeal_PleOutRefIdeal [hPleOutIdeal : Cert.PleOutIdeal.Facts] [hPleOutRefIdeal : Cert.PleOutRefIdeal.Facts] : Prop :=
  ∀ (m : (ℓ : Loc Cert.PleOutIdeal.nD Cert.PleOutIdeal.τ Cert.PleOutIdeal.sig) → Buf (Elt Ideal) ℓ) (g : Dev Cert.PleOutIdeal.nD → PrngReg)
    (m' : (ℓ : Loc Cert.PleOutRefIdeal.nD Cert.PleOutRefIdeal.τ Cert.PleOutRefIdeal.sig) → Buf (Elt Ideal) ℓ) (g' : Dev Cert.PleOutRefIdeal.nD → PrngReg), Pre_PleOutIdeal m →
    (∀ c : Dev Cert.PleOutIdeal.nD,
      m' ((c.tc : Thread Cert.PleOutRefIdeal.nD Cert.PleOutRefIdeal.τ).loc Cert.PleOutRefIdeal.main_arg0) = m ((c.tc : Thread Cert.PleOutIdeal.nD Cert.PleOutIdeal.τ).loc Cert.PleOutIdeal.main_arg0)
      ∧ m' ((c.tc : Thread Cert.PleOutRefIdeal.nD Cert.PleOutRefIdeal.τ).loc Cert.PleOutRefIdeal.main_arg1) = m ((c.tc : Thread Cert.PleOutIdeal.nD Cert.PleOutIdeal.τ).loc Cert.PleOutIdeal.main_arg1)
      ∧ m' ((c.tc : Thread Cert.PleOutRefIdeal.nD Cert.PleOutRefIdeal.τ).loc Cert.PleOutRefIdeal.main_arg2) = m ((c.tc : Thread Cert.PleOutIdeal.nD Cert.PleOutIdeal.τ).loc Cert.PleOutIdeal.main_arg2)
      ∧ m' ((c.tc : Thread Cert.PleOutRefIdeal.nD Cert.PleOutRefIdeal.τ).loc Cert.PleOutRefIdeal.main_arg3) = m ((c.tc : Thread Cert.PleOutIdeal.nD Cert.PleOutIdeal.τ).loc Cert.PleOutIdeal.main_arg3)) →
    ∃ (v0 : (c : Dev Cert.PleOutIdeal.nD) → Buf (Elt Ideal) ((c.tc : Thread Cert.PleOutIdeal.nD Cert.PleOutIdeal.τ).loc Cert.PleOutIdeal.main_v0)),
      θ_run (Cert.PleOutIdeal.defs (F := Ideal)) (onTc (τ := Cert.PleOutIdeal.τ) (Cert.PleOutIdeal.main (F := Ideal))) ⟨m, fun _ => 0, g⟩ (fun r => ∀ c : Dev Cert.PleOutIdeal.nD,
          r.2.mem ((c.tc : Thread Cert.PleOutIdeal.nD Cert.PleOutIdeal.τ).loc Cert.PleOutIdeal.main_v0) = v0 c
          ∧ r.2.mem ((c.tc : Thread Cert.PleOutIdeal.nD Cert.PleOutIdeal.τ).loc Cert.PleOutIdeal.main_arg0) = m ((c.tc : Thread Cert.PleOutIdeal.nD Cert.PleOutIdeal.τ).loc Cert.PleOutIdeal.main_arg0)
          ∧ r.2.mem ((c.tc : Thread Cert.PleOutIdeal.nD Cert.PleOutIdeal.τ).loc Cert.PleOutIdeal.main_arg1) = m ((c.tc : Thread Cert.PleOutIdeal.nD Cert.PleOutIdeal.τ).loc Cert.PleOutIdeal.main_arg1)
          ∧ r.2.mem ((c.tc : Thread Cert.PleOutIdeal.nD Cert.PleOutIdeal.τ).loc Cert.PleOutIdeal.main_arg2) = m ((c.tc : Thread Cert.PleOutIdeal.nD Cert.PleOutIdeal.τ).loc Cert.PleOutIdeal.main_arg2)
          ∧ r.2.mem ((c.tc : Thread Cert.PleOutIdeal.nD Cert.PleOutIdeal.τ).loc Cert.PleOutIdeal.main_arg3) = m ((c.tc : Thread Cert.PleOutIdeal.nD Cert.PleOutIdeal.τ).loc Cert.PleOutIdeal.main_arg3))
      ∧ θ_run (Cert.PleOutRefIdeal.defs (F := Ideal)) (onTc (τ := Cert.PleOutRefIdeal.τ) (Cert.PleOutRefIdeal.main (F := Ideal))) ⟨m', fun _ => 0, g'⟩ (fun r => ∀ c : Dev Cert.PleOutRefIdeal.nD,
          r.2.mem ((c.tc : Thread Cert.PleOutRefIdeal.nD Cert.PleOutRefIdeal.τ).loc Cert.PleOutRefIdeal.main_v3) = v0 c
          ∧ r.2.mem ((c.tc : Thread Cert.PleOutRefIdeal.nD Cert.PleOutRefIdeal.τ).loc Cert.PleOutRefIdeal.main_arg0) = m' ((c.tc : Thread Cert.PleOutRefIdeal.nD Cert.PleOutRefIdeal.τ).loc Cert.PleOutRefIdeal.main_arg0)
          ∧ r.2.mem ((c.tc : Thread Cert.PleOutRefIdeal.nD Cert.PleOutRefIdeal.τ).loc Cert.PleOutRefIdeal.main_arg1) = m' ((c.tc : Thread Cert.PleOutRefIdeal.nD Cert.PleOutRefIdeal.τ).loc Cert.PleOutRefIdeal.main_arg1)
          ∧ r.2.mem ((c.tc : Thread Cert.PleOutRefIdeal.nD Cert.PleOutRefIdeal.τ).loc Cert.PleOutRefIdeal.main_arg2) = m' ((c.tc : Thread Cert.PleOutRefIdeal.nD Cert.PleOutRefIdeal.τ).loc Cert.PleOutRefIdeal.main_arg2)
          ∧ r.2.mem ((c.tc : Thread Cert.PleOutRefIdeal.nD Cert.PleOutRefIdeal.τ).loc Cert.PleOutRefIdeal.main_arg3) = m' ((c.tc : Thread Cert.PleOutRefIdeal.nD Cert.PleOutRefIdeal.τ).loc Cert.PleOutRefIdeal.main_arg3))

def preserves_PleBackward_PleBackwardIdeal : Prop :=
  True

def algebraic_PleBackwardIdeal_PleBackwardRefIdeal [hPleBackwardIdeal : Cert.PleBackwardIdeal.Facts] [hPleBackwardRefIdeal : Cert.PleBackwardRefIdeal.Facts] : Prop :=
  ∀ (m : (ℓ : Loc Cert.PleBackwardIdeal.nD Cert.PleBackwardIdeal.τ Cert.PleBackwardIdeal.sig) → Buf (Elt Ideal) ℓ) (g : Dev Cert.PleBackwardIdeal.nD → PrngReg)
    (m' : (ℓ : Loc Cert.PleBackwardRefIdeal.nD Cert.PleBackwardRefIdeal.τ Cert.PleBackwardRefIdeal.sig) → Buf (Elt Ideal) ℓ) (g' : Dev Cert.PleBackwardRefIdeal.nD → PrngReg), Pre_PleBackwardIdeal m →
    (∀ c : Dev Cert.PleBackwardIdeal.nD,
      m' ((c.tc : Thread Cert.PleBackwardRefIdeal.nD Cert.PleBackwardRefIdeal.τ).loc Cert.PleBackwardRefIdeal.main_arg0) = m ((c.tc : Thread Cert.PleBackwardIdeal.nD Cert.PleBackwardIdeal.τ).loc Cert.PleBackwardIdeal.main_arg0)
      ∧ m' ((c.tc : Thread Cert.PleBackwardRefIdeal.nD Cert.PleBackwardRefIdeal.τ).loc Cert.PleBackwardRefIdeal.main_arg1) = m ((c.tc : Thread Cert.PleBackwardIdeal.nD Cert.PleBackwardIdeal.τ).loc Cert.PleBackwardIdeal.main_arg1)
      ∧ m' ((c.tc : Thread Cert.PleBackwardRefIdeal.nD Cert.PleBackwardRefIdeal.τ).loc Cert.PleBackwardRefIdeal.main_arg2) = m ((c.tc : Thread Cert.PleBackwardIdeal.nD Cert.PleBackwardIdeal.τ).loc Cert.PleBackwardIdeal.main_arg2)
      ∧ m' ((c.tc : Thread Cert.PleBackwardRefIdeal.nD Cert.PleBackwardRefIdeal.τ).loc Cert.PleBackwardRefIdeal.main_arg3) = m ((c.tc : Thread Cert.PleBackwardIdeal.nD Cert.PleBackwardIdeal.τ).loc Cert.PleBackwardIdeal.main_arg3)) →
    ∃ (v0 : (c : Dev Cert.PleBackwardIdeal.nD) → Buf (Elt Ideal) ((c.tc : Thread Cert.PleBackwardIdeal.nD Cert.PleBackwardIdeal.τ).loc Cert.PleBackwardIdeal.main_v0_0)) (v1 : (c : Dev Cert.PleBackwardIdeal.nD) → Buf (Elt Ideal) ((c.tc : Thread Cert.PleBackwardIdeal.nD Cert.PleBackwardIdeal.τ).loc Cert.PleBackwardIdeal.main_v0_1)),
      θ_run (Cert.PleBackwardIdeal.defs (F := Ideal)) (onTc (τ := Cert.PleBackwardIdeal.τ) (Cert.PleBackwardIdeal.main (F := Ideal))) ⟨m, fun _ => 0, g⟩ (fun r => ∀ c : Dev Cert.PleBackwardIdeal.nD,
          r.2.mem ((c.tc : Thread Cert.PleBackwardIdeal.nD Cert.PleBackwardIdeal.τ).loc Cert.PleBackwardIdeal.main_v0_0) = v0 c
          ∧ r.2.mem ((c.tc : Thread Cert.PleBackwardIdeal.nD Cert.PleBackwardIdeal.τ).loc Cert.PleBackwardIdeal.main_v0_1) = v1 c
          ∧ r.2.mem ((c.tc : Thread Cert.PleBackwardIdeal.nD Cert.PleBackwardIdeal.τ).loc Cert.PleBackwardIdeal.main_arg0) = m ((c.tc : Thread Cert.PleBackwardIdeal.nD Cert.PleBackwardIdeal.τ).loc Cert.PleBackwardIdeal.main_arg0)
          ∧ r.2.mem ((c.tc : Thread Cert.PleBackwardIdeal.nD Cert.PleBackwardIdeal.τ).loc Cert.PleBackwardIdeal.main_arg1) = m ((c.tc : Thread Cert.PleBackwardIdeal.nD Cert.PleBackwardIdeal.τ).loc Cert.PleBackwardIdeal.main_arg1)
          ∧ r.2.mem ((c.tc : Thread Cert.PleBackwardIdeal.nD Cert.PleBackwardIdeal.τ).loc Cert.PleBackwardIdeal.main_arg2) = m ((c.tc : Thread Cert.PleBackwardIdeal.nD Cert.PleBackwardIdeal.τ).loc Cert.PleBackwardIdeal.main_arg2)
          ∧ r.2.mem ((c.tc : Thread Cert.PleBackwardIdeal.nD Cert.PleBackwardIdeal.τ).loc Cert.PleBackwardIdeal.main_arg3) = m ((c.tc : Thread Cert.PleBackwardIdeal.nD Cert.PleBackwardIdeal.τ).loc Cert.PleBackwardIdeal.main_arg3))
      ∧ θ_run (Cert.PleBackwardRefIdeal.defs (F := Ideal)) (onTc (τ := Cert.PleBackwardRefIdeal.τ) (Cert.PleBackwardRefIdeal.main (F := Ideal))) ⟨m', fun _ => 0, g'⟩ (fun r => ∀ c : Dev Cert.PleBackwardRefIdeal.nD,
          r.2.mem ((c.tc : Thread Cert.PleBackwardRefIdeal.nD Cert.PleBackwardRefIdeal.τ).loc Cert.PleBackwardRefIdeal.main_v4) = v0 c
          ∧ r.2.mem ((c.tc : Thread Cert.PleBackwardRefIdeal.nD Cert.PleBackwardRefIdeal.τ).loc Cert.PleBackwardRefIdeal.main_v9) = v1 c
          ∧ r.2.mem ((c.tc : Thread Cert.PleBackwardRefIdeal.nD Cert.PleBackwardRefIdeal.τ).loc Cert.PleBackwardRefIdeal.main_arg0) = m' ((c.tc : Thread Cert.PleBackwardRefIdeal.nD Cert.PleBackwardRefIdeal.τ).loc Cert.PleBackwardRefIdeal.main_arg0)
          ∧ r.2.mem ((c.tc : Thread Cert.PleBackwardRefIdeal.nD Cert.PleBackwardRefIdeal.τ).loc Cert.PleBackwardRefIdeal.main_arg1) = m' ((c.tc : Thread Cert.PleBackwardRefIdeal.nD Cert.PleBackwardRefIdeal.τ).loc Cert.PleBackwardRefIdeal.main_arg1)
          ∧ r.2.mem ((c.tc : Thread Cert.PleBackwardRefIdeal.nD Cert.PleBackwardRefIdeal.τ).loc Cert.PleBackwardRefIdeal.main_arg2) = m' ((c.tc : Thread Cert.PleBackwardRefIdeal.nD Cert.PleBackwardRefIdeal.τ).loc Cert.PleBackwardRefIdeal.main_arg2)
          ∧ r.2.mem ((c.tc : Thread Cert.PleBackwardRefIdeal.nD Cert.PleBackwardRefIdeal.τ).loc Cert.PleBackwardRefIdeal.main_arg3) = m' ((c.tc : Thread Cert.PleBackwardRefIdeal.nD Cert.PleBackwardRefIdeal.τ).loc Cert.PleBackwardRefIdeal.main_arg3))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)) →
    ∃ (v0 : (c : Dev Cert.ShortConvIdeal.nD) → Buf (Elt Ideal) ((c.tc : Thread Cert.ShortConvIdeal.nD Cert.ShortConvIdeal.τ).loc Cert.ShortConvIdeal.main_v0)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v0) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v22) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1))

def preserves_Gating_GatingIdeal : Prop :=
  True

def algebraic_GatingIdeal_GatingRefIdeal [hGatingIdeal : Cert.GatingIdeal.Facts] [hGatingRefIdeal : Cert.GatingRefIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingIdeal m →
    (∀ c : Dev Cert.GatingIdeal.nD,
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0)
      ∧ m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1)
      ∧ m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2)
      ∧ m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3)
      ∧ m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v0)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v0) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v38) = v0 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4))

def preserves_ConfNormBackward_ConfNormBackwardIdeal : Prop :=
  True

def algebraic_ConfNormBackwardIdeal_ConfNormBackwardRefIdeal [hConfNormBackwardIdeal : Cert.ConfNormBackwardIdeal.Facts] [hConfNormBackwardRefIdeal : Cert.ConfNormBackwardRefIdeal.Facts] : Prop :=
  ∀ (m : (ℓ : Loc Cert.ConfNormBackwardIdeal.nD Cert.ConfNormBackwardIdeal.τ Cert.ConfNormBackwardIdeal.sig) → Buf (Elt Ideal) ℓ) (g : Dev Cert.ConfNormBackwardIdeal.nD → PrngReg)
    (m' : (ℓ : Loc Cert.ConfNormBackwardRefIdeal.nD Cert.ConfNormBackwardRefIdeal.τ Cert.ConfNormBackwardRefIdeal.sig) → Buf (Elt Ideal) ℓ) (g' : Dev Cert.ConfNormBackwardRefIdeal.nD → PrngReg), Pre_ConfNormBackwardIdeal m →
    (∀ c : Dev Cert.ConfNormBackwardIdeal.nD,
      m' ((c.tc : Thread Cert.ConfNormBackwardRefIdeal.nD Cert.ConfNormBackwardRefIdeal.τ).loc Cert.ConfNormBackwardRefIdeal.main_arg0) = m ((c.tc : Thread Cert.ConfNormBackwardIdeal.nD Cert.ConfNormBackwardIdeal.τ).loc Cert.ConfNormBackwardIdeal.main_arg0)
      ∧ m' ((c.tc : Thread Cert.ConfNormBackwardRefIdeal.nD Cert.ConfNormBackwardRefIdeal.τ).loc Cert.ConfNormBackwardRefIdeal.main_arg1) = m ((c.tc : Thread Cert.ConfNormBackwardIdeal.nD Cert.ConfNormBackwardIdeal.τ).loc Cert.ConfNormBackwardIdeal.main_arg1)
      ∧ m' ((c.tc : Thread Cert.ConfNormBackwardRefIdeal.nD Cert.ConfNormBackwardRefIdeal.τ).loc Cert.ConfNormBackwardRefIdeal.main_arg2) = m ((c.tc : Thread Cert.ConfNormBackwardIdeal.nD Cert.ConfNormBackwardIdeal.τ).loc Cert.ConfNormBackwardIdeal.main_arg2)
      ∧ m' ((c.tc : Thread Cert.ConfNormBackwardRefIdeal.nD Cert.ConfNormBackwardRefIdeal.τ).loc Cert.ConfNormBackwardRefIdeal.main_arg3) = m ((c.tc : Thread Cert.ConfNormBackwardIdeal.nD Cert.ConfNormBackwardIdeal.τ).loc Cert.ConfNormBackwardIdeal.main_arg3)) →
    ∃ (v0 : (c : Dev Cert.ConfNormBackwardIdeal.nD) → Buf (Elt Ideal) ((c.tc : Thread Cert.ConfNormBackwardIdeal.nD Cert.ConfNormBackwardIdeal.τ).loc Cert.ConfNormBackwardIdeal.main_v0_0)) (v1 : (c : Dev Cert.ConfNormBackwardIdeal.nD) → Buf (Elt Ideal) ((c.tc : Thread Cert.ConfNormBackwardIdeal.nD Cert.ConfNormBackwardIdeal.τ).loc Cert.ConfNormBackwardIdeal.main_v0_1)) (v2 : (c : Dev Cert.ConfNormBackwardIdeal.nD) → Buf (Elt Ideal) ((c.tc : Thread Cert.ConfNormBackwardIdeal.nD Cert.ConfNormBackwardIdeal.τ).loc Cert.ConfNormBackwardIdeal.main_v0_2)),
      θ_run (Cert.ConfNormBackwardIdeal.defs (F := Ideal)) (onTc (τ := Cert.ConfNormBackwardIdeal.τ) (Cert.ConfNormBackwardIdeal.main (F := Ideal))) ⟨m, fun _ => 0, g⟩ (fun r => ∀ c : Dev Cert.ConfNormBackwardIdeal.nD,
          r.2.mem ((c.tc : Thread Cert.ConfNormBackwardIdeal.nD Cert.ConfNormBackwardIdeal.τ).loc Cert.ConfNormBackwardIdeal.main_v0_0) = v0 c
          ∧ r.2.mem ((c.tc : Thread Cert.ConfNormBackwardIdeal.nD Cert.ConfNormBackwardIdeal.τ).loc Cert.ConfNormBackwardIdeal.main_v0_1) = v1 c
          ∧ r.2.mem ((c.tc : Thread Cert.ConfNormBackwardIdeal.nD Cert.ConfNormBackwardIdeal.τ).loc Cert.ConfNormBackwardIdeal.main_v0_2) = v2 c
          ∧ r.2.mem ((c.tc : Thread Cert.ConfNormBackwardIdeal.nD Cert.ConfNormBackwardIdeal.τ).loc Cert.ConfNormBackwardIdeal.main_arg0) = m ((c.tc : Thread Cert.ConfNormBackwardIdeal.nD Cert.ConfNormBackwardIdeal.τ).loc Cert.ConfNormBackwardIdeal.main_arg0)
          ∧ r.2.mem ((c.tc : Thread Cert.ConfNormBackwardIdeal.nD Cert.ConfNormBackwardIdeal.τ).loc Cert.ConfNormBackwardIdeal.main_arg1) = m ((c.tc : Thread Cert.ConfNormBackwardIdeal.nD Cert.ConfNormBackwardIdeal.τ).loc Cert.ConfNormBackwardIdeal.main_arg1)
          ∧ r.2.mem ((c.tc : Thread Cert.ConfNormBackwardIdeal.nD Cert.ConfNormBackwardIdeal.τ).loc Cert.ConfNormBackwardIdeal.main_arg2) = m ((c.tc : Thread Cert.ConfNormBackwardIdeal.nD Cert.ConfNormBackwardIdeal.τ).loc Cert.ConfNormBackwardIdeal.main_arg2)
          ∧ r.2.mem ((c.tc : Thread Cert.ConfNormBackwardIdeal.nD Cert.ConfNormBackwardIdeal.τ).loc Cert.ConfNormBackwardIdeal.main_arg3) = m ((c.tc : Thread Cert.ConfNormBackwardIdeal.nD Cert.ConfNormBackwardIdeal.τ).loc Cert.ConfNormBackwardIdeal.main_arg3))
      ∧ θ_run (Cert.ConfNormBackwardRefIdeal.defs (F := Ideal)) (onTc (τ := Cert.ConfNormBackwardRefIdeal.τ) (Cert.ConfNormBackwardRefIdeal.main (F := Ideal))) ⟨m', fun _ => 0, g'⟩ (fun r => ∀ c : Dev Cert.ConfNormBackwardRefIdeal.nD,
          r.2.mem ((c.tc : Thread Cert.ConfNormBackwardRefIdeal.nD Cert.ConfNormBackwardRefIdeal.τ).loc Cert.ConfNormBackwardRefIdeal.main_v50) = v0 c
          ∧ r.2.mem ((c.tc : Thread Cert.ConfNormBackwardRefIdeal.nD Cert.ConfNormBackwardRefIdeal.τ).loc Cert.ConfNormBackwardRefIdeal.main_v53) = v1 c
          ∧ r.2.mem ((c.tc : Thread Cert.ConfNormBackwardRefIdeal.nD Cert.ConfNormBackwardRefIdeal.τ).loc Cert.ConfNormBackwardRefIdeal.main_v55) = v2 c
          ∧ r.2.mem ((c.tc : Thread Cert.ConfNormBackwardRefIdeal.nD Cert.ConfNormBackwardRefIdeal.τ).loc Cert.ConfNormBackwardRefIdeal.main_arg0) = m' ((c.tc : Thread Cert.ConfNormBackwardRefIdeal.nD Cert.ConfNormBackwardRefIdeal.τ).loc Cert.ConfNormBackwardRefIdeal.main_arg0)
          ∧ r.2.mem ((c.tc : Thread Cert.ConfNormBackwardRefIdeal.nD Cert.ConfNormBackwardRefIdeal.τ).loc Cert.ConfNormBackwardRefIdeal.main_arg1) = m' ((c.tc : Thread Cert.ConfNormBackwardRefIdeal.nD Cert.ConfNormBackwardRefIdeal.τ).loc Cert.ConfNormBackwardRefIdeal.main_arg1)
          ∧ r.2.mem ((c.tc : Thread Cert.ConfNormBackwardRefIdeal.nD Cert.ConfNormBackwardRefIdeal.τ).loc Cert.ConfNormBackwardRefIdeal.main_arg2) = m' ((c.tc : Thread Cert.ConfNormBackwardRefIdeal.nD Cert.ConfNormBackwardRefIdeal.τ).loc Cert.ConfNormBackwardRefIdeal.main_arg2)
          ∧ r.2.mem ((c.tc : Thread Cert.ConfNormBackwardRefIdeal.nD Cert.ConfNormBackwardRefIdeal.τ).loc Cert.ConfNormBackwardRefIdeal.main_arg3) = m' ((c.tc : Thread Cert.ConfNormBackwardRefIdeal.nD Cert.ConfNormBackwardRefIdeal.τ).loc Cert.ConfNormBackwardRefIdeal.main_arg3))

def Claim : Prop :=
  ∃ (hKernel : Cert.Kernel.Facts) (hKernelIdeal : Cert.KernelIdeal.Facts) (hReferenceIdeal : Cert.ReferenceIdeal.Facts) (hReference : Cert.Reference.Facts) (hWeights : Cert.Weights.Facts) (hWeightsIdeal : Cert.WeightsIdeal.Facts) (hWeightsRefIdeal : Cert.WeightsRefIdeal.Facts) (hWeightsRef : Cert.WeightsRef.Facts) (hSmall : Cert.Small.Facts) (hSmallIdeal : Cert.SmallIdeal.Facts) (hSmallRefIdeal : Cert.SmallRefIdeal.Facts) (hSmallRef : Cert.SmallRef.Facts) (hScatter : Cert.Scatter.Facts) (hScatterIdeal : Cert.ScatterIdeal.Facts) (hScatterRefIdeal : Cert.ScatterRefIdeal.Facts) (hSmallGrads : Cert.SmallGrads.Facts) (hSmallGradsIdeal : Cert.SmallGradsIdeal.Facts) (hSmallGradsRefIdeal : Cert.SmallGradsRefIdeal.Facts) (hUpdateIn : Cert.UpdateIn.Facts) (hUpdateInIdeal : Cert.UpdateInIdeal.Facts) (hUpdateInRefIdeal : Cert.UpdateInRefIdeal.Facts) (hUpdateBranch : Cert.UpdateBranch.Facts) (hUpdateBranchIdeal : Cert.UpdateBranchIdeal.Facts) (hUpdateBranchRefIdeal : Cert.UpdateBranchRefIdeal.Facts) (hUpdateMergeGate : Cert.UpdateMergeGate.Facts) (hUpdateMergeGateIdeal : Cert.UpdateMergeGateIdeal.Facts) (hUpdateMergeGateRefIdeal : Cert.UpdateMergeGateRefIdeal.Facts) (hUpdateOut : Cert.UpdateOut.Facts) (hUpdateOutIdeal : Cert.UpdateOutIdeal.Facts) (hUpdateOutRefIdeal : Cert.UpdateOutRefIdeal.Facts) (hUpdateFfnIn : Cert.UpdateFfnIn.Facts) (hUpdateFfnInIdeal : Cert.UpdateFfnInIdeal.Facts) (hUpdateFfnInRefIdeal : Cert.UpdateFfnInRefIdeal.Facts) (hUpdateFfnOut : Cert.UpdateFfnOut.Facts) (hUpdateFfnOutIdeal : Cert.UpdateFfnOutIdeal.Facts) (hUpdateFfnOutRefIdeal : Cert.UpdateFfnOutRefIdeal.Facts) (hUpdateProj : Cert.UpdateProj.Facts) (hUpdateProjIdeal : Cert.UpdateProjIdeal.Facts) (hUpdateProjRefIdeal : Cert.UpdateProjRefIdeal.Facts) (hUpdateSpatial : Cert.UpdateSpatial.Facts) (hUpdateSpatialIdeal : Cert.UpdateSpatialIdeal.Facts) (hUpdateSpatialRefIdeal : Cert.UpdateSpatialRefIdeal.Facts) (hUpdateSpatialBias : Cert.UpdateSpatialBias.Facts) (hUpdateSpatialBiasIdeal : Cert.UpdateSpatialBiasIdeal.Facts) (hUpdateSpatialBiasRefIdeal : Cert.UpdateSpatialBiasRefIdeal.Facts) (hUpdateConvA : Cert.UpdateConvA.Facts) (hUpdateConvAIdeal : Cert.UpdateConvAIdeal.Facts) (hUpdateConvARefIdeal : Cert.UpdateConvARefIdeal.Facts) (hUpdateConvD : Cert.UpdateConvD.Facts) (hUpdateConvDIdeal : Cert.UpdateConvDIdeal.Facts) (hUpdateConvDRefIdeal : Cert.UpdateConvDRefIdeal.Facts) (hUpdateNorm : Cert.UpdateNorm.Facts) (hUpdateNormIdeal : Cert.UpdateNormIdeal.Facts) (hUpdateNormRefIdeal : Cert.UpdateNormRefIdeal.Facts) (hUpdateBranchNorm : Cert.UpdateBranchNorm.Facts) (hUpdateBranchNormIdeal : Cert.UpdateBranchNormIdeal.Facts) (hUpdateBranchNormRefIdeal : Cert.UpdateBranchNormRefIdeal.Facts) (hUpdateFinalNorm : Cert.UpdateFinalNorm.Facts) (hUpdateFinalNormIdeal : Cert.UpdateFinalNormIdeal.Facts) (hUpdateFinalNormRefIdeal : Cert.UpdateFinalNormRefIdeal.Facts) (hLossHead : Cert.LossHead.Facts) (hLossHeadIdeal : Cert.LossHeadIdeal.Facts) (hLossHeadRefIdeal : Cert.LossHeadRefIdeal.Facts) (hMixBackward : Cert.MixBackward.Facts) (hMixBackwardIdeal : Cert.MixBackwardIdeal.Facts) (hMixBackwardRefIdeal : Cert.MixBackwardRefIdeal.Facts) (hPleNormBackward : Cert.PleNormBackward.Facts) (hPleNormBackwardIdeal : Cert.PleNormBackwardIdeal.Facts) (hPleNormBackwardRefIdeal : Cert.PleNormBackwardRefIdeal.Facts) (hFfnNormBackward : Cert.FfnNormBackward.Facts) (hFfnNormBackwardIdeal : Cert.FfnNormBackwardIdeal.Facts) (hFfnNormBackwardRefIdeal : Cert.FfnNormBackwardRefIdeal.Facts) (hGradPleProj : Cert.GradPleProj.Facts) (hGradPleProjIdeal : Cert.GradPleProjIdeal.Facts) (hGradPleProjRefIdeal : Cert.GradPleProjRefIdeal.Facts) (hGradPleGate : Cert.GradPleGate.Facts) (hGradPleGateIdeal : Cert.GradPleGateIdeal.Facts) (hGradPleGateRefIdeal : Cert.GradPleGateRefIdeal.Facts) (hGradFfnOut : Cert.GradFfnOut.Facts) (hGradFfnOutIdeal : Cert.GradFfnOutIdeal.Facts) (hGradFfnOutRefIdeal : Cert.GradFfnOutRefIdeal.Facts) (hGradFfnIn : Cert.GradFfnIn.Facts) (hGradFfnInIdeal : Cert.GradFfnInIdeal.Facts) (hGradFfnInRefIdeal : Cert.GradFfnInRefIdeal.Facts) (hGradOut : Cert.GradOut.Facts) (hGradOutIdeal : Cert.GradOutIdeal.Facts) (hGradOutRefIdeal : Cert.GradOutRefIdeal.Facts) (hGradGates : Cert.GradGates.Facts) (hGradGatesIdeal : Cert.GradGatesIdeal.Facts) (hGradGatesRefIdeal : Cert.GradGatesRefIdeal.Facts) (hGradProjA : Cert.GradProjA.Facts) (hGradProjAIdeal : Cert.GradProjAIdeal.Facts) (hGradProjARefIdeal : Cert.GradProjARefIdeal.Facts) (hGradProjQkv : Cert.GradProjQkv.Facts) (hGradProjQkvIdeal : Cert.GradProjQkvIdeal.Facts) (hGradProjQkvRefIdeal : Cert.GradProjQkvRefIdeal.Facts) (hGradBranch0 : Cert.GradBranch0.Facts) (hGradBranch0Ideal : Cert.GradBranch0Ideal.Facts) (hGradBranch0RefIdeal : Cert.GradBranch0RefIdeal.Facts) (hGradBranch1 : Cert.GradBranch1.Facts) (hGradBranch1Ideal : Cert.GradBranch1Ideal.Facts) (hGradBranch1RefIdeal : Cert.GradBranch1RefIdeal.Facts) (hGradBranch2 : Cert.GradBranch2.Facts) (hGradBranch2Ideal : Cert.GradBranch2Ideal.Facts) (hGradBranch2RefIdeal : Cert.GradBranch2RefIdeal.Facts) (hGradBranch3 : Cert.GradBranch3.Facts) (hGradBranch3Ideal : Cert.GradBranch3Ideal.Facts) (hGradBranch3RefIdeal : Cert.GradBranch3RefIdeal.Facts) (hProjA : Cert.ProjA.Facts) (hProjAIdeal : Cert.ProjAIdeal.Facts) (hProjARefIdeal : Cert.ProjARefIdeal.Facts) (hProjQkv : Cert.ProjQkv.Facts) (hProjQkvIdeal : Cert.ProjQkvIdeal.Facts) (hProjQkvRefIdeal : Cert.ProjQkvRefIdeal.Facts) (hProjGates : Cert.ProjGates.Facts) (hProjGatesIdeal : Cert.ProjGatesIdeal.Facts) (hProjGatesRefIdeal : Cert.ProjGatesRefIdeal.Facts) (hFfnIn : Cert.FfnIn.Facts) (hFfnInIdeal : Cert.FfnInIdeal.Facts) (hFfnInRefIdeal : Cert.FfnInRefIdeal.Facts) (hPleGate : Cert.PleGate.Facts) (hPleGateIdeal : Cert.PleGateIdeal.Facts) (hPleGateRefIdeal : Cert.PleGateRefIdeal.Facts) (hMerge : Cert.Merge.Facts) (hMergeIdeal : Cert.MergeIdeal.Facts) (hMergeRefIdeal : Cert.MergeRefIdeal.Facts) (hMergeBackward : Cert.MergeBackward.Facts) (hMergeBackwardIdeal : Cert.MergeBackwardIdeal.Facts) (hMergeBackwardRefIdeal : Cert.MergeBackwardRefIdeal.Facts) (hFfnOut : Cert.FfnOut.Facts) (hFfnOutIdeal : Cert.FfnOutIdeal.Facts) (hFfnOutRefIdeal : Cert.FfnOutRefIdeal.Facts) (hFfnBackward : Cert.FfnBackward.Facts) (hFfnBackwardIdeal : Cert.FfnBackwardIdeal.Facts) (hFfnBackwardRefIdeal : Cert.FfnBackwardRefIdeal.Facts) (hPleOut : Cert.PleOut.Facts) (hPleOutIdeal : Cert.PleOutIdeal.Facts) (hPleOutRefIdeal : Cert.PleOutRefIdeal.Facts) (hPleBackward : Cert.PleBackward.Facts) (hPleBackwardIdeal : Cert.PleBackwardIdeal.Facts) (hPleBackwardRefIdeal : Cert.PleBackwardRefIdeal.Facts) (hShortConv : Cert.ShortConv.Facts) (hShortConvIdeal : Cert.ShortConvIdeal.Facts) (hShortConvRefIdeal : Cert.ShortConvRefIdeal.Facts) (hGating : Cert.Gating.Facts) (hGatingIdeal : Cert.GatingIdeal.Facts) (hGatingRefIdeal : Cert.GatingRefIdeal.Facts) (hConfNormBackward : Cert.ConfNormBackward.Facts) (hConfNormBackwardIdeal : Cert.ConfNormBackwardIdeal.Facts) (hConfNormBackwardRefIdeal : Cert.ConfNormBackwardRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Weights (hWeights := hWeights)
    ∧ quiescent_WeightsIdeal (hWeightsIdeal := hWeightsIdeal)
    ∧ quiescent_WeightsRefIdeal (hWeightsRefIdeal := hWeightsRefIdeal)
    ∧ quiescent_WeightsRef (hWeightsRef := hWeightsRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_Scatter (hScatter := hScatter)
    ∧ quiescent_ScatterIdeal (hScatterIdeal := hScatterIdeal)
    ∧ quiescent_ScatterRefIdeal (hScatterRefIdeal := hScatterRefIdeal)
    ∧ quiescent_SmallGrads (hSmallGrads := hSmallGrads)
    ∧ quiescent_SmallGradsIdeal (hSmallGradsIdeal := hSmallGradsIdeal)
    ∧ quiescent_SmallGradsRefIdeal (hSmallGradsRefIdeal := hSmallGradsRefIdeal)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateBranch (hUpdateBranch := hUpdateBranch)
    ∧ quiescent_UpdateBranchIdeal (hUpdateBranchIdeal := hUpdateBranchIdeal)
    ∧ quiescent_UpdateBranchRefIdeal (hUpdateBranchRefIdeal := hUpdateBranchRefIdeal)
    ∧ quiescent_UpdateMergeGate (hUpdateMergeGate := hUpdateMergeGate)
    ∧ quiescent_UpdateMergeGateIdeal (hUpdateMergeGateIdeal := hUpdateMergeGateIdeal)
    ∧ quiescent_UpdateMergeGateRefIdeal (hUpdateMergeGateRefIdeal := hUpdateMergeGateRefIdeal)
    ∧ quiescent_UpdateOut (hUpdateOut := hUpdateOut)
    ∧ quiescent_UpdateOutIdeal (hUpdateOutIdeal := hUpdateOutIdeal)
    ∧ quiescent_UpdateOutRefIdeal (hUpdateOutRefIdeal := hUpdateOutRefIdeal)
    ∧ quiescent_UpdateFfnIn (hUpdateFfnIn := hUpdateFfnIn)
    ∧ quiescent_UpdateFfnInIdeal (hUpdateFfnInIdeal := hUpdateFfnInIdeal)
    ∧ quiescent_UpdateFfnInRefIdeal (hUpdateFfnInRefIdeal := hUpdateFfnInRefIdeal)
    ∧ quiescent_UpdateFfnOut (hUpdateFfnOut := hUpdateFfnOut)
    ∧ quiescent_UpdateFfnOutIdeal (hUpdateFfnOutIdeal := hUpdateFfnOutIdeal)
    ∧ quiescent_UpdateFfnOutRefIdeal (hUpdateFfnOutRefIdeal := hUpdateFfnOutRefIdeal)
    ∧ quiescent_UpdateProj (hUpdateProj := hUpdateProj)
    ∧ quiescent_UpdateProjIdeal (hUpdateProjIdeal := hUpdateProjIdeal)
    ∧ quiescent_UpdateProjRefIdeal (hUpdateProjRefIdeal := hUpdateProjRefIdeal)
    ∧ quiescent_UpdateSpatial (hUpdateSpatial := hUpdateSpatial)
    ∧ quiescent_UpdateSpatialIdeal (hUpdateSpatialIdeal := hUpdateSpatialIdeal)
    ∧ quiescent_UpdateSpatialRefIdeal (hUpdateSpatialRefIdeal := hUpdateSpatialRefIdeal)
    ∧ quiescent_UpdateSpatialBias (hUpdateSpatialBias := hUpdateSpatialBias)
    ∧ quiescent_UpdateSpatialBiasIdeal (hUpdateSpatialBiasIdeal := hUpdateSpatialBiasIdeal)
    ∧ quiescent_UpdateSpatialBiasRefIdeal (hUpdateSpatialBiasRefIdeal := hUpdateSpatialBiasRefIdeal)
    ∧ quiescent_UpdateConvA (hUpdateConvA := hUpdateConvA)
    ∧ quiescent_UpdateConvAIdeal (hUpdateConvAIdeal := hUpdateConvAIdeal)
    ∧ quiescent_UpdateConvARefIdeal (hUpdateConvARefIdeal := hUpdateConvARefIdeal)
    ∧ quiescent_UpdateConvD (hUpdateConvD := hUpdateConvD)
    ∧ quiescent_UpdateConvDIdeal (hUpdateConvDIdeal := hUpdateConvDIdeal)
    ∧ quiescent_UpdateConvDRefIdeal (hUpdateConvDRefIdeal := hUpdateConvDRefIdeal)
    ∧ quiescent_UpdateNorm (hUpdateNorm := hUpdateNorm)
    ∧ quiescent_UpdateNormIdeal (hUpdateNormIdeal := hUpdateNormIdeal)
    ∧ quiescent_UpdateNormRefIdeal (hUpdateNormRefIdeal := hUpdateNormRefIdeal)
    ∧ quiescent_UpdateBranchNorm (hUpdateBranchNorm := hUpdateBranchNorm)
    ∧ quiescent_UpdateBranchNormIdeal (hUpdateBranchNormIdeal := hUpdateBranchNormIdeal)
    ∧ quiescent_UpdateBranchNormRefIdeal (hUpdateBranchNormRefIdeal := hUpdateBranchNormRefIdeal)
    ∧ quiescent_UpdateFinalNorm (hUpdateFinalNorm := hUpdateFinalNorm)
    ∧ quiescent_UpdateFinalNormIdeal (hUpdateFinalNormIdeal := hUpdateFinalNormIdeal)
    ∧ quiescent_UpdateFinalNormRefIdeal (hUpdateFinalNormRefIdeal := hUpdateFinalNormRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_MixBackward (hMixBackward := hMixBackward)
    ∧ quiescent_MixBackwardIdeal (hMixBackwardIdeal := hMixBackwardIdeal)
    ∧ quiescent_MixBackwardRefIdeal (hMixBackwardRefIdeal := hMixBackwardRefIdeal)
    ∧ quiescent_PleNormBackward (hPleNormBackward := hPleNormBackward)
    ∧ quiescent_PleNormBackwardIdeal (hPleNormBackwardIdeal := hPleNormBackwardIdeal)
    ∧ quiescent_PleNormBackwardRefIdeal (hPleNormBackwardRefIdeal := hPleNormBackwardRefIdeal)
    ∧ quiescent_FfnNormBackward (hFfnNormBackward := hFfnNormBackward)
    ∧ quiescent_FfnNormBackwardIdeal (hFfnNormBackwardIdeal := hFfnNormBackwardIdeal)
    ∧ quiescent_FfnNormBackwardRefIdeal (hFfnNormBackwardRefIdeal := hFfnNormBackwardRefIdeal)
    ∧ quiescent_GradPleProj (hGradPleProj := hGradPleProj)
    ∧ quiescent_GradPleProjIdeal (hGradPleProjIdeal := hGradPleProjIdeal)
    ∧ quiescent_GradPleProjRefIdeal (hGradPleProjRefIdeal := hGradPleProjRefIdeal)
    ∧ quiescent_GradPleGate (hGradPleGate := hGradPleGate)
    ∧ quiescent_GradPleGateIdeal (hGradPleGateIdeal := hGradPleGateIdeal)
    ∧ quiescent_GradPleGateRefIdeal (hGradPleGateRefIdeal := hGradPleGateRefIdeal)
    ∧ quiescent_GradFfnOut (hGradFfnOut := hGradFfnOut)
    ∧ quiescent_GradFfnOutIdeal (hGradFfnOutIdeal := hGradFfnOutIdeal)
    ∧ quiescent_GradFfnOutRefIdeal (hGradFfnOutRefIdeal := hGradFfnOutRefIdeal)
    ∧ quiescent_GradFfnIn (hGradFfnIn := hGradFfnIn)
    ∧ quiescent_GradFfnInIdeal (hGradFfnInIdeal := hGradFfnInIdeal)
    ∧ quiescent_GradFfnInRefIdeal (hGradFfnInRefIdeal := hGradFfnInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradGates (hGradGates := hGradGates)
    ∧ quiescent_GradGatesIdeal (hGradGatesIdeal := hGradGatesIdeal)
    ∧ quiescent_GradGatesRefIdeal (hGradGatesRefIdeal := hGradGatesRefIdeal)
    ∧ quiescent_GradProjA (hGradProjA := hGradProjA)
    ∧ quiescent_GradProjAIdeal (hGradProjAIdeal := hGradProjAIdeal)
    ∧ quiescent_GradProjARefIdeal (hGradProjARefIdeal := hGradProjARefIdeal)
    ∧ quiescent_GradProjQkv (hGradProjQkv := hGradProjQkv)
    ∧ quiescent_GradProjQkvIdeal (hGradProjQkvIdeal := hGradProjQkvIdeal)
    ∧ quiescent_GradProjQkvRefIdeal (hGradProjQkvRefIdeal := hGradProjQkvRefIdeal)
    ∧ quiescent_GradBranch0 (hGradBranch0 := hGradBranch0)
    ∧ quiescent_GradBranch0Ideal (hGradBranch0Ideal := hGradBranch0Ideal)
    ∧ quiescent_GradBranch0RefIdeal (hGradBranch0RefIdeal := hGradBranch0RefIdeal)
    ∧ quiescent_GradBranch1 (hGradBranch1 := hGradBranch1)
    ∧ quiescent_GradBranch1Ideal (hGradBranch1Ideal := hGradBranch1Ideal)
    ∧ quiescent_GradBranch1RefIdeal (hGradBranch1RefIdeal := hGradBranch1RefIdeal)
    ∧ quiescent_GradBranch2 (hGradBranch2 := hGradBranch2)
    ∧ quiescent_GradBranch2Ideal (hGradBranch2Ideal := hGradBranch2Ideal)
    ∧ quiescent_GradBranch2RefIdeal (hGradBranch2RefIdeal := hGradBranch2RefIdeal)
    ∧ quiescent_GradBranch3 (hGradBranch3 := hGradBranch3)
    ∧ quiescent_GradBranch3Ideal (hGradBranch3Ideal := hGradBranch3Ideal)
    ∧ quiescent_GradBranch3RefIdeal (hGradBranch3RefIdeal := hGradBranch3RefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBackward (hMergeBackward := hMergeBackward)
    ∧ quiescent_MergeBackwardIdeal (hMergeBackwardIdeal := hMergeBackwardIdeal)
    ∧ quiescent_MergeBackwardRefIdeal (hMergeBackwardRefIdeal := hMergeBackwardRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnBackward (hFfnBackward := hFfnBackward)
    ∧ quiescent_FfnBackwardIdeal (hFfnBackwardIdeal := hFfnBackwardIdeal)
    ∧ quiescent_FfnBackwardRefIdeal (hFfnBackwardRefIdeal := hFfnBackwardRefIdeal)
    ∧ quiescent_PleOut (hPleOut := hPleOut)
    ∧ quiescent_PleOutIdeal (hPleOutIdeal := hPleOutIdeal)
    ∧ quiescent_PleOutRefIdeal (hPleOutRefIdeal := hPleOutRefIdeal)
    ∧ quiescent_PleBackward (hPleBackward := hPleBackward)
    ∧ quiescent_PleBackwardIdeal (hPleBackwardIdeal := hPleBackwardIdeal)
    ∧ quiescent_PleBackwardRefIdeal (hPleBackwardRefIdeal := hPleBackwardRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_Gating (hGating := hGating)
    ∧ quiescent_GatingIdeal (hGatingIdeal := hGatingIdeal)
    ∧ quiescent_GatingRefIdeal (hGatingRefIdeal := hGatingRefIdeal)
    ∧ quiescent_ConfNormBackward (hConfNormBackward := hConfNormBackward)
    ∧ quiescent_ConfNormBackwardIdeal (hConfNormBackwardIdeal := hConfNormBackwardIdeal)
    ∧ quiescent_ConfNormBackwardRefIdeal (hConfNormBackwardRefIdeal := hConfNormBackwardRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Weights_WeightsIdeal
    ∧ algebraic_WeightsIdeal_WeightsRefIdeal (hWeightsIdeal := hWeightsIdeal) (hWeightsRefIdeal := hWeightsRefIdeal)
    ∧ bitexact_Weights_WeightsRef (hWeights := hWeights) (hWeightsRef := hWeightsRef)
    ∧ preserves_Small_SmallIdeal
    ∧ algebraic_SmallIdeal_SmallRefIdeal (hSmallIdeal := hSmallIdeal) (hSmallRefIdeal := hSmallRefIdeal)
    ∧ bitexact_Small_SmallRef (hSmall := hSmall) (hSmallRef := hSmallRef)
    ∧ preserves_Scatter_ScatterIdeal
    ∧ algebraic_ScatterIdeal_ScatterRefIdeal (hScatterIdeal := hScatterIdeal) (hScatterRefIdeal := hScatterRefIdeal)
    ∧ preserves_SmallGrads_SmallGradsIdeal
    ∧ algebraic_SmallGradsIdeal_SmallGradsRefIdeal (hSmallGradsIdeal := hSmallGradsIdeal) (hSmallGradsRefIdeal := hSmallGradsRefIdeal)
    ∧ preserves_UpdateIn_UpdateInIdeal
    ∧ algebraic_UpdateInIdeal_UpdateInRefIdeal (hUpdateInIdeal := hUpdateInIdeal) (hUpdateInRefIdeal := hUpdateInRefIdeal)
    ∧ preserves_UpdateBranch_UpdateBranchIdeal
    ∧ algebraic_UpdateBranchIdeal_UpdateBranchRefIdeal (hUpdateBranchIdeal := hUpdateBranchIdeal) (hUpdateBranchRefIdeal := hUpdateBranchRefIdeal)
    ∧ preserves_UpdateMergeGate_UpdateMergeGateIdeal
    ∧ algebraic_UpdateMergeGateIdeal_UpdateMergeGateRefIdeal (hUpdateMergeGateIdeal := hUpdateMergeGateIdeal) (hUpdateMergeGateRefIdeal := hUpdateMergeGateRefIdeal)
    ∧ preserves_UpdateOut_UpdateOutIdeal
    ∧ algebraic_UpdateOutIdeal_UpdateOutRefIdeal (hUpdateOutIdeal := hUpdateOutIdeal) (hUpdateOutRefIdeal := hUpdateOutRefIdeal)
    ∧ preserves_UpdateFfnIn_UpdateFfnInIdeal
    ∧ algebraic_UpdateFfnInIdeal_UpdateFfnInRefIdeal (hUpdateFfnInIdeal := hUpdateFfnInIdeal) (hUpdateFfnInRefIdeal := hUpdateFfnInRefIdeal)
    ∧ preserves_UpdateFfnOut_UpdateFfnOutIdeal
    ∧ algebraic_UpdateFfnOutIdeal_UpdateFfnOutRefIdeal (hUpdateFfnOutIdeal := hUpdateFfnOutIdeal) (hUpdateFfnOutRefIdeal := hUpdateFfnOutRefIdeal)
    ∧ preserves_UpdateProj_UpdateProjIdeal
    ∧ algebraic_UpdateProjIdeal_UpdateProjRefIdeal (hUpdateProjIdeal := hUpdateProjIdeal) (hUpdateProjRefIdeal := hUpdateProjRefIdeal)
    ∧ preserves_UpdateSpatial_UpdateSpatialIdeal
    ∧ algebraic_UpdateSpatialIdeal_UpdateSpatialRefIdeal (hUpdateSpatialIdeal := hUpdateSpatialIdeal) (hUpdateSpatialRefIdeal := hUpdateSpatialRefIdeal)
    ∧ preserves_UpdateSpatialBias_UpdateSpatialBiasIdeal
    ∧ algebraic_UpdateSpatialBiasIdeal_UpdateSpatialBiasRefIdeal (hUpdateSpatialBiasIdeal := hUpdateSpatialBiasIdeal) (hUpdateSpatialBiasRefIdeal := hUpdateSpatialBiasRefIdeal)
    ∧ preserves_UpdateConvA_UpdateConvAIdeal
    ∧ algebraic_UpdateConvAIdeal_UpdateConvARefIdeal (hUpdateConvAIdeal := hUpdateConvAIdeal) (hUpdateConvARefIdeal := hUpdateConvARefIdeal)
    ∧ preserves_UpdateConvD_UpdateConvDIdeal
    ∧ algebraic_UpdateConvDIdeal_UpdateConvDRefIdeal (hUpdateConvDIdeal := hUpdateConvDIdeal) (hUpdateConvDRefIdeal := hUpdateConvDRefIdeal)
    ∧ preserves_UpdateNorm_UpdateNormIdeal
    ∧ algebraic_UpdateNormIdeal_UpdateNormRefIdeal (hUpdateNormIdeal := hUpdateNormIdeal) (hUpdateNormRefIdeal := hUpdateNormRefIdeal)
    ∧ preserves_UpdateBranchNorm_UpdateBranchNormIdeal
    ∧ algebraic_UpdateBranchNormIdeal_UpdateBranchNormRefIdeal (hUpdateBranchNormIdeal := hUpdateBranchNormIdeal) (hUpdateBranchNormRefIdeal := hUpdateBranchNormRefIdeal)
    ∧ preserves_UpdateFinalNorm_UpdateFinalNormIdeal
    ∧ algebraic_UpdateFinalNormIdeal_UpdateFinalNormRefIdeal (hUpdateFinalNormIdeal := hUpdateFinalNormIdeal) (hUpdateFinalNormRefIdeal := hUpdateFinalNormRefIdeal)
    ∧ preserves_LossHead_LossHeadIdeal
    ∧ algebraic_LossHeadIdeal_LossHeadRefIdeal (hLossHeadIdeal := hLossHeadIdeal) (hLossHeadRefIdeal := hLossHeadRefIdeal)
    ∧ preserves_MixBackward_MixBackwardIdeal
    ∧ algebraic_MixBackwardIdeal_MixBackwardRefIdeal (hMixBackwardIdeal := hMixBackwardIdeal) (hMixBackwardRefIdeal := hMixBackwardRefIdeal)
    ∧ preserves_PleNormBackward_PleNormBackwardIdeal
    ∧ algebraic_PleNormBackwardIdeal_PleNormBackwardRefIdeal (hPleNormBackwardIdeal := hPleNormBackwardIdeal) (hPleNormBackwardRefIdeal := hPleNormBackwardRefIdeal)
    ∧ preserves_FfnNormBackward_FfnNormBackwardIdeal
    ∧ algebraic_FfnNormBackwardIdeal_FfnNormBackwardRefIdeal (hFfnNormBackwardIdeal := hFfnNormBackwardIdeal) (hFfnNormBackwardRefIdeal := hFfnNormBackwardRefIdeal)
    ∧ preserves_GradPleProj_GradPleProjIdeal
    ∧ algebraic_GradPleProjIdeal_GradPleProjRefIdeal (hGradPleProjIdeal := hGradPleProjIdeal) (hGradPleProjRefIdeal := hGradPleProjRefIdeal)
    ∧ preserves_GradPleGate_GradPleGateIdeal
    ∧ algebraic_GradPleGateIdeal_GradPleGateRefIdeal (hGradPleGateIdeal := hGradPleGateIdeal) (hGradPleGateRefIdeal := hGradPleGateRefIdeal)
    ∧ preserves_GradFfnOut_GradFfnOutIdeal
    ∧ algebraic_GradFfnOutIdeal_GradFfnOutRefIdeal (hGradFfnOutIdeal := hGradFfnOutIdeal) (hGradFfnOutRefIdeal := hGradFfnOutRefIdeal)
    ∧ preserves_GradFfnIn_GradFfnInIdeal
    ∧ algebraic_GradFfnInIdeal_GradFfnInRefIdeal (hGradFfnInIdeal := hGradFfnInIdeal) (hGradFfnInRefIdeal := hGradFfnInRefIdeal)
    ∧ preserves_GradOut_GradOutIdeal
    ∧ algebraic_GradOutIdeal_GradOutRefIdeal (hGradOutIdeal := hGradOutIdeal) (hGradOutRefIdeal := hGradOutRefIdeal)
    ∧ preserves_GradGates_GradGatesIdeal
    ∧ algebraic_GradGatesIdeal_GradGatesRefIdeal (hGradGatesIdeal := hGradGatesIdeal) (hGradGatesRefIdeal := hGradGatesRefIdeal)
    ∧ preserves_GradProjA_GradProjAIdeal
    ∧ algebraic_GradProjAIdeal_GradProjARefIdeal (hGradProjAIdeal := hGradProjAIdeal) (hGradProjARefIdeal := hGradProjARefIdeal)
    ∧ preserves_GradProjQkv_GradProjQkvIdeal
    ∧ algebraic_GradProjQkvIdeal_GradProjQkvRefIdeal (hGradProjQkvIdeal := hGradProjQkvIdeal) (hGradProjQkvRefIdeal := hGradProjQkvRefIdeal)
    ∧ preserves_GradBranch0_GradBranch0Ideal
    ∧ algebraic_GradBranch0Ideal_GradBranch0RefIdeal (hGradBranch0Ideal := hGradBranch0Ideal) (hGradBranch0RefIdeal := hGradBranch0RefIdeal)
    ∧ preserves_GradBranch1_GradBranch1Ideal
    ∧ algebraic_GradBranch1Ideal_GradBranch1RefIdeal (hGradBranch1Ideal := hGradBranch1Ideal) (hGradBranch1RefIdeal := hGradBranch1RefIdeal)
    ∧ preserves_GradBranch2_GradBranch2Ideal
    ∧ algebraic_GradBranch2Ideal_GradBranch2RefIdeal (hGradBranch2Ideal := hGradBranch2Ideal) (hGradBranch2RefIdeal := hGradBranch2RefIdeal)
    ∧ preserves_GradBranch3_GradBranch3Ideal
    ∧ algebraic_GradBranch3Ideal_GradBranch3RefIdeal (hGradBranch3Ideal := hGradBranch3Ideal) (hGradBranch3RefIdeal := hGradBranch3RefIdeal)
    ∧ preserves_ProjA_ProjAIdeal
    ∧ algebraic_ProjAIdeal_ProjARefIdeal (hProjAIdeal := hProjAIdeal) (hProjARefIdeal := hProjARefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_FfnIn_FfnInIdeal
    ∧ algebraic_FfnInIdeal_FfnInRefIdeal (hFfnInIdeal := hFfnInIdeal) (hFfnInRefIdeal := hFfnInRefIdeal)
    ∧ preserves_PleGate_PleGateIdeal
    ∧ algebraic_PleGateIdeal_PleGateRefIdeal (hPleGateIdeal := hPleGateIdeal) (hPleGateRefIdeal := hPleGateRefIdeal)
    ∧ preserves_Merge_MergeIdeal
    ∧ algebraic_MergeIdeal_MergeRefIdeal (hMergeIdeal := hMergeIdeal) (hMergeRefIdeal := hMergeRefIdeal)
    ∧ preserves_MergeBackward_MergeBackwardIdeal
    ∧ algebraic_MergeBackwardIdeal_MergeBackwardRefIdeal (hMergeBackwardIdeal := hMergeBackwardIdeal) (hMergeBackwardRefIdeal := hMergeBackwardRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnBackward_FfnBackwardIdeal
    ∧ algebraic_FfnBackwardIdeal_FfnBackwardRefIdeal (hFfnBackwardIdeal := hFfnBackwardIdeal) (hFfnBackwardRefIdeal := hFfnBackwardRefIdeal)
    ∧ preserves_PleOut_PleOutIdeal
    ∧ algebraic_PleOutIdeal_PleOutRefIdeal (hPleOutIdeal := hPleOutIdeal) (hPleOutRefIdeal := hPleOutRefIdeal)
    ∧ preserves_PleBackward_PleBackwardIdeal
    ∧ algebraic_PleBackwardIdeal_PleBackwardRefIdeal (hPleBackwardIdeal := hPleBackwardIdeal) (hPleBackwardRefIdeal := hPleBackwardRefIdeal)
    ∧ preserves_ShortConv_ShortConvIdeal
    ∧ algebraic_ShortConvIdeal_ShortConvRefIdeal (hShortConvIdeal := hShortConvIdeal) (hShortConvRefIdeal := hShortConvRefIdeal)
    ∧ preserves_Gating_GatingIdeal
    ∧ algebraic_GatingIdeal_GatingRefIdeal (hGatingIdeal := hGatingIdeal) (hGatingRefIdeal := hGatingRefIdeal)
    ∧ preserves_ConfNormBackward_ConfNormBackwardIdeal
    ∧ algebraic_ConfNormBackwardIdeal_ConfNormBackwardRefIdeal (hConfNormBackwardIdeal := hConfNormBackwardIdeal) (hConfNormBackwardRefIdeal := hConfNormBackwardRefIdeal)
-- ==== Kernel.lean ====
abbrev S8x9216x1024 : Shape := ⟨3, ![8, 9216, 1024]⟩
abbrev S7 : Shape := ⟨1, ![7]⟩
abbrev S_ : Shape := ⟨0, ![]⟩
abbrev S1x9216x1024 : Shape := ⟨3, ![1, 9216, 1024]⟩
abbrev S9216x1024 : Shape := ⟨2, ![9216, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x9216x1024, .bf16⟩
  | .hbm, ⟨1, _⟩ => ⟨S8x9216x1024, .bf16⟩
  | _, _ => ⟨S8x9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) (c0_i32_8 : BitVec 32) (c0_i32_9 : BitVec 32) (c1_i32_10 : BitVec 32) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.xori v2 c0_i32_8
  let v20 : BitVec 32 := Scalar.muli c4_i32_11 v17
  let c2_i32_12 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.xori v5 c0_i32_9
  let v21 : BitVec 32 := Scalar.muli c2_i32_12 v18
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.xori v8 c1_i32_10
  let v23 : BitVec 32 := Scalar.addi v22 v19
  let c0_i32_21 : BitVec 32 := 0#32
  let c0_i32_22 : BitVec 32 := 0#32
  ![v23.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v17 : BitVec 32 := Scalar.xori v2 c0_i32_8
  let c4_i32_15 : BitVec 32 := 4#32
  let v24 : BitVec 32 := Scalar.muli v17 c4_i32_15
  let v25 : BitVec 32 := Scalar.addi c0_i32_16 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v18 : BitVec 32 := Scalar.xori v5 c0_i32_9
  let c2_i32_17 : BitVec 32 := 2#32
  let v26 : BitVec 32 := Scalar.muli v18 c2_i32_17
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v19 : BitVec 32 := Scalar.xori v8 c1_i32_10
  let c1_i32_18 : BitVec 32 := 1#32
  let v28 : BitVec 32 := Scalar.muli v19 c1_i32_18
  let v29 : BitVec 32 := Scalar.addi v27 v28
  v29.toNat
def k0_dev2 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v42 : BitVec 32 := Scalar.xori v2 c0_i32_25
  let c4_i32_32 : BitVec 32 := 4#32
  let v49 : BitVec 32 := Scalar.muli v42 c4_i32_32
  let v50 : BitVec 32 := Scalar.addi c0_i32_33 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_26 : BitVec 32 := 1#32
  let v43 : BitVec 32 := Scalar.xori v5 c1_i32_26
  let c2_i32_34 : BitVec 32 := 2#32
  let v51 : BitVec 32 := Scalar.muli v43 c2_i32_34
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let v44 : BitVec 32 := Scalar.xori v8 c0_i32_27
  let c1_i32_35 : BitVec 32 := 1#32
  let v53 : BitVec 32 := Scalar.muli v44 c1_i32_35
  let v54 : BitVec 32 := Scalar.addi v52 v53
  v54.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_42 : BitVec 32 := 0#32
  let v67 : BitVec 32 := Scalar.xori v2 c0_i32_42
  let c4_i32_49 : BitVec 32 := 4#32
  let v74 : BitVec 32 := Scalar.muli v67 c4_i32_49
  let v75 : BitVec 32 := Scalar.addi c0_i32_50 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_43 : BitVec 32 := 1#32
  let v68 : BitVec 32 := Scalar.xori v5 c1_i32_43
  let c2_i32_51 : BitVec 32 := 2#32
  let v76 : BitVec 32 := Scalar.muli v68 c2_i32_51
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v69 : BitVec 32 := Scalar.xori v8 c1_i32_44
  let c1_i32_52 : BitVec 32 := 1#32
  let v78 : BitVec 32 := Scalar.muli v69 c1_i32_52
  let v79 : BitVec 32 := Scalar.addi v77 v78
  v79.toNat
def k0_dev4 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_59 : BitVec 32 := 1#32
  let v92 : BitVec 32 := Scalar.xori v2 c1_i32_59
  let c4_i32_65 : BitVec 32 := 4#32
  let v99 : BitVec 32 := Scalar.muli v92 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_60 : BitVec 32 := 0#32
  let v93 : BitVec 32 := Scalar.xori v5 c0_i32_60
  let c2_i32_67 : BitVec 32 := 2#32
  let v101 : BitVec 32 := Scalar.muli v93 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_61 : BitVec 32 := 0#32
  let v94 : BitVec 32 := Scalar.xori v8 c0_i32_61
  let c1_i32_68 : BitVec 32 := 1#32
  let v103 : BitVec 32 := Scalar.muli v94 c1_i32_68
  let v104 : BitVec 32 := Scalar.addi v102 v103
  v104.toNat
def k0_dev5 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_75 : BitVec 32 := 1#32
  let v117 : BitVec 32 := Scalar.xori v2 c1_i32_75
  let c4_i32_82 : BitVec 32 := 4#32
  let v124 : BitVec 32 := Scalar.muli v117 c4_i32_82
  let v125 : BitVec 32 := Scalar.addi c0_i32_83 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_76 : BitVec 32 := 0#32
  let v118 : BitVec 32 := Scalar.xori v5 c0_i32_76
  let c2_i32_84 : BitVec 32 := 2#32
  let v126 : BitVec 32 := Scalar.muli v118 c2_i32_84
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v119 : BitVec 32 := Scalar.xori v8 c1_i32_77
  let c1_i32_85 : BitVec 32 := 1#32
  let v128 : BitVec 32 := Scalar.muli v119 c1_i32_85
  let v129 : BitVec 32 := Scalar.addi v127 v128
  v129.toNat
def k0_dev6 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_92 : BitVec 32 := 1#32
  let v142 : BitVec 32 := Scalar.xori v2 c1_i32_92
  let c4_i32_98 : BitVec 32 := 4#32
  let v149 : BitVec 32 := Scalar.muli v142 c4_i32_98
  let v150 : BitVec 32 := Scalar.addi c0_i32_99 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_93 : BitVec 32 := 1#32
  let v143 : BitVec 32 := Scalar.xori v5 c1_i32_93
  let c2_i32_100 : BitVec 32 := 2#32
  let v151 : BitVec 32 := Scalar.muli v143 c2_i32_100
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_94 : BitVec 32 := 0#32
  let v144 : BitVec 32 := Scalar.xori v8 c0_i32_94
  let c1_i32_101 : BitVec 32 := 1#32
  let v153 : BitVec 32 := Scalar.muli v144 c1_i32_101
  let v154 : BitVec 32 := Scalar.addi v152 v153
  v154.toNat
def k0_dev7 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_108 : BitVec 32 := 1#32
  let v167 : BitVec 32 := Scalar.xori v2 c1_i32_108
  let c4_i32_114 : BitVec 32 := 4#32
  let v174 : BitVec 32 := Scalar.muli v167 c4_i32_114
  let v175 : BitVec 32 := Scalar.addi c0_i32_115 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_109 : BitVec 32 := 1#32
  let v168 : BitVec 32 := Scalar.xori v5 c1_i32_109
  let c2_i32_116 : BitVec 32 := 2#32
  let v176 : BitVec 32 := Scalar.muli v168 c2_i32_116
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v169 : BitVec 32 := Scalar.xori v8 c1_i32_110
  let c1_i32_117 : BitVec 32 := 1#32
  let v178 : BitVec 32 := Scalar.muli v169 c1_i32_117
  let v179 : BitVec 32 := Scalar.addi v177 v178
  v179.toNat
-- ==== Reference.lean ====
abbrev S64x9216x1024 : Shape := ⟨3, ![64, 9216, 1024]⟩
abbrev S8x8x9216x1024 : Shape := ⟨4, ![8, 8, 9216, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x9216x1024, .bf16⟩
  | .hbm, ⟨1, _⟩ => ⟨S8x8x9216x1024, .bf16⟩
  | .hbm, ⟨2, _⟩ => ⟨S8x8x9216x1024, .bf16⟩
  | .hbm, ⟨3, _⟩ => ⟨S64x9216x1024, .bf16⟩
  | _, _ => ⟨S64x9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Weights.lean ====
abbrev S9216x1024 : Shape := ⟨2, ![9216, 1024]⟩
abbrev S8x9216x1024 : Shape := ⟨3, ![8, 9216, 1024]⟩
abbrev S7 : Shape := ⟨1, ![7]⟩
abbrev S_ : Shape := ⟨0, ![]⟩
abbrev S1x9216x1024 : Shape := ⟨3, ![1, 9216, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S8x9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== WeightsRef.lean ====
abbrev S73728x1024 : Shape := ⟨2, ![73728, 1024]⟩
abbrev S8x9216x1024 : Shape := ⟨3, ![8, 9216, 1024]⟩

abbrev nBuf : Space → Nat
  | .hbm => 2
  | .vmem => 0
  | .smem => 0
  | _ => 0

abbrev bufTy : (tb : Table) → Fin (tcTables nBuf tb) → BufTy
  | .hbm, ⟨0, _⟩ => ⟨S73728x1024, .bf16⟩
  | .hbm, ⟨1, _⟩ => ⟨S8x9216x1024, .bf16⟩
  | _, _ => ⟨S73728x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S40x128 : Shape := ⟨2, ![40, 128]⟩
abbrev S8x40x128 : Shape := ⟨3, ![8, 40, 128]⟩
abbrev S7 : Shape := ⟨1, ![7]⟩
abbrev S_ : Shape := ⟨0, ![]⟩
abbrev S1x40x128 : Shape := ⟨3, ![1, 40, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S40x128, .f32⟩
  | .hbm, ⟨1, _⟩ => ⟨S8x40x128, .f32⟩
  | _, _ => ⟨S40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== SmallRef.lean ====
abbrev S320x128 : Shape := ⟨2, ![320, 128]⟩
abbrev S8x40x128 : Shape := ⟨3, ![8, 40, 128]⟩

abbrev nBuf : Space → Nat
  | .hbm => 2
  | .vmem => 0
  | .smem => 0
  | _ => 0

abbrev bufTy : (tb : Table) → Fin (tcTables nBuf tb) → BufTy
  | .hbm, ⟨0, _⟩ => ⟨S320x128, .f32⟩
  | .hbm, ⟨1, _⟩ => ⟨S8x40x128, .f32⟩
  | _, _ => ⟨S320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Scatter.lean ====
abbrev S8x9216x1024 : Shape := ⟨3, ![8, 9216, 1024]⟩
abbrev S7 : Shape := ⟨1, ![7]⟩
abbrev S_ : Shape := ⟨0, ![]⟩
abbrev S1x9216x1024 : Shape := ⟨3, ![1, 9216, 1024]⟩
abbrev S9216x1024 : Shape := ⟨2, ![9216, 1024]⟩
abbrev S1 : Shape := ⟨1, ![1]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x9216x1024, .bf16⟩
  | .hbm, ⟨1, _⟩ => ⟨S8x9216x1024, .bf16⟩
  | .hbm, ⟨2, _⟩ => ⟨S9216x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | _, _ => ⟨S8x9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) (c0_i32_8 : BitVec 32) (c0_i32_9 : BitVec 32) (c1_i32_10 : BitVec 32) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.xori v2 c0_i32_8
  let v20 : BitVec 32 := Scalar.muli c4_i32_11 v17
  let c2_i32_12 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.xori v5 c0_i32_9
  let v21 : BitVec 32 := Scalar.muli c2_i32_12 v18
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.xori v8 c1_i32_10
  let v23 : BitVec 32 := Scalar.addi v22 v19
  let c0_i32_21 : BitVec 32 := 0#32
  let c0_i32_22 : BitVec 32 := 0#32
  ![v23.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v17 : BitVec 32 := Scalar.xori v2 c0_i32_8
  let c4_i32_15 : BitVec 32 := 4#32
  let v24 : BitVec 32 := Scalar.muli v17 c4_i32_15
  let v25 : BitVec 32 := Scalar.addi c0_i32_16 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v18 : BitVec 32 := Scalar.xori v5 c0_i32_9
  let c2_i32_17 : BitVec 32 := 2#32
  let v26 : BitVec 32 := Scalar.muli v18 c2_i32_17
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v19 : BitVec 32 := Scalar.xori v8 c1_i32_10
  let c1_i32_18 : BitVec 32 := 1#32
  let v28 : BitVec 32 := Scalar.muli v19 c1_i32_18
  let v29 : BitVec 32 := Scalar.addi v27 v28
  v29.toNat
def k0_dev2 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v42 : BitVec 32 := Scalar.xori v2 c0_i32_25
  let c4_i32_32 : BitVec 32 := 4#32
  let v49 : BitVec 32 := Scalar.muli v42 c4_i32_32
  let v50 : BitVec 32 := Scalar.addi c0_i32_33 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_26 : BitVec 32 := 1#32
  let v43 : BitVec 32 := Scalar.xori v5 c1_i32_26
  let c2_i32_34 : BitVec 32 := 2#32
  let v51 : BitVec 32 := Scalar.muli v43 c2_i32_34
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let v44 : BitVec 32 := Scalar.xori v8 c0_i32_27
  let c1_i32_35 : BitVec 32 := 1#32
  let v53 : BitVec 32 := Scalar.muli v44 c1_i32_35
  let v54 : BitVec 32 := Scalar.addi v52 v53
  v54.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_42 : BitVec 32 := 0#32
  let v67 : BitVec 32 := Scalar.xori v2 c0_i32_42
  let c4_i32_49 : BitVec 32 := 4#32
  let v74 : BitVec 32 := Scalar.muli v67 c4_i32_49
  let v75 : BitVec 32 := Scalar.addi c0_i32_50 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_43 : BitVec 32 := 1#32
  let v68 : BitVec 32 := Scalar.xori v5 c1_i32_43
  let c2_i32_51 : BitVec 32 := 2#32
  let v76 : BitVec 32 := Scalar.muli v68 c2_i32_51
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v69 : BitVec 32 := Scalar.xori v8 c1_i32_44
  let c1_i32_52 : BitVec 32 := 1#32
  let v78 : BitVec 32 := Scalar.muli v69 c1_i32_52
  let v79 : BitVec 32 := Scalar.addi v77 v78
  v79.toNat
def k0_dev4 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_59 : BitVec 32 := 1#32
  let v92 : BitVec 32 := Scalar.xori v2 c1_i32_59
  let c4_i32_65 : BitVec 32 := 4#32
  let v99 : BitVec 32 := Scalar.muli v92 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_60 : BitVec 32 := 0#32
  let v93 : BitVec 32 := Scalar.xori v5 c0_i32_60
  let c2_i32_67 : BitVec 32 := 2#32
  let v101 : BitVec 32 := Scalar.muli v93 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_61 : BitVec 32 := 0#32
  let v94 : BitVec 32 := Scalar.xori v8 c0_i32_61
  let c1_i32_68 : BitVec 32 := 1#32
  let v103 : BitVec 32 := Scalar.muli v94 c1_i32_68
  let v104 : BitVec 32 := Scalar.addi v102 v103
  v104.toNat
def k0_dev5 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_75 : BitVec 32 := 1#32
  let v117 : BitVec 32 := Scalar.xori v2 c1_i32_75
  let c4_i32_82 : BitVec 32 := 4#32
  let v124 : BitVec 32 := Scalar.muli v117 c4_i32_82
  let v125 : BitVec 32 := Scalar.addi c0_i32_83 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_76 : BitVec 32 := 0#32
  let v118 : BitVec 32 := Scalar.xori v5 c0_i32_76
  let c2_i32_84 : BitVec 32 := 2#32
  let v126 : BitVec 32 := Scalar.muli v118 c2_i32_84
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v119 : BitVec 32 := Scalar.xori v8 c1_i32_77
  let c1_i32_85 : BitVec 32 := 1#32
  let v128 : BitVec 32 := Scalar.muli v119 c1_i32_85
  let v129 : BitVec 32 := Scalar.addi v127 v128
  v129.toNat
def k0_dev6 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_92 : BitVec 32 := 1#32
  let v142 : BitVec 32 := Scalar.xori v2 c1_i32_92
  let c4_i32_98 : BitVec 32 := 4#32
  let v149 : BitVec 32 := Scalar.muli v142 c4_i32_98
  let v150 : BitVec 32 := Scalar.addi c0_i32_99 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_93 : BitVec 32 := 1#32
  let v143 : BitVec 32 := Scalar.xori v5 c1_i32_93
  let c2_i32_100 : BitVec 32 := 2#32
  let v151 : BitVec 32 := Scalar.muli v143 c2_i32_100
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_94 : BitVec 32 := 0#32
  let v144 : BitVec 32 := Scalar.xori v8 c0_i32_94
  let c1_i32_101 : BitVec 32 := 1#32
  let v153 : BitVec 32 := Scalar.muli v144 c1_i32_101
  let v154 : BitVec 32 := Scalar.addi v152 v153
  v154.toNat
def k0_dev7 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_108 : BitVec 32 := 1#32
  let v167 : BitVec 32 := Scalar.xori v2 c1_i32_108
  let c4_i32_114 : BitVec 32 := 4#32
  let v174 : BitVec 32 := Scalar.muli v167 c4_i32_114
  let v175 : BitVec 32 := Scalar.addi c0_i32_115 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_109 : BitVec 32 := 1#32
  let v168 : BitVec 32 := Scalar.xori v5 c1_i32_109
  let c2_i32_116 : BitVec 32 := 2#32
  let v176 : BitVec 32 := Scalar.muli v168 c2_i32_116
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v169 : BitVec 32 := Scalar.xori v8 c1_i32_110
  let c1_i32_117 : BitVec 32 := 1#32
  let v178 : BitVec 32 := Scalar.muli v169 c1_i32_117
  let v179 : BitVec 32 := Scalar.addi v177 v178
  v179.toNat
abbrev grid1 : Pipeline.Grid := ⟨1, ![36], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ScatterRefIdeal.lean ====
abbrev S64x9216x1024 : Shape := ⟨3, ![64, 9216, 1024]⟩
abbrev S8x8x9216x1024 : Shape := ⟨4, ![8, 8, 9216, 1024]⟩
abbrev S_ : Shape := ⟨0, ![]⟩
abbrev S8x9216x1024 : Shape := ⟨3, ![8, 9216, 1024]⟩
abbrev S73728x1024 : Shape := ⟨2, ![73728, 1024]⟩

abbrev nBuf : Space → Nat
  | .hbm => 6
  | .vmem => 0
  | .smem => 0
  | _ => 0

abbrev bufTy : (tb : Table) → Fin (tcTables nBuf tb) → BufTy
  | .hbm, ⟨0, _⟩ => ⟨S64x9216x1024, .bf16⟩
  | .hbm, ⟨1, _⟩ => ⟨S8x8x9216x1024, .bf16⟩
  | .hbm, ⟨2, _⟩ => ⟨S8x8x9216x1024, .f32⟩
  | .hbm, ⟨3, _⟩ => ⟨S_, .f32⟩
  | .hbm, ⟨4, _⟩ => ⟨S8x9216x1024, .f32⟩
  | .hbm, ⟨5, _⟩ => ⟨S73728x1024, .f32⟩
  | _, _ => ⟨S64x9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SmallGrads.lean ====
abbrev S2472x128 : Shape := ⟨2, ![2472, 128]⟩
abbrev S8x2472x128 : Shape := ⟨3, ![8, 2472, 128]⟩
abbrev S7 : Shape := ⟨1, ![7]⟩
abbrev S_ : Shape := ⟨0, ![]⟩
abbrev S1x2472x128 : Shape := ⟨3, ![1, 2472, 128]⟩
abbrev S1 : Shape := ⟨1, ![1]⟩
abbrev S8x24x128 : Shape := ⟨3, ![8, 24, 128]⟩
abbrev S24x128 : Shape := ⟨2, ![24, 128]⟩
abbrev S1x24x128 : Shape := ⟨3, ![1, 24, 128]⟩

abbrev nBuf : Space → Nat
  | .hbm => 3
  | .vmem => 4
  | .smem => 0
  | _ => 0

abbrev bufTy : (tb : Table) → Fin (tcTables nBuf tb) → BufTy
  | .hbm, ⟨0, _⟩ => ⟨S2472x128, .f32⟩
  | .hbm, ⟨1, _⟩ => ⟨S8x2472x128, .f32⟩
  | .hbm, ⟨2, _⟩ => ⟨S2472x128, .f32⟩
  | .local _ .vmem, ⟨0, _⟩ => ⟨S8x24x128, .f32⟩
  | .local _ .vmem, ⟨1, _⟩ => ⟨S8x24x128, .f32⟩
  | .local _ .vmem, ⟨2, _⟩ => ⟨S24x128, .f32⟩
  | .local _ .vmem, ⟨3, _⟩ => ⟨S24x128, .f32⟩
  | _, _ => ⟨S2472x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
abbrev grid1 : Pipeline.Grid := ⟨1, ![103], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x24x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S24x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== SmallGradsRefIdeal.lean ====
abbrev S19776x128 : Shape := ⟨2, ![19776, 128]⟩
abbrev S8x2472x128 : Shape := ⟨3, ![8, 2472, 128]⟩
abbrev S_ : Shape := ⟨0, ![]⟩
abbrev S2472x128 : Shape := ⟨2, ![2472, 128]⟩

abbrev nBuf : Space → Nat
  | .hbm => 4
  | .vmem => 0
  | .smem => 0
  | _ => 0

abbrev bufTy : (tb : Table) → Fin (tcTables nBuf tb) → BufTy
  | .hbm, ⟨0, _⟩ => ⟨S19776x128, .f32⟩
  | .hbm, ⟨1, _⟩ => ⟨S8x2472x128, .f32⟩
  | .hbm, ⟨2, _⟩ => ⟨S_, .f32⟩
  | .hbm, ⟨3, _⟩ => ⟨S2472x128, .f32⟩
  | _, _ => ⟨S19776x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpdateIn.lean ====
abbrev S4096x320 : Shape := ⟨2, ![4096, 320]⟩
abbrev S512x320 : Shape := ⟨2, ![512, 320]⟩

abbrev nBuf : Space → Nat
  | .hbm => 7
  | .vmem => 14
  | .smem => 0
  | _ => 0

abbrev bufTy : (tb : Table) → Fin (tcTables nBuf tb) → BufTy
  | .hbm, ⟨0, _⟩ => ⟨S4096x320, .f32⟩
  | .hbm, ⟨1, _⟩ => ⟨S4096x320, .f32⟩
  | .hbm, ⟨2, _⟩ => ⟨S4096x320, .f32⟩
  | .hbm, ⟨3, _⟩ => ⟨S4096x320, .f32⟩
  | .hbm, ⟨4, _⟩ => ⟨S4096x320, .f32⟩
  | .hbm, ⟨5, _⟩ => ⟨S4096x320, .f32⟩
  | .hbm, ⟨6, _⟩ => ⟨S4096x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | _, _ => ⟨S4096x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInIdeal.lean ====
abbrev S4096x320 : Shape := ⟨2, ![4096, 320]⟩
abbrev S512x320 : Shape := ⟨2, ![512, 320]⟩

abbrev nBuf : Space → Nat
  | .hbm => 7
  | .vmem => 14
  | .smem => 0
  | _ => 0

abbrev bufTy : (tb : Table) → Fin (tcTables nBuf tb) → BufTy
  | .hbm, ⟨0, _⟩ => ⟨S4096x320, .f32⟩
  | .hbm, ⟨1, _⟩ => ⟨S4096x320, .f32⟩
  | .hbm, ⟨2, _⟩ => ⟨S4096x320, .f32⟩
  | .hbm, ⟨3, _⟩ => ⟨S4096x320, .f32⟩
  | .hbm, ⟨4, _⟩ => ⟨S4096x320, .f32⟩
  | .hbm, ⟨5, _⟩ => ⟨S4096x320, .f32⟩
  | .hbm, ⟨6, _⟩ => ⟨S4096x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | _, _ => ⟨S4096x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInRefIdeal.lean ====
abbrev S4096x320 : Shape := ⟨2, ![4096, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x320, .f32⟩
  | .hbm, ⟨1, _⟩ => ⟨S4096x320, .f32⟩
  | .hbm, ⟨2, _⟩ => ⟨S4096x320, .f32⟩
  | .hbm, ⟨3, _⟩ => ⟨S4096x320, .f32⟩
  | .hbm, ⟨4, _⟩ => ⟨S_, .f32⟩
  | .hbm, ⟨5, _⟩ => ⟨S4096x320, .f32⟩
  | .hbm, ⟨6, _⟩ => ⟨S4096x320, .f32⟩
  | .hbm, ⟨7, _⟩ => ⟨S_, .f32⟩
  | .hbm, ⟨8, _⟩ => ⟨S4096x320, .f32⟩
  | .hbm, ⟨9, _⟩ => ⟨S4096x320, .f32⟩
  | .hbm, ⟨10, _⟩ => ⟨S4096x320, .f32⟩
  | .hbm, ⟨11, _⟩ => ⟨S_, .f32⟩
  | .hbm, ⟨12, _⟩ => ⟨S4096x320, .f32⟩
  | .hbm, ⟨13, _⟩ => ⟨S4096x320, .f32⟩
  | .hbm, ⟨14, _⟩ => ⟨S4096x320, .f32⟩
  | .hbm, ⟨15, _⟩ => ⟨S_, .f32⟩
  | .hbm, ⟨16, _⟩ => ⟨S4096x320, .f32⟩
  | .hbm, ⟨17, _⟩ => ⟨S4096x320, .f32⟩
  | .hbm, ⟨18, _⟩ => ⟨S4096x320, .f32⟩
  | .hbm, ⟨19, _⟩ => ⟨S_, .f32⟩
  | .hbm, ⟨20, _⟩ => ⟨S4096x320, .f32⟩
  | .hbm, ⟨21, _⟩ => ⟨S4096x320, .f32⟩
  | .hbm, ⟨22, _⟩ => ⟨S_, .f32⟩
  | .hbm, ⟨23, _⟩ => ⟨S4096x320, .f32⟩
  | .hbm, ⟨24, _⟩ => ⟨S4096x320, .f32⟩
  | .hbm, ⟨25, _⟩ => ⟨S4096x320, .f32⟩
  | .hbm, ⟨26, _⟩ => ⟨S_, .f32⟩
  | .hbm, ⟨27, _⟩ => ⟨S4096x320, .f32⟩
  | .hbm, ⟨28, _⟩ => ⟨S4096x320, .f32⟩
  | .hbm, ⟨29, _⟩ => ⟨S4096x320, .f32⟩
  | .hbm, ⟨30, _⟩ => ⟨S_, .f32⟩
  | .hbm, ⟨31, _⟩ => ⟨S4096x320, .f32⟩
  | .hbm, ⟨32, _⟩ => ⟨S4096x320, .f32⟩
  | .hbm, ⟨33, _⟩ => ⟨S4096x320, .f32⟩
  | .hbm, ⟨34, _⟩ => ⟨S_, .f32⟩
  | .hbm, ⟨35, _⟩ => ⟨S4096x320, .f32⟩
  | .hbm, ⟨36, _⟩ => ⟨S4096x320, .f32⟩
  | _, _ => ⟨S4096x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateBranch.lean ====
abbrev S4096x128 : Shape := ⟨2, ![4096, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateBranchIdeal.lean ====
abbrev S4096x128 : Shape := ⟨2, ![4096, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateBranchRefIdeal.lean ====
abbrev S4096x128 : Shape := ⟨2, ![4096, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateMergeGate.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateMergeGateIdeal.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateMergeGateRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateOut.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutIdeal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateFfnIn.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnInIdeal.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnInRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateFfnOut.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnOutIdeal.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnOutRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateProj.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateProjIdeal.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateProjRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateSpatial.lean ====
abbrev S2048x128 : Shape := ⟨2, ![2048, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateSpatialIdeal.lean ====
abbrev S2048x128 : Shape := ⟨2, ![2048, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateSpatialRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateSpatialBias.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateSpatialBiasIdeal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateSpatialBiasRefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateConvA.lean ====
abbrev S12x32 : Shape := ⟨2, ![12, 32]⟩

abbrev nBuf : Space → Nat
  | .hbm => 7
  | .vmem => 7
  | .smem => 0
  | _ => 0

abbrev bufTy : (tb : Table) → Fin (tcTables nBuf tb) → BufTy
  | .hbm, ⟨0, _⟩ => ⟨S12x32, .f32⟩
  | .hbm, ⟨1, _⟩ => ⟨S12x32, .f32⟩
  | .hbm, ⟨2, _⟩ => ⟨S12x32, .f32⟩
  | .hbm, ⟨3, _⟩ => ⟨S12x32, .f32⟩
  | .hbm, ⟨4, _⟩ => ⟨S12x32, .f32⟩
  | .hbm, ⟨5, _⟩ => ⟨S12x32, .f32⟩
  | .hbm, ⟨6, _⟩ => ⟨S12x32, .f32⟩
  | .local _ .vmem, ⟨0, _⟩ => ⟨S12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | _, _ => ⟨S12x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvAIdeal.lean ====
abbrev S12x32 : Shape := ⟨2, ![12, 32]⟩

abbrev nBuf : Space → Nat
  | .hbm => 7
  | .vmem => 7
  | .smem => 0
  | _ => 0

abbrev bufTy : (tb : Table) → Fin (tcTables nBuf tb) → BufTy
  | .hbm, ⟨0, _⟩ => ⟨S12x32, .f32⟩
  | .hbm, ⟨1, _⟩ => ⟨S12x32, .f32⟩
  | .hbm, ⟨2, _⟩ => ⟨S12x32, .f32⟩
  | .hbm, ⟨3, _⟩ => ⟨S12x32, .f32⟩
  | .hbm, ⟨4, _⟩ => ⟨S12x32, .f32⟩
  | .hbm, ⟨5, _⟩ => ⟨S12x32, .f32⟩
  | .hbm, ⟨6, _⟩ => ⟨S12x32, .f32⟩
  | .local _ .vmem, ⟨0, _⟩ => ⟨S12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | _, _ => ⟨S12x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvARefIdeal.lean ====
abbrev S12x32 : Shape := ⟨2, ![12, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x32, .f32⟩
  | .hbm, ⟨1, _⟩ => ⟨S12x32, .f32⟩
  | .hbm, ⟨2, _⟩ => ⟨S12x32, .f32⟩
  | .hbm, ⟨3, _⟩ => ⟨S12x32, .f32⟩
  | .hbm, ⟨4, _⟩ => ⟨S_, .f32⟩
  | .hbm, ⟨5, _⟩ => ⟨S12x32, .f32⟩
  | .hbm, ⟨6, _⟩ => ⟨S12x32, .f32⟩
  | .hbm, ⟨7, _⟩ => ⟨S_, .f32⟩
  | .hbm, ⟨8, _⟩ => ⟨S12x32, .f32⟩
  | .hbm, ⟨9, _⟩ => ⟨S12x32, .f32⟩
  | .hbm, ⟨10, _⟩ => ⟨S12x32, .f32⟩
  | .hbm, ⟨11, _⟩ => ⟨S_, .f32⟩
  | .hbm, ⟨12, _⟩ => ⟨S12x32, .f32⟩
  | .hbm, ⟨13, _⟩ => ⟨S12x32, .f32⟩
  | .hbm, ⟨14, _⟩ => ⟨S12x32, .f32⟩
  | .hbm, ⟨15, _⟩ => ⟨S_, .f32⟩
  | .hbm, ⟨16, _⟩ => ⟨S12x32, .f32⟩
  | .hbm, ⟨17, _⟩ => ⟨S12x32, .f32⟩
  | .hbm, ⟨18, _⟩ => ⟨S12x32, .f32⟩
  | .hbm, ⟨19, _⟩ => ⟨S_, .f32⟩
  | .hbm, ⟨20, _⟩ => ⟨S12x32, .f32⟩
  | .hbm, ⟨21, _⟩ => ⟨S12x32, .f32⟩
  | .hbm, ⟨22, _⟩ => ⟨S_, .f32⟩
  | .hbm, ⟨23, _⟩ => ⟨S12x32, .f32⟩
  | .hbm, ⟨24, _⟩ => ⟨S12x32, .f32⟩
  | .hbm, ⟨25, _⟩ => ⟨S12x32, .f32⟩
  | .hbm, ⟨26, _⟩ => ⟨S_, .f32⟩
  | .hbm, ⟨27, _⟩ => ⟨S12x32, .f32⟩
  | .hbm, ⟨28, _⟩ => ⟨S12x32, .f32⟩
  | .hbm, ⟨29, _⟩ => ⟨S12x32, .f32⟩
  | .hbm, ⟨30, _⟩ => ⟨S_, .f32⟩
  | .hbm, ⟨31, _⟩ => ⟨S12x32, .f32⟩
  | .hbm, ⟨32, _⟩ => ⟨S12x32, .f32⟩
  | .hbm, ⟨33, _⟩ => ⟨S12x32, .f32⟩
  | .hbm, ⟨34, _⟩ => ⟨S_, .f32⟩
  | .hbm, ⟨35, _⟩ => ⟨S12x32, .f32⟩
  | .hbm, ⟨36, _⟩ => ⟨S12x32, .f32⟩
  | _, _ => ⟨S12x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateConvD.lean ====
abbrev S124x32 : Shape := ⟨2, ![124, 32]⟩

abbrev nBuf : Space → Nat
  | .hbm => 7
  | .vmem => 7
  | .smem => 0
  | _ => 0

abbrev bufTy : (tb : Table) → Fin (tcTables nBuf tb) → BufTy
  | .hbm, ⟨0, _⟩ => ⟨S124x32, .f32⟩
  | .hbm, ⟨1, _⟩ => ⟨S124x32, .f32⟩
  | .hbm, ⟨2, _⟩ => ⟨S124x32, .f32⟩
  | .hbm, ⟨3, _⟩ => ⟨S124x32, .f32⟩
  | .hbm, ⟨4, _⟩ => ⟨S124x32, .f32⟩
  | .hbm, ⟨5, _⟩ => ⟨S124x32, .f32⟩
  | .hbm, ⟨6, _⟩ => ⟨S124x32, .f32⟩
  | .local _ .vmem, ⟨0, _⟩ => ⟨S124x32, .f32⟩
  | .local _ .vmem, ⟨1, _⟩ => ⟨S124x32, .f32⟩
  | .local _ .vmem, ⟨2, _⟩ => ⟨S124x32, .f32⟩
  | .local _ .vmem, ⟨3, _⟩ => ⟨S124x32, .f32⟩
  | .local _ .vmem, ⟨4, _⟩ => ⟨S124x32, .f32⟩
  | .local _ .vmem, ⟨5, _⟩ => ⟨S124x32, .f32⟩
  | .local _ .vmem, ⟨6, _⟩ => ⟨S124x32, .f32⟩
  | _, _ => ⟨S124x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvDIdeal.lean ====
abbrev S124x32 : Shape := ⟨2, ![124, 32]⟩

abbrev nBuf : Space → Nat
  | .hbm => 7
  | .vmem => 7
  | .smem => 0
  | _ => 0

abbrev bufTy : (tb : Table) → Fin (tcTables nBuf tb) → BufTy
  | .hbm, ⟨0, _⟩ => ⟨S124x32, .f32⟩
  | .hbm, ⟨1, _⟩ => ⟨S124x32, .f32⟩
  | .hbm, ⟨2, _⟩ => ⟨S124x32, .f32⟩
  | .hbm, ⟨3, _⟩ => ⟨S124x32, .f32⟩
  | .hbm, ⟨4, _⟩ => ⟨S124x32, .f32⟩
  | .hbm, ⟨5, _⟩ => ⟨S124x32, .f32⟩
  | .hbm, ⟨6, _⟩ => ⟨S124x32, .f32⟩
  | .local _ .vmem, ⟨0, _⟩ => ⟨S124x32, .f32⟩
  | .local _ .vmem, ⟨1, _⟩ => ⟨S124x32, .f32⟩
  | .local _ .vmem, ⟨2, _⟩ => ⟨S124x32, .f32⟩
  | .local _ .vmem, ⟨3, _⟩ => ⟨S124x32, .f32⟩
  | .local _ .vmem, ⟨4, _⟩ => ⟨S124x32, .f32⟩
  | .local _ .vmem, ⟨5, _⟩ => ⟨S124x32, .f32⟩
  | .local _ .vmem, ⟨6, _⟩ => ⟨S124x32, .f32⟩
  | _, _ => ⟨S124x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvDRefIdeal.lean ====
abbrev S124x32 : Shape := ⟨2, ![124, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x32, .f32⟩
  | .hbm, ⟨1, _⟩ => ⟨S124x32, .f32⟩
  | .hbm, ⟨2, _⟩ => ⟨S124x32, .f32⟩
  | .hbm, ⟨3, _⟩ => ⟨S124x32, .f32⟩
  | .hbm, ⟨4, _⟩ => ⟨S_, .f32⟩
  | .hbm, ⟨5, _⟩ => ⟨S124x32, .f32⟩
  | .hbm, ⟨6, _⟩ => ⟨S124x32, .f32⟩
  | .hbm, ⟨7, _⟩ => ⟨S_, .f32⟩
  | .hbm, ⟨8, _⟩ => ⟨S124x32, .f32⟩
  | .hbm, ⟨9, _⟩ => ⟨S124x32, .f32⟩
  | .hbm, ⟨10, _⟩ => ⟨S124x32, .f32⟩
  | .hbm, ⟨11, _⟩ => ⟨S_, .f32⟩
  | .hbm, ⟨12, _⟩ => ⟨S124x32, .f32⟩
  | .hbm, ⟨13, _⟩ => ⟨S124x32, .f32⟩
  | .hbm, ⟨14, _⟩ => ⟨S124x32, .f32⟩
  | .hbm, ⟨15, _⟩ => ⟨S_, .f32⟩
  | .hbm, ⟨16, _⟩ => ⟨S124x32, .f32⟩
  | .hbm, ⟨17, _⟩ => ⟨S124x32, .f32⟩
  | .hbm, ⟨18, _⟩ => ⟨S124x32, .f32⟩
  | .hbm, ⟨19, _⟩ => ⟨S_, .f32⟩
  | .hbm, ⟨20, _⟩ => ⟨S124x32, .f32⟩
  | .hbm, ⟨21, _⟩ => ⟨S124x32, .f32⟩
  | .hbm, ⟨22, _⟩ => ⟨S_, .f32⟩
  | .hbm, ⟨23, _⟩ => ⟨S124x32, .f32⟩
  | .hbm, ⟨24, _⟩ => ⟨S124x32, .f32⟩
  | .hbm, ⟨25, _⟩ => ⟨S124x32, .f32⟩
  | .hbm, ⟨26, _⟩ => ⟨S_, .f32⟩
  | .hbm, ⟨27, _⟩ => ⟨S124x32, .f32⟩
  | .hbm, ⟨28, _⟩ => ⟨S124x32, .f32⟩
  | .hbm, ⟨29, _⟩ => ⟨S124x32, .f32⟩
  | .hbm, ⟨30, _⟩ => ⟨S_, .f32⟩
  | .hbm, ⟨31, _⟩ => ⟨S124x32, .f32⟩
  | .hbm, ⟨32, _⟩ => ⟨S124x32, .f32⟩
  | .hbm, ⟨33, _⟩ => ⟨S124x32, .f32⟩
  | .hbm, ⟨34, _⟩ => ⟨S_, .f32⟩
  | .hbm, ⟨35, _⟩ => ⟨S124x32, .f32⟩
  | .hbm, ⟨36, _⟩ => ⟨S124x32, .f32⟩
  | _, _ => ⟨S124x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateBranchNorm.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateBranchNormIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateBranchNormRefIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateFinalNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateFinalNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_13 : BitVec 32 := 0#32
  let v32 : BitVec 1 := Scalar.cmpi .ne v31 c0_i32_13
  v32

def k0_cond2 (i : grid0.Coords) : BitVec 1 :=
  let arg0 : BitVec 32 := BitVec.ofNat 32 (i 0).val
  let c0_i32_14 : BitVec 32 := 0#32
  let v33 : BitVec 1 := Scalar.cmpi .sgt arg0 c0_i32_14
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8x128, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== MixBackward.lean ====
abbrev S8192x1792 : Shape := ⟨2, ![8192, 1792]⟩
abbrev S1024x1792 : Shape := ⟨2, ![1024, 1792]⟩
abbrev S8192x768 : Shape := ⟨2, ![8192, 768]⟩
abbrev S1024x768 : Shape := ⟨2, ![1024, 768]⟩
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x1792 : Shape := ⟨2, ![512, 1792]⟩
abbrev S512x768 : Shape := ⟨2, ![512, 768]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .bf16⟩
  | .hbm, ⟨2, _⟩ => ⟨S8192x768, .bf16⟩
  | .hbm, ⟨3, _⟩ => ⟨S1024x768, .bf16⟩
  | .hbm, ⟨4, _⟩ => ⟨S8192x4096, .bf16⟩
  | .hbm, ⟨5, _⟩ => ⟨S1024x4096, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S512x768, .bf16⟩
  | .local _ .vmem, ⟨4, _⟩ => ⟨S512x768, .bf16⟩
  | .local _ .vmem, ⟨5, _⟩ => ⟨S1024x768, .bf16⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_19 : BitVec 32 := 0#32
  let v27 : BitVec 1 := Scalar.cmpi .ne v26 c0_i32_19
  v27

def k0_cond2 (i : grid0.Coords) : BitVec 1 :=
  let arg0 : BitVec 32 := BitVec.ofNat 32 (i 0).val
  let c0_i32_20 : BitVec 32 := 0#32
  let v28 : BitVec 1 := Scalar.cmpi .sgt arg0 c0_i32_20
  let v29 : BitVec 32 := Scalar.extui v28
  let c0_i32_21 : BitVec 32 := 0#32
  let v30 : BitVec 1 := Scalar.cmpi .ne v29 c0_i32_21
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixBackwardRefIdeal.lean ====
abbrev S8192x1792 : Shape := ⟨2, ![8192, 1792]⟩
abbrev S1024x1792 : Shape := ⟨2, ![1024, 1792]⟩
abbrev S8192x768 : Shape := ⟨2, ![8192, 768]⟩
abbrev S1024x768 : Shape := ⟨2, ![1024, 768]⟩
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1792x1024 : Shape := ⟨2, ![1792, 1024]⟩
abbrev S768x1024 : Shape := ⟨2, ![768, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .bf16⟩
  | .hbm, ⟨2, _⟩ => ⟨S8192x768, .bf16⟩
  | .hbm, ⟨3, _⟩ => ⟨S1024x768, .bf16⟩
  | .hbm, ⟨4, _⟩ => ⟨S8192x4096, .bf16⟩
  | .hbm, ⟨5, _⟩ => ⟨S1024x4096, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1792, .f32⟩
  | .hbm, ⟨10, _⟩ => ⟨S1024x1792, .f32⟩
  | .hbm, ⟨11, _⟩ => ⟨S1792x1024, .f32⟩
  | .hbm, ⟨12, _⟩ => ⟨S8192x1024, .f32⟩
  | .hbm, ⟨13, _⟩ => ⟨S8192x768, .f32⟩
  | .hbm, ⟨14, _⟩ => ⟨S1024x768, .f32⟩
  | .hbm, ⟨15, _⟩ => ⟨S768x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S1024x4096, .f32⟩
  | .hbm, ⟨20, _⟩ => ⟨S4096x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== PleNormBackward.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PleNormBackwardIdeal.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PleNormBackwardRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== FfnNormBackward.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnNormBackwardIdeal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnNormBackwardRefIdeal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x5632, .f32⟩
  | .hbm, ⟨6, _⟩ => ⟨S1024x5632, .f32⟩
  | .hbm, ⟨7, _⟩ => ⟨S5632x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== GradPleProj.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradPleProjIdeal.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradPleProjRefIdeal.lean ====
abbrev S8192x256 : Shape := ⟨2, ![8192, 256]⟩
abbrev S8192x1024 : Shape := ⟨2, ![8192, 1024]⟩
abbrev S256x8192 : Shape := ⟨2, ![256, 8192]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x8192, .f32⟩
  | .hbm, ⟨3, _⟩ => ⟨S8192x1024, .f32⟩
  | .hbm, ⟨4, _⟩ => ⟨S256x1024, .f32⟩
  | .hbm, ⟨5, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradPleGate.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradPleGateIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradPleGateRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | .hbm, ⟨6, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradFfnOut.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnOutIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnOutRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S2816x8192, .f32⟩
  | .hbm, ⟨4, _⟩ => ⟨S2816x1024, .f32⟩
  | .hbm, ⟨5, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFfnIn.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnInIdeal.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnInRefIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S1024x8192, .f32⟩
  | .hbm, ⟨4, _⟩ => ⟨S8192x5632, .f32⟩
  | .hbm, ⟨5, _⟩ => ⟨S1024x5632, .f32⟩
  | .hbm, ⟨6, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x1024, .f32⟩
  | .hbm, ⟨5, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradGates.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGatesIdeal.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGatesRefIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S1024x8192, .f32⟩
  | .hbm, ⟨4, _⟩ => ⟨S8192x4096, .f32⟩
  | .hbm, ⟨5, _⟩ => ⟨S1024x4096, .f32⟩
  | .hbm, ⟨6, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradProjA.lean ====
abbrev S8192x1024 : Shape := ⟨2, ![8192, 1024]⟩
abbrev S8192x1792 : Shape := ⟨2, ![8192, 1792]⟩
abbrev S1024x1792 : Shape := ⟨2, ![1024, 1792]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradProjAIdeal.lean ====
abbrev S8192x1024 : Shape := ⟨2, ![8192, 1024]⟩
abbrev S8192x1792 : Shape := ⟨2, ![8192, 1792]⟩
abbrev S1024x1792 : Shape := ⟨2, ![1024, 1792]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradProjARefIdeal.lean ====
abbrev S8192x1024 : Shape := ⟨2, ![8192, 1024]⟩
abbrev S8192x1792 : Shape := ⟨2, ![8192, 1792]⟩
abbrev S1024x8192 : Shape := ⟨2, ![1024, 8192]⟩
abbrev S1024x1792 : Shape := ⟨2, ![1024, 1792]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S8192x1024, .f32⟩
  | .hbm, ⟨3, _⟩ => ⟨S1024x8192, .f32⟩
  | .hbm, ⟨4, _⟩ => ⟨S8192x1792, .f32⟩
  | .hbm, ⟨5, _⟩ => ⟨S1024x1792, .f32⟩
  | .hbm, ⟨6, _⟩ => ⟨S1024x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradProjQkv.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradProjQkvIdeal.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradProjQkvRefIdeal.lean ====
abbrev S8192x1024 : Shape := ⟨2, ![8192, 1024]⟩
abbrev S8192x768 : Shape := ⟨2, ![8192, 768]⟩
abbrev S1024x8192 : Shape := ⟨2, ![1024, 8192]⟩
abbrev S1024x768 : Shape := ⟨2, ![1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x1024, .f32⟩
  | .hbm, ⟨3, _⟩ => ⟨S1024x8192, .f32⟩
  | .hbm, ⟨4, _⟩ => ⟨S8192x768, .f32⟩
  | .hbm, ⟨5, _⟩ => ⟨S1024x768, .f32⟩
  | .hbm, ⟨6, _⟩ => ⟨S1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradBranch0.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch0Ideal.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch0RefIdeal.lean ====
abbrev S8192x256 : Shape := ⟨2, ![8192, 256]⟩
abbrev S8192x4096 : Shape := ⟨2, ![8192, 4096]⟩
abbrev S256x8192 : Shape := ⟨2, ![256, 8192]⟩
abbrev S8192x1024 : Shape := ⟨2, ![8192, 1024]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S8192x256, .f32⟩
  | .hbm, ⟨3, _⟩ => ⟨S256x8192, .f32⟩
  | .hbm, ⟨4, _⟩ => ⟨S8192x1024, .bf16⟩
  | .hbm, ⟨5, _⟩ => ⟨S8192x1024, .f32⟩
  | .hbm, ⟨6, _⟩ => ⟨S256x1024, .f32⟩
  | .hbm, ⟨7, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradBranch1.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x4096, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch1Ideal.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x4096, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch1RefIdeal.lean ====
abbrev S8192x256 : Shape := ⟨2, ![8192, 256]⟩
abbrev S8192x4096 : Shape := ⟨2, ![8192, 4096]⟩
abbrev S256x8192 : Shape := ⟨2, ![256, 8192]⟩
abbrev S8192x1024 : Shape := ⟨2, ![8192, 1024]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x4096, .bf16⟩
  | .hbm, ⟨2, _⟩ => ⟨S256x8192, .f32⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradBranch2.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch2Ideal.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch2RefIdeal.lean ====
abbrev S8192x256 : Shape := ⟨2, ![8192, 256]⟩
abbrev S8192x4096 : Shape := ⟨2, ![8192, 4096]⟩
abbrev S256x8192 : Shape := ⟨2, ![256, 8192]⟩
abbrev S8192x1024 : Shape := ⟨2, ![8192, 1024]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S8192x256, .f32⟩
  | .hbm, ⟨3, _⟩ => ⟨S256x8192, .f32⟩
  | .hbm, ⟨4, _⟩ => ⟨S8192x1024, .bf16⟩
  | .hbm, ⟨5, _⟩ => ⟨S8192x1024, .f32⟩
  | .hbm, ⟨6, _⟩ => ⟨S256x1024, .f32⟩
  | .hbm, ⟨7, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradBranch3.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch3Ideal.lean ====
abbrev S8192x256 : Shape := ⟨2, ![8192, 256]⟩
abbrev S8192x4096 : Shape := ⟨2, ![8192, 4096]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranch3RefIdeal.lean ====
abbrev S8192x256 : Shape := ⟨2, ![8192, 256]⟩
abbrev S8192x4096 : Shape := ⟨2, ![8192, 4096]⟩
abbrev S256x8192 : Shape := ⟨2, ![256, 8192]⟩
abbrev S8192x1024 : Shape := ⟨2, ![8192, 1024]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S8192x256, .f32⟩
  | .hbm, ⟨3, _⟩ => ⟨S256x8192, .f32⟩
  | .hbm, ⟨4, _⟩ => ⟨S8192x1024, .bf16⟩
  | .hbm, ⟨5, _⟩ => ⟨S8192x1024, .f32⟩
  | .hbm, ⟨6, _⟩ => ⟨S256x1024, .f32⟩
  | .hbm, ⟨7, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjA.lean ====
abbrev S8192x1024 : Shape := ⟨2, ![8192, 1024]⟩
abbrev S1x1024 : Shape := ⟨2, ![1, 1024]⟩
abbrev S1024x1792 : Shape := ⟨2, ![1024, 1792]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S1024x896 : Shape := ⟨2, ![1024, 896]⟩
abbrev S512x896 : Shape := ⟨2, ![512, 896]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .bf16⟩
  | .hbm, ⟨3, _⟩ => ⟨S8192x1792, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S512x1792, .f32⟩
  | .local _ .vmem, ⟨5, _⟩ => ⟨S512x1792, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjAIdeal.lean ====
abbrev S8192x1024 : Shape := ⟨2, ![8192, 1024]⟩
abbrev S1x1024 : Shape := ⟨2, ![1, 1024]⟩
abbrev S1024x1792 : Shape := ⟨2, ![1024, 1792]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S1024x896 : Shape := ⟨2, ![1024, 896]⟩
abbrev S512x896 : Shape := ⟨2, ![512, 896]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .bf16⟩
  | .hbm, ⟨3, _⟩ => ⟨S8192x1792, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S512x1792, .f32⟩
  | .local _ .vmem, ⟨5, _⟩ => ⟨S512x1792, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjARefIdeal.lean ====
abbrev S8192x1024 : Shape := ⟨2, ![8192, 1024]⟩
abbrev S1x1024 : Shape := ⟨2, ![1, 1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S8192x1792 : Shape := ⟨2, ![8192, 1792]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x1792, .f32⟩
  | .hbm, ⟨19, _⟩ => ⟨S8192x1792, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjQkv.lean ====
abbrev S8192x1024 : Shape := ⟨2, ![8192, 1024]⟩
abbrev S1x1024 : Shape := ⟨2, ![1, 1024]⟩
abbrev S1024x768 : Shape := ⟨2, ![1024, 768]⟩
abbrev S8192x768 : Shape := ⟨2, ![8192, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x768, .bf16⟩
  | .hbm, ⟨3, _⟩ => ⟨S8192x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjQkvIdeal.lean ====
abbrev S8192x1024 : Shape := ⟨2, ![8192, 1024]⟩
abbrev S1x1024 : Shape := ⟨2, ![1, 1024]⟩
abbrev S1024x768 : Shape := ⟨2, ![1024, 768]⟩
abbrev S8192x768 : Shape := ⟨2, ![8192, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x768, .bf16⟩
  | .hbm, ⟨3, _⟩ => ⟨S8192x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjQkvRefIdeal.lean ====
abbrev S8192x1024 : Shape := ⟨2, ![8192, 1024]⟩
abbrev S1x1024 : Shape := ⟨2, ![1, 1024]⟩
abbrev S1024x768 : Shape := ⟨2, ![1024, 768]⟩
abbrev S_ : Shape := ⟨0, ![]⟩
abbrev S8192 : Shape := ⟨1, ![8192]⟩
abbrev S8192x1 : Shape := ⟨2, ![8192, 1]⟩
abbrev S8192x768 : Shape := ⟨2, ![8192, 768]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x768, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x768, .f32⟩
  | .hbm, ⟨19, _⟩ => ⟨S8192x768, .f32⟩
  | .hbm, ⟨20, _⟩ => ⟨S8192x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjGates.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjGatesIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjGatesRefIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== FfnIn.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S8192x5632, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnInIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S8192x5632, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnInRefIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x5632, .f32⟩
  | .hbm, ⟨19, _⟩ => ⟨S8192x5632, .f32⟩
  | .hbm, ⟨20, _⟩ => ⟨S8192x5632, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== PleGate.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleGateRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Merge.lean ====
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S8192x1024 : Shape := ⟨2, ![8192, 1024]⟩
abbrev S256x256 : Shape := ⟨2, ![256, 256]⟩
abbrev S256x4096 : Shape := ⟨2, ![256, 4096]⟩
abbrev S256x1024 : Shape := ⟨2, ![256, 1024]⟩
abbrev S1x256x1024 : Shape := ⟨3, ![1, 256, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S8192x256, .bf16⟩
  | .hbm, ⟨3, _⟩ => ⟨S8192x256, .bf16⟩
  | .hbm, ⟨4, _⟩ => ⟨S8192x4096, .bf16⟩
  | .hbm, ⟨5, _⟩ => ⟨S4x256x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x4096, .bf16⟩
  | .local _ .vmem, ⟨9, _⟩ => ⟨S256x4096, .bf16⟩
  | .local _ .vmem, ⟨10, _⟩ => ⟨S4x256x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S8192x1024 : Shape := ⟨2, ![8192, 1024]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S8192x256, .bf16⟩
  | .hbm, ⟨3, _⟩ => ⟨S8192x256, .bf16⟩
  | .hbm, ⟨4, _⟩ => ⟨S8192x4096, .bf16⟩
  | .hbm, ⟨5, _⟩ => ⟨S4x256x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x256, .f32⟩
  | .hbm, ⟨11, _⟩ => ⟨S1x256x1024, .bf16⟩
  | .hbm, ⟨12, _⟩ => ⟨S256x1024, .bf16⟩
  | .hbm, ⟨13, _⟩ => ⟨S256x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S1x256x1024, .bf16⟩
  | .hbm, ⟨22, _⟩ => ⟨S256x1024, .bf16⟩
  | .hbm, ⟨23, _⟩ => ⟨S256x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x256, .f32⟩
  | .hbm, ⟨30, _⟩ => ⟨S1x256x1024, .bf16⟩
  | .hbm, ⟨31, _⟩ => ⟨S256x1024, .bf16⟩
  | .hbm, ⟨32, _⟩ => ⟨S256x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S8192x256, .f32⟩
  | .hbm, ⟨39, _⟩ => ⟨S1x256x1024, .bf16⟩
  | .hbm, ⟨40, _⟩ => ⟨S256x1024, .bf16⟩
  | .hbm, ⟨41, _⟩ => ⟨S256x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== MergeBackward.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 14
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .f32⟩
  | .hbm, ⟨3, _⟩ => ⟨S8192x256, .bf16⟩
  | .hbm, ⟨4, _⟩ => ⟨S8192x256, .bf16⟩
  | .hbm, ⟨5, _⟩ => ⟨S8192x4096, .bf16⟩
  | .hbm, ⟨6, _⟩ => ⟨S4x256x1024, .bf16⟩
  | .hbm, ⟨7, _⟩ => ⟨S1024x1024, .bf16⟩
  | .hbm, ⟨8, _⟩ => ⟨S8192x4096, .bf16⟩
  | .hbm, ⟨9, _⟩ => ⟨S8192x4096, .bf16⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x4096, .bf16⟩
  | .local _ .vmem, ⟨11, _⟩ => ⟨S256x4096, .bf16⟩
  | .local _ .vmem, ⟨12, _⟩ => ⟨S4x256x1024, .bf16⟩
  | .local _ .vmem, ⟨13, _⟩ => ⟨S1024x1024, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeBackwardRefIdeal.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S1x256x1024 : Shape := ⟨3, ![1, 256, 1024]⟩
abbrev S256x1024 : Shape := ⟨2, ![256, 1024]⟩
abbrev S_ : Shape := ⟨0, ![]⟩
abbrev S1024x256 : Shape := ⟨2, ![1024, 256]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .f32⟩
  | .hbm, ⟨3, _⟩ => ⟨S8192x256, .bf16⟩
  | .hbm, ⟨4, _⟩ => ⟨S8192x256, .bf16⟩
  | .hbm, ⟨5, _⟩ => ⟨S8192x4096, .bf16⟩
  | .hbm, ⟨6, _⟩ => ⟨S4x256x1024, .bf16⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S8192x256, .f32⟩
  | .hbm, ⟨20, _⟩ => ⟨S1x256x1024, .bf16⟩
  | .hbm, ⟨21, _⟩ => ⟨S256x1024, .bf16⟩
  | .hbm, ⟨22, _⟩ => ⟨S256x1024, .f32⟩
  | .hbm, ⟨23, _⟩ => ⟨S8192x1024, .f32⟩
  | .hbm, ⟨24, _⟩ => ⟨S1x256x1024, .bf16⟩
  | .hbm, ⟨25, _⟩ => ⟨S256x1024, .bf16⟩
  | .hbm, ⟨26, _⟩ => ⟨S256x1024, .f32⟩
  | .hbm, ⟨27, _⟩ => ⟨S8192x1024, .f32⟩
  | .hbm, ⟨28, _⟩ => ⟨S8192x256, .f32⟩
  | .hbm, ⟨29, _⟩ => ⟨S1x256x1024, .bf16⟩
  | .hbm, ⟨30, _⟩ => ⟨S256x1024, .bf16⟩
  | .hbm, ⟨31, _⟩ => ⟨S256x1024, .f32⟩
  | .hbm, ⟨32, _⟩ => ⟨S8192x1024, .f32⟩
  | .hbm, ⟨33, _⟩ => ⟨S8192x256, .f32⟩
  | .hbm, ⟨34, _⟩ => ⟨S1x256x1024, .bf16⟩
  | .hbm, ⟨35, _⟩ => ⟨S256x1024, .bf16⟩
  | .hbm, ⟨36, _⟩ => ⟨S256x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x4096, .f32⟩
  | .hbm, ⟨67, _⟩ => ⟨S8192x4096, .bf16⟩
  | .hbm, ⟨68, _⟩ => ⟨S8192x4096, .f32⟩
  | .hbm, ⟨69, _⟩ => ⟨S8192x4096, .bf16⟩
  | .hbm, ⟨70, _⟩ => ⟨S1x256x1024, .bf16⟩
  | .hbm, ⟨71, _⟩ => ⟨S256x1024, .bf16⟩
  | .hbm, ⟨72, _⟩ => ⟨S256x1024, .f32⟩
  | .hbm, ⟨73, _⟩ => ⟨S1024x256, .f32⟩
  | .hbm, ⟨74, _⟩ => ⟨S8192x256, .f32⟩
  | .hbm, ⟨75, _⟩ => ⟨S1x256x1024, .bf16⟩
  | .hbm, ⟨76, _⟩ => ⟨S256x1024, .bf16⟩
  | .hbm, ⟨77, _⟩ => ⟨S256x1024, .f32⟩
  | .hbm, ⟨78, _⟩ => ⟨S1024x256, .f32⟩
  | .hbm, ⟨79, _⟩ => ⟨S8192x256, .f32⟩
  | .hbm, ⟨80, _⟩ => ⟨S1x256x1024, .bf16⟩
  | .hbm, ⟨81, _⟩ => ⟨S256x1024, .bf16⟩
  | .hbm, ⟨82, _⟩ => ⟨S256x1024, .f32⟩
  | .hbm, ⟨83, _⟩ => ⟨S1024x256, .f32⟩
  | .hbm, ⟨84, _⟩ => ⟨S8192x256, .f32⟩
  | .hbm, ⟨85, _⟩ => ⟨S1x256x1024, .bf16⟩
  | .hbm, ⟨86, _⟩ => ⟨S256x1024, .bf16⟩
  | .hbm, ⟨87, _⟩ => ⟨S256x1024, .f32⟩
  | .hbm, ⟨88, _⟩ => ⟨S1024x256, .f32⟩
  | .hbm, ⟨89, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_2 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩

abbrev nD : Nat := 1
abbrev τ : Topo := Topo.v7x

variable {F : FTy → Type} [FloatOps F]
-- ==== FfnOut.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S512x2816 : Shape := ⟨2, ![512, 2816]⟩
abbrev S1408x1024 : Shape := ⟨2, ![1408, 1024]⟩
abbrev S512x1024 : Shape := ⟨2, ![512, 1024]⟩
abbrev S512x1408 : Shape := ⟨2, ![512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .bf16⟩
  | .local _ .vmem, ⟨0, _⟩ => ⟨S512x2816, .bf16⟩
  | .local _ .vmem, ⟨1, _⟩ => ⟨S512x2816, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1408, .bf16⟩
  | .local _ .vmem, ⟨9, _⟩ => ⟨S512x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnOutRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x1408 : Shape := ⟨2, ![8192, 1408]⟩
abbrev S8192x2816 : Shape := ⟨2, ![8192, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x5632, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== FfnBackward.lean ====
abbrev S8192x1024 : Shape := ⟨2, ![8192, 1024]⟩
abbrev S2816x1024 : Shape := ⟨2, ![2816, 1024]⟩
abbrev S8192x5632 : Shape := ⟨2, ![8192, 5632]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnBackwardRefIdeal.lean ====
abbrev S8192x1024 : Shape := ⟨2, ![8192, 1024]⟩
abbrev S2816x1024 : Shape := ⟨2, ![2816, 1024]⟩
abbrev S8192x5632 : Shape := ⟨2, ![8192, 5632]⟩
abbrev S8192x1408 : Shape := ⟨2, ![8192, 1408]⟩
abbrev S8192x2816 : Shape := ⟨2, ![8192, 2816]⟩
abbrev S_ : Shape := ⟨0, ![]⟩
abbrev S1024x2816 : Shape := ⟨2, ![1024, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x5632, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S1024x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1408, .f32⟩
  | .hbm, ⟨34, _⟩ => ⟨S8192x1408, .f32⟩
  | .hbm, ⟨35, _⟩ => ⟨S8192x1408, .f32⟩
  | .hbm, ⟨36, _⟩ => ⟨S8192x1408, .f32⟩
  | .hbm, ⟨37, _⟩ => ⟨S8192x5632, .f32⟩
  | .hbm, ⟨38, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== PleOut.lean ====
abbrev S8192x1024 : Shape := ⟨2, ![8192, 1024]⟩
abbrev S8192x256 : Shape := ⟨2, ![8192, 256]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S8192x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleOutRefIdeal.lean ====
abbrev S8192x1024 : Shape := ⟨2, ![8192, 1024]⟩
abbrev S8192x256 : Shape := ⟨2, ![8192, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== PleBackward.lean ====
abbrev S8192x1024 : Shape := ⟨2, ![8192, 1024]⟩
abbrev S8192x256 : Shape := ⟨2, ![8192, 256]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .bf16⟩
  | .hbm, ⟨4, _⟩ => ⟨S8192x1024, .bf16⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleBackwardRefIdeal.lean ====
abbrev S8192x1024 : Shape := ⟨2, ![8192, 1024]⟩
abbrev S8192x256 : Shape := ⟨2, ![8192, 256]⟩
abbrev S256x1024 : Shape := ⟨2, ![256, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .bf16⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ShortConv.lean ====
abbrev S8192x1792 : Shape := ⟨2, ![8192, 1792]⟩
abbrev S3x256 : Shape := ⟨2, ![3, 256]⟩
abbrev S8192x256 : Shape := ⟨2, ![8192, 256]⟩
abbrev S512x256 : Shape := ⟨2, ![512, 256]⟩
abbrev S8x256 : Shape := ⟨2, ![8, 256]⟩
abbrev S520x256 : Shape := ⟨2, ![520, 256]⟩
abbrev S1x256 : Shape := ⟨2, ![1, 256]⟩
abbrev S64x256 : Shape := ⟨2, ![64, 256]⟩

abbrev nBuf : Space → Nat
  | .hbm => 3
  | .vmem => 14
  | .smem => 0
  | _ => 0

abbrev bufTy : (tb : Table) → Fin (tcTables nBuf tb) → BufTy
  | .hbm, ⟨0, _⟩ => ⟨S8192x1792, .f32⟩
  | .hbm, ⟨1, _⟩ => ⟨S3x256, .f32⟩
  | .hbm, ⟨2, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S3x256, .f32⟩
  | .local _ .vmem, ⟨11, _⟩ => ⟨S512x256, .bf16⟩
  | .local _ .vmem, ⟨12, _⟩ => ⟨S512x256, .bf16⟩
  | .local _ .vmem, ⟨13, _⟩ => ⟨S520x256, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ShortConvRefIdeal.lean ====
abbrev S8192x1792 : Shape := ⟨2, ![8192, 1792]⟩
abbrev S3x256 : Shape := ⟨2, ![3, 256]⟩
abbrev S8192x256 : Shape := ⟨2, ![8192, 256]⟩
abbrev S_ : Shape := ⟨0, ![]⟩
abbrev S8194x256 : Shape := ⟨2, ![8194, 256]⟩
abbrev S1x256 : Shape := ⟨2, ![1, 256]⟩

abbrev nBuf : Space → Nat
  | .hbm => 28
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S3x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .i32⟩
  | .hbm, ⟨7, _⟩ => ⟨S_, .f32⟩
  | .hbm, ⟨8, _⟩ => ⟨S8194x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Gating.lean ====
abbrev S8192x1792 : Shape := ⟨2, ![8192, 1792]⟩
abbrev S1x256 : Shape := ⟨2, ![1, 256]⟩
abbrev S4x128x128 : Shape := ⟨3, ![4, 128, 128]⟩
abbrev S128x4 : Shape := ⟨2, ![128, 4]⟩
abbrev S8192x256 : Shape := ⟨2, ![8192, 256]⟩
abbrev S512x256 : Shape := ⟨2, ![512, 256]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S8192x1792, .f32⟩
  | .hbm, ⟨1, _⟩ => ⟨S1x256, .f32⟩
  | .hbm, ⟨2, _⟩ => ⟨S1x256, .f32⟩
  | .hbm, ⟨3, _⟩ => ⟨S4x128x128, .f32⟩
  | .hbm, ⟨4, _⟩ => ⟨S128x4, .f32⟩
  | .hbm, ⟨5, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x4, .f32⟩
  | .local _ .vmem, ⟨8, _⟩ => ⟨S512x256, .bf16⟩
  | .local _ .vmem, ⟨9, _⟩ => ⟨S512x256, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatingRefIdeal.lean ====
abbrev S8192x1792 : Shape := ⟨2, ![8192, 1792]⟩
abbrev S1x256 : Shape := ⟨2, ![1, 256]⟩
abbrev S4x128x128 : Shape := ⟨3, ![4, 128, 128]⟩
abbrev S128x4 : Shape := ⟨2, ![128, 4]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S64x128x4x64 : Shape := ⟨4, ![64, 128, 4, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x64x64x128 : Shape := ⟨4, ![4, 64, 64, 128]⟩
abbrev S1x128x4x1 : Shape := ⟨4, ![1, 128, 4, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S1x256, .f32⟩
  | .hbm, ⟨2, _⟩ => ⟨S1x256, .f32⟩
  | .hbm, ⟨3, _⟩ => ⟨S4x128x128, .f32⟩
  | .hbm, ⟨4, _⟩ => ⟨S128x4, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S64x128x4x64, .f32⟩
  | .hbm, ⟨33, _⟩ => ⟨S128, .i32⟩
  | .hbm, ⟨34, _⟩ => ⟨S128x1, .i32⟩
  | .hbm, ⟨35, _⟩ => ⟨S1x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S1x128x128, .i1⟩
  | .hbm, ⟨40, _⟩ => ⟨S_, .f32⟩
  | .hbm, ⟨41, _⟩ => ⟨S_, .f32⟩
  | .hbm, ⟨42, _⟩ => ⟨S4x128x128, .i1⟩
  | .hbm, ⟨43, _⟩ => ⟨S4x128x128, .f32⟩
  | .hbm, ⟨44, _⟩ => ⟨S4x128x128, .f32⟩
  | .hbm, ⟨45, _⟩ => ⟨S4x64x64x128, .f32⟩
  | .hbm, ⟨46, _⟩ => ⟨S64x128x4x64, .f32⟩
  | .hbm, ⟨47, _⟩ => ⟨S1x128x4x1, .f32⟩
  | .hbm, ⟨48, _⟩ => ⟨S64x128x4x64, .f32⟩
  | .hbm, ⟨49, _⟩ => ⟨S64x128x4x64, .f32⟩
  | .hbm, ⟨50, _⟩ => ⟨S8192x256, .f32⟩
  | .hbm, ⟨51, _⟩ => ⟨S8192x256, .f32⟩
  | .hbm, ⟨52, _⟩ => ⟨S8192x256, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== ConfNormBackward.lean ====
abbrev S8192x256 : Shape := ⟨2, ![8192, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x256, .f32⟩
  | .hbm, ⟨3, _⟩ => ⟨S1x256, .f32⟩
  | .hbm, ⟨4, _⟩ => ⟨S8192x256, .f32⟩
  | .hbm, ⟨5, _⟩ => ⟨S1x256, .f32⟩
  | .hbm, ⟨6, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConfNormBackwardRefIdeal.lean ====
abbrev S8192x256 : Shape := ⟨2, ![8192, 256]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S256 : Shape := ⟨1, ![256]⟩

abbrev nBuf : Space → Nat
  | .hbm => 75
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S_, .f32⟩
  | .hbm, ⟨73, _⟩ => ⟨S256, .f32⟩
  | .hbm, ⟨74, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Proof.EarlyLaunch.lean ====
/-
  Launching a program whose first operation is a kernel call that talks across devices with no
  handshake before its copies. A copy may be credited on a device that has not entered its call yet,
  so the cells of the call's own semaphores are opened at the launch, on every device at once: the
  launch hands the certificate those semaphores at zero beside the unscoped buffers (`hinit`), and
  they come back as counters at zero when the call returns. The rest of the program runs as a list of segments.
-/
module

public import Idealize.ShloMosaic.Lib.Pipeline.Regions
public import Idealize.ShloMosaic.Lib.Pipeline.Kit
public import Idealize.ShloMosaic.Lib.Quiescent
public import Idealize.ShloMosaic.Lib.Tactic
public import Idealize.ShloMosaic.Harness.Basic

@[expose] public section

noncomputable section

namespace Cert.Early

open Idealize.ShloMosaic Idealize.ShloMosaic.TcCoe
open Idealize.SL Idealize.SL.RA
open Idealize.SL.BI (sProp bigSep bigSep_sep' bigSep_mono bigSep_congr bigSep_univ_prod bigSep_empty bigSep_emp_const bigSep_bupd bupd_mono
  bigSep_sdiff_split bigSep_intro_persistent)
open scoped Idealize.SL.BI
open Idealize.SL.BI.BIBase Idealize.SL.BI.Laws Idealize.SL.ProofMode Idealize.SL.Sem
open Idealize.ShloMosaic.Rounds Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The semaphores of `own`, on device `c`, at zero. -/
def ownZero (own : Finset (SemLoc sig)) (c : Dev nD) : sProp 𝕄 :=
  bigSep own fun sm => semVal ((c.tc : Thread nD τ), sm) 0

/-- The scoped semaphores outside `own`, on device `c`, at zero. -/
def restZero (own : Finset (SemLoc sig)) (c : Dev nD) : sProp 𝕄 :=
  bigSep ((Finset.univ.filter fun sm : SemLoc sig => sm.isScoped .tc) \ own) fun sm => semVal ((c.tc : Thread nD τ), sm) 0

/-- A core's scoped semaphores at zero are those of `own` and the rest. -/
theorem scoped_split (own : Finset (SemLoc sig)) (hown : ∀ sm ∈ own, sm.isScoped .tc = true) (c : Dev nD) :
    (scopedSems0 (c.tc : Thread nD τ) : sProp 𝕄) = iprop(ownZero own c ∗ restZero own c) := by
  rw [show (c.tc : Thread nD τ) = (c, Proc.tc) from rfl, scopedSems0_tc]
  unfold ownZero restZero
  exact bigSep_sdiff_split fun sm h => Finset.mem_filter.2 ⟨Finset.mem_univ _, hown sm h⟩

variable {Λ₀ : Labels} {P : Type} [Fintype P]
variable (pcs : P → PCfg sig Λ₀ Val) (a : (p : P) → (pcs p).Adm)
variable (pdats : (p : P) → (c : Dev nD) → Dat τ Val Ix Name U Lvl (pin pcs a p) c) (ι : Ix)
variable (phinj : Function.Injective (cellOf (nD := nD) (τ := τ) (pin pcs a)))
variable (EP : Emb (URounds (GSem nD τ sig) Unit) (MT nD τ sig Ix Val Name U Lvl))
variable (defs₀ : Defs nD τ sig Val Λ₀) (𝒱₀ : Variants) (L : GSem nD τ sig → Finset Ix) (lv : GSem nD τ sig → Ix → Lvl)

local notation "𝔻" => Pipeline.defs pcs defs₀
local notation "𝕍" => Variants.lift 𝒱₀

/-- The levels of the launch, assigned as `lv` says on the pairs `L`. -/
theorem levels_assign [Preorder Lvl] (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (bigSep_bupd _ _).trans <| bupd_mono ?_
  have hnone : ∀ d : Dev nD, (bigSep (Finset.univ.erase Proc.tc) fun p => (coreLevAts ((d, p) : Thread nD τ) L lv : sProp 𝕄)) = BI.emp := fun d => by
    rw [bigSep_congr (Ψ := fun _ : Proc τ => (BI.emp : sProp 𝕄)) fun p hp => ?_, bigSep_emp_const]
    unfold coreLevAts
    rw [bigSep_congr (Ψ := fun _ : SemLoc sig => (BI.emp : sProp 𝕄)) fun sm _ => ?_, bigSep_emp_const]
    rw [hL (((d, p) : Thread nD τ), sm) (Finset.ne_of_mem_erase hp), bigSep_empty]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), bigSep_congr fun d _ => hnone d, bigSep_emp_const]
  refine (Entails.of_eq (bigSep_sep' _ _ _)).trans ?_
  have hdrop (A B : sProp 𝕄) : iprop(A ∗ B) ⊢ iprop(B ∗ emp) := by
    iintro ⟨-, H⟩
    isplitl [H]; · iexact H
    iempintro
  exact hdrop _ _

include phinj in
/-- The launch. `own` are the first call's own scoped semaphores; `T₀ c` is what device `c` enters the call with,
    made on all devices at once, `hfirst` the call, `rest c` the segments after it. -/
theorem run_early [DecidableEq P] [∀ e, Nonempty (Val e)] [Infinite Name] [Preorder Lvl] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (p₀ : P) (rest : List (Seg pcs a pdats ι defs₀ 𝒱₀ L lv))
    (hmain : ∀ c (Q : PUnit → sProp 𝕄), wp frame (wpE 𝔻 𝕍 (c.tc : Thread nD τ) none) Set.univ
        (.op (.customCall (entry p₀) ()) fun _ => Seg.run rest) Q
      ⊢ wp frame (wpE 𝔻 𝕍 (c.tc : Thread nD τ) none) Set.univ (main c) Q)
    (hnd : (Seg.pipes rest).Nodup)
    (own : Finset (SemLoc sig)) (hown : ∀ sm ∈ own, sm.isScoped .tc = true)
    (O₀ : Dev nD → CellTallies nD τ sig Ix) (hL : ∀ g : GSem nD τ sig, g.1.2 ≠ .tc → L g = ∅)
    (G : sProp 𝕄) (u₀ : U)
    (hu₀ : (ownU u₀ : sProp 𝕄)
      ⊢ |={Set.univ}=> iprop(BI.own (EP (initOf (cells (pin pcs a) phinj) (launchToks (pin pcs a) phinj))) ∗ G))
    (T₀ T₁ Tₙ : Dev nD → sProp 𝕄)
    (hch : Seg.Chains T₁ rest fun c => iprop(Tₙ c ∗ ∃ W, owes (c.tc : Thread nD τ) (0 : CellTallies nD τ sig Ix) W))
    (hinit : iprop((bigSep Finset.univ fun c : Dev nD => iprop(unscopedBufs c (fun b => m ((c.tc : Thread nD τ).loc b)) ∗ ownZero own c ∗ unscopedSems0 c
          ∗ owes (c.tc : Thread nD τ) (O₀ c) ∅ ∗ launchCred O₀ c)) ∗ G ∗ levAts L lv)
      ⊢ |={Set.univ}=> bigSep Finset.univ T₀)
    (hfirst : ∀ (c : Dev nD) (k : PUnit → Prog (TpuEff nD τ sig Val (Sig Λ₀ P fun p => (pcs p).Adm) .tc) PUnit) (Q : PUnit → sProp 𝕄),
      iprop((iprop(boundary (c.tc : Thread nD τ) ∗ T₁ c) -∗ wp frame (wpE 𝔻 𝕍 (c.tc : Thread nD τ) none) Set.univ (k ⟨⟩) Q)
          ∗ scopedBufs (c.tc : Thread nD τ) ∗ restZero own c ∗ opIdle (c.tc : Thread nD τ) ∗ T₀ c ∗ levAts L lv)
        ⊢ wp frame (wpE 𝔻 𝕍 (c.tc : Thread nD τ) none) Set.univ (.op (.customCall (entry p₀) ()) k) Q)
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let held : Dev nD → sProp 𝕄 := fun c => iprop(scopedBufs (c.tc : Thread nD τ) ∗ restZero own c ∗ opIdle (c.tc : Thread nD τ))
  let dealt : Dev nD → sProp 𝕄 := fun c => iprop(unscopedBufs c (fun b => m ((c.tc : Thread nD τ).loc b)) ∗ ownZero own c ∗ unscopedSems0 c
          ∗ owes (c.tc : Thread nD τ) (O₀ c) ∅ ∗ launchCred O₀ c)
  let pre : Dev nD → sProp 𝕄 := fun c => iprop(held c ∗ T₀ c ∗ levAts L lv ∗ ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ held) ∗ (bigSep Finset.univ dealt)
            ∗ (bigSep Finset.univ fun c : Dev nD => levels0 (Ix := Ix) (Val := Val) (Name := Name) (U := U) (Lvl := Lvl) (τ := τ) (sig := sig) c) : sProp 𝕄) := by
      rw [← bigSep_sep', ← bigSep_sep']
      refine bigSep_mono fun c _ => (coreInit_boundary_owing O₀ m g c).trans ?_
      show iprop((scopedBufs (c.tc : Thread nD τ) ∗ scopedSems0 (c.tc : Thread nD τ) ∗ opIdle (c.tc : Thread nD τ))
        ∗ unscopedBufs c (fun b => m ((c.tc : Thread nD τ).loc b)) ∗ unscopedSems0 c
              ∗ owes (c.tc : Thread nD τ) (O₀ c) ∅ ∗ levels0 c ∗ prngReg c (g c) ∗ launchCred O₀ c) ⊢ iprop(held c ∗ dealt c ∗ levels0 c)
      rw [scoped_split own hown c]
      iintro ⟨⟨Hsb, ⟨Hown, Hrest⟩, Hidle⟩, Hub, Hus, HL, Hlv, -, Hcr⟩
      isplitl [Hsb Hrest Hidle]
      · isplitl [Hsb]; · iexact Hsb
        isplitl [Hrest] <;> iassumption
      isplitr [Hlv]
      · isplitl [Hub]; · iexact Hub
        isplitl [Hown]; · iexact Hown
        isplitl [Hus]; · iexact Hus
        isplitl [HL] <;> iassumption
      iexact Hlv
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c := by
      rw [← bigSep_sep']
      refine bigSep_mono fun c _ => ?_
      unfold ghostOn PerCore.ghostOn
      rw [bigSep_sep']
      exact BI.Entails.refl _
    iintro ⟨Hcores, Hu⟩
    ihave Hc := hcores $$ Hcores
    icases Hc with ⟨Hb, Hh, Hlv⟩
    imod (levels_assign L lv hL) $$ Hlv with #Hla
    imod hu₀ $$ Hu with ⟨HP, HG⟩
    imod (fund_ghost (pin pcs a) EP phinj) $$ HP with ⟨Hg, Ht⟩
    imod hinit $$ [Hh HG] with HT
    · isplitl [Hh]; · iexact Hh
      isplitl [HG] <;> iassumption
    imodintro
    iexists ()
    isplitr []
    · simp only [pre, bigSep_sep']
      isplitl [Hb]; · iexact Hb
      isplitl [HT]; · iexact HT
      isplitr; · iapply (bigSep_intro_persistent (S := Finset.univ) fun (c : Dev nD) _ => (BI.Entails.refl (levAts L lv : sProp 𝕄))); iexact Hla
      iapply hghost
      isplitl [Hg] <;> iassumption
    · iempintro
  · simp only [pre, held]
    refine Entails.trans ?_ (hmain c _)
    iintro ⟨⟨Hsb, Hrest, Hidle⟩, HT, #Hla, Hg⟩
    iapply (hfirst c (fun _ => Seg.run rest) _)
    isplitl [Hg]
    · iintro ⟨Hbd, HT⟩
      iapply (wp_segs pcs a pdats ι phinj EP defs₀ 𝒱₀ L lv c rest Finset.univ T₁ _ hnd (fun p _ => Finset.mem_univ p) hch)
      isplitr [Hbd HT Hg]
      · iintro ⟨Hbd', HT, HW⟩
        unfold post; simp only [liftTc_tc, fin]
        isplitl [HT Hbd']
        · isplitl [HT]; · iexact HT
          iexact Hbd'
        iexact HW
      · isplitl [Hbd]; · iexact Hbd
        isplitl [HT]; · iexact HT
        isplitr; · iexact Hla
        iexact Hg
    · isplitl [Hsb]; · iexact Hsb
      isplitl [Hrest]; · iexact Hrest
      isplitl [Hidle]; · iexact Hidle
      isplitl [HT]; · iexact HT
      iexact Hla
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

include phinj in
/-- A first call with no windows and one point: its body takes `A c` and what the core owes at the launch to `B c`,
    the own semaphores at zero and nothing owed. -/
theorem first_bare [Infinite Name] [∀ e, Nonempty (Val e)] [Preorder Lvl] [EP.LandsIn (upEmb : UEmb _ 𝕄)] (p : P)
    (hW : (pcs p).W = 0) (hK : (pcs p).pre.K = 0)
    (own : Finset (SemLoc sig)) (hown : ∀ sm ∈ own, sm.isScoped .tc = true)
    (A B : Dev nD → sProp 𝕄) (c : Dev nD)
    (hbody : BodyObligation (pdats p c) defs₀ 𝒱₀ ι Set.univ)
    (hin : iprop(A c ∗ levAts L lv ∗ scopedBufs (c.tc : Thread nD τ)) ⊢ (pdats p c).Φ 0)
    (hout : (pdats p c).Φ (Fin.last (pin pcs a p).N) ⊢ iprop(B c ∗ ownZero own c ∗ scopedBufs (c.tc : Thread nD τ)))
    (k : PUnit → Prog (TpuEff nD τ sig Val (Sig Λ₀ P fun p => (pcs p).Adm) .tc) PUnit) (Q : PUnit → sProp 𝕄) :
    iprop((iprop(boundary (c.tc : Thread nD τ) ∗ B c ∗ (pdats p c).owesAt ι (Fin.last (pin pcs a p).N))
          -∗ wp frame (wpE 𝔻 𝕍 (c.tc : Thread nD τ) none) Set.univ (k ⟨⟩) Q)
        ∗ scopedBufs (c.tc : Thread nD τ) ∗ restZero own c ∗ opIdle (c.tc : Thread nD τ) ∗ (A c ∗ (pdats p c).owesAt ι 0) ∗ levAts L lv)
      ⊢ wp frame (wpE 𝔻 𝕍 (c.tc : Thread nD τ) none) Set.univ (.op (.customCall (entry p) ()) k) Q := by
  have : IsEmpty (Fin (pcs p).W) := by rw [hW]; infer_instance
  have : IsEmpty (Fin (pcs p).pre.K) := by rw [hK]; infer_instance
  have hemp : ∀ Φ : Fin (pin pcs a p).W → sProp 𝕄, bigSep Finset.univ Φ = BI.emp := fun Φ => by
    rw [Finset.univ_eq_empty (α := Fin (pcs p).W)]; exact bigSep_empty
  have hst : (Dat.staging (pin pcs a p) c : sProp 𝕄) = BI.emp := hemp _
  have hcs : (cellsSems0 (pin pcs a) p c : sProp 𝕄) = BI.emp := hemp _
  have hpf : (prefHeld (pcs p).pre c (fun _ => fullShare) (a p).1 : sProp 𝕄) = BI.emp := by
    unfold prefHeld; rw [Finset.univ_eq_empty (α := Fin (pcs p).pre.K)]; exact bigSep_empty
  have hpre : ((pdats p c).owesAt ι 0 : sProp 𝕄) ⊢ EntryPre (pin pcs a) pdats ι EP (fun _ => Classical.arbitrary Name) p c := by
    unfold EntryPre PerCore.EntryPre
    rw [show (pdats p c).arrays ((pdats p c).arrAt · 0) = BI.emp from hemp _,
      show PerCore.cellsWaits (fun _ : Dev nD => pin pcs a) pdats ι p c = BI.emp from hemp _,
      show PerCore.cellsInit (fun _ : Dev nD => pin pcs a) pdats EP (fun _ => Classical.arbitrary Name) p c = BI.emp from hemp _,
      show PerCore.toksInit (fun _ : Dev nD => pin pcs a) EP p c = BI.emp from hemp _]
    iintro H
    isplitr; · iempintro
    isplitl [H]; · iexact H
    isplitr; · iempintro
    isplitr <;> iempintro
  have hpost : EntryPost (pin pcs a) pdats ι p c ⊢ ((pdats p c).owesAt ι (Fin.last (pin pcs a p).N) : sProp 𝕄) := by
    unfold EntryPost PerCore.EntryPost
    iintro ⟨-, H⟩
    iexact H
  have hwp := wp_customCall_entry_frame pcs a pdats ι EP (fun _ => Classical.arbitrary Name) phinj p defs₀ 𝒱₀ (fun _ => fullShare) c Set.univ (fun _ _ => Set.mem_univ _)
    hbody.loose (fun w => isEmptyElim (α := Fin (pcs p).W) w) none (fun u h => nomatch h)
    (X := iprop(A c ∗ levAts L lv)) (Y := B c) (R := scopedBufs (c.tc : Thread nD τ)) (I := restZero own c)
    (by
      rw [hst]
      iintro H
      isplitr [H]; · iempintro
      iexact H)
    (by
      rw [hpf]
      refine Entails.trans ?_ hin
      iintro ⟨⟨HA, HL⟩, -, H⟩
      isplitl [HA]; · iexact HA
      isplitl [HL] <;> iassumption)
    (by
      rw [hst, hcs, scoped_split own hown c]
      refine (sep_mono_left hout).trans ?_
      iintro ⟨⟨HB, Hown, Hbufs⟩, -, -, HI⟩
      isplitl [HB]; · iexact HB
      isplitl [Hown HI]
      · isplitl [Hown] <;> iassumption
      iexact Hbufs) (k := k) (Q := Q)
  iintro ⟨Hk, Hsb, Hrest, Hidle, ⟨HA, Ho⟩, #Hla⟩
  iapply hwp $$ [Hsb Hrest HA Ho]
  · isplitl [Ho]
    · iapply hpre
      iexact Ho
    isplitr; · rw [hpf]; iempintro
    isplitl [HA]
    · isplitl [HA]; · iexact HA
      iexact Hla
    isplitl [Hrest] <;> iassumption
  iintro ⟨Hpost, HB, Hss, Hsb⟩
  iapply Hk
  isplitl [Hss Hsb Hidle]
  · iapply (show iprop(scopedBufs (c.tc : Thread nD τ) ∗ scopedSems0 (c.tc : Thread nD τ) ∗ opIdle (c.tc : Thread nD τ))
      ⊢ boundary (c.tc : Thread nD τ) from BI.Entails.refl _)
    isplitl [Hsb]; · iexact Hsb
    isplitl [Hss] <;> iassumption
  isplitl [HB]; · iexact HB
  iapply hpost
  iexact Hpost

end Cert.Early

end
-- ==== Proof.OneShot.lean ====
/-
  The protocol of an exchange in which every DMA semaphore is credited once: by one copy, of one
  block. A channel `k` carries one block from every device `c` to the device `tgt k c`; it has a receive
  cell on the receiver and a send cell on the sender. One more cell serves the device's local copy.
  Each cell has one round with one duty; its payload is `pay`. The cells are opened at the launch and closed
  by the wait that empties them.
-/
module

public import Idealize.ShloMosaic.Lib.Pipeline.Regions
public import Idealize.ShloMosaic.Lib.Pipeline.Kit
public import Idealize.ShloMosaic.Lib.Rounds
public import Idealize.ShloMosaic.Lib.Tactic
public import Idealize.ShloMosaic.Harness.Basic
public import proofs.«01_k».proof.Proof.EarlyLaunch

@[expose] public section

noncomputable section

namespace Cert.OneShot

open Idealize.ShloMosaic Idealize.ShloMosaic.TcCoe
open Idealize.SL Idealize.SL.RA
open Idealize.SL.BI (sProp bigSep bigSep_sep' bigSep_mono bigSep_congr bigSep_univ_prod bigSep_empty bigSep_emp_const
  bigSep_univ_equiv bigSep_map bigSep_singleton bigSep_elim bigSep_insert bigSep_univ_sum bigSep_with_persistent Storable Persistent)
open scoped Idealize.SL.BI
open Idealize.SL.BI.BIBase Idealize.SL.BI.Laws Idealize.SL.ProofMode Idealize.SL.Sem
open Idealize.ShloMosaic.Rounds Idealize.ShloMosaic.Pipeline
open Cert.Early (ownZero)

set_option Elab.async false

variable {nD : Nat} {τ : Topo} {sig : RefSig} {Val : EltTy → Type}

/-- The resource algebra: the pipelines' copy and the exchange's. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

/-! ## Products over a list -/

/-- A product is monotone in its factors. -/
theorem bigSep_le {I : Type} {s : Finset I} {Φ Ψ : I → sProp 𝕄} (h : ∀ i ∈ s, Φ i ⊢ Ψ i) : bigSep s Φ ⊢ bigSep s Ψ := bigSep_mono h

section SepL

variable {K : Type}

/-- `Φ` at every member of a list, in its order. -/
def sepL (Φ : K → sProp 𝕄) : List K → sProp 𝕄
  | [] => iprop(emp)
  | k :: l => iprop(Φ k ∗ sepL Φ l)

theorem sepL_eq [DecidableEq K] (Φ : K → sProp 𝕄) (l : List K) (hl : l.Nodup) : sepL Φ l = bigSep l.toFinset Φ := by
  induction l with
  | nil => rw [List.toFinset_nil, bigSep_empty]; rfl
  | cons k l ih =>
    rw [List.nodup_cons] at hl
    rw [List.toFinset_cons, bigSep_insert (by simpa using hl.1), ← ih hl.2]
    rfl

theorem sepL_univ [Fintype K] [DecidableEq K] (Φ : K → sProp 𝕄) (l : List K) (hl : l.Nodup) (hu : ∀ k, k ∈ l) :
    sepL Φ l = bigSep Finset.univ Φ := by
  rw [sepL_eq Φ l hl, show l.toFinset = Finset.univ from Finset.eq_univ_iff_forall.2 fun k => List.mem_toFinset.2 (hu k)]

end SepL

/-! ## The schedule -/

variable {K : Type} [Fintype K] [DecidableEq K]

/-- The cells of a device: a receive and a send cell per channel, one for the local copy. -/
abbrev J (K : Type) : Type := (K ⊕ K) ⊕ Unit

abbrev jr (k : K) : J K := .inl (.inl k)
abbrev js (k : K) : J K := .inl (.inr k)
abbrev jl : J K := .inr ()

variable (sem : J K ↪ DmaSem sig)

/-- Cell `j` of device `c`. -/
abbrev cell (c : Dev nD) (j : J K) : GSem nD τ sig := ((c.tc : Thread nD τ), .dma (sem j))

/-- The cells of every device. -/
def cellEmb : Dev nD × J K ↪ GSem nD τ sig :=
  ⟨fun x => cell sem x.1 x.2, fun x y h => by
    have h1 : x.1 = y.1 := congrArg (fun g : GSem nD τ sig => g.1.1) h
    have h2 : sem x.2 = sem y.2 := by injection congrArg (fun g : GSem nD τ sig => g.2) h
    exact Prod.ext h1 (sem.injective h2)⟩

/-- The own semaphores of the call. -/
def own : Finset (SemLoc sig) := Finset.univ.map ⟨fun j : J K => SemLoc.dma (sem j), fun x y h => sem.injective (by injection h)⟩

variable (N : ℕ) (hN : 0 < N) (pay : Dev nD → J K → sProp (MT nD τ sig Unit Val ℕ (UU nD τ sig) ℕ))

open Classical in
/-- One duty of `N` units on every cell in round 0, handing over `pay`. -/
def sched : Schedule (GSem nD τ sig) Unit 𝕄 where
  duties g r := if r = 0 ∧ ∃ x : Dev nD × J K, cellEmb sem x = g then {()} else ∅
  amount _ _ _ := N
  payload g _ _ := if h : ∃ x : Dev nD × J K, cellEmb sem x = g then pay h.choose.1 h.choose.2 else iprop(emp)
  amount_pos _ _ _ _ := hN

local notation "Rd" => sched sem N hN pay

theorem duties_zero (c : Dev nD) (j : J K) : (Rd).duties (cell sem c j) 0 = {()} :=
  if_pos ⟨rfl, (c, j), rfl⟩

theorem duties_later (g : GSem nD τ sig) : ∀ r, 1 ≤ r → (Rd).duties g r = ∅ :=
  fun r hr => if_neg fun h => by omega

theorem payload_cell (c : Dev nD) (j : J K) (r : ℕ) (u : Unit) : (Rd).payload (cell sem c j) r u = pay c j := by
  have h : ∃ x : Dev nD × J K, cellEmb sem x = (cell sem c j : GSem nD τ sig) := ⟨(c, j), rfl⟩
  have hx : h.choose = (c, j) := (cellEmb sem).injective h.choose_spec
  show dite _ _ _ = _
  rw [dif_pos h, hx]

theorem expect_zero (c : Dev nD) (j : J K) : (Rd).expect (cell sem c j) 0 = N := by
  unfold Schedule.expect Schedule.amountOf
  rw [duties_zero, Finset.sum_singleton]
  rfl

theorem rest_zero (c : Dev nD) (j : J K) :
    bigSep ((Rd).duties (cell sem c j) 0 \ ∅) (fun u => (Rd).payload (cell sem c j) 0 u) = pay c j := by
  rw [Finset.sdiff_empty, duties_zero, bigSep_singleton, payload_cell]

theorem sched_storable (hs : ∀ c j, Storable (upEmb : UEmb _ 𝕄) (pay c j)) (g : GSem nD τ sig) (r : ℕ) (u : Unit) :
    Storable (upEmb : UEmb _ 𝕄) ((Rd).payload g r u) := by
  show Storable _ (dite _ _ _)
  split
  · exact hs _ _
  · infer_instance

/-! ## What the launch deals -/

/-- Every cell's invariant, and that its round 0 is reached. -/
def recs : sProp 𝕄 :=
  bigSep Finset.univ fun x : Dev nD × J K => iprop(∃ κ : ℕ, cellInv ER (Rd) κ (cell sem x.1 x.2) ∗ reached ER (cell sem x.1 x.2) 0)

instance recs_persistent : Persistent (recs sem N hN pay) := by unfold recs; infer_instance

theorem recs_get (c : Dev nD) (j : J K) :
    recs sem N hN pay ⊢ iprop(∃ κ : ℕ, cellInv ER (Rd) κ (cell sem c j) ∗ reached ER (cell sem c j) 0) :=
  bigSep_elim (i := (c, j)) (Finset.mem_univ _)

variable (tgt : K → Dev nD ≃ Dev nD)

/-- What device `c` owes at the launch for the channels of a list: a block to each receiver. -/
def owe (c : Dev nD) (l : List K) : CellTallies nD τ sig Unit := (l.map fun k => tallyAt (cell sem (tgt k c) (jr k)) () N).sum

theorem owe_cons (c : Dev nD) (k : K) (l : List K) :
    owe (τ := τ) sem N tgt c (k :: l) = owe sem N tgt c l + tallyAt (cell sem (tgt k c) (jr k)) () N := by
  unfold owe; rw [List.map_cons, List.sum_cons, add_comm]

/-- A channel on device `c`: the owner's position on the receive cell and the credit it waits with, its position on
    the send cell, the tokens of the two duties its copy pays. -/
def chan (c : Dev nD) (k : K) : sProp 𝕄 :=
  iprop((atPos ER (cell sem c (jr k)) 0 ∅ 0 ∗ cred (tallyAt (cell sem c (jr k)) () N))
    ∗ atPos ER (cell sem c (js k)) 0 ∅ 0
    ∗ dutyTok ER (cell sem c (js k)) 0 () ∗ dutyTok ER (cell sem (tgt k c) (jr k)) 0 ())

/-- The local copy's cell on device `c`. -/
def loc (c : Dev nD) : sProp 𝕄 := iprop(atPos ER (cell sem c jl) 0 ∅ 0 ∗ dutyTok ER (cell sem c jl) 0 ())

/-- The launch element of the exchange. -/
def elem : UR sig nD τ :=
  launchOf (Finset.univ.map (cellEmb sem)) ∅ ((Finset.univ.map (cellEmb sem)).map ⟨fun g => (g, 0, ()), fun _ _ h => congrArg Prod.fst h⟩)

theorem launchCred_owe (l : List K) (hl : l.Nodup) (hu : ∀ k, k ∈ l) (c : Dev nD) :
    (launchCred (fun d => owe sem N tgt d l) c : sProp 𝕄) ⊢ bigSep Finset.univ fun k : K => cred (tallyAt (cell sem c (jr k)) () N) := by
  have h : (fun d => owe (τ := τ) sem N tgt d l) = fun d => ∑ k : K, tallyAt (cell sem (tgt k d) (jr k)) () N := funext fun d => by
    unfold owe
    rw [← List.sum_toFinset _ hl, show l.toFinset = Finset.univ from Finset.eq_univ_iff_forall.2 fun k => List.mem_toFinset.2 (hu k)]
  rw [h, launchCred_sum]
  exact bigSep_le fun k _ => launchCred_tallyAt (.dma (sem (jr k))) (tgt k) (tgt k).symm (tgt k).apply_symm_apply (tgt k).symm_apply_apply () N c

theorem deal (hs : ∀ c j, Storable (upEmb : UEmb _ 𝕄) (pay c j)) (l : List K) (hl : l.Nodup) (hu : ∀ k, k ∈ l) :
    iprop((bigSep Finset.univ fun c : Dev nD => ownZero (own sem) c) ∗ BI.own (ER (elem (nD := nD) (τ := τ) sem))
        ∗ bigSep Finset.univ fun c : Dev nD => launchCred (fun d => owe sem N tgt d l) c)
      ⊢ |={Set.univ}=> iprop(recs sem N hN pay ∗ bigSep Finset.univ fun c : Dev nD => iprop((bigSep Finset.univ fun k : K => chan sem N tgt c k) ∗ loc sem c)) := by
  have hsems : (bigSep Finset.univ fun c : Dev nD => ownZero (own sem) c : sProp 𝕄)
      = bigSep (Finset.univ.map (cellEmb sem)) fun g => semVal g 0 := by
    rw [bigSep_map, bigSep_univ_prod]
    exact bigSep_congr fun c _ => by unfold ownZero own; rw [bigSep_map]; rfl
  rw [hsems]
  have hcred := bigSep_le (s := Finset.univ) fun (c : Dev nD) _ => launchCred_owe (Val := Val) (τ := τ) sem N tgt l hl hu c
  -- the ghost state, dealt to the devices
  have hat : (bigSep (Finset.univ.map (cellEmb sem)) fun g => atPos ER g 0 ∅ 0 : sProp 𝕄)
      = bigSep Finset.univ fun c : Dev nD => iprop((bigSep Finset.univ fun k : K => iprop(atPos ER (cell sem c (jr k)) 0 ∅ 0 ∗ atPos ER (cell sem c (js k)) 0 ∅ 0)) ∗ atPos ER (cell sem c jl) 0 ∅ 0) := by
    rw [bigSep_map, bigSep_univ_prod]
    refine bigSep_congr fun c _ => ?_
    rw [bigSep_univ_sum, bigSep_univ_sum, bigSep_sep', Finset.univ_unique (α := Unit), bigSep_singleton]
    rfl
  have htok : (bigSep ((Finset.univ.map (cellEmb (nD := nD) (τ := τ) sem)).map ⟨fun g => (g, 0, ()), fun _ _ h => congrArg Prod.fst h⟩) fun x => dutyTok ER x.1 x.2.1 x.2.2 : sProp 𝕄)
      = bigSep Finset.univ fun c : Dev nD => iprop((bigSep Finset.univ fun k : K => iprop(dutyTok ER (cell sem c (js k)) 0 () ∗ dutyTok ER (cell sem (tgt k c) (jr k)) 0 ())) ∗ dutyTok ER (cell sem c jl) 0 ()) := by
    rw [bigSep_map, bigSep_map, bigSep_univ_prod]
    rw [bigSep_congr (Ψ := fun c : Dev nD => iprop(((bigSep Finset.univ fun k : K => dutyTok ER (cell sem c (jr k)) 0 ()) ∗ (bigSep Finset.univ fun k : K => dutyTok ER (cell sem c (js k)) 0 ())) ∗ dutyTok ER (cell sem c jl) 0 ())) fun c _ => by
      rw [bigSep_univ_sum, bigSep_univ_sum, Finset.univ_unique (α := Unit), bigSep_singleton]; rfl]
    have hrecv : (bigSep Finset.univ fun c : Dev nD => bigSep Finset.univ fun k : K => dutyTok ER (cell sem c (jr k)) 0 () : sProp 𝕄)
        = bigSep Finset.univ fun c : Dev nD => bigSep Finset.univ fun k : K => dutyTok ER (cell sem (tgt k c) (jr k)) 0 () := by
      have hcomm (Φ : Dev nD → K → sProp 𝕄) : (bigSep Finset.univ fun c => bigSep Finset.univ fun k => Φ c k)
          = bigSep Finset.univ fun k => bigSep Finset.univ fun c => Φ c k := by
        rw [← bigSep_univ_prod (fun x : Dev nD × K => Φ x.1 x.2), bigSep_univ_equiv (Equiv.prodComm K (Dev nD)), bigSep_univ_prod]
        rfl
      rw [hcomm, hcomm fun (c : Dev nD) (k : K) => dutyTok ER (cell sem (tgt k c) (jr k)) 0 ()]
      exact bigSep_congr fun k _ => bigSep_univ_equiv (tgt k) fun c => (dutyTok ER (cell sem c (jr k)) 0 () : sProp 𝕄)
    rw [bigSep_sep', bigSep_sep', hrecv, ← bigSep_sep', ← bigSep_sep']
    refine bigSep_congr fun c _ => ?_
    rw [← bigSep_sep']
    congr 1
    refine bigSep_congr fun k _ => ?_
    exact BI.Entails.antisymm (sep_comm (PROP := sProp 𝕄)).1 (sep_comm (PROP := sProp 𝕄)).1
  unfold elem
  have hrecs (κ : GSem nD τ sig → ℕ) : iprop((bigSep (Finset.univ.map (cellEmb sem) ∪ ∅) fun g => cellInv ER (Rd) (κ g) g)
      ∗ bigSep (Finset.univ.map (cellEmb sem)) fun g => reached ER g 0) ⊢ recs sem N hN pay := by
    rw [Finset.union_empty, ← bigSep_sep', bigSep_map]
    unfold recs
    refine bigSep_le fun x _ => ?_
    iintro H
    iexists κ (cellEmb sem x)
    iexact H
  have hend : iprop((bigSep (Finset.univ.map (cellEmb sem)) fun g => atPos ER g 0 ∅ 0)
      ∗ (bigSep ((Finset.univ.map (cellEmb (nD := nD) (τ := τ) sem)).map ⟨fun g => (g, 0, ()), fun _ _ h => congrArg Prod.fst h⟩) fun x => dutyTok ER x.1 x.2.1 x.2.2)
      ∗ bigSep Finset.univ fun c : Dev nD => bigSep Finset.univ fun k : K => cred (tallyAt (cell sem c (jr k)) () N))
      ⊢ (bigSep Finset.univ fun c : Dev nD => iprop((bigSep Finset.univ fun k : K => chan sem N tgt c k) ∗ loc sem c) : sProp 𝕄) := by
    rw [hat, htok, ← bigSep_sep', ← bigSep_sep']
    refine bigSep_le fun c _ => ?_
    have hk : iprop((bigSep Finset.univ fun k : K => iprop(atPos ER (cell sem c (jr k)) 0 ∅ 0 ∗ atPos ER (cell sem c (js k)) 0 ∅ 0))
        ∗ (bigSep Finset.univ fun k : K => iprop(dutyTok ER (cell sem c (js k)) 0 () ∗ dutyTok ER (cell sem (tgt k c) (jr k)) 0 ()))
        ∗ bigSep Finset.univ fun k : K => cred (tallyAt (cell sem c (jr k)) () N)) ⊢ (bigSep Finset.univ fun k : K => chan sem N tgt c k : sProp 𝕄) := by
      rw [← bigSep_sep', ← bigSep_sep']
      refine bigSep_le fun k _ => ?_
      unfold chan
      iintro ⟨⟨Hr, Hs⟩, Ht, Hc⟩
      isplitl [Hr Hc]
      · isplitl [Hr] <;> iassumption
      isplitl [Hs] <;> iassumption
    unfold loc
    iintro ⟨⟨Ha, Hal⟩, ⟨Ht, Htl⟩, Hc⟩
    isplitl [Ha Ht Hc]
    · iapply hk
      isplitl [Ha]; · iexact Ha
      isplitl [Ht] <;> iassumption
    isplitl [Hal] <;> iassumption
  have := sched_storable sem N hN pay hs
  iintro ⟨Hs, Hu, Hc⟩
  imod (fund_launch (S := Finset.univ.map (cellEmb sem)) (Sd := ∅) ER (Rd) (Finset.disjoint_empty_right _) (fun g h => absurd h (Finset.notMem_empty _))
    ((Finset.univ.map (cellEmb sem)).map ⟨fun g => (g, 0, ()), fun _ _ h => congrArg Prod.fst h⟩)) $$ [Hs Hu] with ⟨%κ, -, Hi, Hr, Hat, -, Htok⟩
  · isplitl [Hs] <;> iassumption
  imodintro
  isplitl [Hi Hr]
  · iapply (hrecs κ)
    isplitl [Hi] <;> iassumption
  iapply hend
  isplitl [Hat]; · iexact Hat
  isplitl [Htok]; · iexact Htok
  iapply hcred
  iexact Hc

end Cert.OneShot

end
-- ==== Proof.Steps.lean ====
/-
  The steps of a one-credit-per-cell exchange (`OneShot`): the copy to a peer, the local copy, the wait
  that empties a cell and closes it.
-/
module

public import proofs.«01_k».proof.Proof.OneShot

@[expose] public section

noncomputable section

namespace Cert.OneShot

open Idealize.ShloMosaic Idealize.ShloMosaic.TcCoe
open Idealize.SL Idealize.SL.RA
open Idealize.SL.BI (sProp bigSep bigSep_sep' Storable Persistent)
open scoped Idealize.SL.BI
open Idealize.SL.BI.BIBase Idealize.SL.BI.Laws Idealize.SL.ProofMode Idealize.SL.Sem
open Idealize.ShloMosaic.Rounds Idealize.ShloMosaic.Pipeline

set_option Elab.async false

variable {nD : Nat} {τ : Topo} {sig : RefSig} {Val : EltTy → Type}

local notation "𝕄" => MT nD τ sig Unit Val ℕ (UU nD τ sig) ℕ

variable {K : Type} [Fintype K] [DecidableEq K] (sem : J K ↪ DmaSem sig) (N : ℕ) (hN : 0 < N)
  (pay : Dev nD → J K → sProp (MT nD τ sig Unit Val ℕ (UU nD τ sig) ℕ)) (tgt : K → Dev nD ≃ Dev nD)

local notation "Rd" => sched sem N hN pay

variable {Λ : Labels} {defs : Defs nD τ sig Val Λ} (𝒱 : Variants) {α : Type} {Q : α → sProp (MT nD τ sig Unit Val ℕ (UU nD τ sig) ℕ)}
  {sp sp' : Space} {s : Shape} {e : EltTy}

/-- The copy on channel `k`: the source back through the send cell, the block written through the receiver's cell. -/
theorem wp_put (c : Dev nD) (k : K) {src : Memref sig .tc sp s e} {dst : Memref sig .tc sp' s e} {hsc : dst.view.ref.isScScratch = false}
    {hsrc : src.view.WordExact} {hdst : dst.view.WordExact}
    {hsem : DmaTarget.Typed (nD := nD) (τ := τ) (p := Proc.tc) sp (.dma (sem (jr k))) (.remote ((tgt k c).tc : Thread nD τ) dst (.dma (sem (js k))) hsc)}
    {κ : PUnit → Prog (TpuEff nD τ sig Val Λ .tc) α} {q : PosShare TreeShare}
    {fs : Buf Val (src.view.loc (c.tc : Thread nD τ))} {fd : Buf Val (dst.view.loc ((tgt k c).tc : Thread nD τ))}
    {O : CellTallies nD τ sig Unit} {W : Waits sig Unit} (hNd : dst.view.dmaCredit = N)
    (hp₁ : (src.view.loc (c.tc : Thread nD τ) ↦[src.view.set]{q} fs) ⊢ pay c (js k))
    (hp₂ : (dst.view.loc ((tgt k c).tc : Thread nD τ) ↦[dst.view.set]{fullShare} (dst.view.write Val fd (src.view.read Val fs) Finset.univ)) ⊢ pay (tgt k c) (jr k))
    (hr : τ.routes (c.tc : Thread nD τ) ((tgt k c).tc : Thread nD τ) = true) :
    iprop(recs sem N hN pay ∗ (src.view.loc (c.tc : Thread nD τ) ↦[src.view.set]{q} fs)
        ∗ (dst.view.loc ((tgt k c).tc : Thread nD τ) ↦[dst.view.set]{fullShare} fd)
        ∗ owes (c.tc : Thread nD τ) (O + tallyAt (cell sem (tgt k c) (jr k)) () N) W
        ∗ dutyTok ER (cell sem c (js k)) 0 () ∗ dutyTok ER (cell sem (tgt k c) (jr k)) 0 ())
      ⊢ iprop(((cred (tallyAt (cell sem c (js k)) () N) ∗ owes (c.tc : Thread nD τ) O W) -∗ wp frame (wpE defs 𝒱 (c.tc : Thread nD τ) none) Set.univ (κ ⟨⟩) Q)
          -∗ wp frame (wpE defs 𝒱 (c.tc : Thread nD τ) none) Set.univ
            (.op (.enqueueDma src (.remote ((tgt k c).tc : Thread nD τ) dst (.dma (sem (js k))) hsc) (.dma (sem (jr k))) hsrc hdst hsem) κ) Q) := by
  iintro ⟨#HR, Hs, Hd, HO, Ht1, Ht2⟩ Hk
  ihave H1 := (recs_get sem N hN pay c (js k)) $$ HR
  icases H1 with ⟨%κ₁, #Hi1, #Hr1⟩
  ihave H2 := (recs_get sem N hN pay (tgt k c) (jr k)) $$ HR
  icases H2 with ⟨%κ₂, #Hi2, #Hr2⟩
  iapply (Rounds.wp_send_pointsTo 𝒱 ER (Rd) (c.tc : Thread nD τ) none (c' := ((tgt k c).tc : Thread nD τ)) (src := src) (dst := dst)
      (sS := .dma (sem (js k))) (sem := .dma (sem (jr k))) (q := q) (fs := fs) (κ₁ := κ₁) (κ₂ := κ₂)
      (r₁ := 0) (r₂ := 0) (d₁ := ()) (d₂ := ()) (fd := fd)
      (by rw [duties_zero]; exact Finset.mem_singleton_self _) (by rw [duties_zero]; exact Finset.mem_singleton_self _)
      () () N hNd rfl rfl O rfl (W := W)
      (by rw [payload_cell]; exact hp₁) (by rw [payload_cell]; exact hp₂) (hr := hr)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The local copy, both ends through the local cell. -/
theorem wp_here (c : Dev nD) {src : Memref sig .tc sp s e} {dst : Memref sig .tc sp' s e}
    {hsrc : src.view.WordExact} {hdst : dst.view.WordExact}
    {hsem : DmaTarget.Typed (nD := nD) (τ := τ) (p := Proc.tc) sp (.dma (sem jl)) (.here dst)}
    {κ : PUnit → Prog (TpuEff nD τ sig Val Λ .tc) α} {q : PosShare TreeShare}
    {fs : Buf Val (src.view.loc (c.tc : Thread nD τ))} {fd : Buf Val (dst.view.loc (c.tc : Thread nD τ))} (hNd : dst.view.dmaCredit = N)
    (hp : iprop((dst.view.loc (c.tc : Thread nD τ) ↦[dst.view.set]{fullShare} (dst.view.write Val fd (src.view.read Val fs) Finset.univ))
      ∗ (src.view.loc (c.tc : Thread nD τ) ↦[src.view.set]{q} fs)) ⊢ pay c jl) :
    iprop(recs sem N hN pay ∗ (src.view.loc (c.tc : Thread nD τ) ↦[src.view.set]{q} fs)
        ∗ (dst.view.loc (c.tc : Thread nD τ) ↦[dst.view.set]{fullShare} fd) ∗ dutyTok ER (cell sem c jl) 0 ())
      ⊢ iprop((cred (tallyAt (cell sem c jl) () N) -∗ wp frame (wpE defs 𝒱 (c.tc : Thread nD τ) none) Set.univ (κ ⟨⟩) Q)
          -∗ wp frame (wpE defs 𝒱 (c.tc : Thread nD τ) none) Set.univ (.op (.enqueueDma src (.here dst) (.dma (sem jl)) hsrc hdst hsem) κ) Q) := by
  iintro ⟨#HR, Hs, Hd, Ht⟩ Hk
  ihave H1 := (recs_get sem N hN pay c jl) $$ HR
  icases H1 with ⟨%κ₁, #Hi1, #Hr1⟩
  iapply (Rounds.wp_copy_pointsTo 𝒱 ER (Rd) (c.tc : Thread nD τ) none (src := src) (dst := dst) (sem := .dma (sem jl)) (q := q)
      (fs := fs) (fd := fd) (r := 0) (d := ()) (κ := κ₁)
      (by rw [duties_zero]; exact Finset.mem_singleton_self _) () N hNd rfl
      (by rw [payload_cell]; exact hp)) $$ [Hs Hd Ht]
  · isplitr; · iexact Hi1
    isplitl [Hs]; · iexact Hs
    isplitl [Hd]; · iexact Hd
    isplitl [Ht]; · iexact Ht
    iexact Hr1
  iexact Hk

/-- The wait on cell `j`: its payload, and the counter at zero, the cell closed. -/
theorem wp_take (c : Dev nD) (j : J K) {s₁ s₂ : Shape} {e₁ e₂ : EltTy} {src : Memref sig .tc sp s₁ e₁} {κ' : Kind} {dst : Memref sig κ' sp' s₂ e₂}
    {hsrc : src.view.WordExact} {hdst : dst.view.WordExact}
    {κ : PUnit → Prog (TpuEff nD τ sig Val Λ .tc) α} {O : CellTallies nD τ sig Unit} {W : Waits sig Unit} (hNd : dst.view.dmaCredit = N) :
    iprop(recs sem N hN pay ∗ cred (tallyAt (cell sem c j) () N) ∗ owes (c.tc : Thread nD τ) O W
        ∗ MayWait (c.tc : Thread nD τ) (.dma (sem j)) () O ∗ atPos ER (cell sem c j) 0 ∅ 0)
      ⊢ iprop((((∃ W', owes (c.tc : Thread nD τ) O W') ∗ semVal (cell sem c j) 0 ∗ pay c j) -∗ wp frame (wpE defs 𝒱 (c.tc : Thread nD τ) none) Set.univ (κ ⟨⟩) Q)
          -∗ wp frame (wpE defs 𝒱 (c.tc : Thread nD τ) none) Set.univ (.op (.waitDma2 (sem j) src dst hsrc hdst) κ) Q) := by
  subst hNd
  iintro ⟨#HR, Hc, HO, HM, Hat⟩ Hk
  ihave H1 := (recs_get sem _ hN pay c j) $$ HR
  icases H1 with ⟨%κ₁, #Hi1, -⟩
  iapply (Rounds.wp_wait_rest_token 𝒱 ER (sched sem _ hN pay) (c.tc : Thread nD τ) none (κ := κ₁)
      (wpE_waitDma2_eq (src := src) (dst := dst) 𝒱 (c.tc : Thread nD τ) none Set.univ) (Set.mem_univ _) () (O := O) (W := W) (R := 0) (m := 0) (T := ∅)
      ((Nat.zero_add _).trans (expect_zero sem _ hN pay c j).symm)) $$ [Hc HO HM Hat]
  · isplitr; · iexact Hi1
    isplitl [Hc]; · iexact Hc
    isplitl [HO]; · iexact HO
    isplitl [HM]; · iexact HM
    iexact Hat
  iintro ⟨HO, Hat, -, Hpay⟩
  imod (Rounds.cell_close ER (sched sem _ hN pay) (Set.mem_univ κ₁) id (duties_later sem _ hN pay (cell sem c j))) $$ [Hat] with Hv
  · isplitr; · iexact Hi1
    iexact Hat
  iapply Hk
  isplitl [HO]; · iexists _; iexact HO
  isplitl [Hv]; · iexact Hv
  iapply (Entails.of_eq (rest_zero sem _ hN pay c j))
  iexact Hpay

end Cert.OneShot

end
-- ==== Proof.Exchange.lean ====
/-
  The all-to-all exchange over any signature: a device copies its own block across locally, sends one block
  on every channel, waits for every block it is sent, then for its own copies to have left. `Plan` names the
  views; `body` is the program; `body_run` its run from what the launch deals (`OneShot.deal`).
-/
module

public import proofs.«01_k».proof.Proof.Steps

@[expose] public section

noncomputable section

namespace Cert.OneShot

open Idealize.ShloMosaic Idealize.ShloMosaic.TcCoe
open Idealize.SL Idealize.SL.RA
open Idealize.SL.BI (sProp bigSep bigSep_sep' Storable Persistent)
open scoped Idealize.SL.BI
open Idealize.SL.BI.BIBase Idealize.SL.BI.Laws Idealize.SL.ProofMode Idealize.SL.Sem
open Idealize.ShloMosaic.Rounds Idealize.ShloMosaic.Pipeline

set_option Elab.async false

/-- The views, semaphores and receivers of an exchange. -/
structure Plan (nD : Nat) (τ : Topo) (sig : RefSig) (K : Type) where
  sp : Space
  sp' : Space
  s : Shape
  e : EltTy
  sem : J K ↪ DmaSem sig
  tgt : K → Dev nD ≃ Dev nD
  /-- The own block, the block sent on a channel; the place of a device's blocks in a result. -/
  srcL : Dev nD → Memref sig .tc sp s e
  srcS : K → Dev nD → Memref sig .tc sp s e
  dst : Dev nD → Memref sig .tc sp' s e
  /-- The place named by a receiver's wait. -/
  dstW : K → Dev nD → Memref sig .tc sp' s e
  hL : ∀ c, (srcL c).view.WordExact
  hS : ∀ k c, (srcS k c).view.WordExact
  hD : ∀ c, (dst c).view.WordExact
  hW : ∀ k c, (dstW k c).view.WordExact
  hsc : ∀ c, (dst c).view.ref.isScScratch = false
  tyL : ∀ c, DmaTarget.Typed (nD := nD) (τ := τ) (p := Proc.tc) sp (.dma (sem jl)) (.here (dst c))
  tyS : ∀ k c, DmaTarget.Typed (nD := nD) (τ := τ) (p := Proc.tc) sp (.dma (sem (jr k))) (.remote ((tgt k c).tc : Thread nD τ) (dst c) (.dma (sem (js k))) (hsc c))
  N : ℕ
  hN : 0 < N
  credD : ∀ c, (dst c).view.dmaCredit = N
  credW : ∀ k c, (dstW k c).view.dmaCredit = N
  credS : ∀ k c, (srcS k c).view.dmaCredit = N
  routes : ∀ k c, τ.routes (c.tc : Thread nD τ) ((tgt k c).tc : Thread nD τ) = true

variable {nD : Nat} {τ : Topo} {sig : RefSig} {Val : EltTy → Type}

local notation "𝕄" => MT nD τ sig Unit Val ℕ (UU nD τ sig) ℕ

section Lists

variable {K : Type}

theorem sepL_sep (Φ Ψ : K → sProp 𝕄) (l : List K) : sepL (fun k => iprop(Φ k ∗ Ψ k)) l ⊢ iprop(sepL Φ l ∗ sepL Ψ l) := by
  induction l with
  | nil => unfold sepL; iintro -; isplitr <;> iempintro
  | cons k l ih =>
    unfold sepL
    iintro ⟨⟨H1, H2⟩, Hl⟩
    ihave Hl := ih $$ Hl
    icases Hl with ⟨H3, H4⟩
    isplitl [H1 H3]
    · isplitl [H1] <;> iassumption
    · isplitl [H2] <;> iassumption

theorem sepL_join (Φ Ψ : K → sProp 𝕄) (l : List K) : iprop(sepL Φ l ∗ sepL Ψ l) ⊢ sepL (fun k => iprop(Φ k ∗ Ψ k)) l := by
  induction l with
  | nil => unfold sepL; iintro -; iempintro
  | cons k l ih =>
    unfold sepL
    iintro ⟨⟨H1, H3⟩, H2, H4⟩
    isplitl [H1 H2]
    · isplitl [H1] <;> iassumption
    · iapply ih
      isplitl [H3] <;> iassumption

end Lists

section Takes

variable {K : Type} [Fintype K] [DecidableEq K] (sem : J K ↪ DmaSem sig) (N : ℕ) (hN : 0 < N)
  (pay : Dev nD → J K → sProp (MT nD τ sig Unit Val ℕ (UU nD τ sig) ℕ))
variable {I : Type} {Λ : Labels} {sp sp' : Space} {s : Shape} {e : EltTy}

/-- Waits on the cells `f k` of a list, in order. -/
def takes (f : I → J K) (src : I → Memref sig .tc sp s e) (dst : I → Memref sig .tc sp' s e) (hsrc : ∀ k, (src k).view.WordExact) (hdst : ∀ k, (dst k).view.WordExact)
    (r : Prog (TpuEff nD τ sig Val Λ .tc) PUnit) : List I → Prog (TpuEff nD τ sig Val Λ .tc) PUnit
  | [] => r
  | k :: l => .op (.waitDma2 (sem (f k)) (src k) (dst k) (hsrc k) (hdst k)) fun _ => takes f src dst hsrc hdst r l

theorem takes_run {defs : Defs nD τ sig Val Λ} (𝒱 : Variants) (c : Dev nD) (f : I → J K) (src : I → Memref sig .tc sp s e) (dst : I → Memref sig .tc sp' s e)
    (hsrc : ∀ k, (src k).view.WordExact) (hdst : ∀ k, (dst k).view.WordExact) (hNd : ∀ k, (dst k).view.dmaCredit = N)
    (r : Prog (TpuEff nD τ sig Val Λ .tc) PUnit) (Q : PUnit → sProp 𝕄) (l : List I) :
    iprop(recs sem N hN pay
        ∗ sepL (fun k => iprop(atPos ER (cell sem c (f k)) 0 ∅ 0 ∗ cred (tallyAt (cell sem c (f k)) () N))) l
        ∗ (∃ W, owes (c.tc : Thread nD τ) (0 : CellTallies nD τ sig Unit) W)
        ∗ ((sepL (fun k => iprop(semVal (cell sem c (f k)) 0 ∗ pay c (f k))) l ∗ (∃ W, owes (c.tc : Thread nD τ) (0 : CellTallies nD τ sig Unit) W))
          -∗ wp frame (wpE defs 𝒱 (c.tc : Thread nD τ) none) Set.univ r Q))
      ⊢ wp frame (wpE defs 𝒱 (c.tc : Thread nD τ) none) Set.univ (takes sem f src dst hsrc hdst r l) Q := by
  induction l with
  | nil =>
    unfold takes sepL
    iintro ⟨-, -, HO, Hk⟩
    iapply Hk
    isplitr; · iempintro
    iexact HO
  | cons k l ih =>
    unfold takes sepL
    iintro ⟨#HR, ⟨⟨Hat, Hc⟩, Hl⟩, ⟨%W, HO⟩, Hk⟩
    iapply (wp_take sem N hN pay 𝒱 c (f k) (O := 0) (W := W) (hNd k)) $$ [Hat Hc HO]
    · isplitr; · iexact HR
      isplitl [Hc]; · iexact Hc
      isplitl [HO]; · iexact HO
      isplitr; · rw [MayWait_zero]; iempintro
      iexact Hat
    iintro ⟨HO, Hv, Hp⟩
    iapply ih
    isplitr; · iexact HR
    isplitl [Hl]; · iexact Hl
    isplitl [HO]; · iexact HO
    iintro ⟨Hl, HO⟩
    iapply Hk
    isplitr [HO]
    · isplitr [Hl]
      · isplitl [Hv] <;> iassumption
      iexact Hl
    iexact HO

end Takes

namespace Plan

variable {K : Type} [Fintype K] [DecidableEq K] (P : Plan nD τ sig K) {Λ : Labels}

/-- The copies on a list of channels, in order. -/
def sends (c : Dev nD) (r : Prog (TpuEff nD τ sig Val Λ .tc) PUnit) : List K → Prog (TpuEff nD τ sig Val Λ .tc) PUnit
  | [] => r
  | k :: l => .op (.enqueueDma (P.srcS k c) (.remote ((P.tgt k c).tc : Thread nD τ) (P.dst c) (.dma (P.sem (js k))) (P.hsc c)) (.dma (P.sem (jr k)))
      (P.hS k c) (P.hD c) (P.tyS k c)) fun _ => sends c r l

/-- The exchange. -/
def body (l : List K) : Prog (TpuEff nD τ sig Val Λ .tc) PUnit :=
  .op .deviceId fun c =>
    .op (.enqueueDma (P.srcL c) (.here (P.dst c)) (.dma (P.sem jl)) (P.hL c) (P.hD c) (P.tyL c)) fun _ =>
      P.sends c (takes P.sem jr (P.srcS · c) (P.dstW · c) (P.hS · c) (P.hW · c)
        (takes P.sem js (fun _ => P.dst c) (P.srcS · c) (fun _ => P.hD c) (P.hS · c)
          (.op (.waitDma2 (P.sem jl) (P.srcL c) (P.dst c) (P.hL c) (P.hD c)) fun _ => .ret ⟨⟩) l) l) l

variable (pay : Dev nD → J K → sProp (MT nD τ sig Unit Val ℕ (UU nD τ sig) ℕ))
variable (fL : (c : Dev nD) → Buf Val ((P.srcL c).view.loc (c.tc : Thread nD τ)))
variable (fS : (k : K) → (c : Dev nD) → Buf Val ((P.srcS k c).view.loc (c.tc : Thread nD τ)))

/-- What device `c` needs for the copy on channel `k`: the source block, the place on the receiver. -/
def ends (c : Dev nD) (k : K) : sProp 𝕄 :=
  iprop(((P.srcS k c).view.loc (c.tc : Thread nD τ) ↦[(P.srcS k c).view.set]{fullShare} fS k c)
    ∗ ∃ fd, (P.dst c).view.loc ((P.tgt k c).tc : Thread nD τ) ↦[(P.dst c).view.set]{fullShare} fd)

/-- What it needs for the local copy. -/
def endsL (c : Dev nD) : sProp 𝕄 :=
  iprop(((P.srcL c).view.loc (c.tc : Thread nD τ) ↦[(P.srcL c).view.set]{fullShare} fL c)
    ∗ ∃ fd, (P.dst c).view.loc (c.tc : Thread nD τ) ↦[(P.dst c).view.set]{fullShare} fd)

variable (hpS : ∀ k c, ((P.srcS k c).view.loc (c.tc : Thread nD τ) ↦[(P.srcS k c).view.set]{fullShare} fS k c) ⊢ pay c (js k))
variable (hpR : ∀ k c (fd : Buf Val ((P.dst c).view.loc ((P.tgt k c).tc : Thread nD τ))),
  ((P.dst c).view.loc ((P.tgt k c).tc : Thread nD τ) ↦[(P.dst c).view.set]{fullShare} ((P.dst c).view.write Val fd ((P.srcS k c).view.read Val (fS k c)) Finset.univ)) ⊢ pay (P.tgt k c) (jr k))
variable (hpL : ∀ c (fd : Buf Val ((P.dst c).view.loc (c.tc : Thread nD τ))),
  iprop(((P.dst c).view.loc (c.tc : Thread nD τ) ↦[(P.dst c).view.set]{fullShare} ((P.dst c).view.write Val fd ((P.srcL c).view.read Val (fL c)) Finset.univ))
      ∗ ((P.srcL c).view.loc (c.tc : Thread nD τ) ↦[(P.srcL c).view.set]{fullShare} fL c)) ⊢ pay c jl)

include hpS hpR in
theorem sends_run {defs : Defs nD τ sig Val Λ} (𝒱 : Variants) (c : Dev nD) (r : Prog (TpuEff nD τ sig Val Λ .tc) PUnit) (Q : PUnit → sProp 𝕄) (l : List K) (W : Waits sig Unit) :
    iprop(recs P.sem P.N P.hN pay
        ∗ sepL (fun k => iprop(P.ends fS c k ∗ dutyTok ER (cell P.sem c (js k)) 0 () ∗ dutyTok ER (cell P.sem (P.tgt k c) (jr k)) 0 ())) l
        ∗ owes (c.tc : Thread nD τ) (owe P.sem P.N P.tgt c l) W
        ∗ ((sepL (fun k => cred (tallyAt (cell P.sem c (js k)) () P.N)) l ∗ owes (c.tc : Thread nD τ) (0 : CellTallies nD τ sig Unit) W)
          -∗ wp frame (wpE defs 𝒱 (c.tc : Thread nD τ) none) Set.univ r Q))
      ⊢ wp frame (wpE defs 𝒱 (c.tc : Thread nD τ) none) Set.univ (P.sends c r l) Q := by
  induction l with
  | nil =>
    unfold sends sepL
    iintro ⟨-, -, HO, Hk⟩
    iapply Hk
    isplitr; · iempintro
    iexact HO
  | cons k l ih =>
    unfold sends sepL ends
    rw [owe_cons]
    iintro ⟨#HR, ⟨⟨⟨Hs, ⟨%fd, Hd⟩⟩, Ht1, Ht2⟩, Hl⟩, HO, Hk⟩
    iapply (wp_put P.sem P.N P.hN pay P.tgt 𝒱 c k (fs := fS k c) (fd := fd) (O := owe P.sem P.N P.tgt c l) (W := W) (P.credD c) (hpS k c) (hpR k c fd) (P.routes k c)) $$ [Hs Hd Ht1 Ht2 HO]
    · isplitr; · iexact HR
      isplitl [Hs]; · iexact Hs
      isplitl [Hd]; · iexact Hd
      isplitl [HO]; · iexact HO
      isplitl [Ht1] <;> iassumption
    iintro ⟨Hc, HO⟩
    iapply ih
    isplitr; · iexact HR
    isplitl [Hl]; · iexact Hl
    isplitl [HO]; · iexact HO
    iintro ⟨Hl, HO⟩
    iapply Hk
    isplitr [HO]
    · isplitl [Hc] <;> iassumption
    iexact HO

include hpS hpR hpL in
/-- The run of the exchange: every cell's payload, every counter at zero, nothing owed. -/
theorem body_run {defs : Defs nD τ sig Val Λ} (𝒱 : Variants) (c : Dev nD) (Q : PUnit → sProp 𝕄) (l : List K) (W : Waits sig Unit) :
    iprop(recs P.sem P.N P.hN pay
        ∗ sepL (P.ends fS c) l ∗ P.endsL fL c
        ∗ sepL (chan P.sem P.N P.tgt c) l ∗ loc P.sem c
        ∗ owes (c.tc : Thread nD τ) (owe P.sem P.N P.tgt c l) W
        ∗ ((sepL (fun k => iprop((semVal (cell P.sem c (jr k)) 0 ∗ pay c (jr k)) ∗ (semVal (cell P.sem c (js k)) 0 ∗ pay c (js k)))) l
              ∗ (semVal (cell P.sem c jl) 0 ∗ pay c jl) ∗ (∃ W, owes (c.tc : Thread nD τ) (0 : CellTallies nD τ sig Unit) W))
          -∗ Q ⟨⟩))
      ⊢ wp frame (wpE defs 𝒱 (c.tc : Thread nD τ) none) Set.univ (P.body l) Q := by
  unfold body loc endsL
  rw [wp_deviceId]
  iintro ⟨#HR, He, ⟨Hs, ⟨%fd, Hd⟩⟩, Hch, ⟨Hal, Htl⟩, HO, HQ⟩
  iapply (wp_here P.sem P.N P.hN pay 𝒱 c (fs := fL c) (fd := fd) (P.credD c) (hpL c fd)) $$ [Hs Hd Htl]
  · isplitr; · iexact HR
    isplitl [Hs]; · iexact Hs
    isplitl [Hd]; · iexact Hd
    iexact Htl
  iintro Hcl
  unfold chan
  ihave Hch := (sepL_sep _ _ l) $$ Hch
  icases Hch with ⟨Har, Hch⟩
  ihave Hch := (sepL_sep _ _ l) $$ Hch
  icases Hch with ⟨Has, Htk⟩
  iapply (P.sends_run pay fS hpS hpR 𝒱 c _ Q l W)
  isplitr; · iexact HR
  isplitl [He Htk]
  · iapply (sepL_join _ _ l)
    isplitl [He] <;> iassumption
  isplitl [HO]; · iexact HO
  iintro ⟨Hcs, HO⟩
  iapply (takes_run P.sem P.N P.hN pay 𝒱 c jr (P.srcS · c) (P.dstW · c) (P.hS · c) (P.hW · c) (P.credW · c))
  isplitr; · iexact HR
  isplitl [Har]; · iexact Har
  isplitl [HO]; · iexists W; iexact HO
  iintro ⟨Hr, HO⟩
  iapply (takes_run P.sem P.N P.hN pay 𝒱 c js (fun _ => P.dst c) (P.srcS · c) (fun _ => P.hD c) (P.hS · c) (P.credS · c))
  isplitr; · iexact HR
  isplitl [Has Hcs]
  · iapply (sepL_join _ _ l)
    isplitl [Has] <;> iassumption
  isplitl [HO]; · iexact HO
  iintro ⟨Hsd, HO⟩
  icases HO with ⟨%W', HO⟩
  iapply (wp_take P.sem P.N P.hN pay 𝒱 c jl (O := 0) (W := W') (P.credD c)) $$ [Hal Hcl HO]
  · isplitr; · iexact HR
    isplitl [Hcl]; · iexact Hcl
    isplitl [HO]; · iexact HO
    isplitr; · rw [MayWait_zero]; iempintro
    iexact Hal
  iintro ⟨HO, Hv, Hp⟩
  rw [wp_ret]
  imodintro
  iapply HQ
  isplitl [Hr Hsd]
  · iapply (sepL_join _ _ l)
    isplitl [Hr] <;> iassumption
  isplitl [Hv Hp]
  · isplitl [Hv] <;> iassumption
  iexact HO

end Plan

end Cert.OneShot

end
-- ==== Proof.Rows.lean ====
/-
  The rows of an array of eight blocks: the elements under each, the array held as its rows, and what a
  transfer from a row of one array to a row of another leaves.
-/
module

public import proofs.«01_k».proof.Proof.OneShot

@[expose] public section

noncomputable section

namespace Cert.Rows

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

set_option Elab.async false

variable {nD : Nat} {τ : Topo} {sig : RefSig} {Val : EltTy → Type}
variable {R C : ℕ} {e : EltTy} {sp : Space}

/-- Eight blocks; one block of the eight; a block. -/
abbrev S8 (R C : ℕ) : Shape := ⟨3, ![8, R, C]⟩
abbrev S1 (R C : ℕ) : Shape := ⟨3, ![1, R, C]⟩
abbrev S (R C : ℕ) : Shape := ⟨2, ![R, C]⟩

/-- The indices of block `i`. -/
def ixs (R C : ℕ) (i : Fin 8) : Finset (S8 R C).Idx := Finset.univ.filter fun y => (y 0 : ℕ) = i

/-- The elements of block `i` under a view. -/
def rows (v : View sig .tc sp (S8 R C) e) (i : Fin 8) : Finset v.ty.Idx := (ixs R C i).map v.emb

theorem mem_unit {off : Fin 3 → ℕ} (i : Fin 8) (h : off = ![(i : ℕ), 0, 0]) (inb : ∀ a, off a + (S1 R C).size a ≤ (S8 R C).size a) (y : (S8 R C).Idx) :
    y ∈ (Rect.unit (s := S8 R C) off (S1 R C).size inb).set ↔ (y 0 : ℕ) = i := by
  rw [Rect.mem_set_unit]
  subst h
  constructor
  · intro hy
    have h0 := hy 0
    change (i : ℕ) ≤ (y 0 : ℕ) ∧ (y 0 : ℕ) < i + 1 at h0
    omega
  · intro hy a
    have ha : (y a : ℕ) < (S8 R C).size a := (y a).isLt
    fin_cases a
    · show (i : ℕ) ≤ (y 0 : ℕ) ∧ (y 0 : ℕ) < i + 1
      omega
    · exact ⟨Nat.zero_le _, by simpa using ha⟩
    · exact ⟨Nat.zero_le _, by simpa using ha⟩

theorem rows_disjoint (v : View sig .tc sp (S8 R C) e) {i j : Fin 8} (h : i ≠ j) : Disjoint (rows v i) (rows v j) := by
  unfold rows
  rw [Finset.disjoint_map, Finset.disjoint_left]
  intro y h1 h2
  have h1 := (Finset.mem_filter.1 h1).2
  have h2 := (Finset.mem_filter.1 h2).2
  exact h (Fin.ext (h1.symm.trans h2))

theorem rows_union (v : View sig .tc sp (S8 R C) e) : Finset.univ.biUnion (rows v) = v.set := by
  ext x
  unfold rows View.set
  simp only [Finset.mem_biUnion, Finset.mem_map, Finset.mem_univ, true_and]
  constructor
  · rintro ⟨i, y, -, rfl⟩; exact ⟨y, rfl⟩
  · rintro ⟨y, rfl⟩; exact ⟨(y 0 : Fin 8), y, Finset.mem_filter.2 ⟨Finset.mem_univ _, rfl⟩, rfl⟩

section Row

variable (m : Memref sig .tc sp (S8 R C) e) (off : Fin 3 → ℕ) (inb : ∀ a, off a + (S1 R C).size a ≤ (S8 R C).size a) (hq : (S1 R C).Squeezes (S R C))

/-- The block at an offset. -/
abbrev row : Memref sig .tc sp (S R C) e := (m.slice (Rect.unit (s := S8 R C) off (S1 R C).size inb) (fun _ => rfl)).squeeze (S R C) hq

theorem row_set (i : Fin 8) (h : off = ![(i : ℕ), 0, 0]) : (row m off inb hq).view.set = rows m.view i := by
  show ((m.view.slice _).reshape _ _).set = _
  rw [View.set_reshape, View.set_slice]
  unfold rows
  congr 1
  ext y
  rw [mem_unit i h, ixs, Finset.mem_filter]
  simp

end Row

/-- Two rows read the same where the arrays do, coordinate by coordinate. -/
theorem row_read {sp' : Space} (m : Memref sig .tc sp (S8 R C) e) (m' : Memref sig .tc sp' (S8 R C) e) {off off' : Fin 3 → ℕ} (inb inb') (hq hq') (i j : Fin 8)
    (h : off = ![(i : ℕ), 0, 0]) (h' : off' = ![(j : ℕ), 0, 0]) (f : m.view.ty.Contents Val) (g : m'.view.ty.Contents Val)
    (hv : ∀ y y' : (S8 R C).Idx, (y 0 : ℕ) = i → (y' 0 : ℕ) = j → (y 1 : ℕ) = y' 1 → (y 2 : ℕ) = y' 2 → m.view.read Val f y = m'.view.read Val g y') :
    (row m off inb hq).view.read Val f = (row m' off' inb' hq').view.read Val g := by
  subst h h'
  funext x
  refine hv ((Rect.unit (s := S8 R C) _ (S1 R C).size inb).emb (Shape.reshapeEquiv hq.numel_eq x)) ((Rect.unit (s := S8 R C) _ (S1 R C).size inb').emb (Shape.reshapeEquiv hq'.numel_eq x)) ?_ ?_ ?_ ?_
  · have hz : ((Shape.reshapeEquiv hq.numel_eq x) 0 : ℕ) < 1 := ((Shape.reshapeEquiv hq.numel_eq x) 0).isLt
    rw [Rect.emb_apply]
    show (i : ℕ) + 1 * ((Shape.reshapeEquiv hq.numel_eq x) 0 : ℕ) = i
    omega
  · have hz : ((Shape.reshapeEquiv hq'.numel_eq x) 0 : ℕ) < 1 := ((Shape.reshapeEquiv hq'.numel_eq x) 0).isLt
    rw [Rect.emb_apply]
    show (j : ℕ) + 1 * ((Shape.reshapeEquiv hq'.numel_eq x) 0 : ℕ) = j
    omega
  · rw [Rect.emb_apply, Rect.emb_apply]; rfl
  · rw [Rect.emb_apply, Rect.emb_apply]; rfl

/-- A row written with what a view of the array's right contents reads is the right contents there. -/
theorem write_row {s : Shape} (v : View sig .tc sp s e) (fd g : v.ty.Contents Val) (w : s.Idx → Val e) (h : v.read Val g = w) (x : v.ty.Idx) (hx : x ∈ v.set) :
    v.write Val fd w Finset.univ x = g x := by
  obtain ⟨y, -, rfl⟩ := Finset.mem_map.1 hx
  rw [View.write_emb_of_mem _ _ (h := Finset.mem_univ y), ← h, View.read_apply, cast_cast, cast_eq]

/-- A view's elements after a transfer into it, at the array's right contents. -/
theorem landed {s : Shape} (t : Dev nD) (v : View sig .tc sp s e) (q : PosShare TreeShare) (fd g : Buf Val (v.loc (t.tc : Thread nD τ))) (w : s.Idx → Val e) (h : v.read Val g = w) :
    (v.loc (t.tc : Thread nD τ) ↦[v.set]{q} (v.write Val fd w Finset.univ)) ⊢ (v.loc (t.tc : Thread nD τ) ↦[v.set]{q} g : sProp (MT nD τ sig Unit Val ℕ (OneShot.UU nD τ sig) ℕ)) := by
  rw [pointsTo_congr (g := g) fun i hi => write_row v fd g w h i hi]

/-- An array held is its rows held. -/
theorem held_rows (t : Dev nD) (v : View sig .tc sp (S8 R C) e) (q : PosShare TreeShare) (f : Buf Val (v.loc (t.tc : Thread nD τ))) :
    (v.loc (t.tc : Thread nD τ) ↦[v.set]{q} f : sProp (MT nD τ sig Unit Val ℕ (OneShot.UU nD τ sig) ℕ))
      = bigSep Finset.univ fun i => v.loc (t.tc : Thread nD τ) ↦[rows v i]{q} f := by
  have h : (v.loc (t.tc : Thread nD τ) ↦[Finset.univ.biUnion (rows v)]{q} f : sProp (MT nD τ sig Unit Val ℕ (OneShot.UU nD τ sig) ℕ))
      = bigSep Finset.univ fun i => v.loc (t.tc : Thread nD τ) ↦[rows v i]{q} f :=
    pointsTo_biUnion (ℓ := v.loc (t.tc : Thread nD τ)) Finset.univ (rows v) fun i _ j _ h => rows_disjoint v h
  rw [← h, rows_union]

end Cert.Rows

end
-- ==== Proof.AllToAll.lean ====
/-
  The all-to-all of block rows as an exchange plan: device `c` sends row `tgt k c` of its array to device
  `tgt k c`, which receives it as row `c` of its result. The launch's arrays dealt to the senders, and the
  result gathered.
-/
module

public import proofs.«01_k».proof.Proof.Exchange
public import proofs.«01_k».proof.Proof.Rows

@[expose] public section

noncomputable section

namespace Cert.OneShot

open Idealize.ShloMosaic Idealize.ShloMosaic.TcCoe
open Idealize.SL Idealize.SL.RA
open Idealize.SL.BI (sProp bigSep bigSep_sep' bigSep_univ_equiv bigSep_emp_const bigSep_with_persistent bigSep_map bigSep_univ_sum bigSep_singleton Storable Persistent)
open scoped Idealize.SL.BI
open Idealize.SL.BI.BIBase Idealize.SL.BI.Laws Idealize.SL.ProofMode Idealize.SL.Sem
open Idealize.ShloMosaic.Rounds Idealize.ShloMosaic.Pipeline
open Cert.Rows
open Cert.Early (ownZero)

set_option Elab.async false

variable {τ : Topo} {sig : RefSig} {Val : EltTy → Type}

section Lists

variable {nD : ℕ}

local notation "𝕄" => MT nD τ sig Unit Val ℕ (UU nD τ sig) ℕ

theorem sepL_map {K I : Type} (Φ : I → sProp 𝕄) (f : K → I) (l : List K) : sepL Φ (l.map f) = sepL (fun k => Φ (f k)) l := by
  induction l with
  | nil => rfl
  | cons k l ih => show iprop(Φ (f k) ∗ sepL Φ (l.map f)) = iprop(Φ (f k) ∗ _); rw [ih]

/-- A product over lists of products over the devices. -/
theorem sepL_bigSep {K : Type} (Φ : Dev nD → K → sProp 𝕄) (l : List K) :
    (bigSep Finset.univ fun d => sepL (Φ d) l) = sepL (fun k => bigSep Finset.univ fun d => Φ d k) l := by
  induction l with
  | nil => unfold sepL; exact bigSep_emp_const _
  | cons k l ih => unfold sepL; rw [bigSep_sep', ih]

theorem sepL_congr {K : Type} (Φ Ψ : K → sProp 𝕄) (l : List K) (h : ∀ k ∈ l, Φ k = Ψ k) : sepL Φ l = sepL Ψ l := by
  induction l with
  | nil => rfl
  | cons k l ih =>
    unfold sepL
    rw [h k (List.mem_cons_self ..), ih fun k hk => h k (List.mem_cons_of_mem _ hk)]

theorem sepL_le {K : Type} (Φ Ψ : K → sProp 𝕄) (l : List K) (h : ∀ k, Φ k ⊢ Ψ k) : sepL Φ l ⊢ sepL Ψ l := by
  induction l with
  | nil => exact .rfl
  | cons k l ih =>
    unfold sepL
    iintro ⟨H1, H2⟩
    isplitl [H1]
    · iapply (h k); iexact H1
    · iapply ih; iexact H2

end Lists

local notation "𝕄" => MT 8 τ sig Unit Val ℕ (UU 8 τ sig) ℕ

/-- An all-to-all of rows: the arrays, the offsets its views are cut at, the receivers. -/
structure A2A (τ : Topo) (sig : RefSig) where
  R : ℕ
  C : ℕ
  e : EltTy
  hq : (S1 R C).Squeezes (S R C)
  m : Memref sig .tc .hbm (S8 R C) e
  m' : Memref sig .tc .hbm (S8 R C) e
  sem : J (Fin 7) ↪ DmaSem sig
  tgt : Fin 7 → Dev 8 ≃ Dev 8
  o1 : Dev 8 → Fin 3 → ℕ
  o2 : Fin 7 → Dev 8 → Fin 3 → ℕ
  inb1 : ∀ c a, o1 c a + (S1 R C).size a ≤ (S8 R C).size a
  inb2 : ∀ k c a, o2 k c a + (S1 R C).size a ≤ (S8 R C).size a
  h1 : ∀ c, o1 c = ![(c : ℕ), 0, 0]
  h2 : ∀ k c, o2 k c = ![(tgt k c : ℕ), 0, 0]
  w1 : ∀ c, (row m (o1 c) (inb1 c) hq).view.WordExact
  w2 : ∀ k c, (row m (o2 k c) (inb2 k c) hq).view.WordExact
  w1' : ∀ c, (row m' (o1 c) (inb1 c) hq).view.WordExact
  w2' : ∀ k c, (row m' (o2 k c) (inb2 k c) hq).view.WordExact
  hsc : m'.view.ref.isScScratch = false
  tyL : ∀ c, DmaTarget.Typed (nD := 8) (τ := τ) (p := Proc.tc) .hbm (.dma (sem jl)) (.here (row m' (o1 c) (inb1 c) hq))
  tyS : ∀ k c, DmaTarget.Typed (nD := 8) (τ := τ) (p := Proc.tc) .hbm (.dma (sem (jr k))) (.remote ((tgt k c).tc : Thread 8 τ) (row m' (o1 c) (inb1 c) hq) (.dma (sem (js k))) hsc)
  N : ℕ
  hN : 0 < N
  cred : (row m (o1 0) (inb1 0) hq).view.dmaCredit = N
  cred' : (row m' (o1 0) (inb1 0) hq).view.dmaCredit = N
  routes : ∀ k (c : Dev 8), τ.routes (c.tc : Thread 8 τ) ((tgt k c).tc : Thread 8 τ) = true
  l : List (Fin 7)
  nodup : l.Nodup
  all : ∀ k, k ∈ l
  out_nodup : ∀ c : Dev 8, (c :: l.map (tgt · c)).Nodup
  out_all : ∀ c i : Dev 8, i ∈ c :: l.map (tgt · c)
  in_nodup : ∀ c : Dev 8, (c :: l.map fun k => (tgt k).symm c).Nodup
  in_all : ∀ c i : Dev 8, i ∈ c :: l.map fun k => (tgt k).symm c

namespace A2A

variable (A : A2A τ sig)

def plan : Plan 8 τ sig (Fin 7) where
  sp := .hbm
  sp' := .hbm
  s := S A.R A.C
  e := A.e
  sem := A.sem
  tgt := A.tgt
  srcL c := row A.m (A.o1 c) (A.inb1 c) A.hq
  srcS k c := row A.m (A.o2 k c) (A.inb2 k c) A.hq
  dst c := row A.m' (A.o1 c) (A.inb1 c) A.hq
  dstW k c := row A.m' (A.o2 k c) (A.inb2 k c) A.hq
  hL := A.w1
  hS := A.w2
  hD := A.w1'
  hW := A.w2'
  hsc _ := A.hsc
  tyL := A.tyL
  tyS := A.tyS
  N := A.N
  hN := A.hN
  credD _ := A.cred'
  credW _ _ := A.cred'
  credS _ _ := A.cred
  routes := A.routes

variable (x : (c : Dev 8) → Buf Val (A.m.view.loc (c.tc : Thread 8 τ)))
variable (G : (c : Dev 8) → Buf Val (A.m'.view.loc (c.tc : Thread 8 τ)))

/-- What each cell hands over: a received row at the result's contents, a sent row back, both ends of the
    local copy. -/
def pay (d : Dev 8) : J (Fin 7) → sProp (MT 8 τ sig Unit Val ℕ (UU 8 τ sig) ℕ)
  | .inl (.inl k) => A.m'.view.loc (d.tc : Thread 8 τ) ↦[rows A.m'.view ((A.tgt k).symm d)]{fullShare} G d
  | .inl (.inr k) => A.m.view.loc (d.tc : Thread 8 τ) ↦[rows A.m.view (A.tgt k d)]{fullShare} x d
  | .inr _ => iprop((A.m'.view.loc (d.tc : Thread 8 τ) ↦[rows A.m'.view d]{fullShare} G d)
      ∗ (A.m.view.loc (d.tc : Thread 8 τ) ↦[rows A.m.view d]{fullShare} x d))

theorem pay_storable : ∀ c j, Storable upEmb (A.pay x G c j) := by
  intro c j
  rcases j with (k | k) | k
  · show Storable _ (A.m'.view.loc (c.tc : Thread 8 τ) ↦[rows A.m'.view ((A.tgt k).symm c)]{fullShare} G c)
    infer_instance
  · show Storable _ (A.m.view.loc (c.tc : Thread 8 τ) ↦[rows A.m.view (A.tgt k c)]{fullShare} x c)
    infer_instance
  · show Storable _ iprop((A.m'.view.loc (c.tc : Thread 8 τ) ↦[rows A.m'.view c]{fullShare} G c)
      ∗ (A.m.view.loc (c.tc : Thread 8 τ) ↦[rows A.m.view c]{fullShare} x c))
    infer_instance

/-- The source row sent is the row the payload returns. -/
theorem pay_sent (k : Fin 7) (c : Dev 8) :
    ((A.plan.srcS k c).view.loc (c.tc : Thread 8 τ) ↦[(A.plan.srcS k c).view.set]{fullShare} x c) ⊢ A.pay x G c (js k) := by
  show _ ⊢ A.m.view.loc (c.tc : Thread 8 τ) ↦[rows A.m.view (A.tgt k c)]{fullShare} x c
  rw [← row_set A.m (A.o2 k c) (A.inb2 k c) A.hq (A.tgt k c) (A.h2 k c)]
  exact .rfl

/-- Result row `s` of device `d` is row `d` of device `s`'s array. -/
def Transposed : Prop :=
  ∀ (s d : Dev 8) (y y' : (S8 A.R A.C).Idx), (y 0 : ℕ) = s → (y' 0 : ℕ) = d → (y 1 : ℕ) = y' 1 → (y 2 : ℕ) = y' 2 →
    A.m'.view.read Val (G d) y = A.m.view.read Val (x s) y'

variable (hG : A.Transposed x G)

include hG in
theorem pay_received (k : Fin 7) (c : Dev 8) (fd : Buf Val ((A.plan.dst c).view.loc ((A.plan.tgt k c).tc : Thread 8 τ))) :
    ((A.plan.dst c).view.loc ((A.plan.tgt k c).tc : Thread 8 τ) ↦[(A.plan.dst c).view.set]{fullShare}
      ((A.plan.dst c).view.write Val fd ((A.plan.srcS k c).view.read Val (x c)) Finset.univ)) ⊢ A.pay x G (A.plan.tgt k c) (jr k) := by
  have hs : (A.plan.dst c).view.set = rows A.m'.view c := row_set A.m' (A.o1 c) (A.inb1 c) A.hq c (A.h1 c)
  have hr : (A.plan.dst c).view.read Val (G (A.tgt k c)) = (A.plan.srcS k c).view.read Val (x c) :=
    row_read A.m' A.m (A.inb1 c) (A.inb2 k c) A.hq A.hq c (A.tgt k c) (A.h1 c) (A.h2 k c) (G (A.tgt k c)) (x c) (hG c (A.tgt k c))
  refine (landed (A.tgt k c) (A.plan.dst c).view fullShare fd (G (A.tgt k c)) _ hr).trans ?_
  rw [hs]
  show _ ⊢ A.m'.view.loc ((A.tgt k c).tc : Thread 8 τ) ↦[rows A.m'.view ((A.tgt k).symm (A.tgt k c))]{fullShare} G (A.tgt k c)
  rw [Equiv.symm_apply_apply]
  exact .rfl

include hG in
theorem pay_local (c : Dev 8) (fd : Buf Val ((A.plan.dst c).view.loc (c.tc : Thread 8 τ))) :
    iprop(((A.plan.dst c).view.loc (c.tc : Thread 8 τ) ↦[(A.plan.dst c).view.set]{fullShare}
        ((A.plan.dst c).view.write Val fd ((A.plan.srcL c).view.read Val (x c)) Finset.univ))
      ∗ ((A.plan.srcL c).view.loc (c.tc : Thread 8 τ) ↦[(A.plan.srcL c).view.set]{fullShare} x c)) ⊢ A.pay x G c jl := by
  have hs : (A.plan.dst c).view.set = rows A.m'.view c := row_set A.m' (A.o1 c) (A.inb1 c) A.hq c (A.h1 c)
  have hs' : (A.plan.srcL c).view.set = rows A.m.view c := row_set A.m (A.o1 c) (A.inb1 c) A.hq c (A.h1 c)
  have hr : (A.plan.dst c).view.read Val (G c) = (A.plan.srcL c).view.read Val (x c) :=
    row_read A.m' A.m (A.inb1 c) (A.inb1 c) A.hq A.hq c c (A.h1 c) (A.h1 c) (G c) (x c) (hG c c)
  show _ ⊢ iprop((A.m'.view.loc (c.tc : Thread 8 τ) ↦[rows A.m'.view c]{fullShare} G c)
      ∗ (A.m.view.loc (c.tc : Thread 8 τ) ↦[rows A.m.view c]{fullShare} x c))
  rw [← hs, ← hs']
  iintro ⟨H1, H2⟩
  ihave H1 := (landed c (A.plan.dst c).view fullShare fd (G c) _ hr) $$ H1
  isplitl [H1]
  · iexact H1
  · iexact H2

/-! ### The rows dealt and gathered -/

/-- A family over the blocks: the own block, and the blocks sent, in the channels' order. -/
theorem univ_out (Φ : Fin 8 → sProp 𝕄) (c : Dev 8) :
    bigSep Finset.univ Φ = iprop(Φ c ∗ sepL (fun k => Φ (A.tgt k c)) A.l) := by
  rw [← sepL_univ Φ _ (A.out_nodup c) (A.out_all c)]
  show iprop(Φ c ∗ sepL Φ (A.l.map (A.tgt · c))) = _
  rw [sepL_map]

/-- The same by the blocks received. -/
theorem univ_in (Φ : Fin 8 → sProp 𝕄) (c : Dev 8) :
    bigSep Finset.univ Φ = iprop(Φ c ∗ sepL (fun k => Φ ((A.tgt k).symm c)) A.l) := by
  rw [← sepL_univ Φ _ (A.in_nodup c) (A.in_all c)]
  show iprop(Φ c ∗ sepL Φ (A.l.map fun k => (A.tgt k).symm c)) = _
  rw [sepL_map]

/-- Both arrays of a device. -/
def held (g : (c : Dev 8) → Buf Val (A.m'.view.loc (c.tc : Thread 8 τ))) (c : Dev 8) : sProp (MT 8 τ sig Unit Val ℕ (UU 8 τ sig) ℕ) :=
  iprop((A.m.view.loc (c.tc : Thread 8 τ) ↦[A.m.view.set]{fullShare} x c) ∗ (A.m'.view.loc (c.tc : Thread 8 τ) ↦[A.m'.view.set]{fullShare} g c))

/-- The launch's arrays, dealt to their senders. -/
theorem deal_rows (g : (c : Dev 8) → Buf Val (A.m'.view.loc (c.tc : Thread 8 τ))) :
    (bigSep Finset.univ fun c => A.held x g c) ⊢ bigSep Finset.univ fun c => iprop(sepL (A.plan.ends (fun _ c => x c) c) A.l ∗ A.plan.endsL x c) := by
  have h1 : (fun c => A.held x g c) = fun c : Dev 8 => iprop(((A.m.view.loc (c.tc : Thread 8 τ) ↦[rows A.m.view c]{fullShare} x c)
      ∗ (sepL (fun k => A.m.view.loc (c.tc : Thread 8 τ) ↦[rows A.m.view (A.tgt k c)]{fullShare} x c) A.l))
      ∗ ((A.m'.view.loc (c.tc : Thread 8 τ) ↦[rows A.m'.view c]{fullShare} g c)
      ∗ sepL (fun k => A.m'.view.loc (c.tc : Thread 8 τ) ↦[rows A.m'.view ((A.tgt k).symm c)]{fullShare} g c) A.l)) := by
    funext c
    unfold held
    rw [held_rows, held_rows, A.univ_out _ c, A.univ_in _ c]
  have h2 : (bigSep Finset.univ fun c : Dev 8 => sepL (fun k => A.m'.view.loc (c.tc : Thread 8 τ) ↦[rows A.m'.view ((A.tgt k).symm c)]{fullShare} g c) A.l)
      = bigSep Finset.univ fun c : Dev 8 => (sepL (fun k => A.m'.view.loc ((A.tgt k c).tc : Thread 8 τ) ↦[rows A.m'.view c]{fullShare} g (A.tgt k c)) A.l : sProp 𝕄) := by
    rw [sepL_bigSep, sepL_bigSep]
    refine sepL_congr _ _ _ fun k _ => ?_
    rw [bigSep_univ_equiv (A.tgt k)]
    refine congrArg _ (funext fun c => ?_)
    rw [Equiv.symm_apply_apply]
  rw [h1, bigSep_sep', bigSep_sep' (Φ := fun c : Dev 8 => (A.m'.view.loc (c.tc : Thread 8 τ) ↦[rows A.m'.view c]{fullShare} g c)), h2, ← bigSep_sep', ← bigSep_sep']
  refine bigSep_le fun c _ => ?_
  iintro ⟨⟨Hl, Hs⟩, Hl', Hd⟩
  isplitl [Hs Hd]
  · unfold Plan.ends
    iapply (sepL_join _ _ A.l)
    isplitl [Hs]
    · iapply (sepL_le _ _ A.l fun k => ?_) $$ Hs
      rw [show (A.plan.srcS k c).view.set = rows A.m.view (A.tgt k c) from row_set A.m (A.o2 k c) (A.inb2 k c) A.hq (A.tgt k c) (A.h2 k c)]
      exact .rfl
    · iapply (sepL_le _ _ A.l fun k => ?_) $$ Hd
      rw [show (A.plan.dst c).view.set = rows A.m'.view c from row_set A.m' (A.o1 c) (A.inb1 c) A.hq c (A.h1 c)]
      iintro H
      iexists (g (A.tgt k c))
      iexact H
  · unfold Plan.endsL
    rw [show (A.plan.dst c).view.set = rows A.m'.view c from row_set A.m' (A.o1 c) (A.inb1 c) A.hq c (A.h1 c),
      show (A.plan.srcL c).view.set = rows A.m.view c from row_set A.m (A.o1 c) (A.inb1 c) A.hq c (A.h1 c)]
    isplitl [Hl]; · iexact Hl
    iexists (g c)
    iexact Hl'

/-- The payloads of all a device's cells are both arrays again, the result at its contents. -/
theorem gather (c : Dev 8) :
    iprop(sepL (fun k => A.pay x G c (jr k)) A.l ∗ sepL (fun k => A.pay x G c (js k)) A.l ∗ A.pay x G c jl) ⊢ A.held x G c := by
  unfold held
  rw [held_rows, held_rows, A.univ_out _ c, A.univ_in _ c]
  show iprop(sepL (fun k => A.m'.view.loc (c.tc : Thread 8 τ) ↦[rows A.m'.view ((A.tgt k).symm c)]{fullShare} G c) A.l
    ∗ sepL (fun k => A.m.view.loc (c.tc : Thread 8 τ) ↦[rows A.m.view (A.tgt k c)]{fullShare} x c) A.l
    ∗ (A.m'.view.loc (c.tc : Thread 8 τ) ↦[rows A.m'.view c]{fullShare} G c)
      ∗ (A.m.view.loc (c.tc : Thread 8 τ) ↦[rows A.m.view c]{fullShare} x c)) ⊢ _
  iintro ⟨Hr, Hs, Hl', Hl⟩
  isplitl [Hs Hl]
  · isplitl [Hl] <;> iassumption
  · isplitl [Hl'] <;> iassumption

/-! ## From the launch to the end of the call -/

/-- What a device starts the call with. -/
def ready (c : Dev 8) : sProp (MT 8 τ sig Unit Val ℕ (UU 8 τ sig) ℕ) :=
  iprop(recs A.sem A.N A.hN (A.pay x G) ∗ sepL (A.plan.ends (fun _ c => x c) c) A.l ∗ A.plan.endsL x c
    ∗ sepL (chan A.sem A.N A.tgt c) A.l ∗ loc A.sem c)

/-- What it ends with: both arrays, the result at its contents, and the counters at zero. -/
def done (c : Dev 8) : sProp (MT 8 τ sig Unit Val ℕ (UU 8 τ sig) ℕ) := iprop(A.held x G c ∗ ownZero (own A.sem) c)

/-- What device `c` owes at the launch: the block it sends on every channel. -/
def owed (c : Dev 8) : CellTallies 8 τ sig Unit := owe A.sem A.N A.tgt c A.l

/-- The launch: the cells opened, the arrays' rows dealt to their senders. -/
theorem launch (g : (c : Dev 8) → Buf Val (A.m'.view.loc (c.tc : Thread 8 τ))) :
    iprop((bigSep Finset.univ fun c : Dev 8 => ownZero (own A.sem) c) ∗ BI.own (ER (elem (nD := 8) (τ := τ) A.sem))
        ∗ (bigSep Finset.univ fun c : Dev 8 => launchCred A.owed c) ∗ bigSep Finset.univ fun c => A.held x g c)
      ⊢ |={Set.univ}=> bigSep Finset.univ (A.ready x G) := by
  iintro ⟨Hz, He, Hc, Hh⟩
  ihave Hr := (A.deal_rows x g) $$ Hh
  imod (deal A.sem A.N A.hN (A.pay x G) A.tgt (A.pay_storable x G) A.l A.nodup A.all) $$ [Hz He Hc] with ⟨#HR, Hd⟩
  · isplitl [Hz]; · iexact Hz
    isplitl [He]; · iexact He
    iexact Hc
  imodintro
  iapply (show iprop(recs A.sem A.N A.hN (A.pay x G)
      ∗ (bigSep Finset.univ fun c : Dev 8 => iprop(sepL (A.plan.ends (fun _ c => x c) c) A.l ∗ A.plan.endsL x c))
      ∗ bigSep Finset.univ fun c : Dev 8 => iprop((bigSep Finset.univ fun k => chan A.sem A.N A.tgt c k) ∗ loc A.sem c))
      ⊢ bigSep Finset.univ (A.ready x G) from ?_)
  · rw [← bigSep_sep']
    refine (bigSep_with_persistent ?_)
    intro c _
    rw [← sepL_univ _ A.l A.nodup A.all]
    unfold ready
    iintro ⟨#HR, ⟨He, Hl⟩, Hc, Hlc⟩
    isplitr; · iexact HR
    isplitl [He]; · iexact He
    isplitl [Hl]; · iexact Hl
    isplitl [Hc] <;> iassumption
  isplitr; · iexact HR
  isplitl [Hr] <;> iassumption

theorem ownZero_list (c : Dev 8) :
    iprop(sepL (fun k => semVal (cell A.sem c (jr k)) 0) A.l ∗ sepL (fun k => semVal (cell A.sem c (js k)) 0) A.l ∗ semVal (cell A.sem c jl) 0)
      ⊢ (ownZero (own A.sem) c : sProp 𝕄) := by
  rw [sepL_univ _ A.l A.nodup A.all, sepL_univ _ A.l A.nodup A.all]
  unfold ownZero own
  rw [bigSep_map, bigSep_univ_sum, bigSep_univ_sum, Finset.univ_unique (α := Unit), bigSep_singleton]
  show _ ⊢ iprop(((bigSep Finset.univ fun k => semVal (cell A.sem c (jr k)) 0) ∗ bigSep Finset.univ fun k => semVal (cell A.sem c (js k)) 0) ∗ semVal (cell A.sem c jl) 0)
  iintro ⟨H1, H2, H3⟩
  isplitr [H3]
  · isplitl [H1] <;> iassumption
  · iexact H3

include hG in
/-- The call, run from what the launch deals. -/
theorem run {Λ : Labels} {defs : Defs 8 τ sig Val Λ} (𝒱 : Variants) (c : Dev 8) (W : Waits sig Unit) :
    iprop(A.ready x G c ∗ owes (c.tc : Thread 8 τ) (A.owed c) W)
      ⊢ wp frame (wpE defs 𝒱 (c.tc : Thread 8 τ) none) Set.univ (A.plan.body A.l)
          (fun _ => iprop(A.done x G c ∗ ∃ W, owes (c.tc : Thread 8 τ) (0 : CellTallies 8 τ sig Unit) W)) := by
  unfold ready owed done
  iintro ⟨⟨#HR, He, Hl, Hc, Hlc⟩, HO⟩
  iapply (A.plan.body_run (A.pay x G) x (fun _ c => x c) (A.pay_sent x G) (A.pay_received x G hG) (A.pay_local x G hG) 𝒱 c _ A.l W)
  isplitr; · iexact HR
  isplitl [He]; · iexact He
  isplitl [Hl]; · iexact Hl
  isplitl [Hc]; · iexact Hc
  isplitl [Hlc]; · iexact Hlc
  isplitl [HO]; · iexact HO
  iintro ⟨Hs, ⟨Hz, Hp⟩, HO⟩
  ihave Hs := (sepL_sep _ _ A.l) $$ Hs
  icases Hs with ⟨Hr, Hs⟩
  ihave Hr := (sepL_sep _ _ A.l) $$ Hr
  icases Hr with ⟨Hrz, Hrp⟩
  ihave Hs := (sepL_sep _ _ A.l) $$ Hs
  icases Hs with ⟨Hsz, Hsp⟩
  isplitr [HO]
  · isplitl [Hrp Hsp Hp]
    · iapply (A.gather x G c)
      isplitl [Hrp]; · iexact Hrp
      isplitl [Hsp] <;> iassumption
    · iapply (A.ownZero_list c)
      isplitl [Hrz]; · iexact Hrz
      isplitl [Hsz]; · iexact Hsz
      iexact Hz
  · iexact HO

end A2A

end Cert.OneShot

end
-- ==== Proof.Call.lean ====
/-
  The all-to-all as a program's first call: its proof data, its body's obligation, and the launch that
  hands every device its arrays, its channels and its credit.
-/
module

public import proofs.«01_k».proof.Proof.AllToAll
public import proofs.«01_k».proof.Proof.EarlyLaunch
public import Idealize.ShloMosaic.Lib.Pipeline.TalkSched

@[expose] public section

noncomputable section

namespace Cert.OneShot

open Idealize.ShloMosaic Idealize.ShloMosaic.TcCoe
open Idealize.SL Idealize.SL.RA
open Idealize.SL.BI (sProp bigSep bigSep_sep' bigSep_mono bigSep_univ_eq_bigSepL)
open scoped Idealize.SL.BI
open Idealize.SL.BI.BIBase Idealize.SL.BI.Laws Idealize.SL.ProofMode Idealize.SL.Sem
open Idealize.ShloMosaic.Rounds Idealize.ShloMosaic.Pipeline
open Cert.Rows
open Idealize.ShloMosaic.TalkSites (owesAt_elim owesAt_intro)
open Cert.Early (ownZero)

set_option Elab.async false

/-- Row `d` of every device, in the order of the devices: what device `d` ends with. -/
def swapped {R C : ℕ} {α : Type} (x : Dev 8 → (S8 R C).Idx → α) (d : Dev 8) : (S8 R C).Idx → α :=
  fun y => x (y 0) (Function.update y 0 d)

theorem swapped_eq {R C : ℕ} {α : Type} (x : Dev 8 → (S8 R C).Idx → α) (s d : Dev 8) (y y' : (S8 R C).Idx)
    (h0 : (y 0 : ℕ) = s) (h0' : (y' 0 : ℕ) = d) (h1 : (y 1 : ℕ) = y' 1) (h2 : (y 2 : ℕ) = y' 2) : swapped x d y = x s y' := by
  have hs : y 0 = s := Fin.ext h0
  have hy : Function.update y 0 d = y' := by
    funext a
    fin_cases a
    · exact Fin.ext h0'.symm
    · exact Fin.ext h1
    · exact Fin.ext h2
  unfold swapped
  rw [hs, hy]

variable {τ : Topo} {sig : RefSig} {Val : EltTy → Type} {Λ₀ : Labels}

namespace A2A

variable (A : A2A τ sig)
variable (x : (c : Dev 8) → Buf Val (A.m.view.loc (c.tc : Thread 8 τ)))
variable (G : (c : Dev 8) → Buf Val (A.m'.view.loc (c.tc : Thread 8 τ)))

/-- Whole arrays, held whole. -/
theorem held_whole (h : A.m.IsWhole) (h' : A.m'.IsWhole) (g : (c : Dev 8) → Buf Val (A.m'.view.loc (c.tc : Thread 8 τ))) (c : Dev 8) :
    A.held x g c = iprop((A.m.view.loc (c.tc : Thread 8 τ) ↦{fullShare} x c) ∗ (A.m'.view.loc (c.tc : Thread 8 τ) ↦{fullShare} g c)) := by
  unfold held
  rw [h.set_eq_univ, h'.set_eq_univ]

/-- The call's proof data: before its one point the device's part of the exchange, after it the result. -/
def dat (cfg : Cfg sig Λ₀) (hW : cfg.W = 0) (c : Dev 8) : Dat τ Val Unit ℕ (UU 8 τ sig) ℕ cfg c where
  A w := absurd w.isLt (by omega)
  after w := absurd w.isLt (by omega)
  Φ t := if t.val = 0 then iprop(A.ready x G c ∗ scopedBufs (c.tc : Thread 8 τ)) else iprop(A.done x G c ∗ scopedBufs (c.tc : Thread 8 τ))
  q w := absurd w.isLt (by omega)
  owed t := if t.val = 0 then A.owed c else 0

theorem dat_start (cfg : Cfg sig Λ₀) (hW : cfg.W = 0) (c : Dev 8) (t : Fin (cfg.N + 1)) (h : t.val = 0) :
    (A.dat x G cfg hW c).Φ t = iprop(A.ready x G c ∗ scopedBufs (c.tc : Thread 8 τ)) := if_pos h

theorem dat_end (cfg : Cfg sig Λ₀) (hW : cfg.W = 0) (c : Dev 8) (t : Fin (cfg.N + 1)) (h : ¬ t.val = 0) :
    (A.dat x G cfg hW c).Φ t = iprop(A.done x G c ∗ scopedBufs (c.tc : Thread 8 τ)) := if_neg h

theorem owed_start (cfg : Cfg sig Λ₀) (hW : cfg.W = 0) (c : Dev 8) (t : Fin (cfg.N + 1)) (h : t.val = 0) :
    (A.dat x G cfg hW c).owed t = A.owed c := if_pos h

theorem owed_end (cfg : Cfg sig Λ₀) (hW : cfg.W = 0) (c : Dev 8) (t : Fin (cfg.N + 1)) (h : ¬ t.val = 0) :
    (A.dat x G cfg hW c).owed t = 0 := by
  show (if t.val = 0 then A.owed c else 0) = 0
  rw [if_neg h]

theorem obligation (hG : A.Transposed x G) (cfg : Cfg sig Λ₀) (hW : cfg.W = 0) (hN : cfg.N = 1) (defs₀ : Defs 8 τ sig Val Λ₀) (𝒱₀ : Variants)
    (c : Dev 8)
    (hb : ∀ t (R : sProp (MT 8 τ sig Unit Val ℕ (UU 8 τ sig) ℕ)),
      wp frame (wpE defs₀ 𝒱₀ (c.tc : Thread 8 τ) none) Set.univ (A.plan.body A.l) (fun _ => R)
        ⊢ wp frame (wpE defs₀ 𝒱₀ (c.tc : Thread 8 τ) none) Set.univ (defs₀ .tc cfg.body (cfg.bodyArgs t (cfg.slots t))) (fun _ => R)) :
    BodyObligation (A.dat x G cfg hW c) defs₀ 𝒱₀ () Set.univ := fun t => by
  have : IsEmpty (Fin cfg.W) := by rw [hW]; infer_instance
  have h0 : t.castSucc.val = 0 := by have := t.isLt; show t.val = 0; omega
  have h1 : ¬ t.succ.val = 0 := by rw [Fin.val_succ]; omega
  have hemp : ∀ Φ : Fin cfg.W → sProp (MT 8 τ sig Unit Val ℕ (UU 8 τ sig) ℕ), bigSep Finset.univ Φ = BI.emp := fun Φ => by
    rw [Finset.univ_eq_empty (α := Fin cfg.W)]; exact BI.bigSep_empty
  rw [hemp, hemp, A.dat_start x G cfg hW c _ h0, A.dat_end x G cfg hW c _ h1]
  have hi := fun W => owesAt_intro (Name := ℕ) (U := UU 8 τ sig) (Lvl := ℕ) (A.dat x G cfg hW c) () t.succ 0 (A.owed_end x G cfg hW c _ h1) rfl W
  refine Entails.trans ?_ (hb t _)
  iintro ⟨⟨Hr, Hb⟩, HO, -⟩
  ihave HO' := (owesAt_elim (A.dat x G cfg hW c) () _ (A.owed c) (A.owed_start x G cfg hW c _ h0)) $$ HO
  icases HO' with ⟨%W, HO⟩
  ihave Hwp := (A.run x G hG (defs := defs₀) 𝒱₀ c W) $$ [Hr HO]
  · isplitl [Hr]; · iexact Hr
    iexact HO
  iapply (wp_wand frame (wpE defs₀ 𝒱₀ (c.tc : Thread 8 τ) none) Set.univ) $$ [Hwp]
  · iexact Hwp
  iintro %u ⟨Hd, ⟨%W', HO⟩⟩
  isplitl [Hd Hb]
  · isplitl [Hd]; · iexact Hd
    iexact Hb
  isplitl [HO]
  · ihave H := (hi W') $$ HO
    iexact H
  iempintro

end A2A

end Cert.OneShot

end
-- ==== Proof.KPlan.lean ====
/-
  The exchange call of `Kernel` as an all-to-all of rows: device `c` exchanges with the devices whose
  number differs from its own by a non-zero exclusive or; the printed body is the plan's.
-/
module

public import proofs.«01_k».proof.Proof.AllToAll
public import proofs.«01_k».proof.Proof.Gen.KernelIdeal.Frame

@[expose] public section

noncomputable section

namespace Cert.KernelIdeal

open Idealize.ShloMosaic Idealize.ShloMosaic.TcCoe
open Idealize.SL Idealize.SL.Sem
open Cert.OneShot Cert.Rows
open Facts₀ Facts

set_option Elab.async false

/-- The receiver of channel `k`. -/
def peer (k : Fin 7) (c : Dev 8) : Dev 8 :=
  match k with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩

theorem peer_peer : ∀ k c, peer k (peer k c) = c := by decide +kernel

def tgt (k : Fin 7) : Dev 8 ≃ Dev 8 := ⟨peer k, peer k, peer_peer k, peer_peer k⟩

/-- The cells: the semaphores 7–13 are credited by what arrives, 0–6 by what left, 14 by the local copy. -/
def semOf : J (Fin 7) → Fin 15
  | .inl (.inl k) => ⟨7 + k.val, by have := k.isLt; omega⟩
  | .inl (.inr k) => ⟨k.val, by have := k.isLt; omega⟩
  | .inr _ => ⟨14, by decide⟩

theorem semOf_inj : Function.Injective semOf := by
  intro a b
  revert a b
  decide +kernel

theorem off1 : ∀ c : Dev 8, k0_off1 c = ![(c : ℕ), 0, 0] := by decide +kernel
theorem off2 : ∀ (k : Fin 7) (c : Dev 8), k0_off2 c (k0_off2_at k).1 (k0_off2_at k).2.1 (k0_off2_at k).2.2 = ![(tgt k c : ℕ), 0, 0] := by decide +kernel

section Arrays

variable {sig : RefSig}

theorem wordExact_row (m : Memref sig .tc .hbm (S8 9216 1024) .bf16) (hm : m.IsWhole) (off : Fin 3 → ℕ) (inb : ∀ a, off a + (Cert.Rows.S1 9216 1024).size a ≤ (S8 9216 1024).size a)
    (hw : (Rect.unit (s := S8 9216 1024) off (Cert.Rows.S1 9216 1024).size inb).WholeWords (EltTy.packing .bf16)) (hq : (Cert.Rows.S1 9216 1024).Squeezes (S 9216 1024)) :
    (row m off inb hq).view.WordExact := (hm.wordExact_slice rfl _ hw).reshape _ _

/-- The exchange between given arrays, by given cells. -/
def exchange (m m' : Memref sig .tc .hbm (S8 9216 1024) .bf16) (hm : m.IsWhole) (hm' : m'.IsWhole) (s : Fin 15 ↪ DmaSem sig)
    (hsc : m'.view.ref.isScScratch = false)
    (tyL : ∀ (d : DmaSem sig) c, DmaTarget.Typed (nD := 8) (τ := τ) (p := Proc.tc) .hbm (.dma d) (.here (row m' (k0_off1 c) (k0_off1_inb c) squeezes_S1x9216x1024_S9216x1024)))
    (tyS : ∀ (d d' : DmaSem sig) (c c' : Dev 8), DmaTarget.Typed (nD := 8) (τ := τ) (p := Proc.tc) .hbm (.dma d)
      (.remote (c'.tc : Thread 8 τ) (row m' (k0_off1 c) (k0_off1_inb c) squeezes_S1x9216x1024_S9216x1024) (.dma d') hsc))
    (hN : 0 < (row m (k0_off1 0) (k0_off1_inb 0) squeezes_S1x9216x1024_S9216x1024).view.dmaCredit)
    (cred : (row m' (k0_off1 0) (k0_off1_inb 0) squeezes_S1x9216x1024_S9216x1024).view.dmaCredit
      = (row m (k0_off1 0) (k0_off1_inb 0) squeezes_S1x9216x1024_S9216x1024).view.dmaCredit) : A2A τ sig where
  R := 9216
  C := 1024
  e := .bf16
  hq := squeezes_S1x9216x1024_S9216x1024
  m := m
  m' := m'
  sem := (⟨semOf, semOf_inj⟩ : J (Fin 7) ↪ Fin 15).trans s
  tgt := tgt
  o1 := k0_off1
  o2 k c := k0_off2 c (k0_off2_at k).1 (k0_off2_at k).2.1 (k0_off2_at k).2.2
  inb1 := k0_off1_inb
  inb2 k c := k0_off2_inb c k
  h1 := off1
  h2 := off2
  w1 c := wordExact_row _ hm _ _ (k0_off1_wordsbf16 c) _
  w2 k c := wordExact_row _ hm _ _ (k0_off2_wordsbf16 c k) _
  w1' c := wordExact_row _ hm' _ _ (k0_off1_wordsbf16 c) _
  w2' k c := wordExact_row _ hm' _ _ (k0_off2_wordsbf16 c k) _
  hsc := hsc
  tyL c := tyL _ c
  tyS k c := tyS _ _ c _
  N := (row m (k0_off1 0) (k0_off1_inb 0) squeezes_S1x9216x1024_S9216x1024).view.dmaCredit
  hN := hN
  cred := rfl
  cred' := cred
  routes k c := by routes
  l := [0, 1, 2, 3, 4, 5, 6]
  nodup := by decide
  all := by decide
  out_nodup := by decide +kernel
  out_all := by decide +kernel
  in_nodup := by decide +kernel
  in_all := by decide +kernel

end Arrays

/-- The call as an all-to-all of rows. -/
def A : A2A τ sig :=
  exchange (Memref.whole main_arg0) (Memref.whole main_v1) (Memref.isWhole_whole _) (Memref.isWhole_whole _) ⟨id, fun _ _ h => h⟩ rfl
    (fun _ _ => ⟨Or.inl rfl, trivial⟩) (fun _ _ _ _ => ⟨⟨rfl, Or.inl rfl⟩, trivial⟩) (View.dmaCredit_pos _ (by decide)) rfl

variable {F : FTy → Type} [FloatOps F]

set_option maxRecDepth 65536 in
/-- The printed body is the plan's. -/
theorem body_eq : (cc0_exchange_grads (F := F) (Memref.whole main_arg0) (Memref.isWhole_whole _) (Memref.whole main_v1) (Memref.isWhole_whole _) cc0_scratch0 cc0_scratch1 cc0_scratch2)
    = A.plan.body A.l := rfl

end Cert.KernelIdeal

end
-- ==== Proof.KRun.lean ====
/-
  `Kernel` over any float operations: from any memory with zero counters every execution on the eight
  devices terminates, the argument unchanged, row `s` of each device's result that device's row of the array of
  device `s`, and every counter at zero.
-/
module

public import proofs.«01_k».proof.Proof.Call
public import proofs.«01_k».proof.Proof.KPlan

@[expose] public section

noncomputable section

namespace Cert.KernelIdeal

open Idealize.ShloMosaic Idealize.ShloMosaic.TcCoe
open Idealize.SL Idealize.SL.RA
open Idealize.SL.BI (sProp bigSep bigSep_sep' bigSep_mono)
open scoped Idealize.SL.BI
open Idealize.SL.BI.BIBase Idealize.SL.BI.Laws Idealize.SL.ProofMode Idealize.SL.Sem
open Idealize.ShloMosaic.Rounds Idealize.ShloMosaic.Pipeline
open Idealize.ShloMosaic.TalkSites (owesAt_elim owesAt_intro)
open Cert.OneShot Cert.Rows
open Cert.Early (ownZero)

set_option Elab.async false

variable {F : FTy → Type} [FloatOps F]
variable (m : (ℓ : Loc nD τ sig) → Buf (Elt F) ℓ) (ρ : Dev nD → PrngReg)

local notation "𝕄" => MT nD τ sig Unit (Elt F) ℕ (UU nD τ sig) ℕ

/-- The arguments, and the results. -/
def X (c : Dev 8) : Buf (Elt F) (A.m.view.loc (c.tc : Thread 8 τ)) := m ((c.tc : Thread nD τ).loc main_arg0)
def G (c : Dev 8) : Buf (Elt F) (A.m'.view.loc (c.tc : Thread 8 τ)) :=
  (swapped (R := 9216) (C := 1024) (fun d => (m ((d.tc : Thread nD τ).loc main_arg0) : (S8 9216 1024).Idx → Elt F .bf16)) c : (S8 9216 1024).Idx → Elt F .bf16)
def g₀ (c : Dev 8) : Buf (Elt F) (A.m'.view.loc (c.tc : Thread 8 τ)) := m ((c.tc : Thread nD τ).loc main_v1)

theorem transposed : A.Transposed (X m) (G m) := by
  intro s d y y' h0 h0' h1 h2
  exact swapped_eq (R := 9216) (C := 1024) (fun d => (m ((d.tc : Thread nD τ).loc main_arg0) : (S8 9216 1024).Idx → Elt F .bf16)) s d y y' h0 h0' h1 h2

abbrev adm : (p : Fin 1) → (pcfgs (F := F) p).Adm := fun p => (cfgs p).toPCfg_adm
def pdats : (p : Fin 1) → (c : Dev nD) → Dat τ (Elt F) Unit ℕ (UU nD τ sig) ℕ (pin (pcfgs (F := F)) adm p) c
  | 0 => fun c => A.dat (X m) (G m) cfg0 rfl c

theorem all_scoped : ∀ sm : SemLoc sig, sm.isScoped .tc = true := by decide

theorem bufs (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ (((c.tc : Thread nD τ).loc main_v1) ↦{fullShare} V main_v1)) := by
  unfold unscopedBufs
  rw [BI.bigSep_eq_bigSepL_of_eq [main_arg0, main_v1] (by decide) (by decide)]
  rfl

/-- A device's two arrays, whole. -/
theorem held_eq (g : (c : Dev 8) → Buf (Elt F) (A.m'.view.loc (c.tc : Thread 8 τ))) (c : Dev 8) :
    (A.held (X m) g c : sProp 𝕄)
      = iprop((((c.tc : Thread nD τ).loc main_arg0) ↦{fullShare} X m c) ∗ (((c.tc : Thread nD τ).loc main_v1) ↦{fullShare} g c)) :=
  A.held_whole (X m) (Memref.isWhole_whole _) (Memref.isWhole_whole _) g c

theorem dealt (c : Dev nD) : (unscopedBufs c (fun b => m ((c.tc : Thread nD τ).loc b)) : sProp 𝕄) ⊢ A.held (X m) (g₀ m) c :=
  Entails.of_eq ((bufs c _).trans (held_eq m (g₀ m) c).symm)

set_option backward.isDefEq.respectTransparency.types false in
/-- Every execution terminates with the argument as launched, the result the rows exchanged, the counters zero. -/
theorem run_main : θ_run defs (onTc (τ := τ) (main (F := F))) ⟨m, fun _ => 0, ρ⟩
    (fun r => (∀ c : Dev nD, r.2.mem ((c.tc : Thread nD τ).loc main_arg0) = X m c ∧ r.2.mem ((c.tc : Thread nD τ).loc main_v1) = G m c)
      ∧ r.2.sem = fun _ => 0) :=
  Cert.Early.run_early (pcfgs (F := F)) adm (pdats m) () Gen.cellOf_inj EP defs₀ Variants.none (fun _ => ∅) (fun _ _ => 0) m ρ main 0 []
    (fun c Q => by rw [Gen.main_chain c]; exact .rfl)
    (by simp) (own A.sem) (fun sm _ => all_scoped sm) A.owed (fun _ _ => rfl)
    (BI.own (ER (elem (nD := nD) (τ := τ) A.sem)))
    (initOf (cells (pin (pcfgs (F := F)) adm) Gen.cellOf_inj) (launchToks (pin (pcfgs (F := F)) adm) Gen.cellOf_inj), elem A.sem)
    (by
      iintro Hu
      ihave H := (ownU_pair _ _) $$ Hu
      imodintro
      iexact H)
    (fun c => iprop(A.ready (X m) (G m) c ∗ (pdats m 0 c).owesAt () 0))
    (fun c => iprop(A.held (X m) (G m) c ∗ (pdats m 0 c).owesAt () (Fin.last _)))
    (fun c => A.held (X m) (G m) c)
    (fun c => by
      iintro ⟨Hh, HO⟩
      isplitl [Hh]; · iexact Hh
      ihave HO' := (owesAt_elim (pdats m 0 c) () (Fin.last _) 0 (A.owed_end (X m) (G m) cfg0 rfl c (Fin.last _) (by decide))) $$ HO
      iexact HO')
    (by
      have hb : (bigSep Finset.univ fun c : Dev nD => iprop(unscopedBufs c (fun b => m ((c.tc : Thread nD τ).loc b)) ∗ ownZero (own A.sem) c ∗ unscopedSems0 c
            ∗ owes (c.tc : Thread nD τ) (A.owed c) ∅ ∗ launchCred A.owed c))
          ⊢ (iprop((bigSep Finset.univ fun c => A.held (X m) (g₀ m) c) ∗ (bigSep Finset.univ fun c => ownZero (own A.sem) c)
            ∗ (bigSep Finset.univ fun c : Dev nD => launchCred A.owed c) ∗ bigSep Finset.univ fun c => (pdats m 0 c).owesAt () 0) : sProp 𝕄) := by
        rw [← bigSep_sep', ← bigSep_sep', ← bigSep_sep']
        refine bigSep_le fun c _ => ?_
        iintro ⟨Hb, Hz, -, HO, Hc⟩
        isplitl [Hb]; · iapply (dealt m c); iexact Hb
        isplitl [Hz]; · iexact Hz
        isplitl [Hc]; · iexact Hc
        ihave H := (owesAt_intro (pdats m 0 c) () 0 (A.owed c) (A.owed_start (X m) (G m) cfg0 rfl c _ rfl) rfl ∅) $$ HO
        iexact H
      iintro ⟨Hd, HG, -⟩
      ihave H := hb $$ Hd
      icases H with ⟨Hh, Hz, Hc, HO⟩
      imod (A.launch (X m) (G m) (g₀ m)) $$ [Hh Hz Hc HG] with HR
      · isplitl [Hz]; · iexact Hz
        isplitl [HG]; · iexact HG
        isplitl [Hc]; · iexact Hc
        iexact Hh
      imodintro
      iapply (Entails.of_eq (bigSep_sep' _ _ _).symm)
      isplitl [HR]; · iexact HR
      iexact HO)
    (fun c k Q => Cert.Early.first_bare (pcfgs (F := F)) adm (pdats m) () Gen.cellOf_inj EP defs₀ Variants.none (fun _ => ∅) (fun _ _ => 0) 0 rfl rfl
      (own A.sem) (fun sm _ => all_scoped sm) (A.ready (X m) (G m)) (fun c => A.held (X m) (G m) c) c
      (A.obligation (X m) (G m) (transposed m) cfg0 rfl (by decide) defs₀ Variants.none c (fun t R => by
        refine Entails.trans ?_ (Entails.of_eq (congrArg (fun p => wp frame (wpE (defs₀ (F := F)) Variants.none (c.tc : Thread 8 τ) none) Set.univ p (fun _ => R)) (body_eq (F := F)).symm))
        exact .rfl))
      (by
        rw [show (pdats m 0 c).Φ 0 = _ from A.dat_start (X m) (G m) cfg0 rfl c 0 rfl]
        iintro ⟨HA, -, Hb⟩
        isplitl [HA] <;> iassumption)
      (by
        rw [show (pdats m 0 c).Φ (Fin.last _) = _ from A.dat_end (X m) (G m) cfg0 rfl c (Fin.last _) (by decide)]
        unfold A2A.done
        iintro ⟨⟨Hh, Hz⟩, Hb⟩
        isplitl [Hh]; · iexact Hh
        isplitl [Hz] <;> iassumption)
      k Q)
    (fun c s => s.mem ((c.tc : Thread nD τ).loc main_arg0) = X m c ∧ s.mem ((c.tc : Thread nD τ).loc main_v1) = G m c)
    (fun c s' => by
      rw [held_eq]
      iintro ⟨⟨Hx, Hy⟩, HSI⟩
      icombine HSI Hx gives %hx
      icombine HSI Hy gives %hy
      imodintro
      isplitr
      · ipureintro
        exact ⟨Buf.eq_of_forall_mem_univ hx, Buf.eq_of_forall_mem_univ hy⟩
      iexact HSI)
    (fun s h hs => ⟨h, sem_eq_zero_of_scoped all_scoped hs⟩)

end Cert.KernelIdeal

end
-- ==== Proof.KValue.lean ====
/-
  The rows exchanged, as plain mathematics: cut into eight blocks of eight rows, the whole array with the two
  block axes swapped is, block by block, what the devices end with.
-/
module

public import proofs.«01_k».proof.Proof.Call
public import Idealize.ShloMosaic.Lib.Pipeline.Value
public import Idealize.ShloMosaic.Lib.Layout
public import Idealize.ShloMosaic.Lib.ValueLayout

@[expose] public section

noncomputable section

namespace Cert.OneShot

open Idealize.ShloMosaic
open Idealize.ShloMosaic.ValueIdx (ix4)
open Cert.Rows

set_option Elab.async false

variable {α : Type}

/-- The whole array, and the same with the eight blocks apart. -/
abbrev W : Shape := ⟨3, ![64, 9216, 1024]⟩
abbrev W8 : Shape := ⟨4, ![8, 8, 9216, 1024]⟩

theorem swapped_block (V : W.Idx → α) (h : W.ShapeCasts W8) (ht : W8.Transposes [1, 0, 2, 3] W8) (h' : W8.ShapeCasts W) (c : Dev 8)
    (hT : Layout.Tiles (S8 9216 1024) W 0 8) :
    Layout.block (S8 9216 1024) W 0 8 c (shapeCast W (transpose W8 [1, 0, 2, 3] (shapeCast W8 V h) ht) h') hT
      = swapped (fun d => Layout.block (S8 9216 1024) W 0 8 d V hT) c := by
  funext y
  have e0 : (hT.idx c y 0).val = c.val * 8 + (y 0).val := rfl
  have e1 : (hT.idx c y 1).val = (y 1).val := rfl
  have e2 : (hT.idx c y 2).val = (y 2).val := rfl
  have f0 : (hT.idx (y 0) (Function.update y 0 c) 0).val = (y 0).val * 8 + c.val := rfl
  have f1 : (hT.idx (y 0) (Function.update y 0 c) 1).val = (y 1).val := rfl
  have f2 : (hT.idx (y 0) (Function.update y 0 c) 2).val = (y 2).val := rfl
  show shapeCast W (transpose W8 [1, 0, 2, 3] (shapeCast W8 V h) ht) h' (hT.idx c y) = V (hT.idx (y 0) (Function.update y 0 c))
  rw [shapeCast_apply _ h' _ (ix4 c (y 0) (y 1) (y 2)) (by
      rw [Shape.rowMajor_val_four, Shape.rowMajor_val_three, e0, e1, e2]
      rfl),
    transpose_apply _ _ ht _ (ix4 (y 0) c (y 1) (y 2)) (by intro b; fin_cases b <;> rfl),
    shapeCast_apply _ h _ (hT.idx (y 0) (Function.update y 0 c)) (by
      rw [Shape.rowMajor_val_four, Shape.rowMajor_val_three, f0, f1, f2]
      rfl)]

end Cert.OneShot

end
-- ==== Proof.KClaims.lean ====
/-
  The claims about `Kernel`: the frames of the kernel over bits and over the reals and of its reference, and that
  the kernel's results are their blocks of the reference's.
-/
module

public import proofs.«01_k».proof.Defs
public import proofs.«01_k».proof.Proof.KRun
public import proofs.«01_k».proof.Proof.KValue
public import proofs.«01_k».proof.Proof.Gen.Kernel
public import proofs.«01_k».proof.Proof.Gen.Reference
public import proofs.«01_k».proof.Proof.Gen.ReferenceIdeal.Run

@[expose] public section

noncomputable section

namespace Cert.Claims

open Idealize.ShloMosaic Idealize.ShloMosaic.TcCoe Idealize.SL.Sem
open Cert.OneShot Cert.Rows

set_option Elab.async false

theorem frame_ideal : Cert.quiescent_KernelIdeal := fun m ρ _ =>
  (θ_run Cert.KernelIdeal.defs _ _).mono (fun _ h => ⟨fun c => (h.1 c).1, h.2⟩) (Cert.KernelIdeal.run_main (F := Ideal) m ρ)

/-- `Kernel` and `KernelIdeal` are one text, so the run over any floats is the run of both. -/
theorem frame_kernel : Cert.quiescent_Kernel := fun m ρ _ =>
  (θ_run Cert.KernelIdeal.defs _ _).mono (fun _ h => ⟨fun c => (h.1 c).1, h.2⟩) (Cert.KernelIdeal.run_main (F := Bits) m ρ)

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem preserves : Cert.preserves_Kernel_KernelIdeal := trivial

theorem frame_reference_bits : Cert.quiescent_Reference := fun m ρ _ =>
  (θ_run Cert.ReferenceIdeal.defs _ _).mono (fun r h => ⟨fun c => (h c).2, sem_eq_zero_of_no_sems rfl r.2⟩)
    (Cert.ReferenceIdeal.Value.run (F := Bits) m ρ)

theorem algebraic : Cert.algebraic_KernelIdeal_ReferenceIdeal := fun m ρ m' ρ' _ hm => by
  refine ⟨_, (θ_run Cert.KernelIdeal.defs _ _).mono (fun r h c => ⟨(h.1 c).2.trans ?_, (h.1 c).1⟩) (Cert.KernelIdeal.run_main (F := Ideal) m ρ),
    (θ_run Cert.ReferenceIdeal.defs _ _).mono (fun r h => h 0) (Cert.ReferenceIdeal.Value.run (F := Ideal) m' ρ')⟩
  refine Eq.trans ?_ (swapped_block _ _ _ _ c (by decide)).symm
  exact congrArg (fun f => swapped (R := 9216) (C := 1024) f c) (funext hm)

/-- Nothing is computed on the way, so the same holds of the words themselves. -/
theorem bitexact : Cert.bitexact_Kernel_Reference := fun m ρ m' ρ' _ hm => by
  refine ⟨_, (θ_run Cert.KernelIdeal.defs _ _).mono (fun r h c => ⟨(h.1 c).2.trans ?_, (h.1 c).1⟩) (Cert.KernelIdeal.run_main (F := Bits) m ρ),
    (θ_run Cert.ReferenceIdeal.defs _ _).mono (fun r h => h 0) (Cert.ReferenceIdeal.Value.run (F := Bits) m' ρ')⟩
  refine Eq.trans ?_ (swapped_block _ _ _ _ c (by decide)).symm
  exact congrArg (fun f => swapped (R := 9216) (C := 1024) f c) (funext hm)

end Cert.Claims

end
-- ==== Proof.Gather.lean ====
/-
  An all-gather of one array from each of eight devices, in two hops. A device copies its array to its place
  in its own result and sends it to four devices; three of the arrays it receives it passes on, each to one more device.
  `Gather` names the arrays, offsets and receivers; `body` is the program; `run` its run from what the launch deals
  (`launch`). A wait for an array that is to be passed on happens while the passing on is still
  owed, so the cells of the second hop have the higher level.
-/
module

public import proofs.«01_k».proof.Proof.AllToAll
public import Idealize.ShloMosaic.Lib.ValueLayout
public import Idealize.ShloMosaic.Lib.Transfers

@[expose] public section

noncomputable section

namespace Cert.OneShot

open Idealize.ShloMosaic Idealize.ShloMosaic.TcCoe
open Idealize.SL Idealize.SL.RA
open Idealize.SL.BI (sProp bigSep bigSep_sep' bigSep_mono bigSep_congr bigSep_univ_equiv bigSep_map bigSep_univ_sum bigSep_singleton bigSep_with_persistent Storable Persistent)
open scoped Idealize.SL.BI
open Idealize.SL.BI.BIBase Idealize.SL.BI.Laws Idealize.SL.ProofMode Idealize.SL.Sem
open Idealize.ShloMosaic.Rounds Idealize.ShloMosaic.Pipeline
open Idealize.ShloMosaic.Transfers (shareDrop shareTok pointsTo_toks_split pointsTo_toks_join)
open Cert.Early (ownZero)
open Cert.Rows

set_option Elab.async false

variable {τ : Topo} {sig : RefSig} {Val : EltTy → Type}

local notation "𝕄" => MT 8 τ sig Unit Val ℕ (UU 8 τ sig) ℕ

/-- The channels: four carry a device's own array, three an array passed on. -/
abbrev Hop : Type := Fin 4 ⊕ Fin 3

/-- The arrays, offsets and receivers of a gather. `blk k c` is the device whose array reaches device `c` on channel `k`. -/
structure Gather (τ : Topo) (sig : RefSig) where
  R : ℕ
  C : ℕ
  e : EltTy
  hq : (S1 R C).Squeezes (S R C)
  x : Memref sig .tc .hbm (S R C) e
  o : Memref sig .tc .hbm (S8 R C) e
  sem : J Hop ↪ DmaSem sig
  tgt : Hop → Dev 8 ≃ Dev 8
  blk : Hop → Dev 8 → Dev 8
  o1 : Dev 8 → Fin 3 → ℕ
  oW : Hop → Dev 8 → Fin 3 → ℕ
  inb1 : ∀ c a, o1 c a + (S1 R C).size a ≤ (S8 R C).size a
  inbW : ∀ k c a, oW k c a + (S1 R C).size a ≤ (S8 R C).size a
  h1 : ∀ c, o1 c = ![(c : ℕ), 0, 0]
  hW : ∀ k c, oW k c = ![(blk k c : ℕ), 0, 0]
  direct : ∀ i c, blk (.inl i) (tgt (.inl i) c) = c
  passed : ∀ j c, blk (.inr j) (tgt (.inr j) c) = blk (.inl j.succ) c
  wx : x.view.WordExact
  w1 : ∀ c, (row o (o1 c) (inb1 c) hq).view.WordExact
  wW : ∀ k c, (row o (oW k c) (inbW k c) hq).view.WordExact
  hsc : o.view.ref.isScScratch = false
  tyL : ∀ c, DmaTarget.Typed (nD := 8) (τ := τ) (p := Proc.tc) .hbm (.dma (sem jl)) (.here (row o (o1 c) (inb1 c) hq))
  tyD : ∀ i c, DmaTarget.Typed (nD := 8) (τ := τ) (p := Proc.tc) .hbm (.dma (sem (jr (.inl i)))) (.remote ((tgt (.inl i) c).tc : Thread 8 τ) (row o (o1 c) (inb1 c) hq) (.dma (sem (js (.inl i)))) hsc)
  tyP : ∀ j c, DmaTarget.Typed (nD := 8) (τ := τ) (p := Proc.tc) .hbm (.dma (sem (jr (.inr j)))) (.remote ((tgt (.inr j) c).tc : Thread 8 τ) (row o (oW (.inl j.succ) c) (inbW (.inl j.succ) c) hq) (.dma (sem (js (.inr j)))) hsc)
  N : ℕ
  hN : 0 < N
  credX : x.view.dmaCredit = N
  credO : (row o (o1 0) (inb1 0) hq).view.dmaCredit = N
  routes : ∀ k (c : Dev 8), τ.routes (c.tc : Thread 8 τ) ((tgt k c).tc : Thread 8 τ) = true
  in_nodup : ∀ c : Dev 8, (c :: ([.inl 0, .inl 1, .inl 2, .inl 3, .inr 0, .inr 1, .inr 2] : List Hop).map (blk · c)).Nodup
  in_all : ∀ c i : Dev 8, i ∈ c :: ([.inl 0, .inl 1, .inl 2, .inl 3, .inr 0, .inr 1, .inr 2] : List Hop).map (blk · c)

/-- A family over the cells, by their kinds. -/
theorem bigSep_cells {K : Type} [Fintype K] [DecidableEq K] (Φ : J K → sProp (MT 8 τ sig Unit Val ℕ (UU 8 τ sig) ℕ)) :
    bigSep Finset.univ Φ = iprop(((bigSep Finset.univ fun k => Φ (jr k)) ∗ bigSep Finset.univ fun k => Φ (js k)) ∗ Φ jl) := by
  rw [bigSep_univ_sum, bigSep_univ_sum, Finset.univ_unique (α := Unit), bigSep_singleton]
  rfl

/-- A row reads what the array's block holds, coordinate by coordinate. -/
theorem row_block {R C : ℕ} {e : EltTy} {sp : Space} (m : Memref sig .tc sp (S8 R C) e) {off : Fin 3 → ℕ} (inb) (hq) (i : Fin 8)
    (h : off = ![(i : ℕ), 0, 0]) (f : m.view.ty.Contents Val) (w : (S R C).Idx → Val e)
    (hv : ∀ (y : (S8 R C).Idx) (z : (S R C).Idx), (y 0 : ℕ) = i → (y 1 : ℕ) = z 0 → (y 2 : ℕ) = z 1 → m.view.read Val f y = w z) :
    (row m off inb hq).view.read Val f = w := by
  subst h
  funext z
  have hz : Shape.reshapeEquiv hq.numel_eq z = ValueIdx.ix3 (⟨0, Nat.one_pos⟩ : Fin 1) (z 0 : Fin R) (z 1 : Fin C) := by
    have h := ValueIdx.reshapeEquiv_ix2_1ab (a := R) (b := C) hq.numel_eq (z 0) (z 1)
    have hz' : z = ValueIdx.ix2 (z 0 : Fin R) (z 1 : Fin C) := by funext a; fin_cases a <;> rfl
    exact (congrArg (Shape.reshapeEquiv hq.numel_eq) hz').trans h
  refine hv ((Rect.unit (s := S8 R C) _ (S1 R C).size inb).emb (Shape.reshapeEquiv hq.numel_eq z)) z ?_ ?_ ?_
  · rw [Rect.emb_apply, hz]
    show (i : ℕ) + 1 * 0 = i
    omega
  · rw [Rect.emb_apply, hz]
    show 0 + 1 * (z 0 : ℕ) = z 0
    omega
  · rw [Rect.emb_apply, hz]
    show 0 + 1 * (z 1 : ℕ) = z 1
    omega

namespace Gather

variable (A : Gather τ sig)

/-- The own place in a result; the place of what arrives on a channel. -/
abbrev place (c : Dev 8) : Memref sig .tc .hbm (S A.R A.C) A.e := row A.o (A.o1 c) (A.inb1 c) A.hq
abbrev placeOf (k : Hop) (c : Dev 8) : Memref sig .tc .hbm (S A.R A.C) A.e := row A.o (A.oW k c) (A.inbW k c) A.hq

section Body

variable {Λ : Labels}

/-- The sends of the own array. -/
def sends (c : Dev 8) (r : Prog (TpuEff 8 τ sig Val Λ .tc) PUnit) : List (Fin 4) → Prog (TpuEff 8 τ sig Val Λ .tc) PUnit
  | [] => r
  | i :: l => .op (.enqueueDma A.x (.remote ((A.tgt (.inl i) c).tc : Thread 8 τ) (A.place c) (.dma (A.sem (js (.inl i)))) A.hsc) (.dma (A.sem (jr (.inl i))))
      A.wx (A.w1 c) (A.tyD i c)) fun _ => sends c r l

/-- The arrays received and passed on. -/
def relays (c : Dev 8) (r : Prog (TpuEff 8 τ sig Val Λ .tc) PUnit) : List (Fin 3) → Prog (TpuEff 8 τ sig Val Λ .tc) PUnit
  | [] => r
  | j :: l => .op (.waitDma2 (A.sem (jr (.inl j.succ))) (A.placeOf (.inl j.succ) c) (A.placeOf (.inl j.succ) c) (A.wW _ c) (A.wW _ c)) fun _ =>
      .op (.enqueueDma (A.placeOf (.inl j.succ) c) (.remote ((A.tgt (.inr j) c).tc : Thread 8 τ) (A.placeOf (.inl j.succ) c) (.dma (A.sem (js (.inr j)))) A.hsc)
        (.dma (A.sem (jr (.inr j)))) (A.wW _ c) (A.wW _ c) (A.tyP j c)) fun _ => relays c r l

/-- The program. -/
def body : Prog (TpuEff 8 τ sig Val Λ .tc) PUnit :=
  .op .deviceId fun c =>
    .op (.enqueueDma A.x (.here (A.place c)) (.dma (A.sem jl)) A.wx (A.w1 c) (A.tyL c)) fun _ =>
      A.sends c (A.relays c (takes A.sem jr (A.placeOf · c) (A.placeOf · c) (A.wW · c) (A.wW · c)
        (takes A.sem (fun i : Fin 4 => js (.inl i)) (fun _ => A.place c) (fun _ => A.x) (fun _ => A.w1 c) (fun _ => A.wx)
          (takes A.sem (fun j : Fin 3 => js (.inr j)) (fun j => A.placeOf (.inl j.succ) c) (fun j => A.placeOf (.inl j.succ) c) (fun _ => A.wW _ c) (fun _ => A.wW _ c)
            (.op (.waitDma2 (A.sem jl) A.x (A.place c) A.wx (A.w1 c)) fun _ => .ret ⟨⟩) [0, 1, 2])
          [0, 1, 2, 3])
        [.inl 0, .inr 0, .inr 1, .inr 2]) [0, 1, 2]) [0, 1, 2, 3]

end Body

variable (x : (c : Dev 8) → Buf Val (A.x.view.loc (c.tc : Thread 8 τ)))
variable (G : (c : Dev 8) → Buf Val (A.o.view.loc (c.tc : Thread 8 τ)))

/-- Block `s` of every result is the array of device `s`. -/
def Gathered : Prop :=
  ∀ (s d : Dev 8) (y : (S8 A.R A.C).Idx) (z : (S A.R A.C).Idx), (y 0 : ℕ) = s → (y 1 : ℕ) = z 0 → (y 2 : ℕ) = z 1 →
    A.o.view.read Val (G d) y = A.x.view.read Val (x s) z

/-- What each cell hands over: a received array at the result's contents, a share of the sent one back, both
    ends of the local copy. -/
def pay (d : Dev 8) : J Hop → sProp (MT 8 τ sig Unit Val ℕ (UU 8 τ sig) ℕ)
  | .inl (.inl k) => A.o.view.loc (d.tc : Thread 8 τ) ↦[rows A.o.view (A.blk k d)]{fullShare} G d
  | .inl (.inr (.inl i)) => A.x.view.loc (d.tc : Thread 8 τ) ↦[A.x.view.set]{shareTok fullShare 4 i} x d
  | .inl (.inr (.inr j)) => A.o.view.loc (d.tc : Thread 8 τ) ↦[rows A.o.view (A.blk (.inl j.succ) d)]{fullShare} G d
  | .inr _ => iprop((A.o.view.loc (d.tc : Thread 8 τ) ↦[rows A.o.view d]{fullShare} G d)
      ∗ (A.x.view.loc (d.tc : Thread 8 τ) ↦[A.x.view.set]{shareDrop fullShare 4} x d))

theorem pay_storable : ∀ c j, Storable upEmb (A.pay x G c j) := by
  intro c j
  rcases j with (k | i | k) | k
  · show Storable _ (A.o.view.loc (c.tc : Thread 8 τ) ↦[rows A.o.view (A.blk k c)]{fullShare} G c)
    infer_instance
  · show Storable _ (A.x.view.loc (c.tc : Thread 8 τ) ↦[A.x.view.set]{shareTok fullShare 4 i} x c)
    infer_instance
  · show Storable _ (A.o.view.loc (c.tc : Thread 8 τ) ↦[rows A.o.view (A.blk (.inl k.succ) c)]{fullShare} G c)
    infer_instance
  · show Storable _ iprop((A.o.view.loc (c.tc : Thread 8 τ) ↦[rows A.o.view c]{fullShare} G c)
      ∗ (A.x.view.loc (c.tc : Thread 8 τ) ↦[A.x.view.set]{shareDrop fullShare 4} x c))
    infer_instance

theorem place_set (c : Dev 8) : (A.place c).view.set = rows A.o.view c := row_set A.o (A.o1 c) (A.inb1 c) A.hq c (A.h1 c)
theorem placeOf_set (k : Hop) (c : Dev 8) : (A.placeOf k c).view.set = rows A.o.view (A.blk k c) :=
  row_set A.o (A.oW k c) (A.inbW k c) A.hq (A.blk k c) (A.hW k c)

variable (hG : A.Gathered x G)

include hG in
/-- The block of a result at a device's place reads the device's array; -/
theorem place_read (c d : Dev 8) : (A.place c).view.read Val (G d) = A.x.view.read Val (x c) :=
  row_block A.o (A.inb1 c) A.hq c (A.h1 c) (G d) _ fun y z h0 h1 h2 => hG c d y z h0 h1 h2

include hG in
theorem placeOf_read (k : Hop) (c d : Dev 8) : (A.placeOf k c).view.read Val (G d) = A.x.view.read Val (x (A.blk k c)) :=
  row_block A.o (A.inbW k c) A.hq (A.blk k c) (A.hW k c) (G d) _ fun y z h0 h1 h2 => hG (A.blk k c) d y z h0 h1 h2

include hG in
theorem pay_direct (i : Fin 4) (c : Dev 8) (fd : Buf Val ((A.place c).view.loc ((A.tgt (.inl i) c).tc : Thread 8 τ))) :
    ((A.place c).view.loc ((A.tgt (.inl i) c).tc : Thread 8 τ) ↦[(A.place c).view.set]{fullShare}
      ((A.place c).view.write Val fd (A.x.view.read Val (x c)) Finset.univ)) ⊢ A.pay x G (A.tgt (.inl i) c) (jr (.inl i)) := by
  refine (landed (A.tgt (.inl i) c) (A.place c).view fullShare fd (G (A.tgt (.inl i) c)) _ (A.place_read x G hG c _)).trans ?_
  rw [A.place_set]
  show _ ⊢ A.o.view.loc ((A.tgt (.inl i) c).tc : Thread 8 τ) ↦[rows A.o.view (A.blk (.inl i) (A.tgt (.inl i) c))]{fullShare} G (A.tgt (.inl i) c)
  rw [A.direct]

include hG in
theorem pay_passed (j : Fin 3) (c : Dev 8) (fd : Buf Val ((A.placeOf (.inl j.succ) c).view.loc ((A.tgt (.inr j) c).tc : Thread 8 τ))) :
    ((A.placeOf (.inl j.succ) c).view.loc ((A.tgt (.inr j) c).tc : Thread 8 τ) ↦[(A.placeOf (.inl j.succ) c).view.set]{fullShare}
      ((A.placeOf (.inl j.succ) c).view.write Val fd ((A.placeOf (.inl j.succ) c).view.read Val (G c)) Finset.univ)) ⊢ A.pay x G (A.tgt (.inr j) c) (jr (.inr j)) := by
  refine (landed (A.tgt (.inr j) c) (A.placeOf (.inl j.succ) c).view fullShare fd (G (A.tgt (.inr j) c)) _ ((A.placeOf_read x G hG _ c _).trans (A.placeOf_read x G hG _ c _).symm)).trans ?_
  rw [A.placeOf_set]
  show _ ⊢ A.o.view.loc ((A.tgt (.inr j) c).tc : Thread 8 τ) ↦[rows A.o.view (A.blk (.inr j) (A.tgt (.inr j) c))]{fullShare} G (A.tgt (.inr j) c)
  rw [A.passed]

include hG in
theorem pay_local (c : Dev 8) (fd : Buf Val ((A.place c).view.loc (c.tc : Thread 8 τ))) :
    iprop(((A.place c).view.loc (c.tc : Thread 8 τ) ↦[(A.place c).view.set]{fullShare} ((A.place c).view.write Val fd (A.x.view.read Val (x c)) Finset.univ))
      ∗ (A.x.view.loc (c.tc : Thread 8 τ) ↦[A.x.view.set]{shareDrop fullShare 4} x c)) ⊢ A.pay x G c jl := by
  show _ ⊢ iprop((A.o.view.loc (c.tc : Thread 8 τ) ↦[rows A.o.view c]{fullShare} G c)
      ∗ (A.x.view.loc (c.tc : Thread 8 τ) ↦[A.x.view.set]{shareDrop fullShare 4} x c))
  rw [← A.place_set]
  iintro ⟨H1, H2⟩
  ihave H1 := (landed c (A.place c).view fullShare fd (G c) _ (A.place_read x G hG c c)) $$ H1
  isplitl [H1]
  · iexact H1
  · iexact H2

/-- The channels, in the order of their sends. -/
abbrev hops : List Hop := [.inl 0, .inl 1, .inl 2, .inl 3, .inr 0, .inr 1, .inr 2]

/-- The place that the sender on channel `k` writes on the receiver. -/
def target (c : Dev 8) (k : Hop) : sProp (MT 8 τ sig Unit Val ℕ (UU 8 τ sig) ℕ) :=
  iprop(∃ fd : Buf Val (A.o.view.loc ((A.tgt k c).tc : Thread 8 τ)), A.o.view.loc ((A.tgt k c).tc : Thread 8 τ) ↦[rows A.o.view (A.blk k (A.tgt k c))]{fullShare} fd)

/-! ## Levels -/

open Classical in
/-- The cells of the second hop have level 1, the others 0. -/
def level (g : GSem 8 τ sig) (_ : Unit) : ℕ := if ∃ j : Fin 3, g.2 = .dma (A.sem (jr (.inr j))) then 1 else 0

open Classical in
/-- The cells with a level: a core's. -/
def leveled (g : GSem 8 τ sig) : Finset Unit := if g.1.2 = .tc then {()} else ∅

theorem level_direct (c : Dev 8) (i : Fin 4) : A.level (cell A.sem c (jr (.inl i)) : GSem 8 τ sig) () = 0 :=
  if_neg fun ⟨j, h⟩ => by
    have h : A.sem (jr (.inl i)) = A.sem (jr (.inr j)) := by injection h
    have h := A.sem.injective h
    injection h with h
    injection h with h
    exact Sum.inl_ne_inr h

theorem level_passed (c : Dev 8) (j : Fin 3) : A.level (cell A.sem c (jr (.inr j)) : GSem 8 τ sig) () = 1 := if_pos ⟨j, rfl⟩

theorem leveled_cell (c : Dev 8) (j : J Hop) : () ∈ leveled (cell A.sem c j : GSem 8 τ sig) := by
  unfold leveled
  rw [if_pos rfl]
  exact Finset.mem_singleton_self _

/-- What is owed on a list of channels is owed to their receivers' cells. -/
theorem owe_pos (c : Dev 8) (l : List Hop) (g : GSem 8 τ sig) (i : Unit) (h : 0 < owe (τ := τ) A.sem A.N A.tgt c l g i) :
    ∃ k ∈ l, g = cell A.sem (A.tgt k c) (jr k) := by
  induction l with
  | nil => exact absurd h (Nat.lt_irrefl 0)
  | cons k l ih =>
    rw [owe_cons] at h
    rcases add_pos_cases h with h | h
    · obtain ⟨k', hk, e⟩ := ih h
      exact ⟨k', List.mem_cons_of_mem _ hk, e⟩
    · exact ⟨k, List.mem_cons_self .., (tallyAt_pos h).1⟩

/-- A wait for a first-hop array while only passing on is owed. -/
theorem may_wait (c : Dev 8) (i : Fin 4) (l : List (Fin 3)) :
    (levAts leveled A.level : sProp 𝕄) ⊢ MayWait (c.tc : Thread 8 τ) (.dma (A.sem (jr (.inl i)))) () (owe A.sem A.N A.tgt c (l.map .inr)) :=
  mayWait_of_levAts (A.leveled_cell c _) fun g u h => by
    obtain ⟨k, hk, rfl⟩ := A.owe_pos c _ g u h
    obtain ⟨j, -, rfl⟩ := List.mem_map.1 hk
    refine ⟨A.leveled_cell _ _, ?_⟩
    show A.level (cell A.sem c (jr (.inl i))) () < A.level (cell A.sem _ (jr (.inr j))) ()
    rw [A.level_direct, A.level_passed]
    exact Nat.zero_lt_one

/-! ## The runs of the parts -/

variable {Λ : Labels} {defs : Defs 8 τ sig Val Λ} (𝒱 : Variants)

theorem target_direct (c : Dev 8) (i : Fin 4) : A.target (Val := Val) c (.inl i)
    ⊢ iprop(∃ fd : Buf Val ((A.place c).view.loc ((A.tgt (.inl i) c).tc : Thread 8 τ)), (A.place c).view.loc ((A.tgt (.inl i) c).tc : Thread 8 τ) ↦[(A.place c).view.set]{fullShare} fd) := by
  unfold target
  rw [A.direct, A.place_set]

theorem target_passed (c : Dev 8) (j : Fin 3) : A.target (Val := Val) c (.inr j)
    ⊢ iprop(∃ fd : Buf Val ((A.placeOf (.inl j.succ) c).view.loc ((A.tgt (.inr j) c).tc : Thread 8 τ)), (A.placeOf (.inl j.succ) c).view.loc ((A.tgt (.inr j) c).tc : Thread 8 τ) ↦[(A.placeOf (.inl j.succ) c).view.set]{fullShare} fd) := by
  unfold target
  rw [A.passed, A.placeOf_set]

/-- The share of the array a direct send reads. -/
def lent (c : Dev 8) (i : Fin 4) : sProp (MT 8 τ sig Unit Val ℕ (UU 8 τ sig) ℕ) :=
  A.x.view.loc (c.tc : Thread 8 τ) ↦[A.x.view.set]{shareTok fullShare 4 i} x c

/-- The tokens of the duties the copy on a channel pays. -/
def toks (c : Dev 8) (k : Hop) : sProp (MT 8 τ sig Unit Val ℕ (UU 8 τ sig) ℕ) :=
  iprop(dutyTok ER (cell A.sem c (js k)) 0 () ∗ dutyTok ER (cell A.sem (A.tgt k c) (jr k)) 0 ())

include hG in
theorem sends_run (c : Dev 8) (r : Prog (TpuEff 8 τ sig Val Λ .tc) PUnit) (Q : PUnit → sProp 𝕄) (l : List (Fin 4)) (l' : List Hop) (W : Waits sig Unit) :
    iprop(recs A.sem A.N A.hN (A.pay x G)
        ∗ sepL (fun i => iprop(A.lent x c i ∗ A.target c (.inl i) ∗ A.toks c (.inl i))) l
        ∗ owes (c.tc : Thread 8 τ) (owe A.sem A.N A.tgt c (l.map .inl ++ l')) W
        ∗ ((sepL (fun i => cred (tallyAt (cell A.sem c (js (.inl i))) () A.N)) l ∗ owes (c.tc : Thread 8 τ) (owe A.sem A.N A.tgt c l') W)
          -∗ wp frame (wpE defs 𝒱 (c.tc : Thread 8 τ) none) Set.univ r Q))
      ⊢ wp frame (wpE defs 𝒱 (c.tc : Thread 8 τ) none) Set.univ (A.sends c r l) Q := by
  induction l with
  | nil =>
    unfold sends sepL
    iintro ⟨-, -, HO, Hk⟩
    iapply Hk
    isplitr; · iempintro
    iexact HO
  | cons i l ih =>
    unfold sends sepL
    rw [List.map_cons, List.cons_append, owe_cons]
    iintro ⟨#HR, ⟨⟨Hs, Hd, Ht⟩, Hl⟩, HO, Hk⟩
    unfold toks
    icases Ht with ⟨Ht1, Ht2⟩
    ihave Hd := (A.target_direct c i) $$ Hd
    icases Hd with ⟨%fd, Hd⟩
    iapply (wp_put A.sem A.N A.hN (A.pay x G) A.tgt 𝒱 c (.inl i) (q := shareTok fullShare 4 i) (fs := x c) (fd := fd) (O := owe A.sem A.N A.tgt c (l.map .inl ++ l')) (W := W)
      A.credO .rfl (A.pay_direct x G hG i c fd) (A.routes _ c)) $$ [Hs Hd Ht1 Ht2 HO]
    · isplitr; · iexact HR
      isplitl [Hs]; · unfold lent; iexact Hs
      isplitl [Hd]; · iexact Hd
      isplitl [HO]; · iexact HO
      isplitl [Ht1] <;> iassumption
    iintro ⟨Hc, HO⟩
    iapply ih
    isplitr; · iexact HR
    isplitl [Hl]; · iexact Hl
    isplitl [HO]; · iexact HO
    iintro ⟨Hl, HO⟩
    iapply Hk
    isplitr [HO]
    · isplitl [Hc] <;> iassumption
    iexact HO

theorem pay_forward (c : Dev 8) (j : Fin 3) : A.pay x G c (jr (.inl j.succ))
    ⊢ (A.placeOf (.inl j.succ) c).view.loc (c.tc : Thread 8 τ) ↦[(A.placeOf (.inl j.succ) c).view.set]{fullShare} G c := by
  rw [A.placeOf_set]
  exact .rfl

theorem pay_back (c : Dev 8) (j : Fin 3) : ((A.placeOf (.inl j.succ) c).view.loc (c.tc : Thread 8 τ) ↦[(A.placeOf (.inl j.succ) c).view.set]{fullShare} G c)
    ⊢ A.pay x G c (js (.inr j)) := by
  rw [A.placeOf_set]
  exact .rfl

include hG in
theorem relays_run (c : Dev 8) (r : Prog (TpuEff 8 τ sig Val Λ .tc) PUnit) (Q : PUnit → sProp 𝕄) (l : List (Fin 3)) :
    iprop(recs A.sem A.N A.hN (A.pay x G) ∗ levAts leveled A.level
        ∗ sepL (fun j => iprop((atPos ER (cell A.sem c (jr (.inl j.succ))) 0 ∅ 0 ∗ cred (tallyAt (cell A.sem c (jr (.inl j.succ))) () A.N))
            ∗ A.target c (.inr j) ∗ A.toks c (.inr j))) l
        ∗ (∃ W, owes (c.tc : Thread 8 τ) (owe A.sem A.N A.tgt c (l.map .inr)) W)
        ∗ ((sepL (fun j => iprop(semVal (cell A.sem c (jr (.inl j.succ))) 0 ∗ cred (tallyAt (cell A.sem c (js (.inr j))) () A.N))) l
              ∗ (∃ W, owes (c.tc : Thread 8 τ) (0 : CellTallies 8 τ sig Unit) W))
          -∗ wp frame (wpE defs 𝒱 (c.tc : Thread 8 τ) none) Set.univ r Q))
      ⊢ wp frame (wpE defs 𝒱 (c.tc : Thread 8 τ) none) Set.univ (A.relays c r l) Q := by
  induction l with
  | nil =>
    unfold relays sepL
    iintro ⟨-, -, -, HO, Hk⟩
    iapply Hk
    isplitr; · iempintro
    iexact HO
  | cons j l ih =>
    unfold relays sepL
    iintro ⟨#HR, #HL, ⟨⟨⟨Hat, Hc⟩, Hd, Ht⟩, Hl⟩, ⟨%W, HO⟩, Hk⟩
    iapply (wp_take A.sem A.N A.hN (A.pay x G) 𝒱 c (jr (.inl j.succ)) (src := A.placeOf (.inl j.succ) c) (dst := A.placeOf (.inl j.succ) c) (hsrc := A.wW _ c) (hdst := A.wW _ c) (O := owe A.sem A.N A.tgt c ((j :: l).map .inr)) (W := W) A.credO) $$ [Hat Hc HO]
    · isplitr; · iexact HR
      isplitl [Hc]; · iexact Hc
      isplitl [HO]; · iexact HO
      isplitr; · iapply (A.may_wait c j.succ (j :: l)); iexact HL
      iexact Hat
    rw [List.map_cons, owe_cons]
    iintro ⟨⟨%W', HO⟩, Hv, Hp⟩
    unfold toks
    icases Ht with ⟨Ht1, Ht2⟩
    ihave Hd := (A.target_passed c j) $$ Hd
    icases Hd with ⟨%fd, Hd⟩
    ihave Hp := (A.pay_forward x G c j) $$ Hp
    iapply (wp_put A.sem A.N A.hN (A.pay x G) A.tgt 𝒱 c (.inr j) (src := A.placeOf (.inl j.succ) c) (dst := A.placeOf (.inl j.succ) c) (hsc := A.hsc) (hsrc := A.wW _ c) (hdst := A.wW _ c) (hsem := A.tyP j c) (q := fullShare) (fs := G c) (fd := fd) (O := owe A.sem A.N A.tgt c (l.map .inr)) (W := W')
      A.credO (A.pay_back x G c j) (A.pay_passed x G hG j c fd) (A.routes _ c)) $$ [Hp Hd Ht1 Ht2 HO]
    · isplitr; · iexact HR
      isplitl [Hp]; · iexact Hp
      isplitl [Hd]; · iexact Hd
      isplitl [HO]; · iexact HO
      isplitl [Ht1] <;> iassumption
    iintro ⟨Hc, HO⟩
    iapply ih
    isplitr; · iexact HR
    isplitr; · iexact HL
    isplitl [Hl]; · iexact Hl
    isplitl [HO]; · iexists W'; iexact HO
    iintro ⟨Hl, HO⟩
    iapply Hk
    isplitr [HO]
    · isplitr [Hl]
      · isplitl [Hv] <;> iassumption
      iexact Hl
    iexact HO

/-! ## From the launch to the end of the call -/

/-- Both arrays of a device. -/
def held (g : (c : Dev 8) → Buf Val (A.o.view.loc (c.tc : Thread 8 τ))) (c : Dev 8) : sProp (MT 8 τ sig Unit Val ℕ (UU 8 τ sig) ℕ) :=
  iprop((A.x.view.loc (c.tc : Thread 8 τ) ↦[A.x.view.set]{fullShare} x c) ∗ (A.o.view.loc (c.tc : Thread 8 τ) ↦[A.o.view.set]{fullShare} g c))

/-- What a device holds for its own copies: a share of its array for each direct send, one for the local copy,
    and the own place in its result. -/
def kept (c : Dev 8) : sProp (MT 8 τ sig Unit Val ℕ (UU 8 τ sig) ℕ) :=
  iprop(sepL (A.lent x c) [0, 1, 2, 3] ∗ (A.x.view.loc (c.tc : Thread 8 τ) ↦[A.x.view.set]{shareDrop fullShare 4} x c)
    ∗ ∃ fd : Buf Val (A.o.view.loc (c.tc : Thread 8 τ)), A.o.view.loc (c.tc : Thread 8 τ) ↦[rows A.o.view c]{fullShare} fd)

/-- What a device starts the call with. -/
def ready (c : Dev 8) : sProp (MT 8 τ sig Unit Val ℕ (UU 8 τ sig) ℕ) :=
  iprop((recs A.sem A.N A.hN (A.pay x G) ∗ levAts leveled A.level) ∗ A.kept x c ∗ sepL (A.target c) hops ∗ sepL (chan A.sem A.N A.tgt c) hops ∗ loc A.sem c)

/-- What it ends with: both arrays, the result at its contents, and the counters at zero. -/
def done (c : Dev 8) : sProp (MT 8 τ sig Unit Val ℕ (UU 8 τ sig) ℕ) := iprop(A.held x G c ∗ ownZero (own A.sem) c)

/-- What device `c` owes at the launch: the array it sends on every channel. -/
def owed (c : Dev 8) : CellTallies 8 τ sig Unit := owe A.sem A.N A.tgt c hops

theorem hops_nodup : hops.Nodup := by decide
theorem hops_all : ∀ k, k ∈ hops := by
  rintro (i | j)
  · fin_cases i <;> simp
  · fin_cases j <;> simp

/-- A family over the blocks: the own, and those received. -/
theorem univ_in (Φ : Fin 8 → sProp 𝕄) (c : Dev 8) : bigSep Finset.univ Φ = iprop(Φ c ∗ sepL (fun k => Φ (A.blk k c)) hops) := by
  rw [← sepL_univ Φ _ (A.in_nodup c) (A.in_all c)]
  show iprop(Φ c ∗ sepL Φ (hops.map (A.blk · c))) = _
  rw [sepL_map]

/-- The launch's arrays, dealt to their senders. -/
theorem deal_rows (g : (c : Dev 8) → Buf Val (A.o.view.loc (c.tc : Thread 8 τ))) :
    (bigSep Finset.univ fun c => A.held x g c) ⊢ bigSep Finset.univ fun c => iprop(A.kept x c ∗ sepL (A.target c) hops) := by
  have h1 : (fun c => A.held x g c) = fun c : Dev 8 => iprop(((A.x.view.loc (c.tc : Thread 8 τ) ↦[A.x.view.set]{fullShare} x c)
      ∗ (A.o.view.loc (c.tc : Thread 8 τ) ↦[rows A.o.view c]{fullShare} g c))
      ∗ sepL (fun k => A.o.view.loc (c.tc : Thread 8 τ) ↦[rows A.o.view (A.blk k c)]{fullShare} g c) hops) := by
    funext c
    unfold held
    rw [held_rows, A.univ_in _ c]
    exact BI.Entails.antisymm (sep_assoc (PROP := sProp 𝕄)).2 (sep_assoc (PROP := sProp 𝕄)).1
  have h2 : (bigSep Finset.univ fun c : Dev 8 => sepL (fun k => A.o.view.loc (c.tc : Thread 8 τ) ↦[rows A.o.view (A.blk k c)]{fullShare} g c) hops)
      = bigSep Finset.univ fun c : Dev 8 => (sepL (fun k => A.o.view.loc ((A.tgt k c).tc : Thread 8 τ) ↦[rows A.o.view (A.blk k (A.tgt k c))]{fullShare} g (A.tgt k c)) hops : sProp 𝕄) := by
    rw [sepL_bigSep, sepL_bigSep]
    exact sepL_congr _ _ _ fun k _ => bigSep_univ_equiv (A.tgt k) fun c : Dev 8 => (A.o.view.loc (c.tc : Thread 8 τ) ↦[rows A.o.view (A.blk k c)]{fullShare} g c : sProp 𝕄)
  rw [h1, bigSep_sep', h2, ← bigSep_sep']
  refine bigSep_le fun c _ => ?_
  unfold kept
  rw [sepL_univ (A.lent x c) [0, 1, 2, 3] (by decide) (by decide)]
  iintro ⟨⟨Hx, Ho⟩, Hd⟩
  ihave Hx := (pointsTo_toks_split fullShare 4) $$ Hx
  icases Hx with ⟨Hx, Hs⟩
  isplitr [Hd]
  · isplitl [Hs]; · unfold lent; iexact Hs
    isplitl [Hx]; · iexact Hx
    iexists (g c)
    iexact Ho
  · iapply (sepL_le _ _ hops fun k => ?_) $$ Hd
    unfold target
    iintro H
    iexists (g (A.tgt k c))
    iexact H

/-- The payloads that stay with a device are both its arrays, the result at its contents. -/
theorem collect (c : Dev 8) :
    iprop(sepL (fun k => A.pay x G c (jr k)) [.inl 0, .inr 0, .inr 1, .inr 2]
        ∗ sepL (fun i : Fin 4 => A.pay x G c (js (.inl i))) [0, 1, 2, 3]
        ∗ sepL (fun j : Fin 3 => A.pay x G c (js (.inr j))) [0, 1, 2]
        ∗ A.pay x G c jl) ⊢ A.held x G c := by
  unfold held
  rw [held_rows, A.univ_in _ c]
  show iprop(sepL (fun k => A.o.view.loc (c.tc : Thread 8 τ) ↦[rows A.o.view (A.blk k c)]{fullShare} G c) [.inl 0, .inr 0, .inr 1, .inr 2]
        ∗ sepL (A.lent x c) [0, 1, 2, 3]
        ∗ sepL (fun j : Fin 3 => A.o.view.loc (c.tc : Thread 8 τ) ↦[rows A.o.view (A.blk (.inl j.succ) c)]{fullShare} G c) [0, 1, 2]
        ∗ (A.o.view.loc (c.tc : Thread 8 τ) ↦[rows A.o.view c]{fullShare} G c) ∗ (A.x.view.loc (c.tc : Thread 8 τ) ↦[A.x.view.set]{shareDrop fullShare 4} x c)) ⊢ _
  rw [sepL_univ (A.lent x c) [0, 1, 2, 3] (by decide) (by decide)]
  iintro ⟨Hr, Hs, Hf, Ho, Hx⟩
  isplitl [Hs Hx]
  · iapply (pointsTo_toks_join fullShare 4)
    isplitl [Hx]; · iexact Hx
    unfold lent
    iexact Hs
  · isplitl [Ho]; · iexact Ho
    simp only [hops, sepL]
    icases Hr with ⟨H0, H4, H5, H6, -⟩
    icases Hf with ⟨H1, H2, H3, -⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iempintro

/-- The launch: the cells opened, the arrays dealt to their senders. -/
theorem launch (g : (c : Dev 8) → Buf Val (A.o.view.loc (c.tc : Thread 8 τ))) :
    iprop((bigSep Finset.univ fun c : Dev 8 => ownZero (own A.sem) c) ∗ BI.own (ER (elem (nD := 8) (τ := τ) A.sem))
        ∗ (bigSep Finset.univ fun c : Dev 8 => launchCred A.owed c) ∗ (bigSep Finset.univ fun c => A.held x g c) ∗ levAts leveled A.level)
      ⊢ |={Set.univ}=> bigSep Finset.univ (A.ready x G) := by
  iintro ⟨Hz, He, Hc, Hh, #HL⟩
  ihave Hr := (A.deal_rows x g) $$ Hh
  imod (deal A.sem A.N A.hN (A.pay x G) A.tgt (A.pay_storable x G) hops hops_nodup hops_all) $$ [Hz He Hc] with ⟨#HR, Hd⟩
  · isplitl [Hz]; · iexact Hz
    isplitl [He]; · iexact He
    iexact Hc
  imodintro
  iapply (show iprop((recs A.sem A.N A.hN (A.pay x G) ∗ levAts leveled A.level)
      ∗ (bigSep Finset.univ fun c : Dev 8 => iprop(A.kept x c ∗ sepL (A.target c) hops))
      ∗ bigSep Finset.univ fun c : Dev 8 => iprop((bigSep Finset.univ fun k => chan A.sem A.N A.tgt c k) ∗ loc A.sem c))
      ⊢ bigSep Finset.univ (A.ready x G) from ?_)
  · rw [← bigSep_sep']
    refine (bigSep_with_persistent ?_)
    intro c _
    rw [← sepL_univ _ hops hops_nodup hops_all]
    unfold ready
    iintro ⟨#HR, ⟨Hk, Ht⟩, Hc, Hlc⟩
    isplitr; · iexact HR
    isplitl [Hk]; · iexact Hk
    isplitl [Ht]; · iexact Ht
    isplitl [Hc] <;> iassumption
  isplitr
  · isplitr
    · iexact HR
    · iexact HL
  isplitl [Hr] <;> iassumption

theorem ownZero_list (c : Dev 8) :
    iprop(sepL (fun k => semVal (cell A.sem c (jr k)) 0) hops ∗ sepL (fun k => semVal (cell A.sem c (js k)) 0) hops ∗ semVal (cell A.sem c jl) 0)
      ⊢ (ownZero (own A.sem) c : sProp 𝕄) := by
  rw [sepL_univ _ hops hops_nodup hops_all, sepL_univ _ hops hops_nodup hops_all]
  unfold ownZero own
  rw [bigSep_map]
  refine Entails.trans ?_ (Entails.of_eq (bigSep_cells (K := Hop) fun j => semVal (cell A.sem c j) 0).symm)
  iintro ⟨H1, H2, H3⟩
  isplitr [H3]
  · isplitl [H1] <;> iassumption
  · iexact H3

include hG in
/-- The call, run from what the launch deals. -/
theorem run (c : Dev 8) (W : Waits sig Unit) :
    iprop(A.ready x G c ∗ owes (c.tc : Thread 8 τ) (A.owed c) W)
      ⊢ wp frame (wpE defs 𝒱 (c.tc : Thread 8 τ) none) Set.univ A.body
          (fun _ => iprop(A.done x G c ∗ ∃ W, owes (c.tc : Thread 8 τ) (0 : CellTallies 8 τ sig Unit) W)) := by
  unfold ready kept body loc owed
  rw [wp_deviceId]
  iintro ⟨⟨⟨#HR, #HL⟩, ⟨Hs, Hx, ⟨%fd, Ho⟩⟩, Ht, Hc, Hal, Htl⟩, HO⟩
  iapply (wp_here A.sem A.N A.hN (A.pay x G) 𝒱 c (src := A.x) (dst := A.place c) (hsrc := A.wx) (hdst := A.w1 c) (q := shareDrop fullShare 4) (fs := x c) (fd := fd) A.credO (A.pay_local x G hG c fd)) $$ [Hx Ho Htl]
  · isplitr; · iexact HR
    isplitl [Hx]; · iexact Hx
    isplitl [Ho]; · rw [A.place_set]; iexact Ho
    iexact Htl
  iintro Hcl
  unfold chan
  ihave Hc := (sepL_sep _ _ hops) $$ Hc
  icases Hc with ⟨Hr, Hc⟩
  ihave Hc := (sepL_sep _ _ hops) $$ Hc
  icases Hc with ⟨Ha, Hk⟩
  simp only [hops, sepL]
  icases Ht with ⟨Ht0, Ht1, Ht2, Ht3, Ht4, Ht5, Ht6, -⟩
  icases Hk with ⟨Hk0, Hk1, Hk2, Hk3, Hk4, Hk5, Hk6, -⟩
  icases Hr with ⟨Hr0, Hr1, Hr2, Hr3, Hr4, Hr5, Hr6, -⟩
  icases Ha with ⟨Ha0, Ha1, Ha2, Ha3, Ha4, Ha5, Ha6, -⟩
  icases Hs with ⟨Hs0, Hs1, Hs2, Hs3, -⟩
  iapply (A.sends_run x G hG 𝒱 c _ _ [0, 1, 2, 3] [.inr 0, .inr 1, .inr 2] W)
  isplitr; · iexact HR
  isplitl [Ht0 Ht1 Ht2 Ht3 Hk0 Hk1 Hk2 Hk3 Hs0 Hs1 Hs2 Hs3]
  · simp only [sepL]
    unfold toks
    isplitl [Hs0 Ht0 Hk0]
    · isplitl [Hs0]; · iexact Hs0
      isplitl [Ht0] <;> iassumption
    isplitl [Hs1 Ht1 Hk1]
    · isplitl [Hs1]; · iexact Hs1
      isplitl [Ht1] <;> iassumption
    isplitl [Hs2 Ht2 Hk2]
    · isplitl [Hs2]; · iexact Hs2
      isplitl [Ht2] <;> iassumption
    isplitl [Hs3 Ht3 Hk3]
    · isplitl [Hs3]; · iexact Hs3
      isplitl [Ht3] <;> iassumption
    iempintro
  isplitl [HO]; · iexact HO
  iintro ⟨Hcs, HO⟩
  simp only [sepL]
  icases Hcs with ⟨Hc0, Hc1, Hc2, Hc3, -⟩
  iapply (A.relays_run x G hG 𝒱 c _ _ [0, 1, 2])
  isplitr; · iexact HR
  isplitr; · iexact HL
  isplitl [Ht4 Ht5 Ht6 Hk4 Hk5 Hk6 Hr1 Hr2 Hr3]
  · simp only [sepL]
    unfold toks
    isplitl [Ht4 Hk4 Hr1]
    · isplitl [Hr1]; · iexact Hr1
      isplitl [Ht4] <;> iassumption
    isplitl [Ht5 Hk5 Hr2]
    · isplitl [Hr2]; · iexact Hr2
      isplitl [Ht5] <;> iassumption
    isplitl [Ht6 Hk6 Hr3]
    · isplitl [Hr3]; · iexact Hr3
      isplitl [Ht6] <;> iassumption
    iempintro
  isplitl [HO]; · iexists W; iexact HO
  iintro ⟨Hrl, HO⟩
  simp only [sepL]
  icases Hrl with ⟨⟨Hv1, Hc4⟩, ⟨Hv2, Hc5⟩, ⟨Hv3, Hc6⟩, -⟩
  iapply (takes_run A.sem A.N A.hN (A.pay x G) 𝒱 c jr (A.placeOf · c) (A.placeOf · c) (A.wW · c) (A.wW · c) (fun _ => A.credO))
  isplitr; · iexact HR
  isplitl [Hr0 Hr4 Hr5 Hr6]
  · simp only [sepL]
    isplitl [Hr0]; · iexact Hr0
    isplitl [Hr4]; · iexact Hr4
    isplitl [Hr5]; · iexact Hr5
    isplitl [Hr6]; · iexact Hr6
    iempintro
  isplitl [HO]; · iexact HO
  iintro ⟨Hrr, HO⟩
  iapply (takes_run A.sem A.N A.hN (A.pay x G) 𝒱 c (fun i : Fin 4 => js (.inl i)) (fun _ => A.place c) (fun _ => A.x) (fun _ => A.w1 c) (fun _ => A.wx) (fun _ => A.credX))
  isplitr; · iexact HR
  isplitl [Ha0 Ha1 Ha2 Ha3 Hc0 Hc1 Hc2 Hc3]
  · simp only [sepL]
    isplitl [Ha0 Hc0]; · isplitl [Ha0] <;> iassumption
    isplitl [Ha1 Hc1]; · isplitl [Ha1] <;> iassumption
    isplitl [Ha2 Hc2]; · isplitl [Ha2] <;> iassumption
    isplitl [Ha3 Hc3]; · isplitl [Ha3] <;> iassumption
    iempintro
  isplitl [HO]; · iexact HO
  iintro ⟨Hss, HO⟩
  iapply (takes_run A.sem A.N A.hN (A.pay x G) 𝒱 c (fun j : Fin 3 => js (.inr j)) (fun j => A.placeOf (.inl j.succ) c) (fun j => A.placeOf (.inl j.succ) c) (fun _ => A.wW _ c) (fun _ => A.wW _ c) (fun _ => A.credO))
  isplitr; · iexact HR
  isplitl [Ha4 Ha5 Ha6 Hc4 Hc5 Hc6]
  · simp only [sepL]
    isplitl [Ha4 Hc4]; · isplitl [Ha4] <;> iassumption
    isplitl [Ha5 Hc5]; · isplitl [Ha5] <;> iassumption
    isplitl [Ha6 Hc6]; · isplitl [Ha6] <;> iassumption
    iempintro
  isplitl [HO]; · iexact HO
  iintro ⟨Hsr, HO⟩
  icases HO with ⟨%W', HO⟩
  iapply (wp_take A.sem A.N A.hN (A.pay x G) 𝒱 c jl (src := A.x) (dst := A.place c) (hsrc := A.wx) (hdst := A.w1 c) (O := 0) (W := W') A.credO) $$ [Hal Hcl HO]
  · isplitr; · iexact HR
    isplitl [Hcl]; · iexact Hcl
    isplitl [HO]; · iexact HO
    isplitr; · rw [MayWait_zero]; iempintro
    iexact Hal
  iintro ⟨HO, Hv, Hp⟩
  rw [wp_ret]
  imodintro
  ihave Hrr := (sepL_sep _ _ _) $$ Hrr
  icases Hrr with ⟨Hrv, Hrp⟩
  ihave Hss := (sepL_sep _ _ _) $$ Hss
  icases Hss with ⟨Hsv, Hsp⟩
  ihave Hsr := (sepL_sep _ _ _) $$ Hsr
  icases Hsr with ⟨Hfv, Hfp⟩
  unfold done
  isplitr [HO]
  · isplitl [Hrp Hsp Hfp Hp]
    · iapply (A.collect x G c)
      isplitl [Hrp]; · iexact Hrp
      isplitl [Hsp]; · iexact Hsp
      isplitl [Hfp] <;> iassumption
    · iapply (A.ownZero_list c)
      simp only [hops, sepL]
      icases Hrv with ⟨Hv0, Hv4, Hv5, Hv6, -⟩
      icases Hsv with ⟨Hw0, Hw1, Hw2, Hw3, -⟩
      icases Hfv with ⟨Hw4, Hw5, Hw6, -⟩
      isplitl [Hv0 Hv1 Hv2 Hv3 Hv4 Hv5 Hv6]
      · isplitl [Hv0]; · iexact Hv0
        isplitl [Hv1]; · iexact Hv1
        isplitl [Hv2]; · iexact Hv2
        isplitl [Hv3]; · iexact Hv3
        isplitl [Hv4]; · iexact Hv4
        isplitl [Hv5]; · iexact Hv5
        isplitl [Hv6]; · iexact Hv6
        iempintro
      isplitr [Hv]
      · isplitl [Hw0]; · iexact Hw0
        isplitl [Hw1]; · iexact Hw1
        isplitl [Hw2]; · iexact Hw2
        isplitl [Hw3]; · iexact Hw3
        isplitl [Hw4]; · iexact Hw4
        isplitl [Hw5]; · iexact Hw5
        isplitl [Hw6]; · iexact Hw6
        iempintro
      iexact Hv
  · iexact HO

end Gather

end Cert.OneShot

end
-- ==== Proof.Talk.lean ====
/-
  A program whose first operation is a call that talks, has no windows and one point, and may be
  followed by further segments: its run, from what the protocol of the call says of its launch (`hready`)
  and of its body (`hrun`). The buffers that the call does not use pass by it (`E`).
-/
module

public import proofs.«01_k».proof.Proof.OneShot
public import Idealize.ShloMosaic.Lib.Pipeline.TalkSched

@[expose] public section

noncomputable section

namespace Cert.Talk

open Idealize.ShloMosaic Idealize.ShloMosaic.TcCoe
open Idealize.SL Idealize.SL.RA
open Idealize.SL.BI (sProp bigSep bigSep_sep' bigSep_mono Storable Persistent)
open scoped Idealize.SL.BI
open Idealize.SL.BI.BIBase Idealize.SL.BI.Laws Idealize.SL.ProofMode Idealize.SL.Sem
open Idealize.ShloMosaic.Rounds Idealize.ShloMosaic.Pipeline
open Idealize.ShloMosaic.TalkSites (owesAt_elim owesAt_intro)
open Cert.OneShot
open Cert.Early (ownZero)

set_option Elab.async false

variable {nD : Nat} {τ : Topo} {sig : RefSig} {Val : EltTy → Type} {Λ₀ : Labels}

local notation "𝕄" => MT nD τ sig Unit Val ℕ (UU nD τ sig) ℕ

section Data

variable (ready done : Dev nD → sProp (MT nD τ sig Unit Val ℕ (UU nD τ sig) ℕ)) (owed : Dev nD → CellTallies nD τ sig Unit)

/-- The call's proof data: `ready` before its one point and `owed` owed, `done` after it and nothing owed. -/
def dat (cfg : Cfg sig Λ₀) (hW : cfg.W = 0) (c : Dev nD) : Dat τ Val Unit ℕ (UU nD τ sig) ℕ cfg c where
  A w := absurd w.isLt (by omega)
  after w := absurd w.isLt (by omega)
  Φ t := if t.val = 0 then iprop(ready c ∗ scopedBufs (c.tc : Thread nD τ)) else iprop(done c ∗ scopedBufs (c.tc : Thread nD τ))
  q w := absurd w.isLt (by omega)
  owed t := if t.val = 0 then owed c else 0

variable (cfg : Cfg sig Λ₀) (hW : cfg.W = 0) (c : Dev nD)

theorem dat_start (t : Fin (cfg.N + 1)) (h : t.val = 0) :
    (dat ready done owed cfg hW c).Φ t = iprop(ready c ∗ scopedBufs (c.tc : Thread nD τ)) := if_pos h

theorem dat_end (t : Fin (cfg.N + 1)) (h : ¬ t.val = 0) :
    (dat ready done owed cfg hW c).Φ t = iprop(done c ∗ scopedBufs (c.tc : Thread nD τ)) := if_neg h

theorem owed_start (t : Fin (cfg.N + 1)) (h : t.val = 0) : (dat ready done owed cfg hW c).owed t = owed c := if_pos h

theorem owed_end (t : Fin (cfg.N + 1)) (h : ¬ t.val = 0) : (dat ready done owed cfg hW c).owed t = 0 := by
  show (if t.val = 0 then owed c else 0) = 0
  rw [if_neg h]

/-- The obligation of the one point. -/
theorem obligation (hN : cfg.N = 1) (defs₀ : Defs nD τ sig Val Λ₀) (𝒱₀ : Variants)
    (hrun : ∀ t W, iprop(ready c ∗ owes (c.tc : Thread nD τ) (owed c) W)
      ⊢ wp frame (wpE defs₀ 𝒱₀ (c.tc : Thread nD τ) none) Set.univ (defs₀ .tc cfg.body (cfg.bodyArgs t (cfg.slots t)))
          (fun _ => iprop(done c ∗ ∃ W, owes (c.tc : Thread nD τ) (0 : CellTallies nD τ sig Unit) W))) :
    BodyObligation (dat ready done owed cfg hW c) defs₀ 𝒱₀ () Set.univ := fun t => by
  have : IsEmpty (Fin cfg.W) := by rw [hW]; infer_instance
  have h0 : t.castSucc.val = 0 := by have := t.isLt; show t.val = 0; omega
  have h1 : ¬ t.succ.val = 0 := by rw [Fin.val_succ]; omega
  have hemp : ∀ Φ : Fin cfg.W → sProp (MT nD τ sig Unit Val ℕ (UU nD τ sig) ℕ), bigSep Finset.univ Φ = BI.emp := fun Φ => by
    rw [Finset.univ_eq_empty (α := Fin cfg.W)]; exact BI.bigSep_empty
  rw [hemp, hemp, dat_start ready done owed cfg hW c _ h0, dat_end ready done owed cfg hW c _ h1]
  have hi := fun W => owesAt_intro (Name := ℕ) (U := UU nD τ sig) (Lvl := ℕ) (dat ready done owed cfg hW c) () t.succ 0 (owed_end ready done owed cfg hW c _ h1) rfl W
  iintro ⟨⟨Hr, Hb⟩, HO, -⟩
  ihave HO' := (owesAt_elim (dat ready done owed cfg hW c) () _ (owed c) (owed_start ready done owed cfg hW c _ h0)) $$ HO
  icases HO' with ⟨%W, HO⟩
  ihave Hwp := (hrun t W) $$ [Hr HO]
  · isplitl [Hr]; · iexact Hr
    iexact HO
  iapply (wp_wand frame (wpE defs₀ 𝒱₀ (c.tc : Thread nD τ) none) Set.univ) $$ [Hwp]
  · iexact Hwp
  iintro %u ⟨Hd, ⟨%W', HO⟩⟩
  isplitl [Hd Hb]
  · isplitl [Hd]; · iexact Hd
    iexact Hb
  isplitl [HO]
  · ihave H := (hi W') $$ HO
    iexact H
  iempintro

end Data

variable {P : Type} [Fintype P] [DecidableEq P]
variable (pcs : P → PCfg sig Λ₀ Val) (a : (p : P) → (pcs p).Adm)
variable (pdats : (p : P) → (c : Dev nD) → Dat τ Val Unit ℕ (UU nD τ sig) ℕ (pin pcs a p) c)
variable (phinj : Function.Injective (cellOf (nD := nD) (τ := τ) (pin pcs a)))
variable (defs₀ : Defs nD τ sig Val Λ₀) (𝒱₀ : Variants) (L : GSem nD τ sig → Finset Unit) (lv : GSem nD τ sig → Unit → ℕ)

local notation "𝔻" => Pipeline.defs pcs defs₀
local notation "𝕍" => Variants.lift 𝒱₀

include phinj in
/-- The run of the program. -/
theorem run_talk [∀ e, Nonempty (Val e)]
    (m : (ℓ : Loc nD τ sig) → Buf Val ℓ) (g : Dev nD → PrngReg)
    (main : Dev nD → Prog (TpuEff nD τ sig Val (Sig Λ₀ P fun p => (pcs p).Adm) .tc) PUnit)
    (p₀ : P) (rest : List (Seg pcs a pdats () defs₀ 𝒱₀ L lv))
    (hmain : ∀ c (Q : PUnit → sProp 𝕄), wp frame (wpE 𝔻 𝕍 (c.tc : Thread nD τ) none) Set.univ
        (.op (.customCall (entry p₀) ()) fun _ => Seg.run rest) Q
      ⊢ wp frame (wpE 𝔻 𝕍 (c.tc : Thread nD τ) none) Set.univ (main c) Q)
    (hnd : (Seg.pipes rest).Nodup)
    (own : Finset (SemLoc sig)) (hown : ∀ sm ∈ own, sm.isScoped .tc = true)
    (owed : Dev nD → CellTallies nD τ sig Unit) (hL : ∀ g : GSem nD τ sig, g.1.2 ≠ .tc → L g = ∅)
    (u : UR sig nD τ) (start fin E ready done : Dev nD → sProp 𝕄)
    (hW : (pcs p₀).W = 0) (hK : (pcs p₀).pre.K = 0) (hN : (pin pcs a p₀).N = 1)
    (hd : ∀ c, pdats p₀ c = dat ready done owed (pin pcs a p₀) hW c)
    (hbufs : ∀ c, unscopedBufs c (fun b => m ((c.tc : Thread nD τ).loc b)) ⊢ iprop(start c ∗ E c))
    (hready : iprop((bigSep Finset.univ fun c : Dev nD => ownZero own c) ∗ BI.own (ER u)
        ∗ (bigSep Finset.univ fun c : Dev nD => launchCred owed c) ∗ (bigSep Finset.univ start) ∗ levAts L lv)
      ⊢ |={Set.univ}=> bigSep Finset.univ ready)
    (hrun : ∀ c t W, iprop(ready c ∗ owes (c.tc : Thread nD τ) (owed c) W)
      ⊢ wp frame (wpE defs₀ 𝒱₀ (c.tc : Thread nD τ) none) Set.univ (defs₀ .tc (pin pcs a p₀).body ((pin pcs a p₀).bodyArgs t ((pin pcs a p₀).slots t)))
          (fun _ => iprop(done c ∗ ∃ W, owes (c.tc : Thread nD τ) (0 : CellTallies nD τ sig Unit) W)))
    (hdone : ∀ c, done c ⊢ iprop(fin c ∗ ownZero own c))
    (Tₙ : Dev nD → sProp 𝕄)
    (hch : Seg.Chains (fun c => iprop((fin c ∗ E c) ∗ ∃ W, owes (c.tc : Thread nD τ) (0 : CellTallies nD τ sig Unit) W)) rest
      fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  have hlast : ¬ (Fin.last (pin pcs a p₀).N).val = 0 := by rw [Fin.val_last, hN]; decide
  have hO0 : ∀ c, (pdats p₀ c).owed 0 = owed c := fun c => by rw [hd c]; exact owed_start ready done owed _ hW c 0 rfl
  have hO1 : ∀ c, (pdats p₀ c).owed (Fin.last _) = 0 := fun c => by rw [hd c]; exact owed_end ready done owed _ hW c _ hlast
  have hin : ∀ c, (iprop(ready c ∗ levAts L lv ∗ scopedBufs (c.tc : Thread nD τ)) : sProp 𝕄) ⊢ (pdats p₀ c).Φ 0 := fun c => by
    rw [hd c, dat_start ready done owed _ hW c 0 rfl]
    iintro ⟨HA, -, Hb⟩
    isplitl [HA] <;> iassumption
  have hout : ∀ c, (pdats p₀ c).Φ (Fin.last _) ⊢ (iprop(fin c ∗ ownZero own c ∗ scopedBufs (c.tc : Thread nD τ)) : sProp 𝕄) := fun c => by
    rw [hd c, dat_end ready done owed _ hW c _ hlast]
    iintro ⟨HA, Hb⟩
    ihave H := (hdone c) $$ HA
    icases H with ⟨Hf, Hz⟩
    isplitl [Hf]; · iexact Hf
    isplitl [Hz] <;> iassumption
  have hbody : ∀ c, BodyObligation (pdats p₀ c) defs₀ 𝒱₀ () Set.univ := fun c => by
    rw [hd c]
    exact obligation ready done owed _ hW c hN defs₀ 𝒱₀ (hrun c)
  refine Cert.Early.run_early pcs a pdats () phinj EP defs₀ 𝒱₀ L lv m g main p₀ rest hmain hnd own hown owed hL
    (BI.own (ER u)) (initOf (cells (pin pcs a) phinj) (launchToks (pin pcs a) phinj), u)
    (by
      iintro Hu
      ihave H := (ownU_pair _ _) $$ Hu
      imodintro
      iexact H)
    (fun c => iprop((ready c ∗ (pdats p₀ c).owesAt () 0) ∗ E c))
    (fun c => iprop((fin c ∗ E c) ∗ ∃ W, owes (c.tc : Thread nD τ) (0 : CellTallies nD τ sig Unit) W))
    Tₙ hch ?_ ?_ QY hfin hQ
  · have hb : (bigSep Finset.univ fun c : Dev nD => iprop(unscopedBufs c (fun b => m ((c.tc : Thread nD τ).loc b)) ∗ ownZero own c ∗ unscopedSems0 c
            ∗ owes (c.tc : Thread nD τ) (owed c) ∅ ∗ launchCred owed c))
          ⊢ (iprop((bigSep Finset.univ start) ∗ (bigSep Finset.univ fun c => ownZero own c)
            ∗ (bigSep Finset.univ fun c : Dev nD => launchCred owed c) ∗ (bigSep Finset.univ fun c => (pdats p₀ c).owesAt () 0) ∗ bigSep Finset.univ E) : sProp 𝕄) := by
      rw [← bigSep_sep', ← bigSep_sep', ← bigSep_sep', ← bigSep_sep']
      refine bigSep_le fun c _ => ?_
      iintro ⟨Hb, Hz, -, HO, Hc⟩
      ihave Hb := (hbufs c) $$ Hb
      icases Hb with ⟨Hs, HE⟩
      isplitl [Hs]; · iexact Hs
      isplitl [Hz]; · iexact Hz
      isplitl [Hc]; · iexact Hc
      isplitl [HO]
      · ihave H := (owesAt_intro (pdats p₀ c) () 0 (owed c) (hO0 c) (by rw [hd c]; rfl) ∅) $$ HO
        iexact H
      iexact HE
    iintro ⟨Hd, HG, HL⟩
    ihave H := hb $$ Hd
    icases H with ⟨Hh, Hz, Hc, HO, HE⟩
    imod hready $$ [Hh Hz Hc HG HL] with HR
    · isplitl [Hz]; · iexact Hz
      isplitl [HG]; · iexact HG
      isplitl [Hc]; · iexact Hc
      isplitl [Hh] <;> iassumption
    imodintro
    iapply (Entails.of_eq (bigSep_sep' _ _ _).symm)
    isplitl [HR HO]
    · iapply (Entails.of_eq (bigSep_sep' _ _ _).symm)
      isplitl [HR] <;> iassumption
    iexact HE
  · intro c k Q'
    iintro ⟨Hk, Hsb, Hrest, Hidle, ⟨⟨HR, HO⟩, HE⟩, HL⟩
    iapply (Cert.Early.first_bare pcs a pdats () phinj EP defs₀ 𝒱₀ L lv p₀ hW hK own hown ready fin c (hbody c) (hin c) (hout c) k Q')
    isplitl [Hk HE]
    · iintro ⟨Hbd, Hf, HO⟩
      iapply Hk
      isplitl [Hbd]; · iexact Hbd
      isplitl [Hf HE]
      · isplitl [Hf] <;> iassumption
      ihave HO' := (owesAt_elim (pdats p₀ c) () (Fin.last _) 0 (hO1 c)) $$ HO
      iexact HO'
    isplitl [Hsb]; · iexact Hsb
    isplitl [Hrest]; · iexact Hrest
    isplitl [Hidle]; · iexact Hidle
    isplitl [HR HO]
    · isplitl [HR] <;> iassumption
    iexact HL

end Cert.Talk

end
-- ==== Proof.GatherCall.lean ====
/-
  The gather as a program's first call: what every device ends with as a function of the arrays, and the
  forms in which a program's run takes the call's launch and its end.
-/
module

public import proofs.«01_k».proof.Proof.Gather
public import proofs.«01_k».proof.Proof.Talk

@[expose] public section

noncomputable section

namespace Cert.OneShot

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.Rows

set_option Elab.async false

/-- The arrays of the devices, one block each. -/
def stacked {R C : ℕ} {α : Type} (x : Dev 8 → (S R C).Idx → α) : (S8 R C).Idx → α :=
  fun y => x (y 0) (ValueIdx.ix2 (y 1 : Fin R) (y 2 : Fin C))

theorem stacked_eq {R C : ℕ} {α : Type} (x : Dev 8 → (S R C).Idx → α) (s : Dev 8) (y : (S8 R C).Idx) (z : (S R C).Idx)
    (h0 : (y 0 : ℕ) = s) (h1 : (y 1 : ℕ) = z 0) (h2 : (y 2 : ℕ) = z 1) : stacked x y = x s z := by
  have hs : y 0 = s := Fin.ext h0
  have hz : ValueIdx.ix2 (y 1 : Fin R) (y 2 : Fin C) = z := by
    funext a
    fin_cases a
    · exact Fin.ext h1
    · exact Fin.ext h2
  exact (congrArg (fun d => x d (ValueIdx.ix2 (y 1 : Fin R) (y 2 : Fin C))) hs).trans (congrArg (x s) hz)

variable {τ : Topo} {sig : RefSig} {Val : EltTy → Type}

namespace Gather

variable (A : Gather τ sig)
variable (x : (c : Dev 8) → Buf Val (A.x.view.loc (c.tc : Thread 8 τ)))

/-- Whole arrays, held whole. -/
theorem held_whole (h : A.x.IsWhole) (h' : A.o.IsWhole) (g : (c : Dev 8) → Buf Val (A.o.view.loc (c.tc : Thread 8 τ))) (c : Dev 8) :
    A.held x g c = iprop((A.x.view.loc (c.tc : Thread 8 τ) ↦{fullShare} x c) ∗ (A.o.view.loc (c.tc : Thread 8 τ) ↦{fullShare} g c)) := by
  unfold held
  rw [h.set_eq_univ, h'.set_eq_univ]

end Gather

end Cert.OneShot

end
-- ==== Proof.GatherAlone.lean ====
/-
  The run of a program that is one gather: every execution on the eight devices terminates, the arguments
  unchanged, the results the arrays gathered, every counter at zero.
-/
module

public import proofs.«01_k».proof.Proof.GatherCall
public import proofs.«01_k».proof.Proof.Talk

@[expose] public section

noncomputable section

namespace Cert.OneShot

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.Rows

set_option Elab.async false

variable {τ : Topo} {sig : RefSig} {Val : EltTy → Type} {Λ₀ : Labels} {P : Type} [Fintype P] [DecidableEq P]

local notation "𝕄" => MT 8 τ sig Unit Val ℕ (UU 8 τ sig) ℕ

namespace Gather

variable (A : Gather τ sig)
variable (x : (c : Dev 8) → Buf Val (A.x.view.loc (c.tc : Thread 8 τ))) (G g₀ : (c : Dev 8) → Buf Val (A.o.view.loc (c.tc : Thread 8 τ)))
variable (pcs : P → PCfg sig Λ₀ Val) (a : (p : P) → (pcs p).Adm)
variable (pdats : (p : P) → (c : Dev 8) → Dat τ Val Unit ℕ (UU 8 τ sig) ℕ (pin pcs a p) c)
variable (phinj : Function.Injective (cellOf (nD := 8) (τ := τ) (pin pcs a)))
variable (defs₀ : Defs 8 τ sig Val Λ₀) (m : (ℓ : Loc 8 τ sig) → Buf Val ℓ) (ρ : Dev 8 → PrngReg)

local notation "𝔻" => Pipeline.defs pcs defs₀

/-- The call's body, where it is the gather's. -/
theorem call_run (hG : A.Gathered x G) (p : Prog (TpuEff 8 τ sig Val Λ₀ .tc) PUnit) (hp : p = A.body) (c : Dev 8) (W : Waits sig Unit) :
    (iprop(A.ready x G c ∗ owes (c.tc : Thread 8 τ) (A.owed c) W) : sProp 𝕄)
      ⊢ wp frame (wpE defs₀ Variants.none (c.tc : Thread 8 τ) none) Set.univ p
          (fun _ => iprop(A.done x G c ∗ ∃ W, owes (c.tc : Thread 8 τ) (0 : CellTallies 8 τ sig Unit) W)) := by
  subst hp
  exact A.run x G hG Variants.none c W

include phinj in
theorem run_alone [∀ e, Nonempty (Val e)] (hx : A.x.IsWhole) (ho : A.o.IsWhole)
    (main : Dev 8 → Prog (TpuEff 8 τ sig Val (Sig Λ₀ P fun p => (pcs p).Adm) .tc) PUnit) (p₀ : P)
    (hmain : ∀ c (Q : PUnit → sProp 𝕄), wp frame (wpE 𝔻 (Variants.lift Variants.none) (c.tc : Thread 8 τ) none) Set.univ
        (.op (.customCall (entry p₀) ()) fun _ => Seg.run ([] : List (Seg pcs a pdats () defs₀ Variants.none leveled A.level))) Q
      ⊢ wp frame (wpE 𝔻 (Variants.lift Variants.none) (c.tc : Thread 8 τ) none) Set.univ (main c) Q)
    (hsc : ∀ sm : SemLoc sig, sm.isScoped .tc = true)
    (hW : (pcs p₀).W = 0) (hK : (pcs p₀).pre.K = 0) (hN : (pin pcs a p₀).N = 1)
    (hd : ∀ c, pdats p₀ c = Cert.Talk.dat (A.ready x G) (A.done x G) A.owed (pin pcs a p₀) hW c)
    (hbufs : ∀ c, unscopedBufs c (fun b => m ((c.tc : Thread 8 τ).loc b)) ⊢ (A.held x g₀ c : sProp 𝕄))
    (hrun : ∀ c t W, iprop(A.ready x G c ∗ owes (c.tc : Thread 8 τ) (A.owed c) W)
      ⊢ wp frame (wpE defs₀ Variants.none (c.tc : Thread 8 τ) none) Set.univ (defs₀ .tc (pin pcs a p₀).body ((pin pcs a p₀).bodyArgs t ((pin pcs a p₀).slots t)))
          (fun _ => iprop(A.done x G c ∗ ∃ W, owes (c.tc : Thread 8 τ) (0 : CellTallies 8 τ sig Unit) W))) :
    θ_run 𝔻 (onTc main) ⟨m, fun _ => 0, ρ⟩
      (fun r => (∀ c : Dev 8, r.2.mem (A.x.view.loc (c.tc : Thread 8 τ)) = x c ∧ r.2.mem (A.o.view.loc (c.tc : Thread 8 τ)) = G c)
        ∧ r.2.sem = fun _ => 0) :=
  Cert.Talk.run_talk pcs a pdats phinj defs₀ Variants.none leveled A.level m ρ main p₀ [] hmain
    (by simp) (own A.sem) (fun sm _ => hsc sm) A.owed (fun g h => if_neg h) (elem A.sem)
    (A.held x g₀) (A.held x G) (fun _ => iprop(emp)) (A.ready x G) (A.done x G)
    hW hK hN hd
    (fun c => by
      iintro H
      isplitl [H]
      · iapply (hbufs c); iexact H
      iempintro)
    (A.launch x G g₀)
    hrun
    (fun c => .rfl)
    (fun c => A.held x G c)
    (fun c => by
      iintro ⟨⟨H, -⟩, HO⟩
      isplitl [H] <;> iassumption)
    (fun c s => s.mem (A.x.view.loc (c.tc : Thread 8 τ)) = x c ∧ s.mem (A.o.view.loc (c.tc : Thread 8 τ)) = G c)
    (fun c s' => by
      rw [A.held_whole x hx ho]
      iintro ⟨⟨Hx, Hy⟩, HSI⟩
      icombine HSI Hx gives %h
      icombine HSI Hy gives %h'
      imodintro
      isplitr
      · ipureintro
        exact ⟨Buf.eq_of_forall_mem_univ h, Buf.eq_of_forall_mem_univ h'⟩
      iexact HSI)
    (fun s h hs => ⟨h, sem_eq_zero_of_scoped hsc hs⟩)

end Gather

end Cert.OneShot

end
-- ==== Proof.Hops.lean ====
/-
  The gather of the program's arrays, at any size: device `c` sends its array to its sibling and, along the three
  ways out of its chip, to the devices of its kind, and passes on to its sibling what these send it. All the gathers
  print the receivers and offsets as `Weights` does.
-/
module

public import proofs.«01_k».proof.Proof.Gather
public import proofs.«01_k».proof.Proof.Gen.WeightsIdeal.Frame

@[expose] public section

noncomputable section

namespace Cert.Hops

open Idealize.ShloMosaic Idealize.ShloMosaic.TcCoe
open Idealize.SL Idealize.SL.Sem
open Cert.OneShot Cert.Rows
open Cert.WeightsIdeal
open Cert.WeightsIdeal.Facts₀ Cert.WeightsIdeal.Facts

set_option Elab.async false

/-- The receiver of a channel. -/
def peer (k : Hop) (c : Dev 8) : Dev 8 :=
  match k with
  | .inl 0 => ⟨k0_dev1 c, k0_dev1_lt c⟩
  | .inl 1 => ⟨k0_dev2 c, k0_dev2_lt c⟩
  | .inl 2 => ⟨k0_dev3 c, k0_dev3_lt c⟩
  | .inl 3 => ⟨k0_dev4 c, k0_dev4_lt c⟩
  | .inr 0 => ⟨k0_dev5 c, k0_dev5_lt c⟩
  | .inr 1 => ⟨k0_dev6 c, k0_dev6_lt c⟩
  | .inr 2 => ⟨k0_dev7 c, k0_dev7_lt c⟩

theorem peer_direct : ∀ (i : Fin 4) c, peer (.inl i) (peer (.inl i) c) = c := by decide +kernel
theorem peer_passed : ∀ (j : Fin 3) c, peer (.inr j) (peer (.inr j) c) = c := by decide +kernel

theorem peer_peer : ∀ k c, peer k (peer k c) = c
  | .inl i => peer_direct i
  | .inr j => peer_passed j

def tgt (k : Hop) : Dev 8 ≃ Dev 8 := ⟨peer k, peer k, peer_peer k, peer_peer k⟩

/-- The offsets of what arrives on a channel. -/
def off (k : Hop) (c : Dev 8) : Fin 3 → ℕ :=
  match k with
  | .inl 0 => k0_off5 c
  | .inl 1 => k0_off2 c
  | .inl 2 => k0_off3 c
  | .inl 3 => k0_off4 c
  | .inr 0 => k0_off6 c
  | .inr 1 => k0_off7 c
  | .inr 2 => k0_off8 c

/-- The device whose array arrives: the sender, or the one the sender has it from. -/
def blk (k : Hop) (c : Dev 8) : Dev 8 :=
  match k with
  | .inl i => peer (.inl i) c
  | .inr j => peer (.inl j.succ) (peer (.inr j) c)

/-- The cells: the semaphores 7–13 are credited by what arrives, 0–6 by what left, 14 by the local copy. -/
def semOf : J Hop → Fin 15
  | .inl (.inl (.inl i)) => ⟨7 + i.val, by have := i.isLt; omega⟩
  | .inl (.inl (.inr j)) => ⟨11 + j.val, by have := j.isLt; omega⟩
  | .inl (.inr (.inl i)) => ⟨i.val, by have := i.isLt; omega⟩
  | .inl (.inr (.inr j)) => ⟨4 + j.val, by have := j.isLt; omega⟩
  | .inr _ => ⟨14, by decide⟩

theorem semOf_inj : Function.Injective semOf := by
  rintro (((i | i) | (i | i)) | i) (((j | j) | (j | j)) | j) h <;> revert h <;> revert i j <;> decide +kernel

theorem off1 : ∀ c : Dev 8, k0_off1 c = ![(c : ℕ), 0, 0] := by decide +kernel
theorem off_direct : ∀ (i : Fin 4) (c : Dev 8), off (.inl i) c = ![(blk (.inl i) c : ℕ), 0, 0] := by decide +kernel
theorem off_passed : ∀ (j : Fin 3) (c : Dev 8), off (.inr j) c = ![(blk (.inr j) c : ℕ), 0, 0] := by decide +kernel

theorem off_blk : ∀ (k : Hop) (c : Dev 8), off k c = ![(blk k c : ℕ), 0, 0]
  | .inl i, c => off_direct i c
  | .inr j, c => off_passed j c

section Size

variable {sig : RefSig} (R C : ℕ) (e : EltTy)

/-- A block lies in the stack. -/
theorem inb_of (off : Fin 3 → ℕ) (d : Dev 8) (h : off = ![(d : ℕ), 0, 0]) : ∀ a, off a + (Cert.Rows.S1 R C).size a ≤ (S8 R C).size a := by
  subst h
  intro a
  have hd := d.isLt
  fin_cases a
  · show (d : ℕ) + 1 ≤ 8
    omega
  · show 0 + R ≤ R
    omega
  · show 0 + C ≤ C
    omega

theorem wordExact_row (m : Memref sig .tc .hbm (S8 R C) e) (hm : m.IsWhole) (off : Fin 3 → ℕ) (inb : ∀ a, off a + (Cert.Rows.S1 R C).size a ≤ (S8 R C).size a)
    (hw : (Rect.unit (s := S8 R C) off (Cert.Rows.S1 R C).size inb).WholeWords (EltTy.packing e)) (hq : (Cert.Rows.S1 R C).Squeezes (S R C)) :
    (row m off inb hq).view.WordExact := (hm.wordExact_slice rfl _ hw).reshape _ _

/-- The gather of arrays `[R, C]`, at given arrays and cells. -/
def gather (hq : (Cert.Rows.S1 R C).Squeezes (S R C)) (x : Memref sig .tc .hbm (S R C) e) (o : Memref sig .tc .hbm (S8 R C) e) (s : Fin 15 ↪ DmaSem sig)
    (wx : x.view.WordExact) (w1 : ∀ c, (row o (k0_off1 c) (inb_of R C _ c (off1 c)) hq).view.WordExact)
    (wW : ∀ k c, (row o (off k c) (inb_of R C _ _ (off_blk k c)) hq).view.WordExact)
    (hsc : o.view.ref.isScScratch = false)
    (tyL : ∀ (d : DmaSem sig) c, DmaTarget.Typed (nD := 8) (τ := τ) (p := Proc.tc) .hbm (.dma d) (.here (row o (k0_off1 c) (inb_of R C _ c (off1 c)) hq)))
    (tyR : ∀ (d d' : DmaSem sig) (c : Dev 8) (r : Memref sig .tc .hbm (S R C) e) (h : r.view.ref.isScScratch = false), DmaTarget.Typed (nD := 8) (τ := τ) (p := Proc.tc) .hbm (.dma d) (.remote (c.tc : Thread 8 τ) r (.dma d') h))
    (hN : 0 < x.view.dmaCredit) (credO : (row o (k0_off1 0) (inb_of R C _ 0 (off1 0)) hq).view.dmaCredit = x.view.dmaCredit) : Gather τ sig where
  R := R
  C := C
  e := e
  hq := hq
  x := x
  o := o
  sem := (⟨semOf, semOf_inj⟩ : J Hop ↪ Fin 15).trans s
  tgt := tgt
  blk := blk
  o1 := k0_off1
  oW := off
  inb1 c := inb_of R C _ c (off1 c)
  inbW k c := inb_of R C _ _ (off_blk k c)
  h1 := off1
  hW := off_blk
  direct i c := peer_direct i c
  passed j c := congrArg (peer (.inl j.succ)) (peer_passed j c)
  wx := wx
  w1 := w1
  wW := wW
  hsc := hsc
  tyL c := tyL _ c
  tyD i c := tyR _ _ _ _ _
  tyP j c := tyR _ _ _ _ _
  N := x.view.dmaCredit
  hN := hN
  credX := rfl
  credO := credO
  routes k c := by routes
  in_nodup := by decide +kernel
  in_all := by decide +kernel

end Size

end Cert.Hops

end
-- ==== Proof.WPlan.lean ====
/-
  The call `gather_weights` of `Weights` as a gather: the printed body is the plan's.
-/
module

public import proofs.«01_k».proof.Proof.Hops
public import proofs.«01_k».proof.Proof.Gen.WeightsIdeal.Frame

@[expose] public section

noncomputable section

namespace Cert.WeightsIdeal

open Idealize.ShloMosaic Idealize.ShloMosaic.TcCoe
open Idealize.SL Idealize.SL.Sem
open Cert.OneShot Cert.Rows
open Facts₀ Facts

set_option Elab.async false

/-- The call's fifteen cells. -/
def cells : Fin 15 ↪ DmaSem sig := ⟨fun i => ⟨i.val, lt_of_lt_of_le i.isLt (by decide)⟩, fun i j h => Fin.ext (Fin.mk.inj_iff.1 h)⟩

theorem words (k : Hop) (c : Dev 8) : (Rect.unit (s := S8 9216 1024) (Cert.Hops.off k c) (Cert.Rows.S1 9216 1024).size (Cert.Hops.inb_of 9216 1024 _ _ (Cert.Hops.off_blk k c))).WholeWords (EltTy.packing .bf16) :=
  match k with
  | .inl 0 => k0_off5_wordsbf16 c
  | .inl 1 => k0_off2_wordsbf16 c
  | .inl 2 => k0_off3_wordsbf16 c
  | .inl 3 => k0_off4_wordsbf16 c
  | .inr 0 => k0_off6_wordsbf16 c
  | .inr 1 => k0_off7_wordsbf16 c
  | .inr 2 => k0_off8_wordsbf16 c

/-- The call as a gather. -/
def A : Gather τ sig :=
  Cert.Hops.gather 9216 1024 .bf16 squeezes_S1x9216x1024_S9216x1024 (Memref.whole main_arg0) (Memref.whole main_v1) cells
    (Memref.isWhole_whole _).wordExact
    (fun c => Cert.Hops.wordExact_row 9216 1024 .bf16 _ (Memref.isWhole_whole _) _ _ (k0_off1_wordsbf16 c) _)
    (fun k c => Cert.Hops.wordExact_row 9216 1024 .bf16 _ (Memref.isWhole_whole _) _ _ (words k c) _)
    rfl (fun _ _ => ⟨Or.inl rfl, trivial⟩) (fun _ _ _ _ _ => ⟨⟨rfl, Or.inl rfl⟩, trivial⟩) (View.dmaCredit_pos _ (by decide)) rfl

variable {F : FTy → Type} [FloatOps F]

set_option maxRecDepth 65536 in
/-- The printed body is the plan's. -/
theorem body_eq : (cc0_gather_weights (F := F) (Memref.whole main_arg0) (Memref.isWhole_whole _) (Memref.whole main_v1) (Memref.isWhole_whole _) cc0_scratch0 cc0_scratch1 cc0_scratch2)
    = A.body := rfl

end Cert.WeightsIdeal

end
-- ==== Proof.WRun.lean ====
/-
  `Weights` over any float operations: from any memory with zero counters every execution on the eight
  devices terminates, the argument unchanged, block `s` of every device's result the array of device `s`,
  and every counter at zero.
-/
module

public import proofs.«01_k».proof.Proof.GatherAlone
public import proofs.«01_k».proof.Proof.WPlan

@[expose] public section

noncomputable section

namespace Cert.WeightsIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.OneShot Cert.Rows

set_option Elab.async false

variable {F : FTy → Type} [FloatOps F]
variable (m : (ℓ : Loc nD τ sig) → Buf (Elt F) ℓ) (ρ : Dev nD → PrngReg)

local notation "𝕄" => MT nD τ sig Unit (Elt F) ℕ (UU nD τ sig) ℕ

/-- The arguments, and the results. -/
def X (c : Dev 8) : Buf (Elt F) (A.x.view.loc (c.tc : Thread 8 τ)) := m ((c.tc : Thread nD τ).loc main_arg0)
def G (c : Dev 8) : Buf (Elt F) (A.o.view.loc (c.tc : Thread 8 τ)) :=
  (stacked (R := 9216) (C := 1024) (fun d => (m ((d.tc : Thread nD τ).loc main_arg0) : (S 9216 1024).Idx → Elt F .bf16)) : (S8 9216 1024).Idx → Elt F .bf16)
def g₀ (c : Dev 8) : Buf (Elt F) (A.o.view.loc (c.tc : Thread 8 τ)) := m ((c.tc : Thread nD τ).loc main_v1)

theorem gathered : A.Gathered (X m) (G m) := by
  intro s d y z h0 h1 h2
  exact stacked_eq (R := 9216) (C := 1024) (fun d => (m ((d.tc : Thread nD τ).loc main_arg0) : (S 9216 1024).Idx → Elt F .bf16)) s y z h0 h1 h2

abbrev adm : (p : Fin 1) → (pcfgs (F := F) p).Adm := fun p => (cfgs p).toPCfg_adm
def pdats : (p : Fin 1) → (c : Dev nD) → Dat τ (Elt F) Unit ℕ (UU nD τ sig) ℕ (pin (pcfgs (F := F)) adm p) c
  | 0 => fun c => Cert.Talk.dat (A.ready (X m) (G m)) (A.done (X m) (G m)) A.owed cfg0 rfl c

theorem all_scoped : ∀ sm : SemLoc sig, sm.isScoped .tc = true := by decide

theorem bufs (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ (((c.tc : Thread nD τ).loc main_v1) ↦{fullShare} V main_v1)) := by
  unfold unscopedBufs
  rw [BI.bigSep_eq_bigSepL_of_eq [main_arg0, main_v1] (by decide) (by decide)]
  rfl

theorem dealt (c : Dev nD) : (unscopedBufs c (fun b => m ((c.tc : Thread nD τ).loc b)) : sProp 𝕄) ⊢ A.held (X m) (g₀ m) c :=
  Entails.of_eq ((bufs c _).trans (A.held_whole (X m) (Memref.isWhole_whole _) (Memref.isWhole_whole _) (g₀ m) c).symm)

set_option backward.isDefEq.respectTransparency.types false in
/-- Every execution terminates with the argument as launched, the result the arrays gathered, the counters zero. -/
theorem run_main : θ_run defs (onTc (τ := τ) (main (F := F))) ⟨m, fun _ => 0, ρ⟩
    (fun r => (∀ c : Dev nD, r.2.mem ((c.tc : Thread nD τ).loc main_arg0) = X m c ∧ r.2.mem ((c.tc : Thread nD τ).loc main_v1) = G m c)
      ∧ r.2.sem = fun _ => 0) :=
  A.run_alone (X m) (G m) (g₀ m) (pcfgs (F := F)) adm (pdats m) Gen.cellOf_inj defs₀ m ρ (Memref.isWhole_whole _) (Memref.isWhole_whole _) main 0
    (fun c Q => by rw [Gen.main_chain c]; exact .rfl)
    all_scoped rfl rfl (show cfg0.N = 1 by decide) (fun _ => rfl) (dealt m)
    (fun c _ W => A.call_run (X m) (G m) defs₀ (gathered m) _ body_eq c W)

end Cert.WeightsIdeal

end
-- ==== Proof.GatherValue.lean ====
/-
  The arrays gathered, as plain mathematics: the blocks of a whole array, stacked, are its reshape.
-/
module

public import proofs.«01_k».proof.Proof.GatherCall
public import Idealize.ShloMosaic.Lib.Pipeline.Value
public import Idealize.ShloMosaic.Lib.Layout
public import Idealize.ShloMosaic.Lib.ValueLayout

@[expose] public section

noncomputable section

namespace Cert.OneShot

open Idealize.ShloMosaic
open Cert.Rows

set_option Elab.async false

variable {α : Type}

theorem stacked_blocks {R C M : ℕ} (V : (S M C).Idx → α) (h : (S M C).ShapeCasts (S8 R C)) (hT : Layout.Tiles (S R C) (S M C) 0 8) :
    stacked (R := R) (C := C) (fun d => Layout.block (S R C) (S M C) 0 8 d V hT) = shapeCast (S8 R C) V h := by
  funext y
  have e0 : (hT.idx (y 0) (ValueIdx.ix2 (y 1 : Fin R) (y 2 : Fin C)) 0).val = (y 0).val * R + (y 1).val := rfl
  have e1 : (hT.idx (y 0) (ValueIdx.ix2 (y 1 : Fin R) (y 2 : Fin C)) 1).val = (y 2).val := rfl
  show V (hT.idx (y 0) (ValueIdx.ix2 (y 1 : Fin R) (y 2 : Fin C))) = _
  rw [shapeCast_apply _ h y (hT.idx (y 0) (ValueIdx.ix2 (y 1 : Fin R) (y 2 : Fin C))) (by
      rw [Shape.rowMajor_val_two, Shape.rowMajor_val_three, e0, e1]
      rfl)]

end Cert.OneShot

end
-- ==== Proof.WClaims.lean ====
/-
  The claims about `Weights`: the frames of the kernel over bits and over the reals and of its reference, and
  that every device's result is the reference's.
-/
module

public import proofs.«01_k».proof.Defs
public import proofs.«01_k».proof.Proof.WRun
public import proofs.«01_k».proof.Proof.GatherValue
public import proofs.«01_k».proof.Proof.Gen.Weights
public import proofs.«01_k».proof.Proof.Gen.WeightsRef
public import proofs.«01_k».proof.Proof.Gen.WeightsRefIdeal.Run

@[expose] public section

noncomputable section

namespace Cert.WClaims

open Idealize.ShloMosaic Idealize.ShloMosaic.TcCoe Idealize.SL.Sem
open Cert.OneShot Cert.Rows

set_option Elab.async false

theorem frame_ideal : Cert.quiescent_WeightsIdeal := fun m ρ _ =>
  (θ_run Cert.WeightsIdeal.defs _ _).mono (fun _ h => ⟨fun c => (h.1 c).1, h.2⟩) (Cert.WeightsIdeal.run_main (F := Ideal) m ρ)

/-- `Weights` and `WeightsIdeal` are one text, so the run over any floats is the run of both. -/
theorem frame_kernel : Cert.quiescent_Weights := fun m ρ _ =>
  (θ_run Cert.WeightsIdeal.defs _ _).mono (fun _ h => ⟨fun c => (h.1 c).1, h.2⟩) (Cert.WeightsIdeal.run_main (F := Bits) m ρ)

theorem frame_reference : Cert.quiescent_WeightsRefIdeal := fun m ρ _ =>
  (θ_run Cert.WeightsRefIdeal.defs _ _).mono (fun r h => ⟨fun c => (h c).2, sem_eq_zero_of_no_sems rfl r.2⟩)
    (Cert.WeightsRefIdeal.Value.run (F := Ideal) m ρ)

theorem frame_reference_bits : Cert.quiescent_WeightsRef := fun m ρ _ =>
  (θ_run Cert.WeightsRefIdeal.defs _ _).mono (fun r h => ⟨fun c => (h c).2, sem_eq_zero_of_no_sems rfl r.2⟩)
    (Cert.WeightsRefIdeal.Value.run (F := Bits) m ρ)

theorem preserves : Cert.preserves_Weights_WeightsIdeal := trivial

theorem algebraic : Cert.algebraic_WeightsIdeal_WeightsRefIdeal := fun m ρ m' ρ' _ hm => by
  refine ⟨_, (θ_run Cert.WeightsIdeal.defs _ _).mono (fun r h c => ⟨(h.1 c).2.trans ?_, (h.1 c).1⟩) (Cert.WeightsIdeal.run_main (F := Ideal) m ρ),
    (θ_run Cert.WeightsRefIdeal.defs _ _).mono (fun r h => h 0) (Cert.WeightsRefIdeal.Value.run (F := Ideal) m' ρ')⟩
  exact (congrArg (stacked (R := 9216) (C := 1024)) (funext hm)).trans (stacked_blocks _ _ (by decide))

/-- Nothing is computed on the way, so the same holds of the words themselves. -/
theorem bitexact : Cert.bitexact_Weights_WeightsRef := fun m ρ m' ρ' _ hm => by
  refine ⟨_, (θ_run Cert.WeightsIdeal.defs _ _).mono (fun r h c => ⟨(h.1 c).2.trans ?_, (h.1 c).1⟩) (Cert.WeightsIdeal.run_main (F := Bits) m ρ),
    (θ_run Cert.WeightsRefIdeal.defs _ _).mono (fun r h => h 0) (Cert.WeightsRefIdeal.Value.run (F := Bits) m' ρ')⟩
  exact (congrArg (stacked (R := 9216) (C := 1024)) (funext hm)).trans (stacked_blocks _ _ (by decide))

end Cert.WClaims

end
-- ==== Proof.SPlan.lean ====
/-
  The call `gather_small` of `Small` as a gather: the printed body is the plan's.
-/
module

public import proofs.«01_k».proof.Proof.Hops
public import proofs.«01_k».proof.Proof.Gen.SmallIdeal.Frame

@[expose] public section

noncomputable section

namespace Cert.SmallIdeal

open Idealize.ShloMosaic Idealize.ShloMosaic.TcCoe
open Idealize.SL Idealize.SL.Sem
open Cert.OneShot Cert.Rows
open Facts₀ Facts

set_option Elab.async false

/-- The call's fifteen cells. -/
def cells : Fin 15 ↪ DmaSem sig := ⟨fun i => ⟨i.val, lt_of_lt_of_le i.isLt (by decide)⟩, fun i j h => Fin.ext (Fin.mk.inj_iff.1 h)⟩

/-- The call as a gather. -/
def A : Gather τ sig :=
  Cert.Hops.gather 40 128 .f32 squeezes_S1x40x128_S40x128 (Memref.whole main_arg0) (Memref.whole main_v1) cells
    (Memref.isWhole_whole _).wordExact
    (fun _ => (View.wordExact_bits rfl).reshape _ _) (fun _ _ => (View.wordExact_bits rfl).reshape _ _)
    rfl (fun _ _ => ⟨Or.inl rfl, trivial⟩) (fun _ _ _ _ _ => ⟨⟨rfl, Or.inl rfl⟩, trivial⟩) (View.dmaCredit_pos _ (by decide)) rfl

variable {F : FTy → Type} [FloatOps F]

set_option maxRecDepth 65536 in
/-- The printed body is the plan's. -/
theorem body_eq : (cc0_gather_small (F := F) (Memref.whole main_arg0) (Memref.isWhole_whole _) (Memref.whole main_v1) (Memref.isWhole_whole _) cc0_scratch0 cc0_scratch1 cc0_scratch2)
    = A.body := rfl

end Cert.SmallIdeal

end
-- ==== Proof.SRun.lean ====
/-
  `Small` over any float operations: from any memory with zero counters every execution on the eight
  devices terminates, the argument unchanged, block `s` of every device's result the array of device `s`,
  and every counter at zero.
-/
module

public import proofs.«01_k».proof.Proof.GatherAlone
public import proofs.«01_k».proof.Proof.SPlan

@[expose] public section

noncomputable section

namespace Cert.SmallIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.OneShot Cert.Rows

set_option Elab.async false

variable {F : FTy → Type} [FloatOps F]
variable (m : (ℓ : Loc nD τ sig) → Buf (Elt F) ℓ) (ρ : Dev nD → PrngReg)

local notation "𝕄" => MT nD τ sig Unit (Elt F) ℕ (UU nD τ sig) ℕ

/-- The arguments, and the results. -/
def X (c : Dev 8) : Buf (Elt F) (A.x.view.loc (c.tc : Thread 8 τ)) := m ((c.tc : Thread nD τ).loc main_arg0)
def G (c : Dev 8) : Buf (Elt F) (A.o.view.loc (c.tc : Thread 8 τ)) :=
  (stacked (R := 40) (C := 128) (fun d => (m ((d.tc : Thread nD τ).loc main_arg0) : (S 40 128).Idx → Elt F .f32)) : (S8 40 128).Idx → Elt F .f32)
def g₀ (c : Dev 8) : Buf (Elt F) (A.o.view.loc (c.tc : Thread 8 τ)) := m ((c.tc : Thread nD τ).loc main_v1)

theorem gathered : A.Gathered (X m) (G m) := by
  intro s d y z h0 h1 h2
  exact stacked_eq (R := 40) (C := 128) (fun d => (m ((d.tc : Thread nD τ).loc main_arg0) : (S 40 128).Idx → Elt F .f32)) s y z h0 h1 h2

abbrev adm : (p : Fin 1) → (pcfgs (F := F) p).Adm := fun p => (cfgs p).toPCfg_adm
def pdats : (p : Fin 1) → (c : Dev nD) → Dat τ (Elt F) Unit ℕ (UU nD τ sig) ℕ (pin (pcfgs (F := F)) adm p) c
  | 0 => fun c => Cert.Talk.dat (A.ready (X m) (G m)) (A.done (X m) (G m)) A.owed cfg0 rfl c

theorem all_scoped : ∀ sm : SemLoc sig, sm.isScoped .tc = true := by decide

theorem bufs (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ (((c.tc : Thread nD τ).loc main_v1) ↦{fullShare} V main_v1)) := by
  unfold unscopedBufs
  rw [BI.bigSep_eq_bigSepL_of_eq [main_arg0, main_v1] (by decide) (by decide)]
  rfl

theorem dealt (c : Dev nD) : (unscopedBufs c (fun b => m ((c.tc : Thread nD τ).loc b)) : sProp 𝕄) ⊢ A.held (X m) (g₀ m) c :=
  Entails.of_eq ((bufs c _).trans (A.held_whole (X m) (Memref.isWhole_whole _) (Memref.isWhole_whole _) (g₀ m) c).symm)

set_option backward.isDefEq.respectTransparency.types false in
/-- Every execution terminates with the argument as launched, the result the arrays gathered, the counters zero. -/
theorem run_main : θ_run defs (onTc (τ := τ) (main (F := F))) ⟨m, fun _ => 0, ρ⟩
    (fun r => (∀ c : Dev nD, r.2.mem ((c.tc : Thread nD τ).loc main_arg0) = X m c ∧ r.2.mem ((c.tc : Thread nD τ).loc main_v1) = G m c)
      ∧ r.2.sem = fun _ => 0) :=
  A.run_alone (X m) (G m) (g₀ m) (pcfgs (F := F)) adm (pdats m) Gen.cellOf_inj defs₀ m ρ (Memref.isWhole_whole _) (Memref.isWhole_whole _) main 0
    (fun c Q => by rw [Gen.main_chain c]; exact .rfl)
    all_scoped rfl rfl (show cfg0.N = 1 by decide) (fun _ => rfl) (dealt m)
    (fun c _ W => A.call_run (X m) (G m) defs₀ (gathered m) _ body_eq c W)

end Cert.SmallIdeal

end
-- ==== Proof.SClaims.lean ====
/-
  The claims about `Small`: the frames of the kernel over bits and over the reals and of its reference, and
  that every device's result is the reference's.
-/
module

public import proofs.«01_k».proof.Defs
public import proofs.«01_k».proof.Proof.SRun
public import proofs.«01_k».proof.Proof.GatherValue
public import proofs.«01_k».proof.Proof.Gen.Small
public import proofs.«01_k».proof.Proof.Gen.SmallRef
public import proofs.«01_k».proof.Proof.Gen.SmallRefIdeal.Run

@[expose] public section

noncomputable section

namespace Cert.SClaims

open Idealize.ShloMosaic Idealize.ShloMosaic.TcCoe Idealize.SL.Sem
open Cert.OneShot Cert.Rows

set_option Elab.async false

theorem frame_ideal : Cert.quiescent_SmallIdeal := fun m ρ _ =>
  (θ_run Cert.SmallIdeal.defs _ _).mono (fun _ h => ⟨fun c => (h.1 c).1, h.2⟩) (Cert.SmallIdeal.run_main (F := Ideal) m ρ)

/-- `Small` and `SmallIdeal` are one text, so the run over any floats is the run of both. -/
theorem frame_kernel : Cert.quiescent_Small := fun m ρ _ =>
  (θ_run Cert.SmallIdeal.defs _ _).mono (fun _ h => ⟨fun c => (h.1 c).1, h.2⟩) (Cert.SmallIdeal.run_main (F := Bits) m ρ)

theorem frame_reference : Cert.quiescent_SmallRefIdeal := fun m ρ _ =>
  (θ_run Cert.SmallRefIdeal.defs _ _).mono (fun r h => ⟨fun c => (h c).2, sem_eq_zero_of_no_sems rfl r.2⟩)
    (Cert.SmallRefIdeal.Value.run (F := Ideal) m ρ)

theorem frame_reference_bits : Cert.quiescent_SmallRef := fun m ρ _ =>
  (θ_run Cert.SmallRefIdeal.defs _ _).mono (fun r h => ⟨fun c => (h c).2, sem_eq_zero_of_no_sems rfl r.2⟩)
    (Cert.SmallRefIdeal.Value.run (F := Bits) m ρ)

theorem preserves : Cert.preserves_Small_SmallIdeal := trivial

theorem algebraic : Cert.algebraic_SmallIdeal_SmallRefIdeal := fun m ρ m' ρ' _ hm => by
  refine ⟨_, (θ_run Cert.SmallIdeal.defs _ _).mono (fun r h c => ⟨(h.1 c).2.trans ?_, (h.1 c).1⟩) (Cert.SmallIdeal.run_main (F := Ideal) m ρ),
    (θ_run Cert.SmallRefIdeal.defs _ _).mono (fun r h => h 0) (Cert.SmallRefIdeal.Value.run (F := Ideal) m' ρ')⟩
  exact (congrArg (stacked (R := 40) (C := 128)) (funext hm)).trans (stacked_blocks _ _ (by decide))

/-- Nothing is computed on the way, so the same holds of the words themselves. -/
theorem bitexact : Cert.bitexact_Small_SmallRef := fun m ρ m' ρ' _ hm => by
  refine ⟨_, (θ_run Cert.SmallIdeal.defs _ _).mono (fun r h c => ⟨(h.1 c).2.trans ?_, (h.1 c).1⟩) (Cert.SmallIdeal.run_main (F := Bits) m ρ),
    (θ_run Cert.SmallRefIdeal.defs _ _).mono (fun r h => h 0) (Cert.SmallRefIdeal.Value.run (F := Bits) m' ρ')⟩
  exact (congrArg (stacked (R := 40) (C := 128)) (funext hm)).trans (stacked_blocks _ _ (by decide))

end Cert.SClaims

end
-- ==== Proof.CPlan.lean ====
/-
  The exchange call of `Scatter` as an all-to-all of rows: it is `Kernel`'s, by the cells of a program that
  has more of them; the printed body is the plan's.
-/
module

public import proofs.«01_k».proof.Proof.KPlan
public import proofs.«01_k».proof.Proof.Gen.ScatterIdeal.Launch

@[expose] public section

noncomputable section

namespace Cert.ScatterIdeal

open Idealize.ShloMosaic Idealize.ShloMosaic.TcCoe
open Idealize.SL Idealize.SL.Sem
open Cert.OneShot Cert.Rows
open Facts₀ Facts

set_option Elab.async false

/-- The call's fifteen cells. -/
def cells : Fin 15 ↪ DmaSem sig := ⟨fun i => ⟨i.val, lt_of_lt_of_le i.isLt (by decide)⟩, fun i j h => Fin.ext (Fin.mk.inj_iff.1 h)⟩

/-- The call as an all-to-all of rows. -/
def A : A2A τ sig :=
  Cert.KernelIdeal.exchange (Memref.whole main_arg0) (Memref.whole main_v1) (Memref.isWhole_whole _) (Memref.isWhole_whole _) cells rfl
    (fun _ _ => ⟨Or.inl rfl, trivial⟩) (fun _ _ _ _ => ⟨⟨rfl, Or.inl rfl⟩, trivial⟩) (View.dmaCredit_pos _ (by decide)) rfl

variable {F : FTy → Type} [FloatOps F]

set_option maxRecDepth 65536 in
/-- The printed body is the plan's. -/
theorem body_eq : (cc0_exchange_grads (F := F) (Memref.whole main_arg0) (Memref.isWhole_whole _) (Memref.whole main_v1) (Memref.isWhole_whole _) cc0_scratch0 cc0_scratch1 cc0_scratch2)
    = A.plan.body A.l := rfl

end Cert.ScatterIdeal

end
-- ==== Proof.SumRows.lean ====
/-
  The sum of the eight blocks of an array: what the kernels that follow an exchange compute tile by tile. The
  body of such a kernel at any size and for any way the elements are widened, and its triple.
-/
module

public import Idealize.ShloMosaic.Lib.Pipeline.FrameBody
public import Idealize.ShloMosaic.Lib.Pipeline.Value
public import Idealize.ShloMosaic.Lib.Tactic
public import proofs.«01_k».proof.Proof.Rows

@[expose] public section

noncomputable section

namespace Cert.SumRows

open Idealize.ShloMosaic Idealize.ShloMosaic.TcCoe Idealize.ShloMosaic.Tactic
open Idealize.SL Idealize.SL.RA
open Idealize.SL.BI (sProp)
open scoped Idealize.SL.BI
open Idealize.SL.BI.BIBase Idealize.SL.BI.Laws Idealize.SL.ProofMode Idealize.SL.Sem
open Idealize.ShloMosaic.Rounds
open Cert.Rows

set_option Elab.async false

variable {F : FTy → Type} [FloatOps F]
variable {R C : ℕ} {e : EltTy}

/-- Eight numbers added from the left. -/
def sum8 (f : Fin 8 → F .f32) : F .f32 :=
  FloatOps.addf (FloatOps.addf (FloatOps.addf (FloatOps.addf (FloatOps.addf (FloatOps.addf (FloatOps.addf (f 0) (f 1)) (f 2)) (f 3)) (f 4)) (f 5)) (f 6)) (f 7)

/-- Index `y` of block `k`. -/
def ix (k : Fin 8) (y : (S R C).Idx) : (S8 R C).Idx := fun a => match a with
  | ⟨0, _⟩ => k
  | ⟨1, _⟩ => y 0
  | ⟨2, _⟩ => y 1

/-- The blocks widened and added. -/
def total (up : Elt F e → F .f32) (x : Vec F (S8 R C) e) : Vec F (S R C) .f32 := fun y => sum8 fun k => up (x (ix k y))

/-- Block `k` loaded and its leading axis dropped. -/
theorem cast_ld (x : Vec F (S8 R C) e) (k : Fin 8) (off : Fin 3 → ℕ) (h0 : off = ![k.val, 0, 0])
    (inb : ∀ a, off a + (S1 R C).size a ≤ (S8 R C).size a) (h : (S1 R C).ShapeCasts (S R C)) (y : (S R C).Idx) :
    shapeCast (S R C) (View.ld x (Rect.unit (s := S8 R C) off (S1 R C).size inb)) h y = x (ix k y) := by
  subst h0
  let j : (S1 R C).Idx := fun a => match a with
    | ⟨0, _⟩ => (0 : Fin 1)
    | ⟨1, _⟩ => y 0
    | ⟨2, _⟩ => y 1
  refine (shapeCast_apply _ h y j ?_).trans ?_
  · rw [Shape.rowMajor_val_three, Shape.rowMajor_val_two]
    show (0 * R + (y 0).val) * C + (y 1).val = (y 0).val * C + (y 1).val
    rw [Nat.zero_mul, Nat.zero_add]
  · refine congrArg x (funext fun a => Fin.ext ?_)
    match a with
    | ⟨0, _⟩ => show k.val + 1 * 0 = k.val; omega
    | ⟨1, _⟩ => show 0 + 1 * (y 0).val = (y 0).val; omega
    | ⟨2, _⟩ => show 0 + 1 * (y 1).val = (y 1).val; omega

variable {nD : ℕ} {τ : Topo} {sig : RefSig} {Λ₀ : Labels}

/-- The box of block `k`. -/
abbrev box (inb : ∀ k : Fin 8, ∀ a, (![k.val, 0, 0] : Fin 3 → ℕ) a + (S1 R C).size a ≤ (S8 R C).size a) (k : Fin 8) : Rect (S8 R C) :=
  Rect.unit (s := S8 R C) ![k.val, 0, 0] (S1 R C).size (inb k)

/-- The box of the whole result. -/
abbrev whole (inb : ∀ a, (![0, 0] : Fin 2 → ℕ) a + (S R C).size a ≤ (S R C).size a) : Rect (S R C) :=
  Rect.unit (s := S R C) ![0, 0] (S R C).size inb

/-- The body: the eight blocks loaded, the result's tile loaded and overwritten by `pay` of the blocks. -/
def body (inb : ∀ k : Fin 8, ∀ a, (![k.val, 0, 0] : Fin 3 → ℕ) a + (S1 R C).size a ≤ (S8 R C).size a)
    (inb' : ∀ a, (![0, 0] : Fin 2 → ℕ) a + (S R C).size a ≤ (S R C).size a) (h1 : 0 < (S1 R C).numel) (h : 0 < (S R C).numel)
    (pay : Vec F (S1 R C) e → Vec F (S1 R C) e → Vec F (S1 R C) e → Vec F (S1 R C) e → Vec F (S1 R C) e → Vec F (S1 R C) e → Vec F (S1 R C) e → Vec F (S1 R C) e → Vec F (S R C) .f32)
    (x : Memref sig .tc .vmem (S8 R C) e) (o : Memref sig .tc .vmem (S R C) .f32) : Prog (TpuEff nD τ sig (Elt F) Λ₀ .tc) PUnit := do
  let v0 ← Prog.lift (.load x (box inb 0).toLoadRect (View.loadsAt_vmem h1))
  let v1 ← Prog.lift (.load x (box inb 1).toLoadRect (View.loadsAt_vmem h1))
  let v2 ← Prog.lift (.load x (box inb 2).toLoadRect (View.loadsAt_vmem h1))
  let v3 ← Prog.lift (.load x (box inb 3).toLoadRect (View.loadsAt_vmem h1))
  let v4 ← Prog.lift (.load x (box inb 4).toLoadRect (View.loadsAt_vmem h1))
  let v5 ← Prog.lift (.load x (box inb 5).toLoadRect (View.loadsAt_vmem h1))
  let v6 ← Prog.lift (.load x (box inb 6).toLoadRect (View.loadsAt_vmem h1))
  let v7 ← Prog.lift (.load x (box inb 7).toLoadRect (View.loadsAt_vmem h1))
  let _ ← Prog.lift (.load o (whole inb').toLoadRect (View.loadsAt_vmem h))
  Prog.lift (.store o (whole inb') (pay v0 v1 v2 v3 v4 v5 v6 v7) Finset.univ (View.stores_vmem_bits_univ h rfl) (.inl rfl))
  pure ⟨⟩

/-- `pay` adds the widened blocks. -/
def Adds (inb : ∀ k : Fin 8, ∀ a, (![k.val, 0, 0] : Fin 3 → ℕ) a + (S1 R C).size a ≤ (S8 R C).size a) (up : Elt F e → F .f32)
    (pay : Vec F (S1 R C) e → Vec F (S1 R C) e → Vec F (S1 R C) e → Vec F (S1 R C) e → Vec F (S1 R C) e → Vec F (S1 R C) e → Vec F (S1 R C) e → Vec F (S1 R C) e → Vec F (S R C) .f32) : Prop :=
  ∀ x : Vec F (S8 R C) e, pay (View.ld x (box inb 0)) (View.ld x (box inb 1)) (View.ld x (box inb 2)) (View.ld x (box inb 3))
    (View.ld x (box inb 4)) (View.ld x (box inb 5)) (View.ld x (box inb 6)) (View.ld x (box inb 7)) = total up x

local notation "𝕄" => MT nD τ sig Unit (Elt F) ℕ (UR sig nD τ × UR sig nD τ) ℕ

theorem zeros : (![0, 0] : Fin 2 → ℕ) = fun _ => 0 := by
  funext a
  match a with
  | 0 => rfl
  | 1 => rfl

set_option maxHeartbeats 1000000 in
/-- From the blocks `X` and a result's tile of any contents the body runs to the blocks `X` and their total. -/
theorem body_runs (inb) (inb') (h1) (h) (up : Elt F e → F .f32) (pay) (hpay : Adds (R := R) (C := C) inb up pay)
    (defs₀ : Defs nD τ sig (Elt F) Λ₀) (c : Dev nD) (E : Set ℕ) (x : Memref sig .tc .vmem (S8 R C) e) (o : Memref sig .tc .vmem (S R C) .f32)
    (X : Vec F (S8 R C) e) (K : PUnit → sProp 𝕄) :
    iprop(owns (c.tc : Thread nD τ) x fullShare X ∗ (∃ Y, owns (c.tc : Thread nD τ) o fullShare Y)
        ∗ (iprop(owns (c.tc : Thread nD τ) x fullShare X ∗ owns (c.tc : Thread nD τ) o fullShare (total up X)) -∗ K ⟨⟩))
      ⊢ wp frame (wpE defs₀ Variants.none c none) E (body inb inb' h1 h pay x o) K := by
  unfold body owns
  iintro ⟨⟨%f, %hf, Hx⟩, ⟨%Y, %g, -, Ho⟩, Hk⟩
  subst hf
  sl_exec
  sl_step
  iapply Hk
  isplitl [Hx]
  · iexists f; isplitr; · ipureintro; rfl
    iexact Hx
  iexists _; isplitr
  swap; · iexact Ho
  ipureintro
  refine (View.read_writes_eq_canon _ _ _ fun y => ⟨_, List.mem_singleton_self _, View.mem_set_unit_zero zeros inb' y⟩).trans ?_
  exact (View.canon_unit_zero zeros inb' _).trans (hpay _)

/-- The same beside what a step carries, the tiles found as the staging leaves them. -/
theorem step_runs (inb) (inb') (h1) (h) (up : Elt F e → F .f32) (pay) (hpay : Adds (R := R) (C := C) inb up pay)
    (defs₀ : Defs nD τ sig (Elt F) Λ₀) (c : Dev nD) (x : Memref sig .tc .vmem (S8 R C) e) (o : Memref sig .tc .vmem (S R C) .f32)
    (X : Vec F (S8 R C) e) {D D' : Type} (b : D → Vec F (S8 R C) e) (hb : ∀ d, b d = X) (b' : D' → Vec F (S R C) .f32) (P O : sProp 𝕄) :
    iprop(P ∗ O ∗ (∃ d, owns (c.tc : Thread nD τ) x fullShare (b d)) ∗ (∃ d, owns (c.tc : Thread nD τ) o fullShare (b' d)))
      ⊢ wp frame (wpE defs₀ Variants.none c none) Set.univ (body inb inb' h1 h pay x o) (fun _ =>
        iprop(P ∗ O ∗ owns (c.tc : Thread nD τ) x fullShare X ∗ owns (c.tc : Thread nD τ) o fullShare (total up X))) := by
  simp only [hb]
  iintro ⟨HP, HO, ⟨%d, Hx⟩, ⟨%d', Ho⟩⟩
  iapply (body_runs inb inb' h1 h up pay hpay defs₀ c Set.univ x o X _)
  isplitl [Hx]; · iexact Hx
  isplitl [Ho]; · iexists _; iexact Ho
  iintro ⟨Hx, Ho⟩
  isplitl [HP]; · iexact HP
  isplitl [HO]; · iexact HO
  isplitl [Hx] <;> iassumption

/-- A tile of the total is the total of the tiles, once the tiles lie at the same rows. -/
theorem total_tile {T : ℕ} (up : Elt F e → F .f32) (X : Vec F (S8 R C) e) (p : (S8 T C).Idx → (S8 R C).Idx) (y : (S T C).Idx) (y' : (S R C).Idx)
    (h : ∀ k : Fin 8, p (ix k y) = ix k y') : total up (fun z => X (p z) : Vec F (S8 T C) e) y = total up X y' :=
  congrArg sum8 (funext fun k => congrArg (fun i => up (X i)) (h k))

section Regrouped

variable {M : Type} [URA M]

theorem held_beside (p q r : sProp M) : iprop(p ∗ q ∗ r) ⊢ iprop((p ∗ q) ∗ r) := by
  iintro ⟨H0, H1, H2⟩
  isplitl [H0 H1]
  · isplitl [H0] <;> iassumption
  iexact H2

theorem into_sum (p q r o : sProp M) : iprop(((p ∗ q) ∗ r) ∗ o) ⊢ iprop((q ∗ r) ∗ BI.emp ∗ p ∗ o) := by
  iintro ⟨⟨⟨H0, H1⟩, H2⟩, HO⟩
  isplitl [H1 H2]
  · isplitl [H1] <;> iassumption
  isplitr
  · iempintro
  isplitl [H0] <;> iassumption

theorem out_of_sum (p q r o : sProp M) : iprop((q ∗ r) ∗ BI.emp ∗ p ∗ o) ⊢ iprop((p ∗ r) ∗ o) := by
  iintro ⟨⟨H1, H2⟩, -, H0, HO⟩
  isplitl [H0 H2]
  · isplitl [H0] <;> iassumption
  iexact HO

theorem nothing_in (p : sProp M) (h : p = BI.emp) : iprop(p ∗ BI.emp) ⊢ BI.emp := by
  subst h
  iintro ⟨H, -⟩
  iexact H

theorem nothing_out (p : sProp M) (h : p = BI.emp) : BI.emp ⊢ iprop(p ∗ BI.emp) := by
  subst h
  iintro H
  isplitl [H]
  · iexact H
  iempintro

end Regrouped

end Cert.SumRows

end
-- ==== Proof.CSum.lean ====
/-
  The call `sum_grads` of `Scatter`: tile by tile it leaves the total of the eight blocks it reads.
-/
module

public import proofs.«01_k».proof.Proof.SumRows
public import proofs.«01_k».proof.Proof.Talk
public import proofs.«01_k».proof.Proof.Gen.ScatterIdeal.Launch
public import proofs.«01_k».proof.Proof.Gen.ScatterIdeal.Skeleton
public import proofs.«01_k».proof.Proof.Gen.ScatterIdeal.Points
public import Idealize.ShloMosaic.Lib.Pipeline.ValueKit

@[expose] public section

noncomputable section

namespace Cert.ScatterIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.OneShot Cert.Rows Cert.SumRows
open Facts₀ Facts

set_option Elab.async false

variable {F : FTy → Type} [FloatOps F]

local notation "𝕄" => MT nD τ sig Unit (Elt F) ℕ (UU nD τ sig) ℕ

theorem boxes : ∀ k : Fin 8, ∀ a, (![k.val, 0, 0] : Fin 3 → ℕ) a + (Rows.S1 256 1024).size a ≤ (Rows.S8 256 1024).size a := by decide

/-- The numbers are widened before they are added. -/
abbrev up (v : Elt F .bf16) : F .f32 := FloatOps.extf .f32 bitsLt_bf16_f32 v

theorem adds : Adds (F := F) (R := 256) (C := 1024) (e := .bf16) boxes up Gen.k1_pay1 := fun x => funext fun y =>
  congrArg sum8 (funext fun k => congrArg up (cast_ld x k _ rfl (boxes k) shapeCasts_S1x256x1024_S256x1024 y))

/-- The printed body is the sum's. -/
theorem sum_body_eq (i : grid1.Coords) (x : Memref sig .tc .vmem S8x256x1024 .bf16) (hx : x.IsWhole) (o : Memref sig .tc .vmem S256x1024 .f32) (ho : o.IsWhole) :
    cc1_sum_grads (F := F) i x hx o ho
      = SumRows.body boxes inb_S256x1024_S256x1024_0_0 h_S1x256x1024 h_S256x1024 Gen.k1_pay1 x o := by
  rw [Gen.cc1_sum_grads_eq_skeleton]
  unfold Gen.cc1_sum_grads_skel
  rw [Gen.k1_part1_eq_skeleton]; rfl

section Data

variable (X : Vec F S8x9216x1024 .bf16) (Z : Vec F S9216x1024 .f32) (c : Dev nD)

/-- The tile of the blocks at a point. -/
def tile (t : Fin cfg1.N) : Vec F S8x256x1024 .bf16 := ((cfg1.win 0).blk t).view.read (Elt F) X

/-- The call's proof data, from blocks `X` and a result of contents `Z`. -/
def sumDat : Dat τ (Elt F) Unit ℕ (UU nD τ sig) ℕ cfg1 c where
  A w := match w with
    | ⟨0, _⟩ => X
    | ⟨1, _⟩ => Z
  after w t := match w with
    | ⟨0, _⟩ => tile X t
    | ⟨1, _⟩ => total up (tile X t)
  Φ _ := BI.emp
  q _ := fullShare
  owed _ := 0

theorem sumDat_in (t : Fin cfg1.N) (d) : (sumDat X Z c).before 0 t d = tile X t :=
  ((sumDat X Z c).before_in_eq_fetched 0 rfl (fun _ => rfl) (fun _ _ _ => rfl) (fun _ => rfl) t d).trans rfl

theorem sum_step (t : Fin cfg1.N) :
    (iprop((sumDat X Z c).Φ t.castSucc ∗ (sumDat X Z c).owesAt () t.castSucc
        ∗ (∃ d, owns (c : Thread nD τ) (Gen.st1_0 t) fullShare ((sumDat X Z c).before 0 t d))
        ∗ (∃ d, owns (c : Thread nD τ) (Gen.st1_1 t) fullShare ((sumDat X Z c).before 1 t d))) : sProp 𝕄)
      ⊢ wp frame (wpE (defs₀ (F := F)) Variants.none c none) Set.univ (Gen.bodyAt1 t) (fun _ =>
        iprop((sumDat X Z c).Φ t.succ ∗ (sumDat X Z c).owesAt () t.succ
          ∗ owns (c : Thread nD τ) (Gen.st1_0 t) fullShare (tile X t) ∗ owns (c : Thread nD τ) (Gen.st1_1 t) fullShare (total up (tile X t)))) := by
  unfold Gen.bodyAt1
  rw [sum_body_eq]
  exact step_runs boxes _ _ _ up _ adds (defs₀ (F := F)) c _ _ (tile X t) _ (sumDat_in X Z c t) _ _ _

theorem sum_obligation : BodyObligation (sumDat X Z c) (defs₀ (F := F)) Variants.none () Set.univ := fun t => by
  rw [Gen.bigSep_W1, Gen.bigSep_W1, show defs₀ (F := F) .tc cfg1.body (cfg1.bodyArgs t (cfg1.slots t)) = Gen.bodyAt1 t from by
    unfold defs₀; rw [Defs.onTc_tc]]
  exact triple_restated (sum_step X Z c t) rfl .rfl fun _ => .rfl

/-- What the call leaves: the blocks as they were, -/
theorem sum_kept : (sumDat X Z c).arrAt 0 cfg1.N = X := ((sumDat X Z c).arrAt_in 0 rfl _).trans rfl

theorem same_tile : ∀ t : Fin cfg1.N, win1_0.index t 0 = 0 ∧ win1_0.index t 1 = win1_1.index t 0 ∧ win1_0.index t 2 = 0 ∧ win1_1.index t 1 = 0 :=
  fun _ => ⟨rfl, rfl, rfl, rfl⟩

/-- and their total. -/
theorem sum_final : (sumDat X Z c).arrAt 1 cfg1.N = (total (R := 9216) (C := 1024) up X : Vec F S9216x1024 .f32) := by
  refine (sumDat X Z c).arrAt_eq_of_covers 1 _ (by decide +kernel) fun t _ y => ?_
  obtain ⟨h0, h1, h2, h3⟩ := same_tile t
  blk_simp
  refine total_tile up X ((cfg1.win 0).blk t).view.emb y (((cfg1.win 1).blk t).view.emb y) fun k => funext fun a => Fin.ext ?_
  match a with
  | ⟨0, _⟩ =>
    blk_simp
    show win1_0.index t 0 * 8 + k.val = k.val
    rw [h0]; omega
  | ⟨1, _⟩ =>
    blk_simp
    show win1_0.index t 1 * 256 + (y 0).val = (((win1_1.blk t).view.emb y) 0).val
    blk_simp
    rw [h1]
  | ⟨2, _⟩ =>
    blk_simp
    show win1_0.index t 2 * 1024 + (y 1).val = (((win1_1.blk t).view.emb y) 1).val
    blk_simp
    rw [h2, h3]

end Data

end Cert.ScatterIdeal

end
-- ==== Proof.CRun.lean ====
/-
  `Scatter` over any float operations: from any memory with zero counters every execution on the eight
  devices terminates, the argument unchanged, every device's result the total of its rows of
  the devices' arrays, and every counter at zero.
-/
module

public import proofs.«01_k».proof.Proof.Call
public import proofs.«01_k».proof.Proof.Gather
public import proofs.«01_k».proof.Proof.CPlan
public import proofs.«01_k».proof.Proof.CSum

@[expose] public section

noncomputable section

namespace Cert.ScatterIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.OneShot Cert.Rows Cert.SumRows

set_option Elab.async false

variable {F : FTy → Type} [FloatOps F]
variable (m : (ℓ : Loc nD τ sig) → Buf (Elt F) ℓ) (ρ : Dev nD → PrngReg)

local notation "𝕄" => MT nD τ sig Unit (Elt F) ℕ (UU nD τ sig) ℕ

/-- The arguments, and the results. -/
def X (c : Dev 8) : Buf (Elt F) (A.m.view.loc (c.tc : Thread 8 τ)) := m ((c.tc : Thread nD τ).loc main_arg0)
def G (c : Dev 8) : Buf (Elt F) (A.m'.view.loc (c.tc : Thread 8 τ)) :=
  (swapped (R := 9216) (C := 1024) (fun d => (m ((d.tc : Thread nD τ).loc main_arg0) : (Rows.S8 9216 1024).Idx → Elt F .bf16)) c : (Rows.S8 9216 1024).Idx → Elt F .bf16)
def g₀ (c : Dev 8) : Buf (Elt F) (A.m'.view.loc (c.tc : Thread 8 τ)) := m ((c.tc : Thread nD τ).loc main_v1)

theorem transposed : A.Transposed (X m) (G m) := by
  intro s d y y' h0 h0' h1 h2
  exact swapped_eq (R := 9216) (C := 1024) (fun d => (m ((d.tc : Thread nD τ).loc main_arg0) : (Rows.S8 9216 1024).Idx → Elt F .bf16)) s d y y' h0 h0' h1 h2

/-- The total of a device's rows of the devices' arrays. -/
def T (c : Dev 8) : Vec F (Rows.S 9216 1024) .f32 :=
  total up (swapped (R := 9216) (C := 1024) (fun d => (m ((d.tc : Thread nD τ).loc main_arg0) : (Rows.S8 9216 1024).Idx → Elt F .bf16)) c : Vec F (Rows.S8 9216 1024) .bf16)

/-- The exchange waits for nothing of its own: all the levels are one. -/
def flat (_ : GSem nD τ sig) (_ : Unit) : ℕ := 0

abbrev adm : (p : Fin 2) → (pcfgs (F := F) p).Adm := fun p => (cfgs p).toPCfg_adm
def pdats : (p : Fin 2) → (c : Dev nD) → Dat τ (Elt F) Unit ℕ (UU nD τ sig) ℕ (pin (pcfgs (F := F)) adm p) c
  | 0 => fun c => Cert.Talk.dat (A.ready (X m) (G m)) (A.done (X m) (G m)) A.owed cfg0 rfl c
  | 1 => fun c => sumDat (G m c) (m ((c.tc : Thread nD τ).loc main_v2)) c

theorem all_scoped : ∀ sm : SemLoc sig, sm.isScoped .tc = true := by decide

theorem bufs (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ (((c.tc : Thread nD τ).loc main_v1) ↦{fullShare} V main_v1)
        ∗ (((c.tc : Thread nD τ).loc main_v2) ↦{fullShare} V main_v2)) := by
  unfold unscopedBufs
  rw [BI.bigSep_eq_bigSepL_of_eq [main_arg0, main_v1, main_v2] (by decide) (by decide)]
  rfl

/-- What a device holds beside the exchange: the result, as launched. -/
def beside (c : Dev nD) : sProp 𝕄 := (((c.tc : Thread nD τ).loc main_v2) ↦{fullShare} m ((c.tc : Thread nD τ).loc main_v2))

theorem held_eq (g : (c : Dev 8) → Buf (Elt F) (A.m'.view.loc (c.tc : Thread 8 τ))) (c : Dev nD) :
    (A.held (X m) g c : sProp 𝕄) = iprop((((c.tc : Thread nD τ).loc main_arg0) ↦{fullShare} X m c) ∗ (((c.tc : Thread nD τ).loc main_v1) ↦{fullShare} g c)) :=
  A.held_whole (X m) (Memref.isWhole_whole _) (Memref.isWhole_whole _) g c

theorem dealt (c : Dev nD) : (unscopedBufs c (fun b => m ((c.tc : Thread nD τ).loc b)) : sProp 𝕄) ⊢ iprop(A.held (X m) (g₀ m) c ∗ beside m c) :=
  (Entails.of_eq (bufs c _)).trans ((held_beside _ _ _).trans (sep_mono (Entails.of_eq (held_eq m (g₀ m) c).symm) .rfl))

/-- The sum's arrays. -/
theorem sum_arrays (Y : Vec F S8x9216x1024 .bf16) (Z : Vec F S9216x1024 .f32) (c : Dev nD) (f : (w : Fin cfg1.W) → Buf (Elt F) ((cfg1.win w).arr.view.loc (c.tc : Thread nD τ))) :
    ((sumDat Y Z c).arrays f : sProp 𝕄) = iprop((((c.tc : Thread nD τ).loc main_v1) ↦{fullShare} f 0) ∗ (((c.tc : Thread nD τ).loc main_v2) ↦{fullShare} f 1)) := by
  unfold Dat.arrays
  rw [Gen.bigSep_W1, (Gen.arr_whole1 0).set_eq_univ, (Gen.arr_whole1 1).set_eq_univ, (sumDat Y Z c).share_full (fun _ => rfl) 0,
    (sumDat Y Z c).share_full (fun _ => rfl) 1]

/-- They are entered as the exchange leaves the blocks and the launch the result, -/
theorem sum_entry (Y : Vec F S8x9216x1024 .bf16) (Z : Vec F S9216x1024 .f32) (c : Dev nD) :
    ((sumDat Y Z c).arrays ((sumDat Y Z c).arrAt · 0) : sProp 𝕄) = iprop((((c.tc : Thread nD τ).loc main_v1) ↦{fullShare} Y) ∗ (((c.tc : Thread nD τ).loc main_v2) ↦{fullShare} Z)) :=
  (sum_arrays Y Z c _).trans rfl

/-- and left with the total in the result. -/
theorem sum_exit (Y : Vec F S8x9216x1024 .bf16) (Z : Vec F S9216x1024 .f32) (c : Dev nD) :
    ((sumDat Y Z c).arrays ((sumDat Y Z c).arrAt · cfg1.N) : sProp 𝕄)
      = iprop((((c.tc : Thread nD τ).loc main_v1) ↦{fullShare} Y) ∗ (((c.tc : Thread nD τ).loc main_v2) ↦{fullShare} (total (R := 9216) (C := 1024) up Y : Vec F S9216x1024 .f32))) := by
  rw [sum_arrays, sum_kept, sum_final]

/-- The levels the sum's staging may wait below. -/
theorem cut : LevelCut (pcfgs (F := F)) adm () Gather.leveled flat 1 (fun _ => (0 : CellTallies nD τ sig Unit)) (fun _ => 0) where
  hι c w s := by unfold Gather.leveled; rw [if_pos rfl]; exact Finset.mem_singleton_self _
  hιb c w s := le_refl 0
  hD c g i h := absurd h (lt_irrefl 0)

/-- The sum as a segment of the program. -/
def R1 : RegionSeg (pcfgs (F := F)) adm (pdats m) () defs₀ Variants.none Gather.leveled flat 1 :=
  RegionSeg.ofArrays (pcfgs (F := F)) adm (pdats m) () defs₀ Variants.none Gather.leveled flat 1 (fun _ => 0) (fun _ => BI.emp) (fun _ => BI.emp)
    Gen.launch1.toP.to₀ rfl (fun c => (sum_obligation (G m c) (m ((c.tc : Thread nD τ).loc main_v2)) c).loose) (fun _ _ => rfl) (fun _ => rfl)
    (fun c => nothing_in _ (Gen.scopedRest1_eq c)) (fun c => nothing_out _ (Gen.scopedRest1_eq c))
    (fun _ => 0) cut (fun c => (((c.tc : Thread nD τ).loc main_arg0) ↦{fullShare} X m c))

/-- What a device ends with. -/
def finished (c : Dev nD) : sProp 𝕄 :=
  iprop((((c.tc : Thread nD τ).loc main_arg0) ↦{fullShare} X m c) ∗ (((c.tc : Thread nD τ).loc main_v2) ↦{fullShare} T m c))

theorem entered (c : Dev nD) : (iprop((A.held (X m) (G m) c ∗ beside m c) ∗ ∃ W, owes (c.tc : Thread nD τ) (0 : CellTallies nD τ sig Unit) W) : sProp 𝕄) ⊢ (R1 m).pre c :=
  (sep_mono (sep_mono (Entails.of_eq (held_eq m (G m) c)) .rfl) .rfl).trans
    ((into_sum _ _ _ _).trans (sep_mono (Entails.of_eq (sum_entry (G m c) (m ((c.tc : Thread nD τ).loc main_v2)) c).symm) .rfl))

theorem left (c : Dev nD) : (R1 m).post c ⊢ (iprop(finished m c ∗ ∃ W, owes (c.tc : Thread nD τ) (0 : CellTallies nD τ sig Unit) W) : sProp 𝕄) :=
  (sep_mono (Entails.of_eq (sum_exit (G m c) (m ((c.tc : Thread nD τ).loc main_v2)) c)) .rfl).trans (out_of_sum _ _ _ _)

/-- The launch, the levels unused. -/
theorem dealt_ready : (iprop((bigSep Finset.univ fun c : Dev nD => Cert.Early.ownZero (own A.sem) c) ∗ BI.own (ER (elem (nD := nD) (τ := τ) A.sem))
    ∗ (bigSep Finset.univ fun c : Dev nD => launchCred A.owed c) ∗ (bigSep Finset.univ fun c => A.held (X m) (g₀ m) c) ∗ levAts Gather.leveled flat) : sProp 𝕄)
      ⊢ |={Set.univ}=> bigSep Finset.univ (A.ready (X m) (G m)) := by
  iintro ⟨Hz, He, Hc, Hh, -⟩
  iapply (A.launch (X m) (G m) (g₀ m))
  isplitl [Hz]; · iexact Hz
  isplitl [He]; · iexact He
  isplitl [Hc] <;> iassumption

/-- The exchange, run from what the launch deals. -/
theorem call_run (p : Prog (TpuEff nD τ sig (Elt F) Λ₀ .tc) PUnit) (hp : p = A.plan.body A.l) (c : Dev nD) (W : Waits sig Unit) :
    (iprop(A.ready (X m) (G m) c ∗ owes (c.tc : Thread nD τ) (A.owed c) W) : sProp 𝕄)
      ⊢ wp frame (wpE (defs₀ (F := F)) Variants.none (c.tc : Thread nD τ) none) Set.univ p
          (fun _ => iprop(A.done (X m) (G m) c ∗ ∃ W, owes (c.tc : Thread nD τ) (0 : CellTallies nD τ sig Unit) W)) := by
  subst hp
  exact A.run (X m) (G m) (transposed m) Variants.none c W

set_option backward.isDefEq.respectTransparency.types false in
/-- Every execution terminates with the argument as launched, the result the total of the devices' arrays, the counters zero. -/
theorem run_main : θ_run defs (onTc (τ := τ) (main (F := F))) ⟨m, fun _ => 0, ρ⟩
    (fun r => (∀ c : Dev nD, r.2.mem ((c.tc : Thread nD τ).loc main_arg0) = X m c ∧ r.2.mem ((c.tc : Thread nD τ).loc main_v2) = T m c)
      ∧ r.2.sem = fun _ => 0) :=
  Cert.Talk.run_talk (pcfgs (F := F)) adm (pdats m) Gen.cellOf_inj defs₀ Variants.none Gather.leveled flat m ρ main 0 [.region (R1 m)]
    (fun c Q => by rw [Gen.main_chain c]; exact .rfl)
    (by simp) (own A.sem) (fun sm _ => all_scoped sm) A.owed (fun g h => if_neg h) (elem A.sem)
    (A.held (X m) (g₀ m)) (A.held (X m) (G m)) (beside m) (A.ready (X m) (G m)) (A.done (X m) (G m))
    rfl rfl (show cfg0.N = 1 by decide) (fun _ => rfl) (dealt m)
    (dealt_ready m)
    (fun c _ W => call_run m _ body_eq c W)
    (fun c => .rfl)
    (finished m)
    ⟨entered m, left m⟩
    (fun c s => s.mem ((c.tc : Thread nD τ).loc main_arg0) = X m c ∧ s.mem ((c.tc : Thread nD τ).loc main_v2) = T m c)
    (fun c s' => by
      unfold finished
      iintro ⟨⟨Hx, Hy⟩, HSI⟩
      icombine HSI Hx gives %h
      icombine HSI Hy gives %h'
      imodintro
      isplitr
      · ipureintro
        exact ⟨Buf.eq_of_forall_mem_univ h, Buf.eq_of_forall_mem_univ h'⟩
      iexact HSI)
    (fun s h hs => ⟨h, sem_eq_zero_of_scoped all_scoped hs⟩)

end Cert.ScatterIdeal

end
-- ==== Proof.SumValue.lean ====
/-
  The sum of eight blocks over the reals: it is the host's sum over the leading axis.
-/
module

public import proofs.«01_k».proof.Proof.SumRows
public import Idealize.ShloMosaic.Lib.Pointwise
public import Idealize.ShloMosaic.Lib.IdealHost

@[expose] public section

noncomputable section

namespace Cert.SumRows

open Idealize.ShloMosaic
open Cert.Rows

set_option Elab.async false

variable {R C : ℕ}

theorem sum8_ideal (f : Fin 8 → EReal) : sum8 (F := Ideal) f = ∑ k : Fin 8, f k := by
  rw [Fin.sum_univ_eight]
  rfl

/-- The blocks' total is the host's sum, from zero, over the leading axis. -/
theorem total_eq_reduce (x : FVec Ideal (S8 R C) .f32) (h : (S8 R C).ReducesTo [0] (S R C)) (h0 : 0 < (⟨0, ![]⟩ : Shape).numel) :
    total (F := Ideal) (e := .f32) (fun v => v) x = Host.reduceAdd x (constant ⟨0, ![]⟩ .f32 0x00000000#32) h h0 := by
  funext y
  show sum8 (F := Ideal) (fun k => x (ix k y)) = Ideal.hostReduceAdd h x (Ideal.ofBits .f32 0x00000000#32) y
  rw [sum8_ideal, Ideal.hostReduceAdd_r3_a0, Ideal.ofBits_zero_f32, zero_add]
  refine Finset.sum_congr rfl fun k _ => congrArg x (funext fun a => ?_)
  match a with
  | ⟨0, _⟩ => rfl
  | ⟨1, _⟩ => rfl
  | ⟨2, _⟩ => rfl

end Cert.SumRows

end
-- ==== Proof.CValue.lean ====
/-
  The exchanged rows added, as plain mathematics: what a device adds is its block of the sum over the leading
  axis of the whole array cut into eight blocks of eight rows.
-/
module

public import proofs.«01_k».proof.Proof.KValue
public import proofs.«01_k».proof.Proof.SumValue

@[expose] public section

noncomputable section

namespace Cert.OneShot

open Idealize.ShloMosaic
open Cert.Rows Cert.SumRows

set_option Elab.async false

/-- The rows added, all devices' of them, one below the other and in blocks. -/
abbrev Z : Shape := ⟨2, ![73728, 1024]⟩
abbrev Z8 : Shape := ⟨3, ![8, 9216, 1024]⟩

theorem added_block (V : FVec Ideal W .bf16) (h : W.ShapeCasts W8) (hb : FTy.bits .bf16 < FTy.bits .f32) (hr : W8.ReducesTo [0] Z8)
    (h0 : 0 < (⟨0, ![]⟩ : Shape).numel) (h' : Z8.ShapeCasts Z) (c : Dev 8) (hT : Layout.Tiles (S8 9216 1024) W 0 8) (hZ : Layout.Tiles (S 9216 1024) Z 0 8) :
    Layout.block (S 9216 1024) Z 0 8 c
        (shapeCast Z (Host.reduceAdd (extf .f32 (shapeCast W8 V h) hb) (constant ⟨0, ![]⟩ .f32 0x00000000#32) hr h0) h') hZ
      = total (F := Ideal) (e := .bf16) (fun v => FloatOps.extf .f32 hb v) (swapped (fun d => Layout.block (S8 9216 1024) W 0 8 d V hT) c) := by
  funext y
  have e0 : (hZ.idx c y 0).val = c.val * 9216 + (y 0).val := rfl
  have e1 : (hZ.idx c y 1).val = (y 1).val := rfl
  show shapeCast Z (Host.reduceAdd (extf .f32 (shapeCast W8 V h) hb) (constant ⟨0, ![]⟩ .f32 0x00000000#32) hr h0) h' (hZ.idx c y)
    = sum8 (F := Ideal) fun k => V (hT.idx k (Function.update (ix k y) 0 c))
  rw [sum8_ideal, shapeCast_apply _ h' _ (ix3 c (y 0) (y 1)) (by
      rw [Shape.rowMajor_val_three, Shape.rowMajor_val_two, e0, e1]
      rfl)]
  show Ideal.hostReduceAdd hr (shapeCast W8 V h) (Ideal.ofBits .f32 0x00000000#32) (ix3 c (y 0) (y 1)) = _
  rw [Ideal.hostReduceAdd_r4_a0, Ideal.ofBits_zero_f32, zero_add]
  refine Finset.sum_congr rfl fun k _ => shapeCast_apply _ h _ (hT.idx k (Function.update (ix k y) 0 c)) ?_
  have f0 : (hT.idx k (Function.update (ix k y) 0 c) 0).val = k.val * 8 + c.val := rfl
  have f1 : (hT.idx k (Function.update (ix k y) 0 c) 1).val = (y 0).val := rfl
  have f2 : (hT.idx k (Function.update (ix k y) 0 c) 2).val = (y 1).val := rfl
  rw [Shape.rowMajor_val_four, Shape.rowMajor_val_three, f0, f1, f2]
  rfl

end Cert.OneShot

end
-- ==== Proof.CClaims.lean ====
/-
  The claims about `Scatter`: the frames of the kernel over bits and over the reals and of its reference, and
  that the kernel's results are their blocks of the reference's.
-/
module

public import proofs.«01_k».proof.Defs
public import proofs.«01_k».proof.Proof.CRun
public import proofs.«01_k».proof.Proof.CValue
public import proofs.«01_k».proof.Proof.Gen.Scatter
public import proofs.«01_k».proof.Proof.Gen.ScatterRefIdeal.Run

@[expose] public section

noncomputable section

namespace Cert.CClaims

open Idealize.ShloMosaic Idealize.ShloMosaic.TcCoe Idealize.SL.Sem
open Cert.OneShot Cert.Rows Cert.SumRows

set_option Elab.async false

theorem frame_ideal : Cert.quiescent_ScatterIdeal := fun m ρ _ =>
  (θ_run Cert.ScatterIdeal.defs _ _).mono (fun _ h => ⟨fun c => (h.1 c).1, h.2⟩) (Cert.ScatterIdeal.run_main (F := Ideal) m ρ)

/-- `Scatter` and `ScatterIdeal` are one text: the bodies of their two calls are the same. -/
theorem defs₀_eq : Cert.Scatter.defs₀ (F := Bits) = Cert.ScatterIdeal.defs₀ := by
  unfold Cert.Scatter.defs₀ Cert.ScatterIdeal.defs₀
  refine congrArg Defs.onTc (funext fun x => funext fun y => ?_)
  match x, y with
  | 0, (t, s) => rfl
  | 1, (t, s) => rfl

theorem defs_eq : Cert.Scatter.defs (F := Bits) = Cert.ScatterIdeal.defs := congrArg (Pipeline.defs _) defs₀_eq

/-- So the run over any floats is the run of both. -/
theorem frame_kernel : Cert.quiescent_Scatter := fun m ρ _ => by
  rw [defs_eq]
  exact (θ_run Cert.ScatterIdeal.defs _ _).mono (fun _ h => ⟨fun c => (h.1 c).1, h.2⟩) (Cert.ScatterIdeal.run_main (F := Bits) m ρ)

theorem frame_reference : Cert.quiescent_ScatterRefIdeal := fun m ρ _ =>
  (θ_run Cert.ScatterRefIdeal.defs _ _).mono (fun r h => ⟨fun c => (h c).2, sem_eq_zero_of_no_sems rfl r.2⟩)
    (Cert.ScatterRefIdeal.Value.run (F := Ideal) m ρ)

theorem preserves : Cert.preserves_Scatter_ScatterIdeal := trivial

theorem algebraic : Cert.algebraic_ScatterIdeal_ScatterRefIdeal := fun m ρ m' ρ' _ hm => by
  refine ⟨_, (θ_run Cert.ScatterIdeal.defs _ _).mono (fun r h c => ⟨(h.1 c).2.trans ?_, (h.1 c).1⟩) (Cert.ScatterIdeal.run_main (F := Ideal) m ρ),
    (θ_run Cert.ScatterRefIdeal.defs _ _).mono (fun r h => h 0) (Cert.ScatterRefIdeal.Value.run (F := Ideal) m' ρ')⟩
  refine Eq.trans ?_ (added_block _ _ _ _ _ _ c (by decide) (by decide)).symm
  exact congrArg (fun f => total (F := Ideal) (e := .bf16) Cert.ScatterIdeal.up (swapped (R := 9216) (C := 1024) f c)) (funext hm)

end Cert.CClaims

end
-- ==== Proof.GPlan.lean ====
/-
  The call `gather_small_grads` of `SmallGrads` as a gather: the printed body is the plan's.
-/
module

public import proofs.«01_k».proof.Proof.Hops
public import proofs.«01_k».proof.Proof.Gen.SmallGradsIdeal.Launch

@[expose] public section

noncomputable section

namespace Cert.SmallGradsIdeal

open Idealize.ShloMosaic Idealize.ShloMosaic.TcCoe
open Idealize.SL Idealize.SL.Sem
open Cert.OneShot Cert.Rows
open Facts₀ Facts

set_option Elab.async false

/-- The call's fifteen cells. -/
def cells : Fin 15 ↪ DmaSem sig := ⟨fun i => ⟨i.val, lt_of_lt_of_le i.isLt (by decide)⟩, fun i j h => Fin.ext (Fin.mk.inj_iff.1 h)⟩

/-- The call as a gather. -/
def A : Gather τ sig :=
  Cert.Hops.gather 2472 128 .f32 squeezes_S1x2472x128_S2472x128 (Memref.whole main_arg0) (Memref.whole main_v1) cells
    (Memref.isWhole_whole _).wordExact
    (fun _ => (View.wordExact_bits rfl).reshape _ _) (fun _ _ => (View.wordExact_bits rfl).reshape _ _)
    rfl (fun _ _ => ⟨Or.inl rfl, trivial⟩) (fun _ _ _ _ _ => ⟨⟨rfl, Or.inl rfl⟩, trivial⟩) (View.dmaCredit_pos _ (by decide)) rfl

variable {F : FTy → Type} [FloatOps F]

set_option maxRecDepth 65536 in
/-- The printed body is the plan's. -/
theorem body_eq : (cc0_gather_small_grads (F := F) (Memref.whole main_arg0) (Memref.isWhole_whole _) (Memref.whole main_v1) (Memref.isWhole_whole _) cc0_scratch0 cc0_scratch1 cc0_scratch2)
    = A.body := rfl

end Cert.SmallGradsIdeal

end
-- ==== Proof.GSum.lean ====
/-
  The call `sum_small_grads` of `SmallGrads`: tile by tile it leaves the total of the eight blocks it reads.
-/
module

public import proofs.«01_k».proof.Proof.SumRows
public import proofs.«01_k».proof.Proof.Talk
public import proofs.«01_k».proof.Proof.Gen.SmallGradsIdeal.Launch
public import proofs.«01_k».proof.Proof.Gen.SmallGradsIdeal.Skeleton
public import proofs.«01_k».proof.Proof.Gen.SmallGradsIdeal.Points
public import Idealize.ShloMosaic.Lib.Pipeline.ValueKit

@[expose] public section

noncomputable section

namespace Cert.SmallGradsIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.OneShot Cert.Rows Cert.SumRows
open Facts₀ Facts

set_option Elab.async false

variable {F : FTy → Type} [FloatOps F]

local notation "𝕄" => MT nD τ sig Unit (Elt F) ℕ (UU nD τ sig) ℕ

theorem boxes : ∀ k : Fin 8, ∀ a, (![k.val, 0, 0] : Fin 3 → ℕ) a + (Rows.S1 24 128).size a ≤ (Rows.S8 24 128).size a := by decide

/-- The numbers are added as they are. -/
abbrev up (v : Elt F .f32) : F .f32 := v

theorem adds : Adds (F := F) (R := 24) (C := 128) (e := .f32) boxes up Gen.k1_pay1 := fun x => funext fun y =>
  congrArg sum8 (funext fun k => cast_ld x k _ rfl (boxes k) shapeCasts_S1x24x128_S24x128 y)

/-- The printed body is the sum's. -/
theorem sum_body_eq (i : grid1.Coords) (x : Memref sig .tc .vmem S8x24x128 .f32) (hx : x.IsWhole) (o : Memref sig .tc .vmem S24x128 .f32) (ho : o.IsWhole) :
    cc1_sum_small_grads (F := F) i x hx o ho
      = SumRows.body boxes inb_S24x128_S24x128_0_0 h_S1x24x128 h_S24x128 Gen.k1_pay1 x o := by
  rw [Gen.cc1_sum_small_grads_eq_skeleton]; rfl

section Data

variable (X : Vec F S8x2472x128 .f32) (Z : Vec F S2472x128 .f32) (c : Dev nD)

/-- The tile of the blocks at a point. -/
def tile (t : Fin cfg1.N) : Vec F S8x24x128 .f32 := ((cfg1.win 0).blk t).view.read (Elt F) X

/-- The call's proof data, from blocks `X` and a result of contents `Z`. -/
def sumDat : Dat τ (Elt F) Unit ℕ (UU nD τ sig) ℕ cfg1 c where
  A w := match w with
    | ⟨0, _⟩ => X
    | ⟨1, _⟩ => Z
  after w t := match w with
    | ⟨0, _⟩ => tile X t
    | ⟨1, _⟩ => total up (tile X t)
  Φ _ := BI.emp
  q _ := fullShare
  owed _ := 0

theorem sumDat_in (t : Fin cfg1.N) (d) : (sumDat X Z c).before 0 t d = tile X t :=
  ((sumDat X Z c).before_in_eq_fetched 0 rfl (fun _ => rfl) (fun _ _ _ => rfl) (fun _ => rfl) t d).trans rfl

theorem sum_step (t : Fin cfg1.N) :
    (iprop((sumDat X Z c).Φ t.castSucc ∗ (sumDat X Z c).owesAt () t.castSucc
        ∗ (∃ d, owns (c : Thread nD τ) (Gen.st1_0 t) fullShare ((sumDat X Z c).before 0 t d))
        ∗ (∃ d, owns (c : Thread nD τ) (Gen.st1_1 t) fullShare ((sumDat X Z c).before 1 t d))) : sProp 𝕄)
      ⊢ wp frame (wpE (defs₀ (F := F)) Variants.none c none) Set.univ (Gen.bodyAt1 t) (fun _ =>
        iprop((sumDat X Z c).Φ t.succ ∗ (sumDat X Z c).owesAt () t.succ
          ∗ owns (c : Thread nD τ) (Gen.st1_0 t) fullShare (tile X t) ∗ owns (c : Thread nD τ) (Gen.st1_1 t) fullShare (total up (tile X t)))) := by
  unfold Gen.bodyAt1
  rw [sum_body_eq]
  exact step_runs boxes _ _ _ up _ adds (defs₀ (F := F)) c _ _ (tile X t) _ (sumDat_in X Z c t) _ _ _

theorem sum_obligation : BodyObligation (sumDat X Z c) (defs₀ (F := F)) Variants.none () Set.univ := fun t => by
  rw [Gen.bigSep_W1, Gen.bigSep_W1, show defs₀ (F := F) .tc cfg1.body (cfg1.bodyArgs t (cfg1.slots t)) = Gen.bodyAt1 t from by
    unfold defs₀; rw [Defs.onTc_tc]]
  exact triple_restated (sum_step X Z c t) rfl .rfl fun _ => .rfl

/-- What the call leaves: the blocks as they were, -/
theorem sum_kept : (sumDat X Z c).arrAt 0 cfg1.N = X := ((sumDat X Z c).arrAt_in 0 rfl _).trans rfl

theorem same_tile : ∀ t : Fin cfg1.N, win1_0.index t 0 = 0 ∧ win1_0.index t 1 = win1_1.index t 0 ∧ win1_0.index t 2 = 0 ∧ win1_1.index t 1 = 0 :=
  fun _ => ⟨rfl, rfl, rfl, rfl⟩

/-- and their total. -/
theorem sum_final : (sumDat X Z c).arrAt 1 cfg1.N = (total (R := 2472) (C := 128) up X : Vec F S2472x128 .f32) := by
  refine (sumDat X Z c).arrAt_eq_of_covers 1 _ (by decide +kernel) fun t _ y => ?_
  obtain ⟨h0, h1, h2, h3⟩ := same_tile t
  blk_simp
  refine total_tile up X ((cfg1.win 0).blk t).view.emb y (((cfg1.win 1).blk t).view.emb y) fun k => funext fun a => Fin.ext ?_
  match a with
  | ⟨0, _⟩ =>
    blk_simp
    show win1_0.index t 0 * 8 + k.val = k.val
    rw [h0]; omega
  | ⟨1, _⟩ =>
    blk_simp
    show win1_0.index t 1 * 24 + (y 0).val = (((win1_1.blk t).view.emb y) 0).val
    blk_simp
    rw [h1]
  | ⟨2, _⟩ =>
    blk_simp
    show win1_0.index t 2 * 128 + (y 1).val = (((win1_1.blk t).view.emb y) 1).val
    blk_simp
    rw [h2, h3]

end Data

end Cert.SmallGradsIdeal

end
-- ==== Proof.GRun.lean ====
/-
  `SmallGrads` over any float operations: from any memory with zero counters every execution on the eight
  devices terminates, the argument unchanged, every device's result the total of the devices' arrays, and every counter at zero.
-/
module

public import proofs.«01_k».proof.Proof.GatherAlone
public import proofs.«01_k».proof.Proof.GPlan
public import proofs.«01_k».proof.Proof.GSum

@[expose] public section

noncomputable section

namespace Cert.SmallGradsIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline
open Cert.OneShot Cert.Rows Cert.SumRows

set_option Elab.async false

variable {F : FTy → Type} [FloatOps F]
variable (m : (ℓ : Loc nD τ sig) → Buf (Elt F) ℓ) (ρ : Dev nD → PrngReg)

local notation "𝕄" => MT nD τ sig Unit (Elt F) ℕ (UU nD τ sig) ℕ

/-- The arguments, and the results. -/
def X (c : Dev 8) : Buf (Elt F) (A.x.view.loc (c.tc : Thread 8 τ)) := m ((c.tc : Thread nD τ).loc main_arg0)
def G (c : Dev 8) : Buf (Elt F) (A.o.view.loc (c.tc : Thread 8 τ)) :=
  (stacked (R := 2472) (C := 128) (fun d => (m ((d.tc : Thread nD τ).loc main_arg0) : (Rows.S 2472 128).Idx → Elt F .f32)) : (Rows.S8 2472 128).Idx → Elt F .f32)
def g₀ (c : Dev 8) : Buf (Elt F) (A.o.view.loc (c.tc : Thread 8 τ)) := m ((c.tc : Thread nD τ).loc main_v1)

theorem gathered : A.Gathered (X m) (G m) := by
  intro s d y z h0 h1 h2
  exact stacked_eq (R := 2472) (C := 128) (fun d => (m ((d.tc : Thread nD τ).loc main_arg0) : (Rows.S 2472 128).Idx → Elt F .f32)) s y z h0 h1 h2

/-- The total of the devices' arrays. -/
def T : Vec F (Rows.S 2472 128) .f32 :=
  total up (stacked (R := 2472) (C := 128) (fun d => (m ((d.tc : Thread nD τ).loc main_arg0) : (Rows.S 2472 128).Idx → Elt F .f32)) : Vec F (Rows.S8 2472 128) .f32)

abbrev adm : (p : Fin 2) → (pcfgs (F := F) p).Adm := fun p => (cfgs p).toPCfg_adm
def pdats : (p : Fin 2) → (c : Dev nD) → Dat τ (Elt F) Unit ℕ (UU nD τ sig) ℕ (pin (pcfgs (F := F)) adm p) c
  | 0 => fun c => Cert.Talk.dat (A.ready (X m) (G m)) (A.done (X m) (G m)) A.owed cfg0 rfl c
  | 1 => fun c => sumDat (G m c) (m ((c.tc : Thread nD τ).loc main_v2)) c

theorem all_scoped : ∀ sm : SemLoc sig, sm.isScoped .tc = true := by decide

theorem bufs (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ (((c.tc : Thread nD τ).loc main_v1) ↦{fullShare} V main_v1)
        ∗ (((c.tc : Thread nD τ).loc main_v2) ↦{fullShare} V main_v2)) := by
  unfold unscopedBufs
  rw [BI.bigSep_eq_bigSepL_of_eq [main_arg0, main_v1, main_v2] (by decide) (by decide)]
  rfl

/-- What a device holds beside the exchange: the result, as launched. -/
def beside (c : Dev nD) : sProp 𝕄 := (((c.tc : Thread nD τ).loc main_v2) ↦{fullShare} m ((c.tc : Thread nD τ).loc main_v2))

theorem held_eq (g : (c : Dev 8) → Buf (Elt F) (A.o.view.loc (c.tc : Thread 8 τ))) (c : Dev nD) :
    (A.held (X m) g c : sProp 𝕄) = iprop((((c.tc : Thread nD τ).loc main_arg0) ↦{fullShare} X m c) ∗ (((c.tc : Thread nD τ).loc main_v1) ↦{fullShare} g c)) :=
  A.held_whole (X m) (Memref.isWhole_whole _) (Memref.isWhole_whole _) g c

theorem dealt (c : Dev nD) : (unscopedBufs c (fun b => m ((c.tc : Thread nD τ).loc b)) : sProp 𝕄) ⊢ iprop(A.held (X m) (g₀ m) c ∗ beside m c) :=
  (Entails.of_eq (bufs c _)).trans ((held_beside _ _ _).trans (sep_mono (Entails.of_eq (held_eq m (g₀ m) c).symm) .rfl))

/-- The sum's arrays. -/
theorem sum_arrays (Y : Vec F S8x2472x128 .f32) (Z : Vec F S2472x128 .f32) (c : Dev nD) (f : (w : Fin cfg1.W) → Buf (Elt F) ((cfg1.win w).arr.view.loc (c.tc : Thread nD τ))) :
    ((sumDat Y Z c).arrays f : sProp 𝕄) = iprop((((c.tc : Thread nD τ).loc main_v1) ↦{fullShare} f 0) ∗ (((c.tc : Thread nD τ).loc main_v2) ↦{fullShare} f 1)) := by
  unfold Dat.arrays
  rw [Gen.bigSep_W1, (Gen.arr_whole1 0).set_eq_univ, (Gen.arr_whole1 1).set_eq_univ, (sumDat Y Z c).share_full (fun _ => rfl) 0,
    (sumDat Y Z c).share_full (fun _ => rfl) 1]

/-- They are entered as the exchange leaves the blocks and the launch the result, -/
theorem sum_entry (Y : Vec F S8x2472x128 .f32) (Z : Vec F S2472x128 .f32) (c : Dev nD) :
    ((sumDat Y Z c).arrays ((sumDat Y Z c).arrAt · 0) : sProp 𝕄) = iprop((((c.tc : Thread nD τ).loc main_v1) ↦{fullShare} Y) ∗ (((c.tc : Thread nD τ).loc main_v2) ↦{fullShare} Z)) :=
  (sum_arrays Y Z c _).trans rfl

/-- and left with the total in the result. -/
theorem sum_exit (Y : Vec F S8x2472x128 .f32) (Z : Vec F S2472x128 .f32) (c : Dev nD) :
    ((sumDat Y Z c).arrays ((sumDat Y Z c).arrAt · cfg1.N) : sProp 𝕄)
      = iprop((((c.tc : Thread nD τ).loc main_v1) ↦{fullShare} Y) ∗ (((c.tc : Thread nD τ).loc main_v2) ↦{fullShare} (total (R := 2472) (C := 128) up Y : Vec F S2472x128 .f32))) := by
  rw [sum_arrays, sum_kept, sum_final]

/-- The levels the sum's staging may wait below. -/
theorem cut : LevelCut (pcfgs (F := F)) adm () Gather.leveled A.level 1 (fun _ => (0 : CellTallies nD τ sig Unit)) (fun _ => 1) where
  hι c w s := by unfold Gather.leveled; rw [if_pos rfl]; exact Finset.mem_singleton_self _
  hιb c w s := by unfold Gather.level; split <;> decide
  hD c g i h := absurd h (lt_irrefl 0)

/-- The sum as a segment of the program. -/
def R1 : RegionSeg (pcfgs (F := F)) adm (pdats m) () defs₀ Variants.none Gather.leveled A.level 1 :=
  RegionSeg.ofArrays (pcfgs (F := F)) adm (pdats m) () defs₀ Variants.none Gather.leveled A.level 1 (fun _ => 0) (fun _ => BI.emp) (fun _ => BI.emp)
    Gen.launch1.toP.to₀ rfl (fun c => (sum_obligation (G m c) (m ((c.tc : Thread nD τ).loc main_v2)) c).loose) (fun _ _ => rfl) (fun _ => rfl)
    (fun c => nothing_in _ (Gen.scopedRest1_eq c)) (fun c => nothing_out _ (Gen.scopedRest1_eq c))
    (fun _ => 1) cut (fun c => (((c.tc : Thread nD τ).loc main_arg0) ↦{fullShare} X m c))

/-- What a device ends with. -/
def finished (c : Dev nD) : sProp 𝕄 :=
  iprop((((c.tc : Thread nD τ).loc main_arg0) ↦{fullShare} X m c) ∗ (((c.tc : Thread nD τ).loc main_v2) ↦{fullShare} T m))

theorem entered (c : Dev nD) : (iprop((A.held (X m) (G m) c ∗ beside m c) ∗ ∃ W, owes (c.tc : Thread nD τ) (0 : CellTallies nD τ sig Unit) W) : sProp 𝕄) ⊢ (R1 m).pre c :=
  (sep_mono (sep_mono (Entails.of_eq (held_eq m (G m) c)) .rfl) .rfl).trans
    ((into_sum _ _ _ _).trans (sep_mono (Entails.of_eq (sum_entry (G m c) (m ((c.tc : Thread nD τ).loc main_v2)) c).symm) .rfl))

theorem left (c : Dev nD) : (R1 m).post c ⊢ (iprop(finished m c ∗ ∃ W, owes (c.tc : Thread nD τ) (0 : CellTallies nD τ sig Unit) W) : sProp 𝕄) :=
  (sep_mono (Entails.of_eq (sum_exit (G m c) (m ((c.tc : Thread nD τ).loc main_v2)) c)) .rfl).trans (out_of_sum _ _ _ _)

set_option backward.isDefEq.respectTransparency.types false in
/-- Every execution terminates with the argument as launched, the result the total of the devices' arrays, the counters zero. -/
theorem run_main : θ_run defs (onTc (τ := τ) (main (F := F))) ⟨m, fun _ => 0, ρ⟩
    (fun r => (∀ c : Dev nD, r.2.mem ((c.tc : Thread nD τ).loc main_arg0) = X m c ∧ r.2.mem ((c.tc : Thread nD τ).loc main_v2) = T m)
      ∧ r.2.sem = fun _ => 0) :=
  Cert.Talk.run_talk (pcfgs (F := F)) adm (pdats m) Gen.cellOf_inj defs₀ Variants.none Gather.leveled A.level m ρ main 0 [.region (R1 m)]
    (fun c Q => by rw [Gen.main_chain c]; exact .rfl)
    (by simp) (own A.sem) (fun sm _ => all_scoped sm) A.owed (fun g h => if_neg h) (elem A.sem)
    (A.held (X m) (g₀ m)) (A.held (X m) (G m)) (beside m) (A.ready (X m) (G m)) (A.done (X m) (G m))
    rfl rfl (show cfg0.N = 1 by decide) (fun _ => rfl) (dealt m)
    (A.launch (X m) (G m) (g₀ m))
    (fun c _ W => A.call_run (X m) (G m) defs₀ (gathered m) _ body_eq c W)
    (fun c => .rfl)
    (finished m)
    ⟨entered m, left m⟩
    (fun c s => s.mem ((c.tc : Thread nD τ).loc main_arg0) = X m c ∧ s.mem ((c.tc : Thread nD τ).loc main_v2) = T m)
    (fun c s' => by
      unfold finished
      iintro ⟨⟨Hx, Hy⟩, HSI⟩
      icombine HSI Hx gives %h
      icombine HSI Hy gives %h'
      imodintro
      isplitr
      · ipureintro
        exact ⟨Buf.eq_of_forall_mem_univ h, Buf.eq_of_forall_mem_univ h'⟩
      iexact HSI)
    (fun s h hs => ⟨h, sem_eq_zero_of_scoped all_scoped hs⟩)

end Cert.SmallGradsIdeal

end
-- ==== Proof.GClaims.lean ====
/-
  The claims about `SmallGrads`: the frames of the kernel over bits and over the reals and of its reference, and
  that every device's result is the reference's.
-/
module

public import proofs.«01_k».proof.Defs
public import proofs.«01_k».proof.Proof.GRun
public import proofs.«01_k».proof.Proof.GatherValue
public import proofs.«01_k».proof.Proof.SumValue
public import proofs.«01_k».proof.Proof.Gen.SmallGrads
public import proofs.«01_k».proof.Proof.Gen.SmallGradsRefIdeal.Run

@[expose] public section

noncomputable section

namespace Cert.GClaims

open Idealize.ShloMosaic Idealize.ShloMosaic.TcCoe Idealize.SL.Sem
open Cert.OneShot Cert.Rows Cert.SumRows

set_option Elab.async false

theorem frame_ideal : Cert.quiescent_SmallGradsIdeal := fun m ρ _ =>
  (θ_run Cert.SmallGradsIdeal.defs _ _).mono (fun _ h => ⟨fun c => (h.1 c).1, h.2⟩) (Cert.SmallGradsIdeal.run_main (F := Ideal) m ρ)

/-- `SmallGrads` and `SmallGradsIdeal` are one text: the bodies of their two calls are the same. -/
theorem defs₀_eq : Cert.SmallGrads.defs₀ (F := Bits) = Cert.SmallGradsIdeal.defs₀ := by
  unfold Cert.SmallGrads.defs₀ Cert.SmallGradsIdeal.defs₀
  refine congrArg Defs.onTc (funext fun x => funext fun y => ?_)
  match x, y with
  | 0, (t, s) => rfl
  | 1, (t, s) => rfl

theorem defs_eq : Cert.SmallGrads.defs (F := Bits) = Cert.SmallGradsIdeal.defs := congrArg (Pipeline.defs _) defs₀_eq

/-- So the run over any floats is the run of both. -/
theorem frame_kernel : Cert.quiescent_SmallGrads := fun m ρ _ => by
  rw [defs_eq]
  exact (θ_run Cert.SmallGradsIdeal.defs _ _).mono (fun _ h => ⟨fun c => (h.1 c).1, h.2⟩) (Cert.SmallGradsIdeal.run_main (F := Bits) m ρ)

theorem frame_reference : Cert.quiescent_SmallGradsRefIdeal := fun m ρ _ =>
  (θ_run Cert.SmallGradsRefIdeal.defs _ _).mono (fun r h => ⟨fun c => (h c).2, sem_eq_zero_of_no_sems rfl r.2⟩)
    (Cert.SmallGradsRefIdeal.Value.run (F := Ideal) m ρ)

theorem preserves : Cert.preserves_SmallGrads_SmallGradsIdeal := trivial

theorem algebraic : Cert.algebraic_SmallGradsIdeal_SmallGradsRefIdeal := fun m ρ m' ρ' _ hm => by
  refine ⟨_, (θ_run Cert.SmallGradsIdeal.defs _ _).mono (fun r h c => ⟨(h.1 c).2.trans ?_, (h.1 c).1⟩) (Cert.SmallGradsIdeal.run_main (F := Ideal) m ρ),
    (θ_run Cert.SmallGradsRefIdeal.defs _ _).mono (fun r h => h 0) (Cert.SmallGradsRefIdeal.Value.run (F := Ideal) m' ρ')⟩
  refine Eq.trans ?_ (total_eq_reduce (R := 2472) (C := 128) _ _ _)
  exact congrArg (total (F := Ideal) (e := .f32) (R := 2472) (C := 128) fun v => v)
    ((congrArg (stacked (R := 2472) (C := 128)) (funext hm)).trans (stacked_blocks _ _ (by decide)))

end Cert.GClaims

end
-- ==== Proof.Updates.lean ====
/-
  The claims about the optimiser's update, at the fourteen shapes of the weights: the results of the kernel's
  blocks are the reference's elementwise expressions of the whole arrays.
-/
module

public import proofs.«01_k».proof.Defs
public import proofs.«01_k».proof.Proof.Gen.UpdateInIdeal.Value
public import proofs.«01_k».proof.Proof.Gen.UpdateIn.Frame
public import proofs.«01_k».proof.Proof.Gen.UpdateInRefIdeal.Run
public import proofs.«01_k».proof.Proof.Gen.UpdateBranchIdeal.Value
public import proofs.«01_k».proof.Proof.Gen.UpdateBranch.Frame
public import proofs.«01_k».proof.Proof.Gen.UpdateBranchRefIdeal.Run
public import proofs.«01_k».proof.Proof.Gen.UpdateMergeGateIdeal.Value
public import proofs.«01_k».proof.Proof.Gen.UpdateMergeGate.Frame
public import proofs.«01_k».proof.Proof.Gen.UpdateMergeGateRefIdeal.Run
public import proofs.«01_k».proof.Proof.Gen.UpdateOutIdeal.Value
public import proofs.«01_k».proof.Proof.Gen.UpdateOut.Frame
public import proofs.«01_k».proof.Proof.Gen.UpdateOutRefIdeal.Run
public import proofs.«01_k».proof.Proof.Gen.UpdateFfnInIdeal.Value
public import proofs.«01_k».proof.Proof.Gen.UpdateFfnIn.Frame
public import proofs.«01_k».proof.Proof.Gen.UpdateFfnInRefIdeal.Run
public import proofs.«01_k».proof.Proof.Gen.UpdateFfnOutIdeal.Value
public import proofs.«01_k».proof.Proof.Gen.UpdateFfnOut.Frame
public import proofs.«01_k».proof.Proof.Gen.UpdateFfnOutRefIdeal.Run
public import proofs.«01_k».proof.Proof.Gen.UpdateProjIdeal.Value
public import proofs.«01_k».proof.Proof.Gen.UpdateProj.Frame
public import proofs.«01_k».proof.Proof.Gen.UpdateProjRefIdeal.Run
public import proofs.«01_k».proof.Proof.Gen.UpdateSpatialIdeal.Value
public import proofs.«01_k».proof.Proof.Gen.UpdateSpatial.Frame
public import proofs.«01_k».proof.Proof.Gen.UpdateSpatialRefIdeal.Run
public import proofs.«01_k».proof.Proof.Gen.UpdateSpatialBiasIdeal.Value
public import proofs.«01_k».proof.Proof.Gen.UpdateSpatialBias.Frame
public import proofs.«01_k».proof.Proof.Gen.UpdateSpatialBiasRefIdeal.Run
public import proofs.«01_k».proof.Proof.Gen.UpdateConvAIdeal.Value
public import proofs.«01_k».proof.Proof.Gen.UpdateConvA.Frame
public import proofs.«01_k».proof.Proof.Gen.UpdateConvARefIdeal.Run
public import proofs.«01_k».proof.Proof.Gen.UpdateConvDIdeal.Value
public import proofs.«01_k».proof.Proof.Gen.UpdateConvD.Frame
public import proofs.«01_k».proof.Proof.Gen.UpdateConvDRefIdeal.Run
public import proofs.«01_k».proof.Proof.Gen.UpdateNormIdeal.Value
public import proofs.«01_k».proof.Proof.Gen.UpdateNorm.Frame
public import proofs.«01_k».proof.Proof.Gen.UpdateNormRefIdeal.Run
public import proofs.«01_k».proof.Proof.Gen.UpdateBranchNormIdeal.Value
public import proofs.«01_k».proof.Proof.Gen.UpdateBranchNorm.Frame
public import proofs.«01_k».proof.Proof.Gen.UpdateBranchNormRefIdeal.Run
public import proofs.«01_k».proof.Proof.Gen.UpdateFinalNormIdeal.Value
public import proofs.«01_k».proof.Proof.Gen.UpdateFinalNorm.Frame
public import proofs.«01_k».proof.Proof.Gen.UpdateFinalNormRefIdeal.Run

@[expose] public section

set_option Elab.async false

noncomputable section

namespace Cert.Updates

open Idealize.ShloMosaic Idealize.ShloMosaic.TcCoe Idealize.SL.Sem

/-- Three results told by arguments are told by arguments equal to these. -/
theorem told {A : Type} (d : A → A → A → A → A) (a b : A → A → A) {r₀ r₁ r₂ w g x y w' g' x' y' : A} {K : Prop}
    (h : r₀ = d g' x' y' w' ∧ r₁ = a g' x' ∧ r₂ = b g' y' ∧ K) (e : w' = w ∧ g' = g ∧ x' = x ∧ y' = y) :
    r₀ = d g x y w ∧ r₁ = a g x ∧ r₂ = b g y ∧ K := by
  obtain ⟨rfl, rfl, rfl, rfl⟩ := e
  exact h

/-! ### [4096, 320], `w_in` -/

theorem frame_UpdateInRefIdeal : Cert.quiescent_UpdateInRefIdeal := fun m ρ _ =>
  (θ_run _ _ _).mono (fun r h => ⟨fun c => (h c).2.2.2, sem_eq_zero_of_no_sems rfl r.2⟩) (Cert.UpdateInRefIdeal.Value.run (F := Ideal) m ρ)

theorem algebraic_UpdateIn : Cert.algebraic_UpdateInIdeal_UpdateInRefIdeal := fun m ρ m' ρ' _ hm =>
  ⟨_, _, _, Cert.UpdateInIdeal.Value.run (F := Ideal) m ρ, (θ_run _ _ _).mono
    (fun _ h c => told Cert.UpdateInIdeal.Value.G4 Cert.UpdateInIdeal.Value.G5 Cert.UpdateInIdeal.Value.G6 (h c) (hm c)) (Cert.UpdateInRefIdeal.Value.run (F := Ideal) m' ρ')⟩

/-! ### [4096, 128], `w_branch` -/

theorem frame_UpdateBranchRefIdeal : Cert.quiescent_UpdateBranchRefIdeal := fun m ρ _ =>
  (θ_run _ _ _).mono (fun r h => ⟨fun c => (h c).2.2.2, sem_eq_zero_of_no_sems rfl r.2⟩) (Cert.UpdateBranchRefIdeal.Value.run (F := Ideal) m ρ)

theorem algebraic_UpdateBranch : Cert.algebraic_UpdateBranchIdeal_UpdateBranchRefIdeal := fun m ρ m' ρ' _ hm =>
  ⟨_, _, _, Cert.UpdateBranchIdeal.Value.run (F := Ideal) m ρ, (θ_run _ _ _).mono
    (fun _ h c => told Cert.UpdateBranchIdeal.Value.G4 Cert.UpdateBranchIdeal.Value.G5 Cert.UpdateBranchIdeal.Value.G6 (h c) (hm c)) (Cert.UpdateBranchRefIdeal.Value.run (F := Ideal) m' ρ')⟩

/-! ### [2048, 1024], `w_merge_gate` -/

theorem frame_UpdateMergeGateRefIdeal : Cert.quiescent_UpdateMergeGateRefIdeal := fun m ρ _ =>
  (θ_run _ _ _).mono (fun r h => ⟨fun c => (h c).2.2.2, sem_eq_zero_of_no_sems rfl r.2⟩) (Cert.UpdateMergeGateRefIdeal.Value.run (F := Ideal) m ρ)

theorem algebraic_UpdateMergeGate : Cert.algebraic_UpdateMergeGateIdeal_UpdateMergeGateRefIdeal := fun m ρ m' ρ' _ hm =>
  ⟨_, _, _, Cert.UpdateMergeGateIdeal.Value.run (F := Ideal) m ρ, (θ_run _ _ _).mono
    (fun _ h c => told Cert.UpdateMergeGateIdeal.Value.G4 Cert.UpdateMergeGateIdeal.Value.G5 Cert.UpdateMergeGateIdeal.Value.G6 (h c) (hm c)) (Cert.UpdateMergeGateRefIdeal.Value.run (F := Ideal) m' ρ')⟩

/-! ### [512, 1024], `w_out` and `w_ple_gate` -/

theorem frame_UpdateOutRefIdeal : Cert.quiescent_UpdateOutRefIdeal := fun m ρ _ =>
  (θ_run _ _ _).mono (fun r h => ⟨fun c => (h c).2.2.2, sem_eq_zero_of_no_sems rfl r.2⟩) (Cert.UpdateOutRefIdeal.Value.run (F := Ideal) m ρ)

theorem algebraic_UpdateOut : Cert.algebraic_UpdateOutIdeal_UpdateOutRefIdeal := fun m ρ m' ρ' _ hm =>
  ⟨_, _, _, Cert.UpdateOutIdeal.Value.run (F := Ideal) m ρ, (θ_run _ _ _).mono
    (fun _ h c => told Cert.UpdateOutIdeal.Value.G4 Cert.UpdateOutIdeal.Value.G5 Cert.UpdateOutIdeal.Value.G6 (h c) (hm c)) (Cert.UpdateOutRefIdeal.Value.run (F := Ideal) m' ρ')⟩

/-! ### [4096, 704], `w_ffn_in` -/

theorem frame_UpdateFfnInRefIdeal : Cert.quiescent_UpdateFfnInRefIdeal := fun m ρ _ =>
  (θ_run _ _ _).mono (fun r h => ⟨fun c => (h c).2.2.2, sem_eq_zero_of_no_sems rfl r.2⟩) (Cert.UpdateFfnInRefIdeal.Value.run (F := Ideal) m ρ)

theorem algebraic_UpdateFfnIn : Cert.algebraic_UpdateFfnInIdeal_UpdateFfnInRefIdeal := fun m ρ m' ρ' _ hm =>
  ⟨_, _, _, Cert.UpdateFfnInIdeal.Value.run (F := Ideal) m ρ, (θ_run _ _ _).mono
    (fun _ h c => told Cert.UpdateFfnInIdeal.Value.G4 Cert.UpdateFfnInIdeal.Value.G5 Cert.UpdateFfnInIdeal.Value.G6 (h c) (hm c)) (Cert.UpdateFfnInRefIdeal.Value.run (F := Ideal) m' ρ')⟩

/-! ### [1408, 1024], `w_ffn_out` -/

theorem frame_UpdateFfnOutRefIdeal : Cert.quiescent_UpdateFfnOutRefIdeal := fun m ρ _ =>
  (θ_run _ _ _).mono (fun r h => ⟨fun c => (h c).2.2.2, sem_eq_zero_of_no_sems rfl r.2⟩) (Cert.UpdateFfnOutRefIdeal.Value.run (F := Ideal) m ρ)

theorem algebraic_UpdateFfnOut : Cert.algebraic_UpdateFfnOutIdeal_UpdateFfnOutRefIdeal := fun m ρ m' ρ' _ hm =>
  ⟨_, _, _, Cert.UpdateFfnOutIdeal.Value.run (F := Ideal) m ρ, (θ_run _ _ _).mono
    (fun _ h c => told Cert.UpdateFfnOutIdeal.Value.G4 Cert.UpdateFfnOutIdeal.Value.G5 Cert.UpdateFfnOutIdeal.Value.G6 (h c) (hm c)) (Cert.UpdateFfnOutRefIdeal.Value.run (F := Ideal) m' ρ')⟩

/-! ### [1024, 128], `w_ple_proj` -/

theorem frame_UpdateProjRefIdeal : Cert.quiescent_UpdateProjRefIdeal := fun m ρ _ =>
  (θ_run _ _ _).mono (fun r h => ⟨fun c => (h c).2.2.2, sem_eq_zero_of_no_sems rfl r.2⟩) (Cert.UpdateProjRefIdeal.Value.run (F := Ideal) m ρ)

theorem algebraic_UpdateProj : Cert.algebraic_UpdateProjIdeal_UpdateProjRefIdeal := fun m ρ m' ρ' _ hm =>
  ⟨_, _, _, Cert.UpdateProjIdeal.Value.run (F := Ideal) m ρ, (θ_run _ _ _).mono
    (fun _ h c => told Cert.UpdateProjIdeal.Value.G4 Cert.UpdateProjIdeal.Value.G5 Cert.UpdateProjIdeal.Value.G6 (h c) (hm c)) (Cert.UpdateProjRefIdeal.Value.run (F := Ideal) m' ρ')⟩

/-! ### [2048, 128], `sgu_w` -/

theorem frame_UpdateSpatialRefIdeal : Cert.quiescent_UpdateSpatialRefIdeal := fun m ρ _ =>
  (θ_run _ _ _).mono (fun r h => ⟨fun c => (h c).2.2.2, sem_eq_zero_of_no_sems rfl r.2⟩) (Cert.UpdateSpatialRefIdeal.Value.run (F := Ideal) m ρ)

theorem algebraic_UpdateSpatial : Cert.algebraic_UpdateSpatialIdeal_UpdateSpatialRefIdeal := fun m ρ m' ρ' _ hm =>
  ⟨_, _, _, Cert.UpdateSpatialIdeal.Value.run (F := Ideal) m ρ, (θ_run _ _ _).mono
    (fun _ h c => told Cert.UpdateSpatialIdeal.Value.G4 Cert.UpdateSpatialIdeal.Value.G5 Cert.UpdateSpatialIdeal.Value.G6 (h c) (hm c)) (Cert.UpdateSpatialRefIdeal.Value.run (F := Ideal) m' ρ')⟩

/-! ### [16, 128], `sgu_b` -/

theorem frame_UpdateSpatialBiasRefIdeal : Cert.quiescent_UpdateSpatialBiasRefIdeal := fun m ρ _ =>
  (θ_run _ _ _).mono (fun r h => ⟨fun c => (h c).2.2.2, sem_eq_zero_of_no_sems rfl r.2⟩) (Cert.UpdateSpatialBiasRefIdeal.Value.run (F := Ideal) m ρ)

theorem algebraic_UpdateSpatialBias : Cert.algebraic_UpdateSpatialBiasIdeal_UpdateSpatialBiasRefIdeal := fun m ρ m' ρ' _ hm =>
  ⟨_, _, _, Cert.UpdateSpatialBiasIdeal.Value.run (F := Ideal) m ρ, (θ_run _ _ _).mono
    (fun _ h c => told Cert.UpdateSpatialBiasIdeal.Value.G4 Cert.UpdateSpatialBiasIdeal.Value.G5 Cert.UpdateSpatialBiasIdeal.Value.G6 (h c) (hm c)) (Cert.UpdateSpatialBiasRefIdeal.Value.run (F := Ideal) m' ρ')⟩

/-! ### [12, 32], `conv_a` -/

theorem frame_UpdateConvARefIdeal : Cert.quiescent_UpdateConvARefIdeal := fun m ρ _ =>
  (θ_run _ _ _).mono (fun r h => ⟨fun c => (h c).2.2.2, sem_eq_zero_of_no_sems rfl r.2⟩) (Cert.UpdateConvARefIdeal.Value.run (F := Ideal) m ρ)

theorem algebraic_UpdateConvA : Cert.algebraic_UpdateConvAIdeal_UpdateConvARefIdeal := fun m ρ m' ρ' _ hm =>
  ⟨_, _, _, Cert.UpdateConvAIdeal.Value.run (F := Ideal) m ρ, (θ_run _ _ _).mono
    (fun _ h c => told Cert.UpdateConvAIdeal.Value.G4 Cert.UpdateConvAIdeal.Value.G5 Cert.UpdateConvAIdeal.Value.G6 (h c) (hm c)) (Cert.UpdateConvARefIdeal.Value.run (F := Ideal) m' ρ')⟩

/-! ### [124, 32], `conf_dw` -/

theorem frame_UpdateConvDRefIdeal : Cert.quiescent_UpdateConvDRefIdeal := fun m ρ _ =>
  (θ_run _ _ _).mono (fun r h => ⟨fun c => (h c).2.2.2, sem_eq_zero_of_no_sems rfl r.2⟩) (Cert.UpdateConvDRefIdeal.Value.run (F := Ideal) m ρ)

theorem algebraic_UpdateConvD : Cert.algebraic_UpdateConvDIdeal_UpdateConvDRefIdeal := fun m ρ m' ρ' _ hm =>
  ⟨_, _, _, Cert.UpdateConvDIdeal.Value.run (F := Ideal) m ρ, (θ_run _ _ _).mono
    (fun _ h c => told Cert.UpdateConvDIdeal.Value.G4 Cert.UpdateConvDIdeal.Value.G5 Cert.UpdateConvDIdeal.Value.G6 (h c) (hm c)) (Cert.UpdateConvDRefIdeal.Value.run (F := Ideal) m' ρ')⟩

/-! ### [4, 1024], the gains `g_mix`, `g_ffn` and `g_ple` -/

theorem frame_UpdateNormRefIdeal : Cert.quiescent_UpdateNormRefIdeal := fun m ρ _ =>
  (θ_run _ _ _).mono (fun r h => ⟨fun c => (h c).2.2.2, sem_eq_zero_of_no_sems rfl r.2⟩) (Cert.UpdateNormRefIdeal.Value.run (F := Ideal) m ρ)

theorem algebraic_UpdateNorm : Cert.algebraic_UpdateNormIdeal_UpdateNormRefIdeal := fun m ρ m' ρ' _ hm =>
  ⟨_, _, _, Cert.UpdateNormIdeal.Value.run (F := Ideal) m ρ, (θ_run _ _ _).mono
    (fun _ h c => told Cert.UpdateNormIdeal.Value.G4 Cert.UpdateNormIdeal.Value.G5 Cert.UpdateNormIdeal.Value.G6 (h c) (hm c)) (Cert.UpdateNormRefIdeal.Value.run (F := Ideal) m' ρ')⟩

/-! ### [4, 256], the gains and biases of the branches' norms -/

theorem frame_UpdateBranchNormRefIdeal : Cert.quiescent_UpdateBranchNormRefIdeal := fun m ρ _ =>
  (θ_run _ _ _).mono (fun r h => ⟨fun c => (h c).2.2.2, sem_eq_zero_of_no_sems rfl r.2⟩) (Cert.UpdateBranchNormRefIdeal.Value.run (F := Ideal) m ρ)

theorem algebraic_UpdateBranchNorm : Cert.algebraic_UpdateBranchNormIdeal_UpdateBranchNormRefIdeal := fun m ρ m' ρ' _ hm =>
  ⟨_, _, _, Cert.UpdateBranchNormIdeal.Value.run (F := Ideal) m ρ, (θ_run _ _ _).mono
    (fun _ h c => told Cert.UpdateBranchNormIdeal.Value.G4 Cert.UpdateBranchNormIdeal.Value.G5 Cert.UpdateBranchNormIdeal.Value.G6 (h c) (hm c)) (Cert.UpdateBranchNormRefIdeal.Value.run (F := Ideal) m' ρ')⟩

/-! ### [1, 1024], `g_final` -/

theorem frame_UpdateFinalNormRefIdeal : Cert.quiescent_UpdateFinalNormRefIdeal := fun m ρ _ =>
  (θ_run _ _ _).mono (fun r h => ⟨fun c => (h c).2.2.2, sem_eq_zero_of_no_sems rfl r.2⟩) (Cert.UpdateFinalNormRefIdeal.Value.run (F := Ideal) m ρ)

theorem algebraic_UpdateFinalNorm : Cert.algebraic_UpdateFinalNormIdeal_UpdateFinalNormRefIdeal := fun m ρ m' ρ' _ hm =>
  ⟨_, _, _, Cert.UpdateFinalNormIdeal.Value.run (F := Ideal) m ρ, (θ_run _ _ _).mono
    (fun _ h c => told Cert.UpdateFinalNormIdeal.Value.G4 Cert.UpdateFinalNormIdeal.Value.G5 Cert.UpdateFinalNormIdeal.Value.G6 (h c) (hm c)) (Cert.UpdateFinalNormRefIdeal.Value.run (F := Ideal) m' ρ')⟩

end Cert.Updates

end
-- ==== Proof.NormRows.lean ====
/-
  One row of an RMS norm and of its gradient, over the extended reals, and the constants of the loss: what a row
  of the kernel's blocks and a row of the reference's arrays both hold.
-/
module

public import Idealize.ShloMosaic.Lib.Pointwise
public import Idealize.ShloMosaic.Lib.Tactic
public import Idealize.ShloMosaic.Lib.Pipeline.ValueKit

@[expose] public section

noncomputable section

namespace Cert.NormRows

open Idealize.ShloMosaic

/-- The mean of a row's 1024 entries. -/
def mean (f : Fin 1024 → EReal) : EReal := Ideal.div (∑ k, f k) (Ideal.ofBits .f32 0x44800000#32)

/-- The reciprocal root of a row's mean square. -/
def scale (x : Fin 1024 → EReal) : EReal := Ideal.rsqrt (mean (fun k => x k * x k) + Ideal.ofBits .f32 0x358637BD#32)

/-- The row, normalised. -/
def unit (x : Fin 1024 → EReal) (k : Fin 1024) : EReal := x k * scale x

/-- The gradient into the row, of the gradient `d` of the normalised row. -/
def back (x d : Fin 1024 → EReal) (k : Fin 1024) : EReal := scale x * (d k - unit x k * mean (fun l => d l * unit x l))

/-- The prediction's error in the row. -/
def err (x g t : Fin 1024 → EReal) (k : Fin 1024) : EReal := unit x k * g k - t k

/-- The gradient of the loss at the row's prediction. -/
def dy (x g t : Fin 1024 → EReal) (k : Fin 1024) : EReal := Ideal.div (err x g t k) (Ideal.ofBits .f32 0x44800000#32)

/-- The gradient's row, of the arguments' rows. -/
def dxRow (x g t : Fin 1024 → EReal) : Fin 1024 → EReal := back x (fun k => dy x g t k * g k)

/-- Half the mean square error of a row. -/
def lossRow (x g t : Fin 1024 → EReal) : EReal := mean (fun k => err x g t k * err x g t k)

def gRow (x g t : Fin 1024 → EReal) (k : Fin 1024) : EReal := dy x g t k * unit x k

/-- The product of a row with every row of a matrix. -/
def prod {w : Nat} (a : Fin w → EReal) (b : Fin 1024 → Fin w → EReal) (k : Fin 1024) : EReal := ∑ l, a l * b k l

/-- The gradient of the normalised row, from the gradients of its three projections. -/
def dh (a : Fin 1792 → EReal) (wa : Fin 1024 → Fin 1792 → EReal) (b : Fin 768 → EReal) (wb : Fin 1024 → Fin 768 → EReal)
    (e : Fin 4096 → EReal) (we : Fin 1024 → Fin 4096 → EReal) (k : Fin 1024) : EReal :=
  prod a wa k + prod b wb k + prod e we k

section Mix

variable (wa : Fin 1024 → Fin 1792 → EReal) (wb : Fin 1024 → Fin 768 → EReal) (we : Fin 1024 → Fin 4096 → EReal) (g : Fin 1024 → EReal)

/-- The gradient's row, with the residual's gradient `d` added. -/
def mixRow (a : Fin 1792 → EReal) (b : Fin 768 → EReal) (e : Fin 4096 → EReal) (x d : Fin 1024 → EReal) (k : Fin 1024) : EReal :=
  d k + back x (fun l => dh a wa b wb e we l * g l) k

/-- A row's part of the gradient of `g`. -/
def mixG (a : Fin 1792 → EReal) (b : Fin 768 → EReal) (e : Fin 4096 → EReal) (x : Fin 1024 → EReal) (k : Fin 1024) : EReal :=
  dh a wa b wb e we k * unit x k

end Mix

theorem word_1024 : Ideal.ofBits .f32 0x44800000#32 = ((1024 : ℝ) : EReal) := by
  simp [Ideal.ofBits, Ideal.ieee]
  exact (EReal.coe_mul _ _).symm.trans (congrArg _ (by norm_num))

theorem word_inv_1024 : Ideal.ofBits .f32 0x3A800000#32 = ((1 / 1024 : ℝ) : EReal) := by
  simp [Ideal.ofBits, Ideal.ieee]
  exact (EReal.coe_mul _ _).symm.trans (congrArg _ (by norm_num))

theorem word_half : Ideal.ofBits .f32 0x3F000000#32 = ((1 / 2 : ℝ) : EReal) := by
  simp [Ideal.ofBits, Ideal.ieee]
  exact (EReal.coe_mul _ _).symm.trans (congrArg _ (by norm_num))

/-- Dividing by 1024 is multiplying by its reciprocal. -/
theorem mul_inv_1024 (a : EReal) :
    a * Ideal.ofBits .f32 0x3A800000#32 = Ideal.div a (Ideal.ofBits .f32 0x44800000#32) := by
  rw [word_1024, word_inv_1024, Ideal.div_coe (by norm_num)]

/-- Half of a sum is the sum of the halves. -/
theorem half_sum {n : Nat} (f : Fin n → EReal) :
    Ideal.ofBits .f32 0x3F000000#32 * ∑ k, f k = ∑ k, Ideal.ofBits .f32 0x3F000000#32 * f k := by
  rw [word_half]
  induction n with
  | zero => simp
  | succ n ih =>
    rw [Fin.sum_univ_succ, Fin.sum_univ_succ, EReal.left_distrib_of_nonneg_of_ne_top, ih]
    · exact_mod_cast (by norm_num : (0 : ℝ) ≤ 1 / 2)
    · exact EReal.coe_ne_top _

/-- Row `r` of an array. -/
def row {n w : Nat} (v : (⟨2, ![n, w]⟩ : Shape).Idx → EReal) (r : Fin n) (k : Fin w) : EReal := v (ix2 r k)

theorem entry {n : Nat} (v : FVec Ideal (⟨2, ![n, 1024]⟩ : Shape) .f32) (i : (⟨2, ![n, 1024]⟩ : Shape).Idx) :
    v i = row v (i 0) (i 1) := by
  unfold row
  blk_ext

end Cert.NormRows

end
-- ==== Proof.HeadRef.lean ====
/-
  The reference of the loss and its gradient, read at an index: each row of the gradient is a row's expression, and
  the loss and the gradient of `g` are sums over the rows.
-/
module

public import proofs.«01_k».proof.Proof.Gen.LossHeadRefIdeal.Run
public import proofs.«01_k».proof.Proof.NormRows

@[expose] public section

set_option maxRecDepth 16384

noncomputable section

namespace Cert.HeadRef

open Cert.LossHeadRefIdeal Cert.LossHeadRefIdeal.Gen Idealize.ShloMosaic Idealize.ShloMosaic.TcCoe Idealize.SL.Sem Idealize.ShloMosaic.StableHlo Cert.NormRows

variable (x : FVec Ideal S8192x1024 .f32) (g : FVec Ideal S1x1024 .f32) (t : FVec Ideal S8192x1024 .f32)

/-- Each row's mean, as a column. -/
def col (v : FVec Ideal S8192x1024 .f32) : FVec Ideal S8192x1 .f32 :=
  Host.divf (broadcastInDim S8192x1 ![0] bcast_S8192_S8192x1_0 (Host.reduceAdd v (constant S_ .f32 0x00000000#32) reducesTo_S8192x1024_S8192_d1 h_S_)) (broadcastInDim S8192x1 ![] bcast_S_S8192x1 (constant S_ .f32 0x44800000#32))

def invs : FVec Ideal S8192x1 .f32 :=
  Host.rsqrt (addf (col (mulf x x)) (broadcastInDim S8192x1 ![] bcast_S_S8192x1 (constant S_ .f32 0x358637BD#32)))

/-- A column, across the row. -/
def wide (v : FVec Ideal S8192x1 .f32) : FVec Ideal S8192x1024 .f32 := broadcastInDim S8192x1024 ![0, 1] bcast_S8192x1_S8192x1024_0_1 v

/-- A row, down the column. -/
def tall : FVec Ideal S8192x1024 .f32 := broadcastInDim S8192x1024 ![0, 1] bcast_S1x1024_S8192x1024_0_1 g

def units : FVec Ideal S8192x1024 .f32 := mulf x (wide (invs x))

def errs : FVec Ideal S8192x1024 .f32 := subf (mulf (units x) (tall g)) t

def dys : FVec Ideal S8192x1024 .f32 := Host.divf (errs x g t) (broadcastInDim S8192x1024 ![] bcast_S_S8192x1024 (constant S_ .f32 0x44800000#32))

def backs (d : FVec Ideal S8192x1024 .f32) : FVec Ideal S8192x1024 .f32 :=
  mulf (wide (invs x)) (subf d (mulf (units x) (wide (col (mulf d (units x))))))

def refDx : FVec Ideal S8192x1024 .f32 := backs x (mulf (dys x g t) (tall g))

def refLoss : FVec Ideal S8x128 .f32 :=
  broadcastInDim S8x128 ![] bcast_S_S8x128 (mulf (constant S_ .f32 0x3F000000#32) (Host.reduceAdd (Host.divf (Host.reduceAdd (mulf (errs x g t) (errs x g t)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

def refG : FVec Ideal S1x1024 .f32 :=
  broadcastInDim S1x1024 ![1] bcast_S1024_S1x1024_1 (Host.reduceAdd (mulf (dys x g t) (units x)) (constant S_ .f32 0x00000000#32) reducesTo_S8192x1024_S1024_d0 h_S_)

theorem col_at (v : FVec Ideal S8192x1024 .f32) (i : S8192x1.Idx) : col v i = mean (fun k => row v (i 0) k) := by
  unfold col mean row
  pointwise

theorem invs_at (i : S8192x1.Idx) : invs x i = scale (row x (i 0)) := by
  unfold invs scale
  pointwise
  rw [col_at]
  rfl

theorem wide_at (v : FVec Ideal S8192x1 .f32) (i : S8192x1024.Idx) : wide v i = v (ix2 (i 0) 0) := by
  unfold wide
  pointwise

theorem tall_at (i : S8192x1024.Idx) : tall g i = row g 0 (i 1) := by
  unfold tall row
  pointwise

theorem units_at (i : S8192x1024.Idx) : units x i = unit (row x (i 0)) (i 1) := by
  unfold units unit
  pointwise
  rw [wide_at, invs_at]
  rw [entry x i]
  rfl

theorem errs_at (i : S8192x1024.Idx) : errs x g t i = err (row x (i 0)) (row g 0) (row t (i 0)) (i 1) := by
  unfold errs err
  pointwise
  rw [units_at, tall_at]
  rw [entry t i]

theorem dys_at (i : S8192x1024.Idx) : dys x g t i = dy (row x (i 0)) (row g 0) (row t (i 0)) (i 1) := by
  unfold dys dy
  pointwise
  rw [errs_at]

theorem backs_at (d : FVec Ideal S8192x1024 .f32) (i : S8192x1024.Idx) :
    backs x d i = back (row x (i 0)) (row d (i 0)) (i 1) := by
  unfold backs back
  pointwise
  rw [wide_at, wide_at, invs_at, units_at, col_at]
  rw [entry d i]
  refine congrArg (fun z => scale (row x (i 0)) * (row d (i 0) (i 1) - unit (row x (i 0)) (i 1) * z)) (congrArg mean (funext fun k => ?_))
  show mulf d (units x) (ix2 (i 0) k) = _
  pointwise
  rw [units_at]
  rfl

theorem refDx_at (i : S8192x1024.Idx) :
    refDx x g t i = back (row x (i 0)) (fun k => dy (row x (i 0)) (row g 0) (row t (i 0)) k * row g 0 k) (i 1) := by
  rw [refDx, backs_at]
  congr 1
  funext k
  unfold row
  pointwise
  rw [dys_at, tall_at]
  rfl

theorem refLoss_at (i : S8x128.Idx) :
    refLoss x g t i = Ideal.ofBits .f32 0x3F000000#32 * ∑ r : Fin 8192, mean (fun k => err (row x r) (row g 0) (row t r) k * err (row x r) (row g 0) (row t r) k) := by
  unfold refLoss mean
  pointwise
  simp only [errs_at]
  rfl

theorem refG_at (i : S1x1024.Idx) :
    refG x g t i = ∑ r : Fin 8192, dy (row x r) (row g 0) (row t r) (i 1) * unit (row x r) (i 1) := by
  unfold refG
  pointwise
  simp only [dys_at, units_at]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = refDx (m ((c.tc : Thread nD τ).loc main_arg0)) (m ((c.tc : Thread nD τ).loc main_arg1)) (m ((c.tc : Thread nD τ).loc main_arg2))
      ∧ r.2.mem ((c.tc : Thread nD τ).loc main_v33) = refLoss (m ((c.tc : Thread nD τ).loc main_arg0)) (m ((c.tc : Thread nD τ).loc main_arg1)) (m ((c.tc : Thread nD τ).loc main_arg2))
      ∧ r.2.mem ((c.tc : Thread nD τ).loc main_v36) = refG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.LossHeadRefIdeal.Value.run (F := Ideal) m ρ

end Cert.HeadRef

end
-- ==== Proof.HeadValue.lean ====
/-
  The kernel's loss and its gradient: what a block of 512 rows stores, the sums over the sixteen blocks, and the
  arrays after the run.
-/
module

public import proofs.«01_k».proof.Proof.Gen.LossHeadIdeal.Value
public import proofs.«01_k».proof.Proof.NormRows

@[expose] public section

set_option maxRecDepth 16384

noncomputable section

namespace Cert.HeadValue

open Cert.LossHeadIdeal Cert.LossHeadIdeal.Gen Idealize.ShloMosaic Idealize.ShloMosaic.TcCoe Idealize.SL.Sem Cert.NormRows
open Idealize.ShloMosaic.Pipeline (Dat)

section Block

variable (x : Vec Ideal S512x1024 .f32) (g : Vec Ideal S1x1024 .f32) (t : Vec Ideal S512x1024 .f32)

theorem pay_dx (j : S512x1024.Idx) : k0_pay1 (k0_pay2 x) (k0_pay3 x) (k0_pay6 x g t) g j =
    back (row x (j 0)) (fun k => dy (row x (j 0)) (row g 0) (row t (j 0)) k * row g 0 k) (j 1) := by
  unfold k0_pay1 k0_pay6 k0_pay4 k0_pay3 k0_pay2
  pointwise
  simp only [mul_inv_1024]
  rw [entry x j, entry t j]
  rfl

theorem pay_loss (j : S8x128.Idx) : k0_pay8 x g t j = Ideal.ofBits .f32 0x3F000000#32 * ∑ r : Fin 512,
    mean (fun k => err (row x r) (row g 0) (row t r) k * err (row x r) (row g 0) (row t r) k) := by
  unfold k0_pay8 k0_pay5 k0_pay4 k0_pay3 k0_pay2
  pointwise
  rfl

theorem pay_loss_add (a : Vec Ideal S8x128 .f32) (j : S8x128.Idx) : k0_pay9 x g t a j = a j + k0_pay8 x g t j := by
  unfold k0_pay9 k0_pay8
  pointwise

theorem pay_g (j : S1x1024.Idx) : k0_pay7 x g t j = ∑ r : Fin 512,
    dy (row x r) (row g 0) (row t r) (j 1) * unit (row x r) (j 1) := by
  unfold k0_pay7 k0_pay6 k0_pay4 k0_pay3 k0_pay2
  pointwise
  simp only [mul_inv_1024]
  rfl

theorem pay_g_add (a : Vec Ideal S1x1024 .f32) (j : S1x1024.Idx) : k0_pay10 x g t a j = a j + k0_pay7 x g t j := by
  unfold k0_pay10
  pointwise

end Block

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

theorem point_lt (t : Fin cfg0.N) : t.val < 16 := lt_of_lt_of_eq t.isLt N_0

/-- The array's row that row `r` of block `t` is. -/
def at_ (t : Fin cfg0.N) (r : Fin 512) : Fin 8192 := ⟨t.val * 512 + r.val, by have := point_lt t; omega⟩

section Blocks

variable (c : Dev nD) (t : Fin cfg0.N)

theorem x_rows (r : Fin 512) : row (show FVec Ideal S512x1024 .f32 from iblk m c 0 t) r = row (m ((c : Thread nD τ).loc main_arg0)) (at_ t r) := by
  funext k
  unfold row at_
  blk_ext [iblk, V, idx t]

theorem g_row : row (show FVec Ideal S1x1024 .f32 from iblk m c 1 t) 0 = row (m ((c : Thread nD τ).loc main_arg1)) 0 := by
  funext k
  unfold row
  blk_ext [iblk, V, idx t]

theorem t_rows (r : Fin 512) : row (show FVec Ideal S512x1024 .f32 from iblk m c 2 t) r = row (m ((c : Thread nD τ).loc main_arg2)) (at_ t r) := by
  funext k
  unfold row at_
  blk_ext [iblk, V, idx t]

end Blocks

section Rows

variable (c : Dev nD) (t : Fin cfg0.N)

/-- What is said of a block's rows is said of the arrays' rows. -/
theorem of_rows {A : Type} (f : (Fin 1024 → EReal) → (Fin 1024 → EReal) → (Fin 1024 → EReal) → A) (r : Fin 512) :
    f (row (show FVec Ideal S512x1024 .f32 from iblk m c 0 t) r) (row (show FVec Ideal S1x1024 .f32 from iblk m c 1 t) 0) (row (show FVec Ideal S512x1024 .f32 from iblk m c 2 t) r)
    = f (row (m ((c : Thread nD τ).loc main_arg0)) (at_ t r)) (row (m ((c : Thread nD τ).loc main_arg1)) 0) (row (m ((c : Thread nD τ).loc main_arg2)) (at_ t r)) := by
  rw [x_rows, g_row, t_rows]

theorem dx_after (j : S512x1024.Idx) : (outsAt0 m c t.val t.isLt).1 j
    = dxRow (row (m ((c : Thread nD τ).loc main_arg0)) (at_ t (j 0))) (row (m ((c : Thread nD τ).loc main_arg1)) 0) (row (m ((c : Thread nD τ).loc main_arg2)) (at_ t (j 0))) (j 1) := by
  have hN := point_lt t
  refine Eq.trans ?_ (of_rows m c t (fun x g t => dxRow x g t (j 1)) (j 0))
  rcases Nat.eq_zero_or_pos t.val with h | h
  · rw [outsAt0_A m c t (by omega) (by omega)]
    frame_out
    exact pay_dx _ _ _ j
  · rw [outsAt0_B m c t (by omega) (by omega)]
    frame_out
    exact pay_dx _ _ _ j

end Rows

theorem final_dx (c : Dev nD) : (dats m 0 c).arrAt 3 cfg0.N = fun i : S8192x1024.Idx =>
    dxRow (row (m ((c : Thread nD τ).loc main_arg0)) (i 0)) (row (m ((c : Thread nD τ).loc main_arg1)) 0) (row (m ((c : Thread nD τ).loc main_arg2)) (i 0)) (i 1) := by
  refine (dats m 0 c).arrAt_eq_of_covers 3 _ (by decide +kernel) fun t _ y => ?_
  blk_simp
  rw [after0_3, dx_after]
  have e0 : (win0_3.blk t).view.emb y 0 = at_ t (y 0) := Fin.ext (by unfold at_; blk_simp [idx t])
  have e1 : (win0_3.blk t).view.emb y 1 = y 1 := Fin.ext (by blk_simp [idx t])
  exact (congrArg₂ (fun r k => dxRow (row (m ((c : Thread nD τ).loc main_arg0)) r) (row (m ((c : Thread nD τ).loc main_arg1)) 0) (row (m ((c : Thread nD τ).loc main_arg2)) r) k) e0 e1).symm

/-- The sum over the blocks of the sums over their rows is the sum over the rows. -/
theorem sum_rows (f : Fin 8192 → EReal) : ∑ t : Fin cfg0.N, ∑ r : Fin 512, f (at_ t r) = ∑ r, f r :=
  Fin.sum_mul_add_congr (L := 8192) (S := 16) (n := 512) (F := fun t r => f ⟨t.val * 512 + r.val, by omega⟩) fun _ _ _ => rfl

theorem last_point (t : Fin cfg0.N) (h : t.val % 16 = 15) : t.val + 1 = cfg0.N := by
  have := point_lt t
  exact (by omega : t.val + 1 = 16).trans N_0.symm

theorem final_loss (c : Dev nD) : (dats m 0 c).arrAt 4 cfg0.N = fun _ : S8x128.Idx => Ideal.ofBits .f32 0x3F000000#32 * ∑ r : Fin 8192,
    lossRow (row (m ((c : Thread nD τ).loc main_arg0)) r) (row (m ((c : Thread nD τ).loc main_arg1)) 0) (row (m ((c : Thread nD τ).loc main_arg2)) r) := by
  refine (dats m 0 c).arrAt_eq_of_covers 4 _ (by decide +kernel) fun t hf y => ?_
  blk_simp
  rw [after0_4, Pipeline.eq_sum_fin_of_reset_step_apply_last (fun n h => (outsAt0 m c n h).2.1) 16 (fun _ => 0)
    (fun t j => Ideal.ofBits .f32 0x3F000000#32 * ∑ r : Fin 512, lossRow (row (m ((c : Thread nD τ).loc main_arg0)) (at_ t r)) (row (m ((c : Thread nD τ).loc main_arg1)) 0) (row (m ((c : Thread nD τ).loc main_arg2)) (at_ t r)))
    (fun t h j => by
      have := point_lt t
      rw [outsAt0_A m c t h (by omega)]; frame_out
      rw [pay_loss]
      exact (congrArg (Ideal.ofBits .f32 0x3F000000#32 * ·) (Finset.sum_congr rfl fun r _ => of_rows m c t lossRow r)).trans (zero_add _).symm)
    (fun t h j => by
      rw [outsAt0_B m c t h (by omega)]; frame_out
      rw [pay_loss_add, pay_loss]
      exact congrArg (_ + Ideal.ofBits .f32 0x3F000000#32 * ·) (Finset.sum_congr rfl fun r _ => of_rows m c t lossRow r))
    (le_of_eq N_0) t (last_point t ((flush0_4 t).mp hf)) _, zero_add]
  exact (half_sum _).symm.trans (congrArg _ (sum_rows fun r => lossRow (row (m ((c : Thread nD τ).loc main_arg0)) r) (row (m ((c : Thread nD τ).loc main_arg1)) 0) (row (m ((c : Thread nD τ).loc main_arg2)) r)))

theorem final_g (c : Dev nD) : (dats m 0 c).arrAt 5 cfg0.N = fun i : S1x1024.Idx => ∑ r : Fin 8192,
    gRow (row (m ((c : Thread nD τ).loc main_arg0)) r) (row (m ((c : Thread nD τ).loc main_arg1)) 0) (row (m ((c : Thread nD τ).loc main_arg2)) r) (i 1) := by
  refine (dats m 0 c).arrAt_eq_of_covers 5 _ (by decide +kernel) fun t hf y => ?_
  blk_simp
  rw [after0_5, Pipeline.eq_sum_fin_of_reset_step_apply_last (fun n h => (outsAt0 m c n h).2.2) 16 (fun _ => 0)
    (fun t j => ∑ r : Fin 512, gRow (row (m ((c : Thread nD τ).loc main_arg0)) (at_ t r)) (row (m ((c : Thread nD τ).loc main_arg1)) 0) (row (m ((c : Thread nD τ).loc main_arg2)) (at_ t r)) (j 1))
    (fun t h j => by
      have := point_lt t
      rw [outsAt0_A m c t h (by omega)]; frame_out
      rw [pay_g]
      exact (Finset.sum_congr rfl fun r _ => of_rows m c t (fun x g t => gRow x g t (j 1)) r).trans (zero_add _).symm)
    (fun t h j => by
      rw [outsAt0_B m c t h (by omega)]; frame_out
      rw [pay_g_add, pay_g]
      exact congrArg (_ + ·) (Finset.sum_congr rfl fun r _ => of_rows m c t (fun x g t => gRow x g t (j 1)) r))
    (le_of_eq N_0) t (last_point t ((flush0_5 t).mp hf)) _, zero_add]
  have e1 : (win0_5.blk t).view.emb y 1 = y 1 := Fin.ext (by blk_simp [idx t])
  exact (sum_rows fun r => gRow (row (m ((c : Thread nD τ).loc main_arg0)) r) (row (m ((c : Thread nD τ).loc main_arg1)) 0) (row (m ((c : Thread nD τ).loc main_arg2)) r) (y 1)).trans
    (Finset.sum_congr rfl fun r _ => congrArg (gRow _ _ _) e1.symm)

end Cert.HeadValue

end
-- ==== Proof.MixRef.lean ====
/-
  The reference of the mixer's backward pass, read at an index: each row of the gradient is a row's expression, and
  the gradient of `g` is a sum over the rows.
-/
module

public import proofs.«01_k».proof.Proof.Gen.MixBackwardRefIdeal.Run
public import proofs.«01_k».proof.Proof.HeadRef

@[expose] public section

set_option maxRecDepth 16384

noncomputable section

namespace Cert.MixRef

open Cert.MixBackwardRefIdeal Cert.MixBackwardRefIdeal.Gen Idealize.ShloMosaic Idealize.ShloMosaic.TcCoe Idealize.SL.Sem Idealize.ShloMosaic.StableHlo Cert.NormRows
open Cert.HeadRef (units units_at backs backs_at tall tall_at)

variable (a : FVec Ideal S8192x1792 .bf16) (wa : FVec Ideal S1024x1792 .bf16) (b : FVec Ideal S8192x768 .bf16) (wb : FVec Ideal S1024x768 .bf16)
  (e : FVec Ideal S8192x4096 .bf16) (we : FVec Ideal S1024x4096 .bf16) (x : FVec Ideal S8192x1024 .f32) (g : FVec Ideal S1x1024 .f32) (d : FVec Ideal S8192x1024 .f32)

def prodA : FVec Ideal S8192x1024 .f32 :=
  Host.dotGeneral dot_S8192x1792_S1792x1024_S8192x1024_1_0_0_1_n_n none (extf .f32 a bitsLt_bf16_f32) (transpose S1792x1024 [1, 0] (extf .f32 wa bitsLt_bf16_f32) transposes_S1024x1792_S1792x1024_1_0)

def prodB : FVec Ideal S8192x1024 .f32 :=
  Host.dotGeneral dot_S8192x768_S768x1024_S8192x1024_1_0_0_1_n_n none (extf .f32 b bitsLt_bf16_f32) (transpose S768x1024 [1, 0] (extf .f32 wb bitsLt_bf16_f32) transposes_S1024x768_S768x1024_1_0)

def prodE : FVec Ideal S8192x1024 .f32 :=
  Host.dotGeneral dot_S8192x4096_S4096x1024_S8192x1024_1_0_0_1_n_n none (extf .f32 e bitsLt_bf16_f32) (transpose S4096x1024 [1, 0] (extf .f32 we bitsLt_bf16_f32) transposes_S1024x4096_S4096x1024_1_0)

/-- The gradient of the normalised input. -/
def dhs : FVec Ideal S8192x1024 .f32 := addf (addf (prodA a wa) (prodB b wb)) (prodE e we)

def refDx : FVec Ideal S8192x1024 .f32 := addf d (backs x (mulf (dhs a wa b wb e we) (tall g)))

def refG : FVec Ideal S1x1024 .f32 :=
  broadcastInDim S1x1024 ![1] bcast_S1024_S1x1024_1 (Host.reduceAdd (mulf (dhs a wa b wb e we) (units x)) (constant S_ .f32 0x00000000#32) reducesTo_S8192x1024_S1024_d0 h_S_)

theorem prodA_at (i : S8192x1024.Idx) : prodA a wa i = prod (row a (i 0)) (row wa) (i 1) := by
  unfold prodA
  pointwise
  rfl

theorem prodB_at (i : S8192x1024.Idx) : prodB b wb i = prod (row b (i 0)) (row wb) (i 1) := by
  unfold prodB
  pointwise
  rfl

theorem prodE_at (i : S8192x1024.Idx) : prodE e we i = prod (row e (i 0)) (row we) (i 1) := by
  unfold prodE
  pointwise
  rfl

theorem dhs_at (i : S8192x1024.Idx) :
    dhs a wa b wb e we i = dh (row a (i 0)) (row wa) (row b (i 0)) (row wb) (row e (i 0)) (row we) (i 1) := by
  unfold dhs dh
  pointwise
  rw [prodA_at, prodB_at, prodE_at]

theorem refDx_at (i : S8192x1024.Idx) : refDx a wa b wb e we x g d i
    = mixRow (row wa) (row wb) (row we) (row g 0) (row a (i 0)) (row b (i 0)) (row e (i 0)) (row x (i 0)) (row d (i 0)) (i 1) := by
  unfold refDx mixRow
  pointwise
  rw [backs_at, entry d i]
  refine congrArg (fun f => row d (i 0) (i 1) + back (row x (i 0)) f (i 1)) (funext fun k => ?_)
  unfold row
  pointwise
  rw [dhs_at, tall_at]
  rfl

theorem refG_at (i : S1x1024.Idx) : refG a wa b wb e we x i = ∑ r : Fin 8192,
    mixG (row wa) (row wb) (row we) (row a r) (row b r) (row e r) (row x r) (i 1) := by
  unfold refG
  pointwise
  simp only [dhs_at, units_at]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = refDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v39) = refG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.MixBackwardRefIdeal.Value.run (F := Ideal) m ρ

end Cert.MixRef

end
-- ==== Proof.MixValue.lean ====
/-
  The kernel's backward pass of the mixer's input: what a block of 512 rows stores, the sum over the sixteen blocks,
  and the arrays after the run.
-/
module

public import proofs.«01_k».proof.Proof.Gen.MixBackwardIdeal.Value
public import proofs.«01_k».proof.Proof.NormRows

@[expose] public section

set_option maxRecDepth 16384

noncomputable section

namespace Cert.MixValue

open Cert.MixBackwardIdeal Cert.MixBackwardIdeal.Gen Idealize.ShloMosaic Idealize.ShloMosaic.TcCoe Idealize.SL.Sem Cert.NormRows
open Idealize.ShloMosaic.Pipeline (Dat)

section Block

variable (a : Vec Ideal S512x1792 .bf16) (wa : Vec Ideal S1024x1792 .bf16) (b : Vec Ideal S512x768 .bf16) (wb : Vec Ideal S1024x768 .bf16)
  (e : Vec Ideal S512x4096 .bf16) (we : Vec Ideal S1024x4096 .bf16) (x : Vec Ideal S512x1024 .f32) (g : Vec Ideal S1x1024 .f32) (d : Vec Ideal S512x1024 .f32)

theorem pay_dh (j : S512x1024.Idx) :
    k0_pay2 a wa b wb e we j = dh (row a (j 0)) (row wa) (row b (j 0)) (row wb) (row e (j 0)) (row we) (j 1) := by
  unfold k0_pay2
  pointwise
  rfl

theorem pay_unit (j : S512x1024.Idx) : k0_pay4 x j = unit (row x (j 0)) (j 1) := by
  unfold k0_pay4 k0_pay3
  pointwise
  rw [entry x j]
  rfl

/-- The stored gradient, of any gradient of the normalised rows. -/
theorem pay_back (h : FVec Ideal S512x1024 .f32) (j : S512x1024.Idx) :
    k0_pay1 h (k0_pay3 x) (k0_pay4 x) g d j = d j + back (row x (j 0)) (fun k => row h (j 0) k * row g 0 k) (j 1) := by
  unfold k0_pay1 k0_pay4 k0_pay3
  pointwise
  rw [entry x j, entry h j]
  rfl

theorem pay_dx (j : S512x1024.Idx) : k0_pay1 (k0_pay2 a wa b wb e we) (k0_pay3 x) (k0_pay4 x) g d j
    = mixRow (row wa) (row wb) (row we) (row g 0) (row a (j 0)) (row b (j 0)) (row e (j 0)) (row x (j 0)) (row d (j 0)) (j 1) := by
  rw [pay_back, entry d j]
  refine congrArg (fun f => row d (j 0) (j 1) + back (row x (j 0)) f (j 1)) (funext fun k => ?_)
  exact congrArg (· * row g 0 k) (pay_dh a wa b wb e we (ix2 (j 0) k))

theorem pay_g (j : S1x1024.Idx) : k0_pay5 a wa b wb e we x j = ∑ r : Fin 512,
    mixG (row wa) (row wb) (row we) (row a r) (row b r) (row e r) (row x r) (j 1) := by
  unfold k0_pay5
  pointwise
  simp only [pay_dh, pay_unit]
  rfl

theorem pay_g_add (p : Vec Ideal S1x1024 .f32) (j : S1x1024.Idx) :
    k0_pay6 a wa b wb e we x p j = p j + k0_pay5 a wa b wb e we x j := by
  unfold k0_pay6
  pointwise

end Block

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

theorem point_lt (t : Fin cfg0.N) : t.val < 16 := lt_of_lt_of_eq t.isLt N_0

theorem last_point (t : Fin cfg0.N) (h : t.val % 16 = 15) : t.val + 1 = cfg0.N := by
  have := point_lt t
  exact (by omega : t.val + 1 = 16).trans N_0.symm

/-- The array's row that row `r` of block `t` is. -/
def at_ (t : Fin cfg0.N) (r : Fin 512) : Fin 8192 := ⟨t.val * 512 + r.val, by have := point_lt t; omega⟩

section Blocks

variable (c : Dev nD) (t : Fin cfg0.N)

theorem rows0 (r : Fin 512) : row (show FVec Ideal S512x1792 .bf16 from iblk m c 0 t) r = row (m ((c : Thread nD τ).loc main_arg0)) (at_ t r) := by
  funext k
  unfold row at_
  blk_ext [iblk, V, idx t]

theorem whole1 : row (show FVec Ideal S1024x1792 .bf16 from iblk m c 1 t) = row (m ((c : Thread nD τ).loc main_arg1)) := by
  funext r k
  unfold row
  blk_ext [iblk, V, idx t]

theorem rows2 (r : Fin 512) : row (show FVec Ideal S512x768 .bf16 from iblk m c 2 t) r = row (m ((c : Thread nD τ).loc main_arg2)) (at_ t r) := by
  funext k
  unfold row at_
  blk_ext [iblk, V, idx t]

theorem whole3 : row (show FVec Ideal S1024x768 .bf16 from iblk m c 3 t) = row (m ((c : Thread nD τ).loc main_arg3)) := by
  funext r k
  unfold row
  blk_ext [iblk, V, idx t]

theorem rows4 (r : Fin 512) : row (show FVec Ideal S512x4096 .bf16 from iblk m c 4 t) r = row (m ((c : Thread nD τ).loc main_arg4)) (at_ t r) := by
  funext k
  unfold row at_
  blk_ext [iblk, V, idx t]

theorem whole5 : row (show FVec Ideal S1024x4096 .bf16 from iblk m c 5 t) = row (m ((c : Thread nD τ).loc main_arg5)) := by
  funext r k
  unfold row
  blk_ext [iblk, V, idx t]

theorem rows6 (r : Fin 512) : row (show FVec Ideal S512x1024 .f32 from iblk m c 6 t) r = row (m ((c : Thread nD τ).loc main_arg6)) (at_ t r) := by
  funext k
  unfold row at_
  blk_ext [iblk, V, idx t]

theorem whole7 : row (show FVec Ideal S1x1024 .f32 from iblk m c 7 t) = row (m ((c : Thread nD τ).loc main_arg7)) := by
  funext r k
  unfold row
  blk_ext [iblk, V, idx t]

theorem rows8 (r : Fin 512) : row (show FVec Ideal S512x1024 .f32 from iblk m c 8 t) r = row (m ((c : Thread nD τ).loc main_arg8)) (at_ t r) := by
  funext k
  unfold row at_
  blk_ext [iblk, V, idx t]

theorem dx_rows (r : Fin 512) (k : Fin 1024) :
    mixRow (row (show FVec Ideal S1024x1792 .bf16 from iblk m c 1 t)) (row (show FVec Ideal S1024x768 .bf16 from iblk m c 3 t)) (row (show FVec Ideal S1024x4096 .bf16 from iblk m c 5 t)) (row (show FVec Ideal S1x1024 .f32 from iblk m c 7 t) 0) (row (show FVec Ideal S512x1792 .bf16 from iblk m c 0 t) r) (row (show FVec Ideal S512x768 .bf16 from iblk m c 2 t) r) (row (show FVec Ideal S512x4096 .bf16 from iblk m c 4 t) r) (row (show FVec Ideal S512x1024 .f32 from iblk m c 6 t) r) (row (show FVec Ideal S512x1024 .f32 from iblk m c 8 t) r) k
    = mixRow (row (m ((c : Thread nD τ).loc main_arg1))) (row (m ((c : Thread nD τ).loc main_arg3))) (row (m ((c : Thread nD τ).loc main_arg5))) (row (m ((c : Thread nD τ).loc main_arg7)) 0) (row (m ((c : Thread nD τ).loc main_arg0)) (at_ t r)) (row (m ((c : Thread nD τ).loc main_arg2)) (at_ t r)) (row (m ((c : Thread nD τ).loc main_arg4)) (at_ t r)) (row (m ((c : Thread nD τ).loc main_arg6)) (at_ t r)) (row (m ((c : Thread nD τ).loc main_arg8)) (at_ t r)) k := by
  rw [rows0, whole1, rows2, whole3, rows4, whole5, rows6, whole7, rows8]

theorem g_rows (r : Fin 512) (k : Fin 1024) :
    mixG (row (show FVec Ideal S1024x1792 .bf16 from iblk m c 1 t)) (row (show FVec Ideal S1024x768 .bf16 from iblk m c 3 t)) (row (show FVec Ideal S1024x4096 .bf16 from iblk m c 5 t)) (row (show FVec Ideal S512x1792 .bf16 from iblk m c 0 t) r) (row (show FVec Ideal S512x768 .bf16 from iblk m c 2 t) r) (row (show FVec Ideal S512x4096 .bf16 from iblk m c 4 t) r) (row (show FVec Ideal S512x1024 .f32 from iblk m c 6 t) r) k
    = mixG (row (m ((c : Thread nD τ).loc main_arg1))) (row (m ((c : Thread nD τ).loc main_arg3))) (row (m ((c : Thread nD τ).loc main_arg5))) (row (m ((c : Thread nD τ).loc main_arg0)) (at_ t r)) (row (m ((c : Thread nD τ).loc main_arg2)) (at_ t r)) (row (m ((c : Thread nD τ).loc main_arg4)) (at_ t r)) (row (m ((c : Thread nD τ).loc main_arg6)) (at_ t r)) k := by
  rw [rows0, whole1, rows2, whole3, rows4, whole5, rows6]

end Blocks

/-- The gradient's row `r`, of the arguments. -/
def dxAt (c : Dev nD) (r : Fin 8192) (k : Fin 1024) : EReal :=
  mixRow (row (m ((c : Thread nD τ).loc main_arg1))) (row (m ((c : Thread nD τ).loc main_arg3))) (row (m ((c : Thread nD τ).loc main_arg5))) (row (m ((c : Thread nD τ).loc main_arg7)) 0) (row (m ((c : Thread nD τ).loc main_arg0)) r) (row (m ((c : Thread nD τ).loc main_arg2)) r) (row (m ((c : Thread nD τ).loc main_arg4)) r) (row (m ((c : Thread nD τ).loc main_arg6)) r) (row (m ((c : Thread nD τ).loc main_arg8)) r) k

/-- Row `r`'s part of the gradient of `g`. -/
def gAt (c : Dev nD) (r : Fin 8192) (k : Fin 1024) : EReal :=
  mixG (row (m ((c : Thread nD τ).loc main_arg1))) (row (m ((c : Thread nD τ).loc main_arg3))) (row (m ((c : Thread nD τ).loc main_arg5))) (row (m ((c : Thread nD τ).loc main_arg0)) r) (row (m ((c : Thread nD τ).loc main_arg2)) r) (row (m ((c : Thread nD τ).loc main_arg4)) r) (row (m ((c : Thread nD τ).loc main_arg6)) r) k

theorem dx_after (c : Dev nD) (t : Fin cfg0.N) (j : S512x1024.Idx) : (outsAt0 m c t.val t.isLt).1 j = dxAt m c (at_ t (j 0)) (j 1) := by
  have hN := point_lt t
  refine Eq.trans ?_ (dx_rows m c t (j 0) (j 1))
  rcases Nat.eq_zero_or_pos t.val with h | h
  · rw [outsAt0_A m c t (by omega) (by omega)]
    frame_out
    exact pay_dx _ _ _ _ _ _ _ _ _ j
  · rw [outsAt0_B m c t (by omega) (by omega)]
    frame_out
    exact pay_dx _ _ _ _ _ _ _ _ _ j

theorem final_dx (c : Dev nD) : (dats m 0 c).arrAt 9 cfg0.N = fun i : S8192x1024.Idx => dxAt m c (i 0) (i 1) := by
  refine (dats m 0 c).arrAt_eq_of_covers 9 _ (by decide +kernel) fun t _ y => ?_
  blk_simp
  rw [after0_9, dx_after]
  have e0 : (win0_9.blk t).view.emb y 0 = at_ t (y 0) := Fin.ext (by unfold at_; blk_simp [idx t])
  have e1 : (win0_9.blk t).view.emb y 1 = y 1 := Fin.ext (by blk_simp [idx t])
  exact (congrArg₂ (dxAt m c) e0 e1).symm

/-- The sum over the blocks of the sums over their rows is the sum over the rows. -/
theorem sum_rows (f : Fin 8192 → EReal) : ∑ t : Fin cfg0.N, ∑ r : Fin 512, f (at_ t r) = ∑ r, f r :=
  Fin.sum_mul_add_congr (L := 8192) (S := 16) (n := 512) (F := fun t r => f ⟨t.val * 512 + r.val, by omega⟩) fun _ _ _ => rfl

theorem final_g (c : Dev nD) : (dats m 0 c).arrAt 10 cfg0.N = fun i : S1x1024.Idx => ∑ r : Fin 8192, gAt m c r (i 1) := by
  refine (dats m 0 c).arrAt_eq_of_covers 10 _ (by decide +kernel) fun t hf y => ?_
  blk_simp
  rw [after0_10, Pipeline.eq_sum_fin_of_reset_step_apply_last (fun n h => (outsAt0 m c n h).2) 16 (fun _ => 0)
    (fun t j => ∑ r : Fin 512, gAt m c (at_ t r) (j 1))
    (fun t h j => by
      have := point_lt t
      rw [outsAt0_A m c t h (by omega)]; frame_out
      rw [pay_g]
      exact (Finset.sum_congr rfl fun r _ => g_rows m c t r (j 1)).trans (zero_add _).symm)
    (fun t h j => by
      rw [outsAt0_B m c t h (by omega)]; frame_out
      rw [pay_g_add, pay_g]
      exact congrArg (_ + ·) (Finset.sum_congr rfl fun r _ => g_rows m c t r (j 1)))
    (le_of_eq N_0) t (last_point t ((flush0_10 t).mp hf)) _, zero_add]
  have e1 : (win0_10.blk t).view.emb y 1 = y 1 := Fin.ext (by blk_simp [idx t])
  exact (sum_rows fun r => gAt m c r (y 1)).trans (Finset.sum_congr rfl fun r _ => congrArg (gAt m c r) e1.symm)

end Cert.MixValue

end
-- ==== Proof.Ends.lean ====
/-
  The claims about the calls at the two ends of the backward pass: the loss with its gradient, and the gradient of
  the mixer's input.
-/
module

public import proofs.«01_k».proof.Defs
public import proofs.«01_k».proof.Proof.HeadRef
public import proofs.«01_k».proof.Proof.HeadValue
public import proofs.«01_k».proof.Proof.MixRef
public import proofs.«01_k».proof.Proof.MixValue

@[expose] public section

noncomputable section

namespace Cert.Ends

open Idealize.ShloMosaic Idealize.ShloMosaic.TcCoe Idealize.SL.Sem

theorem frame_LossHeadRefIdeal : Cert.quiescent_LossHeadRefIdeal := fun m ρ _ =>
  (θ_run _ _ _).mono (fun r h => ⟨fun c => (h c).2.2.2, sem_eq_zero_of_no_sems rfl r.2⟩) (Cert.LossHeadRefIdeal.Value.run (F := Ideal) m ρ)

theorem algebraic_LossHead : Cert.algebraic_LossHeadIdeal_LossHeadRefIdeal := fun m ρ m' ρ' _ hm =>
  ⟨_, _, _, Cert.LossHeadIdeal.Value.run_blocks (F := Ideal) m ρ, (θ_run _ _ _).mono
    (fun r h c => by
      obtain ⟨h0, h1, h2, hk⟩ := h c
      obtain ⟨e0, e1, e2⟩ := hm c
      refine ⟨?_, ?_, ?_, hk⟩
      · rw [h0, HeadValue.final_dx, ← e0, ← e1, ← e2]
        exact funext fun i => HeadRef.refDx_at _ _ _ i
      · rw [h1, HeadValue.final_loss, ← e0, ← e1, ← e2]
        exact funext fun i => HeadRef.refLoss_at _ _ _ i
      · rw [h2, HeadValue.final_g, ← e0, ← e1, ← e2]
        exact funext fun i => HeadRef.refG_at _ _ _ i) (HeadRef.run m' ρ')⟩

theorem frame_MixBackwardRefIdeal : Cert.quiescent_MixBackwardRefIdeal := fun m ρ _ =>
  (θ_run _ _ _).mono (fun r h => ⟨fun c => (h c).2.2, sem_eq_zero_of_no_sems rfl r.2⟩) (Cert.MixBackwardRefIdeal.Value.run (F := Ideal) m ρ)

theorem algebraic_MixBackward : Cert.algebraic_MixBackwardIdeal_MixBackwardRefIdeal := fun m ρ m' ρ' _ hm =>
  ⟨_, _, Cert.MixBackwardIdeal.Value.run_blocks (F := Ideal) m ρ, (θ_run _ _ _).mono
    (fun r h c => by
      obtain ⟨h0, h1, hk⟩ := h c
      obtain ⟨e0, e1, e2, e3, e4, e5, e6, e7, e8⟩ := hm c
      refine ⟨?_, ?_, hk⟩
      · rw [h0, MixValue.final_dx]
        unfold MixValue.dxAt
        rw [← e0, ← e1, ← e2, ← e3, ← e4, ← e5, ← e6, ← e7, ← e8]
        exact funext fun i => MixRef.refDx_at _ _ _ _ _ _ _ _ _ i
      · rw [h1, MixValue.final_g]
        unfold MixValue.gAt
        rw [← e0, ← e1, ← e2, ← e3, ← e4, ← e5, ← e6]
        exact funext fun i => MixRef.refG_at _ _ _ _ _ _ _ i) (MixRef.run m' ρ')⟩

end Cert.Ends

end
-- ==== Proof.PleNormBackwardValue.lean ====
/-
  The backward pass of the per-layer embedding's norm: blocks of 512 rows, and the sum over them.
-/
module

public import proofs.«01_k».proof.Proof.Gen.PleNormBackwardIdeal.Value
public import proofs.«01_k».proof.Proof.Gen.PleNormBackwardRefIdeal.Run
public import Idealize.ShloMosaic.Lib.Pipeline.ValueKit

@[expose] public section

set_option maxRecDepth 16384

noncomputable section

namespace Cert.PleNormBackwardValue

open Cert.PleNormBackwardIdeal Cert.PleNormBackwardIdeal.Gen Idealize.ShloMosaic Idealize.ShloMosaic.TcCoe Idealize.SL.Sem
open Idealize.ShloMosaic.Pipeline (Dat)

abbrev refDx (d : FVec Ideal S8192x1024 .bf16) (w : FVec Ideal S1024x1024 .bf16) (x : FVec Ideal S8192x1024 .f32) (g : FVec Ideal S1x1024 .f32) (r : FVec Ideal S8192x1024 .f32) : FVec Ideal S8192x1024 .f32 :=
  addf r (mulf (broadcastInDim Cert.PleNormBackwardRefIdeal.S8192x1024 ![0, 1] Cert.PleNormBackwardRefIdeal.Gen.bcast_S8192x1_S8192x1024_0_1 (Host.rsqrt (addf (Host.divf (broadcastInDim Cert.PleNormBackwardRefIdeal.S8192x1 ![0] Cert.PleNormBackwardRefIdeal.Gen.bcast_S8192_S8192x1_0 (Host.reduceAdd (mulf x x) (constant Cert.PleNormBackwardRefIdeal.S_ .f32 0x00000000#32) Cert.PleNormBackwardRefIdeal.Gen.reducesTo_S8192x1024_S8192_d1 Cert.PleNormBackwardRefIdeal.Gen.h_S_)) (broadcastInDim Cert.PleNormBackwardRefIdeal.S8192x1 ![] Cert.PleNormBackwardRefIdeal.Gen.bcast_S_S8192x1 (constant Cert.PleNormBackwardRefIdeal.S_ .f32 0x44800000#32))) (broadcastInDim Cert.PleNormBackwardRefIdeal.S8192x1 ![] Cert.PleNormBackwardRefIdeal.Gen.bcast_S_S8192x1 (constant Cert.PleNormBackwardRefIdeal.S_ .f32 0x358637BD#32))))) (subf (mulf (Host.dotGeneral Cert.PleNormBackwardRefIdeal.dot_S8192x1024_S1024x1024_S8192x1024_1_0_0_1_n_n none (extf .f32 d Cert.PleNormBackwardRefIdeal.Gen.bitsLt_bf16_f32) (transpose Cert.PleNormBackwardRefIdeal.S1024x1024 [1, 0] (extf .f32 w Cert.PleNormBackwardRefIdeal.Gen.bitsLt_bf16_f32) Cert.PleNormBackwardRefIdeal.Gen.transposes_S1024x1024_S1024x1024_1_0)) (broadcastInDim Cert.PleNormBackwardRefIdeal.S8192x1024 ![0, 1] Cert.PleNormBackwardRefIdeal.Gen.bcast_S1x1024_S8192x1024_0_1 g)) (mulf (mulf x (broadcastInDim Cert.PleNormBackwardRefIdeal.S8192x1024 ![0, 1] Cert.PleNormBackwardRefIdeal.Gen.bcast_S8192x1_S8192x1024_0_1 (Host.rsqrt (addf (Host.divf (broadcastInDim Cert.PleNormBackwardRefIdeal.S8192x1 ![0] Cert.PleNormBackwardRefIdeal.Gen.bcast_S8192_S8192x1_0 (Host.reduceAdd (mulf x x) (constant Cert.PleNormBackwardRefIdeal.S_ .f32 0x00000000#32) Cert.PleNormBackwardRefIdeal.Gen.reducesTo_S8192x1024_S8192_d1 Cert.PleNormBackwardRefIdeal.Gen.h_S_)) (broadcastInDim Cert.PleNormBackwardRefIdeal.S8192x1 ![] Cert.PleNormBackwardRefIdeal.Gen.bcast_S_S8192x1 (constant Cert.PleNormBackwardRefIdeal.S_ .f32 0x44800000#32))) (broadcastInDim Cert.PleNormBackwardRefIdeal.S8192x1 ![] Cert.PleNormBackwardRefIdeal.Gen.bcast_S_S8192x1 (constant Cert.PleNormBackwardRefIdeal.S_ .f32 0x358637BD#32)))))) (broadcastInDim Cert.PleNormBackwardRefIdeal.S8192x1024 ![0, 1] Cert.PleNormBackwardRefIdeal.Gen.bcast_S8192x1_S8192x1024_0_1 (Host.divf (broadcastInDim Cert.PleNormBackwardRefIdeal.S8192x1 ![0] Cert.PleNormBackwardRefIdeal.Gen.bcast_S8192_S8192x1_0 (Host.reduceAdd (mulf (mulf (Host.dotGeneral Cert.PleNormBackwardRefIdeal.dot_S8192x1024_S1024x1024_S8192x1024_1_0_0_1_n_n none (extf .f32 d Cert.PleNormBackwardRefIdeal.Gen.bitsLt_bf16_f32) (transpose Cert.PleNormBackwardRefIdeal.S1024x1024 [1, 0] (extf .f32 w Cert.PleNormBackwardRefIdeal.Gen.bitsLt_bf16_f32) Cert.PleNormBackwardRefIdeal.Gen.transposes_S1024x1024_S1024x1024_1_0)) (broadcastInDim Cert.PleNormBackwardRefIdeal.S8192x1024 ![0, 1] Cert.PleNormBackwardRefIdeal.Gen.bcast_S1x1024_S8192x1024_0_1 g)) (mulf x (broadcastInDim Cert.PleNormBackwardRefIdeal.S8192x1024 ![0, 1] Cert.PleNormBackwardRefIdeal.Gen.bcast_S8192x1_S8192x1024_0_1 (Host.rsqrt (addf (Host.divf (broadcastInDim Cert.PleNormBackwardRefIdeal.S8192x1 ![0] Cert.PleNormBackwardRefIdeal.Gen.bcast_S8192_S8192x1_0 (Host.reduceAdd (mulf x x) (constant Cert.PleNormBackwardRefIdeal.S_ .f32 0x00000000#32) Cert.PleNormBackwardRefIdeal.Gen.reducesTo_S8192x1024_S8192_d1 Cert.PleNormBackwardRefIdeal.Gen.h_S_)) (broadcastInDim Cert.PleNormBackwardRefIdeal.S8192x1 ![] Cert.PleNormBackwardRefIdeal.Gen.bcast_S_S8192x1 (constant Cert.PleNormBackwardRefIdeal.S_ .f32 0x44800000#32))) (broadcastInDim Cert.PleNormBackwardRefIdeal.S8192x1 ![] Cert.PleNormBackwardRefIdeal.Gen.bcast_S_S8192x1 (constant Cert.PleNormBackwardRefIdeal.S_ .f32 0x358637BD#32))))))) (constant Cert.PleNormBackwardRefIdeal.S_ .f32 0x00000000#32) Cert.PleNormBackwardRefIdeal.Gen.reducesTo_S8192x1024_S8192_d1 Cert.PleNormBackwardRefIdeal.Gen.h_S_)) (broadcastInDim Cert.PleNormBackwardRefIdeal.S8192x1 ![] Cert.PleNormBackwardRefIdeal.Gen.bcast_S_S8192x1 (constant Cert.PleNormBackwardRefIdeal.S_ .f32 0x44800000#32)))))))

abbrev refG (d : FVec Ideal S8192x1024 .bf16) (w : FVec Ideal S1024x1024 .bf16) (x : FVec Ideal S8192x1024 .f32) : FVec Ideal S1x1024 .f32 :=
  broadcastInDim Cert.PleNormBackwardRefIdeal.S1x1024 ![1] Cert.PleNormBackwardRefIdeal.Gen.bcast_S1024_S1x1024_1 (Host.reduceAdd (mulf (Host.dotGeneral Cert.PleNormBackwardRefIdeal.dot_S8192x1024_S1024x1024_S8192x1024_1_0_0_1_n_n none (extf .f32 d Cert.PleNormBackwardRefIdeal.Gen.bitsLt_bf16_f32) (transpose Cert.PleNormBackwardRefIdeal.S1024x1024 [1, 0] (extf .f32 w Cert.PleNormBackwardRefIdeal.Gen.bitsLt_bf16_f32) Cert.PleNormBackwardRefIdeal.Gen.transposes_S1024x1024_S1024x1024_1_0)) (mulf x (broadcastInDim Cert.PleNormBackwardRefIdeal.S8192x1024 ![0, 1] Cert.PleNormBackwardRefIdeal.Gen.bcast_S8192x1_S8192x1024_0_1 (Host.rsqrt (addf (Host.divf (broadcastInDim Cert.PleNormBackwardRefIdeal.S8192x1 ![0] Cert.PleNormBackwardRefIdeal.Gen.bcast_S8192_S8192x1_0 (Host.reduceAdd (mulf x x) (constant Cert.PleNormBackwardRefIdeal.S_ .f32 0x00000000#32) Cert.PleNormBackwardRefIdeal.Gen.reducesTo_S8192x1024_S8192_d1 Cert.PleNormBackwardRefIdeal.Gen.h_S_)) (broadcastInDim Cert.PleNormBackwardRefIdeal.S8192x1 ![] Cert.PleNormBackwardRefIdeal.Gen.bcast_S_S8192x1 (constant Cert.PleNormBackwardRefIdeal.S_ .f32 0x44800000#32))) (broadcastInDim Cert.PleNormBackwardRefIdeal.S8192x1 ![] Cert.PleNormBackwardRefIdeal.Gen.bcast_S_S8192x1 (constant Cert.PleNormBackwardRefIdeal.S_ .f32 0x358637BD#32))))))) (constant Cert.PleNormBackwardRefIdeal.S_ .f32 0x00000000#32) Cert.PleNormBackwardRefIdeal.Gen.reducesTo_S8192x1024_S1024_d0 Cert.PleNormBackwardRefIdeal.Gen.h_S_)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem point_lt (t : Fin cfg0.N) : t.val < 16 := lt_of_lt_of_eq t.isLt N_0

theorem last_point (t : Fin cfg0.N) (h : t.val % 16 = 15) : t.val + 1 = cfg0.N := by
  have := point_lt t
  exact (by omega : t.val + 1 = 16).trans N_0.symm

theorem dx_after (c : Dev nD) (t : Fin cfg0.N) (j : S512x1024.Idx) : (outsAt0 m c t.val t.isLt).1 j
    = k0_pay1 (iblk m c 4 t) (k0_pay7 (iblk m c 0 t) (iblk m c 1 t) (iblk m c 2 t) (iblk m c 3 t)) (k0_pay8 (iblk m c 2 t)) j := by
  have hN := point_lt t
  rcases Nat.eq_zero_or_pos t.val with h | h
  · rw [outsAt0_A m c t (by omega) (by omega)]
    frame_out
  · rw [outsAt0_B m c t (by omega) (by omega)]
    frame_out

theorem final_dx (c : Dev nD) : (dats m 0 c).arrAt 5 cfg0.N = refDx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, dx_after]
  pointwise [k0_pay1, k0_pay7, k0_pay8, k0_pay4, k0_pay3, k0_pay2, refDx]
  blk_point [iblk, V, idx t]

theorem g_step (c : Dev nD) (t : Fin cfg0.N) (h : ¬t.val % 16 = 0) (j : S1x1024.Idx) : (outsAt0 m c t.val t.isLt).2 j
    = (outsAt0 m c (t.val - 1) (Nat.lt_of_le_of_lt (Nat.sub_le _ _) t.isLt)).2 j + k0_pay5 (iblk m c 0 t) (iblk m c 1 t) (iblk m c 2 t) j := by
  rw [outsAt0_B m c t h (by omega)]; frame_out
  unfold k0_pay6
  pointwise

theorem final_g (c : Dev nD) : (dats m 0 c).arrAt 6 cfg0.N = refG (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_last (fun n h => (outsAt0 m c n h).2) 16 (fun _ => 0)
    (fun t j => k0_pay5 (F := Ideal) (iblk m c 0 t) (iblk m c 1 t) (iblk m c 2 t) j)
    (fun t h j => by
      have := point_lt t
      rw [outsAt0_A m c t h (by omega)]; frame_out
      exact (zero_add _).symm)
    (fun t h j => g_step m c t h j)
    (le_of_eq N_0) t (last_point t ((flush0_6 t).mp hf)) _, zero_add]
  pointwise [k0_pay5, k0_pay4, k0_pay3, k0_pay2, refG]
  refine Fin.sum_mul_add_congr fun s k hl => ?_
  blk_point [iblk, V, idx t, idx s]

end Cert.PleNormBackwardValue

end
-- ==== Proof.FfnNormBackwardValue.lean ====
/-
  The backward pass of the FFN's norm: blocks of 512 rows, and the sum over them.
-/
module

public import proofs.«01_k».proof.Proof.Gen.FfnNormBackwardIdeal.Value
public import proofs.«01_k».proof.Proof.Gen.FfnNormBackwardRefIdeal.Run
public import Idealize.ShloMosaic.Lib.Pipeline.ValueKit

@[expose] public section

set_option maxRecDepth 16384

noncomputable section

namespace Cert.FfnNormBackwardValue

open Cert.FfnNormBackwardIdeal Cert.FfnNormBackwardIdeal.Gen Idealize.ShloMosaic Idealize.ShloMosaic.TcCoe Idealize.SL.Sem
open Idealize.ShloMosaic.Pipeline (Dat)

abbrev refDx (d : FVec Ideal S8192x5632 .bf16) (w : FVec Ideal S1024x5632 .bf16) (x : FVec Ideal S8192x1024 .f32) (g : FVec Ideal S1x1024 .f32) (r : FVec Ideal S8192x1024 .f32) : FVec Ideal S8192x1024 .f32 :=
  addf r (mulf (broadcastInDim Cert.FfnNormBackwardRefIdeal.S8192x1024 ![0, 1] Cert.FfnNormBackwardRefIdeal.Gen.bcast_S8192x1_S8192x1024_0_1 (Host.rsqrt (addf (Host.divf (broadcastInDim Cert.FfnNormBackwardRefIdeal.S8192x1 ![0] Cert.FfnNormBackwardRefIdeal.Gen.bcast_S8192_S8192x1_0 (Host.reduceAdd (mulf x x) (constant Cert.FfnNormBackwardRefIdeal.S_ .f32 0x00000000#32) Cert.FfnNormBackwardRefIdeal.Gen.reducesTo_S8192x1024_S8192_d1 Cert.FfnNormBackwardRefIdeal.Gen.h_S_)) (broadcastInDim Cert.FfnNormBackwardRefIdeal.S8192x1 ![] Cert.FfnNormBackwardRefIdeal.Gen.bcast_S_S8192x1 (constant Cert.FfnNormBackwardRefIdeal.S_ .f32 0x44800000#32))) (broadcastInDim Cert.FfnNormBackwardRefIdeal.S8192x1 ![] Cert.FfnNormBackwardRefIdeal.Gen.bcast_S_S8192x1 (constant Cert.FfnNormBackwardRefIdeal.S_ .f32 0x358637BD#32))))) (subf (mulf (Host.dotGeneral Cert.FfnNormBackwardRefIdeal.dot_S8192x5632_S5632x1024_S8192x1024_1_0_0_1_n_n none (extf .f32 d Cert.FfnNormBackwardRefIdeal.Gen.bitsLt_bf16_f32) (transpose Cert.FfnNormBackwardRefIdeal.S5632x1024 [1, 0] (extf .f32 w Cert.FfnNormBackwardRefIdeal.Gen.bitsLt_bf16_f32) Cert.FfnNormBackwardRefIdeal.Gen.transposes_S1024x5632_S5632x1024_1_0)) (broadcastInDim Cert.FfnNormBackwardRefIdeal.S8192x1024 ![0, 1] Cert.FfnNormBackwardRefIdeal.Gen.bcast_S1x1024_S8192x1024_0_1 g)) (mulf (mulf x (broadcastInDim Cert.FfnNormBackwardRefIdeal.S8192x1024 ![0, 1] Cert.FfnNormBackwardRefIdeal.Gen.bcast_S8192x1_S8192x1024_0_1 (Host.rsqrt (addf (Host.divf (broadcastInDim Cert.FfnNormBackwardRefIdeal.S8192x1 ![0] Cert.FfnNormBackwardRefIdeal.Gen.bcast_S8192_S8192x1_0 (Host.reduceAdd (mulf x x) (constant Cert.FfnNormBackwardRefIdeal.S_ .f32 0x00000000#32) Cert.FfnNormBackwardRefIdeal.Gen.reducesTo_S8192x1024_S8192_d1 Cert.FfnNormBackwardRefIdeal.Gen.h_S_)) (broadcastInDim Cert.FfnNormBackwardRefIdeal.S8192x1 ![] Cert.FfnNormBackwardRefIdeal.Gen.bcast_S_S8192x1 (constant Cert.FfnNormBackwardRefIdeal.S_ .f32 0x44800000#32))) (broadcastInDim Cert.FfnNormBackwardRefIdeal.S8192x1 ![] Cert.FfnNormBackwardRefIdeal.Gen.bcast_S_S8192x1 (constant Cert.FfnNormBackwardRefIdeal.S_ .f32 0x358637BD#32)))))) (broadcastInDim Cert.FfnNormBackwardRefIdeal.S8192x1024 ![0, 1] Cert.FfnNormBackwardRefIdeal.Gen.bcast_S8192x1_S8192x1024_0_1 (Host.divf (broadcastInDim Cert.FfnNormBackwardRefIdeal.S8192x1 ![0] Cert.FfnNormBackwardRefIdeal.Gen.bcast_S8192_S8192x1_0 (Host.reduceAdd (mulf (mulf (Host.dotGeneral Cert.FfnNormBackwardRefIdeal.dot_S8192x5632_S5632x1024_S8192x1024_1_0_0_1_n_n none (extf .f32 d Cert.FfnNormBackwardRefIdeal.Gen.bitsLt_bf16_f32) (transpose Cert.FfnNormBackwardRefIdeal.S5632x1024 [1, 0] (extf .f32 w Cert.FfnNormBackwardRefIdeal.Gen.bitsLt_bf16_f32) Cert.FfnNormBackwardRefIdeal.Gen.transposes_S1024x5632_S5632x1024_1_0)) (broadcastInDim Cert.FfnNormBackwardRefIdeal.S8192x1024 ![0, 1] Cert.FfnNormBackwardRefIdeal.Gen.bcast_S1x1024_S8192x1024_0_1 g)) (mulf x (broadcastInDim Cert.FfnNormBackwardRefIdeal.S8192x1024 ![0, 1] Cert.FfnNormBackwardRefIdeal.Gen.bcast_S8192x1_S8192x1024_0_1 (Host.rsqrt (addf (Host.divf (broadcastInDim Cert.FfnNormBackwardRefIdeal.S8192x1 ![0] Cert.FfnNormBackwardRefIdeal.Gen.bcast_S8192_S8192x1_0 (Host.reduceAdd (mulf x x) (constant Cert.FfnNormBackwardRefIdeal.S_ .f32 0x00000000#32) Cert.FfnNormBackwardRefIdeal.Gen.reducesTo_S8192x1024_S8192_d1 Cert.FfnNormBackwardRefIdeal.Gen.h_S_)) (broadcastInDim Cert.FfnNormBackwardRefIdeal.S8192x1 ![] Cert.FfnNormBackwardRefIdeal.Gen.bcast_S_S8192x1 (constant Cert.FfnNormBackwardRefIdeal.S_ .f32 0x44800000#32))) (broadcastInDim Cert.FfnNormBackwardRefIdeal.S8192x1 ![] Cert.FfnNormBackwardRefIdeal.Gen.bcast_S_S8192x1 (constant Cert.FfnNormBackwardRefIdeal.S_ .f32 0x358637BD#32))))))) (constant Cert.FfnNormBackwardRefIdeal.S_ .f32 0x00000000#32) Cert.FfnNormBackwardRefIdeal.Gen.reducesTo_S8192x1024_S8192_d1 Cert.FfnNormBackwardRefIdeal.Gen.h_S_)) (broadcastInDim Cert.FfnNormBackwardRefIdeal.S8192x1 ![] Cert.FfnNormBackwardRefIdeal.Gen.bcast_S_S8192x1 (constant Cert.FfnNormBackwardRefIdeal.S_ .f32 0x44800000#32)))))))

abbrev refG (d : FVec Ideal S8192x5632 .bf16) (w : FVec Ideal S1024x5632 .bf16) (x : FVec Ideal S8192x1024 .f32) : FVec Ideal S1x1024 .f32 :=
  broadcastInDim Cert.FfnNormBackwardRefIdeal.S1x1024 ![1] Cert.FfnNormBackwardRefIdeal.Gen.bcast_S1024_S1x1024_1 (Host.reduceAdd (mulf (Host.dotGeneral Cert.FfnNormBackwardRefIdeal.dot_S8192x5632_S5632x1024_S8192x1024_1_0_0_1_n_n none (extf .f32 d Cert.FfnNormBackwardRefIdeal.Gen.bitsLt_bf16_f32) (transpose Cert.FfnNormBackwardRefIdeal.S5632x1024 [1, 0] (extf .f32 w Cert.FfnNormBackwardRefIdeal.Gen.bitsLt_bf16_f32) Cert.FfnNormBackwardRefIdeal.Gen.transposes_S1024x5632_S5632x1024_1_0)) (mulf x (broadcastInDim Cert.FfnNormBackwardRefIdeal.S8192x1024 ![0, 1] Cert.FfnNormBackwardRefIdeal.Gen.bcast_S8192x1_S8192x1024_0_1 (Host.rsqrt (addf (Host.divf (broadcastInDim Cert.FfnNormBackwardRefIdeal.S8192x1 ![0] Cert.FfnNormBackwardRefIdeal.Gen.bcast_S8192_S8192x1_0 (Host.reduceAdd (mulf x x) (constant Cert.FfnNormBackwardRefIdeal.S_ .f32 0x00000000#32) Cert.FfnNormBackwardRefIdeal.Gen.reducesTo_S8192x1024_S8192_d1 Cert.FfnNormBackwardRefIdeal.Gen.h_S_)) (broadcastInDim Cert.FfnNormBackwardRefIdeal.S8192x1 ![] Cert.FfnNormBackwardRefIdeal.Gen.bcast_S_S8192x1 (constant Cert.FfnNormBackwardRefIdeal.S_ .f32 0x44800000#32))) (broadcastInDim Cert.FfnNormBackwardRefIdeal.S8192x1 ![] Cert.FfnNormBackwardRefIdeal.Gen.bcast_S_S8192x1 (constant Cert.FfnNormBackwardRefIdeal.S_ .f32 0x358637BD#32))))))) (constant Cert.FfnNormBackwardRefIdeal.S_ .f32 0x00000000#32) Cert.FfnNormBackwardRefIdeal.Gen.reducesTo_S8192x1024_S1024_d0 Cert.FfnNormBackwardRefIdeal.Gen.h_S_)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem point_lt (t : Fin cfg0.N) : t.val < 16 := lt_of_lt_of_eq t.isLt N_0

theorem last_point (t : Fin cfg0.N) (h : t.val % 16 = 15) : t.val + 1 = cfg0.N := by
  have := point_lt t
  exact (by omega : t.val + 1 = 16).trans N_0.symm

theorem dx_after (c : Dev nD) (t : Fin cfg0.N) (j : S512x1024.Idx) : (outsAt0 m c t.val t.isLt).1 j
    = k0_pay1 (iblk m c 4 t) (k0_pay7 (iblk m c 0 t) (iblk m c 1 t) (iblk m c 2 t) (iblk m c 3 t)) (k0_pay8 (iblk m c 2 t)) j := by
  have hN := point_lt t
  rcases Nat.eq_zero_or_pos t.val with h | h
  · rw [outsAt0_A m c t (by omega) (by omega)]
    frame_out
  · rw [outsAt0_B m c t (by omega) (by omega)]
    frame_out

theorem final_dx (c : Dev nD) : (dats m 0 c).arrAt 5 cfg0.N = refDx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, dx_after]
  pointwise [k0_pay1, k0_pay7, k0_pay8, k0_pay4, k0_pay3, k0_pay2, refDx]
  blk_point [iblk, V, idx t]

theorem g_step (c : Dev nD) (t : Fin cfg0.N) (h : ¬t.val % 16 = 0) (j : S1x1024.Idx) : (outsAt0 m c t.val t.isLt).2 j
    = (outsAt0 m c (t.val - 1) (Nat.lt_of_le_of_lt (Nat.sub_le _ _) t.isLt)).2 j + k0_pay5 (iblk m c 0 t) (iblk m c 1 t) (iblk m c 2 t) j := by
  rw [outsAt0_B m c t h (by omega)]; frame_out
  unfold k0_pay6
  pointwise

theorem final_g (c : Dev nD) : (dats m 0 c).arrAt 6 cfg0.N = refG (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_last (fun n h => (outsAt0 m c n h).2) 16 (fun _ => 0)
    (fun t j => k0_pay5 (F := Ideal) (iblk m c 0 t) (iblk m c 1 t) (iblk m c 2 t) j)
    (fun t h j => by
      have := point_lt t
      rw [outsAt0_A m c t h (by omega)]; frame_out
      exact (zero_add _).symm)
    (fun t h j => g_step m c t h j)
    (le_of_eq N_0) t (last_point t ((flush0_6 t).mp hf)) _, zero_add]
  pointwise [k0_pay5, k0_pay4, k0_pay3, k0_pay2, refG]
  refine Fin.sum_mul_add_congr fun s k hl => ?_
  blk_point [iblk, V, idx t, idx s]

end Cert.FfnNormBackwardValue

end
-- ==== Proof.GradPleProjValue.lean ====
/-
  The gradient of the per-layer embedding's projection: the accumulated products of eight blocks of 1024 rows are the product over the rows.
-/
module

public import proofs.«01_k».proof.Proof.Gen.GradPleProjIdeal.Value
public import proofs.«01_k».proof.Proof.Gen.GradPleProjRefIdeal.Run
public import Idealize.ShloMosaic.Lib.Pipeline.ValueKit
public import Idealize.ShloMosaic.Lib.Pipeline.ReadBack

@[expose] public section

set_option maxRecDepth 16384

noncomputable section

namespace Cert.GradPleProjValue

open Cert.GradPleProjIdeal Cert.GradPleProjIdeal.Gen Idealize.ShloMosaic Idealize.ShloMosaic.TcCoe Idealize.SL.Sem
open Idealize.ShloMosaic.Pipeline (Dat)

abbrev ref (a : FVec Ideal S8192x256 .f32) (b : FVec Ideal S8192x1024 .bf16) : FVec Ideal S256x1024 .bf16 :=
  truncf .bf16 (Host.dotGeneral Cert.GradPleProjRefIdeal.dot_S256x8192_S8192x1024_S256x1024_1_0_0_1_n_n none (transpose Cert.GradPleProjRefIdeal.S256x8192 [1, 0] a Cert.GradPleProjRefIdeal.Gen.transposes_S8192x256_S256x8192_1_0) (extf .f32 b Cert.GradPleProjRefIdeal.Gen.bitsLt_bf16_f32)) Cert.GradPleProjRefIdeal.Gen.bitsLt_bf16_f32

section Block

variable (a : Vec Ideal S1024x256 .f32) (b : Vec Ideal S1024x1024 .bf16)

theorem pay_reset (j : S256x1024.Idx) : k0_pay2 a b j = ∑ k : Fin 1024, a (ix2 k (j 0)) * b (ix2 k (j 1)) := by
  pointwise [k0_pay2, k0_pay1]

theorem pay_step (acc : Vec Ideal S256x1024 .f32) (j : S256x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S256x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x256 .f32 from iblk m c 0 t) (ix2 k (j 0)) * (show FVec Ideal S1024x1024 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradPleProjValue

end
-- ==== Proof.GradPleGateValue.lean ====
/-
  The gradient of the per-layer embedding's gate: the accumulated products of eight blocks of 1024 rows are the product over the rows.
-/
module

public import proofs.«01_k».proof.Proof.Gen.GradPleGateIdeal.Value
public import proofs.«01_k».proof.Proof.Gen.GradPleGateRefIdeal.Run
public import Idealize.ShloMosaic.Lib.Pipeline.ValueKit
public import Idealize.ShloMosaic.Lib.Pipeline.ReadBack

@[expose] public section

set_option maxRecDepth 16384

noncomputable section

namespace Cert.GradPleGateValue

open Cert.GradPleGateIdeal Cert.GradPleGateIdeal.Gen Idealize.ShloMosaic Idealize.ShloMosaic.TcCoe Idealize.SL.Sem
open Idealize.ShloMosaic.Pipeline (Dat)

abbrev ref (a : FVec Ideal S8192x1024 .bf16) (b : FVec Ideal S8192x1024 .bf16) : FVec Ideal S1024x1024 .bf16 :=
  truncf .bf16 (Host.dotGeneral Cert.GradPleGateRefIdeal.dot_S1024x8192_S8192x1024_S1024x1024_1_0_0_1_n_n none (transpose Cert.GradPleGateRefIdeal.S1024x8192 [1, 0] (extf .f32 a Cert.GradPleGateRefIdeal.Gen.bitsLt_bf16_f32) Cert.GradPleGateRefIdeal.Gen.transposes_S8192x1024_S1024x8192_1_0) (extf .f32 b Cert.GradPleGateRefIdeal.Gen.bitsLt_bf16_f32)) Cert.GradPleGateRefIdeal.Gen.bitsLt_bf16_f32

section Block

variable (a : Vec Ideal S1024x1024 .bf16) (b : Vec Ideal S1024x1024 .bf16)

theorem pay_reset (j : S1024x1024.Idx) : k0_pay2 a b j = ∑ k : Fin 1024, a (ix2 k (j 0)) * b (ix2 k (j 1)) := by
  pointwise [k0_pay2, k0_pay1]

theorem pay_step (acc : Vec Ideal S1024x1024 .f32) (j : S1024x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S1024x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x1024 .bf16 from iblk m c 0 t) (ix2 k (j 0)) * (show FVec Ideal S1024x1024 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradPleGateValue

end
-- ==== Proof.GradFfnOutValue.lean ====
/-
  The gradient of the FFN's second weight: the accumulated products of eight blocks of 1024 rows are the product over the rows.
-/
module

public import proofs.«01_k».proof.Proof.Gen.GradFfnOutIdeal.Value
public import proofs.«01_k».proof.Proof.Gen.GradFfnOutRefIdeal.Run
public import Idealize.ShloMosaic.Lib.Pipeline.ValueKit
public import Idealize.ShloMosaic.Lib.Pipeline.ReadBack

@[expose] public section

set_option maxRecDepth 16384

noncomputable section

namespace Cert.GradFfnOutValue

open Cert.GradFfnOutIdeal Cert.GradFfnOutIdeal.Gen Idealize.ShloMosaic Idealize.ShloMosaic.TcCoe Idealize.SL.Sem
open Idealize.ShloMosaic.Pipeline (Dat)

abbrev ref (a : FVec Ideal S8192x2816 .bf16) (b : FVec Ideal S8192x1024 .f32) : FVec Ideal S2816x1024 .bf16 :=
  truncf .bf16 (Host.dotGeneral Cert.GradFfnOutRefIdeal.dot_S2816x8192_S8192x1024_S2816x1024_1_0_0_1_n_n none (transpose Cert.GradFfnOutRefIdeal.S2816x8192 [1, 0] (extf .f32 a Cert.GradFfnOutRefIdeal.Gen.bitsLt_bf16_f32) Cert.GradFfnOutRefIdeal.Gen.transposes_S8192x2816_S2816x8192_1_0) b) Cert.GradFfnOutRefIdeal.Gen.bitsLt_bf16_f32

section Block

variable (a : Vec Ideal S1024x1408 .bf16) (b : Vec Ideal S1024x1024 .f32)

theorem pay_reset (j : S1408x1024.Idx) : k0_pay2 a b j = ∑ k : Fin 1024, a (ix2 k (j 0)) * b (ix2 k (j 1)) := by
  pointwise [k0_pay2, k0_pay1]

theorem pay_step (acc : Vec Ideal S1408x1024 .f32) (j : S1408x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem point_lt (t : Fin cfg0.N) : t.val < 16 := lt_of_lt_of_eq t.isLt N_0

theorem stored (c : Dev nD) (t : Fin cfg0.N) (h : t.val % 8 = 7) (j : S1408x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x1408 .bf16 from iblk m c 0 t) (ix2 k (j 0)) * (show FVec Ideal S1024x1024 .f32 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradFfnOutValue

end
-- ==== Proof.GradFfnInValue.lean ====
/-
  The gradient of the FFN's first weight: the accumulated products of eight blocks of 1024 rows are the product over the rows.
-/
module

public import proofs.«01_k».proof.Proof.Gen.GradFfnInIdeal.Value
public import proofs.«01_k».proof.Proof.Gen.GradFfnInRefIdeal.Run
public import Idealize.ShloMosaic.Lib.Pipeline.ValueKit
public import Idealize.ShloMosaic.Lib.Pipeline.ReadBack

@[expose] public section

set_option maxRecDepth 16384

noncomputable section

namespace Cert.GradFfnInValue

open Cert.GradFfnInIdeal Cert.GradFfnInIdeal.Gen Idealize.ShloMosaic Idealize.ShloMosaic.TcCoe Idealize.SL.Sem
open Idealize.ShloMosaic.Pipeline (Dat)

abbrev ref (a : FVec Ideal S8192x1024 .bf16) (b : FVec Ideal S8192x5632 .bf16) : FVec Ideal S1024x5632 .bf16 :=
  truncf .bf16 (Host.dotGeneral Cert.GradFfnInRefIdeal.dot_S1024x8192_S8192x5632_S1024x5632_1_0_0_1_n_n none (transpose Cert.GradFfnInRefIdeal.S1024x8192 [1, 0] (extf .f32 a Cert.GradFfnInRefIdeal.Gen.bitsLt_bf16_f32) Cert.GradFfnInRefIdeal.Gen.transposes_S8192x1024_S1024x8192_1_0) (extf .f32 b Cert.GradFfnInRefIdeal.Gen.bitsLt_bf16_f32)) Cert.GradFfnInRefIdeal.Gen.bitsLt_bf16_f32

section Block

variable (a : Vec Ideal S1024x1024 .bf16) (b : Vec Ideal S1024x1408 .bf16)

theorem pay_reset (j : S1024x1408.Idx) : k0_pay2 a b j = ∑ k : Fin 1024, a (ix2 k (j 0)) * b (ix2 k (j 1)) := by
  pointwise [k0_pay2, k0_pay1]

theorem pay_step (acc : Vec Ideal S1024x1408 .f32) (j : S1024x1408.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem point_lt (t : Fin cfg0.N) : t.val < 32 := lt_of_lt_of_eq t.isLt N_0

theorem stored (c : Dev nD) (t : Fin cfg0.N) (h : t.val % 8 = 7) (j : S1024x1408.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x1024 .bf16 from iblk m c 0 t) (ix2 k (j 0)) * (show FVec Ideal S1024x1408 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradFfnInValue

end
-- ==== Proof.GradOutValue.lean ====
/-
  The gradient of the mixer's output weight: the accumulated products of eight blocks of 1024 rows are the product over the rows.
-/
module

public import proofs.«01_k».proof.Proof.Gen.GradOutIdeal.Value
public import proofs.«01_k».proof.Proof.Gen.GradOutRefIdeal.Run
public import Idealize.ShloMosaic.Lib.Pipeline.ValueKit
public import Idealize.ShloMosaic.Lib.Pipeline.ReadBack

@[expose] public section

set_option maxRecDepth 16384

noncomputable section

namespace Cert.GradOutValue

open Cert.GradOutIdeal Cert.GradOutIdeal.Gen Idealize.ShloMosaic Idealize.ShloMosaic.TcCoe Idealize.SL.Sem
open Idealize.ShloMosaic.Pipeline (Dat)

abbrev ref (a : FVec Ideal S8192x1024 .bf16) (b : FVec Ideal S8192x1024 .f32) : FVec Ideal S1024x1024 .bf16 :=
  truncf .bf16 (Host.dotGeneral Cert.GradOutRefIdeal.dot_S1024x8192_S8192x1024_S1024x1024_1_0_0_1_n_n none (transpose Cert.GradOutRefIdeal.S1024x8192 [1, 0] (extf .f32 a Cert.GradOutRefIdeal.Gen.bitsLt_bf16_f32) Cert.GradOutRefIdeal.Gen.transposes_S8192x1024_S1024x8192_1_0) b) Cert.GradOutRefIdeal.Gen.bitsLt_bf16_f32

section Block

variable (a : Vec Ideal S1024x1024 .bf16) (b : Vec Ideal S1024x1024 .f32)

theorem pay_reset (j : S1024x1024.Idx) : k0_pay2 a b j = ∑ k : Fin 1024, a (ix2 k (j 0)) * b (ix2 k (j 1)) := by
  pointwise [k0_pay2, k0_pay1]

theorem pay_step (acc : Vec Ideal S1024x1024 .f32) (j : S1024x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S1024x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x1024 .bf16 from iblk m c 0 t) (ix2 k (j 0)) * (show FVec Ideal S1024x1024 .f32 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradOutValue

end
-- ==== Proof.GradGatesValue.lean ====
/-
  The gradient of the mixer's gates: the accumulated products of eight blocks of 1024 rows are the product over the rows.
-/
module

public import proofs.«01_k».proof.Proof.Gen.GradGatesIdeal.Value
public import proofs.«01_k».proof.Proof.Gen.GradGatesRefIdeal.Run
public import Idealize.ShloMosaic.Lib.Pipeline.ValueKit
public import Idealize.ShloMosaic.Lib.Pipeline.ReadBack

@[expose] public section

set_option maxRecDepth 16384

noncomputable section

namespace Cert.GradGatesValue

open Cert.GradGatesIdeal Cert.GradGatesIdeal.Gen Idealize.ShloMosaic Idealize.ShloMosaic.TcCoe Idealize.SL.Sem
open Idealize.ShloMosaic.Pipeline (Dat)

abbrev ref (a : FVec Ideal S8192x1024 .bf16) (b : FVec Ideal S8192x4096 .bf16) : FVec Ideal S1024x4096 .bf16 :=
  truncf .bf16 (Host.dotGeneral Cert.GradGatesRefIdeal.dot_S1024x8192_S8192x4096_S1024x4096_1_0_0_1_n_n none (transpose Cert.GradGatesRefIdeal.S1024x8192 [1, 0] (extf .f32 a Cert.GradGatesRefIdeal.Gen.bitsLt_bf16_f32) Cert.GradGatesRefIdeal.Gen.transposes_S8192x1024_S1024x8192_1_0) (extf .f32 b Cert.GradGatesRefIdeal.Gen.bitsLt_bf16_f32)) Cert.GradGatesRefIdeal.Gen.bitsLt_bf16_f32

section Block

variable (a : Vec Ideal S1024x1024 .bf16) (b : Vec Ideal S1024x1024 .bf16)

theorem pay_reset (j : S1024x1024.Idx) : k0_pay2 a b j = ∑ k : Fin 1024, a (ix2 k (j 0)) * b (ix2 k (j 1)) := by
  pointwise [k0_pay2, k0_pay1]

theorem pay_step (acc : Vec Ideal S1024x1024 .f32) (j : S1024x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem point_lt (t : Fin cfg0.N) : t.val < 32 := lt_of_lt_of_eq t.isLt N_0

theorem stored (c : Dev nD) (t : Fin cfg0.N) (h : t.val % 8 = 7) (j : S1024x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x1024 .bf16 from iblk m c 0 t) (ix2 k (j 0)) * (show FVec Ideal S1024x1024 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradGatesValue

end
-- ==== Proof.GradProjAValue.lean ====
/-
  The gradient of the first branches' input weight: the accumulated products of eight blocks of 1024 rows are the product over the rows.
-/
module

public import proofs.«01_k».proof.Proof.Gen.GradProjAIdeal.Value
public import proofs.«01_k».proof.Proof.Gen.GradProjARefIdeal.Run
public import Idealize.ShloMosaic.Lib.Pipeline.ValueKit
public import Idealize.ShloMosaic.Lib.Pipeline.ReadBack

@[expose] public section

set_option maxRecDepth 16384

noncomputable section

namespace Cert.GradProjAValue

open Cert.GradProjAIdeal Cert.GradProjAIdeal.Gen Idealize.ShloMosaic Idealize.ShloMosaic.TcCoe Idealize.SL.Sem
open Idealize.ShloMosaic.Pipeline (Dat)

abbrev ref (a : FVec Ideal S8192x1024 .bf16) (b : FVec Ideal S8192x1792 .bf16) : FVec Ideal S1024x1792 .bf16 :=
  truncf .bf16 (Host.dotGeneral Cert.GradProjARefIdeal.dot_S1024x8192_S8192x1792_S1024x1792_1_0_0_1_n_n none (transpose Cert.GradProjARefIdeal.S1024x8192 [1, 0] (extf .f32 a Cert.GradProjARefIdeal.Gen.bitsLt_bf16_f32) Cert.GradProjARefIdeal.Gen.transposes_S8192x1024_S1024x8192_1_0) (extf .f32 b Cert.GradProjARefIdeal.Gen.bitsLt_bf16_f32)) Cert.GradProjARefIdeal.Gen.bitsLt_bf16_f32

section Block

variable (a : Vec Ideal S1024x1024 .bf16) (b : Vec Ideal S1024x896 .bf16)

theorem pay_reset (j : S1024x896.Idx) : k0_pay2 a b j = ∑ k : Fin 1024, a (ix2 k (j 0)) * b (ix2 k (j 1)) := by
  pointwise [k0_pay2, k0_pay1]

theorem pay_step (acc : Vec Ideal S1024x896 .f32) (j : S1024x896.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem point_lt (t : Fin cfg0.N) : t.val < 16 := lt_of_lt_of_eq t.isLt N_0

theorem stored (c : Dev nD) (t : Fin cfg0.N) (h : t.val % 8 = 7) (j : S1024x896.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x1024 .bf16 from iblk m c 0 t) (ix2 k (j 0)) * (show FVec Ideal S1024x896 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradProjAValue

end
-- ==== Proof.GradProjQkvValue.lean ====
/-
  The gradient of the last branch's input weight: the accumulated products of eight blocks of 1024 rows are the product over the rows.
-/
module

public import proofs.«01_k».proof.Proof.Gen.GradProjQkvIdeal.Value
public import proofs.«01_k».proof.Proof.Gen.GradProjQkvRefIdeal.Run
public import Idealize.ShloMosaic.Lib.Pipeline.ValueKit
public import Idealize.ShloMosaic.Lib.Pipeline.ReadBack

@[expose] public section

set_option maxRecDepth 16384

noncomputable section

namespace Cert.GradProjQkvValue

open Cert.GradProjQkvIdeal Cert.GradProjQkvIdeal.Gen Idealize.ShloMosaic Idealize.ShloMosaic.TcCoe Idealize.SL.Sem
open Idealize.ShloMosaic.Pipeline (Dat)

abbrev ref (a : FVec Ideal S8192x1024 .bf16) (b : FVec Ideal S8192x768 .bf16) : FVec Ideal S1024x768 .bf16 :=
  truncf .bf16 (Host.dotGeneral Cert.GradProjQkvRefIdeal.dot_S1024x8192_S8192x768_S1024x768_1_0_0_1_n_n none (transpose Cert.GradProjQkvRefIdeal.S1024x8192 [1, 0] (extf .f32 a Cert.GradProjQkvRefIdeal.Gen.bitsLt_bf16_f32) Cert.GradProjQkvRefIdeal.Gen.transposes_S8192x1024_S1024x8192_1_0) (extf .f32 b Cert.GradProjQkvRefIdeal.Gen.bitsLt_bf16_f32)) Cert.GradProjQkvRefIdeal.Gen.bitsLt_bf16_f32

section Block

variable (a : Vec Ideal S1024x1024 .bf16) (b : Vec Ideal S1024x768 .bf16)

theorem pay_reset (j : S1024x768.Idx) : k0_pay2 a b j = ∑ k : Fin 1024, a (ix2 k (j 0)) * b (ix2 k (j 1)) := by
  pointwise [k0_pay2, k0_pay1]

theorem pay_step (acc : Vec Ideal S1024x768 .f32) (j : S1024x768.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S1024x768.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x1024 .bf16 from iblk m c 0 t) (ix2 k (j 0)) * (show FVec Ideal S1024x768 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradProjQkvValue

end
-- ==== Proof.GradBranch0Value.lean ====
/-
  The gradient of the first branch's merging weight: the accumulated products of eight blocks of 1024 rows are the product over the rows.
-/
module

public import proofs.«01_k».proof.Proof.Gen.GradBranch0Ideal.Value
public import proofs.«01_k».proof.Proof.Gen.GradBranch0RefIdeal.Run
public import Idealize.ShloMosaic.Lib.Pipeline.ValueKit
public import Idealize.ShloMosaic.Lib.Pipeline.ReadBack

@[expose] public section

set_option maxRecDepth 16384

noncomputable section

namespace Cert.GradBranch0Value

open Cert.GradBranch0Ideal Cert.GradBranch0Ideal.Gen Idealize.ShloMosaic Idealize.ShloMosaic.TcCoe Idealize.SL.Sem
open Idealize.ShloMosaic.Pipeline (Dat)

abbrev ref (a : FVec Ideal S8192x256 .bf16) (b : FVec Ideal S8192x4096 .bf16) : FVec Ideal S256x1024 .bf16 :=
  truncf .bf16 (Host.dotGeneral Cert.GradBranch0RefIdeal.dot_S256x8192_S8192x1024_S256x1024_1_0_0_1_n_n none (transpose Cert.GradBranch0RefIdeal.S256x8192 [1, 0] (extf .f32 a Cert.GradBranch0RefIdeal.Gen.bitsLt_bf16_f32) Cert.GradBranch0RefIdeal.Gen.transposes_S8192x256_S256x8192_1_0) (extf .f32 (extractStridedSlice Cert.GradBranch0RefIdeal.S8192x1024 ![0, 0] b Cert.GradBranch0RefIdeal.Gen.slices_S8192x4096_S8192x1024_0_0) Cert.GradBranch0RefIdeal.Gen.bitsLt_bf16_f32)) Cert.GradBranch0RefIdeal.Gen.bitsLt_bf16_f32

section Block

variable (a : Vec Ideal S1024x256 .bf16) (b : Vec Ideal S1024x1024 .bf16)

theorem pay_reset (j : S256x1024.Idx) : k0_pay2 a b j = ∑ k : Fin 1024, a (ix2 k (j 0)) * b (ix2 k (j 1)) := by
  pointwise [k0_pay2, k0_pay1]

theorem pay_step (acc : Vec Ideal S256x1024 .f32) (j : S256x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S256x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x256 .bf16 from iblk m c 0 t) (ix2 k (j 0)) * (show FVec Ideal S1024x1024 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradBranch0Value

end
-- ==== Proof.GradBranch1Value.lean ====
/-
  The gradient of the second branch's merging weight: the accumulated products of eight blocks of 1024 rows are the product over the rows.
-/
module

public import proofs.«01_k».proof.Proof.Gen.GradBranch1Ideal.Value
public import proofs.«01_k».proof.Proof.Gen.GradBranch1RefIdeal.Run
public import Idealize.ShloMosaic.Lib.Pipeline.ValueKit
public import Idealize.ShloMosaic.Lib.Pipeline.ReadBack

@[expose] public section

set_option maxRecDepth 16384

noncomputable section

namespace Cert.GradBranch1Value

open Cert.GradBranch1Ideal Cert.GradBranch1Ideal.Gen Idealize.ShloMosaic Idealize.ShloMosaic.TcCoe Idealize.SL.Sem
open Idealize.ShloMosaic.Pipeline (Dat)

abbrev ref (a : FVec Ideal S8192x256 .f32) (b : FVec Ideal S8192x4096 .bf16) : FVec Ideal S256x1024 .bf16 :=
  truncf .bf16 (Host.dotGeneral Cert.GradBranch1RefIdeal.dot_S256x8192_S8192x1024_S256x1024_1_0_0_1_n_n none (transpose Cert.GradBranch1RefIdeal.S256x8192 [1, 0] a Cert.GradBranch1RefIdeal.Gen.transposes_S8192x256_S256x8192_1_0) (extf .f32 (extractStridedSlice Cert.GradBranch1RefIdeal.S8192x1024 ![0, 1024] b Cert.GradBranch1RefIdeal.Gen.slices_S8192x4096_S8192x1024_0_1024) Cert.GradBranch1RefIdeal.Gen.bitsLt_bf16_f32)) Cert.GradBranch1RefIdeal.Gen.bitsLt_bf16_f32

section Block

variable (a : Vec Ideal S1024x256 .f32) (b : Vec Ideal S1024x1024 .bf16)

theorem pay_reset (j : S256x1024.Idx) : k0_pay2 a b j = ∑ k : Fin 1024, a (ix2 k (j 0)) * b (ix2 k (j 1)) := by
  pointwise [k0_pay2, k0_pay1]

theorem pay_step (acc : Vec Ideal S256x1024 .f32) (j : S256x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 1] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S256x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x256 .f32 from iblk m c 0 t) (ix2 k (j 0)) * (show FVec Ideal S1024x1024 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradBranch1Value

end
-- ==== Proof.GradBranch2Value.lean ====
/-
  The gradient of the third branch's merging weight: the accumulated products of eight blocks of 1024 rows are the product over the rows.
-/
module

public import proofs.«01_k».proof.Proof.Gen.GradBranch2Ideal.Value
public import proofs.«01_k».proof.Proof.Gen.GradBranch2RefIdeal.Run
public import Idealize.ShloMosaic.Lib.Pipeline.ValueKit
public import Idealize.ShloMosaic.Lib.Pipeline.ReadBack

@[expose] public section

set_option maxRecDepth 16384

noncomputable section

namespace Cert.GradBranch2Value

open Cert.GradBranch2Ideal Cert.GradBranch2Ideal.Gen Idealize.ShloMosaic Idealize.ShloMosaic.TcCoe Idealize.SL.Sem
open Idealize.ShloMosaic.Pipeline (Dat)

abbrev ref (a : FVec Ideal S8192x256 .bf16) (b : FVec Ideal S8192x4096 .bf16) : FVec Ideal S256x1024 .bf16 :=
  truncf .bf16 (Host.dotGeneral Cert.GradBranch2RefIdeal.dot_S256x8192_S8192x1024_S256x1024_1_0_0_1_n_n none (transpose Cert.GradBranch2RefIdeal.S256x8192 [1, 0] (extf .f32 a Cert.GradBranch2RefIdeal.Gen.bitsLt_bf16_f32) Cert.GradBranch2RefIdeal.Gen.transposes_S8192x256_S256x8192_1_0) (extf .f32 (extractStridedSlice Cert.GradBranch2RefIdeal.S8192x1024 ![0, 2048] b Cert.GradBranch2RefIdeal.Gen.slices_S8192x4096_S8192x1024_0_2048) Cert.GradBranch2RefIdeal.Gen.bitsLt_bf16_f32)) Cert.GradBranch2RefIdeal.Gen.bitsLt_bf16_f32

section Block

variable (a : Vec Ideal S1024x256 .bf16) (b : Vec Ideal S1024x1024 .bf16)

theorem pay_reset (j : S256x1024.Idx) : k0_pay2 a b j = ∑ k : Fin 1024, a (ix2 k (j 0)) * b (ix2 k (j 1)) := by
  pointwise [k0_pay2, k0_pay1]

theorem pay_step (acc : Vec Ideal S256x1024 .f32) (j : S256x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 2] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S256x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x256 .bf16 from iblk m c 0 t) (ix2 k (j 0)) * (show FVec Ideal S1024x1024 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradBranch2Value

end
-- ==== Proof.GradBranch3Value.lean ====
/-
  The gradient of the fourth branch's merging weight: the accumulated products of eight blocks of 1024 rows are the product over the rows.
-/
module

public import proofs.«01_k».proof.Proof.Gen.GradBranch3Ideal.Value
public import proofs.«01_k».proof.Proof.Gen.GradBranch3RefIdeal.Run
public import Idealize.ShloMosaic.Lib.Pipeline.ValueKit
public import Idealize.ShloMosaic.Lib.Pipeline.ReadBack

@[expose] public section

set_option maxRecDepth 16384

noncomputable section

namespace Cert.GradBranch3Value

open Cert.GradBranch3Ideal Cert.GradBranch3Ideal.Gen Idealize.ShloMosaic Idealize.ShloMosaic.TcCoe Idealize.SL.Sem
open Idealize.ShloMosaic.Pipeline (Dat)

abbrev ref (a : FVec Ideal S8192x256 .bf16) (b : FVec Ideal S8192x4096 .bf16) : FVec Ideal S256x1024 .bf16 :=
  truncf .bf16 (Host.dotGeneral Cert.GradBranch3RefIdeal.dot_S256x8192_S8192x1024_S256x1024_1_0_0_1_n_n none (transpose Cert.GradBranch3RefIdeal.S256x8192 [1, 0] (extf .f32 a Cert.GradBranch3RefIdeal.Gen.bitsLt_bf16_f32) Cert.GradBranch3RefIdeal.Gen.transposes_S8192x256_S256x8192_1_0) (extf .f32 (extractStridedSlice Cert.GradBranch3RefIdeal.S8192x1024 ![0, 3072] b Cert.GradBranch3RefIdeal.Gen.slices_S8192x4096_S8192x1024_0_3072) Cert.GradBranch3RefIdeal.Gen.bitsLt_bf16_f32)) Cert.GradBranch3RefIdeal.Gen.bitsLt_bf16_f32

section Block

variable (a : Vec Ideal S1024x256 .bf16) (b : Vec Ideal S1024x1024 .bf16)

theorem pay_reset (j : S256x1024.Idx) : k0_pay2 a b j = ∑ k : Fin 1024, a (ix2 k (j 0)) * b (ix2 k (j 1)) := by
  pointwise [k0_pay2, k0_pay1]

theorem pay_step (acc : Vec Ideal S256x1024 .f32) (j : S256x1024.Idx) :
    k0_pay3 a b acc j = acc j + ∑ k : Fin 1024, a (ix2 k (j 0)) * b (ix2 k (j 1)) := by
  pointwise [k0_pay3, k0_pay1]

end Block

variable (m : (ℓ : Loc nD τ sig) → Buf (Elt Ideal) ℓ)

theorem idx : ∀ t : Fin cfg0.N, win0_0.index t = ![t.val % 8, 0] ∧ win0_1.index t = ![t.val % 8, 3] ∧ win0_2.index t = ![0, 0] :=
  (by decide +kernel : ∀ t : Fin grid0.N, _)

theorem point_lt (t : Fin cfg0.N) : t.val < 8 := lt_of_lt_of_eq t.isLt N_0

theorem stored (c : Dev nD) (t : Fin cfg0.N) (h : t.val % 8 = 7) (j : S256x1024.Idx) :
    (outsAt0 m c t.val t.isLt).1 j = (outsAt0 m c t.val t.isLt).2 j := by
  rw [outsAt0_C m c t (by omega) (by omega) h]
  frame_out
  pointwise [k0_pay4]

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0)
    (fun t j => ∑ k : Fin 1024, (show FVec Ideal S1024x256 .bf16 from iblk m c 0 t) (ix2 k (j 0)) * (show FVec Ideal S1024x1024 .bf16 from iblk m c 1 t) (ix2 k (j 1)))
    (fun t h j => by
      have hN := point_lt t
      rw [outsAt0_A m c t h (by omega) (by omega)]; frame_out
      rw [pay_reset, zero_add])
    (fun t h j => by
      have hN := point_lt t
      rcases Nat.lt_or_ge (t.val % 8) 7 with h7 | h7
      · rw [outsAt0_B m c t h (by omega) (by omega)]; frame_out
        rw [pay_step, read_unread_whole]
      · rw [outsAt0_C m c t h (by omega) (by omega)]; frame_out
        rw [pay_step, read_unread_whole])
    t ((flush0_2 t).mp hf) _, zero_add]
  pointwise [ref]
  refine Fin.sum_mul_add_congr fun s k hl => ?_
  have hN := point_lt t
  blk_point [iblk, V, idx t, idx ⟨_, Pipeline.run_point_lt_of_flush t ((flush0_2 t).mp hf) s⟩]

end Cert.GradBranch3Value

end
-- ==== Proof.ProjAValue.lean ====
/-
  The first branches' projection of the normalised rows.
-/
module

public import proofs.«01_k».proof.Proof.Gen.ProjAIdeal.Value
public import proofs.«01_k».proof.Proof.Gen.ProjARefIdeal.Run
public import Idealize.ShloMosaic.Lib.Pipeline.ValueKit

@[expose] public section

set_option maxRecDepth 16384

noncomputable section

namespace Cert.ProjAValue

open Cert.ProjAIdeal Cert.ProjAIdeal.Gen Idealize.ShloMosaic Idealize.ShloMosaic.TcCoe Idealize.SL.Sem
open Idealize.ShloMosaic.Pipeline (Dat)

abbrev ref (x : FVec Ideal S8192x1024 .f32) (g : FVec Ideal S1x1024 .f32) (w : FVec Ideal S1024x1792 .bf16) : FVec Ideal S8192x1792 .f32 :=
  Host.dotGeneral Cert.ProjARefIdeal.dot_S8192x1024_S1024x1792_S8192x1792_1_0_0_1_n_n none (mulf (mulf x (broadcastInDim Cert.ProjARefIdeal.S8192x1024 ![0, 1] Cert.ProjARefIdeal.Gen.bcast_S8192x1_S8192x1024_0_1 (Host.rsqrt (addf (Host.divf (broadcastInDim Cert.ProjARefIdeal.S8192x1 ![0] Cert.ProjARefIdeal.Gen.bcast_S8192_S8192x1_0 (Host.reduceAdd (mulf x x) (constant Cert.ProjARefIdeal.S_ .f32 0x00000000#32) Cert.ProjARefIdeal.Gen.reducesTo_S8192x1024_S8192_d1 Cert.ProjARefIdeal.Gen.h_S_)) (broadcastInDim Cert.ProjARefIdeal.S8192x1 ![] Cert.ProjARefIdeal.Gen.bcast_S_S8192x1 (constant Cert.ProjARefIdeal.S_ .f32 0x44800000#32))) (broadcastInDim Cert.ProjARefIdeal.S8192x1 ![] Cert.ProjARefIdeal.Gen.bcast_S_S8192x1 (constant Cert.ProjARefIdeal.S_ .f32 0x358637BD#32)))))) (broadcastInDim Cert.ProjARefIdeal.S8192x1024 ![0, 1] Cert.ProjARefIdeal.Gen.bcast_S1x1024_S8192x1024_0_1 g)) (extf .f32 w Cert.ProjARefIdeal.Gen.bitsLt_bf16_f32)

abbrev refH (x : FVec Ideal S8192x1024 .f32) (g : FVec Ideal S1x1024 .f32) : FVec Ideal S8192x1024 .bf16 :=
  truncf .bf16 (mulf (mulf x (broadcastInDim Cert.ProjARefIdeal.S8192x1024 ![0, 1] Cert.ProjARefIdeal.Gen.bcast_S8192x1_S8192x1024_0_1 (Host.rsqrt (addf (Host.divf (broadcastInDim Cert.ProjARefIdeal.S8192x1 ![0] Cert.ProjARefIdeal.Gen.bcast_S8192_S8192x1_0 (Host.reduceAdd (mulf x x) (constant Cert.ProjARefIdeal.S_ .f32 0x00000000#32) Cert.ProjARefIdeal.Gen.reducesTo_S8192x1024_S8192_d1 Cert.ProjARefIdeal.Gen.h_S_)) (broadcastInDim Cert.ProjARefIdeal.S8192x1 ![] Cert.ProjARefIdeal.Gen.bcast_S_S8192x1 (constant Cert.ProjARefIdeal.S_ .f32 0x44800000#32))) (broadcastInDim Cert.ProjARefIdeal.S8192x1 ![] Cert.ProjARefIdeal.Gen.bcast_S_S8192x1 (constant Cert.ProjARefIdeal.S_ .f32 0x358637BD#32)))))) (broadcastInDim Cert.ProjARefIdeal.S8192x1024 ![0, 1] Cert.ProjARefIdeal.Gen.bcast_S1x1024_S8192x1024_0_1 g)) Cert.ProjARefIdeal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final_h (c : Dev nD) : (dats m 0 c).arrAt 4 cfg0.N = refH (m ((c : Thread nD τ).loc main_arg0)) (m ((c : Thread nD τ).loc main_arg1)) := by
  refine (dats m 0 c).arrAt_eq_of_covers 4 _ (by decide +kernel) fun t _ y => ?_
  blk_simp
  rw [after0_4]; unfold outsAt0; frame_out
  pointwise [k0_pay1, refH]
  blk_point [iblk, V, idx t]

/-- The block's product, whichever of its tiles it is stored by. -/
theorem core (c : Dev nD) (t : Fin cfg0.N) (y : S512x1792.Idx) :
    (∑ k : Fin 1024, (show FVec Ideal S512x1024 .bf16 from k0_pay1 (iblk m c 0 t) (iblk m c 1 t)) (ix2 (y 0) k) * (show FVec Ideal S1024x1792 .bf16 from iblk m c 2 t) (ix2 k (y 1)))
    = ref (m ((c : Thread nD τ).loc main_arg0)) (m ((c : Thread nD τ).loc main_arg1)) (m ((c : Thread nD τ).loc main_arg2)) ((win0_3.blk t).view.emb y) := by
  pointwise [k0_pay1, ref]
  blk_point [iblk, V, idx t]

theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  refine Eq.trans ?_ (core m c t y)
  canon_tiles x h
  all_goals
    pointwise [k0_pay2, k0_pay3]
    blk_point

end Cert.ProjAValue

end
-- ==== Proof.ProjQkvValue.lean ====
/-
  The last branch's projection of the normalised rows.
-/
module

public import proofs.«01_k».proof.Proof.Gen.ProjQkvIdeal.Value
public import proofs.«01_k».proof.Proof.Gen.ProjQkvRefIdeal.Run
public import Idealize.ShloMosaic.Lib.Pipeline.ValueKit

@[expose] public section

set_option maxRecDepth 16384

noncomputable section

namespace Cert.ProjQkvValue

open Cert.ProjQkvIdeal Cert.ProjQkvIdeal.Gen Idealize.ShloMosaic Idealize.ShloMosaic.TcCoe Idealize.SL.Sem
open Idealize.ShloMosaic.Pipeline (Dat)

abbrev ref (x : FVec Ideal S8192x1024 .f32) (g : FVec Ideal S1x1024 .f32) (w : FVec Ideal S1024x768 .bf16) : FVec Ideal S8192x768 .bf16 :=
  truncf .bf16 (Host.dotGeneral Cert.ProjQkvRefIdeal.dot_S8192x1024_S1024x768_S8192x768_1_0_0_1_n_n none (mulf (mulf x (broadcastInDim Cert.ProjQkvRefIdeal.S8192x1024 ![0, 1] Cert.ProjQkvRefIdeal.Gen.bcast_S8192x1_S8192x1024_0_1 (Host.rsqrt (addf (Host.divf (broadcastInDim Cert.ProjQkvRefIdeal.S8192x1 ![0] Cert.ProjQkvRefIdeal.Gen.bcast_S8192_S8192x1_0 (Host.reduceAdd (mulf x x) (constant Cert.ProjQkvRefIdeal.S_ .f32 0x00000000#32) Cert.ProjQkvRefIdeal.Gen.reducesTo_S8192x1024_S8192_d1 Cert.ProjQkvRefIdeal.Gen.h_S_)) (broadcastInDim Cert.ProjQkvRefIdeal.S8192x1 ![] Cert.ProjQkvRefIdeal.Gen.bcast_S_S8192x1 (constant Cert.ProjQkvRefIdeal.S_ .f32 0x44800000#32))) (broadcastInDim Cert.ProjQkvRefIdeal.S8192x1 ![] Cert.ProjQkvRefIdeal.Gen.bcast_S_S8192x1 (constant Cert.ProjQkvRefIdeal.S_ .f32 0x358637BD#32)))))) (broadcastInDim Cert.ProjQkvRefIdeal.S8192x1024 ![0, 1] Cert.ProjQkvRefIdeal.Gen.bcast_S1x1024_S8192x1024_0_1 g)) (extf .f32 w Cert.ProjQkvRefIdeal.Gen.bitsLt_bf16_f32)) Cert.ProjQkvRefIdeal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  pointwise [k0_pay1, k0_pay2, ref]
  blk_point [iblk, V, idx t]

end Cert.ProjQkvValue

end
-- ==== Proof.ProjGatesValue.lean ====
/-
  The merging gates of the normalised rows.
-/
module

public import proofs.«01_k».proof.Proof.Gen.ProjGatesIdeal.Value
public import proofs.«01_k».proof.Proof.Gen.ProjGatesRefIdeal.Run
public import Idealize.ShloMosaic.Lib.Pipeline.ValueKit

@[expose] public section

set_option maxRecDepth 16384

noncomputable section

namespace Cert.ProjGatesValue

open Cert.ProjGatesIdeal Cert.ProjGatesIdeal.Gen Idealize.ShloMosaic Idealize.ShloMosaic.TcCoe Idealize.SL.Sem
open Idealize.ShloMosaic.Pipeline (Dat)

abbrev ref (x : FVec Ideal S8192x1024 .f32) (g : FVec Ideal S1x1024 .f32) (w : FVec Ideal S1024x4096 .bf16) : FVec Ideal S8192x4096 .bf16 :=
  truncf .bf16 (Host.divf (broadcastInDim Cert.ProjGatesRefIdeal.S8192x4096 ![] Cert.ProjGatesRefIdeal.Gen.bcast_S_S8192x4096 (constant Cert.ProjGatesRefIdeal.S_ .f32 0x3F800000#32)) (addf (broadcastInDim Cert.ProjGatesRefIdeal.S8192x4096 ![] Cert.ProjGatesRefIdeal.Gen.bcast_S_S8192x4096 (constant Cert.ProjGatesRefIdeal.S_ .f32 0x3F800000#32)) (Host.exp (Host.negf (Host.dotGeneral Cert.ProjGatesRefIdeal.dot_S8192x1024_S1024x4096_S8192x4096_1_0_0_1_n_n none (mulf (mulf x (broadcastInDim Cert.ProjGatesRefIdeal.S8192x1024 ![0, 1] Cert.ProjGatesRefIdeal.Gen.bcast_S8192x1_S8192x1024_0_1 (Host.rsqrt (addf (Host.divf (broadcastInDim Cert.ProjGatesRefIdeal.S8192x1 ![0] Cert.ProjGatesRefIdeal.Gen.bcast_S8192_S8192x1_0 (Host.reduceAdd (mulf x x) (constant Cert.ProjGatesRefIdeal.S_ .f32 0x00000000#32) Cert.ProjGatesRefIdeal.Gen.reducesTo_S8192x1024_S8192_d1 Cert.ProjGatesRefIdeal.Gen.h_S_)) (broadcastInDim Cert.ProjGatesRefIdeal.S8192x1 ![] Cert.ProjGatesRefIdeal.Gen.bcast_S_S8192x1 (constant Cert.ProjGatesRefIdeal.S_ .f32 0x44800000#32))) (broadcastInDim Cert.ProjGatesRefIdeal.S8192x1 ![] Cert.ProjGatesRefIdeal.Gen.bcast_S_S8192x1 (constant Cert.ProjGatesRefIdeal.S_ .f32 0x358637BD#32)))))) (broadcastInDim Cert.ProjGatesRefIdeal.S8192x1024 ![0, 1] Cert.ProjGatesRefIdeal.Gen.bcast_S1x1024_S8192x1024_0_1 g)) (extf .f32 w Cert.ProjGatesRefIdeal.Gen.bitsLt_bf16_f32)))))) Cert.ProjGatesRefIdeal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The kernel's sigmoid. -/
def gate (a : EReal) : EReal := Ideal.div (Ideal.ofBits .f32 0x3F800000#32) (Ideal.ofBits .f32 0x3F800000#32 + Ideal.exp (Ideal.ofBits .f32 0x00000000#32 - a))

/-- The block's product, whichever of its tiles it is stored by. -/
theorem core (c : Dev nD) (t : Fin cfg0.N) (y : S512x4096.Idx) :
    gate (∑ k : Fin 1024, (show FVec Ideal S512x1024 .bf16 from k0_pay3 (iblk m c 0 t) (iblk m c 1 t)) (ix2 (y 0) k) * (show FVec Ideal S1024x4096 .bf16 from iblk m c 2 t) (ix2 k (y 1)))
    = ref (m ((c : Thread nD τ).loc main_arg0)) (m ((c : Thread nD τ).loc main_arg1)) (m ((c : Thread nD τ).loc main_arg2)) ((win0_3.blk t).view.emb y) := by
  pointwise [k0_pay3, ref, gate]
  rw [zero_sub]
  blk_point [iblk, V, idx t]

theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  refine Eq.trans ?_ (core m c t y)
  canon_tiles x h
  all_goals
    pointwise [gate, k0_pay1, k0_pay2, k0_pay4, k0_pay5, k0_pay6, k0_pay7, k0_pay8, k0_pay9, k0_pay10, k0_pay11]
    blk_point

end Cert.ProjGatesValue

end
-- ==== Proof.FfnInValue.lean ====
/-
  The FFN's first projection of the normalised rows.
-/
module

public import proofs.«01_k».proof.Proof.Gen.FfnInIdeal.Value
public import proofs.«01_k».proof.Proof.Gen.FfnInRefIdeal.Run
public import Idealize.ShloMosaic.Lib.Pipeline.ValueKit

@[expose] public section

set_option maxRecDepth 16384

noncomputable section

namespace Cert.FfnInValue

open Cert.FfnInIdeal Cert.FfnInIdeal.Gen Idealize.ShloMosaic Idealize.ShloMosaic.TcCoe Idealize.SL.Sem
open Idealize.ShloMosaic.Pipeline (Dat)

abbrev ref (x : FVec Ideal S8192x1024 .f32) (g : FVec Ideal S1x1024 .f32) (w : FVec Ideal S1024x5632 .bf16) : FVec Ideal S8192x5632 .bf16 :=
  truncf .bf16 (Host.dotGeneral Cert.FfnInRefIdeal.dot_S8192x1024_S1024x5632_S8192x5632_1_0_0_1_n_n none (mulf (mulf x (broadcastInDim Cert.FfnInRefIdeal.S8192x1024 ![0, 1] Cert.FfnInRefIdeal.Gen.bcast_S8192x1_S8192x1024_0_1 (Host.rsqrt (addf (Host.divf (broadcastInDim Cert.FfnInRefIdeal.S8192x1 ![0] Cert.FfnInRefIdeal.Gen.bcast_S8192_S8192x1_0 (Host.reduceAdd (mulf x x) (constant Cert.FfnInRefIdeal.S_ .f32 0x00000000#32) Cert.FfnInRefIdeal.Gen.reducesTo_S8192x1024_S8192_d1 Cert.FfnInRefIdeal.Gen.h_S_)) (broadcastInDim Cert.FfnInRefIdeal.S8192x1 ![] Cert.FfnInRefIdeal.Gen.bcast_S_S8192x1 (constant Cert.FfnInRefIdeal.S_ .f32 0x44800000#32))) (broadcastInDim Cert.FfnInRefIdeal.S8192x1 ![] Cert.FfnInRefIdeal.Gen.bcast_S_S8192x1 (constant Cert.FfnInRefIdeal.S_ .f32 0x358637BD#32)))))) (broadcastInDim Cert.FfnInRefIdeal.S8192x1024 ![0, 1] Cert.FfnInRefIdeal.Gen.bcast_S1x1024_S8192x1024_0_1 g)) (extf .f32 w Cert.FfnInRefIdeal.Gen.bitsLt_bf16_f32)) Cert.FfnInRefIdeal.Gen.bitsLt_bf16_f32

abbrev refH (x : FVec Ideal S8192x1024 .f32) (g : FVec Ideal S1x1024 .f32) : FVec Ideal S8192x1024 .bf16 :=
  truncf .bf16 (mulf (mulf x (broadcastInDim Cert.FfnInRefIdeal.S8192x1024 ![0, 1] Cert.FfnInRefIdeal.Gen.bcast_S8192x1_S8192x1024_0_1 (Host.rsqrt (addf (Host.divf (broadcastInDim Cert.FfnInRefIdeal.S8192x1 ![0] Cert.FfnInRefIdeal.Gen.bcast_S8192_S8192x1_0 (Host.reduceAdd (mulf x x) (constant Cert.FfnInRefIdeal.S_ .f32 0x00000000#32) Cert.FfnInRefIdeal.Gen.reducesTo_S8192x1024_S8192_d1 Cert.FfnInRefIdeal.Gen.h_S_)) (broadcastInDim Cert.FfnInRefIdeal.S8192x1 ![] Cert.FfnInRefIdeal.Gen.bcast_S_S8192x1 (constant Cert.FfnInRefIdeal.S_ .f32 0x44800000#32))) (broadcastInDim Cert.FfnInRefIdeal.S8192x1 ![] Cert.FfnInRefIdeal.Gen.bcast_S_S8192x1 (constant Cert.FfnInRefIdeal.S_ .f32 0x358637BD#32)))))) (broadcastInDim Cert.FfnInRefIdeal.S8192x1024 ![0, 1] Cert.FfnInRefIdeal.Gen.bcast_S1x1024_S8192x1024_0_1 g)) Cert.FfnInRefIdeal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final_h (c : Dev nD) : (dats m 0 c).arrAt 4 cfg0.N = refH (m ((c : Thread nD τ).loc main_arg0)) (m ((c : Thread nD τ).loc main_arg1)) := by
  refine (dats m 0 c).arrAt_eq_of_covers 4 _ (by decide +kernel) fun t _ y => ?_
  blk_simp
  rw [after0_4]; unfold outsAt0; frame_out
  pointwise [k0_pay1, refH]
  blk_point [iblk, V, idx t]

/-- The block's product, whichever of its tiles it is stored by. -/
theorem core (c : Dev nD) (t : Fin cfg0.N) (y : S512x5632.Idx) :
    (∑ k : Fin 1024, (show FVec Ideal S512x1024 .bf16 from k0_pay1 (iblk m c 0 t) (iblk m c 1 t)) (ix2 (y 0) k) * (show FVec Ideal S1024x5632 .bf16 from iblk m c 2 t) (ix2 k (y 1)))
    = ref (m ((c : Thread nD τ).loc main_arg0)) (m ((c : Thread nD τ).loc main_arg1)) (m ((c : Thread nD τ).loc main_arg2)) ((win0_3.blk t).view.emb y) := by
  pointwise [k0_pay1, ref]
  blk_point [iblk, V, idx t]

theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  refine Eq.trans ?_ (core m c t y)
  canon_tiles x h
  all_goals
    pointwise [k0_pay2, k0_pay3, k0_pay4, k0_pay5, k0_pay6, k0_pay7, k0_pay8, k0_pay9, k0_pay10, k0_pay11, k0_pay12]
    blk_point

end Cert.FfnInValue

end
-- ==== Proof.PleGateValue.lean ====
/-
  The per-layer embedding's gate of the normalised rows.
-/
module

public import proofs.«01_k».proof.Proof.Gen.PleGateIdeal.Value
public import proofs.«01_k».proof.Proof.Gen.PleGateRefIdeal.Run
public import Idealize.ShloMosaic.Lib.Pipeline.ValueKit

@[expose] public section

set_option maxRecDepth 16384

noncomputable section

namespace Cert.PleGateValue

open Cert.PleGateIdeal Cert.PleGateIdeal.Gen Idealize.ShloMosaic Idealize.ShloMosaic.TcCoe Idealize.SL.Sem
open Idealize.ShloMosaic.Pipeline (Dat)

abbrev ref (x : FVec Ideal S8192x1024 .f32) (g : FVec Ideal S1x1024 .f32) (w : FVec Ideal S1024x1024 .bf16) : FVec Ideal S8192x1024 .f32 :=
  Host.divf (broadcastInDim Cert.PleGateRefIdeal.S8192x1024 ![] Cert.PleGateRefIdeal.Gen.bcast_S_S8192x1024 (constant Cert.PleGateRefIdeal.S_ .f32 0x3F800000#32)) (addf (broadcastInDim Cert.PleGateRefIdeal.S8192x1024 ![] Cert.PleGateRefIdeal.Gen.bcast_S_S8192x1024 (constant Cert.PleGateRefIdeal.S_ .f32 0x3F800000#32)) (Host.exp (Host.negf (Host.dotGeneral Cert.PleGateRefIdeal.dot_S8192x1024_S1024x1024_S8192x1024_1_0_0_1_n_n none (mulf (mulf x (broadcastInDim Cert.PleGateRefIdeal.S8192x1024 ![0, 1] Cert.PleGateRefIdeal.Gen.bcast_S8192x1_S8192x1024_0_1 (Host.rsqrt (addf (Host.divf (broadcastInDim Cert.PleGateRefIdeal.S8192x1 ![0] Cert.PleGateRefIdeal.Gen.bcast_S8192_S8192x1_0 (Host.reduceAdd (mulf x x) (constant Cert.PleGateRefIdeal.S_ .f32 0x00000000#32) Cert.PleGateRefIdeal.Gen.reducesTo_S8192x1024_S8192_d1 Cert.PleGateRefIdeal.Gen.h_S_)) (broadcastInDim Cert.PleGateRefIdeal.S8192x1 ![] Cert.PleGateRefIdeal.Gen.bcast_S_S8192x1 (constant Cert.PleGateRefIdeal.S_ .f32 0x44800000#32))) (broadcastInDim Cert.PleGateRefIdeal.S8192x1 ![] Cert.PleGateRefIdeal.Gen.bcast_S_S8192x1 (constant Cert.PleGateRefIdeal.S_ .f32 0x358637BD#32)))))) (broadcastInDim Cert.PleGateRefIdeal.S8192x1024 ![0, 1] Cert.PleGateRefIdeal.Gen.bcast_S1x1024_S8192x1024_0_1 g)) (extf .f32 w Cert.PleGateRefIdeal.Gen.bitsLt_bf16_f32)))))

abbrev refH (x : FVec Ideal S8192x1024 .f32) (g : FVec Ideal S1x1024 .f32) : FVec Ideal S8192x1024 .bf16 :=
  truncf .bf16 (mulf (mulf x (broadcastInDim Cert.PleGateRefIdeal.S8192x1024 ![0, 1] Cert.PleGateRefIdeal.Gen.bcast_S8192x1_S8192x1024_0_1 (Host.rsqrt (addf (Host.divf (broadcastInDim Cert.PleGateRefIdeal.S8192x1 ![0] Cert.PleGateRefIdeal.Gen.bcast_S8192_S8192x1_0 (Host.reduceAdd (mulf x x) (constant Cert.PleGateRefIdeal.S_ .f32 0x00000000#32) Cert.PleGateRefIdeal.Gen.reducesTo_S8192x1024_S8192_d1 Cert.PleGateRefIdeal.Gen.h_S_)) (broadcastInDim Cert.PleGateRefIdeal.S8192x1 ![] Cert.PleGateRefIdeal.Gen.bcast_S_S8192x1 (constant Cert.PleGateRefIdeal.S_ .f32 0x44800000#32))) (broadcastInDim Cert.PleGateRefIdeal.S8192x1 ![] Cert.PleGateRefIdeal.Gen.bcast_S_S8192x1 (constant Cert.PleGateRefIdeal.S_ .f32 0x358637BD#32)))))) (broadcastInDim Cert.PleGateRefIdeal.S8192x1024 ![0, 1] Cert.PleGateRefIdeal.Gen.bcast_S1x1024_S8192x1024_0_1 g)) Cert.PleGateRefIdeal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final_h (c : Dev nD) : (dats m 0 c).arrAt 4 cfg0.N = refH (m ((c : Thread nD τ).loc main_arg0)) (m ((c : Thread nD τ).loc main_arg1)) := by
  refine (dats m 0 c).arrAt_eq_of_covers 4 _ (by decide +kernel) fun t _ y => ?_
  blk_simp
  rw [after0_4]; unfold outsAt0; frame_out
  pointwise [k0_pay2, refH]
  blk_point [iblk, V, idx t]

/-- The kernel's sigmoid. -/
def gate (a : EReal) : EReal := Ideal.div (Ideal.ofBits .f32 0x3F800000#32) (Ideal.ofBits .f32 0x3F800000#32 + Ideal.exp (Ideal.ofBits .f32 0x00000000#32 - a))

/-- The block's product, whichever of its tiles it is stored by. -/
theorem core (c : Dev nD) (t : Fin cfg0.N) (y : S512x1024.Idx) :
    gate (∑ k : Fin 1024, (show FVec Ideal S512x1024 .bf16 from k0_pay2 (iblk m c 0 t) (iblk m c 1 t)) (ix2 (y 0) k) * (show FVec Ideal S1024x1024 .bf16 from iblk m c 2 t) (ix2 k (y 1)))
    = ref (m ((c : Thread nD τ).loc main_arg0)) (m ((c : Thread nD τ).loc main_arg1)) (m ((c : Thread nD τ).loc main_arg2)) ((win0_3.blk t).view.emb y) := by
  pointwise [k0_pay2, ref, gate]
  rw [zero_sub]
  blk_point [iblk, V, idx t]

theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  refine Eq.trans ?_ (core m c t y)
  canon_tiles x h
  all_goals
    pointwise [gate, k0_pay1, k0_pay3]
    blk_point

end Cert.PleGateValue

end
-- ==== Proof.MergeValue.lean ====
/-
  The merge of the four branches, row block by row block.
-/
module

public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

namespace Cert.MergeValue

open Cert.MergeIdeal Cert.MergeIdeal.Gen Idealize.ShloMosaic Idealize.ShloMosaic.TcCoe Idealize.SL.Sem
open Idealize.ShloMosaic.Pipeline (Dat)

abbrev refX (ya : FVec Ideal S8192x256 .bf16) (yb : FVec Ideal S8192x256 .f32) (yc yd : FVec Ideal S8192x256 .bf16) (g : FVec Ideal S8192x4096 .bf16) (w : FVec Ideal S4x256x1024 .bf16) (o : FVec Ideal S1024x1024 .bf16) (x : FVec Ideal S8192x1024 .f32) : FVec Ideal S8192x1024 .f32 :=
  addf x (Host.dotGeneral Cert.MergeRefIdeal.dot_S8192x1024_S1024x1024_S8192x1024_1_0_0_1_n_n none (addf (addf (addf (addf (broadcastInDim Cert.MergeRefIdeal.S8192x1024 ![] Cert.MergeRefIdeal.Gen.bcast_S_S8192x1024 (constant Cert.MergeRefIdeal.S_ .f32 0x00000000#32)) (mulf (extf .f32 (extractStridedSlice Cert.MergeRefIdeal.S8192x1024 ![0, 0] g Cert.MergeRefIdeal.Gen.slices_S8192x4096_S8192x1024_0_0) Cert.MergeRefIdeal.Gen.bitsLt_bf16_f32) (Host.dotGeneral Cert.MergeRefIdeal.dot_S8192x256_S256x1024_S8192x1024_1_0_0_1_n_n none (extf .f32 ya Cert.MergeRefIdeal.Gen.bitsLt_bf16_f32) (extf .f32 (shapeCast _ (extractStridedSlice Cert.MergeRefIdeal.S1x256x1024 ![0, 0, 0] w Cert.MergeRefIdeal.Gen.slices_S4x256x1024_S1x256x1024_0_0_0) Cert.MergeRefIdeal.Gen.shapeCasts_S1x256x1024_S256x1024) Cert.MergeRefIdeal.Gen.bitsLt_bf16_f32)))) (mulf (extf .f32 (extractStridedSlice Cert.MergeRefIdeal.S8192x1024 ![0, 1024] g Cert.MergeRefIdeal.Gen.slices_S8192x4096_S8192x1024_0_1024) Cert.MergeRefIdeal.Gen.bitsLt_bf16_f32) (Host.dotGeneral Cert.MergeRefIdeal.dot_S8192x256_S256x1024_S8192x1024_1_0_0_1_n_n none yb (extf .f32 (shapeCast _ (extractStridedSlice Cert.MergeRefIdeal.S1x256x1024 ![1, 0, 0] w Cert.MergeRefIdeal.Gen.slices_S4x256x1024_S1x256x1024_1_0_0) Cert.MergeRefIdeal.Gen.shapeCasts_S1x256x1024_S256x1024) Cert.MergeRefIdeal.Gen.bitsLt_bf16_f32)))) (mulf (extf .f32 (extractStridedSlice Cert.MergeRefIdeal.S8192x1024 ![0, 2048] g Cert.MergeRefIdeal.Gen.slices_S8192x4096_S8192x1024_0_2048) Cert.MergeRefIdeal.Gen.bitsLt_bf16_f32) (Host.dotGeneral Cert.MergeRefIdeal.dot_S8192x256_S256x1024_S8192x1024_1_0_0_1_n_n none (extf .f32 yc Cert.MergeRefIdeal.Gen.bitsLt_bf16_f32) (extf .f32 (shapeCast _ (extractStridedSlice Cert.MergeRefIdeal.S1x256x1024 ![2, 0, 0] w Cert.MergeRefIdeal.Gen.slices_S4x256x1024_S1x256x1024_2_0_0) Cert.MergeRefIdeal.Gen.shapeCasts_S1x256x1024_S256x1024) Cert.MergeRefIdeal.Gen.bitsLt_bf16_f32)))) (mulf (extf .f32 (extractStridedSlice Cert.MergeRefIdeal.S8192x1024 ![0, 3072] g Cert.MergeRefIdeal.Gen.slices_S8192x4096_S8192x1024_0_3072) Cert.MergeRefIdeal.Gen.bitsLt_bf16_f32) (Host.dotGeneral Cert.MergeRefIdeal.dot_S8192x256_S256x1024_S8192x1024_1_0_0_1_n_n none (extf .f32 yd Cert.MergeRefIdeal.Gen.bitsLt_bf16_f32) (extf .f32 (shapeCast _ (extractStridedSlice Cert.MergeRefIdeal.S1x256x1024 ![3, 0, 0] w Cert.MergeRefIdeal.Gen.slices_S4x256x1024_S1x256x1024_3_0_0) Cert.MergeRefIdeal.Gen.shapeCasts_S1x256x1024_S256x1024) Cert.MergeRefIdeal.Gen.bitsLt_bf16_f32)))) (extf .f32 o Cert.MergeRefIdeal.Gen.bitsLt_bf16_f32))

abbrev refM (ya : FVec Ideal S8192x256 .bf16) (yb : FVec Ideal S8192x256 .f32) (yc yd : FVec Ideal S8192x256 .bf16) (g : FVec Ideal S8192x4096 .bf16) (w : FVec Ideal S4x256x1024 .bf16) : FVec Ideal S8192x1024 .bf16 :=
  truncf .bf16 (addf (addf (addf (addf (broadcastInDim Cert.MergeRefIdeal.S8192x1024 ![] Cert.MergeRefIdeal.Gen.bcast_S_S8192x1024 (constant Cert.MergeRefIdeal.S_ .f32 0x00000000#32)) (mulf (extf .f32 (extractStridedSlice Cert.MergeRefIdeal.S8192x1024 ![0, 0] g Cert.MergeRefIdeal.Gen.slices_S8192x4096_S8192x1024_0_0) Cert.MergeRefIdeal.Gen.bitsLt_bf16_f32) (Host.dotGeneral Cert.MergeRefIdeal.dot_S8192x256_S256x1024_S8192x1024_1_0_0_1_n_n none (extf .f32 ya Cert.MergeRefIdeal.Gen.bitsLt_bf16_f32) (extf .f32 (shapeCast _ (extractStridedSlice Cert.MergeRefIdeal.S1x256x1024 ![0, 0, 0] w Cert.MergeRefIdeal.Gen.slices_S4x256x1024_S1x256x1024_0_0_0) Cert.MergeRefIdeal.Gen.shapeCasts_S1x256x1024_S256x1024) Cert.MergeRefIdeal.Gen.bitsLt_bf16_f32)))) (mulf (extf .f32 (extractStridedSlice Cert.MergeRefIdeal.S8192x1024 ![0, 1024] g Cert.MergeRefIdeal.Gen.slices_S8192x4096_S8192x1024_0_1024) Cert.MergeRefIdeal.Gen.bitsLt_bf16_f32) (Host.dotGeneral Cert.MergeRefIdeal.dot_S8192x256_S256x1024_S8192x1024_1_0_0_1_n_n none yb (extf .f32 (shapeCast _ (extractStridedSlice Cert.MergeRefIdeal.S1x256x1024 ![1, 0, 0] w Cert.MergeRefIdeal.Gen.slices_S4x256x1024_S1x256x1024_1_0_0) Cert.MergeRefIdeal.Gen.shapeCasts_S1x256x1024_S256x1024) Cert.MergeRefIdeal.Gen.bitsLt_bf16_f32)))) (mulf (extf .f32 (extractStridedSlice Cert.MergeRefIdeal.S8192x1024 ![0, 2048] g Cert.MergeRefIdeal.Gen.slices_S8192x4096_S8192x1024_0_2048) Cert.MergeRefIdeal.Gen.bitsLt_bf16_f32) (Host.dotGeneral Cert.MergeRefIdeal.dot_S8192x256_S256x1024_S8192x1024_1_0_0_1_n_n none (extf .f32 yc Cert.MergeRefIdeal.Gen.bitsLt_bf16_f32) (extf .f32 (shapeCast _ (extractStridedSlice Cert.MergeRefIdeal.S1x256x1024 ![2, 0, 0] w Cert.MergeRefIdeal.Gen.slices_S4x256x1024_S1x256x1024_2_0_0) Cert.MergeRefIdeal.Gen.shapeCasts_S1x256x1024_S256x1024) Cert.MergeRefIdeal.Gen.bitsLt_bf16_f32)))) (mulf (extf .f32 (extractStridedSlice Cert.MergeRefIdeal.S8192x1024 ![0, 3072] g Cert.MergeRefIdeal.Gen.slices_S8192x4096_S8192x1024_0_3072) Cert.MergeRefIdeal.Gen.bitsLt_bf16_f32) (Host.dotGeneral Cert.MergeRefIdeal.dot_S8192x256_S256x1024_S8192x1024_1_0_0_1_n_n none (extf .f32 yd Cert.MergeRefIdeal.Gen.bitsLt_bf16_f32) (extf .f32 (shapeCast _ (extractStridedSlice Cert.MergeRefIdeal.S1x256x1024 ![3, 0, 0] w Cert.MergeRefIdeal.Gen.slices_S4x256x1024_S1x256x1024_3_0_0) Cert.MergeRefIdeal.Gen.shapeCasts_S1x256x1024_S256x1024) Cert.MergeRefIdeal.Gen.bitsLt_bf16_f32)))) Cert.MergeRefIdeal.Gen.bitsLt_bf16_f32

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0, 0] ∧ win0_6.index t = ![0, 0] ∧ win0_7.index t = ![t.val, 0] ∧ win0_8.index t = ![t.val, 0] ∧ win0_9.index t = ![t.val, 0] :=
  (by decide +kernel : ∀ t : Fin grid0.N, _)

theorem final_m (c : Dev nD) : (dats m 0 c).arrAt 9 cfg0.N = refM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; frame_out
  pointwise [k0_pay1, k0_pay3, k0_pay4, k0_pay5, k0_pay6, refM]
  blk_point [iblk, V, idx t]

theorem final_x (c : Dev nD) : (dats m 0 c).arrAt 8 cfg0.N = refX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  pointwise [k0_pay2, k0_pay1, k0_pay3, k0_pay4, k0_pay5, k0_pay6, refX]
  blk_point [iblk, V, idx t]

end Cert.MergeValue

end
-- ==== Proof.MergeBackwardValue.lean ====
/-
  The backward pass of the branches' merge, row block by row block.
-/
module

public import proofs.«01_k».proof.Proof.Gen.MergeBackwardIdeal.Value
public import proofs.«01_k».proof.Proof.Gen.MergeBackwardRefIdeal.Run
public import Idealize.ShloMosaic.Lib.Pipeline.ValueKit

@[expose] public section

set_option maxRecDepth 16384

noncomputable section

namespace Cert.MergeBackwardValue

open Cert.MergeBackwardIdeal Cert.MergeBackwardIdeal.Gen Idealize.ShloMosaic Idealize.ShloMosaic.TcCoe Idealize.SL.Sem
open Idealize.ShloMosaic.Pipeline (Dat)

section Reference

variable (d : FVec Ideal S8192x1024 .f32) (ya : FVec Ideal S8192x256 .bf16) (yb : FVec Ideal S8192x256 .f32) (yc yd : FVec Ideal S8192x256 .bf16)
  (g : FVec Ideal S8192x4096 .bf16) (w : FVec Ideal S4x256x1024 .bf16) (o : FVec Ideal S1024x1024 .bf16)

/-- The gradient of the merged branches. -/
def merged : FVec Ideal Cert.MergeBackwardRefIdeal.S8192x1024 .f32 :=
  Host.dotGeneral Cert.MergeBackwardRefIdeal.dot_S8192x1024_S1024x1024_S8192x1024_1_0_0_1_n_n none d (transpose Cert.MergeBackwardRefIdeal.S1024x1024 [1, 0] (extf .f32 o Cert.MergeBackwardRefIdeal.Gen.bitsLt_bf16_f32) Cert.MergeBackwardRefIdeal.Gen.transposes_S1024x1024_S1024x1024_1_0)

def gate0 : FVec Ideal Cert.MergeBackwardRefIdeal.S8192x1024 .f32 :=
  extf .f32 (extractStridedSlice Cert.MergeBackwardRefIdeal.S8192x1024 ![0, 0] g Cert.MergeBackwardRefIdeal.Gen.slices_S8192x4096_S8192x1024_0_0) Cert.MergeBackwardRefIdeal.Gen.bitsLt_bf16_f32

def weights0 : FVec Ideal Cert.MergeBackwardRefIdeal.S256x1024 .f32 :=
  extf .f32 (shapeCast _ (extractStridedSlice Cert.MergeBackwardRefIdeal.S1x256x1024 ![0, 0, 0] w Cert.MergeBackwardRefIdeal.Gen.slices_S4x256x1024_S1x256x1024_0_0_0) Cert.MergeBackwardRefIdeal.Gen.shapeCasts_S1x256x1024_S256x1024) Cert.MergeBackwardRefIdeal.Gen.bitsLt_bf16_f32

def branch0 (ya : FVec Ideal Cert.MergeBackwardRefIdeal.S8192x256 .bf16) : FVec Ideal Cert.MergeBackwardRefIdeal.S8192x1024 .f32 :=
  Host.dotGeneral Cert.MergeBackwardRefIdeal.dot_S8192x256_S256x1024_S8192x1024_1_0_0_1_n_n none (extf .f32 ya Cert.MergeBackwardRefIdeal.Gen.bitsLt_bf16_f32) (weights0 w)

def gate1 : FVec Ideal Cert.MergeBackwardRefIdeal.S8192x1024 .f32 :=
  extf .f32 (extractStridedSlice Cert.MergeBackwardRefIdeal.S8192x1024 ![0, 1024] g Cert.MergeBackwardRefIdeal.Gen.slices_S8192x4096_S8192x1024_0_1024) Cert.MergeBackwardRefIdeal.Gen.bitsLt_bf16_f32

def weights1 : FVec Ideal Cert.MergeBackwardRefIdeal.S256x1024 .f32 :=
  extf .f32 (shapeCast _ (extractStridedSlice Cert.MergeBackwardRefIdeal.S1x256x1024 ![1, 0, 0] w Cert.MergeBackwardRefIdeal.Gen.slices_S4x256x1024_S1x256x1024_1_0_0) Cert.MergeBackwardRefIdeal.Gen.shapeCasts_S1x256x1024_S256x1024) Cert.MergeBackwardRefIdeal.Gen.bitsLt_bf16_f32

def branch1 (yb : FVec Ideal Cert.MergeBackwardRefIdeal.S8192x256 .f32) : FVec Ideal Cert.MergeBackwardRefIdeal.S8192x1024 .f32 :=
  Host.dotGeneral Cert.MergeBackwardRefIdeal.dot_S8192x256_S256x1024_S8192x1024_1_0_0_1_n_n none yb (weights1 w)

def gate2 : FVec Ideal Cert.MergeBackwardRefIdeal.S8192x1024 .f32 :=
  extf .f32 (extractStridedSlice Cert.MergeBackwardRefIdeal.S8192x1024 ![0, 2048] g Cert.MergeBackwardRefIdeal.Gen.slices_S8192x4096_S8192x1024_0_2048) Cert.MergeBackwardRefIdeal.Gen.bitsLt_bf16_f32

def weights2 : FVec Ideal Cert.MergeBackwardRefIdeal.S256x1024 .f32 :=
  extf .f32 (shapeCast _ (extractStridedSlice Cert.MergeBackwardRefIdeal.S1x256x1024 ![2, 0, 0] w Cert.MergeBackwardRefIdeal.Gen.slices_S4x256x1024_S1x256x1024_2_0_0) Cert.MergeBackwardRefIdeal.Gen.shapeCasts_S1x256x1024_S256x1024) Cert.MergeBackwardRefIdeal.Gen.bitsLt_bf16_f32

def branch2 (yc : FVec Ideal Cert.MergeBackwardRefIdeal.S8192x256 .bf16) : FVec Ideal Cert.MergeBackwardRefIdeal.S8192x1024 .f32 :=
  Host.dotGeneral Cert.MergeBackwardRefIdeal.dot_S8192x256_S256x1024_S8192x1024_1_0_0_1_n_n none (extf .f32 yc Cert.MergeBackwardRefIdeal.Gen.bitsLt_bf16_f32) (weights2 w)

def gate3 : FVec Ideal Cert.MergeBackwardRefIdeal.S8192x1024 .f32 :=
  extf .f32 (extractStridedSlice Cert.MergeBackwardRefIdeal.S8192x1024 ![0, 3072] g Cert.MergeBackwardRefIdeal.Gen.slices_S8192x4096_S8192x1024_0_3072) Cert.MergeBackwardRefIdeal.Gen.bitsLt_bf16_f32

def weights3 : FVec Ideal Cert.MergeBackwardRefIdeal.S256x1024 .f32 :=
  extf .f32 (shapeCast _ (extractStridedSlice Cert.MergeBackwardRefIdeal.S1x256x1024 ![3, 0, 0] w Cert.MergeBackwardRefIdeal.Gen.slices_S4x256x1024_S1x256x1024_3_0_0) Cert.MergeBackwardRefIdeal.Gen.shapeCasts_S1x256x1024_S256x1024) Cert.MergeBackwardRefIdeal.Gen.bitsLt_bf16_f32

def branch3 (yd : FVec Ideal Cert.MergeBackwardRefIdeal.S8192x256 .bf16) : FVec Ideal Cert.MergeBackwardRefIdeal.S8192x1024 .f32 :=
  Host.dotGeneral Cert.MergeBackwardRefIdeal.dot_S8192x256_S256x1024_S8192x1024_1_0_0_1_n_n none (extf .f32 yd Cert.MergeBackwardRefIdeal.Gen.bitsLt_bf16_f32) (weights3 w)

def gateGrad (p b γ : FVec Ideal Cert.MergeBackwardRefIdeal.S8192x1024 .f32) : FVec Ideal Cert.MergeBackwardRefIdeal.S8192x1024 .f32 :=
  mulf (mulf (mulf p b) γ) (subf (broadcastInDim Cert.MergeBackwardRefIdeal.S8192x1024 ![] Cert.MergeBackwardRefIdeal.Gen.bcast_S_S8192x1024 (constant Cert.MergeBackwardRefIdeal.S_ .f32 0x3F800000#32)) γ)

/-- Four arrays side by side. -/
def quad (f0 f1 f2 f3 : FVec Ideal Cert.MergeBackwardRefIdeal.S8192x1024 .f32) : FVec Ideal S8192x4096 .bf16 :=
  truncf .bf16 (concatenate Cert.MergeBackwardRefIdeal.S8192x4096 1 [⟨Cert.MergeBackwardRefIdeal.S8192x1024, f0⟩, ⟨Cert.MergeBackwardRefIdeal.S8192x1024, f1⟩, ⟨Cert.MergeBackwardRefIdeal.S8192x1024, f2⟩, ⟨Cert.MergeBackwardRefIdeal.S8192x1024, f3⟩] Cert.MergeBackwardRefIdeal.Gen.concatenates_S8192x1024_S8192x1024_S8192x1024_S8192x1024_S8192x4096_d1) Cert.MergeBackwardRefIdeal.Gen.bitsLt_bf16_f32

abbrev refG : FVec Ideal S8192x4096 .bf16 :=
  quad (gateGrad (merged d o) (branch0 w ya) (gate0 g)) (gateGrad (merged d o) (branch1 w yb) (gate1 g)) (gateGrad (merged d o) (branch2 w yc) (gate2 g)) (gateGrad (merged d o) (branch3 w yd) (gate3 g))

abbrev refT : FVec Ideal S8192x4096 .bf16 :=
  quad (mulf (merged d o) (gate0 g)) (mulf (merged d o) (gate1 g)) (mulf (merged d o) (gate2 g)) (mulf (merged d o) (gate3 g))

def refY (f : FVec Ideal Cert.MergeBackwardRefIdeal.S8192x1024 .f32) (b : FVec Ideal Cert.MergeBackwardRefIdeal.S256x1024 .f32) : FVec Ideal S8192x256 .f32 :=
  Host.dotGeneral Cert.MergeBackwardRefIdeal.dot_S8192x1024_S1024x256_S8192x256_1_0_0_1_n_n none f (transpose Cert.MergeBackwardRefIdeal.S1024x256 [1, 0] b Cert.MergeBackwardRefIdeal.Gen.transposes_S256x1024_S1024x256_1_0)

theorem quad_at (f0 f1 f2 f3 : FVec Ideal Cert.MergeBackwardRefIdeal.S8192x1024 .f32) (i : S8192x4096.Idx) (j : Cert.MergeBackwardRefIdeal.S8192x1024.Idx) (h0 : (i 0 : ℕ) = j 0) :
    ((i 1 : ℕ) = j 1 → quad f0 f1 f2 f3 i = f0 j) ∧ ((i 1 : ℕ) = 1024 + j 1 → quad f0 f1 f2 f3 i = f1 j)
      ∧ ((i 1 : ℕ) = 2048 + j 1 → quad f0 f1 f2 f3 i = f2 j) ∧ ((i 1 : ℕ) = 3072 + j 1 → quad f0 f1 f2 f3 i = f3 j) := by
  refine ⟨fun h1 => ?_, fun h1 => ?_, fun h1 => ?_, fun h1 => ?_⟩
  all_goals
    pointwise [quad]
    blk_point
    all_goals omega

end Reference

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem point_lt (t : Fin cfg0.N) : t.val < 32 := lt_of_lt_of_eq t.isLt N_0

/-- The array's index of a block's row and a column of it. -/
abbrev at_ (t : Fin cfg0.N) (x : S256x1024.Idx) : Cert.MergeBackwardRefIdeal.S8192x1024.Idx :=
  ix2 ⟨t.val * 256 + x 0, by have := point_lt t; have : (x 0 : ℕ) < 256 := (x 0).isLt; omega⟩ (x 1)

theorem final_g (c : Dev nD) : (dats m 0 c).arrAt 8 cfg0.N = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  have hN := point_lt t
  blk_simp
  rw [after0_8]; frame_out
  have q := fun x h => quad_at (gateGrad (merged (m ((c : Thread nD τ).loc main_arg0)) (m ((c : Thread nD τ).loc main_arg7))) (branch0 (m ((c : Thread nD τ).loc main_arg6)) (m ((c : Thread nD τ).loc main_arg1))) (gate0 (m ((c : Thread nD τ).loc main_arg5)))) (gateGrad (merged (m ((c : Thread nD τ).loc main_arg0)) (m ((c : Thread nD τ).loc main_arg7))) (branch1 (m ((c : Thread nD τ).loc main_arg6)) (m ((c : Thread nD τ).loc main_arg2))) (gate1 (m ((c : Thread nD τ).loc main_arg5)))) (gateGrad (merged (m ((c : Thread nD τ).loc main_arg0)) (m ((c : Thread nD τ).loc main_arg7))) (branch2 (m ((c : Thread nD τ).loc main_arg6)) (m ((c : Thread nD τ).loc main_arg3))) (gate2 (m ((c : Thread nD τ).loc main_arg5)))) (gateGrad (merged (m ((c : Thread nD τ).loc main_arg0)) (m ((c : Thread nD τ).loc main_arg7))) (branch3 (m ((c : Thread nD τ).loc main_arg6)) (m ((c : Thread nD τ).loc main_arg4))) (gate3 (m ((c : Thread nD τ).loc main_arg5)))) ((win0_8.blk t).view.emb y) (at_ t x) h
  canon_tiles x h
  case' piece0 => refine Eq.trans ?_ ((q x (by show _ = t.val * 256 + (x 0 : ℕ); blk_simp [idx t]; omega)).2.2.2 (by show _ = 3072 + (x 1 : ℕ); blk_simp [idx t]; omega)).symm
  case' piece1 => refine Eq.trans ?_ ((q x (by show _ = t.val * 256 + (x 0 : ℕ); blk_simp [idx t]; omega)).2.2.1 (by show _ = 2048 + (x 1 : ℕ); blk_simp [idx t]; omega)).symm
  case' piece2 => refine Eq.trans ?_ ((q x (by show _ = t.val * 256 + (x 0 : ℕ); blk_simp [idx t]; omega)).2.1 (by show _ = 1024 + (x 1 : ℕ); blk_simp [idx t]; omega)).symm
  case' piece3 => refine Eq.trans ?_ ((q x (by show _ = t.val * 256 + (x 0 : ℕ); blk_simp [idx t]; omega)).1 (by show _ = (x 1 : ℕ); blk_simp [idx t]; omega)).symm
  all_goals
    clear q
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, gateGrad, merged, gate0, gate1, gate2, gate3, branch0, weights0, branch1, weights1, branch2, weights2, branch3, weights3]
    blk_point [iblk, V, idx t]

theorem final_t (c : Dev nD) : (dats m 0 c).arrAt 9 cfg0.N = refT (m ((c : Thread nD τ).loc main_arg0)) (m ((c : Thread nD τ).loc main_arg5)) (m ((c : Thread nD τ).loc main_arg7)) := by
  refine (dats m 0 c).arrAt_eq_of_covers 9 _ (by decide +kernel) fun t _ y => ?_
  have hN := point_lt t
  blk_simp
  rw [after0_9]; frame_out
  have q := fun x h => quad_at (mulf (merged (m ((c : Thread nD τ).loc main_arg0)) (m ((c : Thread nD τ).loc main_arg7))) (gate0 (m ((c : Thread nD τ).loc main_arg5)))) (mulf (merged (m ((c : Thread nD τ).loc main_arg0)) (m ((c : Thread nD τ).loc main_arg7))) (gate1 (m ((c : Thread nD τ).loc main_arg5)))) (mulf (merged (m ((c : Thread nD τ).loc main_arg0)) (m ((c : Thread nD τ).loc main_arg7))) (gate2 (m ((c : Thread nD τ).loc main_arg5)))) (mulf (merged (m ((c : Thread nD τ).loc main_arg0)) (m ((c : Thread nD τ).loc main_arg7))) (gate3 (m ((c : Thread nD τ).loc main_arg5)))) ((win0_9.blk t).view.emb y) (at_ t x) h
  canon_tiles x h
  case' piece0 => refine Eq.trans ?_ ((q x (by show _ = t.val * 256 + (x 0 : ℕ); blk_simp [idx t]; omega)).2.2.2 (by show _ = 3072 + (x 1 : ℕ); blk_simp [idx t]; omega)).symm
  case' piece1 => refine Eq.trans ?_ ((q x (by show _ = t.val * 256 + (x 0 : ℕ); blk_simp [idx t]; omega)).2.2.1 (by show _ = 2048 + (x 1 : ℕ); blk_simp [idx t]; omega)).symm
  case' piece2 => refine Eq.trans ?_ ((q x (by show _ = t.val * 256 + (x 0 : ℕ); blk_simp [idx t]; omega)).2.1 (by show _ = 1024 + (x 1 : ℕ); blk_simp [idx t]; omega)).symm
  case' piece3 => refine Eq.trans ?_ ((q x (by show _ = t.val * 256 + (x 0 : ℕ); blk_simp [idx t]; omega)).1 (by show _ = (x 1 : ℕ); blk_simp [idx t]; omega)).symm
  all_goals
    clear q
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, merged, gate0, gate1, gate2, gate3]
    blk_point [iblk, V, idx t]

theorem final_y (c : Dev nD) :
    (dats m 0 c).arrAt 10 cfg0.N = refY (mulf (merged (m ((c : Thread nD τ).loc main_arg0)) (m ((c : Thread nD τ).loc main_arg7))) (gate0 (m ((c : Thread nD τ).loc main_arg5)))) (weights0 (m ((c : Thread nD τ).loc main_arg6)))
    ∧ (dats m 0 c).arrAt 11 cfg0.N = refY (mulf (merged (m ((c : Thread nD τ).loc main_arg0)) (m ((c : Thread nD τ).loc main_arg7))) (gate1 (m ((c : Thread nD τ).loc main_arg5)))) (weights1 (m ((c : Thread nD τ).loc main_arg6)))
    ∧ (dats m 0 c).arrAt 12 cfg0.N = refY (mulf (merged (m ((c : Thread nD τ).loc main_arg0)) (m ((c : Thread nD τ).loc main_arg7))) (gate2 (m ((c : Thread nD τ).loc main_arg5)))) (weights2 (m ((c : Thread nD τ).loc main_arg6)))
    ∧ (dats m 0 c).arrAt 13 cfg0.N = refY (mulf (merged (m ((c : Thread nD τ).loc main_arg0)) (m ((c : Thread nD τ).loc main_arg7))) (gate3 (m ((c : Thread nD τ).loc main_arg5)))) (weights3 (m ((c : Thread nD τ).loc main_arg6))) := by
  refine ⟨(dats m 0 c).arrAt_eq_of_covers 10 _ (by decide +kernel) fun t _ y => ?_, (dats m 0 c).arrAt_eq_of_covers 11 _ (by decide +kernel) fun t _ y => ?_, (dats m 0 c).arrAt_eq_of_covers 12 _ (by decide +kernel) fun t _ y => ?_, (dats m 0 c).arrAt_eq_of_covers 13 _ (by decide +kernel) fun t _ y => ?_⟩
  all_goals
    blk_simp
    first | rw [after0_10] | rw [after0_11] | rw [after0_12] | rw [after0_13]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, refY, merged, gate0, gate1, gate2, gate3, weights0, weights1, weights2, weights3]
    blk_point [iblk, V, idx t]

end Cert.MergeBackwardValue

end
-- ==== Proof.FfnOutValue.lean ====
/-
  The FFN's second product: the activations by column tiles, and their product with the weights in two halves.
-/
module

public import proofs.«01_k».proof.Proof.Gen.FfnOutIdeal.Value
public import proofs.«01_k».proof.Proof.Gen.FfnOutRefIdeal.Run
public import Idealize.ShloMosaic.Lib.Pipeline.ValueKit

@[expose] public section

set_option maxRecDepth 16384

noncomputable section

namespace Cert.FfnOutValue

open Cert.FfnOutIdeal Cert.FfnOutIdeal.Gen Idealize.ShloMosaic Idealize.ShloMosaic.TcCoe Idealize.SL.Sem
open Idealize.ShloMosaic.Pipeline (Dat)

section Reference

variable (u : FVec Ideal S8192x5632 .bf16) (w : FVec Ideal S2816x1024 .bf16) (x : FVec Ideal S8192x1024 .f32)

def ones : FVec Ideal Cert.FfnOutRefIdeal.S8192x2816 .f32 := broadcastInDim Cert.FfnOutRefIdeal.S8192x2816 ![] Cert.FfnOutRefIdeal.Gen.bcast_S_S8192x2816 (constant Cert.FfnOutRefIdeal.S_ .f32 0x3F800000#32)

/-- The gates' columns of `u`. -/
def gates : FVec Ideal Cert.FfnOutRefIdeal.S8192x2816 .f32 :=
  concatenate Cert.FfnOutRefIdeal.S8192x2816 1 [⟨Cert.FfnOutRefIdeal.S8192x1408, (extractStridedSlice Cert.FfnOutRefIdeal.S8192x1408 ![0, 0] (extf .f32 u Cert.FfnOutRefIdeal.Gen.bitsLt_bf16_f32) Cert.FfnOutRefIdeal.Gen.slices_S8192x5632_S8192x1408_0_0)⟩, ⟨Cert.FfnOutRefIdeal.S8192x1408, (extractStridedSlice Cert.FfnOutRefIdeal.S8192x1408 ![0, 2816] (extf .f32 u Cert.FfnOutRefIdeal.Gen.bitsLt_bf16_f32) Cert.FfnOutRefIdeal.Gen.slices_S8192x5632_S8192x1408_0_2816)⟩] Cert.FfnOutRefIdeal.Gen.concatenates_S8192x1408_S8192x1408_S8192x2816_d1

def ups : FVec Ideal Cert.FfnOutRefIdeal.S8192x2816 .f32 :=
  concatenate Cert.FfnOutRefIdeal.S8192x2816 1 [⟨Cert.FfnOutRefIdeal.S8192x1408, (extractStridedSlice Cert.FfnOutRefIdeal.S8192x1408 ![0, 1408] (extf .f32 u Cert.FfnOutRefIdeal.Gen.bitsLt_bf16_f32) Cert.FfnOutRefIdeal.Gen.slices_S8192x5632_S8192x1408_0_1408)⟩, ⟨Cert.FfnOutRefIdeal.S8192x1408, (extractStridedSlice Cert.FfnOutRefIdeal.S8192x1408 ![0, 4224] (extf .f32 u Cert.FfnOutRefIdeal.Gen.bitsLt_bf16_f32) Cert.FfnOutRefIdeal.Gen.slices_S8192x5632_S8192x1408_0_4224)⟩] Cert.FfnOutRefIdeal.Gen.concatenates_S8192x1408_S8192x1408_S8192x2816_d1

def act : FVec Ideal Cert.FfnOutRefIdeal.S8192x2816 .f32 :=
  mulf (mulf (gates u) (Host.divf ones (addf ones (Host.exp (Host.negf (gates u)))))) (ups u)

abbrev refA : FVec Ideal S8192x2816 .bf16 := truncf .bf16 (act u) Cert.FfnOutRefIdeal.Gen.bitsLt_bf16_f32

def ref : FVec Ideal S8192x1024 .f32 :=
  addf x (Host.dotGeneral Cert.FfnOutRefIdeal.dot_S8192x2816_S2816x1024_S8192x1024_1_0_0_1_n_n none (act u) (extf .f32 w Cert.FfnOutRefIdeal.Gen.bitsLt_bf16_f32))

end Reference

variable (m : (ℓ : Loc nD τ sig) → Buf (Elt Ideal) ℓ)

theorem idx : ∀ t : Fin cfg0.N, win0_0.index t = ![t.val / 2, t.val % 2] ∧ win0_1.index t = ![t.val % 2, 0] ∧ win0_2.index t = ![t.val / 2, 0] ∧ win0_3.index t = ![t.val / 2, 0] ∧ win0_4.index t = ![t.val / 2, t.val % 2] :=
  (by decide +kernel : ∀ t : Fin grid0.N, _)

theorem point_lt (t : Fin cfg0.N) : t.val < 32 := lt_of_lt_of_eq t.isLt N_0

/-- A block's activations. -/
def tile (b : FVec Ideal S512x2816 .bf16) : FVec Ideal S512x1408 .bf16 :=
  k0_pay1 (View.ld b (Rect.unit (s := S512x2816) ![0, 0] S512x1408.size inb_S512x2816_S512x1408_0_0))
    (View.ld b (Rect.unit (s := S512x2816) ![0, 1408] S512x1408.size inb_S512x2816_S512x1408_0_1408))

theorem tile_at (c : Dev nD) (t : Fin cfg0.N) (x : S512x1408.Idx) (i : S8192x2816.Idx)
    (h0 : (i 0 : ℕ) = t.val / 2 * 512 + x 0) (h1 : (i 1 : ℕ) = t.val % 2 * 1408 + x 1) :
    tile (iblk m c 0 t) x = act (m ((c : Thread nD τ).loc main_arg0)) i := by
  have hN := point_lt t
  pointwise [tile, k0_pay1, act, ups, gates, ones]
  rw [zero_sub]
  blk_point [iblk, V, idx t]

theorem final_a (c : Dev nD) : (dats m 0 c).arrAt 4 cfg0.N = refA (m ((c : Thread nD τ).loc main_arg0)) := by
  refine (dats m 0 c).arrAt_eq_of_covers 4 _ (by decide +kernel) fun t _ y => ?_
  blk_simp
  refine Eq.trans ?_ (tile_at m c t y _ (by blk_simp [idx t]) (by blk_simp [idx t]))
  rcases Nat.mod_two_eq_zero_or_one t.val with h | h
  · rw [after0_4, outsAt0_A m c t h]; frame_out
    rfl
  · rw [after0_4, outsAt0_B m c t (by omega)]; frame_out
    rfl

/-- A half of the product. -/
def half (c : Dev nD) (t : Fin cfg0.N) (j : S512x1024.Idx) : EReal :=
  ∑ k : Fin 1408, tile (iblk m c 0 t) (ix2 (j 0) k) * (show FVec Ideal S1408x1024 .bf16 from iblk m c 1 t) (ix2 k (j 1))

theorem first (c : Dev nD) (t : Fin cfg0.N) (h : t.val % 2 = 0) (j : S512x1024.Idx) :
    (outsAt0 m c t.val t.isLt).1 j = (show FVec Ideal S512x1024 .f32 from iblk m c 2 t) j + half m c t j := by
  rw [outsAt0_A m c t h]; frame_out
  pointwise [k0_pay2, half]
  rfl

theorem second (c : Dev nD) (t : Fin cfg0.N) (h : t.val % 2 = 1) (j : S512x1024.Idx) :
    (outsAt0 m c t.val t.isLt).1 j = (outsAt0 m c (t.val - 1) (Nat.lt_of_le_of_lt (Nat.sub_le _ _) t.isLt)).1 j + half m c t j := by
  rw [outsAt0_B m c t (by omega)]; frame_out
  pointwise [k0_pay2, half]
  rfl

theorem half_at (c : Dev nD) (t : Fin cfg0.N) (j : S512x1024.Idx) (i : S8192x1024.Idx) (s : Fin 2) (hs : t.val % 2 = s.val)
    (h0 : (i 0 : ℕ) = t.val / 2 * 512 + j 0) (h1 : (i 1 : ℕ) = j 1) :
    half m c t j = ∑ k : Fin 1408, act (m ((c : Thread nD τ).loc main_arg0)) (ix2 (i 0) ⟨s.val * 1408 + k, by omega⟩)
      * (show FVec Ideal S2816x1024 .bf16 from (m ((c : Thread nD τ).loc main_arg1))) (ix2 ⟨s.val * 1408 + k, by omega⟩ (i 1)) := by
  have hN := point_lt t
  refine Finset.sum_congr rfl fun k _ => ?_
  refine congrArg₂ (· * ·) (tile_at m c t _ _ h0 (by rw [hs]; rfl)) ?_
  blk_point [iblk, V, idx t]

theorem final_x (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  have hN := point_lt t
  let s : Fin cfg0.N := ⟨t.val - 1, Nat.lt_of_le_of_lt (Nat.sub_le _ _) t.isLt⟩
  have hs : s.val = t.val - 1 := rfl
  have e0 : (((win0_3.blk t).view.emb y) 0 : ℕ) = t.val / 2 * 512 + y 0 := by blk_simp [idx t]
  have e1 : (((win0_3.blk t).view.emb y) 1 : ℕ) = y 1 := by blk_simp [idx t]
  blk_simp
  rw [after0_3, second m c t h1, first m c s (by omega),
    half_at m c t y _ 1 h1 e0 e1, half_at m c s y _ 0 (by show s.val % 2 = 0; omega) (by omega) e1, add_assoc]
  pointwise [ref]
  rw [← Fin.sum_mul_add_fin (L := 2816) 2 1408, Fin.sum_univ_two]
  blk_point [iblk, V, idx t, idx s]

end Cert.FfnOutValue

end
-- ==== Proof.FfnBackwardValue.lean ====
/-
  The FFN's backward pass: each tile of a block of 512 rows is a tile of the gradient's columns.
-/
module

public import proofs.«01_k».proof.Proof.Gen.FfnBackwardIdeal.Value
public import proofs.«01_k».proof.Proof.Gen.FfnBackwardRefIdeal.Run
public import Idealize.ShloMosaic.Lib.Pipeline.ValueKit

@[expose] public section

set_option maxRecDepth 16384

noncomputable section

namespace Cert.FfnBackwardValue

open Cert.FfnBackwardIdeal Cert.FfnBackwardIdeal.Gen Idealize.ShloMosaic Idealize.ShloMosaic.TcCoe Idealize.SL.Sem
open Idealize.ShloMosaic.Pipeline (Dat)

section Reference

variable (d : FVec Ideal S8192x1024 .f32) (w : FVec Ideal S2816x1024 .bf16) (u : FVec Ideal S8192x5632 .bf16)

def ones : FVec Ideal Cert.FfnBackwardRefIdeal.S8192x2816 .f32 := broadcastInDim Cert.FfnBackwardRefIdeal.S8192x2816 ![] Cert.FfnBackwardRefIdeal.Gen.bcast_S_S8192x2816 (constant Cert.FfnBackwardRefIdeal.S_ .f32 0x3F800000#32)

/-- The gates' columns of `u`. -/
def gates : FVec Ideal Cert.FfnBackwardRefIdeal.S8192x2816 .f32 :=
  concatenate Cert.FfnBackwardRefIdeal.S8192x2816 1 [⟨Cert.FfnBackwardRefIdeal.S8192x1408, (extractStridedSlice Cert.FfnBackwardRefIdeal.S8192x1408 ![0, 0] (extf .f32 u Cert.FfnBackwardRefIdeal.Gen.bitsLt_bf16_f32) Cert.FfnBackwardRefIdeal.Gen.slices_S8192x5632_S8192x1408_0_0)⟩, ⟨Cert.FfnBackwardRefIdeal.S8192x1408, (extractStridedSlice Cert.FfnBackwardRefIdeal.S8192x1408 ![0, 2816] (extf .f32 u Cert.FfnBackwardRefIdeal.Gen.bitsLt_bf16_f32) Cert.FfnBackwardRefIdeal.Gen.slices_S8192x5632_S8192x1408_0_2816)⟩] Cert.FfnBackwardRefIdeal.Gen.concatenates_S8192x1408_S8192x1408_S8192x2816_d1

def ups : FVec Ideal Cert.FfnBackwardRefIdeal.S8192x2816 .f32 :=
  concatenate Cert.FfnBackwardRefIdeal.S8192x2816 1 [⟨Cert.FfnBackwardRefIdeal.S8192x1408, (extractStridedSlice Cert.FfnBackwardRefIdeal.S8192x1408 ![0, 1408] (extf .f32 u Cert.FfnBackwardRefIdeal.Gen.bitsLt_bf16_f32) Cert.FfnBackwardRefIdeal.Gen.slices_S8192x5632_S8192x1408_0_1408)⟩, ⟨Cert.FfnBackwardRefIdeal.S8192x1408, (extractStridedSlice Cert.FfnBackwardRefIdeal.S8192x1408 ![0, 4224] (extf .f32 u Cert.FfnBackwardRefIdeal.Gen.bitsLt_bf16_f32) Cert.FfnBackwardRefIdeal.Gen.slices_S8192x5632_S8192x1408_0_4224)⟩] Cert.FfnBackwardRefIdeal.Gen.concatenates_S8192x1408_S8192x1408_S8192x2816_d1

def sigs : FVec Ideal Cert.FfnBackwardRefIdeal.S8192x2816 .f32 := Host.divf ones (addf ones (Host.exp (Host.negf (gates u))))

/-- The gradient of the activations. -/
def dact : FVec Ideal Cert.FfnBackwardRefIdeal.S8192x2816 .f32 :=
  Host.dotGeneral Cert.FfnBackwardRefIdeal.dot_S8192x1024_S1024x2816_S8192x2816_1_0_0_1_n_n none d (transpose Cert.FfnBackwardRefIdeal.S1024x2816 [1, 0] (extf .f32 w Cert.FfnBackwardRefIdeal.Gen.bitsLt_bf16_f32) Cert.FfnBackwardRefIdeal.Gen.transposes_S2816x1024_S1024x2816_1_0)

def dgate : FVec Ideal Cert.FfnBackwardRefIdeal.S8192x2816 .f32 :=
  mulf (mulf (dact d w) (ups u)) (mulf (sigs u) (addf ones (mulf (gates u) (subf ones (sigs u)))))

def dup : FVec Ideal Cert.FfnBackwardRefIdeal.S8192x2816 .f32 := mulf (mulf (dact d w) (gates u)) (sigs u)

/-- Two arrays' column tiles of 1408, in turns. -/
def weave (f g : FVec Ideal Cert.FfnBackwardRefIdeal.S8192x2816 .f32) : FVec Ideal S8192x5632 .bf16 :=
  truncf .bf16 (concatenate Cert.FfnBackwardRefIdeal.S8192x5632 1 [⟨Cert.FfnBackwardRefIdeal.S8192x1408, extractStridedSlice Cert.FfnBackwardRefIdeal.S8192x1408 ![0, 0] (f) Cert.FfnBackwardRefIdeal.Gen.slices_S8192x2816_S8192x1408_0_0⟩, ⟨Cert.FfnBackwardRefIdeal.S8192x1408, extractStridedSlice Cert.FfnBackwardRefIdeal.S8192x1408 ![0, 0] (g) Cert.FfnBackwardRefIdeal.Gen.slices_S8192x2816_S8192x1408_0_0⟩, ⟨Cert.FfnBackwardRefIdeal.S8192x1408, extractStridedSlice Cert.FfnBackwardRefIdeal.S8192x1408 ![0, 1408] (f) Cert.FfnBackwardRefIdeal.Gen.slices_S8192x2816_S8192x1408_0_1408⟩, ⟨Cert.FfnBackwardRefIdeal.S8192x1408, extractStridedSlice Cert.FfnBackwardRefIdeal.S8192x1408 ![0, 1408] (g) Cert.FfnBackwardRefIdeal.Gen.slices_S8192x2816_S8192x1408_0_1408⟩] Cert.FfnBackwardRefIdeal.Gen.concatenates_S8192x1408_S8192x1408_S8192x1408_S8192x1408_S8192x5632_d1) Cert.FfnBackwardRefIdeal.Gen.bitsLt_bf16_f32

abbrev ref : FVec Ideal S8192x5632 .bf16 := weave (dgate d w u) (dup d w u)

theorem weave_at (f g : FVec Ideal Cert.FfnBackwardRefIdeal.S8192x2816 .f32) (i : S8192x5632.Idx) (j : Cert.FfnBackwardRefIdeal.S8192x2816.Idx) (s a : ℕ)
    (hs : s < 2) (ha : a < 1408) (h0 : (i 0 : ℕ) = j 0) (hj : (j 1 : ℕ) = s * 1408 + a) :
    ((i 1 : ℕ) = s * 2816 + a → weave f g i = f j) ∧ ((i 1 : ℕ) = s * 2816 + (1408 + a) → weave f g i = g j) := by
  constructor
  all_goals
    intro h1
    pointwise [weave]
    blk_point
    all_goals omega

end Reference

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

theorem point_lt (t : Fin cfg0.N) : t.val < 32 := lt_of_lt_of_eq t.isLt N_0

section Tile

variable (c : Dev nD) (t : Fin cfg0.N) (x : S512x1408.Idx) (i : Cert.FfnBackwardRefIdeal.S8192x2816.Idx)
  (h0 : (i 0 : ℕ) = t.val / 2 * 512 + x 0) (h1 : (i 1 : ℕ) = t.val % 2 * 1408 + x 1)

include h0 h1

theorem gate_tile : dgate (m ((c : Thread nD τ).loc main_arg0)) (m ((c : Thread nD τ).loc main_arg1)) (m ((c : Thread nD τ).loc main_arg2)) i
    = k0_pay4 (iblk m c 0 t) (iblk m c 1 t) (View.ld (iblk m c 2 t) r0_2) (View.ld (iblk m c 2 t) r0_3) x := by
  have hN := point_lt t
  pointwise [dgate, dact, ups, gates, sigs, ones, k0_pay4, k0_pay3, k0_pay2, k0_pay1]
  rw [zero_sub]
  blk_point [iblk, V, idx t]

theorem up_tile : dup (m ((c : Thread nD τ).loc main_arg0)) (m ((c : Thread nD τ).loc main_arg1)) (m ((c : Thread nD τ).loc main_arg2)) i
    = k0_pay5 (iblk m c 0 t) (iblk m c 1 t) (View.ld (iblk m c 2 t) r0_2) x := by
  have hN := point_lt t
  pointwise [dup, dact, gates, sigs, ones, k0_pay5, k0_pay3, k0_pay2, k0_pay1]
  rw [zero_sub]
  blk_point [iblk, V, idx t]

end Tile

theorem final (c : Dev nD) :
    (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN := point_lt t
  blk_simp
  rw [after0_3]
  frame_out
  canon_tiles y h
  · exact (up_tile m c t y (ix2 ⟨t.val / 2 * 512 + y 0, by omega⟩ ⟨t.val % 2 * 1408 + y 1, by omega⟩) rfl rfl).symm.trans
      ((weave_at _ _ _ _ (t.val % 2) (y 1) (by omega) y1_lt (by show _ = t.val / 2 * 512 + (y 0 : ℕ); blk_simp [idx t]; omega) rfl).2 (by blk_simp [idx t]; omega)).symm
  · exact (gate_tile m c t y (ix2 ⟨t.val / 2 * 512 + y 0, by omega⟩ ⟨t.val % 2 * 1408 + y 1, by omega⟩) rfl rfl).symm.trans
      ((weave_at _ _ _ _ (t.val % 2) (y 1) (by omega) y1_lt (by show _ = t.val / 2 * 512 + (y 0 : ℕ); blk_simp [idx t]; omega) rfl).1 (by blk_simp [idx t]; omega)).symm

end Cert.FfnBackwardValue

end
-- ==== Proof.PleOutValue.lean ====
/-
  The per-layer embedding's output, row block by row block.
-/
module

public import proofs.«01_k».proof.Proof.Gen.PleOutIdeal.Value
public import proofs.«01_k».proof.Proof.Gen.PleOutRefIdeal.Run
public import Idealize.ShloMosaic.Lib.Pipeline.ValueKit

@[expose] public section

set_option maxRecDepth 16384

noncomputable section

namespace Cert.PleOutValue

open Cert.PleOutIdeal Cert.PleOutIdeal.Gen Idealize.ShloMosaic Idealize.ShloMosaic.TcCoe Idealize.SL.Sem
open Idealize.ShloMosaic.Pipeline (Dat)

abbrev ref (g : FVec Ideal S8192x1024 .f32) (e : FVec Ideal S8192x256 .f32) (w : FVec Ideal S256x1024 .bf16) (x : FVec Ideal S8192x1024 .f32) : FVec Ideal S8192x1024 .f32 :=
  addf x (mulf g (Host.dotGeneral Cert.PleOutRefIdeal.dot_S8192x256_S256x1024_S8192x1024_1_0_0_1_n_n none e (extf .f32 w Cert.PleOutRefIdeal.Gen.bitsLt_bf16_f32)))

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

theorem final (c : Dev nD) : (dats m 0 c).arrAt 4 cfg0.N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, ref]
  blk_point [iblk, V, idx t]

end Cert.PleOutValue

end
-- ==== Proof.PleBackwardValue.lean ====
/-
  The per-layer embedding's backward pass, row block by row block.
-/
module

public import proofs.«01_k».proof.Proof.Gen.PleBackwardIdeal.Value
public import proofs.«01_k».proof.Proof.Gen.PleBackwardRefIdeal.Run
public import Idealize.ShloMosaic.Lib.Pipeline.ValueKit

@[expose] public section

set_option maxRecDepth 16384

noncomputable section

namespace Cert.PleBackwardValue

open Cert.PleBackwardIdeal Cert.PleBackwardIdeal.Gen Idealize.ShloMosaic Idealize.ShloMosaic.TcCoe Idealize.SL.Sem
open Idealize.ShloMosaic.Pipeline (Dat)

abbrev refE (d g : FVec Ideal S8192x1024 .f32) : FVec Ideal S8192x1024 .bf16 :=
  truncf .bf16 (mulf d g) Cert.PleBackwardRefIdeal.Gen.bitsLt_bf16_f32

abbrev refG (d g : FVec Ideal S8192x1024 .f32) (e : FVec Ideal S8192x256 .f32) (w : FVec Ideal S256x1024 .bf16) : FVec Ideal S8192x1024 .bf16 :=
  truncf .bf16 (mulf (mulf (mulf d (Host.dotGeneral Cert.PleBackwardRefIdeal.dot_S8192x256_S256x1024_S8192x1024_1_0_0_1_n_n none e (extf .f32 w Cert.PleBackwardRefIdeal.Gen.bitsLt_bf16_f32))) g) (subf (broadcastInDim Cert.PleBackwardRefIdeal.S8192x1024 ![] Cert.PleBackwardRefIdeal.Gen.bcast_S_S8192x1024 (constant Cert.PleBackwardRefIdeal.S_ .f32 0x3F800000#32)) g)) Cert.PleBackwardRefIdeal.Gen.bitsLt_bf16_f32

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] :=
  (by decide +kernel : ∀ t : Fin grid0.N, _)

theorem final_e (c : Dev nD) : (dats m 0 c).arrAt 4 cfg0.N = refE (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, refE]
  blk_point [iblk, V, idx t]

theorem final_g (c : Dev nD) : (dats m 0 c).arrAt 5 cfg0.N = refG (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay2, refG]
  blk_point [iblk, V, idx t]

end Cert.PleBackwardValue

end
-- ==== Proof.ShortConvValue.lean ====
/-
  The short causal convolution: blocks of 512 rows, behind each the eight rows that come before it.
-/
module

public import proofs.«01_k».proof.Proof.Gen.ShortConvIdeal.Value
public import proofs.«01_k».proof.Proof.Gen.ShortConvRefIdeal.Run
public import Idealize.ShloMosaic.Lib.Pipeline.ValueKit
public import Idealize.ShloMosaic.Lib.KernelVsHost

@[expose] public section

set_option maxRecDepth 16384

noncomputable section

namespace Cert.ShortConvValue

open Cert.ShortConvIdeal Cert.ShortConvIdeal.Gen Idealize.ShloMosaic Idealize.ShloMosaic.TcCoe Idealize.SL.Sem
open Idealize.ShloMosaic.Pipeline (Dat)

section Reference

/-- The product of the two inner columns' blocks, two rows of zeros put before it. -/
def tap (x : FVec Ideal S8192x1792 .f32) (n : ℕ) (k : Fin 256) : EReal :=
  if h : 2 ≤ n ∧ n < 8194 then x (ix2 ⟨n - 2, by omega⟩ ⟨256 + k.val, by omega⟩) * x (ix2 ⟨n - 2, by omega⟩ ⟨512 + k.val, by omega⟩) else 0

theorem tap_zero (x : FVec Ideal S8192x1792 .f32) (n : ℕ) (k : Fin 256) (h : n < 2) : tap x n k = 0 :=
  dif_neg (by omega)

theorem tap_eq (x : FVec Ideal S8192x1792 .f32) (n : ℕ) (k : Fin 256) (a : Fin 8192) (h : n = a.val + 2) :
    tap x n k = x (ix2 a ⟨256 + k.val, by omega⟩) * x (ix2 a ⟨512 + k.val, by omega⟩) := by
  subst h
  exact dif_pos ⟨by omega, by omega⟩

def padded (x : FVec Ideal S8192x1792 .f32) : FVec Ideal Cert.ShortConvRefIdeal.S8194x256 .f32 :=
  pad Cert.ShortConvRefIdeal.S8194x256 ![2, 0] ![0, 0] ![0, 0]
    (mulf (extractStridedSlice Cert.ShortConvRefIdeal.S8192x256 ![0, 256] x Cert.ShortConvRefIdeal.Gen.slices_S8192x1792_S8192x256_0_256)
      (extractStridedSlice Cert.ShortConvRefIdeal.S8192x256 ![0, 512] x Cert.ShortConvRefIdeal.Gen.slices_S8192x1792_S8192x256_0_512))
    (sitofp .f32 (constantI Cert.ShortConvRefIdeal.S_ 32 0#32))
    Cert.ShortConvRefIdeal.Gen.pads_S8192x256_S8194x256_200_000 Cert.ShortConvRefIdeal.Gen.h_S_

theorem sitofp_zero : (FloatOps.sitofp .f32 0#32 : Ideal .f32) = 0 := by
  show (((0#32 : BitVec 32).toInt : ℝ) : EReal) = 0
  simp

theorem padded_at (x : FVec Ideal S8192x1792 .f32) (i : Cert.ShortConvRefIdeal.S8194x256.Idx) : padded x i = tap x (i 0) (i 1) := by
  have h0 : (i 0).val < 8194 := (i 0).isLt
  by_cases h : 2 ≤ (i 0).val
  · have hr : (i 0).val - 2 < 8192 := by omega
    refine Eq.trans ?_ (tap_eq x (i 0).val (i 1) ⟨(i 0).val - 2, hr⟩ (by show (i 0).val = (i 0).val - 2 + 2; omega)).symm
    refine (pad_apply_of_inside _ _ _ _ _ _ _ i (ix2 ⟨(i 0).val - 2, hr⟩ (i 1)) fun a => ?_).trans ?_
    · fin_cases a
      · show (i 0).val = 2 + ((i 0).val - 2) * 1
        omega
      · show (i 1).val = 0 + (i 1).val * 1
        omega
    · pointwise
  · refine (pad_apply_of_not_inside _ _ _ _ _ _ _ i 0 fun hh => h hh.1).trans (Eq.trans ?_ (tap_zero x (i 0).val (i 1) (by omega)).symm)
    pointwise
    exact sitofp_zero

end Reference

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![t.val * 64 - 1, 1] ∧ win0_4.index t = ![t.val * 64 - 1, 2] ∧ win0_5.index t = ![0, 0] ∧ win0_6.index t = ![t.val, 0] :=
  (by decide +kernel : ∀ t : Fin grid0.N, _)

theorem point_lt (t : Fin cfg0.N) : t.val < 16 := lt_of_lt_of_eq t.isLt N_0

/-- Only the first block has no rows before it. -/
theorem later : ∀ t : Fin grid0.N, Scalar.cmpi .sgt (BitVec.ofNat 32 (grid0.coords t 0).val) 0#32 = if t.val = 0 then 0#1 else 1#1 := by
  decide +kernel

theorem cover (a : Vec Ideal S512x256 .f32) (b : Vec Ideal S8x256 .f32) (y : S520x256.Idx) :
    ∃ p ∈ ([⟨Rect.unit ![8, 0] ![512, 256] inb_S520x256_S512x256_8_0, a⟩,
       ⟨Rect.unit ![0, 0] ![8, 256] inb_S520x256_S8x256_0_0, b⟩] : List (View.Piece (Elt Ideal) S520x256 .f32)), y ∈ p.1.set := by
  have h0 : (y 0).val < 520 := (y 0).isLt
  have h1 : (y 1).val < 256 := (y 1).isLt
  by_cases h : 8 ≤ (y 0).val
  · refine ⟨⟨Rect.unit ![8, 0] ![512, 256] inb_S520x256_S512x256_8_0, a⟩, List.mem_cons_self, (Rect.mem_set_unit (inb := inb_S520x256_S512x256_8_0)).mpr fun a => ?_⟩
    fin_cases a
    · exact ⟨h, by show (y 0).val < 8 + 512; omega⟩
    · exact ⟨Nat.zero_le _, by show (y 1).val < 0 + 256; omega⟩
  · refine ⟨⟨Rect.unit ![0, 0] ![8, 256] inb_S520x256_S8x256_0_0, b⟩, List.mem_cons_of_mem _ List.mem_cons_self, (Rect.mem_set_unit (inb := inb_S520x256_S8x256_0_0)).mpr fun a => ?_⟩
    fin_cases a
    · exact ⟨Nat.zero_le _, by show (y 0).val < 0 + 8; omega⟩
    · exact ⟨Nat.zero_le _, by show (y 1).val < 0 + 256; omega⟩

/-- What the body keeps of one block: the product, the last eight rows before the block put first. -/
theorem held (c : Dev nD) (t : Fin cfg0.grid.N) (y : S520x256.Idx) :
    View.canon (Val := Elt Ideal) (e := .f32)
      [⟨Rect.unit ![8, 0] ![512, 256] inb_S520x256_S512x256_8_0, k0_pay3 (iblk m c 1 t) (iblk m c 2 t)⟩,
       ⟨Rect.unit ![0, 0] ![8, 256] inb_S520x256_S8x256_0_0, k0_pay2 (grid0.coords t) (iblk m c 3 t) (iblk m c 4 t)⟩] y
      = tap (m ((c : Thread nD τ).loc main_arg0)) (512 * t.val + (y 0).val - 6) (y 1) := by
  have ht := point_lt t
  have hc := cover (k0_pay3 (iblk m c 1 t) (iblk m c 2 t)) (k0_pay2 (grid0.coords t) (iblk m c 3 t) (iblk m c 4 t)) y
  canon_tiles z h using hc
  · refine Eq.trans ?_ (tap_eq _ _ _ ⟨512 * t.val + (z 0).val, by omega⟩ (by show _ = 512 * t.val + (z 0).val + 2; omega)).symm
    pointwise [k0_pay3]
    blk_point [iblk, V, idx t]
  · unfold k0_pay2
    by_cases h : t.val = 0
    · refine Eq.trans ?_ (tap_zero _ _ _ (by omega)).symm
      pointwise [later, h]
    · refine Eq.trans ?_ (tap_eq _ _ _ ⟨512 * t.val + (z 0).val - 8, by omega⟩ (by show _ = 512 * t.val + (z 0).val - 8 + 2; omega)).symm
      pointwise [later, h]
      blk_point [iblk, V, idx t]

theorem held_at (c : Dev nD) (t : Fin cfg0.grid.N) (o : ℕ) (inb : ∀ a, (![o, 0] : Fin 2 → ℕ) a + (![64, 256] : Fin 2 → ℕ) a ≤ S520x256.size a) (y : S64x256.Idx) :
    (View.whole cc0_scratch0).readCov (Val := Elt Ideal)
      [⟨Rect.unit ![8, 0] ![512, 256] inb_S520x256_S512x256_8_0, k0_pay3 (iblk m c 1 t) (iblk m c 2 t)⟩,
       ⟨Rect.unit ![0, 0] ![8, 256] inb_S520x256_S8x256_0_0, k0_pay2 (grid0.coords t) (iblk m c 3 t) (iblk m c 4 t)⟩]
      (Rect.unit (s := S520x256) ![o, 0] ![64, 256] inb).toLoadRect y
      = tap (m ((c : Thread nD τ).loc main_arg0)) (512 * t.val + (o + (y 0).val) - 6) (y 1) := by
  rw [View.readCov_eq_canon']
  refine (held m c t _).trans ?_
  congr 1
  · show 512 * t.val + (o + 1 * (y 0).val) - 6 = _
    omega
  · apply Fin.ext
    show 0 + 1 * (y 1).val = _
    omega

def ref (x : FVec Ideal S8192x1792 .f32) (w : FVec Ideal S3x256 .f32) : FVec Ideal S8192x256 .bf16 :=
  truncf .bf16 (mulf (extractStridedSlice Cert.ShortConvRefIdeal.S8192x256 ![0, 0] x Cert.ShortConvRefIdeal.Gen.slices_S8192x1792_S8192x256_0_0) (addf (addf (addf (broadcastInDim Cert.ShortConvRefIdeal.S8192x256 ![] Cert.ShortConvRefIdeal.Gen.bcast_S_S8192x256 (constant Cert.ShortConvRefIdeal.S_ .f32 0x00000000#32)) (mulf (broadcastInDim Cert.ShortConvRefIdeal.S8192x256 ![0, 1] Cert.ShortConvRefIdeal.Gen.bcast_S1x256_S8192x256_0_1 (extractStridedSlice Cert.ShortConvRefIdeal.S1x256 ![0, 0] w Cert.ShortConvRefIdeal.Gen.slices_S3x256_S1x256_0_0)) (extractStridedSlice Cert.ShortConvRefIdeal.S8192x256 ![0, 0] (padded x) Cert.ShortConvRefIdeal.Gen.slices_S8194x256_S8192x256_0_0))) (mulf (broadcastInDim Cert.ShortConvRefIdeal.S8192x256 ![0, 1] Cert.ShortConvRefIdeal.Gen.bcast_S1x256_S8192x256_0_1 (extractStridedSlice Cert.ShortConvRefIdeal.S1x256 ![1, 0] w Cert.ShortConvRefIdeal.Gen.slices_S3x256_S1x256_1_0)) (extractStridedSlice Cert.ShortConvRefIdeal.S8192x256 ![1, 0] (padded x) Cert.ShortConvRefIdeal.Gen.slices_S8194x256_S8192x256_1_0))) (mulf (broadcastInDim Cert.ShortConvRefIdeal.S8192x256 ![0, 1] Cert.ShortConvRefIdeal.Gen.bcast_S1x256_S8192x256_0_1 (extractStridedSlice Cert.ShortConvRefIdeal.S1x256 ![2, 0] w Cert.ShortConvRefIdeal.Gen.slices_S3x256_S1x256_2_0)) (extractStridedSlice Cert.ShortConvRefIdeal.S8192x256 ![2, 0] (padded x) Cert.ShortConvRefIdeal.Gen.slices_S8194x256_S8192x256_2_0)))) bitsLt_bf16_f32

theorem ref_at (x : FVec Ideal S8192x1792 .f32) (w : FVec Ideal S3x256 .f32) (r : Fin 8192) (k : Fin 256) : ref x w (ix2 r k)
    = x (ix2 r ⟨k.val, by omega⟩) * (w (ix2 0 k) * tap x r.val k + w (ix2 1 k) * tap x (1 + r.val) k + w (ix2 2 k) * tap x (2 + r.val) k) := by
  pointwise [ref, padded_at]

abbrev lead (c : Dev nD) (t : Fin cfg0.N) : FVec Ideal S512x256 .f32 := iblk m c 0 t

abbrev taps (c : Dev nD) (t : Fin cfg0.N) : FVec Ideal S3x256 .f32 := iblk m c 5 t

/-- One entry of block `t`, from the rows kept. -/
theorem entry (c : Dev nD) (t : Fin cfg0.N) (a : Fin 512) (k : Fin 256) (z : S512x256.Idx) (h0 : (z 0).val = a.val) (h1 : (z 1).val = k.val) (n0 n1 n2 : ℕ)
    (e0 : n0 = 512 * t.val + a.val) (e1 : n1 = 1 + (512 * t.val + a.val)) (e2 : n2 = 2 + (512 * t.val + a.val)) :
    lead m c t (ix2 a k)
      * (taps m c t (ix2 0 k) * tap (m ((c : Thread nD τ).loc main_arg0)) n0 k
        + taps m c t (ix2 1 k) * tap (m ((c : Thread nD τ).loc main_arg0)) n1 k
        + taps m c t (ix2 2 k) * tap (m ((c : Thread nD τ).loc main_arg0)) n2 k)
    = ref (m ((c : Thread nD τ).loc main_arg0)) (m ((c : Thread nD τ).loc main_arg1)) (((View.whole main_v0).slice (win0_6.rect t)).emb z) := by
  have ht := point_lt t
  have hr : 512 * t.val + a.val < 8192 := by omega
  have e : ((View.whole main_v0).slice (win0_6.rect t)).emb z = ix2 ⟨512 * t.val + a.val, hr⟩ k := by
    have e0 : (win0_6.blk t).view.emb z 0 = (⟨512 * t.val + a.val, hr⟩ : Fin 8192) := Fin.ext (by blk_simp [idx t]; dsimp only; omega)
    have e1 : (win0_6.blk t).view.emb z 1 = k := Fin.ext (by blk_simp [idx t]; omega)
    exact funext (Fin.forall_fin_two.mpr ⟨e0, e1⟩)
  refine Eq.trans ?_ ((congrArg (ref _ _) e).trans (ref_at _ _ _ _)).symm
  have w5 : ∀ b : Fin 3, taps m c t (ix2 b k) = m ((c : Thread nD τ).loc main_arg1) (ix2 b k) := by
    intro b
    blk_point [iblk, V, idx t]
  have w0 : lead m c t (ix2 a k) = m ((c : Thread nD τ).loc main_arg0) (ix2 ⟨512 * t.val + a.val, hr⟩ ⟨k.val, by omega⟩) := by
    blk_point [iblk, V, idx t]
  rw [w0, w5, w5, w5, e0, e1, e2]

theorem final (c : Dev nD) : (dats m 0 c).arrAt 6 (cfgs 0).N = ref (m ((c : Thread nD τ).loc main_arg0)) (m ((c : Thread nD τ).loc main_arg1)) := by
  refine (dats m 0 c).arrAt_eq_of_covers 6 _ (by decide +kernel) fun t _ y => ?_
  blk_simp
  rw [after0_6]
  unfold outsAt0
  frame_out
  canon_tiles z h
  all_goals
    pointwise [k0_pay1, k0_pay4, k0_pay5, k0_pay6, k0_pay7, k0_pay8, k0_pay9, k0_pay10, k0_pay11, k0_pay12, k0_pay13, k0_pay14]
    rw [held_at, held_at, held_at]
    refine entry m c t _ _ y ?_ ?_ _ _ _ ?_ ?_ ?_
  all_goals
    dsimp only
    omega

end Cert.ShortConvValue

end
-- ==== Proof.StandardRows.lean ====
/-
  One row of a layer norm over 256 channels, over the extended reals, and the arrays of the references that hold
  such rows.
-/
module

public import proofs.«01_k».proof.Proof.Gen.ConfNormBackwardRefIdeal.Run
public import proofs.«01_k».proof.Proof.NormRows

@[expose] public section

set_option maxRecDepth 16384

noncomputable section

namespace Cert.StandardRows

open Cert.ConfNormBackwardRefIdeal Cert.ConfNormBackwardRefIdeal.Gen Idealize.ShloMosaic Idealize.ShloMosaic.StableHlo
open Cert.NormRows (row)

/-- The mean of a row's 256 entries. -/
def mean (f : Fin 256 → EReal) : EReal := Ideal.div (∑ k, f k) (Ideal.ofBits .f32 0x43800000#32)

/-- The row, less its mean. -/
def cen (x : Fin 256 → EReal) (k : Fin 256) : EReal := x k - mean x

/-- The reciprocal root of a row's variance. -/
def scale (x : Fin 256 → EReal) : EReal := Ideal.rsqrt (mean (fun k => cen x k * cen x k) + Ideal.ofBits .f32 0x358637BD#32)

/-- The row, standardised. -/
def std (x : Fin 256 → EReal) (k : Fin 256) : EReal := cen x k * scale x

/-- The row's layer norm. -/
def nrm (x g b : Fin 256 → EReal) (k : Fin 256) : EReal := std x k * g k + b k

def logis (z : EReal) : EReal := Ideal.div 1 (1 + Ideal.exp (-z))

/-- The derivative of the silu. -/
def bend (z : EReal) : EReal := logis z * (1 + z * (1 - logis z))

/-- The gradient of the layer norm, of the gradient `dy` of its silu. -/
def dn (dy x g b : Fin 256 → EReal) (k : Fin 256) : EReal := dy k * bend (nrm x g b k)

/-- The gradient into the row, of the gradient `d` of the standardised row. -/
def back (x d : Fin 256 → EReal) (k : Fin 256) : EReal := scale x * (d k - mean d - std x k * mean (fun l => d l * std x l))

theorem entry {n : Nat} (v : FVec Ideal (⟨2, ![n, 256]⟩ : Shape) .f32) (i : (⟨2, ![n, 256]⟩ : Shape).Idx) :
    v i = row v (i 0) (i 1) := by
  unfold row
  blk_ext

variable (d x : FVec Ideal S8192x256 .f32) (g b : FVec Ideal S1x256 .f32)

/-- Each row's mean, as a column. -/
def col (v : FVec Ideal S8192x256 .f32) : FVec Ideal S8192x1 .f32 :=
  Host.divf (broadcastInDim S8192x1 ![0] bcast_S8192_S8192x1_0 (Host.reduceAdd v (constant S_ .f32 0x00000000#32) reducesTo_S8192x256_S8192_d1 h_S_)) (broadcastInDim S8192x1 ![] bcast_S_S8192x1 (constant S_ .f32 0x43800000#32))

/-- A column, across the row. -/
def wide (v : FVec Ideal S8192x1 .f32) : FVec Ideal S8192x256 .f32 := broadcastInDim S8192x256 ![0, 1] bcast_S8192x1_S8192x256_0_1 v

/-- A row, down the column. -/
def tall : FVec Ideal S8192x256 .f32 := broadcastInDim S8192x256 ![0, 1] bcast_S1x256_S8192x256_0_1 g

def ones : FVec Ideal S8192x256 .f32 := broadcastInDim S8192x256 ![] bcast_S_S8192x256 (constant S_ .f32 0x3F800000#32)

def cens : FVec Ideal S8192x256 .f32 := subf x (wide (col x))

def scales : FVec Ideal S8192x1 .f32 :=
  Host.rsqrt (addf (col (mulf (cens x) (cens x))) (broadcastInDim S8192x1 ![] bcast_S_S8192x1 (constant S_ .f32 0x358637BD#32)))

def stds : FVec Ideal S8192x256 .f32 := mulf (cens x) (wide (scales x))

def nrms : FVec Ideal S8192x256 .f32 := addf (mulf (stds x) (tall g)) (tall b)

def sigs (n : FVec Ideal S8192x256 .f32) : FVec Ideal S8192x256 .f32 := Host.divf ones (addf ones (Host.exp (Host.negf n)))

theorem col_at (v : FVec Ideal S8192x256 .f32) (i : S8192x1.Idx) : col v i = mean (row v (i 0)) := by
  unfold col mean row
  pointwise

theorem wide_at (v : FVec Ideal S8192x1 .f32) (i : S8192x256.Idx) : wide v i = v (ix2 (i 0) 0) := by
  unfold wide
  pointwise

theorem tall_at (i : S8192x256.Idx) : tall g i = row g 0 (i 1) := by
  unfold tall row
  pointwise

theorem ones_at (i : S8192x256.Idx) : ones i = 1 := by
  unfold ones
  pointwise

theorem cens_at (i : S8192x256.Idx) : cens x i = cen (row x (i 0)) (i 1) := by
  unfold cens cen
  pointwise
  rw [wide_at, col_at, entry x i]
  rfl

theorem scales_at (i : S8192x1.Idx) : scales x i = scale (row x (i 0)) := by
  unfold scales scale
  pointwise
  rw [col_at]
  refine congrArg (fun z => Ideal.rsqrt (mean z + _)) (funext fun k => ?_)
  unfold row
  pointwise
  rw [cens_at]
  rfl

theorem stds_at (i : S8192x256.Idx) : stds x i = std (row x (i 0)) (i 1) := by
  unfold stds std
  pointwise
  rw [wide_at, scales_at, cens_at]
  rfl

theorem nrms_at (i : S8192x256.Idx) : nrms x g b i = nrm (row x (i 0)) (row g 0) (row b 0) (i 1) := by
  unfold nrms nrm
  pointwise
  rw [tall_at, tall_at, stds_at]

theorem sigs_at (n : FVec Ideal S8192x256 .f32) (i : S8192x256.Idx) : sigs n i = logis (n i) := by
  unfold sigs logis
  pointwise
  rw [ones_at]

end Cert.StandardRows

end
-- ==== Proof.GatingValue.lean ====
/-
  The spatial gating: chunks of 128 rows, mixed by the lower triangle of each group's weights.
-/
module

public import proofs.«01_k».proof.Proof.Gen.GatingIdeal.Value
public import proofs.«01_k».proof.Proof.Gen.GatingRefIdeal.Run
public import proofs.«01_k».proof.Proof.StandardRows
public import Idealize.ShloMosaic.Lib.Pipeline.ValueKit

@[expose] public section

set_option maxRecDepth 16384

noncomputable section

namespace Cert.GatingValue

open Cert.GatingIdeal Cert.GatingIdeal.Gen Idealize.ShloMosaic Idealize.ShloMosaic.TcCoe Idealize.SL.Sem Cert.StandardRows
open Idealize.ShloMosaic.Pipeline (Dat)
open Cert.NormRows (row)

section Reference

variable (x : FVec Ideal S8192x1792 .f32) (g b : FVec Ideal S1x256 .f32) (w : FVec Ideal S4x128x128 .f32) (v : FVec Ideal S128x4 .f32)

/-- The columns that are mixed. -/
def inner : FVec Ideal Cert.ConfNormBackwardRefIdeal.S8192x256 .f32 :=
  extractStridedSlice Cert.GatingRefIdeal.S8192x256 ![0, 1024] x Cert.GatingRefIdeal.Gen.slices_S8192x1792_S8192x256_0_1024

/-- The weights' lower triangles. -/
def lower : FVec Ideal Cert.GatingRefIdeal.S4x128x128 .f32 :=
  select (broadcastInDim Cert.GatingRefIdeal.S4x128x128 ![0, 1, 2] Cert.GatingRefIdeal.Gen.bcast_S1x128x128_S4x128x128_0_1_2 (broadcastInDim Cert.GatingRefIdeal.S1x128x128 ![1, 2] Cert.GatingRefIdeal.Gen.bcast_S128x128_S1x128x128_1_2 (cmpi .sge (broadcastInDim Cert.GatingRefIdeal.S128x128 ![0, 1] Cert.GatingRefIdeal.Gen.bcast_S128x1_S128x128_0_1 (broadcastInDim Cert.GatingRefIdeal.S128x1 ![0] Cert.GatingRefIdeal.Gen.bcast_S128_S128x1_0 (iotaInDim Cert.GatingRefIdeal.S128 32 0))) (broadcastInDim Cert.GatingRefIdeal.S128x128 ![0, 1] Cert.GatingRefIdeal.Gen.bcast_S1x128_S128x128_0_1 (broadcastInDim Cert.GatingRefIdeal.S1x128 ![1] Cert.GatingRefIdeal.Gen.bcast_S128_S1x128_1 (iotaInDim Cert.GatingRefIdeal.S128 32 0)))))) w (broadcastInDim Cert.GatingRefIdeal.S4x128x128 ![] Cert.GatingRefIdeal.Gen.bcast_S_S4x128x128 (id (constant Cert.GatingRefIdeal.S_ .f32 0x00000000#32)))

def ref : FVec Ideal S8192x256 .bf16 :=
  truncf .bf16 (mulf (extractStridedSlice Cert.GatingRefIdeal.S8192x256 ![0, 768] x Cert.GatingRefIdeal.Gen.slices_S8192x1792_S8192x256_0_768) (shapeCast _ (addf (transpose Cert.GatingRefIdeal.S64x128x4x64 [1, 3, 0, 2] (Host.dotGeneral Cert.GatingRefIdeal.dot_S64x128x4x64_S4x128x128_S4x64x64x128_1_2_03_1_2_0 none (shapeCast _ (nrms (inner x) g b) Cert.GatingRefIdeal.Gen.shapeCasts_S8192x256_S64x128x4x64) (lower w)) Cert.GatingRefIdeal.Gen.transposes_S4x64x64x128_S64x128x4x64_1_3_0_2) (broadcastInDim Cert.GatingRefIdeal.S64x128x4x64 ![0, 1, 2, 3] Cert.GatingRefIdeal.Gen.bcast_S1x128x4x1_S64x128x4x64_0_1_2_3 (broadcastInDim Cert.GatingRefIdeal.S1x128x4x1 ![1, 2] Cert.GatingRefIdeal.Gen.bcast_S128x4_S1x128x4x1_1_2 v))) Cert.GatingRefIdeal.Gen.shapeCasts_S64x128x4x64_S8192x256)) bitsLt_bf16_f32

/-- The weight of row `s` in row `t` of a chunk. -/
def weight (h : Fin 4) (t s : Fin 128) : EReal := if s.val ≤ t.val then w (ix3 h t s) else 0

theorem sge_at : ∀ t s : Fin 128, IntOp.cmpi .sge (BitVec.ofNat 32 t.val) (BitVec.ofNat 32 s.val) = if s.val ≤ t.val then 1#1 else 0#1 := by
  decide +kernel

theorem lower_at (h : Fin 4) (t s : Fin 128) : lower w (ix3 h t s) = weight w h t s := by
  unfold lower weight
  pointwise [sge_at]
  by_cases hs : s.val ≤ t.val
  · rw [if_pos hs, if_pos hs]
    rfl
  · rw [if_neg hs, if_neg hs]
    show id (constant (F := Ideal) Cert.GatingRefIdeal.S_ .f32 0#32) ix0 = 0
    rw [id]
    pointwise

/-- Row `s` of the chunk that row `r` is in. -/
def mate (r : Fin 8192) (s : Fin 128) : Fin 8192 := ⟨r.val / 128 * 128 + s.val, by omega⟩

/-- The channel's group. -/
def group (k : Fin 256) : Fin 4 := ⟨k.val / 64, by omega⟩

theorem ref_at (r : Fin 8192) (k : Fin 256) : ref x g b w v (ix2 r k)
    = x (ix2 r ⟨768 + k.val, by omega⟩) * (∑ s, nrm (row (inner x) (mate r s)) (row g 0) (row b 0) k * weight w (group k) ⟨r.val % 128, by omega⟩ s
      + v (ix2 ⟨r.val % 128, by omega⟩ (group k))) := by
  unfold ref
  pointwise
  simp only [nrms_at, lower_at]
  rfl

end Reference

section Block

/-- One where the channel is of group `h`, else zero. -/
def hot (k : Fin 256) (h : ℕ) : EReal := if k.val / 64 = h then 1 else 0

theorem pick (k : Fin 256) (W : Fin 4 → Fin 128 → EReal) (n : Fin 128 → EReal) (B : Fin 4 → EReal) :
    B 0 * hot k 0 + B 1 * hot k 1 + B 2 * hot k 2 + B 3 * hot k 3 + ∑ s, W 0 s * (n s * hot k 0) + ∑ s, W 1 s * (n s * hot k 1)
      + ∑ s, W 2 s * (n s * hot k 2) + ∑ s, W 3 s * (n s * hot k 3)
    = ∑ s, n s * W (group k) s + B (group k) := by
  have h : k.val / 64 = 0 ∨ k.val / 64 = 1 ∨ k.val / 64 = 2 ∨ k.val / 64 = 3 := by omega
  have hg : ∀ a : Fin 4, k.val / 64 = a.val → group k = a := fun a e => Fin.ext e
  rcases h with h | h | h | h
  · rw [hg 0 h]
    simp [hot, h, mul_comm, add_comm]
  · rw [hg 1 h]
    simp [hot, h, mul_comm, add_comm]
  · rw [hg 2 h]
    simp [hot, h, mul_comm, add_comm]
  · rw [hg 3 h]
    simp [hot, h, mul_comm, add_comm]

variable (m0 m1 m2 m3 : FVec Ideal S1x256 .f32) (w0 w1 w2 w3 : FVec Ideal S128x128 .bf16) (e x u : FVec Ideal S128x256 .f32) (g b : FVec Ideal S1x256 .f32)

theorem pay_nrm (j : S128x256.Idx) : k0_pay13 (F := Ideal) x g b j = nrm (row x (j 0)) (row g 0) (row b 0) (j 1) := by
  unfold k0_pay13 nrm std scale cen mean
  pointwise
  rw [entry x j]
  rfl

theorem chunk_at (a : Fin 128) (k : Fin 256) : k0_pay16 (F := Ideal) w3 (k0_pay14 m0 m1 m2 w0 w1 w2 e x g b) (k0_pay15 m3 x g b) (constant S128x256 .f32 0x00000000#32) u (ix2 a k)
    = u (ix2 a k) * (e (ix2 a k) + ∑ s, w0 (ix2 a s) * (nrm (row x s) (row g 0) (row b 0) k * m0 (ix2 0 k))
        + ∑ s, w1 (ix2 a s) * (nrm (row x s) (row g 0) (row b 0) k * m1 (ix2 0 k))
        + ∑ s, w2 (ix2 a s) * (nrm (row x s) (row g 0) (row b 0) k * m2 (ix2 0 k))
        + ∑ s, w3 (ix2 a s) * (nrm (row x s) (row g 0) (row b 0) k * m3 (ix2 0 k))) := by
  unfold k0_pay16 k0_pay14 k0_pay15
  pointwise
  simp only [pay_nrm]
  rfl

theorem first_eq : k0_pay11 (F := Ideal) m0 m1 m2 m3 w0 w1 w2 w3 e x g b u
    = k0_pay16 w3 (k0_pay14 m0 m1 m2 w0 w1 w2 e x g b) (k0_pay15 m3 x g b) (constant S128x256 .f32 0x00000000#32) u := rfl

theorem second_eq : k0_pay12 (F := Ideal) m0 m1 m2 m3 w0 w1 w2 w3 e x g b u
    = k0_pay16 w3 (k0_pay14 m0 m1 m2 w0 w1 w2 e x g b) (k0_pay15 m3 x g b) (constant S128x256 .f32 0x00000000#32) u := rfl

theorem fourth_eq : k0_pay1 (F := Ideal) m3 w2 w3 (k0_pay17 x g b) (k0_pay18 m0 m1 w0 w1 e x g b) (k0_pay19 m2 x g b) u
    = k0_pay16 w3 (k0_pay14 m0 m1 m2 w0 w1 w2 e x g b) (k0_pay15 m3 x g b) (constant S128x256 .f32 0x00000000#32) u := rfl

theorem inside0 : ∀ k : Fin 256, BitVec.setWidth 32 (IntOp.andi (IntOp.cmpi CmpIPredicate.sge (BitVec.ofNat 32 k.val) 0#32) (IntOp.cmpi CmpIPredicate.slt (BitVec.ofNat 32 k.val) 64#32)) = if k.val / 64 = 0 then 1#32 else 0#32 := by decide +kernel

theorem inside1 : ∀ k : Fin 256, BitVec.setWidth 32 (IntOp.andi (IntOp.cmpi CmpIPredicate.sge (BitVec.ofNat 32 k.val) 64#32) (IntOp.cmpi CmpIPredicate.slt (BitVec.ofNat 32 k.val) 128#32)) = if k.val / 64 = 1 then 1#32 else 0#32 := by decide +kernel

theorem inside2 : ∀ k : Fin 256, BitVec.setWidth 32 (IntOp.andi (IntOp.cmpi CmpIPredicate.sge (BitVec.ofNat 32 k.val) 128#32) (IntOp.cmpi CmpIPredicate.slt (BitVec.ofNat 32 k.val) 192#32)) = if k.val / 64 = 2 then 1#32 else 0#32 := by decide +kernel

theorem inside3 : ∀ k : Fin 256, BitVec.setWidth 32 (IntOp.andi (IntOp.cmpi CmpIPredicate.sge (BitVec.ofNat 32 k.val) 192#32) (IntOp.cmpi CmpIPredicate.slt (BitVec.ofNat 32 k.val) 256#32)) = if k.val / 64 = 3 then 1#32 else 0#32 := by decide +kernel

theorem hot_of (k : Fin 256) (h : ℕ) : FloatOps.sitofp (F := Ideal) .f32 (if k.val / 64 = h then 1#32 else 0#32) = hot k h := by
  unfold hot
  by_cases e : k.val / 64 = h
  · rw [if_pos e, if_pos e]
    show (((1#32 : BitVec 32).toInt : ℝ) : EReal) = 1
    simp
  · rw [if_neg e, if_neg e]
    show (((0#32 : BitVec 32).toInt : ℝ) : EReal) = 0
    simp

theorem mask0_at (k : Fin 256) : k0_pay2 (F := Ideal) (ix2 0 k) = hot k 0 := by
  unfold k0_pay2
  pointwise
  exact (congrArg _ (inside0 k)).trans (hot_of _ _)

theorem mask1_at (k : Fin 256) : k0_pay3 (F := Ideal) (ix2 0 k) = hot k 1 := by
  unfold k0_pay3
  pointwise
  exact (congrArg _ (inside1 k)).trans (hot_of _ _)

theorem mask2_at (k : Fin 256) : k0_pay4 (F := Ideal) (ix2 0 k) = hot k 2 := by
  unfold k0_pay4
  pointwise
  exact (congrArg _ (inside2 k)).trans (hot_of _ _)

theorem mask3_at (k : Fin 256) : k0_pay5 (F := Ideal) (ix2 0 k) = hot k 3 := by
  unfold k0_pay5
  pointwise
  exact (congrArg _ (inside3 k)).trans (hot_of _ _)

theorem select_at (p : Prop) [Decidable p] (r : EReal) : Scalar.select (if p then 1#1 else 0#1) r 0 = if p then r else 0 := by
  by_cases h : p
  · rw [if_pos h, if_pos h]
    rfl
  · rw [if_neg h, if_neg h]
    rfl

variable (w : Vec Ideal S4x128x128 .f32) (v : Vec Ideal S128x4 .f32)

/-- The rows' and the columns' numbers. -/
abbrev down : IVec S128x128 32 := iota .tc S128x128 32 [0] iota_S128x128_d0_w32

abbrev across : IVec S128x128 32 := iota .tc S128x128 32 [1] iota_S128x128_d1_w32

theorem weight0_at (t s : Fin 128) : k0_pay6 (F := Ideal) (View.ld w r0_0) (ix2 t s) = weight w 0 t s := by
  unfold k0_pay6 weight
  pointwise [sge_at]
  rw [select_at]

theorem weight1_at (t s : Fin 128) : k0_pay7 (F := Ideal) (View.ld w r0_1) (ix2 t s) = weight w 1 t s := by
  unfold k0_pay7 weight
  pointwise [sge_at]
  rw [select_at]

theorem weight2_at (t s : Fin 128) : k0_pay8 (F := Ideal) down across (View.ld w r0_2) (ix2 t s) = weight w 2 t s := by
  unfold k0_pay8 weight
  pointwise [sge_at]
  rw [select_at]

theorem weight3_at (t s : Fin 128) : k0_pay9 (F := Ideal) down across (View.ld w r0_3) (ix2 t s) = weight w 3 t s := by
  unfold k0_pay9 weight
  pointwise [sge_at]
  rw [select_at]

theorem bias_at (v0 v1 v2 v3 : FVec Ideal S128x1 .f32) (a : Fin 128) (k : Fin 256) : k0_pay10 (F := Ideal) m0 m1 m2 m3 v0 v1 v2 v3 (ix2 a k)
    = v0 (ix2 a 0) * m0 (ix2 0 k) + v1 (ix2 a 0) * m1 (ix2 0 k) + v2 (ix2 a 0) * m2 (ix2 0 k) + v3 (ix2 a 0) * m3 (ix2 0 k) := by
  unfold k0_pay10
  pointwise

theorem mix_at (a : Fin 128) (k : Fin 256) : k0_pay16 (k0_pay9 down across (View.ld w r0_3))
      (k0_pay14 k0_pay2 k0_pay3 k0_pay4 (k0_pay6 (View.ld w r0_0)) (k0_pay7 (View.ld w r0_1)) (k0_pay8 down across (View.ld w r0_2))
        (k0_pay10 k0_pay2 k0_pay3 k0_pay4 k0_pay5 (View.ld v r0_4) (View.ld v r0_5) (View.ld v r0_6) (View.ld v r0_7)) x g b)
      (k0_pay15 k0_pay5 x g b) (constant S128x256 .f32 0x00000000#32) u (ix2 a k)
    = u (ix2 a k) * (∑ s, nrm (row x s) (row g 0) (row b 0) k * weight w (group k) a s + v (ix2 a (group k))) := by
  have v0 : View.ld v r0_4 (ix2 a 0) = v (ix2 a 0) := by
    pointwise
  have v1 : View.ld v r0_5 (ix2 a 0) = v (ix2 a 1) := by
    pointwise
  have v2 : View.ld v r0_6 (ix2 a 0) = v (ix2 a 2) := by
    pointwise
  have v3 : View.ld v r0_7 (ix2 a 0) = v (ix2 a 3) := by
    pointwise
  rw [chunk_at, bias_at, v0, v1, v2, v3]
  simp only [mask0_at, mask1_at, mask2_at, mask3_at, weight0_at, weight1_at, weight2_at, weight3_at]
  exact congrArg (u (ix2 a k) * ·) (pick k (fun h s => weight w h a s) (fun s => nrm (row x s) (row g 0) (row b 0) k) (fun h => v (ix2 a h)))

end Block

variable (m : (ℓ : Loc nD τ sig) → Buf (Elt Ideal) ℓ)

theorem idx : ∀ t : Fin cfg0.N, win0_0.index t = ![t.val, 3] ∧ win0_1.index t = ![t.val, 4] ∧ win0_2.index t = ![0, 0] ∧ win0_3.index t = ![0, 0] ∧ win0_4.index t = ![0, 0, 0] ∧ win0_5.index t = ![0, 0] ∧ win0_6.index t = ![t.val, 0] :=
  (by decide +kernel : ∀ t : Fin grid0.N, _)

theorem point_lt (t : Fin cfg0.N) : t.val < 16 := lt_of_lt_of_eq t.isLt N_0

section Entry

variable (c : Dev nD) (t : Fin cfg0.N)

/-- The point's blocks. -/
abbrev lead : Vec Ideal S512x256 .f32 := iblk m c 0 t

abbrev mixed : Vec Ideal S512x256 .f32 := iblk m c 1 t

abbrev gain : Vec Ideal S1x256 .f32 := iblk m c 2 t

abbrev shift : Vec Ideal S1x256 .f32 := iblk m c 3 t

abbrev mixer : Vec Ideal S4x128x128 .f32 := iblk m c 4 t

abbrev offset : Vec Ideal S128x4 .f32 := iblk m c 5 t

/-- What a chunk's formula, read at the blocks, is of the arrays. -/
theorem entry_at (q : ℕ) (hq : q < 4) (x u : FVec Ideal S128x256 .f32) (y : S512x256.Idx) (a : Fin 128) (k : Fin 256)
    (h0 : (y 0).val = 128 * q + a.val) (h1 : (y 1).val = k.val)
    (hx : ∀ (s : Fin 128) (k : Fin 256), x (ix2 s k) = mixed m c t (ix2 ⟨128 * q + s.val, by omega⟩ k))
    (hu : u (ix2 a k) = lead m c t (ix2 ⟨128 * q + a.val, by omega⟩ k)) :
    u (ix2 a k) * (∑ s, nrm (row x s) (row (gain m c t) 0) (row (shift m c t) 0) k * weight (mixer m c t) (group k) a s + offset m c t (ix2 a (group k)))
    = ref (m ((c : Thread nD τ).loc main_arg0)) (m ((c : Thread nD τ).loc main_arg1)) (m ((c : Thread nD τ).loc main_arg2)) (m ((c : Thread nD τ).loc main_arg3)) (m ((c : Thread nD τ).loc main_arg4))
      (((View.whole main_v0).slice (win0_6.rect t)).emb y) := by
  have ht := point_lt t
  have hr : 512 * t.val + 128 * q + a.val < 8192 := by omega
  have e : ((View.whole main_v0).slice (win0_6.rect t)).emb y = ix2 ⟨512 * t.val + 128 * q + a.val, hr⟩ k := by
    have e0 : (win0_6.blk t).view.emb y 0 = (⟨512 * t.val + 128 * q + a.val, hr⟩ : Fin 8192) := Fin.ext (by blk_simp [idx t]; dsimp only; omega)
    have e1 : (win0_6.blk t).view.emb y 1 = k := Fin.ext (by blk_simp [idx t]; omega)
    exact funext (Fin.forall_fin_two.mpr ⟨e0, e1⟩)
  refine Eq.trans ?_ ((congrArg (ref _ _ _ _ _) e).trans (ref_at _ _ _ _ _ _ _)).symm
  have g0 : row (gain m c t) 0 = row (m ((c : Thread nD τ).loc main_arg1)) 0 := by
    funext l
    unfold row
    blk_ext [iblk, V, idx t]
  have b0 : row (shift m c t) 0 = row (m ((c : Thread nD τ).loc main_arg2)) 0 := by
    funext l
    unfold row
    blk_ext [iblk, V, idx t]
  have w0 : ∀ s, weight (mixer m c t) (group k) a s = weight (m ((c : Thread nD τ).loc main_arg3)) (group k) a s := by
    intro s
    unfold weight
    refine if_congr Iff.rfl ?_ rfl
    blk_point [iblk, V, idx t]
  have v0 : offset m c t (ix2 a (group k)) = m ((c : Thread nD τ).loc main_arg4) (ix2 a (group k)) := by
    blk_point [iblk, V, idx t]
  have u0 : lead m c t (ix2 ⟨128 * q + a.val, by omega⟩ k) = m ((c : Thread nD τ).loc main_arg0) (ix2 ⟨512 * t.val + 128 * q + a.val, hr⟩ ⟨768 + k.val, by omega⟩) := by
    blk_point [iblk, V, idx t]
  have x0 : ∀ s : Fin 128, row x s = row (inner (m ((c : Thread nD τ).loc main_arg0))) (mate ⟨512 * t.val + 128 * q + a.val, hr⟩ s) := by
    intro s
    funext l
    refine (hx s l).trans ?_
    unfold row inner mate
    pointwise
    blk_point [iblk, V, idx t]
  have r0 : (⟨(512 * t.val + 128 * q + a.val) % 128, by omega⟩ : Fin 128) = a := Fin.ext (by dsimp only; omega)
  rw [hu, u0, g0, b0, v0, r0]
  simp only [x0, w0]

end Entry

theorem pair (z : S128x256.Idx) : ∃ (a : Fin 128) (k : Fin 256), z = ix2 a k :=
  ⟨z 0, z 1, funext (Fin.forall_fin_two.mpr ⟨rfl, rfl⟩)⟩

theorem final (c : Dev nD) : (dats m 0 c).arrAt 6 (cfgs 0).N = ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  unfold_out out0_6
  frame_out
  canon_tiles z h
  all_goals obtain ⟨a, k, rfl⟩ := pair z
  · refine (mix_at (View.ld (mixed m c t) r0_12) (View.ld (lead m c t) r0_12) (gain m c t) (shift m c t) (mixer m c t) (offset m c t) a k).trans ?_
    refine entry_at m c t 3 (by omega) _ _ y a k h0 (h1.trans rfl) (fun s l => ?_) ?_ <;> pointwise
  · refine (mix_at (View.ld (mixed m c t) r0_11) (View.ld (lead m c t) r0_11) (gain m c t) (shift m c t) (mixer m c t) (offset m c t) a k).trans ?_
    refine entry_at m c t 2 (by omega) _ _ y a k h0 (h1.trans rfl) (fun s l => ?_) ?_ <;> pointwise
  · refine (mix_at (View.ld (mixed m c t) r0_10) (View.ld (lead m c t) r0_10) (gain m c t) (shift m c t) (mixer m c t) (offset m c t) a k).trans ?_
    refine entry_at m c t 1 (by omega) _ _ y a k h0 (h1.trans rfl) (fun s l => ?_) ?_ <;> pointwise
  · refine (mix_at (View.ld (mixed m c t) r0_8) (View.ld (lead m c t) r0_8) (gain m c t) (shift m c t) (mixer m c t) (offset m c t) a k).trans ?_
    refine entry_at m c t 0 (by omega) _ _ y a k (h0.trans (by simp)) (h1.trans rfl) (fun s l => ?_) ?_ <;> pointwise

end Cert.GatingValue

end
-- ==== Proof.ConfNormBackwardValue.lean ====
/-
  The backward pass of the conformer's layer norm and silu: blocks of 512 rows, and the sums over them.
-/
module

public import proofs.«01_k».proof.Proof.Gen.ConfNormBackwardIdeal.Value
public import proofs.«01_k».proof.Proof.StandardRows
public import Idealize.ShloMosaic.Lib.Pipeline.ValueKit

@[expose] public section

set_option maxRecDepth 16384

noncomputable section

namespace Cert.ConfNormBackwardValue

open Cert.ConfNormBackwardIdeal Cert.ConfNormBackwardIdeal.Gen Idealize.ShloMosaic Idealize.ShloMosaic.TcCoe Idealize.SL.Sem Cert.StandardRows
open Idealize.ShloMosaic.Pipeline (Dat)
open Cert.NormRows (row)

section Reference

variable (d x : FVec Ideal Cert.ConfNormBackwardRefIdeal.S8192x256 .f32) (g b : FVec Ideal Cert.ConfNormBackwardRefIdeal.S1x256 .f32)

def dns : FVec Ideal Cert.ConfNormBackwardRefIdeal.S8192x256 .f32 :=
  mulf d (mulf (sigs (nrms x g b)) (addf ones (mulf (nrms x g b) (subf ones (sigs (nrms x g b))))))

def dhs : FVec Ideal Cert.ConfNormBackwardRefIdeal.S8192x256 .f32 := mulf (dns d x g b) (tall g)

def refDx : FVec Ideal Cert.ConfNormBackwardRefIdeal.S8192x256 .f32 :=
  mulf (wide (scales x)) (subf (subf (dhs d x g b) (wide (col (dhs d x g b)))) (mulf (stds x) (wide (col (mulf (dhs d x g b) (stds x))))))

/-- A sum down the columns. -/
def down (v : FVec Ideal Cert.ConfNormBackwardRefIdeal.S8192x256 .f32) : FVec Ideal Cert.ConfNormBackwardRefIdeal.S1x256 .f32 :=
  broadcastInDim Cert.ConfNormBackwardRefIdeal.S1x256 ![1] Cert.ConfNormBackwardRefIdeal.Gen.bcast_S256_S1x256_1 (Host.reduceAdd v (constant Cert.ConfNormBackwardRefIdeal.S_ .f32 0x00000000#32) Cert.ConfNormBackwardRefIdeal.Gen.reducesTo_S8192x256_S256_d0 Cert.ConfNormBackwardRefIdeal.Gen.h_S_)

def refG : FVec Ideal Cert.ConfNormBackwardRefIdeal.S1x256 .f32 := down (mulf (dns d x g b) (stds x))

def refB : FVec Ideal Cert.ConfNormBackwardRefIdeal.S1x256 .f32 := down (dns d x g b)

theorem dns_at (i : Cert.ConfNormBackwardRefIdeal.S8192x256.Idx) : dns d x g b i = dn (row d (i 0)) (row x (i 0)) (row g 0) (row b 0) (i 1) := by
  unfold dns dn bend
  pointwise
  rw [sigs_at, nrms_at, ones_at, entry d i]

theorem dhs_row (r : Fin 8192) : row (dhs d x g b) r = fun k => dn (row d r) (row x r) (row g 0) (row b 0) k * row g 0 k := by
  funext k
  unfold row dhs
  pointwise
  rw [dns_at, tall_at]
  rfl

theorem dhs_std_row (r : Fin 8192) : row (mulf (dhs d x g b) (stds x)) r
    = fun k => dn (row d r) (row x r) (row g 0) (row b 0) k * row g 0 k * std (row x r) k := by
  funext k
  show dhs d x g b (ix2 r k) * stds x (ix2 r k) = _
  rw [stds_at]
  exact congrArg (· * _) (congrFun (dhs_row d x g b r) k)

theorem refDx_at (i : Cert.ConfNormBackwardRefIdeal.S8192x256.Idx) :
    refDx d x g b i = back (row x (i 0)) (fun k => dn (row d (i 0)) (row x (i 0)) (row g 0) (row b 0) k * row g 0 k) (i 1) := by
  unfold refDx back
  pointwise
  rw [wide_at, wide_at, wide_at, scales_at, stds_at, col_at, col_at, entry (dhs d x g b) i]
  have h := dhs_row d x g b (i 0)
  have h' := dhs_std_row d x g b (i 0)
  show scale (row x (i 0)) * (row (dhs d x g b) (i 0) (i 1) - mean (row (dhs d x g b) (i 0)) - std (row x (i 0)) (i 1) * mean (row (mulf (dhs d x g b) (stds x)) (i 0))) = _
  rw [h, h']

theorem down_at (v : FVec Ideal Cert.ConfNormBackwardRefIdeal.S8192x256 .f32) (i : Cert.ConfNormBackwardRefIdeal.S1x256.Idx) :
    down v i = ∑ r : Fin 8192, v (ix2 r (i 1)) := by
  unfold down
  pointwise

theorem refG_at (i : Cert.ConfNormBackwardRefIdeal.S1x256.Idx) : refG d x g b i
    = ∑ r : Fin 8192, dn (row d r) (row x r) (row g 0) (row b 0) (i 1) * std (row x r) (i 1) := by
  rw [refG, down_at]
  pointwise
  simp only [dns_at, stds_at]
  rfl

theorem refB_at (i : Cert.ConfNormBackwardRefIdeal.S1x256.Idx) : refB d x g b i
    = ∑ r : Fin 8192, dn (row d r) (row x r) (row g 0) (row b 0) (i 1) := by
  rw [refB, down_at]
  simp only [dns_at]
  rfl

end Reference

section Block

variable (d x : Vec Ideal S512x256 .f32) (g b : Vec Ideal S1x256 .f32)

theorem pay_cen (j : S512x256.Idx) : k0_pay6 x j = cen (row x (j 0)) (j 1) := by
  unfold k0_pay6 cen mean
  pointwise
  rw [entry x j]
  rfl

theorem pay_scale (j : S512x1.Idx) : k0_pay7 x j = scale (row x (j 0)) := by
  unfold k0_pay7 scale mean
  pointwise
  simp only [pay_cen]
  rfl

theorem pay_std (j : S512x256.Idx) : k0_pay8 x j = std (row x (j 0)) (j 1) := by
  unfold k0_pay8 std
  pointwise
  rw [pay_cen, pay_scale]
  rfl

theorem pay_dn (j : S512x256.Idx) : k0_pay9 x g b d j = dn (row d (j 0)) (row x (j 0)) (row g 0) (row b 0) (j 1) := by
  unfold k0_pay9 dn bend logis nrm
  pointwise
  rw [pay_std, zero_sub, entry d j]
  rfl

theorem pay_dx (j : S512x256.Idx) : k0_pay1 (k0_pay7 x) (k0_pay8 x) (k0_pay9 x g b d) g j
    = back (row x (j 0)) (fun k => dn (row d (j 0)) (row x (j 0)) (row g 0) (row b 0) k * row g 0 k) (j 1) := by
  unfold k0_pay1 back mean
  pointwise
  simp only [pay_dn, pay_std, pay_scale]
  rfl

theorem pay_g (a : Vec Ideal S1x256 .f32) (j : S1x256.Idx) : k0_pay4 (k0_pay8 x) (k0_pay9 x g b d) a j
    = a j + ∑ r : Fin 512, dn (row d r) (row x r) (row g 0) (row b 0) (j 1) * std (row x r) (j 1) := by
  unfold k0_pay4
  pointwise
  simp only [pay_dn, pay_std]
  rfl

theorem pay_b (a : Vec Ideal S1x256 .f32) (j : S1x256.Idx) : k0_pay5 (k0_pay9 x g b d) a j
    = a j + ∑ r : Fin 512, dn (row d r) (row x r) (row g 0) (row b 0) (j 1) := by
  unfold k0_pay5
  pointwise
  simp only [pay_dn]
  rfl

theorem pay_zero (j : S1x256.Idx) : k0_pay2 (F := Ideal) j = 0 := by
  unfold k0_pay2
  pointwise

theorem pay_zero' (j : S1x256.Idx) : k0_pay3 (F := Ideal) j = 0 := by
  unfold k0_pay3
  pointwise

end Block

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] :=
  (by decide +kernel : ∀ t : Fin grid0.N, _)

theorem point_lt (t : Fin cfg0.N) : t.val < 16 := lt_of_lt_of_eq t.isLt N_0

theorem last_point (t : Fin cfg0.N) (h : t.val % 16 = 15) : t.val + 1 = cfg0.N := by
  have := point_lt t
  exact (by omega : t.val + 1 = 16).trans N_0.symm

/-- The array's row that row `r` of block `t` is. -/
def at_ (t : Fin cfg0.N) (r : Fin 512) : Fin 8192 := ⟨t.val * 512 + r.val, by have := point_lt t; omega⟩

section Rows

variable (c : Dev nD) (t : Fin cfg0.N)

/-- What is said of a block's rows is said of the arrays' rows. -/
theorem of_rows {A : Type} (f : (Fin 256 → EReal) → (Fin 256 → EReal) → (Fin 256 → EReal) → (Fin 256 → EReal) → A) (r : Fin 512) :
    f (row (show FVec Ideal S512x256 .f32 from iblk m c 0 t) r) (row (show FVec Ideal S512x256 .f32 from iblk m c 1 t) r)
      (row (show FVec Ideal S1x256 .f32 from iblk m c 2 t) 0) (row (show FVec Ideal S1x256 .f32 from iblk m c 3 t) 0)
    = f (row (m ((c : Thread nD τ).loc main_arg0)) (at_ t r)) (row (m ((c : Thread nD τ).loc main_arg1)) (at_ t r))
      (row (m ((c : Thread nD τ).loc main_arg2)) 0) (row (m ((c : Thread nD τ).loc main_arg3)) 0) := by
  congr 1 <;> funext k <;> unfold row <;> try unfold at_
  all_goals blk_ext [iblk, V, idx t]

/-- The gradient's row. -/
def dxRow (d x g b : Fin 256 → EReal) (k : Fin 256) : EReal := back x (fun l => dn d x g b l * g l) k

def gRow (d x g b : Fin 256 → EReal) (k : Fin 256) : EReal := dn d x g b k * std x k

theorem dx_after (j : S512x256.Idx) : (outsAt0 m c t.val t.isLt).1 j
    = dxRow (row (m ((c : Thread nD τ).loc main_arg0)) (at_ t (j 0))) (row (m ((c : Thread nD τ).loc main_arg1)) (at_ t (j 0)))
      (row (m ((c : Thread nD τ).loc main_arg2)) 0) (row (m ((c : Thread nD τ).loc main_arg3)) 0) (j 1) := by
  have hN := point_lt t
  refine Eq.trans ?_ (of_rows m c t (fun d x g b => dxRow d x g b (j 1)) (j 0))
  rcases Nat.eq_zero_or_pos t.val with h | h
  · rw [outsAt0_A m c t (by omega)]
    frame_out
    exact pay_dx _ _ _ _ j
  · rw [outsAt0_B m c t (by omega)]
    frame_out
    exact pay_dx _ _ _ _ j

end Rows

theorem final_dx (c : Dev nD) : (dats m 0 c).arrAt 4 cfg0.N = refDx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, dx_after]
  have e0 : (win0_4.blk t).view.emb y 0 = at_ t (y 0) := Fin.ext (by unfold at_; blk_simp [idx t])
  have e1 : (win0_4.blk t).view.emb y 1 = y 1 := Fin.ext (by blk_simp [idx t])
  refine Eq.trans ?_ (refDx_at _ _ _ _ _).symm
  exact (congrArg₂ (fun r k => dxRow (row (m ((c : Thread nD τ).loc main_arg0)) r) (row (m ((c : Thread nD τ).loc main_arg1)) r)
    (row (m ((c : Thread nD τ).loc main_arg2)) 0) (row (m ((c : Thread nD τ).loc main_arg3)) 0) k) e0 e1).symm

/-- The sum over the blocks of the sums over their rows is the sum over the rows. -/
theorem sum_rows (f : Fin 8192 → EReal) : ∑ t : Fin cfg0.N, ∑ r : Fin 512, f (at_ t r) = ∑ r, f r :=
  Fin.sum_mul_add_congr (L := 8192) (S := 16) (n := 512) (F := fun t r => f ⟨t.val * 512 + r.val, by omega⟩) fun _ _ _ => rfl

theorem final_g (c : Dev nD) : (dats m 0 c).arrAt 5 cfg0.N = refG (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_last (fun n h => (outsAt0 m c n h).2.1) 16 (fun _ => 0)
    (fun t j => ∑ r : Fin 512, gRow (row (m ((c : Thread nD τ).loc main_arg0)) (at_ t r)) (row (m ((c : Thread nD τ).loc main_arg1)) (at_ t r)) (row (m ((c : Thread nD τ).loc main_arg2)) 0) (row (m ((c : Thread nD τ).loc main_arg3)) 0) (j 1))
    (fun t h j => by
      rw [outsAt0_A m c t h]; frame_out
      rw [pay_g, pay_zero]
      exact congrArg (0 + ·) (Finset.sum_congr rfl fun r _ => of_rows m c t (fun d x g b => gRow d x g b (j 1)) r))
    (fun t h j => by
      rw [outsAt0_B m c t h]; frame_out
      rw [pay_g]
      exact congrArg (_ + ·) (Finset.sum_congr rfl fun r _ => of_rows m c t (fun d x g b => gRow d x g b (j 1)) r))
    (le_of_eq N_0) t (last_point t ((flush0_5 t).mp hf)) _, zero_add, refG_at]
  have e1 : (win0_5.blk t).view.emb y 1 = y 1 := Fin.ext (by blk_simp [idx t])
  exact (sum_rows fun r => gRow (row (m ((c : Thread nD τ).loc main_arg0)) r) (row (m ((c : Thread nD τ).loc main_arg1)) r) (row (m ((c : Thread nD τ).loc main_arg2)) 0) (row (m ((c : Thread nD τ).loc main_arg3)) 0) (y 1)).trans
    (Finset.sum_congr rfl fun r _ => congrArg (gRow _ _ _ _) e1.symm)

theorem final_b (c : Dev nD) : (dats m 0 c).arrAt 6 cfg0.N = refB (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_last (fun n h => (outsAt0 m c n h).2.2) 16 (fun _ => 0)
    (fun t j => ∑ r : Fin 512, dn (row (m ((c : Thread nD τ).loc main_arg0)) (at_ t r)) (row (m ((c : Thread nD τ).loc main_arg1)) (at_ t r)) (row (m ((c : Thread nD τ).loc main_arg2)) 0) (row (m ((c : Thread nD τ).loc main_arg3)) 0) (j 1))
    (fun t h j => by
      rw [outsAt0_A m c t h]; frame_out
      rw [pay_b, pay_zero']
      exact congrArg (0 + ·) (Finset.sum_congr rfl fun r _ => of_rows m c t (fun d x g b => dn d x g b (j 1)) r))
    (fun t h j => by
      rw [outsAt0_B m c t h]; frame_out
      rw [pay_b]
      exact congrArg (_ + ·) (Finset.sum_congr rfl fun r _ => of_rows m c t (fun d x g b => dn d x g b (j 1)) r))
    (le_of_eq N_0) t (last_point t ((flush0_6 t).mp hf)) _, zero_add, refB_at]
  have e1 : (win0_6.blk t).view.emb y 1 = y 1 := Fin.ext (by blk_simp [idx t])
  exact (sum_rows fun r => dn (row (m ((c : Thread nD τ).loc main_arg0)) r) (row (m ((c : Thread nD τ).loc main_arg1)) r) (row (m ((c : Thread nD τ).loc main_arg2)) 0) (row (m ((c : Thread nD τ).loc main_arg3)) 0) (y 1)).trans
    (Finset.sum_congr rfl fun r _ => congrArg (dn _ _ _ _) e1.symm)

/-- The reference's results are these arrays. -/
theorem run_ref (m : (ℓ : Loc Cert.ConfNormBackwardRefIdeal.nD Cert.ConfNormBackwardRefIdeal.τ Cert.ConfNormBackwardRefIdeal.sig) → Buf (Elt Ideal) ℓ) (c : Dev Cert.ConfNormBackwardRefIdeal.nD) :
    Cert.ConfNormBackwardRefIdeal.Value.res_out0 m c = refDx (m ((c.tc : Thread _ _).loc Cert.ConfNormBackwardRefIdeal.main_arg0)) (m ((c.tc : Thread _ _).loc Cert.ConfNormBackwardRefIdeal.main_arg1)) (m ((c.tc : Thread _ _).loc Cert.ConfNormBackwardRefIdeal.main_arg2)) (m ((c.tc : Thread _ _).loc Cert.ConfNormBackwardRefIdeal.main_arg3)) := rfl

end Cert.ConfNormBackwardValue

end
-- ==== Proof.Calls.lean ====
/-
  The claims about the other calls of the step: each call's results are its reference's terms.
-/
module

public import proofs.«01_k».proof.Defs
public import proofs.«01_k».proof.Proof.PleNormBackwardValue
public import proofs.«01_k».proof.Proof.FfnNormBackwardValue
public import proofs.«01_k».proof.Proof.GradPleProjValue
public import proofs.«01_k».proof.Proof.GradPleGateValue
public import proofs.«01_k».proof.Proof.GradFfnOutValue
public import proofs.«01_k».proof.Proof.GradFfnInValue
public import proofs.«01_k».proof.Proof.GradOutValue
public import proofs.«01_k».proof.Proof.GradGatesValue
public import proofs.«01_k».proof.Proof.GradProjAValue
public import proofs.«01_k».proof.Proof.GradProjQkvValue
public import proofs.«01_k».proof.Proof.GradBranch0Value
public import proofs.«01_k».proof.Proof.GradBranch1Value
public import proofs.«01_k».proof.Proof.GradBranch2Value
public import proofs.«01_k».proof.Proof.GradBranch3Value
public import proofs.«01_k».proof.Proof.ProjAValue
public import proofs.«01_k».proof.Proof.ProjQkvValue
public import proofs.«01_k».proof.Proof.ProjGatesValue
public import proofs.«01_k».proof.Proof.FfnInValue
public import proofs.«01_k».proof.Proof.PleGateValue
public import proofs.«01_k».proof.Proof.MergeValue
public import proofs.«01_k».proof.Proof.MergeBackwardValue
public import proofs.«01_k».proof.Proof.FfnOutValue
public import proofs.«01_k».proof.Proof.FfnBackwardValue
public import proofs.«01_k».proof.Proof.PleOutValue
public import proofs.«01_k».proof.Proof.PleBackwardValue
public import proofs.«01_k».proof.Proof.ShortConvValue
public import proofs.«01_k».proof.Proof.GatingValue
public import proofs.«01_k».proof.Proof.ConfNormBackwardValue

@[expose] public section

noncomputable section

namespace Cert.Calls

open Idealize.ShloMosaic Idealize.ShloMosaic.TcCoe Idealize.SL.Sem

theorem frame_PleNormBackwardRefIdeal : Cert.quiescent_PleNormBackwardRefIdeal := fun m ρ _ =>
  (θ_run _ _ _).mono (fun r h => ⟨fun c => (h c).2.2, sem_eq_zero_of_no_sems rfl r.2⟩) (Cert.PleNormBackwardRefIdeal.Value.run (F := Ideal) m ρ)

theorem algebraic_PleNormBackward : Cert.algebraic_PleNormBackwardIdeal_PleNormBackwardRefIdeal := fun m ρ m' ρ' _ hm =>
  ⟨_, _, Cert.PleNormBackwardIdeal.Value.run_blocks (F := Ideal) m ρ, (θ_run _ _ _).mono (fun r h c => by
      obtain ⟨h0, h1, hk⟩ := h c
      obtain ⟨e0, e1, e2, e3, e4⟩ := hm c
      exact ⟨h0.trans (by rw [PleNormBackwardValue.final_dx, ← e0, ← e1, ← e2, ← e3, ← e4]), h1.trans (by rw [PleNormBackwardValue.final_g, ← e0, ← e1, ← e2]), hk⟩)
    (Cert.PleNormBackwardRefIdeal.Value.run (F := Ideal) m' ρ')⟩

theorem frame_FfnNormBackwardRefIdeal : Cert.quiescent_FfnNormBackwardRefIdeal := fun m ρ _ =>
  (θ_run _ _ _).mono (fun r h => ⟨fun c => (h c).2.2, sem_eq_zero_of_no_sems rfl r.2⟩) (Cert.FfnNormBackwardRefIdeal.Value.run (F := Ideal) m ρ)

theorem algebraic_FfnNormBackward : Cert.algebraic_FfnNormBackwardIdeal_FfnNormBackwardRefIdeal := fun m ρ m' ρ' _ hm =>
  ⟨_, _, Cert.FfnNormBackwardIdeal.Value.run_blocks (F := Ideal) m ρ, (θ_run _ _ _).mono (fun r h c => by
      obtain ⟨h0, h1, hk⟩ := h c
      obtain ⟨e0, e1, e2, e3, e4⟩ := hm c
      exact ⟨h0.trans (by rw [FfnNormBackwardValue.final_dx, ← e0, ← e1, ← e2, ← e3, ← e4]), h1.trans (by rw [FfnNormBackwardValue.final_g, ← e0, ← e1, ← e2]), hk⟩)
    (Cert.FfnNormBackwardRefIdeal.Value.run (F := Ideal) m' ρ')⟩

theorem frame_GradPleProjRefIdeal : Cert.quiescent_GradPleProjRefIdeal := fun m ρ _ =>
  (θ_run _ _ _).mono (fun r h => ⟨fun c => (h c).2, sem_eq_zero_of_no_sems rfl r.2⟩) (Cert.GradPleProjRefIdeal.Value.run (F := Ideal) m ρ)

theorem algebraic_GradPleProj : Cert.algebraic_GradPleProjIdeal_GradPleProjRefIdeal := fun m ρ m' ρ' _ hm =>
  ⟨_, Cert.GradPleProjIdeal.Value.run_blocks (F := Ideal) m ρ, (θ_run _ _ _).mono (fun r h c => by
      obtain ⟨h0, hk⟩ := h c
      obtain ⟨e0, e1⟩ := hm c
      exact ⟨h0.trans (by rw [GradPleProjValue.final, ← e0, ← e1]), hk⟩)
    (Cert.GradPleProjRefIdeal.Value.run (F := Ideal) m' ρ')⟩

theorem frame_GradPleGateRefIdeal : Cert.quiescent_GradPleGateRefIdeal := fun m ρ _ =>
  (θ_run _ _ _).mono (fun r h => ⟨fun c => (h c).2, sem_eq_zero_of_no_sems rfl r.2⟩) (Cert.GradPleGateRefIdeal.Value.run (F := Ideal) m ρ)

theorem algebraic_GradPleGate : Cert.algebraic_GradPleGateIdeal_GradPleGateRefIdeal := fun m ρ m' ρ' _ hm =>
  ⟨_, Cert.GradPleGateIdeal.Value.run_blocks (F := Ideal) m ρ, (θ_run _ _ _).mono (fun r h c => by
      obtain ⟨h0, hk⟩ := h c
      obtain ⟨e0, e1⟩ := hm c
      exact ⟨h0.trans (by rw [GradPleGateValue.final, ← e0, ← e1]), hk⟩)
    (Cert.GradPleGateRefIdeal.Value.run (F := Ideal) m' ρ')⟩

theorem frame_GradFfnOutRefIdeal : Cert.quiescent_GradFfnOutRefIdeal := fun m ρ _ =>
  (θ_run _ _ _).mono (fun r h => ⟨fun c => (h c).2, sem_eq_zero_of_no_sems rfl r.2⟩) (Cert.GradFfnOutRefIdeal.Value.run (F := Ideal) m ρ)

theorem algebraic_GradFfnOut : Cert.algebraic_GradFfnOutIdeal_GradFfnOutRefIdeal := fun m ρ m' ρ' _ hm =>
  ⟨_, Cert.GradFfnOutIdeal.Value.run_blocks (F := Ideal) m ρ, (θ_run _ _ _).mono (fun r h c => by
      obtain ⟨h0, hk⟩ := h c
      obtain ⟨e0, e1⟩ := hm c
      exact ⟨h0.trans (by rw [GradFfnOutValue.final, ← e0, ← e1]), hk⟩)
    (Cert.GradFfnOutRefIdeal.Value.run (F := Ideal) m' ρ')⟩

theorem frame_GradFfnInRefIdeal : Cert.quiescent_GradFfnInRefIdeal := fun m ρ _ =>
  (θ_run _ _ _).mono (fun r h => ⟨fun c => (h c).2, sem_eq_zero_of_no_sems rfl r.2⟩) (Cert.GradFfnInRefIdeal.Value.run (F := Ideal) m ρ)

theorem algebraic_GradFfnIn : Cert.algebraic_GradFfnInIdeal_GradFfnInRefIdeal := fun m ρ m' ρ' _ hm =>
  ⟨_, Cert.GradFfnInIdeal.Value.run_blocks (F := Ideal) m ρ, (θ_run _ _ _).mono (fun r h c => by
      obtain ⟨h0, hk⟩ := h c
      obtain ⟨e0, e1⟩ := hm c
      exact ⟨h0.trans (by rw [GradFfnInValue.final, ← e0, ← e1]), hk⟩)
    (Cert.GradFfnInRefIdeal.Value.run (F := Ideal) m' ρ')⟩

theorem frame_GradOutRefIdeal : Cert.quiescent_GradOutRefIdeal := fun m ρ _ =>
  (θ_run _ _ _).mono (fun r h => ⟨fun c => (h c).2, sem_eq_zero_of_no_sems rfl r.2⟩) (Cert.GradOutRefIdeal.Value.run (F := Ideal) m ρ)

theorem algebraic_GradOut : Cert.algebraic_GradOutIdeal_GradOutRefIdeal := fun m ρ m' ρ' _ hm =>
  ⟨_, Cert.GradOutIdeal.Value.run_blocks (F := Ideal) m ρ, (θ_run _ _ _).mono (fun r h c => by
      obtain ⟨h0, hk⟩ := h c
      obtain ⟨e0, e1⟩ := hm c
      exact ⟨h0.trans (by rw [GradOutValue.final, ← e0, ← e1]), hk⟩)
    (Cert.GradOutRefIdeal.Value.run (F := Ideal) m' ρ')⟩

theorem frame_GradGatesRefIdeal : Cert.quiescent_GradGatesRefIdeal := fun m ρ _ =>
  (θ_run _ _ _).mono (fun r h => ⟨fun c => (h c).2, sem_eq_zero_of_no_sems rfl r.2⟩) (Cert.GradGatesRefIdeal.Value.run (F := Ideal) m ρ)

theorem algebraic_GradGates : Cert.algebraic_GradGatesIdeal_GradGatesRefIdeal := fun m ρ m' ρ' _ hm =>
  ⟨_, Cert.GradGatesIdeal.Value.run_blocks (F := Ideal) m ρ, (θ_run _ _ _).mono (fun r h c => by
      obtain ⟨h0, hk⟩ := h c
      obtain ⟨e0, e1⟩ := hm c
      exact ⟨h0.trans (by rw [GradGatesValue.final, ← e0, ← e1]), hk⟩)
    (Cert.GradGatesRefIdeal.Value.run (F := Ideal) m' ρ')⟩

theorem frame_GradProjARefIdeal : Cert.quiescent_GradProjARefIdeal := fun m ρ _ =>
  (θ_run _ _ _).mono (fun r h => ⟨fun c => (h c).2, sem_eq_zero_of_no_sems rfl r.2⟩) (Cert.GradProjARefIdeal.Value.run (F := Ideal) m ρ)

theorem algebraic_GradProjA : Cert.algebraic_GradProjAIdeal_GradProjARefIdeal := fun m ρ m' ρ' _ hm =>
  ⟨_, Cert.GradProjAIdeal.Value.run_blocks (F := Ideal) m ρ, (θ_run _ _ _).mono (fun r h c => by
      obtain ⟨h0, hk⟩ := h c
      obtain ⟨e0, e1⟩ := hm c
      exact ⟨h0.trans (by rw [GradProjAValue.final, ← e0, ← e1]), hk⟩)
    (Cert.GradProjARefIdeal.Value.run (F := Ideal) m' ρ')⟩

theorem frame_GradProjQkvRefIdeal : Cert.quiescent_GradProjQkvRefIdeal := fun m ρ _ =>
  (θ_run _ _ _).mono (fun r h => ⟨fun c => (h c).2, sem_eq_zero_of_no_sems rfl r.2⟩) (Cert.GradProjQkvRefIdeal.Value.run (F := Ideal) m ρ)

theorem algebraic_GradProjQkv : Cert.algebraic_GradProjQkvIdeal_GradProjQkvRefIdeal := fun m ρ m' ρ' _ hm =>
  ⟨_, Cert.GradProjQkvIdeal.Value.run_blocks (F := Ideal) m ρ, (θ_run _ _ _).mono (fun r h c => by
      obtain ⟨h0, hk⟩ := h c
      obtain ⟨e0, e1⟩ := hm c
      exact ⟨h0.trans (by rw [GradProjQkvValue.final, ← e0, ← e1]), hk⟩)
    (Cert.GradProjQkvRefIdeal.Value.run (F := Ideal) m' ρ')⟩

theorem frame_GradBranch0RefIdeal : Cert.quiescent_GradBranch0RefIdeal := fun m ρ _ =>
  (θ_run _ _ _).mono (fun r h => ⟨fun c => (h c).2, sem_eq_zero_of_no_sems rfl r.2⟩) (Cert.GradBranch0RefIdeal.Value.run (F := Ideal) m ρ)

theorem algebraic_GradBranch0 : Cert.algebraic_GradBranch0Ideal_GradBranch0RefIdeal := fun m ρ m' ρ' _ hm =>
  ⟨_, Cert.GradBranch0Ideal.Value.run_blocks (F := Ideal) m ρ, (θ_run _ _ _).mono (fun r h c => by
      obtain ⟨h0, hk⟩ := h c
      obtain ⟨e0, e1⟩ := hm c
      exact ⟨h0.trans (by rw [GradBranch0Value.final, ← e0, ← e1]), hk⟩)
    (Cert.GradBranch0RefIdeal.Value.run (F := Ideal) m' ρ')⟩

theorem frame_GradBranch1RefIdeal : Cert.quiescent_GradBranch1RefIdeal := fun m ρ _ =>
  (θ_run _ _ _).mono (fun r h => ⟨fun c => (h c).2, sem_eq_zero_of_no_sems rfl r.2⟩) (Cert.GradBranch1RefIdeal.Value.run (F := Ideal) m ρ)

theorem algebraic_GradBranch1 : Cert.algebraic_GradBranch1Ideal_GradBranch1RefIdeal := fun m ρ m' ρ' _ hm =>
  ⟨_, Cert.GradBranch1Ideal.Value.run_blocks (F := Ideal) m ρ, (θ_run _ _ _).mono (fun r h c => by
      obtain ⟨h0, hk⟩ := h c
      obtain ⟨e0, e1⟩ := hm c
      exact ⟨h0.trans (by rw [GradBranch1Value.final, ← e0, ← e1]), hk⟩)
    (Cert.GradBranch1RefIdeal.Value.run (F := Ideal) m' ρ')⟩

theorem frame_GradBranch2RefIdeal : Cert.quiescent_GradBranch2RefIdeal := fun m ρ _ =>
  (θ_run _ _ _).mono (fun r h => ⟨fun c => (h c).2, sem_eq_zero_of_no_sems rfl r.2⟩) (Cert.GradBranch2RefIdeal.Value.run (F := Ideal) m ρ)

theorem algebraic_GradBranch2 : Cert.algebraic_GradBranch2Ideal_GradBranch2RefIdeal := fun m ρ m' ρ' _ hm =>
  ⟨_, Cert.GradBranch2Ideal.Value.run_blocks (F := Ideal) m ρ, (θ_run _ _ _).mono (fun r h c => by
      obtain ⟨h0, hk⟩ := h c
      obtain ⟨e0, e1⟩ := hm c
      exact ⟨h0.trans (by rw [GradBranch2Value.final, ← e0, ← e1]), hk⟩)
    (Cert.GradBranch2RefIdeal.Value.run (F := Ideal) m' ρ')⟩

theorem frame_GradBranch3RefIdeal : Cert.quiescent_GradBranch3RefIdeal := fun m ρ _ =>
  (θ_run _ _ _).mono (fun r h => ⟨fun c => (h c).2, sem_eq_zero_of_no_sems rfl r.2⟩) (Cert.GradBranch3RefIdeal.Value.run (F := Ideal) m ρ)

theorem algebraic_GradBranch3 : Cert.algebraic_GradBranch3Ideal_GradBranch3RefIdeal := fun m ρ m' ρ' _ hm =>
  ⟨_, Cert.GradBranch3Ideal.Value.run_blocks (F := Ideal) m ρ, (θ_run _ _ _).mono (fun r h c => by
      obtain ⟨h0, hk⟩ := h c
      obtain ⟨e0, e1⟩ := hm c
      exact ⟨h0.trans (by rw [GradBranch3Value.final, ← e0, ← e1]), hk⟩)
    (Cert.GradBranch3RefIdeal.Value.run (F := Ideal) m' ρ')⟩

theorem frame_ProjARefIdeal : Cert.quiescent_ProjARefIdeal := fun m ρ _ =>
  (θ_run _ _ _).mono (fun r h => ⟨fun c => (h c).2.2, sem_eq_zero_of_no_sems rfl r.2⟩) (Cert.ProjARefIdeal.Value.run (F := Ideal) m ρ)

theorem algebraic_ProjA : Cert.algebraic_ProjAIdeal_ProjARefIdeal := fun m ρ m' ρ' _ hm =>
  ⟨_, _, Cert.ProjAIdeal.Value.run_blocks (F := Ideal) m ρ, (θ_run _ _ _).mono (fun r h c => by
      obtain ⟨h0, h1, hk⟩ := h c
      obtain ⟨e0, e1, e2⟩ := hm c
      exact ⟨h0.trans (by rw [ProjAValue.final, ← e0, ← e1, ← e2]), h1.trans (by rw [ProjAValue.final_h, ← e0, ← e1]), hk⟩)
    (Cert.ProjARefIdeal.Value.run (F := Ideal) m' ρ')⟩

theorem frame_ProjQkvRefIdeal : Cert.quiescent_ProjQkvRefIdeal := fun m ρ _ =>
  (θ_run _ _ _).mono (fun r h => ⟨fun c => (h c).2, sem_eq_zero_of_no_sems rfl r.2⟩) (Cert.ProjQkvRefIdeal.Value.run (F := Ideal) m ρ)

theorem algebraic_ProjQkv : Cert.algebraic_ProjQkvIdeal_ProjQkvRefIdeal := fun m ρ m' ρ' _ hm =>
  ⟨_, Cert.ProjQkvIdeal.Value.run_blocks (F := Ideal) m ρ, (θ_run _ _ _).mono (fun r h c => by
      obtain ⟨h0, hk⟩ := h c
      obtain ⟨e0, e1, e2⟩ := hm c
      exact ⟨h0.trans (by rw [ProjQkvValue.final, ← e0, ← e1, ← e2]), hk⟩)
    (Cert.ProjQkvRefIdeal.Value.run (F := Ideal) m' ρ')⟩

theorem frame_ProjGatesRefIdeal : Cert.quiescent_ProjGatesRefIdeal := fun m ρ _ =>
  (θ_run _ _ _).mono (fun r h => ⟨fun c => (h c).2, sem_eq_zero_of_no_sems rfl r.2⟩) (Cert.ProjGatesRefIdeal.Value.run (F := Ideal) m ρ)

theorem algebraic_ProjGates : Cert.algebraic_ProjGatesIdeal_ProjGatesRefIdeal := fun m ρ m' ρ' _ hm =>
  ⟨_, Cert.ProjGatesIdeal.Value.run_blocks (F := Ideal) m ρ, (θ_run _ _ _).mono (fun r h c => by
      obtain ⟨h0, hk⟩ := h c
      obtain ⟨e0, e1, e2⟩ := hm c
      exact ⟨h0.trans (by rw [ProjGatesValue.final, ← e0, ← e1, ← e2]), hk⟩)
    (Cert.ProjGatesRefIdeal.Value.run (F := Ideal) m' ρ')⟩

theorem frame_FfnInRefIdeal : Cert.quiescent_FfnInRefIdeal := fun m ρ _ =>
  (θ_run _ _ _).mono (fun r h => ⟨fun c => (h c).2.2, sem_eq_zero_of_no_sems rfl r.2⟩) (Cert.FfnInRefIdeal.Value.run (F := Ideal) m ρ)

theorem algebraic_FfnIn : Cert.algebraic_FfnInIdeal_FfnInRefIdeal := fun m ρ m' ρ' _ hm =>
  ⟨_, _, Cert.FfnInIdeal.Value.run_blocks (F := Ideal) m ρ, (θ_run _ _ _).mono (fun r h c => by
      obtain ⟨h0, h1, hk⟩ := h c
      obtain ⟨e0, e1, e2⟩ := hm c
      exact ⟨h0.trans (by rw [FfnInValue.final, ← e0, ← e1, ← e2]), h1.trans (by rw [FfnInValue.final_h, ← e0, ← e1]), hk⟩)
    (Cert.FfnInRefIdeal.Value.run (F := Ideal) m' ρ')⟩

theorem frame_PleGateRefIdeal : Cert.quiescent_PleGateRefIdeal := fun m ρ _ =>
  (θ_run _ _ _).mono (fun r h => ⟨fun c => (h c).2.2, sem_eq_zero_of_no_sems rfl r.2⟩) (Cert.PleGateRefIdeal.Value.run (F := Ideal) m ρ)

theorem algebraic_PleGate : Cert.algebraic_PleGateIdeal_PleGateRefIdeal := fun m ρ m' ρ' _ hm =>
  ⟨_, _, Cert.PleGateIdeal.Value.run_blocks (F := Ideal) m ρ, (θ_run _ _ _).mono (fun r h c => by
      obtain ⟨h0, h1, hk⟩ := h c
      obtain ⟨e0, e1, e2⟩ := hm c
      exact ⟨h0.trans (by rw [PleGateValue.final, ← e0, ← e1, ← e2]), h1.trans (by rw [PleGateValue.final_h, ← e0, ← e1]), hk⟩)
    (Cert.PleGateRefIdeal.Value.run (F := Ideal) m' ρ')⟩

theorem frame_MergeRefIdeal : Cert.quiescent_MergeRefIdeal := fun m ρ _ =>
  (θ_run _ _ _).mono (fun r h => ⟨fun c => (h c).2.2, sem_eq_zero_of_no_sems rfl r.2⟩) (Cert.MergeRefIdeal.Value.run (F := Ideal) m ρ)

theorem algebraic_Merge : Cert.algebraic_MergeIdeal_MergeRefIdeal := fun m ρ m' ρ' _ hm =>
  ⟨_, _, Cert.MergeIdeal.Value.run_blocks (F := Ideal) m ρ, (θ_run _ _ _).mono (fun r h c => by
      obtain ⟨h0, h1, hk⟩ := h c
      obtain ⟨e0, e1, e2, e3, e4, e5, e6, e7⟩ := hm c
      exact ⟨h0.trans (by rw [MergeValue.final_x, ← e0, ← e1, ← e2, ← e3, ← e4, ← e5, ← e6, ← e7]), h1.trans (by rw [MergeValue.final_m, ← e0, ← e1, ← e2, ← e3, ← e4, ← e5]), hk⟩)
    (Cert.MergeRefIdeal.Value.run (F := Ideal) m' ρ')⟩

theorem frame_MergeBackwardRefIdeal : Cert.quiescent_MergeBackwardRefIdeal := fun m ρ _ =>
  (θ_run _ _ _).mono (fun r h => ⟨fun c => (h c).2.2.2.2.2.2, sem_eq_zero_of_no_sems rfl r.2⟩) (Cert.MergeBackwardRefIdeal.Value.run (F := Ideal) m ρ)

theorem algebraic_MergeBackward : Cert.algebraic_MergeBackwardIdeal_MergeBackwardRefIdeal := fun m ρ m' ρ' _ hm =>
  ⟨_, _, _, _, _, _, Cert.MergeBackwardIdeal.Value.run_blocks (F := Ideal) m ρ, (θ_run _ _ _).mono (fun r h c => by
      obtain ⟨h0, h1, h2, h3, h4, h5, hk⟩ := h c
      obtain ⟨e0, e1, e2, e3, e4, e5, e6, e7⟩ := hm c
      exact ⟨h0.trans (by rw [MergeBackwardValue.final_g, ← e0, ← e1, ← e2, ← e3, ← e4, ← e5, ← e6, ← e7]; rfl), h1.trans (by rw [MergeBackwardValue.final_t, ← e0, ← e5, ← e7]; rfl), h2.trans (by rw [(MergeBackwardValue.final_y m c).1, ← e0, ← e5, ← e6, ← e7]; rfl), h3.trans (by rw [(MergeBackwardValue.final_y m c).2.1, ← e0, ← e5, ← e6, ← e7]; rfl), h4.trans (by rw [(MergeBackwardValue.final_y m c).2.2.1, ← e0, ← e5, ← e6, ← e7]; rfl), h5.trans (by rw [(MergeBackwardValue.final_y m c).2.2.2, ← e0, ← e5, ← e6, ← e7]; rfl), hk⟩)
    (Cert.MergeBackwardRefIdeal.Value.run (F := Ideal) m' ρ')⟩

theorem frame_FfnOutRefIdeal : Cert.quiescent_FfnOutRefIdeal := fun m ρ _ =>
  (θ_run _ _ _).mono (fun r h => ⟨fun c => (h c).2.2, sem_eq_zero_of_no_sems rfl r.2⟩) (Cert.FfnOutRefIdeal.Value.run (F := Ideal) m ρ)

theorem algebraic_FfnOut : Cert.algebraic_FfnOutIdeal_FfnOutRefIdeal := fun m ρ m' ρ' _ hm =>
  ⟨_, _, Cert.FfnOutIdeal.Value.run_blocks (F := Ideal) m ρ, (θ_run _ _ _).mono (fun r h c => by
      obtain ⟨h0, h1, hk⟩ := h c
      obtain ⟨e0, e1, e2⟩ := hm c
      exact ⟨h0.trans (by rw [FfnOutValue.final_x, ← e0, ← e1, ← e2]; rfl), h1.trans (by rw [FfnOutValue.final_a, ← e0]; rfl), hk⟩)
    (Cert.FfnOutRefIdeal.Value.run (F := Ideal) m' ρ')⟩

theorem frame_FfnBackwardRefIdeal : Cert.quiescent_FfnBackwardRefIdeal := fun m ρ _ =>
  (θ_run _ _ _).mono (fun r h => ⟨fun c => (h c).2, sem_eq_zero_of_no_sems rfl r.2⟩) (Cert.FfnBackwardRefIdeal.Value.run (F := Ideal) m ρ)

theorem algebraic_FfnBackward : Cert.algebraic_FfnBackwardIdeal_FfnBackwardRefIdeal := fun m ρ m' ρ' _ hm =>
  ⟨_, Cert.FfnBackwardIdeal.Value.run_blocks (F := Ideal) m ρ, (θ_run _ _ _).mono (fun r h c => by
      obtain ⟨h0, hk⟩ := h c
      obtain ⟨e0, e1, e2⟩ := hm c
      exact ⟨h0.trans (by rw [FfnBackwardValue.final, ← e0, ← e1, ← e2]; rfl), hk⟩)
    (Cert.FfnBackwardRefIdeal.Value.run (F := Ideal) m' ρ')⟩

theorem frame_PleOutRefIdeal : Cert.quiescent_PleOutRefIdeal := fun m ρ _ =>
  (θ_run _ _ _).mono (fun r h => ⟨fun c => (h c).2, sem_eq_zero_of_no_sems rfl r.2⟩) (Cert.PleOutRefIdeal.Value.run (F := Ideal) m ρ)

theorem algebraic_PleOut : Cert.algebraic_PleOutIdeal_PleOutRefIdeal := fun m ρ m' ρ' _ hm =>
  ⟨_, Cert.PleOutIdeal.Value.run_blocks (F := Ideal) m ρ, (θ_run _ _ _).mono (fun r h c => by
      obtain ⟨h0, hk⟩ := h c
      obtain ⟨e0, e1, e2, e3⟩ := hm c
      exact ⟨h0.trans (by rw [PleOutValue.final, ← e0, ← e1, ← e2, ← e3]), hk⟩)
    (Cert.PleOutRefIdeal.Value.run (F := Ideal) m' ρ')⟩

theorem frame_PleBackwardRefIdeal : Cert.quiescent_PleBackwardRefIdeal := fun m ρ _ =>
  (θ_run _ _ _).mono (fun r h => ⟨fun c => (h c).2.2, sem_eq_zero_of_no_sems rfl r.2⟩) (Cert.PleBackwardRefIdeal.Value.run (F := Ideal) m ρ)

theorem algebraic_PleBackward : Cert.algebraic_PleBackwardIdeal_PleBackwardRefIdeal := fun m ρ m' ρ' _ hm =>
  ⟨_, _, Cert.PleBackwardIdeal.Value.run_blocks (F := Ideal) m ρ, (θ_run _ _ _).mono (fun r h c => by
      obtain ⟨h0, h1, hk⟩ := h c
      obtain ⟨e0, e1, e2, e3⟩ := hm c
      exact ⟨h0.trans (by rw [PleBackwardValue.final_e, ← e0, ← e1]), h1.trans (by rw [PleBackwardValue.final_g, ← e0, ← e1, ← e2, ← e3]), hk⟩)
    (Cert.PleBackwardRefIdeal.Value.run (F := Ideal) m' ρ')⟩

theorem frame_ShortConvRefIdeal : Cert.quiescent_ShortConvRefIdeal := fun m ρ _ =>
  (θ_run _ _ _).mono (fun r h => ⟨fun c => (h c).2, sem_eq_zero_of_no_sems rfl r.2⟩) (Cert.ShortConvRefIdeal.Value.run (F := Ideal) m ρ)

theorem algebraic_ShortConv : Cert.algebraic_ShortConvIdeal_ShortConvRefIdeal := fun m ρ m' ρ' _ hm =>
  ⟨_, Cert.ShortConvIdeal.Value.run_blocks (F := Ideal) m ρ, (θ_run _ _ _).mono (fun r h c => by
      obtain ⟨h0, hk⟩ := h c
      obtain ⟨e0, e1⟩ := hm c
      exact ⟨h0.trans (by rw [ShortConvValue.final, ← e0, ← e1]; rfl), hk⟩)
    (Cert.ShortConvRefIdeal.Value.run (F := Ideal) m' ρ')⟩

theorem frame_GatingRefIdeal : Cert.quiescent_GatingRefIdeal := fun m ρ _ =>
  (θ_run _ _ _).mono (fun r h => ⟨fun c => (h c).2, sem_eq_zero_of_no_sems rfl r.2⟩) (Cert.GatingRefIdeal.Value.run (F := Ideal) m ρ)

theorem algebraic_Gating : Cert.algebraic_GatingIdeal_GatingRefIdeal := fun m ρ m' ρ' _ hm =>
  ⟨_, Cert.GatingIdeal.Value.run_blocks (F := Ideal) m ρ, (θ_run _ _ _).mono (fun r h c => by
      obtain ⟨h0, hk⟩ := h c
      obtain ⟨e0, e1, e2, e3, e4⟩ := hm c
      exact ⟨h0.trans (by rw [GatingValue.final, ← e0, ← e1, ← e2, ← e3, ← e4]; rfl), hk⟩)
    (Cert.GatingRefIdeal.Value.run (F := Ideal) m' ρ')⟩

theorem frame_ConfNormBackwardRefIdeal : Cert.quiescent_ConfNormBackwardRefIdeal := fun m ρ _ =>
  (θ_run _ _ _).mono (fun r h => ⟨fun c => (h c).2.2.2, sem_eq_zero_of_no_sems rfl r.2⟩) (Cert.ConfNormBackwardRefIdeal.Value.run (F := Ideal) m ρ)

theorem algebraic_ConfNormBackward : Cert.algebraic_ConfNormBackwardIdeal_ConfNormBackwardRefIdeal := fun m ρ m' ρ' _ hm =>
  ⟨_, _, _, Cert.ConfNormBackwardIdeal.Value.run_blocks (F := Ideal) m ρ, (θ_run _ _ _).mono (fun r h c => by
      obtain ⟨h0, h1, h2, hk⟩ := h c
      obtain ⟨e0, e1, e2, e3⟩ := hm c
      exact ⟨h0.trans (by rw [ConfNormBackwardValue.final_dx, ← e0, ← e1, ← e2, ← e3]; rfl), h1.trans (by rw [ConfNormBackwardValue.final_g, ← e0, ← e1, ← e2, ← e3]; rfl), h2.trans (by rw [ConfNormBackwardValue.final_b, ← e0, ← e1, ← e2, ← e3]; rfl), hk⟩)
    (Cert.ConfNormBackwardRefIdeal.Value.run (F := Ideal) m' ρ')⟩

end Cert.Calls

end
-- ==== Proof.lean ====
module

public import proofs.«01_k».proof.Defs
public import proofs.«01_k».proof.Proof.KClaims
public import proofs.«01_k».proof.Proof.WClaims
public import proofs.«01_k».proof.Proof.SClaims
public import proofs.«01_k».proof.Proof.CClaims
public import proofs.«01_k».proof.Proof.GClaims
public import proofs.«01_k».proof.Proof.Updates
public import proofs.«01_k».proof.Proof.Ends
public import proofs.«01_k».proof.Proof.Calls
public import proofs.«01_k».proof.Proof.Gen.LossHead.Frame
public import proofs.«01_k».proof.Proof.Gen.MixBackward.Frame
public import proofs.«01_k».proof.Proof.Gen.PleNormBackward.Frame
public import proofs.«01_k».proof.Proof.Gen.FfnNormBackward.Frame
public import proofs.«01_k».proof.Proof.Gen.GradPleProj.Frame
public import proofs.«01_k».proof.Proof.Gen.GradPleGate.Frame
public import proofs.«01_k».proof.Proof.Gen.GradFfnOut.Frame
public import proofs.«01_k».proof.Proof.Gen.GradFfnIn.Frame
public import proofs.«01_k».proof.Proof.Gen.GradOut.Frame
public import proofs.«01_k».proof.Proof.Gen.GradGates.Frame
public import proofs.«01_k».proof.Proof.Gen.GradProjA.Frame
public import proofs.«01_k».proof.Proof.Gen.GradProjQkv.Frame
public import proofs.«01_k».proof.Proof.Gen.GradBranch0.Frame
public import proofs.«01_k».proof.Proof.Gen.GradBranch1.Frame
public import proofs.«01_k».proof.Proof.Gen.GradBranch2.Frame
public import proofs.«01_k».proof.Proof.Gen.GradBranch3.Frame
public import proofs.«01_k».proof.Proof.Gen.ProjA.Frame
public import proofs.«01_k».proof.Proof.Gen.ProjQkv.Frame
public import proofs.«01_k».proof.Proof.Gen.ProjGates.Frame
public import proofs.«01_k».proof.Proof.Gen.FfnIn.Frame
public import proofs.«01_k».proof.Proof.Gen.PleGate.Frame
public import proofs.«01_k».proof.Proof.Gen.Merge.Frame
public import proofs.«01_k».proof.Proof.Gen.MergeBackward.Frame
public import proofs.«01_k».proof.Proof.Gen.FfnOut.Frame
public import proofs.«01_k».proof.Proof.Gen.FfnBackward.Frame
public import proofs.«01_k».proof.Proof.Gen.PleOut.Frame
public import proofs.«01_k».proof.Proof.Gen.PleBackward.Frame
public import proofs.«01_k».proof.Proof.Gen.ShortConv.Frame
public import proofs.«01_k».proof.Proof.Gen.Gating.Frame
public import proofs.«01_k».proof.Proof.Gen.ConfNormBackward.Frame

@[expose] public section

noncomputable section

namespace Cert.Proof

theorem claim : Cert.Claim := ⟨
  Cert.Kernel.Gen.facts, Cert.KernelIdeal.Gen.facts, Cert.ReferenceIdeal.Gen.facts, Cert.Reference.Gen.facts,
  Cert.Weights.Gen.facts, Cert.WeightsIdeal.Gen.facts, Cert.WeightsRefIdeal.Gen.facts, Cert.WeightsRef.Gen.facts,
  Cert.Small.Gen.facts, Cert.SmallIdeal.Gen.facts, Cert.SmallRefIdeal.Gen.facts, Cert.SmallRef.Gen.facts,
  Cert.Scatter.Gen.facts, Cert.ScatterIdeal.Gen.facts, Cert.ScatterRefIdeal.Gen.facts,
  Cert.SmallGrads.Gen.facts, Cert.SmallGradsIdeal.Gen.facts, Cert.SmallGradsRefIdeal.Gen.facts,
  Cert.UpdateIn.Gen.facts, Cert.UpdateInIdeal.Gen.facts, Cert.UpdateInRefIdeal.Gen.facts,
  Cert.UpdateBranch.Gen.facts, Cert.UpdateBranchIdeal.Gen.facts, Cert.UpdateBranchRefIdeal.Gen.facts,
  Cert.UpdateMergeGate.Gen.facts, Cert.UpdateMergeGateIdeal.Gen.facts, Cert.UpdateMergeGateRefIdeal.Gen.facts,
  Cert.UpdateOut.Gen.facts, Cert.UpdateOutIdeal.Gen.facts, Cert.UpdateOutRefIdeal.Gen.facts,
  Cert.UpdateFfnIn.Gen.facts, Cert.UpdateFfnInIdeal.Gen.facts, Cert.UpdateFfnInRefIdeal.Gen.facts,
  Cert.UpdateFfnOut.Gen.facts, Cert.UpdateFfnOutIdeal.Gen.facts, Cert.UpdateFfnOutRefIdeal.Gen.facts,
  Cert.UpdateProj.Gen.facts, Cert.UpdateProjIdeal.Gen.facts, Cert.UpdateProjRefIdeal.Gen.facts,
  Cert.UpdateSpatial.Gen.facts, Cert.UpdateSpatialIdeal.Gen.facts, Cert.UpdateSpatialRefIdeal.Gen.facts,
  Cert.UpdateSpatialBias.Gen.facts, Cert.UpdateSpatialBiasIdeal.Gen.facts, Cert.UpdateSpatialBiasRefIdeal.Gen.facts,
  Cert.UpdateConvA.Gen.facts, Cert.UpdateConvAIdeal.Gen.facts, Cert.UpdateConvARefIdeal.Gen.facts,
  Cert.UpdateConvD.Gen.facts, Cert.UpdateConvDIdeal.Gen.facts, Cert.UpdateConvDRefIdeal.Gen.facts,
  Cert.UpdateNorm.Gen.facts, Cert.UpdateNormIdeal.Gen.facts, Cert.UpdateNormRefIdeal.Gen.facts,
  Cert.UpdateBranchNorm.Gen.facts, Cert.UpdateBranchNormIdeal.Gen.facts, Cert.UpdateBranchNormRefIdeal.Gen.facts,
  Cert.UpdateFinalNorm.Gen.facts, Cert.UpdateFinalNormIdeal.Gen.facts, Cert.UpdateFinalNormRefIdeal.Gen.facts,
  Cert.LossHead.Gen.facts, Cert.LossHeadIdeal.Gen.facts, Cert.LossHeadRefIdeal.Gen.facts,
  Cert.MixBackward.Gen.facts, Cert.MixBackwardIdeal.Gen.facts, Cert.MixBackwardRefIdeal.Gen.facts,
  Cert.PleNormBackward.Gen.facts, Cert.PleNormBackwardIdeal.Gen.facts, Cert.PleNormBackwardRefIdeal.Gen.facts,
  Cert.FfnNormBackward.Gen.facts, Cert.FfnNormBackwardIdeal.Gen.facts, Cert.FfnNormBackwardRefIdeal.Gen.facts,
  Cert.GradPleProj.Gen.facts, Cert.GradPleProjIdeal.Gen.facts, Cert.GradPleProjRefIdeal.Gen.facts,
  Cert.GradPleGate.Gen.facts, Cert.GradPleGateIdeal.Gen.facts, Cert.GradPleGateRefIdeal.Gen.facts,
  Cert.GradFfnOut.Gen.facts, Cert.GradFfnOutIdeal.Gen.facts, Cert.GradFfnOutRefIdeal.Gen.facts,
  Cert.GradFfnIn.Gen.facts, Cert.GradFfnInIdeal.Gen.facts, Cert.GradFfnInRefIdeal.Gen.facts,
  Cert.GradOut.Gen.facts, Cert.GradOutIdeal.Gen.facts, Cert.GradOutRefIdeal.Gen.facts,
  Cert.GradGates.Gen.facts, Cert.GradGatesIdeal.Gen.facts, Cert.GradGatesRefIdeal.Gen.facts,
  Cert.GradProjA.Gen.facts, Cert.GradProjAIdeal.Gen.facts, Cert.GradProjARefIdeal.Gen.facts,
  Cert.GradProjQkv.Gen.facts, Cert.GradProjQkvIdeal.Gen.facts, Cert.GradProjQkvRefIdeal.Gen.facts,
  Cert.GradBranch0.Gen.facts, Cert.GradBranch0Ideal.Gen.facts, Cert.GradBranch0RefIdeal.Gen.facts,
  Cert.GradBranch1.Gen.facts, Cert.GradBranch1Ideal.Gen.facts, Cert.GradBranch1RefIdeal.Gen.facts,
  Cert.GradBranch2.Gen.facts, Cert.GradBranch2Ideal.Gen.facts, Cert.GradBranch2RefIdeal.Gen.facts,
  Cert.GradBranch3.Gen.facts, Cert.GradBranch3Ideal.Gen.facts, Cert.GradBranch3RefIdeal.Gen.facts,
  Cert.ProjA.Gen.facts, Cert.ProjAIdeal.Gen.facts, Cert.ProjARefIdeal.Gen.facts,
  Cert.ProjQkv.Gen.facts, Cert.ProjQkvIdeal.Gen.facts, Cert.ProjQkvRefIdeal.Gen.facts,
  Cert.ProjGates.Gen.facts, Cert.ProjGatesIdeal.Gen.facts, Cert.ProjGatesRefIdeal.Gen.facts,
  Cert.FfnIn.Gen.facts, Cert.FfnInIdeal.Gen.facts, Cert.FfnInRefIdeal.Gen.facts,
  Cert.PleGate.Gen.facts, Cert.PleGateIdeal.Gen.facts, Cert.PleGateRefIdeal.Gen.facts,
  Cert.Merge.Gen.facts, Cert.MergeIdeal.Gen.facts, Cert.MergeRefIdeal.Gen.facts,
  Cert.MergeBackward.Gen.facts, Cert.MergeBackwardIdeal.Gen.facts, Cert.MergeBackwardRefIdeal.Gen.facts,
  Cert.FfnOut.Gen.facts, Cert.FfnOutIdeal.Gen.facts, Cert.FfnOutRefIdeal.Gen.facts,
  Cert.FfnBackward.Gen.facts, Cert.FfnBackwardIdeal.Gen.facts, Cert.FfnBackwardRefIdeal.Gen.facts,
  Cert.PleOut.Gen.facts, Cert.PleOutIdeal.Gen.facts, Cert.PleOutRefIdeal.Gen.facts,
  Cert.PleBackward.Gen.facts, Cert.PleBackwardIdeal.Gen.facts, Cert.PleBackwardRefIdeal.Gen.facts,
  Cert.ShortConv.Gen.facts, Cert.ShortConvIdeal.Gen.facts, Cert.ShortConvRefIdeal.Gen.facts,
  Cert.Gating.Gen.facts, Cert.GatingIdeal.Gen.facts, Cert.GatingRefIdeal.Gen.facts,
  Cert.ConfNormBackward.Gen.facts, Cert.ConfNormBackwardIdeal.Gen.facts, Cert.ConfNormBackwardRefIdeal.Gen.facts,
  Cert.Claims.frame_kernel, Cert.Claims.frame_ideal, Cert.Claims.frame_reference, Cert.Claims.frame_reference_bits,
  Cert.WClaims.frame_kernel, Cert.WClaims.frame_ideal, Cert.WClaims.frame_reference, Cert.WClaims.frame_reference_bits,
  Cert.SClaims.frame_kernel, Cert.SClaims.frame_ideal, Cert.SClaims.frame_reference, Cert.SClaims.frame_reference_bits,
  Cert.CClaims.frame_kernel, Cert.CClaims.frame_ideal, Cert.CClaims.frame_reference,
  Cert.GClaims.frame_kernel, Cert.GClaims.frame_ideal, Cert.GClaims.frame_reference,
  fun m ρ _ => Cert.UpdateIn.Gen.frame m ρ, fun m ρ _ => Cert.UpdateInIdeal.Gen.frame m ρ, Cert.Updates.frame_UpdateInRefIdeal,
  fun m ρ _ => Cert.UpdateBranch.Gen.frame m ρ, fun m ρ _ => Cert.UpdateBranchIdeal.Gen.frame m ρ, Cert.Updates.frame_UpdateBranchRefIdeal,
  fun m ρ _ => Cert.UpdateMergeGate.Gen.frame m ρ, fun m ρ _ => Cert.UpdateMergeGateIdeal.Gen.frame m ρ, Cert.Updates.frame_UpdateMergeGateRefIdeal,
  fun m ρ _ => Cert.UpdateOut.Gen.frame m ρ, fun m ρ _ => Cert.UpdateOutIdeal.Gen.frame m ρ, Cert.Updates.frame_UpdateOutRefIdeal,
  fun m ρ _ => Cert.UpdateFfnIn.Gen.frame m ρ, fun m ρ _ => Cert.UpdateFfnInIdeal.Gen.frame m ρ, Cert.Updates.frame_UpdateFfnInRefIdeal,
  fun m ρ _ => Cert.UpdateFfnOut.Gen.frame m ρ, fun m ρ _ => Cert.UpdateFfnOutIdeal.Gen.frame m ρ, Cert.Updates.frame_UpdateFfnOutRefIdeal,
  fun m ρ _ => Cert.UpdateProj.Gen.frame m ρ, fun m ρ _ => Cert.UpdateProjIdeal.Gen.frame m ρ, Cert.Updates.frame_UpdateProjRefIdeal,
  fun m ρ _ => Cert.UpdateSpatial.Gen.frame m ρ, fun m ρ _ => Cert.UpdateSpatialIdeal.Gen.frame m ρ, Cert.Updates.frame_UpdateSpatialRefIdeal,
  fun m ρ _ => Cert.UpdateSpatialBias.Gen.frame m ρ, fun m ρ _ => Cert.UpdateSpatialBiasIdeal.Gen.frame m ρ, Cert.Updates.frame_UpdateSpatialBiasRefIdeal,
  fun m ρ _ => Cert.UpdateConvA.Gen.frame m ρ, fun m ρ _ => Cert.UpdateConvAIdeal.Gen.frame m ρ, Cert.Updates.frame_UpdateConvARefIdeal,
  fun m ρ _ => Cert.UpdateConvD.Gen.frame m ρ, fun m ρ _ => Cert.UpdateConvDIdeal.Gen.frame m ρ, Cert.Updates.frame_UpdateConvDRefIdeal,
  fun m ρ _ => Cert.UpdateNorm.Gen.frame m ρ, fun m ρ _ => Cert.UpdateNormIdeal.Gen.frame m ρ, Cert.Updates.frame_UpdateNormRefIdeal,
  fun m ρ _ => Cert.UpdateBranchNorm.Gen.frame m ρ, fun m ρ _ => Cert.UpdateBranchNormIdeal.Gen.frame m ρ, Cert.Updates.frame_UpdateBranchNormRefIdeal,
  fun m ρ _ => Cert.UpdateFinalNorm.Gen.frame m ρ, fun m ρ _ => Cert.UpdateFinalNormIdeal.Gen.frame m ρ, Cert.Updates.frame_UpdateFinalNormRefIdeal,
  fun m ρ _ => Cert.LossHead.Gen.frame m ρ, fun m ρ _ => Cert.LossHeadIdeal.Gen.frame m ρ, Cert.Ends.frame_LossHeadRefIdeal,
  fun m ρ _ => Cert.MixBackward.Gen.frame m ρ, fun m ρ _ => Cert.MixBackwardIdeal.Gen.frame m ρ, Cert.Ends.frame_MixBackwardRefIdeal,
  fun m ρ _ => Cert.PleNormBackward.Gen.frame m ρ, fun m ρ _ => Cert.PleNormBackwardIdeal.Gen.frame m ρ, Cert.Calls.frame_PleNormBackwardRefIdeal,
  fun m ρ _ => Cert.FfnNormBackward.Gen.frame m ρ, fun m ρ _ => Cert.FfnNormBackwardIdeal.Gen.frame m ρ, Cert.Calls.frame_FfnNormBackwardRefIdeal,
  fun m ρ _ => Cert.GradPleProj.Gen.frame m ρ, fun m ρ _ => Cert.GradPleProjIdeal.Gen.frame m ρ, Cert.Calls.frame_GradPleProjRefIdeal,
  fun m ρ _ => Cert.GradPleGate.Gen.frame m ρ, fun m ρ _ => Cert.GradPleGateIdeal.Gen.frame m ρ, Cert.Calls.frame_GradPleGateRefIdeal,
  fun m ρ _ => Cert.GradFfnOut.Gen.frame m ρ, fun m ρ _ => Cert.GradFfnOutIdeal.Gen.frame m ρ, Cert.Calls.frame_GradFfnOutRefIdeal,
  fun m ρ _ => Cert.GradFfnIn.Gen.frame m ρ, fun m ρ _ => Cert.GradFfnInIdeal.Gen.frame m ρ, Cert.Calls.frame_GradFfnInRefIdeal,
  fun m ρ _ => Cert.GradOut.Gen.frame m ρ, fun m ρ _ => Cert.GradOutIdeal.Gen.frame m ρ, Cert.Calls.frame_GradOutRefIdeal,
  fun m ρ _ => Cert.GradGates.Gen.frame m ρ, fun m ρ _ => Cert.GradGatesIdeal.Gen.frame m ρ, Cert.Calls.frame_GradGatesRefIdeal,
  fun m ρ _ => Cert.GradProjA.Gen.frame m ρ, fun m ρ _ => Cert.GradProjAIdeal.Gen.frame m ρ, Cert.Calls.frame_GradProjARefIdeal,
  fun m ρ _ => Cert.GradProjQkv.Gen.frame m ρ, fun m ρ _ => Cert.GradProjQkvIdeal.Gen.frame m ρ, Cert.Calls.frame_GradProjQkvRefIdeal,
  fun m ρ _ => Cert.GradBranch0.Gen.frame m ρ, fun m ρ _ => Cert.GradBranch0Ideal.Gen.frame m ρ, Cert.Calls.frame_GradBranch0RefIdeal,
  fun m ρ _ => Cert.GradBranch1.Gen.frame m ρ, fun m ρ _ => Cert.GradBranch1Ideal.Gen.frame m ρ, Cert.Calls.frame_GradBranch1RefIdeal,
  fun m ρ _ => Cert.GradBranch2.Gen.frame m ρ, fun m ρ _ => Cert.GradBranch2Ideal.Gen.frame m ρ, Cert.Calls.frame_GradBranch2RefIdeal,
  fun m ρ _ => Cert.GradBranch3.Gen.frame m ρ, fun m ρ _ => Cert.GradBranch3Ideal.Gen.frame m ρ, Cert.Calls.frame_GradBranch3RefIdeal,
  fun m ρ _ => Cert.ProjA.Gen.frame m ρ, fun m ρ _ => Cert.ProjAIdeal.Gen.frame m ρ, Cert.Calls.frame_ProjARefIdeal,
  fun m ρ _ => Cert.ProjQkv.Gen.frame m ρ, fun m ρ _ => Cert.ProjQkvIdeal.Gen.frame m ρ, Cert.Calls.frame_ProjQkvRefIdeal,
  fun m ρ _ => Cert.ProjGates.Gen.frame m ρ, fun m ρ _ => Cert.ProjGatesIdeal.Gen.frame m ρ, Cert.Calls.frame_ProjGatesRefIdeal,
  fun m ρ _ => Cert.FfnIn.Gen.frame m ρ, fun m ρ _ => Cert.FfnInIdeal.Gen.frame m ρ, Cert.Calls.frame_FfnInRefIdeal,
  fun m ρ _ => Cert.PleGate.Gen.frame m ρ, fun m ρ _ => Cert.PleGateIdeal.Gen.frame m ρ, Cert.Calls.frame_PleGateRefIdeal,
  fun m ρ _ => Cert.Merge.Gen.frame m ρ, fun m ρ _ => Cert.MergeIdeal.Gen.frame m ρ, Cert.Calls.frame_MergeRefIdeal,
  fun m ρ _ => Cert.MergeBackward.Gen.frame m ρ, fun m ρ _ => Cert.MergeBackwardIdeal.Gen.frame m ρ, Cert.Calls.frame_MergeBackwardRefIdeal,
  fun m ρ _ => Cert.FfnOut.Gen.frame m ρ, fun m ρ _ => Cert.FfnOutIdeal.Gen.frame m ρ, Cert.Calls.frame_FfnOutRefIdeal,
  fun m ρ _ => Cert.FfnBackward.Gen.frame m ρ, fun m ρ _ => Cert.FfnBackwardIdeal.Gen.frame m ρ, Cert.Calls.frame_FfnBackwardRefIdeal,
  fun m ρ _ => Cert.PleOut.Gen.frame m ρ, fun m ρ _ => Cert.PleOutIdeal.Gen.frame m ρ, Cert.Calls.frame_PleOutRefIdeal,
  fun m ρ _ => Cert.PleBackward.Gen.frame m ρ, fun m ρ _ => Cert.PleBackwardIdeal.Gen.frame m ρ, Cert.Calls.frame_PleBackwardRefIdeal,
  fun m ρ _ => Cert.ShortConv.Gen.frame m ρ, fun m ρ _ => Cert.ShortConvIdeal.Gen.frame m ρ, Cert.Calls.frame_ShortConvRefIdeal,
  fun m ρ _ => Cert.Gating.Gen.frame m ρ, fun m ρ _ => Cert.GatingIdeal.Gen.frame m ρ, Cert.Calls.frame_GatingRefIdeal,
  fun m ρ _ => Cert.ConfNormBackward.Gen.frame m ρ, fun m ρ _ => Cert.ConfNormBackwardIdeal.Gen.frame m ρ, Cert.Calls.frame_ConfNormBackwardRefIdeal,
  Cert.Claims.preserves, Cert.Claims.algebraic, Cert.Claims.bitexact,
  Cert.WClaims.preserves, Cert.WClaims.algebraic, Cert.WClaims.bitexact,
  Cert.SClaims.preserves, Cert.SClaims.algebraic, Cert.SClaims.bitexact,
  Cert.CClaims.preserves, Cert.CClaims.algebraic,
  Cert.GClaims.preserves, Cert.GClaims.algebraic,
  trivial, Cert.Updates.algebraic_UpdateIn,
  trivial, Cert.Updates.algebraic_UpdateBranch,
  trivial, Cert.Updates.algebraic_UpdateMergeGate,
  trivial, Cert.Updates.algebraic_UpdateOut,
  trivial, Cert.Updates.algebraic_UpdateFfnIn,
  trivial, Cert.Updates.algebraic_UpdateFfnOut,
  trivial, Cert.Updates.algebraic_UpdateProj,
  trivial, Cert.Updates.algebraic_UpdateSpatial,
  trivial, Cert.Updates.algebraic_UpdateSpatialBias,
  trivial, Cert.Updates.algebraic_UpdateConvA,
  trivial, Cert.Updates.algebraic_UpdateConvD,
  trivial, Cert.Updates.algebraic_UpdateNorm,
  trivial, Cert.Updates.algebraic_UpdateBranchNorm,
  trivial, Cert.Updates.algebraic_UpdateFinalNorm,
  trivial, Cert.Ends.algebraic_LossHead,
  trivial, Cert.Ends.algebraic_MixBackward,
  trivial, Cert.Calls.algebraic_PleNormBackward,
  trivial, Cert.Calls.algebraic_FfnNormBackward,
  trivial, Cert.Calls.algebraic_GradPleProj,
  trivial, Cert.Calls.algebraic_GradPleGate,
  trivial, Cert.Calls.algebraic_GradFfnOut,
  trivial, Cert.Calls.algebraic_GradFfnIn,
  trivial, Cert.Calls.algebraic_GradOut,
  trivial, Cert.Calls.algebraic_GradGates,
  trivial, Cert.Calls.algebraic_GradProjA,
  trivial, Cert.Calls.algebraic_GradProjQkv,
  trivial, Cert.Calls.algebraic_GradBranch0,
  trivial, Cert.Calls.algebraic_GradBranch1,
  trivial, Cert.Calls.algebraic_GradBranch2,
  trivial, Cert.Calls.algebraic_GradBranch3,
  trivial, Cert.Calls.algebraic_ProjA,
  trivial, Cert.Calls.algebraic_ProjQkv,
  trivial, Cert.Calls.algebraic_ProjGates,
  trivial, Cert.Calls.algebraic_FfnIn,
  trivial, Cert.Calls.algebraic_PleGate,
  trivial, Cert.Calls.algebraic_Merge,
  trivial, Cert.Calls.algebraic_MergeBackward,
  trivial, Cert.Calls.algebraic_FfnOut,
  trivial, Cert.Calls.algebraic_FfnBackward,
  trivial, Cert.Calls.algebraic_PleOut,
  trivial, Cert.Calls.algebraic_PleBackward,
  trivial, Cert.Calls.algebraic_ShortConv,
  trivial, Cert.Calls.algebraic_Gating,
  trivial, Cert.Calls.algebraic_ConfNormBackward⟩

end Cert.Proof

end
